-- ==== Defs.lean ====
def Pre_Kernel [hPre_pos_in_rows : Cert.Pre_pos_in_rows.Facts] (m : (ℓ : Loc Cert.Kernel.nD Cert.Kernel.τ Cert.Kernel.sig) → Buf (Elt Bits) ℓ) : Prop :=
  ∀ c : Dev Cert.Kernel.nD,
    (Cert.Pre_pos_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pos_in_rows : Cert.Pre_pos_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_pos_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pos_in_rows [hPre_pos_in_rows : Cert.Pre_pos_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pos_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_pos_in_rows : Cert.Pre_pos_in_rows.Facts] (m : (ℓ : Loc Cert.Reference.nD Cert.Reference.τ Cert.Reference.sig) → Buf (Elt Bits) ℓ) : Prop :=
  ∀ c : Dev Cert.Reference.nD,
    (Cert.Pre_pos_in_rows.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Kernel2 [hPre_experts_named : Cert.Pre_experts_named.Facts] (m : (ℓ : Loc Cert.Kernel2.nD Cert.Kernel2.τ Cert.Kernel2.sig) → Buf (Elt Bits) ℓ) : Prop :=
  ∀ c : Dev Cert.Kernel2.nD,
    (Cert.Pre_experts_named.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_experts_named : Cert.Pre_experts_named.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_named.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts_named [hPre_experts_named : Cert.Pre_experts_named.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_named.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_pos_in_rows : Cert.Pre_pos_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pos_in_rows : Cert.Pre_pos_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pos_in_rows [hReferenceIdeal : Cert.ReferenceIdeal.Facts] [hPre_pos_in_rows : Cert.Pre_pos_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pos_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_pos_in_rows : Cert.Pre_pos_in_rows.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Kernel2 [hKernel2 : Cert.Kernel2.Facts] [hPre_experts_named : Cert.Pre_experts_named.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_experts_named : Cert.Pre_experts_named.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_experts_named [hReference2Ideal : Cert.Reference2Ideal.Facts] [hPre_experts_named : Cert.Pre_experts_named.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts_named m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pos_in_rows : Cert.Pre_pos_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_pos_in_rows : Cert.Pre_pos_in_rows.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v1) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Kernel2_Kernel2Ideal : Prop :=
  True

def algebraic_Kernel2Ideal_Reference2Ideal_on_rows_used [hKernel2Ideal : Cert.Kernel2Ideal.Facts] [hReference2Ideal : Cert.Reference2Ideal.Facts] [hPre_experts_named : Cert.Pre_experts_named.Facts] [hOn_rows_used : Cert.On_rows_used.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![70656, 1024]⟩ : Shape).Idx, (Cert.On_rows_used.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) i = 1#1 → r.2.mem ((c.tc : Thread Cert.Kernel2Ideal.nD Cert.Kernel2Ideal.τ).loc Cert.Kernel2Ideal.main_v0) i = v0 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![70656, 1024]⟩ : Shape).Idx, (Cert.On_rows_used.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) i = 1#1 → r.2.mem ((c.tc : Thread Cert.Reference2Ideal.nD Cert.Reference2Ideal.τ).loc Cert.Reference2Ideal.main_v9) i = v0 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v29) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)) (v2 : (c : Dev Cert.Kernel4Ideal.nD) → Buf (Elt Ideal) ((c.tc : Thread Cert.Kernel4Ideal.nD Cert.Kernel4Ideal.τ).loc Cert.Kernel4Ideal.main_v1_2)) (v3 : (c : Dev Cert.Kernel4Ideal.nD) → Buf (Elt Ideal) ((c.tc : Thread Cert.Kernel4Ideal.nD Cert.Kernel4Ideal.τ).loc Cert.Kernel4Ideal.main_v1_3)) (v4 : (c : Dev Cert.Kernel4Ideal.nD) → Buf (Elt Ideal) ((c.tc : Thread Cert.Kernel4Ideal.nD Cert.Kernel4Ideal.τ).loc Cert.Kernel4Ideal.main_v1_4)) (v5 : (c : Dev Cert.Kernel4Ideal.nD) → Buf (Elt Ideal) ((c.tc : Thread Cert.Kernel4Ideal.nD Cert.Kernel4Ideal.τ).loc Cert.Kernel4Ideal.main_v1_5)) (v6 : (c : Dev Cert.Kernel4Ideal.nD) → Buf (Elt Ideal) ((c.tc : Thread Cert.Kernel4Ideal.nD Cert.Kernel4Ideal.τ).loc Cert.Kernel4Ideal.main_v1_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_v1_2) = v2 c
          ∧ r.2.mem ((c.tc : Thread Cert.Kernel4Ideal.nD Cert.Kernel4Ideal.τ).loc Cert.Kernel4Ideal.main_v1_3) = v3 c
          ∧ r.2.mem ((c.tc : Thread Cert.Kernel4Ideal.nD Cert.Kernel4Ideal.τ).loc Cert.Kernel4Ideal.main_v1_4) = v4 c
          ∧ r.2.mem ((c.tc : Thread Cert.Kernel4Ideal.nD Cert.Kernel4Ideal.τ).loc Cert.Kernel4Ideal.main_v1_5) = v5 c
          ∧ r.2.mem ((c.tc : Thread Cert.Kernel4Ideal.nD Cert.Kernel4Ideal.τ).loc Cert.Kernel4Ideal.main_v1_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v56) = v0 c
          ∧ r.2.mem ((c.tc : Thread Cert.Reference4Ideal.nD Cert.Reference4Ideal.τ).loc Cert.Reference4Ideal.main_v4) = v1 c
          ∧ r.2.mem ((c.tc : Thread Cert.Reference4Ideal.nD Cert.Reference4Ideal.τ).loc Cert.Reference4Ideal.main_v5) = v2 c
          ∧ r.2.mem ((c.tc : Thread Cert.Reference4Ideal.nD Cert.Reference4Ideal.τ).loc Cert.Reference4Ideal.main_v57) = v3 c
          ∧ r.2.mem ((c.tc : Thread Cert.Reference4Ideal.nD Cert.Reference4Ideal.τ).loc Cert.Reference4Ideal.main_v58) = v4 c
          ∧ r.2.mem ((c.tc : Thread Cert.Reference4Ideal.nD Cert.Reference4Ideal.τ).loc Cert.Reference4Ideal.main_v59) = v5 c
          ∧ r.2.mem ((c.tc : Thread Cert.Reference4Ideal.nD Cert.Reference4Ideal.τ).loc Cert.Reference4Ideal.main_v60) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_pos_in_rows : Cert.Pre_pos_in_rows.Facts) (hPre_experts_named : Cert.Pre_experts_named.Facts) (hOn_rows_used : Cert.On_rows_used.Facts),
    quiescent_Kernel (hKernel := hKernel) (hPre_pos_in_rows := hPre_pos_in_rows)
    ∧ quiescent_KernelIdeal (hKernelIdeal := hKernelIdeal) (hPre_pos_in_rows := hPre_pos_in_rows)
    ∧ quiescent_ReferenceIdeal (hReferenceIdeal := hReferenceIdeal)
    ∧ quiescent_ReferenceIdeal_pre_pos_in_rows (hReferenceIdeal := hReferenceIdeal) (hPre_pos_in_rows := hPre_pos_in_rows)
    ∧ quiescent_Reference (hReference := hReference) (hPre_pos_in_rows := hPre_pos_in_rows)
    ∧ quiescent_Kernel2 (hKernel2 := hKernel2) (hPre_experts_named := hPre_experts_named)
    ∧ quiescent_Kernel2Ideal (hKernel2Ideal := hKernel2Ideal) (hPre_experts_named := hPre_experts_named)
    ∧ quiescent_Reference2Ideal (hReference2Ideal := hReference2Ideal)
    ∧ quiescent_Reference2Ideal_pre_experts_named (hReference2Ideal := hReference2Ideal) (hPre_experts_named := hPre_experts_named)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal) (hPre_pos_in_rows := hPre_pos_in_rows)
    ∧ bitexact_Kernel_Reference (hKernel := hKernel) (hReference := hReference) (hPre_pos_in_rows := hPre_pos_in_rows)
    ∧ preserves_Kernel2_Kernel2Ideal
    ∧ algebraic_Kernel2Ideal_Reference2Ideal_on_rows_used (hKernel2Ideal := hKernel2Ideal) (hReference2Ideal := hReference2Ideal) (hPre_experts_named := hPre_experts_named) (hOn_rows_used := hOn_rows_used)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== On_rows_used.lean ====
abbrev S70656x1024 : Shape := ⟨2, ![70656, 1024]⟩
abbrev S138 : Shape := ⟨1, ![138]⟩
abbrev S1 : Shape := ⟨1, ![1]⟩
abbrev S8x1024x3584 : Shape := ⟨3, ![8, 1024, 3584]⟩
abbrev S8x3584x1024 : Shape := ⟨3, ![8, 3584, 1024]⟩
abbrev S138x512x1024 : Shape := ⟨3, ![138, 512, 1024]⟩
abbrev S_ : Shape := ⟨0, ![]⟩

class Facts : Prop where
  shapeCasts_S138x512x1024_S70656x1024 : S138x512x1024.ShapeCasts S70656x1024
  shapeCasts_S1_S_ : S1.ShapeCasts S_
  bcast_S_S70656x1024 : S_.BroadcastsInDim S70656x1024 (![] : Fin 0 → Fin S70656x1024.rank)

variable [Facts]

def fn {F : FTy → Type} [FloatOps F] (main_arg0 : FVec F S70656x1024 .f32) (main_arg1 : IVec S138 32) (main_arg2 : IVec S1 32) (main_arg3 : FVec F S8x1024x3584 .f32) (main_arg4 : FVec F S8x1024x3584 .f32) (main_arg5 : FVec F S8x3584x1024 .f32) : IVec S70656x1024 1 :=
  let main_v0 : IVec S138x512x1024 32 := iotaInDim S138x512x1024 32 0
  let main_v1 : IVec S70656x1024 32 := shapeCast S70656x1024 main_v0 shapeCasts_S138x512x1024_S70656x1024
  let main_v2 : IVec S_ 32 := shapeCast S_ main_arg2 shapeCasts_S1_S_
  let main_v3 : IVec S70656x1024 32 := broadcastInDim S70656x1024 ![] bcast_S_S70656x1024 main_v2
  let main_v4 : IVec S70656x1024 1 := cmpi .slt main_v1 main_v3
  main_v4
-- ==== Pre_experts_named.lean ====
abbrev S70656x1024 : Shape := ⟨2, ![70656, 1024]⟩
abbrev S138 : Shape := ⟨1, ![138]⟩
abbrev S1 : Shape := ⟨1, ![1]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S138 : S_.BroadcastsInDim S138 (![] : Fin 0 → Fin S138.rank)

variable [Facts]

def fn {F : FTy → Type} [FloatOps F] (main_arg0 : FVec F S70656x1024 .f32) (main_arg1 : IVec S138 32) (main_arg2 : IVec S1 32) (main_arg3 : FVec F S8x1024x3584 .f32) (main_arg4 : FVec F S8x1024x3584 .f32) (main_arg5 : FVec F S8x3584x1024 .f32) : IVec S138 1 :=
  let main_c : IVec S_ 32 := constantI S_ 32 0#32
  let main_v0 : IVec S138 32 := broadcastInDim S138 ![] bcast_S_S138 main_c
  let main_v1 : IVec S138 1 := cmpi .sge main_arg1 main_v0
  let main_c_0 : IVec S_ 32 := constantI S_ 32 8#32
  let main_v2 : IVec S138 32 := broadcastInDim S138 ![] bcast_S_S138 main_c_0
  let main_v3 : IVec S138 1 := cmpi .slt main_arg1 main_v2
  let main_v4 : IVec S138 1 := andi main_v1 main_v3
  main_v4
-- ==== Pre_pos_in_rows.lean ====
abbrev S70656x1024 : Shape := ⟨2, ![70656, 1024]⟩
abbrev S2x33280 : Shape := ⟨2, ![2, 33280]⟩
abbrev S_ : Shape := ⟨0, ![]⟩

class Facts : Prop where
  bcast_S_S2x33280 : S_.BroadcastsInDim S2x33280 (![] : Fin 0 → Fin S2x33280.rank)

variable [Facts]

def fn {F : FTy → Type} [FloatOps F] (main_arg0 : FVec F S70656x1024 .f32) (main_arg1 : IVec S2x33280 32) : IVec S2x33280 1 :=
  let main_c : IVec S_ 32 := constantI S_ 32 0#32
  let main_v0 : IVec S2x33280 32 := broadcastInDim S2x33280 ![] bcast_S_S2x33280 main_c
  let main_v1 : IVec S2x33280 1 := cmpi .sge main_arg1 main_v0
  let main_c_0 : IVec S_ 32 := constantI S_ 32 70656#32
  let main_v2 : IVec S2x33280 32 := broadcastInDim S2x33280 ![] bcast_S_S2x33280 main_c_0
  let main_v3 : IVec S2x33280 1 := cmpi .slt main_arg1 main_v2
  let main_v4 : IVec S2x33280 1 := andi main_v1 main_v3
  main_v4
-- ==== Kernel.lean ====
abbrev S70656x1024 : Shape := ⟨2, ![70656, 1024]⟩
abbrev S2x33280 : Shape := ⟨2, ![2, 33280]⟩
abbrev S66560 : Shape := ⟨1, ![66560]⟩
abbrev S1x66560 : Shape := ⟨2, ![1, 66560]⟩
abbrev S66560x1024 : Shape := ⟨2, ![66560, 1024]⟩
abbrev S2x1x128 : Shape := ⟨3, ![2, 1, 128]⟩
abbrev S2 : Shape := ⟨1, ![2]⟩
abbrev S2x128x256 : Shape := ⟨3, ![2, 128, 256]⟩
abbrev S1x1x128 : Shape := ⟨3, ![1, 1, 128]⟩
abbrev S1x128 : Shape := ⟨2, ![1, 128]⟩
abbrev S1 : Shape := ⟨1, ![1]⟩
abbrev S_ : Shape := ⟨0, ![]⟩
abbrev S1x128x256 : Shape := ⟨3, ![1, 128, 256]⟩
abbrev S128x256 : Shape := ⟨2, ![128, 256]⟩
abbrev S128x128 : Shape := ⟨2, ![128, 128]⟩
abbrev S128 : Shape := ⟨1, ![128]⟩
abbrev S70656x128 : Shape := ⟨2, ![70656, 128]⟩

abbrev nBuf : Table → Nat
  | .hbm => 5
  | .local .scVector .vmem => 8
  | _ => 0

abbrev bufTy : (tb : Table) → Fin (nBuf tb) → BufTy
  | .hbm, ⟨0, _⟩ => ⟨S70656x1024, .f32⟩
  | .hbm, ⟨1, _⟩ => ⟨S2x33280, .i32⟩
  | .hbm, ⟨2, _⟩ => ⟨S66560, .i32⟩
  | .hbm, ⟨3, _⟩ => ⟨S1x66560, .i32⟩
  | .hbm, ⟨4, _⟩ => ⟨S66560x1024, .f32⟩
  | .local .scVector .vmem, ⟨0, _⟩ => ⟨S2x1x128, .i32⟩
  | .local .scVector .vmem, ⟨1, _⟩ => ⟨S2x128x256, .f32⟩
  | .local .scVector .vmem, ⟨2, _⟩ => ⟨S2x1x128, .i32⟩
  | .local .scVector .vmem, ⟨3, _⟩ => ⟨S2x128x256, .f32⟩
  | .local .scVector .vmem, ⟨4, _⟩ => ⟨S2x1x128, .i32⟩
  | .local .scVector .vmem, ⟨5, _⟩ => ⟨S2x128x256, .f32⟩
  | .local .scVector .vmem, ⟨6, _⟩ => ⟨S2x1x128, .i32⟩
  | .local .scVector .vmem, ⟨7, _⟩ => ⟨S2x128x256, .f32⟩
  | _, _ => ⟨S70656x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 32 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | _ => false

abbrev sig : RefSig :=
  ofTables nBuf rfl bufTy 4 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg0_scv : Ref sig .scVector := ⟨.hbm, 0, rfl⟩
abbrev main_v1_scv : Ref sig .scVector := ⟨.hbm, 3, rfl⟩
abbrev main_v2_scv : Ref sig .scVector := ⟨.hbm, 4, rfl⟩
abbrev cc0_scoped0 : Ref sig .scVector := ⟨.vmem, 0, rfl⟩
abbrev cc0_scoped2 : Ref sig .scVector := ⟨.vmem, 1, rfl⟩
abbrev cc0_scoped8 : Ref sig .scVector := ⟨.vmem, 2, rfl⟩
abbrev cc0_scoped10 : Ref sig .scVector := ⟨.vmem, 3, rfl⟩
abbrev cc0_scoped16 : Ref sig .scVector := ⟨.vmem, 4, rfl⟩
abbrev cc0_scoped18 : Ref sig .scVector := ⟨.vmem, 5, rfl⟩
abbrev cc0_scoped24 : Ref sig .scVector := ⟨.vmem, 6, rfl⟩
abbrev cc0_scoped26 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c17_i32 : BitVec 32 := 17#32
  let c16_i32_0 : BitVec 32 := 16#32
  let v5 : BitVec 32 := Scalar.select v4 c17_i32 c16_i32_0
  let v11 : BitVec 32 := Scalar.muli c1_i32_4 v5
  let c0_i32_36_r0 : BitVec 32 := 0#32
  let v50_r0 : BitVec 1 := Scalar.cmpi .sgt v11 c0_i32_36_r0
  let v51_r0 : BitVec 32 := Scalar.extui v50_r0
  let c0_i32_37_r0 : BitVec 32 := 0#32
  let v52_r0 : BitVec 1 := Scalar.cmpi .ne v51_r0 c0_i32_37_r0
  v52_r0

def k0_cond2 (i : grid0.Coords) : BitVec 1 :=
  let true_53_r0 : BitVec 1 := 1#1
  let c1_i32_38_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c17_i32 : BitVec 32 := 17#32
  let c16_i32_0 : BitVec 32 := 16#32
  let v5 : BitVec 32 := Scalar.select v4 c17_i32 c16_i32_0
  let v53_r0 : BitVec 32 := Scalar.muli c1_i32_38_r0 v5
  let c0_i32_52_r0 : BitVec 32 := 0#32
  let v71_r0 : BitVec 1 := Scalar.cmpi .sgt v53_r0 c0_i32_52_r0
  let v72_r0 : BitVec 1 := Scalar.andi true_53_r0 v71_r0
  let true_54_r0 : BitVec 1 := 1#1
  let v73_r0 : BitVec 1 := Scalar.andi v72_r0 true_54_r0
  let v74_r0 : BitVec 32 := Scalar.extui v73_r0
  let c0_i32_56_r0 : BitVec 32 := 0#32
  let v75_r0 : BitVec 1 := Scalar.cmpi .ne v74_r0 c0_i32_56_r0
  v75_r0

def k0_off1 : Fin 3 → Nat :=
  let c0_i32_55_r0 : BitVec 32 := 0#32
  let c2_i32_r0 : BitVec 32 := 2#32
  let v116_r0 : BitVec 32 := Scalar.remui c0_i32_55_r0 c2_i32_r0
  let c0_i32_88_r0 : BitVec 32 := 0#32
  let c0_i32_89_r0 : BitVec 32 := 0#32
  ![v116_r0.toNat, 0, 0]
def k0_off2 (i : grid0.Coords) : Fin 2 → Nat :=
  let c0_i32_90_r0 : BitVec 32 := 0#32
  let c128_i32_r0 : BitVec 32 := 128#32
  let c0_i32_41_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_1 : BitVec 32 := 8#32
  let v6 : BitVec 1 := Scalar.cmpi .slt v3 c8_i32_1
  let c8_i32 : BitVec 32 := 8#32
  let v4 : BitVec 1 := Scalar.cmpi .slt v3 c8_i32
  let c17_i32 : BitVec 32 := 17#32
  let c16_i32_0 : BitVec 32 := 16#32
  let v5 : BitVec 32 := Scalar.select v4 c17_i32 c16_i32_0
  let v7 : BitVec 32 := Scalar.muli v3 v5
  let c16_i32_2 : BitVec 32 := 16#32
  let v8 : BitVec 32 := Scalar.muli v3 c16_i32_2
  let c8_i32_3 : BitVec 32 := 8#32
  let v9 : BitVec 32 := Scalar.addi v8 c8_i32_3
  let v10 : BitVec 32 := Scalar.select v6 v7 v9
  let v56_r0 : BitVec 32 := Scalar.addi c0_i32_41_r0 v10
  let v117_r0 : BitVec 32 := Scalar.muli c128_i32_r0 v56_r0
  ![0, v117_r0.toNat]
def k0_off3 : Fin 1 → Nat :=
  let c0_i32_55_r0 : BitVec 32 := 0#32
  let c2_i32_r0 : BitVec 32 := 2#32
  let v116_r0 : BitVec 32 := Scalar.remui c0_i32_55_r0 c2_i32_r0
  ![v116_r0.toNat]
@[reducible] def k0_t1_loop (i : grid0.Coords) : Scf.Loop 32 :=
  let c0_i32_60_r0 : BitVec 32 := 0#32
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c17_i32 : BitVec 32 := 17#32
  let c16_i32_0 : BitVec 32 := 16#32
  let v5 : BitVec 32 := Scalar.select v4 c17_i32 c16_i32_0
  let v11 : BitVec 32 := Scalar.muli c1_i32_4 v5
  let v78_r0 : BitVec 32 := Scalar.subi v11 c0_i32_60_r0
  let c1_i32_65_r0 : BitVec 32 := 1#32
  let v80_r0 : BitVec 32 := Scalar.divsi v78_r0 c1_i32_65_r0
  let v81_r0 : BitVec 32 := Scalar.muli v80_r0 c1_i32_65_r0
  let v82_r0 : BitVec 32 := Scalar.addi c0_i32_60_r0 v81_r0
  let c1_i32_66_r0 : BitVec 32 := 1#32
  ⟨c0_i32_60_r0, v82_r0, c1_i32_66_r0⟩
def k0_off4 (arg6_r0 : BitVec 32) : Fin 3 → Nat :=
  let c2_i32_133_r0 : BitVec 32 := 2#32
  let v203_r0 : BitVec 32 := Scalar.remui arg6_r0 c2_i32_133_r0
  let c0_i32_134_r0 : BitVec 32 := 0#32
  let c0_i32_135_r0 : BitVec 32 := 0#32
  ![v203_r0.toNat, 0, 0]
def k0_cond3 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_1 : BitVec 32 := 8#32
  let v6 : BitVec 1 := Scalar.cmpi .slt v3 c8_i32_1
  let c8_i32 : BitVec 32 := 8#32
  let v4 : BitVec 1 := Scalar.cmpi .slt v3 c8_i32
  let c17_i32 : BitVec 32 := 17#32
  let c16_i32_0 : BitVec 32 := 16#32
  let v5 : BitVec 32 := Scalar.select v4 c17_i32 c16_i32_0
  let v7 : BitVec 32 := Scalar.muli v3 v5
  let c16_i32_2 : BitVec 32 := 16#32
  let v8 : BitVec 32 := Scalar.muli v3 c16_i32_2
  let c8_i32_3 : BitVec 32 := 8#32
  let v9 : BitVec 32 := Scalar.addi v8 c8_i32_3
  let v10 : BitVec 32 := Scalar.select v6 v7 v9
  let v120_r0 : BitVec 32 := Scalar.addi arg10_r0 v10
  let true_96_r0 : BitVec 1 := 1#1
  let c1_i32_95_r0 : BitVec 32 := 1#32
  let v127_r0 : BitVec 32 := Scalar.addi arg10_r0 c1_i32_95_r0
  let v128_r0 : BitVec 32 := Scalar.select true_96_r0 v127_r0 arg10_r0
  let v129_r0 : BitVec 1 := Scalar.cmpi .eq v128_r0 v5
  let c0_i32_97_r0 : BitVec 32 := 0#32
  let v130_r0 : BitVec 32 := Scalar.select v129_r0 c0_i32_97_r0 v128_r0
  let v131_r0 : BitVec 32 := Scalar.addi v130_r0 v10
  let v137_r0 : BitVec 1 := Scalar.cmpi .ne v120_r0 v131_r0
  let c0_i32_60_r0 : BitVec 32 := 0#32
  let c1_i32_66_r0 : BitVec 32 := 1#32
  let arg5_r0 : BitVec 32 := Scf.iv c0_i32_60_r0 c1_i32_66_r0 k0_t1
  let c1_i32_88_r0 : BitVec 32 := 1#32
  let v116_r0 : BitVec 32 := Scalar.muli c1_i32_88_r0 v5
  let c2_i32_r0 : BitVec 32 := 2#32
  let v138_r0 : BitVec 32 := Scalar.subi v116_r0 c2_i32_r0
  let c1_i32_101_r0 : BitVec 32 := 1#32
  let v139_r0 : BitVec 32 := Scalar.addi v138_r0 c1_i32_101_r0
  let v140_r0 : BitVec 1 := Scalar.cmpi .sge arg5_r0 v139_r0
  let true_102_r0 : BitVec 1 := 1#1
  let v141_r0 : BitVec 1 := Scalar.xori v140_r0 true_102_r0
  let v142_r0 : BitVec 1 := Scalar.andi v137_r0 v141_r0
  let true_103_r0 : BitVec 1 := 1#1
  let v143_r0 : BitVec 1 := Scalar.andi v142_r0 true_103_r0
  let v144_r0 : BitVec 32 := Scalar.extui v143_r0
  let c0_i32_104_r0 : BitVec 32 := 0#32
  let v145_r0 : BitVec 1 := Scalar.cmpi .ne v144_r0 c0_i32_104_r0
  v145_r0

def k0_off5 (i : grid0.Coords) (arg10_r0 : BitVec 32) : Fin 2 → Nat :=
  let c0_i32_136_r0 : BitVec 32 := 0#32
  let c128_i32_r0 : BitVec 32 := 128#32
  let true_96_r0 : BitVec 1 := 1#1
  let c1_i32_95_r0 : BitVec 32 := 1#32
  let v127_r0 : BitVec 32 := Scalar.addi arg10_r0 c1_i32_95_r0
  let v128_r0 : BitVec 32 := Scalar.select true_96_r0 v127_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c17_i32 : BitVec 32 := 17#32
  let c16_i32_0 : BitVec 32 := 16#32
  let v5 : BitVec 32 := Scalar.select v4 c17_i32 c16_i32_0
  let v129_r0 : BitVec 1 := Scalar.cmpi .eq v128_r0 v5
  let c0_i32_97_r0 : BitVec 32 := 0#32
  let v130_r0 : BitVec 32 := Scalar.select v129_r0 c0_i32_97_r0 v128_r0
  let c8_i32_1 : BitVec 32 := 8#32
  let v6 : BitVec 1 := Scalar.cmpi .slt v3 c8_i32_1
  let v7 : BitVec 32 := Scalar.muli v3 v5
  let c16_i32_2 : BitVec 32 := 16#32
  let v8 : BitVec 32 := Scalar.muli v3 c16_i32_2
  let c8_i32_3 : BitVec 32 := 8#32
  let v9 : BitVec 32 := Scalar.addi v8 c8_i32_3
  let v10 : BitVec 32 := Scalar.select v6 v7 v9
  let v131_r0 : BitVec 32 := Scalar.addi v130_r0 v10
  let v204_r0 : BitVec 32 := Scalar.muli c128_i32_r0 v131_r0
  ![0, v204_r0.toNat]
def k0_off6 (arg6_r0 : BitVec 32) : Fin 1 → Nat :=
  let c2_i32_133_r0 : BitVec 32 := 2#32
  let v203_r0 : BitVec 32 := Scalar.remui arg6_r0 c2_i32_133_r0
  ![v203_r0.toNat]
def k0_off7 (arg7_r0 : BitVec 32) : Fin 3 → Nat :=
  let c2_i32_133_r0 : BitVec 32 := 2#32
  let v204_r0 : BitVec 32 := Scalar.remui arg7_r0 c2_i32_133_r0
  let c0_i32_134_r0 : BitVec 32 := 0#32
  let c0_i32_135_r0 : BitVec 32 := 0#32
  ![v204_r0.toNat, 0, 0]
def k0_cond4 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_1 : BitVec 32 := 8#32
  let v6 : BitVec 1 := Scalar.cmpi .slt v3 c8_i32_1
  let c8_i32 : BitVec 32 := 8#32
  let v4 : BitVec 1 := Scalar.cmpi .slt v3 c8_i32
  let c17_i32 : BitVec 32 := 17#32
  let c16_i32_0 : BitVec 32 := 16#32
  let v5 : BitVec 32 := Scalar.select v4 c17_i32 c16_i32_0
  let v7 : BitVec 32 := Scalar.muli v3 v5
  let c16_i32_2 : BitVec 32 := 16#32
  let v8 : BitVec 32 := Scalar.muli v3 c16_i32_2
  let c8_i32_3 : BitVec 32 := 8#32
  let v9 : BitVec 32 := Scalar.addi v8 c8_i32_3
  let v10 : BitVec 32 := Scalar.select v6 v7 v9
  let v120_r0 : BitVec 32 := Scalar.addi arg10_r0 v10
  let true_92_r0 : BitVec 1 := 1#1
  let c1_i32_91_r0 : BitVec 32 := 1#32
  let v121_r0 : BitVec 32 := Scalar.subi arg10_r0 c1_i32_91_r0
  let v122_r0 : BitVec 32 := Scalar.select true_92_r0 v121_r0 arg10_r0
  let c_m1_i32_93_r0 : BitVec 32 := 4294967295#32
  let v123_r0 : BitVec 1 := Scalar.cmpi .eq v122_r0 c_m1_i32_93_r0
  let c1_i32_94_r0 : BitVec 32 := 1#32
  let v124_r0 : BitVec 32 := Scalar.subi v5 c1_i32_94_r0
  let v125_r0 : BitVec 32 := Scalar.select v123_r0 v124_r0 v122_r0
  let v126_r0 : BitVec 32 := Scalar.addi v125_r0 v10
  let v155_r0 : BitVec 1 := Scalar.cmpi .ne v120_r0 v126_r0
  let c0_i32_60_r0 : BitVec 32 := 0#32
  let c1_i32_66_r0 : BitVec 32 := 1#32
  let arg5_r0 : BitVec 32 := Scf.iv c0_i32_60_r0 c1_i32_66_r0 k0_t1
  let c0_i32_89_r0 : BitVec 32 := 0#32
  let v117_r0 : BitVec 1 := Scalar.cmpi .eq arg5_r0 c0_i32_89_r0
  let v156_r0 : BitVec 1 := Scalar.ori v155_r0 v117_r0
  let c0_i32_110_r0 : BitVec 32 := 0#32
  let v157_r0 : BitVec 1 := Scalar.cmpi .sge arg5_r0 c0_i32_110_r0
  let v158_r0 : BitVec 1 := Scalar.andi v156_r0 v157_r0
  let v159_r0 : BitVec 32 := Scalar.extui v158_r0
  let c0_i32_111_r0 : BitVec 32 := 0#32
  let v160_r0 : BitVec 1 := Scalar.cmpi .ne v159_r0 c0_i32_111_r0
  v160_r0

def k0_off8 (i : grid0.Coords) (arg10_r0 : BitVec 32) : Fin 2 → Nat :=
  let c0_i32_136_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_1 : BitVec 32 := 8#32
  let v6 : BitVec 1 := Scalar.cmpi .slt v3 c8_i32_1
  let c8_i32 : BitVec 32 := 8#32
  let v4 : BitVec 1 := Scalar.cmpi .slt v3 c8_i32
  let c17_i32 : BitVec 32 := 17#32
  let c16_i32_0 : BitVec 32 := 16#32
  let v5 : BitVec 32 := Scalar.select v4 c17_i32 c16_i32_0
  let v7 : BitVec 32 := Scalar.muli v3 v5
  let c16_i32_2 : BitVec 32 := 16#32
  let v8 : BitVec 32 := Scalar.muli v3 c16_i32_2
  let c8_i32_3 : BitVec 32 := 8#32
  let v9 : BitVec 32 := Scalar.addi v8 c8_i32_3
  let v10 : BitVec 32 := Scalar.select v6 v7 v9
  let v120_r0 : BitVec 32 := Scalar.addi arg10_r0 v10
  let v203_r0 : BitVec 32 := Scalar.muli c128_i32_r0 v120_r0
  ![0, v203_r0.toNat]
def k0_off9 (arg7_r0 : BitVec 32) : Fin 1 → Nat :=
  let c2_i32_133_r0 : BitVec 32 := 2#32
  let v204_r0 : BitVec 32 := Scalar.remui arg7_r0 c2_i32_133_r0
  ![v204_r0.toNat]
def k0_off10 (arg8_r0 : BitVec 32) : Fin 3 → Nat :=
  let c2_i32_115_r0 : BitVec 32 := 2#32
  let v168_r0 : BitVec 32 := Scalar.remui arg8_r0 c2_i32_115_r0
  let c0_i32_133_r1 : BitVec 32 := 0#32
  let c0_i32_134_r1 : BitVec 32 := 0#32
  ![v168_r0.toNat, 0, 0]

def k0_chk2 (i : grid0.Coords) (arg8_r0 : BitVec 32) : Prop :=
  (∀ (k0_h1 : k0_cond1 i = 1#1), ∀ a, (k0_off10 arg8_r0) a + S1x128x256.size a ≤ S2x128x256.size a)
theorem k0_off10_inb : ∀ (i : grid0.Coords) (arg8_r0 : BitVec 32) (k0_hw2 : k0_chk2 i arg8_r0), ∀ (k0_h1 : k0_cond1 i = 1#1), ∀ a, (k0_off10 arg8_r0) a + S1x128x256.size a ≤ S2x128x256.size a := fun i arg8_r0 k0_hw2 k0_h1 => k0_hw2 k0_h1

def k0_off11 (arg7_r0 : BitVec 32) : Fin 3 → Nat :=
  let c2_i32_114_r0 : BitVec 32 := 2#32
  let v167_r0 : BitVec 32 := Scalar.remui arg7_r0 c2_i32_114_r0
  let c0_i32_137_r1 : BitVec 32 := 0#32
  let c0_i32_138_r1 : BitVec 32 := 0#32
  ![v167_r0.toNat, 0, 0]

def k0_chk3 (i : grid0.Coords) (arg7_r0 : BitVec 32) : Prop :=
  (∀ (k0_h1 : k0_cond1 i = 1#1), ∀ a, (k0_off11 arg7_r0) a + S1x1x128.size a ≤ S2x1x128.size a)
theorem k0_off11_inb : ∀ (i : grid0.Coords) (arg7_r0 : BitVec 32) (k0_hw3 : k0_chk3 i arg7_r0), ∀ (k0_h1 : k0_cond1 i = 1#1), ∀ a, (k0_off11 arg7_r0) a + S1x1x128.size a ≤ S2x1x128.size a := fun i arg7_r0 k0_hw3 k0_h1 => k0_hw3 k0_h1

def k0_off12 (arg8_r0 : BitVec 32) : Fin 3 → Nat :=
  let c2_i32_133_r0 : BitVec 32 := 2#32
  let v203_r0 : BitVec 32 := Scalar.remui arg8_r0 c2_i32_133_r0
  let c0_i32_134_r0 : BitVec 32 := 0#32
  let c0_i32_135_r0 : BitVec 32 := 0#32
  ![v203_r0.toNat, 0, 0]
def k0_cond7 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_1 : BitVec 32 := 8#32
  let v6 : BitVec 1 := Scalar.cmpi .slt v3 c8_i32_1
  let c8_i32 : BitVec 32 := 8#32
  let v4 : BitVec 1 := Scalar.cmpi .slt v3 c8_i32
  let c17_i32 : BitVec 32 := 17#32
  let c16_i32_0 : BitVec 32 := 16#32
  let v5 : BitVec 32 := Scalar.select v4 c17_i32 c16_i32_0
  let v7 : BitVec 32 := Scalar.muli v3 v5
  let c16_i32_2 : BitVec 32 := 16#32
  let v8 : BitVec 32 := Scalar.muli v3 c16_i32_2
  let c8_i32_3 : BitVec 32 := 8#32
  let v9 : BitVec 32 := Scalar.addi v8 c8_i32_3
  let v10 : BitVec 32 := Scalar.select v6 v7 v9
  let v120_r0 : BitVec 32 := Scalar.addi arg10_r0 v10
  let true_96_r0 : BitVec 1 := 1#1
  let c1_i32_95_r0 : BitVec 32 := 1#32
  let v127_r0 : BitVec 32 := Scalar.addi arg10_r0 c1_i32_95_r0
  let v128_r0 : BitVec 32 := Scalar.select true_96_r0 v127_r0 arg10_r0
  let v129_r0 : BitVec 1 := Scalar.cmpi .eq v128_r0 v5
  let c0_i32_97_r0 : BitVec 32 := 0#32
  let v130_r0 : BitVec 32 := Scalar.select v129_r0 c0_i32_97_r0 v128_r0
  let v131_r0 : BitVec 32 := Scalar.addi v130_r0 v10
  let v174_r0 : BitVec 1 := Scalar.cmpi .ne v120_r0 v131_r0
  let c0_i32_60_r0 : BitVec 32 := 0#32
  let c1_i32_66_r0 : BitVec 32 := 1#32
  let arg5_r0 : BitVec 32 := Scf.iv c0_i32_60_r0 c1_i32_66_r0 k0_t1
  let c1_i32_88_r0 : BitVec 32 := 1#32
  let v116_r0 : BitVec 32 := Scalar.muli c1_i32_88_r0 v5
  let c1_i32_90_r0 : BitVec 32 := 1#32
  let v118_r0 : BitVec 32 := Scalar.subi v116_r0 c1_i32_90_r0
  let v119_r0 : BitVec 1 := Scalar.cmpi .eq arg5_r0 v118_r0
  let v175_r0 : BitVec 1 := Scalar.ori v174_r0 v119_r0
  let v176_r0 : BitVec 32 := Scalar.extui v175_r0
  let c0_i32_119_r0 : BitVec 32 := 0#32
  let v177_r0 : BitVec 1 := Scalar.cmpi .ne v176_r0 c0_i32_119_r0
  v177_r0

def k0_off13 (i : grid0.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_1 : BitVec 32 := 8#32
  let v6 : BitVec 1 := Scalar.cmpi .slt v3 c8_i32_1
  let c8_i32 : BitVec 32 := 8#32
  let v4 : BitVec 1 := Scalar.cmpi .slt v3 c8_i32
  let c17_i32 : BitVec 32 := 17#32
  let c16_i32_0 : BitVec 32 := 16#32
  let v5 : BitVec 32 := Scalar.select v4 c17_i32 c16_i32_0
  let v7 : BitVec 32 := Scalar.muli v3 v5
  let c16_i32_2 : BitVec 32 := 16#32
  let v8 : BitVec 32 := Scalar.muli v3 c16_i32_2
  let c8_i32_3 : BitVec 32 := 8#32
  let v9 : BitVec 32 := Scalar.addi v8 c8_i32_3
  let v10 : BitVec 32 := Scalar.select v6 v7 v9
  let v120_r0 : BitVec 32 := Scalar.addi arg10_r0 v10
  let v204_r0 : BitVec 32 := Scalar.muli c128_i32_r0 v120_r0
  let c0_i32_136_r0 : BitVec 32 := 0#32
  ![v204_r0.toNat, 0]
def k0_off14 (arg8_r0 : BitVec 32) : Fin 1 → Nat :=
  let c2_i32_133_r0 : BitVec 32 := 2#32
  let v203_r0 : BitVec 32 := Scalar.remui arg8_r0 c2_i32_133_r0
  ![v203_r0.toNat]
def k0_off15 (arg9_r0 : BitVec 32) : Fin 3 → Nat :=
  let c2_i32_133_r0 : BitVec 32 := 2#32
  let v203_r0 : BitVec 32 := Scalar.remui arg9_r0 c2_i32_133_r0
  let c0_i32_134_r0 : BitVec 32 := 0#32
  let c0_i32_135_r0 : BitVec 32 := 0#32
  ![v203_r0.toNat, 0, 0]
def k0_cond9 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_1 : BitVec 32 := 8#32
  let v6 : BitVec 1 := Scalar.cmpi .slt v3 c8_i32_1
  let c8_i32 : BitVec 32 := 8#32
  let v4 : BitVec 1 := Scalar.cmpi .slt v3 c8_i32
  let c17_i32 : BitVec 32 := 17#32
  let c16_i32_0 : BitVec 32 := 16#32
  let v5 : BitVec 32 := Scalar.select v4 c17_i32 c16_i32_0
  let v7 : BitVec 32 := Scalar.muli v3 v5
  let c16_i32_2 : BitVec 32 := 16#32
  let v8 : BitVec 32 := Scalar.muli v3 c16_i32_2
  let c8_i32_3 : BitVec 32 := 8#32
  let v9 : BitVec 32 := Scalar.addi v8 c8_i32_3
  let v10 : BitVec 32 := Scalar.select v6 v7 v9
  let v120_r0 : BitVec 32 := Scalar.addi arg10_r0 v10
  let true_92_r0 : BitVec 1 := 1#1
  let c1_i32_91_r0 : BitVec 32 := 1#32
  let v121_r0 : BitVec 32 := Scalar.subi arg10_r0 c1_i32_91_r0
  let v122_r0 : BitVec 32 := Scalar.select true_92_r0 v121_r0 arg10_r0
  let c_m1_i32_93_r0 : BitVec 32 := 4294967295#32
  let v123_r0 : BitVec 1 := Scalar.cmpi .eq v122_r0 c_m1_i32_93_r0
  let c1_i32_94_r0 : BitVec 32 := 1#32
  let v124_r0 : BitVec 32 := Scalar.subi v5 c1_i32_94_r0
  let v125_r0 : BitVec 32 := Scalar.select v123_r0 v124_r0 v122_r0
  let v126_r0 : BitVec 32 := Scalar.addi v125_r0 v10
  let v187_r0 : BitVec 1 := Scalar.cmpi .ne v120_r0 v126_r0
  let c0_i32_60_r0 : BitVec 32 := 0#32
  let c1_i32_66_r0 : BitVec 32 := 1#32
  let arg5_r0 : BitVec 32 := Scf.iv c0_i32_60_r0 c1_i32_66_r0 k0_t1
  let c0_i32_89_r0 : BitVec 32 := 0#32
  let v117_r0 : BitVec 1 := Scalar.cmpi .eq arg5_r0 c0_i32_89_r0
  let true_125_r0 : BitVec 1 := 1#1
  let v188_r0 : BitVec 1 := Scalar.xori v117_r0 true_125_r0
  let v189_r0 : BitVec 1 := Scalar.andi v187_r0 v188_r0
  let v190_r0 : BitVec 32 := Scalar.extui v189_r0
  let c0_i32_126_r0 : BitVec 32 := 0#32
  let v191_r0 : BitVec 1 := Scalar.cmpi .ne v190_r0 c0_i32_126_r0
  v191_r0

def k0_off16 (i : grid0.Coords) (arg10_r0 : BitVec 32) : Fin 2 → Nat :=
  let c128_i32_r0 : BitVec 32 := 128#32
  let true_92_r0 : BitVec 1 := 1#1
  let c1_i32_91_r0 : BitVec 32 := 1#32
  let v121_r0 : BitVec 32 := Scalar.subi arg10_r0 c1_i32_91_r0
  let v122_r0 : BitVec 32 := Scalar.select true_92_r0 v121_r0 arg10_r0
  let c_m1_i32_93_r0 : BitVec 32 := 4294967295#32
  let v123_r0 : BitVec 1 := Scalar.cmpi .eq v122_r0 c_m1_i32_93_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c17_i32 : BitVec 32 := 17#32
  let c16_i32_0 : BitVec 32 := 16#32
  let v5 : BitVec 32 := Scalar.select v4 c17_i32 c16_i32_0
  let c1_i32_94_r0 : BitVec 32 := 1#32
  let v124_r0 : BitVec 32 := Scalar.subi v5 c1_i32_94_r0
  let v125_r0 : BitVec 32 := Scalar.select v123_r0 v124_r0 v122_r0
  let c8_i32_1 : BitVec 32 := 8#32
  let v6 : BitVec 1 := Scalar.cmpi .slt v3 c8_i32_1
  let v7 : BitVec 32 := Scalar.muli v3 v5
  let c16_i32_2 : BitVec 32 := 16#32
  let v8 : BitVec 32 := Scalar.muli v3 c16_i32_2
  let c8_i32_3 : BitVec 32 := 8#32
  let v9 : BitVec 32 := Scalar.addi v8 c8_i32_3
  let v10 : BitVec 32 := Scalar.select v6 v7 v9
  let v126_r0 : BitVec 32 := Scalar.addi v125_r0 v10
  let v204_r0 : BitVec 32 := Scalar.muli c128_i32_r0 v126_r0
  let c0_i32_136_r0 : BitVec 32 := 0#32
  ![v204_r0.toNat, 0]
def k0_off17 (arg9_r0 : BitVec 32) : Fin 1 → Nat :=
  let c2_i32_133_r0 : BitVec 32 := 2#32
  let v203_r0 : BitVec 32 := Scalar.remui arg9_r0 c2_i32_133_r0
  ![v203_r0.toNat]

def k0_chk1 (i : grid0.Coords) (k0_t1 : Fin (k0_t1_loop i).trips) (arg6_r0 : BitVec 32) (arg7_r0 : BitVec 32) (arg8_r0 : BitVec 32) (arg9_r0 : BitVec 32) (arg10_r0 : BitVec 32) : Prop :=
  (∀ (k0_h1 : k0_cond1 i = 1#1), ∀ (k0_h3 : k0_cond3 i k0_t1 arg10_r0 = 1#1), ∀ a, (k0_off4 arg6_r0) a + S1x1x128.size a ≤ S2x1x128.size a) ∧
  (∀ (k0_h1 : k0_cond1 i = 1#1), ∀ (k0_h3 : k0_cond3 i k0_t1 arg10_r0 = 1#1), ∀ a, (k0_off5 i arg10_r0) a + S1x128.size a ≤ S1x66560.size a) ∧
  (∀ (k0_h1 : k0_cond1 i = 1#1), ∀ (k0_h3 : k0_cond3 i k0_t1 arg10_r0 = 1#1), ∀ a, (k0_off6 arg6_r0) a + S1.size a ≤ S2.size a) ∧
  (∀ (k0_h1 : k0_cond1 i = 1#1), ∀ (k0_h4 : k0_cond4 i k0_t1 arg10_r0 = 1#1), ∀ a, (k0_off7 arg7_r0) a + S1x1x128.size a ≤ S2x1x128.size a) ∧
  (∀ (k0_h1 : k0_cond1 i = 1#1), ∀ (k0_h4 : k0_cond4 i k0_t1 arg10_r0 = 1#1), ∀ a, (k0_off8 i arg10_r0) a + S1x128.size a ≤ S1x66560.size a) ∧
  (∀ (k0_h1 : k0_cond1 i = 1#1), ∀ (k0_h4 : k0_cond4 i k0_t1 arg10_r0 = 1#1), ∀ a, (k0_off9 arg7_r0) a + S1.size a ≤ S2.size a) ∧
  (∀ (k0_h1 : k0_cond1 i = 1#1), ∀ (k0_h7 : k0_cond7 i k0_t1 arg10_r0 = 1#1), ∀ a, (k0_off12 arg8_r0) a + S1x128x256.size a ≤ S2x128x256.size a) ∧
  (∀ (k0_h1 : k0_cond1 i = 1#1), ∀ (k0_h7 : k0_cond7 i k0_t1 arg10_r0 = 1#1), ∀ a, (k0_off13 i arg10_r0) a + S128x256.size a ≤ S66560x1024.size a) ∧
  (∀ (k0_h1 : k0_cond1 i = 1#1), ∀ (k0_h7 : k0_cond7 i k0_t1 arg10_r0 = 1#1), ∀ a, (k0_off14 arg8_r0) a + S1.size a ≤ S2.size a) ∧
  (∀ (k0_h1 : k0_cond1 i = 1#1), ∀ (k0_h9 : k0_cond9 i k0_t1 arg10_r0 = 1#1), ∀ a, (k0_off15 arg9_r0) a + S1x128x256.size a ≤ S2x128x256.size a) ∧
  (∀ (k0_h1 : k0_cond1 i = 1#1), ∀ (k0_h9 : k0_cond9 i k0_t1 arg10_r0 = 1#1), ∀ a, (k0_off16 i arg10_r0) a + S128x256.size a ≤ S66560x1024.size a) ∧
  (∀ (k0_h1 : k0_cond1 i = 1#1), ∀ (k0_h9 : k0_cond9 i k0_t1 arg10_r0 = 1#1), ∀ a, (k0_off17 arg9_r0) a + S1.size a ≤ S2.size a)
theorem k0_off4_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off4 arg6_r0) a + S1x1x128.size a ≤ S2x1x128.size a := fun i k0_t1 arg6_r0 arg7_r0 arg8_r0 arg9_r0 arg10_r0 k0_hw1 k0_h1 k0_h3 => k0_hw1.1 k0_h1 k0_h3
theorem k0_off5_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off5 i arg10_r0) a + S1x128.size a ≤ S1x66560.size a := fun i k0_t1 arg6_r0 arg7_r0 arg8_r0 arg9_r0 arg10_r0 k0_hw1 k0_h1 k0_h3 => k0_hw1.2.1 k0_h1 k0_h3
theorem k0_off6_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off6 arg6_r0) a + S1.size a ≤ S2.size a := fun i k0_t1 arg6_r0 arg7_r0 arg8_r0 arg9_r0 arg10_r0 k0_hw1 k0_h1 k0_h3 => k0_hw1.2.2.1 k0_h1 k0_h3
theorem k0_off7_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off7 arg7_r0) a + S1x1x128.size a ≤ S2x1x128.size a := fun i k0_t1 arg6_r0 arg7_r0 arg8_r0 arg9_r0 arg10_r0 k0_hw1 k0_h1 k0_h4 => k0_hw1.2.2.2.1 k0_h1 k0_h4
theorem k0_off8_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off8 i arg10_r0) a + S1x128.size a ≤ S1x66560.size a := fun i k0_t1 arg6_r0 arg7_r0 arg8_r0 arg9_r0 arg10_r0 k0_hw1 k0_h1 k0_h4 => k0_hw1.2.2.2.2.1 k0_h1 k0_h4
theorem k0_off9_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off9 arg7_r0) a + S1.size a ≤ S2.size a := fun i k0_t1 arg6_r0 arg7_r0 arg8_r0 arg9_r0 arg10_r0 k0_hw1 k0_h1 k0_h4 => k0_hw1.2.2.2.2.2.1 k0_h1 k0_h4
theorem k0_off12_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off12 arg8_r0) a + S1x128x256.size a ≤ S2x128x256.size a := fun i k0_t1 arg6_r0 arg7_r0 arg8_r0 arg9_r0 arg10_r0 k0_hw1 k0_h1 k0_h7 => k0_hw1.2.2.2.2.2.2.1 k0_h1 k0_h7
theorem k0_off13_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off13 i arg10_r0) a + S128x256.size a ≤ S66560x1024.size a := fun i k0_t1 arg6_r0 arg7_r0 arg8_r0 arg9_r0 arg10_r0 k0_hw1 k0_h1 k0_h7 => k0_hw1.2.2.2.2.2.2.2.1 k0_h1 k0_h7
theorem k0_off14_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off14 arg8_r0) a + S1.size a ≤ S2.size a := fun i k0_t1 arg6_r0 arg7_r0 arg8_r0 arg9_r0 arg10_r0 k0_hw1 k0_h1 k0_h7 => k0_hw1.2.2.2.2.2.2.2.2.1 k0_h1 k0_h7
theorem k0_off15_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off15 arg9_r0) a + S1x128x256.size a ≤ S2x128x256.size a := fun i k0_t1 arg6_r0 arg7_r0 arg8_r0 arg9_r0 arg10_r0 k0_hw1 k0_h1 k0_h9 => k0_hw1.2.2.2.2.2.2.2.2.2.1 k0_h1 k0_h9
theorem k0_off16_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off16 i arg10_r0) a + S128x256.size a ≤ S66560x1024.size a := fun i k0_t1 arg6_r0 arg7_r0 arg8_r0 arg9_r0 arg10_r0 k0_hw1 k0_h1 k0_h9 => k0_hw1.2.2.2.2.2.2.2.2.2.2.1 k0_h1 k0_h9
theorem k0_off17_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off17 arg9_r0) a + S1.size a ≤ S2.size a := fun i k0_t1 arg6_r0 arg7_r0 arg8_r0 arg9_r0 arg10_r0 k0_hw1 k0_h1 k0_h9 => k0_hw1.2.2.2.2.2.2.2.2.2.2.2 k0_h1 k0_h9

@[reducible] def k0_t2_loop (i : grid0.Coords) : Scf.Loop 32 :=
  let c0_i32_60_r0 : BitVec 32 := 0#32
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c17_i32 : BitVec 32 := 17#32
  let c16_i32_0 : BitVec 32 := 16#32
  let v5 : BitVec 32 := Scalar.select v4 c17_i32 c16_i32_0
  let v11 : BitVec 32 := Scalar.muli c1_i32_4 v5
  let v78_r0 : BitVec 32 := Scalar.subi v11 c0_i32_60_r0
  let c1_i32_65_r0 : BitVec 32 := 1#32
  let v80_r0 : BitVec 32 := Scalar.divsi v78_r0 c1_i32_65_r0
  let v81_r0 : BitVec 32 := Scalar.muli v80_r0 c1_i32_65_r0
  let v82_r0 : BitVec 32 := Scalar.addi c0_i32_60_r0 v81_r0
  let v79_r0 : BitVec 32 := Scalar.addi c0_i32_60_r0 v78_r0
  let c1_i32_67_r0 : BitVec 32 := 1#32
  ⟨v82_r0, v79_r0, c1_i32_67_r0⟩
def k0_off18 (arg6_r0 : BitVec 32) : Fin 3 → Nat :=
  let c2_i32_133_r0 : BitVec 32 := 2#32
  let v203_r0 : BitVec 32 := Scalar.remui arg6_r0 c2_i32_133_r0
  let c0_i32_134_r0 : BitVec 32 := 0#32
  let c0_i32_135_r0 : BitVec 32 := 0#32
  ![v203_r0.toNat, 0, 0]
def k0_cond10 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_1 : BitVec 32 := 8#32
  let v6 : BitVec 1 := Scalar.cmpi .slt v3 c8_i32_1
  let c8_i32 : BitVec 32 := 8#32
  let v4 : BitVec 1 := Scalar.cmpi .slt v3 c8_i32
  let c17_i32 : BitVec 32 := 17#32
  let c16_i32_0 : BitVec 32 := 16#32
  let v5 : BitVec 32 := Scalar.select v4 c17_i32 c16_i32_0
  let v7 : BitVec 32 := Scalar.muli v3 v5
  let c16_i32_2 : BitVec 32 := 16#32
  let v8 : BitVec 32 := Scalar.muli v3 c16_i32_2
  let c8_i32_3 : BitVec 32 := 8#32
  let v9 : BitVec 32 := Scalar.addi v8 c8_i32_3
  let v10 : BitVec 32 := Scalar.select v6 v7 v9
  let v120_r0 : BitVec 32 := Scalar.addi arg10_r0 v10
  let true_96_r0 : BitVec 1 := 1#1
  let c1_i32_95_r0 : BitVec 32 := 1#32
  let v127_r0 : BitVec 32 := Scalar.addi arg10_r0 c1_i32_95_r0
  let v128_r0 : BitVec 32 := Scalar.select true_96_r0 v127_r0 arg10_r0
  let v129_r0 : BitVec 1 := Scalar.cmpi .eq v128_r0 v5
  let c0_i32_97_r0 : BitVec 32 := 0#32
  let v130_r0 : BitVec 32 := Scalar.select v129_r0 c0_i32_97_r0 v128_r0
  let v131_r0 : BitVec 32 := Scalar.addi v130_r0 v10
  let v137_r0 : BitVec 1 := Scalar.cmpi .ne v120_r0 v131_r0
  let c0_i32_60_r0 : BitVec 32 := 0#32
  let c1_i32_4 : BitVec 32 := 1#32
  let v11 : BitVec 32 := Scalar.muli c1_i32_4 v5
  let v78_r0 : BitVec 32 := Scalar.subi v11 c0_i32_60_r0
  let c1_i32_65_r0 : BitVec 32 := 1#32
  let v80_r0 : BitVec 32 := Scalar.divsi v78_r0 c1_i32_65_r0
  let v81_r0 : BitVec 32 := Scalar.muli v80_r0 c1_i32_65_r0
  let v82_r0 : BitVec 32 := Scalar.addi c0_i32_60_r0 v81_r0
  let c1_i32_67_r0 : BitVec 32 := 1#32
  let arg5_r0 : BitVec 32 := Scf.iv v82_r0 c1_i32_67_r0 k0_t2
  let c1_i32_88_r0 : BitVec 32 := 1#32
  let v116_r0 : BitVec 32 := Scalar.muli c1_i32_88_r0 v5
  let c2_i32_r0 : BitVec 32 := 2#32
  let v138_r0 : BitVec 32 := Scalar.subi v116_r0 c2_i32_r0
  let c1_i32_101_r0 : BitVec 32 := 1#32
  let v139_r0 : BitVec 32 := Scalar.addi v138_r0 c1_i32_101_r0
  let v140_r0 : BitVec 1 := Scalar.cmpi .sge arg5_r0 v139_r0
  let true_102_r0 : BitVec 1 := 1#1
  let v141_r0 : BitVec 1 := Scalar.xori v140_r0 true_102_r0
  let v142_r0 : BitVec 1 := Scalar.andi v137_r0 v141_r0
  let true_103_r0 : BitVec 1 := 1#1
  let v143_r0 : BitVec 1 := Scalar.andi v142_r0 true_103_r0
  let v144_r0 : BitVec 32 := Scalar.extui v143_r0
  let c0_i32_104_r0 : BitVec 32 := 0#32
  let v145_r0 : BitVec 1 := Scalar.cmpi .ne v144_r0 c0_i32_104_r0
  v145_r0

def k0_off19 (i : grid0.Coords) (arg10_r0 : BitVec 32) : Fin 2 → Nat :=
  let c0_i32_136_r0 : BitVec 32 := 0#32
  let c128_i32_r0 : BitVec 32 := 128#32
  let true_96_r0 : BitVec 1 := 1#1
  let c1_i32_95_r0 : BitVec 32 := 1#32
  let v127_r0 : BitVec 32 := Scalar.addi arg10_r0 c1_i32_95_r0
  let v128_r0 : BitVec 32 := Scalar.select true_96_r0 v127_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c17_i32 : BitVec 32 := 17#32
  let c16_i32_0 : BitVec 32 := 16#32
  let v5 : BitVec 32 := Scalar.select v4 c17_i32 c16_i32_0
  let v129_r0 : BitVec 1 := Scalar.cmpi .eq v128_r0 v5
  let c0_i32_97_r0 : BitVec 32 := 0#32
  let v130_r0 : BitVec 32 := Scalar.select v129_r0 c0_i32_97_r0 v128_r0
  let c8_i32_1 : BitVec 32 := 8#32
  let v6 : BitVec 1 := Scalar.cmpi .slt v3 c8_i32_1
  let v7 : BitVec 32 := Scalar.muli v3 v5
  let c16_i32_2 : BitVec 32 := 16#32
  let v8 : BitVec 32 := Scalar.muli v3 c16_i32_2
  let c8_i32_3 : BitVec 32 := 8#32
  let v9 : BitVec 32 := Scalar.addi v8 c8_i32_3
  let v10 : BitVec 32 := Scalar.select v6 v7 v9
  let v131_r0 : BitVec 32 := Scalar.addi v130_r0 v10
  let v204_r0 : BitVec 32 := Scalar.muli c128_i32_r0 v131_r0
  ![0, v204_r0.toNat]
def k0_off20 (arg6_r0 : BitVec 32) : Fin 1 → Nat :=
  let c2_i32_133_r0 : BitVec 32 := 2#32
  let v203_r0 : BitVec 32 := Scalar.remui arg6_r0 c2_i32_133_r0
  ![v203_r0.toNat]
def k0_off21 (arg7_r0 : BitVec 32) : Fin 3 → Nat :=
  let c2_i32_133_r0 : BitVec 32 := 2#32
  let v204_r0 : BitVec 32 := Scalar.remui arg7_r0 c2_i32_133_r0
  let c0_i32_134_r0 : BitVec 32 := 0#32
  let c0_i32_135_r0 : BitVec 32 := 0#32
  ![v204_r0.toNat, 0, 0]
def k0_cond11 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_1 : BitVec 32 := 8#32
  let v6 : BitVec 1 := Scalar.cmpi .slt v3 c8_i32_1
  let c8_i32 : BitVec 32 := 8#32
  let v4 : BitVec 1 := Scalar.cmpi .slt v3 c8_i32
  let c17_i32 : BitVec 32 := 17#32
  let c16_i32_0 : BitVec 32 := 16#32
  let v5 : BitVec 32 := Scalar.select v4 c17_i32 c16_i32_0
  let v7 : BitVec 32 := Scalar.muli v3 v5
  let c16_i32_2 : BitVec 32 := 16#32
  let v8 : BitVec 32 := Scalar.muli v3 c16_i32_2
  let c8_i32_3 : BitVec 32 := 8#32
  let v9 : BitVec 32 := Scalar.addi v8 c8_i32_3
  let v10 : BitVec 32 := Scalar.select v6 v7 v9
  let v120_r0 : BitVec 32 := Scalar.addi arg10_r0 v10
  let true_92_r0 : BitVec 1 := 1#1
  let c1_i32_91_r0 : BitVec 32 := 1#32
  let v121_r0 : BitVec 32 := Scalar.subi arg10_r0 c1_i32_91_r0
  let v122_r0 : BitVec 32 := Scalar.select true_92_r0 v121_r0 arg10_r0
  let c_m1_i32_93_r0 : BitVec 32 := 4294967295#32
  let v123_r0 : BitVec 1 := Scalar.cmpi .eq v122_r0 c_m1_i32_93_r0
  let c1_i32_94_r0 : BitVec 32 := 1#32
  let v124_r0 : BitVec 32 := Scalar.subi v5 c1_i32_94_r0
  let v125_r0 : BitVec 32 := Scalar.select v123_r0 v124_r0 v122_r0
  let v126_r0 : BitVec 32 := Scalar.addi v125_r0 v10
  let v155_r0 : BitVec 1 := Scalar.cmpi .ne v120_r0 v126_r0
  let c0_i32_60_r0 : BitVec 32 := 0#32
  let c1_i32_4 : BitVec 32 := 1#32
  let v11 : BitVec 32 := Scalar.muli c1_i32_4 v5
  let v78_r0 : BitVec 32 := Scalar.subi v11 c0_i32_60_r0
  let c1_i32_65_r0 : BitVec 32 := 1#32
  let v80_r0 : BitVec 32 := Scalar.divsi v78_r0 c1_i32_65_r0
  let v81_r0 : BitVec 32 := Scalar.muli v80_r0 c1_i32_65_r0
  let v82_r0 : BitVec 32 := Scalar.addi c0_i32_60_r0 v81_r0
  let c1_i32_67_r0 : BitVec 32 := 1#32
  let arg5_r0 : BitVec 32 := Scf.iv v82_r0 c1_i32_67_r0 k0_t2
  let c0_i32_89_r0 : BitVec 32 := 0#32
  let v117_r0 : BitVec 1 := Scalar.cmpi .eq arg5_r0 c0_i32_89_r0
  let v156_r0 : BitVec 1 := Scalar.ori v155_r0 v117_r0
  let c0_i32_110_r0 : BitVec 32 := 0#32
  let v157_r0 : BitVec 1 := Scalar.cmpi .sge arg5_r0 c0_i32_110_r0
  let v158_r0 : BitVec 1 := Scalar.andi v156_r0 v157_r0
  let v159_r0 : BitVec 32 := Scalar.extui v158_r0
  let c0_i32_111_r0 : BitVec 32 := 0#32
  let v160_r0 : BitVec 1 := Scalar.cmpi .ne v159_r0 c0_i32_111_r0
  v160_r0

def k0_off22 (i : grid0.Coords) (arg10_r0 : BitVec 32) : Fin 2 → Nat :=
  let c0_i32_136_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_1 : BitVec 32 := 8#32
  let v6 : BitVec 1 := Scalar.cmpi .slt v3 c8_i32_1
  let c8_i32 : BitVec 32 := 8#32
  let v4 : BitVec 1 := Scalar.cmpi .slt v3 c8_i32
  let c17_i32 : BitVec 32 := 17#32
  let c16_i32_0 : BitVec 32 := 16#32
  let v5 : BitVec 32 := Scalar.select v4 c17_i32 c16_i32_0
  let v7 : BitVec 32 := Scalar.muli v3 v5
  let c16_i32_2 : BitVec 32 := 16#32
  let v8 : BitVec 32 := Scalar.muli v3 c16_i32_2
  let c8_i32_3 : BitVec 32 := 8#32
  let v9 : BitVec 32 := Scalar.addi v8 c8_i32_3
  let v10 : BitVec 32 := Scalar.select v6 v7 v9
  let v120_r0 : BitVec 32 := Scalar.addi arg10_r0 v10
  let v203_r0 : BitVec 32 := Scalar.muli c128_i32_r0 v120_r0
  ![0, v203_r0.toNat]
def k0_off23 (arg7_r0 : BitVec 32) : Fin 1 → Nat :=
  let c2_i32_133_r0 : BitVec 32 := 2#32
  let v204_r0 : BitVec 32 := Scalar.remui arg7_r0 c2_i32_133_r0
  ![v204_r0.toNat]
def k0_off24 (arg8_r0 : BitVec 32) : Fin 3 → Nat :=
  let c2_i32_115_r0 : BitVec 32 := 2#32
  let v168_r0 : BitVec 32 := Scalar.remui arg8_r0 c2_i32_115_r0
  let c0_i32_133_r3 : BitVec 32 := 0#32
  let c0_i32_134_r3 : BitVec 32 := 0#32
  ![v168_r0.toNat, 0, 0]

def k0_chk5 (i : grid0.Coords) (k0_t2 : Fin (k0_t2_loop i).trips) (arg8_r0 : BitVec 32) : Prop :=
  (∀ (k0_h1 : k0_cond1 i = 1#1), ∀ a, (k0_off24 arg8_r0) a + S1x128x256.size a ≤ S2x128x256.size a)
theorem k0_off24_inb : ∀ (i : grid0.Coords) (k0_t2 : Fin (k0_t2_loop i).trips) (arg8_r0 : BitVec 32) (k0_hw5 : k0_chk5 i k0_t2 arg8_r0), ∀ (k0_h1 : k0_cond1 i = 1#1), ∀ a, (k0_off24 arg8_r0) a + S1x128x256.size a ≤ S2x128x256.size a := fun i k0_t2 arg8_r0 k0_hw5 k0_h1 => k0_hw5 k0_h1

def k0_off25 (arg7_r0 : BitVec 32) : Fin 3 → Nat :=
  let c2_i32_114_r0 : BitVec 32 := 2#32
  let v167_r0 : BitVec 32 := Scalar.remui arg7_r0 c2_i32_114_r0
  let c0_i32_137_r3 : BitVec 32 := 0#32
  let c0_i32_138_r3 : BitVec 32 := 0#32
  ![v167_r0.toNat, 0, 0]

def k0_chk6 (i : grid0.Coords) (k0_t2 : Fin (k0_t2_loop i).trips) (arg7_r0 : BitVec 32) : Prop :=
  (∀ (k0_h1 : k0_cond1 i = 1#1), ∀ a, (k0_off25 arg7_r0) a + S1x1x128.size a ≤ S2x1x128.size a)
theorem k0_off25_inb : ∀ (i : grid0.Coords) (k0_t2 : Fin (k0_t2_loop i).trips) (arg7_r0 : BitVec 32) (k0_hw6 : k0_chk6 i k0_t2 arg7_r0), ∀ (k0_h1 : k0_cond1 i = 1#1), ∀ a, (k0_off25 arg7_r0) a + S1x1x128.size a ≤ S2x1x128.size a := fun i k0_t2 arg7_r0 k0_hw6 k0_h1 => k0_hw6 k0_h1

def k0_off26 (arg8_r0 : BitVec 32) : Fin 3 → Nat :=
  let c2_i32_133_r0 : BitVec 32 := 2#32
  let v203_r0 : BitVec 32 := Scalar.remui arg8_r0 c2_i32_133_r0
  let c0_i32_134_r0 : BitVec 32 := 0#32
  let c0_i32_135_r0 : BitVec 32 := 0#32
  ![v203_r0.toNat, 0, 0]
def k0_cond14 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_1 : BitVec 32 := 8#32
  let v6 : BitVec 1 := Scalar.cmpi .slt v3 c8_i32_1
  let c8_i32 : BitVec 32 := 8#32
  let v4 : BitVec 1 := Scalar.cmpi .slt v3 c8_i32
  let c17_i32 : BitVec 32 := 17#32
  let c16_i32_0 : BitVec 32 := 16#32
  let v5 : BitVec 32 := Scalar.select v4 c17_i32 c16_i32_0
  let v7 : BitVec 32 := Scalar.muli v3 v5
  let c16_i32_2 : BitVec 32 := 16#32
  let v8 : BitVec 32 := Scalar.muli v3 c16_i32_2
  let c8_i32_3 : BitVec 32 := 8#32
  let v9 : BitVec 32 := Scalar.addi v8 c8_i32_3
  let v10 : BitVec 32 := Scalar.select v6 v7 v9
  let v120_r0 : BitVec 32 := Scalar.addi arg10_r0 v10
  let true_96_r0 : BitVec 1 := 1#1
  let c1_i32_95_r0 : BitVec 32 := 1#32
  let v127_r0 : BitVec 32 := Scalar.addi arg10_r0 c1_i32_95_r0
  let v128_r0 : BitVec 32 := Scalar.select true_96_r0 v127_r0 arg10_r0
  let v129_r0 : BitVec 1 := Scalar.cmpi .eq v128_r0 v5
  let c0_i32_97_r0 : BitVec 32 := 0#32
  let v130_r0 : BitVec 32 := Scalar.select v129_r0 c0_i32_97_r0 v128_r0
  let v131_r0 : BitVec 32 := Scalar.addi v130_r0 v10
  let v174_r0 : BitVec 1 := Scalar.cmpi .ne v120_r0 v131_r0
  let c0_i32_60_r0 : BitVec 32 := 0#32
  let c1_i32_4 : BitVec 32 := 1#32
  let v11 : BitVec 32 := Scalar.muli c1_i32_4 v5
  let v78_r0 : BitVec 32 := Scalar.subi v11 c0_i32_60_r0
  let c1_i32_65_r0 : BitVec 32 := 1#32
  let v80_r0 : BitVec 32 := Scalar.divsi v78_r0 c1_i32_65_r0
  let v81_r0 : BitVec 32 := Scalar.muli v80_r0 c1_i32_65_r0
  let v82_r0 : BitVec 32 := Scalar.addi c0_i32_60_r0 v81_r0
  let c1_i32_67_r0 : BitVec 32 := 1#32
  let arg5_r0 : BitVec 32 := Scf.iv v82_r0 c1_i32_67_r0 k0_t2
  let c1_i32_88_r0 : BitVec 32 := 1#32
  let v116_r0 : BitVec 32 := Scalar.muli c1_i32_88_r0 v5
  let c1_i32_90_r0 : BitVec 32 := 1#32
  let v118_r0 : BitVec 32 := Scalar.subi v116_r0 c1_i32_90_r0
  let v119_r0 : BitVec 1 := Scalar.cmpi .eq arg5_r0 v118_r0
  let v175_r0 : BitVec 1 := Scalar.ori v174_r0 v119_r0
  let v176_r0 : BitVec 32 := Scalar.extui v175_r0
  let c0_i32_119_r0 : BitVec 32 := 0#32
  let v177_r0 : BitVec 1 := Scalar.cmpi .ne v176_r0 c0_i32_119_r0
  v177_r0

def k0_off27 (i : grid0.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_1 : BitVec 32 := 8#32
  let v6 : BitVec 1 := Scalar.cmpi .slt v3 c8_i32_1
  let c8_i32 : BitVec 32 := 8#32
  let v4 : BitVec 1 := Scalar.cmpi .slt v3 c8_i32
  let c17_i32 : BitVec 32 := 17#32
  let c16_i32_0 : BitVec 32 := 16#32
  let v5 : BitVec 32 := Scalar.select v4 c17_i32 c16_i32_0
  let v7 : BitVec 32 := Scalar.muli v3 v5
  let c16_i32_2 : BitVec 32 := 16#32
  let v8 : BitVec 32 := Scalar.muli v3 c16_i32_2
  let c8_i32_3 : BitVec 32 := 8#32
  let v9 : BitVec 32 := Scalar.addi v8 c8_i32_3
  let v10 : BitVec 32 := Scalar.select v6 v7 v9
  let v120_r0 : BitVec 32 := Scalar.addi arg10_r0 v10
  let v204_r0 : BitVec 32 := Scalar.muli c128_i32_r0 v120_r0
  let c0_i32_136_r0 : BitVec 32 := 0#32
  ![v204_r0.toNat, 0]
def k0_off28 (arg8_r0 : BitVec 32) : Fin 1 → Nat :=
  let c2_i32_133_r0 : BitVec 32 := 2#32
  let v203_r0 : BitVec 32 := Scalar.remui arg8_r0 c2_i32_133_r0
  ![v203_r0.toNat]
def k0_off29 (arg9_r0 : BitVec 32) : Fin 3 → Nat :=
  let c2_i32_133_r0 : BitVec 32 := 2#32
  let v203_r0 : BitVec 32 := Scalar.remui arg9_r0 c2_i32_133_r0
  let c0_i32_134_r0 : BitVec 32 := 0#32
  let c0_i32_135_r0 : BitVec 32 := 0#32
  ![v203_r0.toNat, 0, 0]
def k0_cond16 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_1 : BitVec 32 := 8#32
  let v6 : BitVec 1 := Scalar.cmpi .slt v3 c8_i32_1
  let c8_i32 : BitVec 32 := 8#32
  let v4 : BitVec 1 := Scalar.cmpi .slt v3 c8_i32
  let c17_i32 : BitVec 32 := 17#32
  let c16_i32_0 : BitVec 32 := 16#32
  let v5 : BitVec 32 := Scalar.select v4 c17_i32 c16_i32_0
  let v7 : BitVec 32 := Scalar.muli v3 v5
  let c16_i32_2 : BitVec 32 := 16#32
  let v8 : BitVec 32 := Scalar.muli v3 c16_i32_2
  let c8_i32_3 : BitVec 32 := 8#32
  let v9 : BitVec 32 := Scalar.addi v8 c8_i32_3
  let v10 : BitVec 32 := Scalar.select v6 v7 v9
  let v120_r0 : BitVec 32 := Scalar.addi arg10_r0 v10
  let true_92_r0 : BitVec 1 := 1#1
  let c1_i32_91_r0 : BitVec 32 := 1#32
  let v121_r0 : BitVec 32 := Scalar.subi arg10_r0 c1_i32_91_r0
  let v122_r0 : BitVec 32 := Scalar.select true_92_r0 v121_r0 arg10_r0
  let c_m1_i32_93_r0 : BitVec 32 := 4294967295#32
  let v123_r0 : BitVec 1 := Scalar.cmpi .eq v122_r0 c_m1_i32_93_r0
  let c1_i32_94_r0 : BitVec 32 := 1#32
  let v124_r0 : BitVec 32 := Scalar.subi v5 c1_i32_94_r0
  let v125_r0 : BitVec 32 := Scalar.select v123_r0 v124_r0 v122_r0
  let v126_r0 : BitVec 32 := Scalar.addi v125_r0 v10
  let v187_r0 : BitVec 1 := Scalar.cmpi .ne v120_r0 v126_r0
  let c0_i32_60_r0 : BitVec 32 := 0#32
  let c1_i32_4 : BitVec 32 := 1#32
  let v11 : BitVec 32 := Scalar.muli c1_i32_4 v5
  let v78_r0 : BitVec 32 := Scalar.subi v11 c0_i32_60_r0
  let c1_i32_65_r0 : BitVec 32 := 1#32
  let v80_r0 : BitVec 32 := Scalar.divsi v78_r0 c1_i32_65_r0
  let v81_r0 : BitVec 32 := Scalar.muli v80_r0 c1_i32_65_r0
  let v82_r0 : BitVec 32 := Scalar.addi c0_i32_60_r0 v81_r0
  let c1_i32_67_r0 : BitVec 32 := 1#32
  let arg5_r0 : BitVec 32 := Scf.iv v82_r0 c1_i32_67_r0 k0_t2
  let c0_i32_89_r0 : BitVec 32 := 0#32
  let v117_r0 : BitVec 1 := Scalar.cmpi .eq arg5_r0 c0_i32_89_r0
  let true_125_r0 : BitVec 1 := 1#1
  let v188_r0 : BitVec 1 := Scalar.xori v117_r0 true_125_r0
  let v189_r0 : BitVec 1 := Scalar.andi v187_r0 v188_r0
  let v190_r0 : BitVec 32 := Scalar.extui v189_r0
  let c0_i32_126_r0 : BitVec 32 := 0#32
  let v191_r0 : BitVec 1 := Scalar.cmpi .ne v190_r0 c0_i32_126_r0
  v191_r0

def k0_off30 (i : grid0.Coords) (arg10_r0 : BitVec 32) : Fin 2 → Nat :=
  let c128_i32_r0 : BitVec 32 := 128#32
  let true_92_r0 : BitVec 1 := 1#1
  let c1_i32_91_r0 : BitVec 32 := 1#32
  let v121_r0 : BitVec 32 := Scalar.subi arg10_r0 c1_i32_91_r0
  let v122_r0 : BitVec 32 := Scalar.select true_92_r0 v121_r0 arg10_r0
  let c_m1_i32_93_r0 : BitVec 32 := 4294967295#32
  let v123_r0 : BitVec 1 := Scalar.cmpi .eq v122_r0 c_m1_i32_93_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c17_i32 : BitVec 32 := 17#32
  let c16_i32_0 : BitVec 32 := 16#32
  let v5 : BitVec 32 := Scalar.select v4 c17_i32 c16_i32_0
  let c1_i32_94_r0 : BitVec 32 := 1#32
  let v124_r0 : BitVec 32 := Scalar.subi v5 c1_i32_94_r0
  let v125_r0 : BitVec 32 := Scalar.select v123_r0 v124_r0 v122_r0
  let c8_i32_1 : BitVec 32 := 8#32
  let v6 : BitVec 1 := Scalar.cmpi .slt v3 c8_i32_1
  let v7 : BitVec 32 := Scalar.muli v3 v5
  let c16_i32_2 : BitVec 32 := 16#32
  let v8 : BitVec 32 := Scalar.muli v3 c16_i32_2
  let c8_i32_3 : BitVec 32 := 8#32
  let v9 : BitVec 32 := Scalar.addi v8 c8_i32_3
  let v10 : BitVec 32 := Scalar.select v6 v7 v9
  let v126_r0 : BitVec 32 := Scalar.addi v125_r0 v10
  let v204_r0 : BitVec 32 := Scalar.muli c128_i32_r0 v126_r0
  let c0_i32_136_r0 : BitVec 32 := 0#32
  ![v204_r0.toNat, 0]
def k0_off31 (arg9_r0 : BitVec 32) : Fin 1 → Nat :=
  let c2_i32_133_r0 : BitVec 32 := 2#32
  let v203_r0 : BitVec 32 := Scalar.remui arg9_r0 c2_i32_133_r0
  ![v203_r0.toNat]

def k0_chk4 (i : grid0.Coords) (k0_t2 : Fin (k0_t2_loop i).trips) (arg6_r0 : BitVec 32) (arg7_r0 : BitVec 32) (arg8_r0 : BitVec 32) (arg9_r0 : BitVec 32) (arg10_r0 : BitVec 32) : Prop :=
  (∀ (k0_h1 : k0_cond1 i = 1#1), ∀ (k0_h10 : k0_cond10 i k0_t2 arg10_r0 = 1#1), ∀ a, (k0_off18 arg6_r0) a + S1x1x128.size a ≤ S2x1x128.size a) ∧
  (∀ (k0_h1 : k0_cond1 i = 1#1), ∀ (k0_h10 : k0_cond10 i k0_t2 arg10_r0 = 1#1), ∀ a, (k0_off19 i arg10_r0) a + S1x128.size a ≤ S1x66560.size a) ∧
  (∀ (k0_h1 : k0_cond1 i = 1#1), ∀ (k0_h10 : k0_cond10 i k0_t2 arg10_r0 = 1#1), ∀ a, (k0_off20 arg6_r0) a + S1.size a ≤ S2.size a) ∧
  (∀ (k0_h1 : k0_cond1 i = 1#1), ∀ (k0_h11 : k0_cond11 i k0_t2 arg10_r0 = 1#1), ∀ a, (k0_off21 arg7_r0) a + S1x1x128.size a ≤ S2x1x128.size a) ∧
  (∀ (k0_h1 : k0_cond1 i = 1#1), ∀ (k0_h11 : k0_cond11 i k0_t2 arg10_r0 = 1#1), ∀ a, (k0_off22 i arg10_r0) a + S1x128.size a ≤ S1x66560.size a) ∧
  (∀ (k0_h1 : k0_cond1 i = 1#1), ∀ (k0_h11 : k0_cond11 i k0_t2 arg10_r0 = 1#1), ∀ a, (k0_off23 arg7_r0) a + S1.size a ≤ S2.size a) ∧
  (∀ (k0_h1 : k0_cond1 i = 1#1), ∀ (k0_h14 : k0_cond14 i k0_t2 arg10_r0 = 1#1), ∀ a, (k0_off26 arg8_r0) a + S1x128x256.size a ≤ S2x128x256.size a) ∧
  (∀ (k0_h1 : k0_cond1 i = 1#1), ∀ (k0_h14 : k0_cond14 i k0_t2 arg10_r0 = 1#1), ∀ a, (k0_off27 i arg10_r0) a + S128x256.size a ≤ S66560x1024.size a) ∧
  (∀ (k0_h1 : k0_cond1 i = 1#1), ∀ (k0_h14 : k0_cond14 i k0_t2 arg10_r0 = 1#1), ∀ a, (k0_off28 arg8_r0) a + S1.size a ≤ S2.size a) ∧
  (∀ (k0_h1 : k0_cond1 i = 1#1), ∀ (k0_h16 : k0_cond16 i k0_t2 arg10_r0 = 1#1), ∀ a, (k0_off29 arg9_r0) a + S1x128x256.size a ≤ S2x128x256.size a) ∧
  (∀ (k0_h1 : k0_cond1 i = 1#1), ∀ (k0_h16 : k0_cond16 i k0_t2 arg10_r0 = 1#1), ∀ a, (k0_off30 i arg10_r0) a + S128x256.size a ≤ S66560x1024.size a) ∧
  (∀ (k0_h1 : k0_cond1 i = 1#1), ∀ (k0_h16 : k0_cond16 i k0_t2 arg10_r0 = 1#1), ∀ a, (k0_off31 arg9_r0) a + S1.size a ≤ S2.size a)
theorem k0_off18_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off18 arg6_r0) a + S1x1x128.size a ≤ S2x1x128.size a := fun i k0_t2 arg6_r0 arg7_r0 arg8_r0 arg9_r0 arg10_r0 k0_hw4 k0_h1 k0_h10 => k0_hw4.1 k0_h1 k0_h10
theorem k0_off19_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off19 i arg10_r0) a + S1x128.size a ≤ S1x66560.size a := fun i k0_t2 arg6_r0 arg7_r0 arg8_r0 arg9_r0 arg10_r0 k0_hw4 k0_h1 k0_h10 => k0_hw4.2.1 k0_h1 k0_h10
theorem k0_off20_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off20 arg6_r0) a + S1.size a ≤ S2.size a := fun i k0_t2 arg6_r0 arg7_r0 arg8_r0 arg9_r0 arg10_r0 k0_hw4 k0_h1 k0_h10 => k0_hw4.2.2.1 k0_h1 k0_h10
theorem k0_off21_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off21 arg7_r0) a + S1x1x128.size a ≤ S2x1x128.size a := fun i k0_t2 arg6_r0 arg7_r0 arg8_r0 arg9_r0 arg10_r0 k0_hw4 k0_h1 k0_h11 => k0_hw4.2.2.2.1 k0_h1 k0_h11
theorem k0_off22_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off22 i arg10_r0) a + S1x128.size a ≤ S1x66560.size a := fun i k0_t2 arg6_r0 arg7_r0 arg8_r0 arg9_r0 arg10_r0 k0_hw4 k0_h1 k0_h11 => k0_hw4.2.2.2.2.1 k0_h1 k0_h11
theorem k0_off23_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off23 arg7_r0) a + S1.size a ≤ S2.size a := fun i k0_t2 arg6_r0 arg7_r0 arg8_r0 arg9_r0 arg10_r0 k0_hw4 k0_h1 k0_h11 => k0_hw4.2.2.2.2.2.1 k0_h1 k0_h11
theorem k0_off26_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off26 arg8_r0) a + S1x128x256.size a ≤ S2x128x256.size a := fun i k0_t2 arg6_r0 arg7_r0 arg8_r0 arg9_r0 arg10_r0 k0_hw4 k0_h1 k0_h14 => k0_hw4.2.2.2.2.2.2.1 k0_h1 k0_h14
theorem k0_off27_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off27 i arg10_r0) a + S128x256.size a ≤ S66560x1024.size a := fun i k0_t2 arg6_r0 arg7_r0 arg8_r0 arg9_r0 arg10_r0 k0_hw4 k0_h1 k0_h14 => k0_hw4.2.2.2.2.2.2.2.1 k0_h1 k0_h14
theorem k0_off28_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off28 arg8_r0) a + S1.size a ≤ S2.size a := fun i k0_t2 arg6_r0 arg7_r0 arg8_r0 arg9_r0 arg10_r0 k0_hw4 k0_h1 k0_h14 => k0_hw4.2.2.2.2.2.2.2.2.1 k0_h1 k0_h14
theorem k0_off29_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off29 arg9_r0) a + S1x128x256.size a ≤ S2x128x256.size a := fun i k0_t2 arg6_r0 arg7_r0 arg8_r0 arg9_r0 arg10_r0 k0_hw4 k0_h1 k0_h16 => k0_hw4.2.2.2.2.2.2.2.2.2.1 k0_h1 k0_h16
theorem k0_off30_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off30 i arg10_r0) a + S128x256.size a ≤ S66560x1024.size a := fun i k0_t2 arg6_r0 arg7_r0 arg8_r0 arg9_r0 arg10_r0 k0_hw4 k0_h1 k0_h16 => k0_hw4.2.2.2.2.2.2.2.2.2.2.1 k0_h1 k0_h16
theorem k0_off31_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off31 arg9_r0) a + S1.size a ≤ S2.size a := fun i k0_t2 arg6_r0 arg7_r0 arg8_r0 arg9_r0 arg10_r0 k0_hw4 k0_h1 k0_h16 => k0_hw4.2.2.2.2.2.2.2.2.2.2.2 k0_h1 k0_h16

def k0_cond18 (i : grid0.Coords) : BitVec 1 :=
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c17_i32 : BitVec 32 := 17#32
  let c16_i32_0 : BitVec 32 := 16#32
  let v5 : BitVec 32 := Scalar.select v4 c17_i32 c16_i32_0
  let v11 : BitVec 32 := Scalar.muli c1_i32_4 v5
  let c1_i32_72_r0 : BitVec 32 := 1#32
  let v90_r0 : BitVec 32 := Scalar.subi v11 c1_i32_72_r0
  let c1_i32_73_r0 : BitVec 32 := 1#32
  let v91_r0 : BitVec 32 := Scalar.muli c1_i32_73_r0 v5
  let c1_i32_75_r0 : BitVec 32 := 1#32
  let v93_r0 : BitVec 32 := Scalar.subi v91_r0 c1_i32_75_r0
  let v94_r0 : BitVec 1 := Scalar.cmpi .eq v90_r0 v93_r0
  let v114_r0 : BitVec 32 := Scalar.extui v94_r0
  let c0_i32_87_r0 : BitVec 32 := 0#32
  let v115_r0 : BitVec 1 := Scalar.cmpi .ne v114_r0 c0_i32_87_r0
  v115_r0

def k0_off32 (v84_3_r0 : BitVec 32) : Fin 3 → Nat :=
  let c2_i32_r0 : BitVec 32 := 2#32
  let v116_r0 : BitVec 32 := Scalar.remui v84_3_r0 c2_i32_r0
  let c0_i32_88_r0 : BitVec 32 := 0#32
  let c0_i32_89_r0 : BitVec 32 := 0#32
  ![v116_r0.toNat, 0, 0]

def k0_off33 (i : grid0.Coords) (v84_4_r0 : BitVec 32) : Fin 2 → Nat :=
  let c128_i32_r0 : BitVec 32 := 128#32
  let true_69_r0 : BitVec 1 := 1#1
  let c1_i32_68_r0 : BitVec 32 := 1#32
  let v85_r0 : BitVec 32 := Scalar.subi v84_4_r0 c1_i32_68_r0
  let v86_r0 : BitVec 32 := Scalar.select true_69_r0 v85_r0 v84_4_r0
  let c_m1_i32_70_r0 : BitVec 32 := 4294967295#32
  let v87_r0 : BitVec 1 := Scalar.cmpi .eq v86_r0 c_m1_i32_70_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c17_i32 : BitVec 32 := 17#32
  let c16_i32_0 : BitVec 32 := 16#32
  let v5 : BitVec 32 := Scalar.select v4 c17_i32 c16_i32_0
  let c1_i32_71_r0 : BitVec 32 := 1#32
  let v88_r0 : BitVec 32 := Scalar.subi v5 c1_i32_71_r0
  let v89_r0 : BitVec 32 := Scalar.select v87_r0 v88_r0 v86_r0
  let c8_i32_1 : BitVec 32 := 8#32
  let v6 : BitVec 1 := Scalar.cmpi .slt v3 c8_i32_1
  let v7 : BitVec 32 := Scalar.muli v3 v5
  let c16_i32_2 : BitVec 32 := 16#32
  let v8 : BitVec 32 := Scalar.muli v3 c16_i32_2
  let c8_i32_3 : BitVec 32 := 8#32
  let v9 : BitVec 32 := Scalar.addi v8 c8_i32_3
  let v10 : BitVec 32 := Scalar.select v6 v7 v9
  let v95_r0 : BitVec 32 := Scalar.addi v89_r0 v10
  let v117_r0 : BitVec 32 := Scalar.muli c128_i32_r0 v95_r0
  let c0_i32_90_r0 : BitVec 32 := 0#32
  ![v117_r0.toNat, 0]

def k0_chk8 (i : grid0.Coords) (v84_4_r0 : BitVec 32) : Prop :=
  (∀ (k0_h1 : k0_cond1 i = 1#1), ∀ (k0_h18 : k0_cond18 i = 1#1), ∀ a, (k0_off33 i v84_4_r0) a + S128x256.size a ≤ S66560x1024.size a)
theorem k0_off33_inb : ∀ (i : grid0.Coords) (v84_4_r0 : BitVec 32) (k0_hw8 : k0_chk8 i v84_4_r0), ∀ (k0_h1 : k0_cond1 i = 1#1), ∀ (k0_h18 : k0_cond18 i = 1#1), ∀ a, (k0_off33 i v84_4_r0) a + S128x256.size a ≤ S66560x1024.size a := fun i v84_4_r0 k0_hw8 k0_h1 k0_h18 => k0_hw8 k0_h1 k0_h18

def k0_off34 (v84_3_r0 : BitVec 32) : Fin 1 → Nat :=
  let c2_i32_r0 : BitVec 32 := 2#32
  let v116_r0 : BitVec 32 := Scalar.remui v84_3_r0 c2_i32_r0
  ![v116_r0.toNat]
def k0_off35 (v84_3_r0 : BitVec 32) : Fin 3 → Nat :=
  let c2_i32_r0 : BitVec 32 := 2#32
  let v116_r0 : BitVec 32 := Scalar.remui v84_3_r0 c2_i32_r0
  let c0_i32_92_r0 : BitVec 32 := 0#32
  let c0_i32_93_r0 : BitVec 32 := 0#32
  ![v116_r0.toNat, 0, 0]

def k0_chk7 (i : grid0.Coords) (v84_3_r0 : BitVec 32) : Prop :=
  (∀ (k0_h1 : k0_cond1 i = 1#1), ∀ (k0_h18 : k0_cond18 i = 1#1), ∀ a, (k0_off32 v84_3_r0) a + S1x128x256.size a ≤ S2x128x256.size a) ∧
  (∀ (k0_h1 : k0_cond1 i = 1#1), ∀ (k0_h18 : k0_cond18 i = 1#1), ∀ a, (k0_off34 v84_3_r0) a + S1.size a ≤ S2.size a) ∧
  (∀ (k0_h1 : k0_cond1 i = 1#1), ∀ (k0_h18 : k0_cond18 i = 1#1), ∀ a, (k0_off35 v84_3_r0) a + S1x128x256.size a ≤ S2x128x256.size a)
theorem k0_off32_inb : ∀ (i : grid0.Coords) (v84_3_r0 : BitVec 32) (k0_hw7 : k0_chk7 i v84_3_r0), ∀ (k0_h1 : k0_cond1 i = 1#1), ∀ (k0_h18 : k0_cond18 i = 1#1), ∀ a, (k0_off32 v84_3_r0) a + S1x128x256.size a ≤ S2x128x256.size a := fun i v84_3_r0 k0_hw7 k0_h1 k0_h18 => k0_hw7.1 k0_h1 k0_h18
theorem k0_off34_inb : ∀ (i : grid0.Coords) (v84_3_r0 : BitVec 32) (k0_hw7 : k0_chk7 i v84_3_r0), ∀ (k0_h1 : k0_cond1 i = 1#1), ∀ (k0_h18 : k0_cond18 i = 1#1), ∀ a, (k0_off34 v84_3_r0) a + S1.size a ≤ S2.size a := fun i v84_3_r0 k0_hw7 k0_h1 k0_h18 => k0_hw7.2.1 k0_h1 k0_h18
theorem k0_off35_inb : ∀ (i : grid0.Coords) (v84_3_r0 : BitVec 32) (k0_hw7 : k0_chk7 i v84_3_r0), ∀ (k0_h1 : k0_cond1 i = 1#1), ∀ (k0_h18 : k0_cond18 i = 1#1), ∀ a, (k0_off35 v84_3_r0) a + S1x128x256.size a ≤ S2x128x256.size a := fun i v84_3_r0 k0_hw7 k0_h1 k0_h18 => k0_hw7.2.2 k0_h1 k0_h18

def k0_cond19 (i : grid0.Coords) : BitVec 1 :=
  let c1_i32_14 : BitVec 32 := 1#32
  let c0_i32_6 : BitVec 32 := 0#32
  let arg1 : BitVec 32 := BitVec.ofNat 32 (i 1).val
  let c1_i32_5 : BitVec 32 := 1#32
  let v12 : BitVec 32 := Scalar.muli arg1 c1_i32_5
  let v13 : BitVec 32 := Scalar.addi c0_i32_6 v12
  let arg0 : BitVec 32 := BitVec.ofNat 32 (i 0).val
  let c16_i32_7 : BitVec 32 := 16#32
  let v14 : BitVec 32 := Scalar.muli arg0 c16_i32_7
  let v15 : BitVec 32 := Scalar.addi v13 v14
  let c8_i32_8 : BitVec 32 := 8#32
  let v16 : BitVec 1 := Scalar.cmpi .slt v15 c8_i32_8
  let c17_i32_9 : BitVec 32 := 17#32
  let c16_i32_10 : BitVec 32 := 16#32
  let v17 : BitVec 32 := Scalar.select v16 c17_i32_9 c16_i32_10
  let v23 : BitVec 32 := Scalar.muli c1_i32_14 v17
  let c0_i32_36_r5 : BitVec 32 := 0#32
  let v50_r5 : BitVec 1 := Scalar.cmpi .sgt v23 c0_i32_36_r5
  let v51_r5 : BitVec 32 := Scalar.extui v50_r5
  let c0_i32_37_r5 : BitVec 32 := 0#32
  let v52_r5 : BitVec 1 := Scalar.cmpi .ne v51_r5 c0_i32_37_r5
  v52_r5

def k0_cond20 (i : grid0.Coords) : BitVec 1 :=
  let true_53_r5 : BitVec 1 := 1#1
  let c1_i32_38_r5 : BitVec 32 := 1#32
  let c0_i32_6 : BitVec 32 := 0#32
  let arg1 : BitVec 32 := BitVec.ofNat 32 (i 1).val
  let c1_i32_5 : BitVec 32 := 1#32
  let v12 : BitVec 32 := Scalar.muli arg1 c1_i32_5
  let v13 : BitVec 32 := Scalar.addi c0_i32_6 v12
  let arg0 : BitVec 32 := BitVec.ofNat 32 (i 0).val
  let c16_i32_7 : BitVec 32 := 16#32
  let v14 : BitVec 32 := Scalar.muli arg0 c16_i32_7
  let v15 : BitVec 32 := Scalar.addi v13 v14
  let c8_i32_8 : BitVec 32 := 8#32
  let v16 : BitVec 1 := Scalar.cmpi .slt v15 c8_i32_8
  let c17_i32_9 : BitVec 32 := 17#32
  let c16_i32_10 : BitVec 32 := 16#32
  let v17 : BitVec 32 := Scalar.select v16 c17_i32_9 c16_i32_10
  let v53_r5 : BitVec 32 := Scalar.muli c1_i32_38_r5 v17
  let c0_i32_52_r5 : BitVec 32 := 0#32
  let v71_r5 : BitVec 1 := Scalar.cmpi .sgt v53_r5 c0_i32_52_r5
  let v72_r5 : BitVec 1 := Scalar.andi true_53_r5 v71_r5
  let true_54_r5 : BitVec 1 := 1#1
  let v73_r5 : BitVec 1 := Scalar.andi v72_r5 true_54_r5
  let v74_r5 : BitVec 32 := Scalar.extui v73_r5
  let c0_i32_56_r5 : BitVec 32 := 0#32
  let v75_r5 : BitVec 1 := Scalar.cmpi .ne v74_r5 c0_i32_56_r5
  v75_r5

def k0_off36 : Fin 3 → Nat :=
  let c0_i32_55_r5 : BitVec 32 := 0#32
  let c2_i32_r5 : BitVec 32 := 2#32
  let v116_r5 : BitVec 32 := Scalar.remui c0_i32_55_r5 c2_i32_r5
  let c0_i32_88_r5 : BitVec 32 := 0#32
  let c0_i32_89_r5 : BitVec 32 := 0#32
  ![v116_r5.toNat, 0, 0]
def k0_off37 (i : grid0.Coords) : Fin 2 → Nat :=
  let c0_i32_90_r5 : BitVec 32 := 0#32
  let c128_i32_r5 : BitVec 32 := 128#32
  let c0_i32_41_r5 : BitVec 32 := 0#32
  let c0_i32_6 : BitVec 32 := 0#32
  let arg1 : BitVec 32 := BitVec.ofNat 32 (i 1).val
  let c1_i32_5 : BitVec 32 := 1#32
  let v12 : BitVec 32 := Scalar.muli arg1 c1_i32_5
  let v13 : BitVec 32 := Scalar.addi c0_i32_6 v12
  let arg0 : BitVec 32 := BitVec.ofNat 32 (i 0).val
  let c16_i32_7 : BitVec 32 := 16#32
  let v14 : BitVec 32 := Scalar.muli arg0 c16_i32_7
  let v15 : BitVec 32 := Scalar.addi v13 v14
  let c8_i32_11 : BitVec 32 := 8#32
  let v18 : BitVec 1 := Scalar.cmpi .slt v15 c8_i32_11
  let c8_i32_8 : BitVec 32 := 8#32
  let v16 : BitVec 1 := Scalar.cmpi .slt v15 c8_i32_8
  let c17_i32_9 : BitVec 32 := 17#32
  let c16_i32_10 : BitVec 32 := 16#32
  let v17 : BitVec 32 := Scalar.select v16 c17_i32_9 c16_i32_10
  let v19 : BitVec 32 := Scalar.muli v15 v17
  let c16_i32_12 : BitVec 32 := 16#32
  let v20 : BitVec 32 := Scalar.muli v15 c16_i32_12
  let c8_i32_13 : BitVec 32 := 8#32
  let v21 : BitVec 32 := Scalar.addi v20 c8_i32_13
  let v22 : BitVec 32 := Scalar.select v18 v19 v21
  let v56_r5 : BitVec 32 := Scalar.addi c0_i32_41_r5 v22
  let v117_r5 : BitVec 32 := Scalar.muli c128_i32_r5 v56_r5
  ![0, v117_r5.toNat]
def k0_off38 : Fin 1 → Nat :=
  let c0_i32_55_r5 : BitVec 32 := 0#32
  let c2_i32_r5 : BitVec 32 := 2#32
  let v116_r5 : BitVec 32 := Scalar.remui c0_i32_55_r5 c2_i32_r5
  ![v116_r5.toNat]
@[reducible] def k0_t3_loop (i : grid0.Coords) : Scf.Loop 32 :=
  let c0_i32_60_r5 : BitVec 32 := 0#32
  let c1_i32_14 : BitVec 32 := 1#32
  let c0_i32_6 : BitVec 32 := 0#32
  let arg1 : BitVec 32 := BitVec.ofNat 32 (i 1).val
  let c1_i32_5 : BitVec 32 := 1#32
  let v12 : BitVec 32 := Scalar.muli arg1 c1_i32_5
  let v13 : BitVec 32 := Scalar.addi c0_i32_6 v12
  let arg0 : BitVec 32 := BitVec.ofNat 32 (i 0).val
  let c16_i32_7 : BitVec 32 := 16#32
  let v14 : BitVec 32 := Scalar.muli arg0 c16_i32_7
  let v15 : BitVec 32 := Scalar.addi v13 v14
  let c8_i32_8 : BitVec 32 := 8#32
  let v16 : BitVec 1 := Scalar.cmpi .slt v15 c8_i32_8
  let c17_i32_9 : BitVec 32 := 17#32
  let c16_i32_10 : BitVec 32 := 16#32
  let v17 : BitVec 32 := Scalar.select v16 c17_i32_9 c16_i32_10
  let v23 : BitVec 32 := Scalar.muli c1_i32_14 v17
  let v78_r5 : BitVec 32 := Scalar.subi v23 c0_i32_60_r5
  let c1_i32_65_r5 : BitVec 32 := 1#32
  let v80_r5 : BitVec 32 := Scalar.divsi v78_r5 c1_i32_65_r5
  let v81_r5 : BitVec 32 := Scalar.muli v80_r5 c1_i32_65_r5
  let v82_r5 : BitVec 32 := Scalar.addi c0_i32_60_r5 v81_r5
  let c1_i32_66_r5 : BitVec 32 := 1#32
  ⟨c0_i32_60_r5, v82_r5, c1_i32_66_r5⟩
def k0_off39 (arg6_r5 : BitVec 32) : Fin 3 → Nat :=
  let c2_i32_133_r5 : BitVec 32 := 2#32
  let v203_r5 : BitVec 32 := Scalar.remui arg6_r5 c2_i32_133_r5
  let c0_i32_134_r5 : BitVec 32 := 0#32
  let c0_i32_135_r5 : BitVec 32 := 0#32
  ![v203_r5.toNat, 0, 0]
def k0_cond21 (i : grid0.Coords) (k0_t3 : Fin (k0_t3_loop i).trips) (arg10_r5 : BitVec 32) : BitVec 1 :=
  let c0_i32_6 : BitVec 32 := 0#32
  let arg1 : BitVec 32 := BitVec.ofNat 32 (i 1).val
  let c1_i32_5 : BitVec 32 := 1#32
  let v12 : BitVec 32 := Scalar.muli arg1 c1_i32_5
  let v13 : BitVec 32 := Scalar.addi c0_i32_6 v12
  let arg0 : BitVec 32 := BitVec.ofNat 32 (i 0).val
  let c16_i32_7 : BitVec 32 := 16#32
  let v14 : BitVec 32 := Scalar.muli arg0 c16_i32_7
  let v15 : BitVec 32 := Scalar.addi v13 v14
  let c8_i32_11 : BitVec 32 := 8#32
  let v18 : BitVec 1 := Scalar.cmpi .slt v15 c8_i32_11
  let c8_i32_8 : BitVec 32 := 8#32
  let v16 : BitVec 1 := Scalar.cmpi .slt v15 c8_i32_8
  let c17_i32_9 : BitVec 32 := 17#32
  let c16_i32_10 : BitVec 32 := 16#32
  let v17 : BitVec 32 := Scalar.select v16 c17_i32_9 c16_i32_10
  let v19 : BitVec 32 := Scalar.muli v15 v17
  let c16_i32_12 : BitVec 32 := 16#32
  let v20 : BitVec 32 := Scalar.muli v15 c16_i32_12
  let c8_i32_13 : BitVec 32 := 8#32
  let v21 : BitVec 32 := Scalar.addi v20 c8_i32_13
  let v22 : BitVec 32 := Scalar.select v18 v19 v21
  let v120_r5 : BitVec 32 := Scalar.addi arg10_r5 v22
  let true_96_r5 : BitVec 1 := 1#1
  let c1_i32_95_r5 : BitVec 32 := 1#32
  let v127_r5 : BitVec 32 := Scalar.addi arg10_r5 c1_i32_95_r5
  let v128_r5 : BitVec 32 := Scalar.select true_96_r5 v127_r5 arg10_r5
  let v129_r5 : BitVec 1 := Scalar.cmpi .eq v128_r5 v17
  let c0_i32_97_r5 : BitVec 32 := 0#32
  let v130_r5 : BitVec 32 := Scalar.select v129_r5 c0_i32_97_r5 v128_r5
  let v131_r5 : BitVec 32 := Scalar.addi v130_r5 v22
  let v137_r5 : BitVec 1 := Scalar.cmpi .ne v120_r5 v131_r5
  let c0_i32_60_r5 : BitVec 32 := 0#32
  let c1_i32_66_r5 : BitVec 32 := 1#32
  let arg5_r5 : BitVec 32 := Scf.iv c0_i32_60_r5 c1_i32_66_r5 k0_t3
  let c1_i32_88_r5 : BitVec 32 := 1#32
  let v116_r5 : BitVec 32 := Scalar.muli c1_i32_88_r5 v17
  let c2_i32_r5 : BitVec 32 := 2#32
  let v138_r5 : BitVec 32 := Scalar.subi v116_r5 c2_i32_r5
  let c1_i32_101_r5 : BitVec 32 := 1#32
  let v139_r5 : BitVec 32 := Scalar.addi v138_r5 c1_i32_101_r5
  let v140_r5 : BitVec 1 := Scalar.cmpi .sge arg5_r5 v139_r5
  let true_102_r5 : BitVec 1 := 1#1
  let v141_r5 : BitVec 1 := Scalar.xori v140_r5 true_102_r5
  let v142_r5 : BitVec 1 := Scalar.andi v137_r5 v141_r5
  let true_103_r5 : BitVec 1 := 1#1
  let v143_r5 : BitVec 1 := Scalar.andi v142_r5 true_103_r5
  let v144_r5 : BitVec 32 := Scalar.extui v143_r5
  let c0_i32_104_r5 : BitVec 32 := 0#32
  let v145_r5 : BitVec 1 := Scalar.cmpi .ne v144_r5 c0_i32_104_r5
  v145_r5

def k0_off40 (i : grid0.Coords) (arg10_r5 : BitVec 32) : Fin 2 → Nat :=
  let c0_i32_136_r5 : BitVec 32 := 0#32
  let c128_i32_r5 : BitVec 32 := 128#32
  let true_96_r5 : BitVec 1 := 1#1
  let c1_i32_95_r5 : BitVec 32 := 1#32
  let v127_r5 : BitVec 32 := Scalar.addi arg10_r5 c1_i32_95_r5
  let v128_r5 : BitVec 32 := Scalar.select true_96_r5 v127_r5 arg10_r5
  let c0_i32_6 : BitVec 32 := 0#32
  let arg1 : BitVec 32 := BitVec.ofNat 32 (i 1).val
  let c1_i32_5 : BitVec 32 := 1#32
  let v12 : BitVec 32 := Scalar.muli arg1 c1_i32_5
  let v13 : BitVec 32 := Scalar.addi c0_i32_6 v12
  let arg0 : BitVec 32 := BitVec.ofNat 32 (i 0).val
  let c16_i32_7 : BitVec 32 := 16#32
  let v14 : BitVec 32 := Scalar.muli arg0 c16_i32_7
  let v15 : BitVec 32 := Scalar.addi v13 v14
  let c8_i32_8 : BitVec 32 := 8#32
  let v16 : BitVec 1 := Scalar.cmpi .slt v15 c8_i32_8
  let c17_i32_9 : BitVec 32 := 17#32
  let c16_i32_10 : BitVec 32 := 16#32
  let v17 : BitVec 32 := Scalar.select v16 c17_i32_9 c16_i32_10
  let v129_r5 : BitVec 1 := Scalar.cmpi .eq v128_r5 v17
  let c0_i32_97_r5 : BitVec 32 := 0#32
  let v130_r5 : BitVec 32 := Scalar.select v129_r5 c0_i32_97_r5 v128_r5
  let c8_i32_11 : BitVec 32 := 8#32
  let v18 : BitVec 1 := Scalar.cmpi .slt v15 c8_i32_11
  let v19 : BitVec 32 := Scalar.muli v15 v17
  let c16_i32_12 : BitVec 32 := 16#32
  let v20 : BitVec 32 := Scalar.muli v15 c16_i32_12
  let c8_i32_13 : BitVec 32 := 8#32
  let v21 : BitVec 32 := Scalar.addi v20 c8_i32_13
  let v22 : BitVec 32 := Scalar.select v18 v19 v21
  let v131_r5 : BitVec 32 := Scalar.addi v130_r5 v22
  let v204_r5 : BitVec 32 := Scalar.muli c128_i32_r5 v131_r5
  ![0, v204_r5.toNat]
def k0_off41 (arg6_r5 : BitVec 32) : Fin 1 → Nat :=
  let c2_i32_133_r5 : BitVec 32 := 2#32
  let v203_r5 : BitVec 32 := Scalar.remui arg6_r5 c2_i32_133_r5
  ![v203_r5.toNat]
def k0_off42 (arg7_r5 : BitVec 32) : Fin 3 → Nat :=
  let c2_i32_133_r5 : BitVec 32 := 2#32
  let v204_r5 : BitVec 32 := Scalar.remui arg7_r5 c2_i32_133_r5
  let c0_i32_134_r5 : BitVec 32 := 0#32
  let c0_i32_135_r5 : BitVec 32 := 0#32
  ![v204_r5.toNat, 0, 0]
def k0_cond22 (i : grid0.Coords) (k0_t3 : Fin (k0_t3_loop i).trips) (arg10_r5 : BitVec 32) : BitVec 1 :=
  let c0_i32_6 : BitVec 32 := 0#32
  let arg1 : BitVec 32 := BitVec.ofNat 32 (i 1).val
  let c1_i32_5 : BitVec 32 := 1#32
  let v12 : BitVec 32 := Scalar.muli arg1 c1_i32_5
  let v13 : BitVec 32 := Scalar.addi c0_i32_6 v12
  let arg0 : BitVec 32 := BitVec.ofNat 32 (i 0).val
  let c16_i32_7 : BitVec 32 := 16#32
  let v14 : BitVec 32 := Scalar.muli arg0 c16_i32_7
  let v15 : BitVec 32 := Scalar.addi v13 v14
  let c8_i32_11 : BitVec 32 := 8#32
  let v18 : BitVec 1 := Scalar.cmpi .slt v15 c8_i32_11
  let c8_i32_8 : BitVec 32 := 8#32
  let v16 : BitVec 1 := Scalar.cmpi .slt v15 c8_i32_8
  let c17_i32_9 : BitVec 32 := 17#32
  let c16_i32_10 : BitVec 32 := 16#32
  let v17 : BitVec 32 := Scalar.select v16 c17_i32_9 c16_i32_10
  let v19 : BitVec 32 := Scalar.muli v15 v17
  let c16_i32_12 : BitVec 32 := 16#32
  let v20 : BitVec 32 := Scalar.muli v15 c16_i32_12
  let c8_i32_13 : BitVec 32 := 8#32
  let v21 : BitVec 32 := Scalar.addi v20 c8_i32_13
  let v22 : BitVec 32 := Scalar.select v18 v19 v21
  let v120_r5 : BitVec 32 := Scalar.addi arg10_r5 v22
  let true_92_r5 : BitVec 1 := 1#1
  let c1_i32_91_r5 : BitVec 32 := 1#32
  let v121_r5 : BitVec 32 := Scalar.subi arg10_r5 c1_i32_91_r5
  let v122_r5 : BitVec 32 := Scalar.select true_92_r5 v121_r5 arg10_r5
  let c_m1_i32_93_r5 : BitVec 32 := 4294967295#32
  let v123_r5 : BitVec 1 := Scalar.cmpi .eq v122_r5 c_m1_i32_93_r5
  let c1_i32_94_r5 : BitVec 32 := 1#32
  let v124_r5 : BitVec 32 := Scalar.subi v17 c1_i32_94_r5
  let v125_r5 : BitVec 32 := Scalar.select v123_r5 v124_r5 v122_r5
  let v126_r5 : BitVec 32 := Scalar.addi v125_r5 v22
  let v155_r5 : BitVec 1 := Scalar.cmpi .ne v120_r5 v126_r5
  let c0_i32_60_r5 : BitVec 32 := 0#32
  let c1_i32_66_r5 : BitVec 32 := 1#32
  let arg5_r5 : BitVec 32 := Scf.iv c0_i32_60_r5 c1_i32_66_r5 k0_t3
  let c0_i32_89_r5 : BitVec 32 := 0#32
  let v117_r5 : BitVec 1 := Scalar.cmpi .eq arg5_r5 c0_i32_89_r5
  let v156_r5 : BitVec 1 := Scalar.ori v155_r5 v117_r5
  let c0_i32_110_r5 : BitVec 32 := 0#32
  let v157_r5 : BitVec 1 := Scalar.cmpi .sge arg5_r5 c0_i32_110_r5
  let v158_r5 : BitVec 1 := Scalar.andi v156_r5 v157_r5
  let v159_r5 : BitVec 32 := Scalar.extui v158_r5
  let c0_i32_111_r5 : BitVec 32 := 0#32
  let v160_r5 : BitVec 1 := Scalar.cmpi .ne v159_r5 c0_i32_111_r5
  v160_r5

def k0_off43 (i : grid0.Coords) (arg10_r5 : BitVec 32) : Fin 2 → Nat :=
  let c0_i32_136_r5 : BitVec 32 := 0#32
  let c128_i32_r5 : BitVec 32 := 128#32
  let c0_i32_6 : BitVec 32 := 0#32
  let arg1 : BitVec 32 := BitVec.ofNat 32 (i 1).val
  let c1_i32_5 : BitVec 32 := 1#32
  let v12 : BitVec 32 := Scalar.muli arg1 c1_i32_5
  let v13 : BitVec 32 := Scalar.addi c0_i32_6 v12
  let arg0 : BitVec 32 := BitVec.ofNat 32 (i 0).val
  let c16_i32_7 : BitVec 32 := 16#32
  let v14 : BitVec 32 := Scalar.muli arg0 c16_i32_7
  let v15 : BitVec 32 := Scalar.addi v13 v14
  let c8_i32_11 : BitVec 32 := 8#32
  let v18 : BitVec 1 := Scalar.cmpi .slt v15 c8_i32_11
  let c8_i32_8 : BitVec 32 := 8#32
  let v16 : BitVec 1 := Scalar.cmpi .slt v15 c8_i32_8
  let c17_i32_9 : BitVec 32 := 17#32
  let c16_i32_10 : BitVec 32 := 16#32
  let v17 : BitVec 32 := Scalar.select v16 c17_i32_9 c16_i32_10
  let v19 : BitVec 32 := Scalar.muli v15 v17
  let c16_i32_12 : BitVec 32 := 16#32
  let v20 : BitVec 32 := Scalar.muli v15 c16_i32_12
  let c8_i32_13 : BitVec 32 := 8#32
  let v21 : BitVec 32 := Scalar.addi v20 c8_i32_13
  let v22 : BitVec 32 := Scalar.select v18 v19 v21
  let v120_r5 : BitVec 32 := Scalar.addi arg10_r5 v22
  let v203_r5 : BitVec 32 := Scalar.muli c128_i32_r5 v120_r5
  ![0, v203_r5.toNat]
def k0_off44 (arg7_r5 : BitVec 32) : Fin 1 → Nat :=
  let c2_i32_133_r5 : BitVec 32 := 2#32
  let v204_r5 : BitVec 32 := Scalar.remui arg7_r5 c2_i32_133_r5
  ![v204_r5.toNat]
def k0_off45 (arg8_r5 : BitVec 32) : Fin 3 → Nat :=
  let c2_i32_115_r5 : BitVec 32 := 2#32
  let v168_r5 : BitVec 32 := Scalar.remui arg8_r5 c2_i32_115_r5
  let c0_i32_133_r6 : BitVec 32 := 0#32
  let c0_i32_134_r6 : BitVec 32 := 0#32
  ![v168_r5.toNat, 0, 0]

def k0_chk10 (i : grid0.Coords) (arg8_r5 : BitVec 32) : Prop :=
  (∀ (k0_h19 : k0_cond19 i = 1#1), ∀ a, (k0_off45 arg8_r5) a + S1x128x256.size a ≤ S2x128x256.size a)
theorem k0_off45_inb : ∀ (i : grid0.Coords) (arg8_r5 : BitVec 32) (k0_hw10 : k0_chk10 i arg8_r5), ∀ (k0_h19 : k0_cond19 i = 1#1), ∀ a, (k0_off45 arg8_r5) a + S1x128x256.size a ≤ S2x128x256.size a := fun i arg8_r5 k0_hw10 k0_h19 => k0_hw10 k0_h19

def k0_off46 (arg7_r5 : BitVec 32) : Fin 3 → Nat :=
  let c2_i32_114_r5 : BitVec 32 := 2#32
  let v167_r5 : BitVec 32 := Scalar.remui arg7_r5 c2_i32_114_r5
  let c0_i32_137_r6 : BitVec 32 := 0#32
  let c0_i32_138_r6 : BitVec 32 := 0#32
  ![v167_r5.toNat, 0, 0]

def k0_chk11 (i : grid0.Coords) (arg7_r5 : BitVec 32) : Prop :=
  (∀ (k0_h19 : k0_cond19 i = 1#1), ∀ a, (k0_off46 arg7_r5) a + S1x1x128.size a ≤ S2x1x128.size a)
theorem k0_off46_inb : ∀ (i : grid0.Coords) (arg7_r5 : BitVec 32) (k0_hw11 : k0_chk11 i arg7_r5), ∀ (k0_h19 : k0_cond19 i = 1#1), ∀ a, (k0_off46 arg7_r5) a + S1x1x128.size a ≤ S2x1x128.size a := fun i arg7_r5 k0_hw11 k0_h19 => k0_hw11 k0_h19

def k0_off47 (arg8_r5 : BitVec 32) : Fin 3 → Nat :=
  let c2_i32_133_r5 : BitVec 32 := 2#32
  let v203_r5 : BitVec 32 := Scalar.remui arg8_r5 c2_i32_133_r5
  let c0_i32_134_r5 : BitVec 32 := 0#32
  let c0_i32_135_r5 : BitVec 32 := 0#32
  ![v203_r5.toNat, 0, 0]
def k0_cond25 (i : grid0.Coords) (k0_t3 : Fin (k0_t3_loop i).trips) (arg10_r5 : BitVec 32) : BitVec 1 :=
  let c0_i32_6 : BitVec 32 := 0#32
  let arg1 : BitVec 32 := BitVec.ofNat 32 (i 1).val
  let c1_i32_5 : BitVec 32 := 1#32
  let v12 : BitVec 32 := Scalar.muli arg1 c1_i32_5
  let v13 : BitVec 32 := Scalar.addi c0_i32_6 v12
  let arg0 : BitVec 32 := BitVec.ofNat 32 (i 0).val
  let c16_i32_7 : BitVec 32 := 16#32
  let v14 : BitVec 32 := Scalar.muli arg0 c16_i32_7
  let v15 : BitVec 32 := Scalar.addi v13 v14
  let c8_i32_11 : BitVec 32 := 8#32
  let v18 : BitVec 1 := Scalar.cmpi .slt v15 c8_i32_11
  let c8_i32_8 : BitVec 32 := 8#32
  let v16 : BitVec 1 := Scalar.cmpi .slt v15 c8_i32_8
  let c17_i32_9 : BitVec 32 := 17#32
  let c16_i32_10 : BitVec 32 := 16#32
  let v17 : BitVec 32 := Scalar.select v16 c17_i32_9 c16_i32_10
  let v19 : BitVec 32 := Scalar.muli v15 v17
  let c16_i32_12 : BitVec 32 := 16#32
  let v20 : BitVec 32 := Scalar.muli v15 c16_i32_12
  let c8_i32_13 : BitVec 32 := 8#32
  let v21 : BitVec 32 := Scalar.addi v20 c8_i32_13
  let v22 : BitVec 32 := Scalar.select v18 v19 v21
  let v120_r5 : BitVec 32 := Scalar.addi arg10_r5 v22
  let true_96_r5 : BitVec 1 := 1#1
  let c1_i32_95_r5 : BitVec 32 := 1#32
  let v127_r5 : BitVec 32 := Scalar.addi arg10_r5 c1_i32_95_r5
  let v128_r5 : BitVec 32 := Scalar.select true_96_r5 v127_r5 arg10_r5
  let v129_r5 : BitVec 1 := Scalar.cmpi .eq v128_r5 v17
  let c0_i32_97_r5 : BitVec 32 := 0#32
  let v130_r5 : BitVec 32 := Scalar.select v129_r5 c0_i32_97_r5 v128_r5
  let v131_r5 : BitVec 32 := Scalar.addi v130_r5 v22
  let v174_r5 : BitVec 1 := Scalar.cmpi .ne v120_r5 v131_r5
  let c0_i32_60_r5 : BitVec 32 := 0#32
  let c1_i32_66_r5 : BitVec 32 := 1#32
  let arg5_r5 : BitVec 32 := Scf.iv c0_i32_60_r5 c1_i32_66_r5 k0_t3
  let c1_i32_88_r5 : BitVec 32 := 1#32
  let v116_r5 : BitVec 32 := Scalar.muli c1_i32_88_r5 v17
  let c1_i32_90_r5 : BitVec 32 := 1#32
  let v118_r5 : BitVec 32 := Scalar.subi v116_r5 c1_i32_90_r5
  let v119_r5 : BitVec 1 := Scalar.cmpi .eq arg5_r5 v118_r5
  let v175_r5 : BitVec 1 := Scalar.ori v174_r5 v119_r5
  let v176_r5 : BitVec 32 := Scalar.extui v175_r5
  let c0_i32_119_r5 : BitVec 32 := 0#32
  let v177_r5 : BitVec 1 := Scalar.cmpi .ne v176_r5 c0_i32_119_r5
  v177_r5

def k0_off48 (i : grid0.Coords) (arg10_r5 : BitVec 32) : Fin 2 → Nat :=
  let c128_i32_r5 : BitVec 32 := 128#32
  let c0_i32_6 : BitVec 32 := 0#32
  let arg1 : BitVec 32 := BitVec.ofNat 32 (i 1).val
  let c1_i32_5 : BitVec 32 := 1#32
  let v12 : BitVec 32 := Scalar.muli arg1 c1_i32_5
  let v13 : BitVec 32 := Scalar.addi c0_i32_6 v12
  let arg0 : BitVec 32 := BitVec.ofNat 32 (i 0).val
  let c16_i32_7 : BitVec 32 := 16#32
  let v14 : BitVec 32 := Scalar.muli arg0 c16_i32_7
  let v15 : BitVec 32 := Scalar.addi v13 v14
  let c8_i32_11 : BitVec 32 := 8#32
  let v18 : BitVec 1 := Scalar.cmpi .slt v15 c8_i32_11
  let c8_i32_8 : BitVec 32 := 8#32
  let v16 : BitVec 1 := Scalar.cmpi .slt v15 c8_i32_8
  let c17_i32_9 : BitVec 32 := 17#32
  let c16_i32_10 : BitVec 32 := 16#32
  let v17 : BitVec 32 := Scalar.select v16 c17_i32_9 c16_i32_10
  let v19 : BitVec 32 := Scalar.muli v15 v17
  let c16_i32_12 : BitVec 32 := 16#32
  let v20 : BitVec 32 := Scalar.muli v15 c16_i32_12
  let c8_i32_13 : BitVec 32 := 8#32
  let v21 : BitVec 32 := Scalar.addi v20 c8_i32_13
  let v22 : BitVec 32 := Scalar.select v18 v19 v21
  let v120_r5 : BitVec 32 := Scalar.addi arg10_r5 v22
  let v204_r5 : BitVec 32 := Scalar.muli c128_i32_r5 v120_r5
  let c256_i32_r5 : BitVec 32 := 256#32
  ![v204_r5.toNat, 256]
def k0_off49 (arg8_r5 : BitVec 32) : Fin 1 → Nat :=
  let c2_i32_133_r5 : BitVec 32 := 2#32
  let v203_r5 : BitVec 32 := Scalar.remui arg8_r5 c2_i32_133_r5
  ![v203_r5.toNat]
def k0_off50 (arg9_r5 : BitVec 32) : Fin 3 → Nat :=
  let c2_i32_133_r5 : BitVec 32 := 2#32
  let v203_r5 : BitVec 32 := Scalar.remui arg9_r5 c2_i32_133_r5
  let c0_i32_134_r5 : BitVec 32 := 0#32
  let c0_i32_135_r5 : BitVec 32 := 0#32
  ![v203_r5.toNat, 0, 0]
def k0_cond27 (i : grid0.Coords) (k0_t3 : Fin (k0_t3_loop i).trips) (arg10_r5 : BitVec 32) : BitVec 1 :=
  let c0_i32_6 : BitVec 32 := 0#32
  let arg1 : BitVec 32 := BitVec.ofNat 32 (i 1).val
  let c1_i32_5 : BitVec 32 := 1#32
  let v12 : BitVec 32 := Scalar.muli arg1 c1_i32_5
  let v13 : BitVec 32 := Scalar.addi c0_i32_6 v12
  let arg0 : BitVec 32 := BitVec.ofNat 32 (i 0).val
  let c16_i32_7 : BitVec 32 := 16#32
  let v14 : BitVec 32 := Scalar.muli arg0 c16_i32_7
  let v15 : BitVec 32 := Scalar.addi v13 v14
  let c8_i32_11 : BitVec 32 := 8#32
  let v18 : BitVec 1 := Scalar.cmpi .slt v15 c8_i32_11
  let c8_i32_8 : BitVec 32 := 8#32
  let v16 : BitVec 1 := Scalar.cmpi .slt v15 c8_i32_8
  let c17_i32_9 : BitVec 32 := 17#32
  let c16_i32_10 : BitVec 32 := 16#32
  let v17 : BitVec 32 := Scalar.select v16 c17_i32_9 c16_i32_10
  let v19 : BitVec 32 := Scalar.muli v15 v17
  let c16_i32_12 : BitVec 32 := 16#32
  let v20 : BitVec 32 := Scalar.muli v15 c16_i32_12
  let c8_i32_13 : BitVec 32 := 8#32
  let v21 : BitVec 32 := Scalar.addi v20 c8_i32_13
  let v22 : BitVec 32 := Scalar.select v18 v19 v21
  let v120_r5 : BitVec 32 := Scalar.addi arg10_r5 v22
  let true_92_r5 : BitVec 1 := 1#1
  let c1_i32_91_r5 : BitVec 32 := 1#32
  let v121_r5 : BitVec 32 := Scalar.subi arg10_r5 c1_i32_91_r5
  let v122_r5 : BitVec 32 := Scalar.select true_92_r5 v121_r5 arg10_r5
  let c_m1_i32_93_r5 : BitVec 32 := 4294967295#32
  let v123_r5 : BitVec 1 := Scalar.cmpi .eq v122_r5 c_m1_i32_93_r5
  let c1_i32_94_r5 : BitVec 32 := 1#32
  let v124_r5 : BitVec 32 := Scalar.subi v17 c1_i32_94_r5
  let v125_r5 : BitVec 32 := Scalar.select v123_r5 v124_r5 v122_r5
  let v126_r5 : BitVec 32 := Scalar.addi v125_r5 v22
  let v187_r5 : BitVec 1 := Scalar.cmpi .ne v120_r5 v126_r5
  let c0_i32_60_r5 : BitVec 32 := 0#32
  let c1_i32_66_r5 : BitVec 32 := 1#32
  let arg5_r5 : BitVec 32 := Scf.iv c0_i32_60_r5 c1_i32_66_r5 k0_t3
  let c0_i32_89_r5 : BitVec 32 := 0#32
  let v117_r5 : BitVec 1 := Scalar.cmpi .eq arg5_r5 c0_i32_89_r5
  let true_125_r5 : BitVec 1 := 1#1
  let v188_r5 : BitVec 1 := Scalar.xori v117_r5 true_125_r5
  let v189_r5 : BitVec 1 := Scalar.andi v187_r5 v188_r5
  let v190_r5 : BitVec 32 := Scalar.extui v189_r5
  let c0_i32_126_r5 : BitVec 32 := 0#32
  let v191_r5 : BitVec 1 := Scalar.cmpi .ne v190_r5 c0_i32_126_r5
  v191_r5

def k0_off51 (i : grid0.Coords) (arg10_r5 : BitVec 32) : Fin 2 → Nat :=
  let c128_i32_r5 : BitVec 32 := 128#32
  let true_92_r5 : BitVec 1 := 1#1
  let c1_i32_91_r5 : BitVec 32 := 1#32
  let v121_r5 : BitVec 32 := Scalar.subi arg10_r5 c1_i32_91_r5
  let v122_r5 : BitVec 32 := Scalar.select true_92_r5 v121_r5 arg10_r5
  let c_m1_i32_93_r5 : BitVec 32 := 4294967295#32
  let v123_r5 : BitVec 1 := Scalar.cmpi .eq v122_r5 c_m1_i32_93_r5
  let c0_i32_6 : BitVec 32 := 0#32
  let arg1 : BitVec 32 := BitVec.ofNat 32 (i 1).val
  let c1_i32_5 : BitVec 32 := 1#32
  let v12 : BitVec 32 := Scalar.muli arg1 c1_i32_5
  let v13 : BitVec 32 := Scalar.addi c0_i32_6 v12
  let arg0 : BitVec 32 := BitVec.ofNat 32 (i 0).val
  let c16_i32_7 : BitVec 32 := 16#32
  let v14 : BitVec 32 := Scalar.muli arg0 c16_i32_7
  let v15 : BitVec 32 := Scalar.addi v13 v14
  let c8_i32_8 : BitVec 32 := 8#32
  let v16 : BitVec 1 := Scalar.cmpi .slt v15 c8_i32_8
  let c17_i32_9 : BitVec 32 := 17#32
  let c16_i32_10 : BitVec 32 := 16#32
  let v17 : BitVec 32 := Scalar.select v16 c17_i32_9 c16_i32_10
  let c1_i32_94_r5 : BitVec 32 := 1#32
  let v124_r5 : BitVec 32 := Scalar.subi v17 c1_i32_94_r5
  let v125_r5 : BitVec 32 := Scalar.select v123_r5 v124_r5 v122_r5
  let c8_i32_11 : BitVec 32 := 8#32
  let v18 : BitVec 1 := Scalar.cmpi .slt v15 c8_i32_11
  let v19 : BitVec 32 := Scalar.muli v15 v17
  let c16_i32_12 : BitVec 32 := 16#32
  let v20 : BitVec 32 := Scalar.muli v15 c16_i32_12
  let c8_i32_13 : BitVec 32 := 8#32
  let v21 : BitVec 32 := Scalar.addi v20 c8_i32_13
  let v22 : BitVec 32 := Scalar.select v18 v19 v21
  let v126_r5 : BitVec 32 := Scalar.addi v125_r5 v22
  let v204_r5 : BitVec 32 := Scalar.muli c128_i32_r5 v126_r5
  let c256_i32_r5 : BitVec 32 := 256#32
  ![v204_r5.toNat, 256]
def k0_off52 (arg9_r5 : BitVec 32) : Fin 1 → Nat :=
  let c2_i32_133_r5 : BitVec 32 := 2#32
  let v203_r5 : BitVec 32 := Scalar.remui arg9_r5 c2_i32_133_r5
  ![v203_r5.toNat]

def k0_chk9 (i : grid0.Coords) (k0_t3 : Fin (k0_t3_loop i).trips) (arg6_r5 : BitVec 32) (arg7_r5 : BitVec 32) (arg8_r5 : BitVec 32) (arg9_r5 : BitVec 32) (arg10_r5 : BitVec 32) : Prop :=
  (∀ (k0_h19 : k0_cond19 i = 1#1), ∀ (k0_h21 : k0_cond21 i k0_t3 arg10_r5 = 1#1), ∀ a, (k0_off39 arg6_r5) a + S1x1x128.size a ≤ S2x1x128.size a) ∧
  (∀ (k0_h19 : k0_cond19 i = 1#1), ∀ (k0_h21 : k0_cond21 i k0_t3 arg10_r5 = 1#1), ∀ a, (k0_off40 i arg10_r5) a + S1x128.size a ≤ S1x66560.size a) ∧
  (∀ (k0_h19 : k0_cond19 i = 1#1), ∀ (k0_h21 : k0_cond21 i k0_t3 arg10_r5 = 1#1), ∀ a, (k0_off41 arg6_r5) a + S1.size a ≤ S2.size a) ∧
  (∀ (k0_h19 : k0_cond19 i = 1#1), ∀ (k0_h22 : k0_cond22 i k0_t3 arg10_r5 = 1#1), ∀ a, (k0_off42 arg7_r5) a + S1x1x128.size a ≤ S2x1x128.size a) ∧
  (∀ (k0_h19 : k0_cond19 i = 1#1), ∀ (k0_h22 : k0_cond22 i k0_t3 arg10_r5 = 1#1), ∀ a, (k0_off43 i arg10_r5) a + S1x128.size a ≤ S1x66560.size a) ∧
  (∀ (k0_h19 : k0_cond19 i = 1#1), ∀ (k0_h22 : k0_cond22 i k0_t3 arg10_r5 = 1#1), ∀ a, (k0_off44 arg7_r5) a + S1.size a ≤ S2.size a) ∧
  (∀ (k0_h19 : k0_cond19 i = 1#1), ∀ (k0_h25 : k0_cond25 i k0_t3 arg10_r5 = 1#1), ∀ a, (k0_off47 arg8_r5) a + S1x128x256.size a ≤ S2x128x256.size a) ∧
  (∀ (k0_h19 : k0_cond19 i = 1#1), ∀ (k0_h25 : k0_cond25 i k0_t3 arg10_r5 = 1#1), ∀ a, (k0_off48 i arg10_r5) a + S128x256.size a ≤ S66560x1024.size a) ∧
  (∀ (k0_h19 : k0_cond19 i = 1#1), ∀ (k0_h25 : k0_cond25 i k0_t3 arg10_r5 = 1#1), ∀ a, (k0_off49 arg8_r5) a + S1.size a ≤ S2.size a) ∧
  (∀ (k0_h19 : k0_cond19 i = 1#1), ∀ (k0_h27 : k0_cond27 i k0_t3 arg10_r5 = 1#1), ∀ a, (k0_off50 arg9_r5) a + S1x128x256.size a ≤ S2x128x256.size a) ∧
  (∀ (k0_h19 : k0_cond19 i = 1#1), ∀ (k0_h27 : k0_cond27 i k0_t3 arg10_r5 = 1#1), ∀ a, (k0_off51 i arg10_r5) a + S128x256.size a ≤ S66560x1024.size a) ∧
  (∀ (k0_h19 : k0_cond19 i = 1#1), ∀ (k0_h27 : k0_cond27 i k0_t3 arg10_r5 = 1#1), ∀ a, (k0_off52 arg9_r5) a + S1.size a ≤ S2.size a)
theorem k0_off39_inb : ∀ (i : grid0.Coords) (k0_t3 : Fin (k0_t3_loop i).trips) (arg6_r5 : BitVec 32) (arg7_r5 : BitVec 32) (arg8_r5 : BitVec 32) (arg9_r5 : BitVec 32) (arg10_r5 : BitVec 32) (k0_hw9 : k0_chk9 i k0_t3 arg6_r5 arg7_r5 arg8_r5 arg9_r5 arg10_r5), ∀ (k0_h19 : k0_cond19 i = 1#1), ∀ (k0_h21 : k0_cond21 i k0_t3 arg10_r5 = 1#1), ∀ a, (k0_off39 arg6_r5) a + S1x1x128.size a ≤ S2x1x128.size a := fun i k0_t3 arg6_r5 arg7_r5 arg8_r5 arg9_r5 arg10_r5 k0_hw9 k0_h19 k0_h21 => k0_hw9.1 k0_h19 k0_h21
theorem k0_off40_inb : ∀ (i : grid0.Coords) (k0_t3 : Fin (k0_t3_loop i).trips) (arg6_r5 : BitVec 32) (arg7_r5 : BitVec 32) (arg8_r5 : BitVec 32) (arg9_r5 : BitVec 32) (arg10_r5 : BitVec 32) (k0_hw9 : k0_chk9 i k0_t3 arg6_r5 arg7_r5 arg8_r5 arg9_r5 arg10_r5), ∀ (k0_h19 : k0_cond19 i = 1#1), ∀ (k0_h21 : k0_cond21 i k0_t3 arg10_r5 = 1#1), ∀ a, (k0_off40 i arg10_r5) a + S1x128.size a ≤ S1x66560.size a := fun i k0_t3 arg6_r5 arg7_r5 arg8_r5 arg9_r5 arg10_r5 k0_hw9 k0_h19 k0_h21 => k0_hw9.2.1 k0_h19 k0_h21
theorem k0_off41_inb : ∀ (i : grid0.Coords) (k0_t3 : Fin (k0_t3_loop i).trips) (arg6_r5 : BitVec 32) (arg7_r5 : BitVec 32) (arg8_r5 : BitVec 32) (arg9_r5 : BitVec 32) (arg10_r5 : BitVec 32) (k0_hw9 : k0_chk9 i k0_t3 arg6_r5 arg7_r5 arg8_r5 arg9_r5 arg10_r5), ∀ (k0_h19 : k0_cond19 i = 1#1), ∀ (k0_h21 : k0_cond21 i k0_t3 arg10_r5 = 1#1), ∀ a, (k0_off41 arg6_r5) a + S1.size a ≤ S2.size a := fun i k0_t3 arg6_r5 arg7_r5 arg8_r5 arg9_r5 arg10_r5 k0_hw9 k0_h19 k0_h21 => k0_hw9.2.2.1 k0_h19 k0_h21
theorem k0_off42_inb : ∀ (i : grid0.Coords) (k0_t3 : Fin (k0_t3_loop i).trips) (arg6_r5 : BitVec 32) (arg7_r5 : BitVec 32) (arg8_r5 : BitVec 32) (arg9_r5 : BitVec 32) (arg10_r5 : BitVec 32) (k0_hw9 : k0_chk9 i k0_t3 arg6_r5 arg7_r5 arg8_r5 arg9_r5 arg10_r5), ∀ (k0_h19 : k0_cond19 i = 1#1), ∀ (k0_h22 : k0_cond22 i k0_t3 arg10_r5 = 1#1), ∀ a, (k0_off42 arg7_r5) a + S1x1x128.size a ≤ S2x1x128.size a := fun i k0_t3 arg6_r5 arg7_r5 arg8_r5 arg9_r5 arg10_r5 k0_hw9 k0_h19 k0_h22 => k0_hw9.2.2.2.1 k0_h19 k0_h22
theorem k0_off43_inb : ∀ (i : grid0.Coords) (k0_t3 : Fin (k0_t3_loop i).trips) (arg6_r5 : BitVec 32) (arg7_r5 : BitVec 32) (arg8_r5 : BitVec 32) (arg9_r5 : BitVec 32) (arg10_r5 : BitVec 32) (k0_hw9 : k0_chk9 i k0_t3 arg6_r5 arg7_r5 arg8_r5 arg9_r5 arg10_r5), ∀ (k0_h19 : k0_cond19 i = 1#1), ∀ (k0_h22 : k0_cond22 i k0_t3 arg10_r5 = 1#1), ∀ a, (k0_off43 i arg10_r5) a + S1x128.size a ≤ S1x66560.size a := fun i k0_t3 arg6_r5 arg7_r5 arg8_r5 arg9_r5 arg10_r5 k0_hw9 k0_h19 k0_h22 => k0_hw9.2.2.2.2.1 k0_h19 k0_h22
theorem k0_off44_inb : ∀ (i : grid0.Coords) (k0_t3 : Fin (k0_t3_loop i).trips) (arg6_r5 : BitVec 32) (arg7_r5 : BitVec 32) (arg8_r5 : BitVec 32) (arg9_r5 : BitVec 32) (arg10_r5 : BitVec 32) (k0_hw9 : k0_chk9 i k0_t3 arg6_r5 arg7_r5 arg8_r5 arg9_r5 arg10_r5), ∀ (k0_h19 : k0_cond19 i = 1#1), ∀ (k0_h22 : k0_cond22 i k0_t3 arg10_r5 = 1#1), ∀ a, (k0_off44 arg7_r5) a + S1.size a ≤ S2.size a := fun i k0_t3 arg6_r5 arg7_r5 arg8_r5 arg9_r5 arg10_r5 k0_hw9 k0_h19 k0_h22 => k0_hw9.2.2.2.2.2.1 k0_h19 k0_h22
theorem k0_off47_inb : ∀ (i : grid0.Coords) (k0_t3 : Fin (k0_t3_loop i).trips) (arg6_r5 : BitVec 32) (arg7_r5 : BitVec 32) (arg8_r5 : BitVec 32) (arg9_r5 : BitVec 32) (arg10_r5 : BitVec 32) (k0_hw9 : k0_chk9 i k0_t3 arg6_r5 arg7_r5 arg8_r5 arg9_r5 arg10_r5), ∀ (k0_h19 : k0_cond19 i = 1#1), ∀ (k0_h25 : k0_cond25 i k0_t3 arg10_r5 = 1#1), ∀ a, (k0_off47 arg8_r5) a + S1x128x256.size a ≤ S2x128x256.size a := fun i k0_t3 arg6_r5 arg7_r5 arg8_r5 arg9_r5 arg10_r5 k0_hw9 k0_h19 k0_h25 => k0_hw9.2.2.2.2.2.2.1 k0_h19 k0_h25
theorem k0_off48_inb : ∀ (i : grid0.Coords) (k0_t3 : Fin (k0_t3_loop i).trips) (arg6_r5 : BitVec 32) (arg7_r5 : BitVec 32) (arg8_r5 : BitVec 32) (arg9_r5 : BitVec 32) (arg10_r5 : BitVec 32) (k0_hw9 : k0_chk9 i k0_t3 arg6_r5 arg7_r5 arg8_r5 arg9_r5 arg10_r5), ∀ (k0_h19 : k0_cond19 i = 1#1), ∀ (k0_h25 : k0_cond25 i k0_t3 arg10_r5 = 1#1), ∀ a, (k0_off48 i arg10_r5) a + S128x256.size a ≤ S66560x1024.size a := fun i k0_t3 arg6_r5 arg7_r5 arg8_r5 arg9_r5 arg10_r5 k0_hw9 k0_h19 k0_h25 => k0_hw9.2.2.2.2.2.2.2.1 k0_h19 k0_h25
theorem k0_off49_inb : ∀ (i : grid0.Coords) (k0_t3 : Fin (k0_t3_loop i).trips) (arg6_r5 : BitVec 32) (arg7_r5 : BitVec 32) (arg8_r5 : BitVec 32) (arg9_r5 : BitVec 32) (arg10_r5 : BitVec 32) (k0_hw9 : k0_chk9 i k0_t3 arg6_r5 arg7_r5 arg8_r5 arg9_r5 arg10_r5), ∀ (k0_h19 : k0_cond19 i = 1#1), ∀ (k0_h25 : k0_cond25 i k0_t3 arg10_r5 = 1#1), ∀ a, (k0_off49 arg8_r5) a + S1.size a ≤ S2.size a := fun i k0_t3 arg6_r5 arg7_r5 arg8_r5 arg9_r5 arg10_r5 k0_hw9 k0_h19 k0_h25 => k0_hw9.2.2.2.2.2.2.2.2.1 k0_h19 k0_h25
theorem k0_off50_inb : ∀ (i : grid0.Coords) (k0_t3 : Fin (k0_t3_loop i).trips) (arg6_r5 : BitVec 32) (arg7_r5 : BitVec 32) (arg8_r5 : BitVec 32) (arg9_r5 : BitVec 32) (arg10_r5 : BitVec 32) (k0_hw9 : k0_chk9 i k0_t3 arg6_r5 arg7_r5 arg8_r5 arg9_r5 arg10_r5), ∀ (k0_h19 : k0_cond19 i = 1#1), ∀ (k0_h27 : k0_cond27 i k0_t3 arg10_r5 = 1#1), ∀ a, (k0_off50 arg9_r5) a + S1x128x256.size a ≤ S2x128x256.size a := fun i k0_t3 arg6_r5 arg7_r5 arg8_r5 arg9_r5 arg10_r5 k0_hw9 k0_h19 k0_h27 => k0_hw9.2.2.2.2.2.2.2.2.2.1 k0_h19 k0_h27
theorem k0_off51_inb : ∀ (i : grid0.Coords) (k0_t3 : Fin (k0_t3_loop i).trips) (arg6_r5 : BitVec 32) (arg7_r5 : BitVec 32) (arg8_r5 : BitVec 32) (arg9_r5 : BitVec 32) (arg10_r5 : BitVec 32) (k0_hw9 : k0_chk9 i k0_t3 arg6_r5 arg7_r5 arg8_r5 arg9_r5 arg10_r5), ∀ (k0_h19 : k0_cond19 i = 1#1), ∀ (k0_h27 : k0_cond27 i k0_t3 arg10_r5 = 1#1), ∀ a, (k0_off51 i arg10_r5) a + S128x256.size a ≤ S66560x1024.size a := fun i k0_t3 arg6_r5 arg7_r5 arg8_r5 arg9_r5 arg10_r5 k0_hw9 k0_h19 k0_h27 => k0_hw9.2.2.2.2.2.2.2.2.2.2.1 k0_h19 k0_h27
theorem k0_off52_inb : ∀ (i : grid0.Coords) (k0_t3 : Fin (k0_t3_loop i).trips) (arg6_r5 : BitVec 32) (arg7_r5 : BitVec 32) (arg8_r5 : BitVec 32) (arg9_r5 : BitVec 32) (arg10_r5 : BitVec 32) (k0_hw9 : k0_chk9 i k0_t3 arg6_r5 arg7_r5 arg8_r5 arg9_r5 arg10_r5), ∀ (k0_h19 : k0_cond19 i = 1#1), ∀ (k0_h27 : k0_cond27 i k0_t3 arg10_r5 = 1#1), ∀ a, (k0_off52 arg9_r5) a + S1.size a ≤ S2.size a := fun i k0_t3 arg6_r5 arg7_r5 arg8_r5 arg9_r5 arg10_r5 k0_hw9 k0_h19 k0_h27 => k0_hw9.2.2.2.2.2.2.2.2.2.2.2 k0_h19 k0_h27

@[reducible] def k0_t4_loop (i : grid0.Coords) : Scf.Loop 32 :=
  let c0_i32_60_r5 : BitVec 32 := 0#32
  let c1_i32_14 : BitVec 32 := 1#32
  let c0_i32_6 : BitVec 32 := 0#32
  let arg1 : BitVec 32 := BitVec.ofNat 32 (i 1).val
  let c1_i32_5 : BitVec 32 := 1#32
  let v12 : BitVec 32 := Scalar.muli arg1 c1_i32_5
  let v13 : BitVec 32 := Scalar.addi c0_i32_6 v12
  let arg0 : BitVec 32 := BitVec.ofNat 32 (i 0).val
  let c16_i32_7 : BitVec 32 := 16#32
  let v14 : BitVec 32 := Scalar.muli arg0 c16_i32_7
  let v15 : BitVec 32 := Scalar.addi v13 v14
  let c8_i32_8 : BitVec 32 := 8#32
  let v16 : BitVec 1 := Scalar.cmpi .slt v15 c8_i32_8
  let c17_i32_9 : BitVec 32 := 17#32
  let c16_i32_10 : BitVec 32 := 16#32
  let v17 : BitVec 32 := Scalar.select v16 c17_i32_9 c16_i32_10
  let v23 : BitVec 32 := Scalar.muli c1_i32_14 v17
  let v78_r5 : BitVec 32 := Scalar.subi v23 c0_i32_60_r5
  let c1_i32_65_r5 : BitVec 32 := 1#32
  let v80_r5 : BitVec 32 := Scalar.divsi v78_r5 c1_i32_65_r5
  let v81_r5 : BitVec 32 := Scalar.muli v80_r5 c1_i32_65_r5
  let v82_r5 : BitVec 32 := Scalar.addi c0_i32_60_r5 v81_r5
  let v79_r5 : BitVec 32 := Scalar.addi c0_i32_60_r5 v78_r5
  let c1_i32_67_r5 : BitVec 32 := 1#32
  ⟨v82_r5, v79_r5, c1_i32_67_r5⟩
def k0_off53 (arg6_r5 : BitVec 32) : Fin 3 → Nat :=
  let c2_i32_133_r5 : BitVec 32 := 2#32
  let v203_r5 : BitVec 32 := Scalar.remui arg6_r5 c2_i32_133_r5
  let c0_i32_134_r5 : BitVec 32 := 0#32
  let c0_i32_135_r5 : BitVec 32 := 0#32
  ![v203_r5.toNat, 0, 0]
def k0_cond28 (i : grid0.Coords) (k0_t4 : Fin (k0_t4_loop i).trips) (arg10_r5 : BitVec 32) : BitVec 1 :=
  let c0_i32_6 : BitVec 32 := 0#32
  let arg1 : BitVec 32 := BitVec.ofNat 32 (i 1).val
  let c1_i32_5 : BitVec 32 := 1#32
  let v12 : BitVec 32 := Scalar.muli arg1 c1_i32_5
  let v13 : BitVec 32 := Scalar.addi c0_i32_6 v12
  let arg0 : BitVec 32 := BitVec.ofNat 32 (i 0).val
  let c16_i32_7 : BitVec 32 := 16#32
  let v14 : BitVec 32 := Scalar.muli arg0 c16_i32_7
  let v15 : BitVec 32 := Scalar.addi v13 v14
  let c8_i32_11 : BitVec 32 := 8#32
  let v18 : BitVec 1 := Scalar.cmpi .slt v15 c8_i32_11
  let c8_i32_8 : BitVec 32 := 8#32
  let v16 : BitVec 1 := Scalar.cmpi .slt v15 c8_i32_8
  let c17_i32_9 : BitVec 32 := 17#32
  let c16_i32_10 : BitVec 32 := 16#32
  let v17 : BitVec 32 := Scalar.select v16 c17_i32_9 c16_i32_10
  let v19 : BitVec 32 := Scalar.muli v15 v17
  let c16_i32_12 : BitVec 32 := 16#32
  let v20 : BitVec 32 := Scalar.muli v15 c16_i32_12
  let c8_i32_13 : BitVec 32 := 8#32
  let v21 : BitVec 32 := Scalar.addi v20 c8_i32_13
  let v22 : BitVec 32 := Scalar.select v18 v19 v21
  let v120_r5 : BitVec 32 := Scalar.addi arg10_r5 v22
  let true_96_r5 : BitVec 1 := 1#1
  let c1_i32_95_r5 : BitVec 32 := 1#32
  let v127_r5 : BitVec 32 := Scalar.addi arg10_r5 c1_i32_95_r5
  let v128_r5 : BitVec 32 := Scalar.select true_96_r5 v127_r5 arg10_r5
  let v129_r5 : BitVec 1 := Scalar.cmpi .eq v128_r5 v17
  let c0_i32_97_r5 : BitVec 32 := 0#32
  let v130_r5 : BitVec 32 := Scalar.select v129_r5 c0_i32_97_r5 v128_r5
  let v131_r5 : BitVec 32 := Scalar.addi v130_r5 v22
  let v137_r5 : BitVec 1 := Scalar.cmpi .ne v120_r5 v131_r5
  let c0_i32_60_r5 : BitVec 32 := 0#32
  let c1_i32_14 : BitVec 32 := 1#32
  let v23 : BitVec 32 := Scalar.muli c1_i32_14 v17
  let v78_r5 : BitVec 32 := Scalar.subi v23 c0_i32_60_r5
  let c1_i32_65_r5 : BitVec 32 := 1#32
  let v80_r5 : BitVec 32 := Scalar.divsi v78_r5 c1_i32_65_r5
  let v81_r5 : BitVec 32 := Scalar.muli v80_r5 c1_i32_65_r5
  let v82_r5 : BitVec 32 := Scalar.addi c0_i32_60_r5 v81_r5
  let c1_i32_67_r5 : BitVec 32 := 1#32
  let arg5_r5 : BitVec 32 := Scf.iv v82_r5 c1_i32_67_r5 k0_t4
  let c1_i32_88_r5 : BitVec 32 := 1#32
  let v116_r5 : BitVec 32 := Scalar.muli c1_i32_88_r5 v17
  let c2_i32_r5 : BitVec 32 := 2#32
  let v138_r5 : BitVec 32 := Scalar.subi v116_r5 c2_i32_r5
  let c1_i32_101_r5 : BitVec 32 := 1#32
  let v139_r5 : BitVec 32 := Scalar.addi v138_r5 c1_i32_101_r5
  let v140_r5 : BitVec 1 := Scalar.cmpi .sge arg5_r5 v139_r5
  let true_102_r5 : BitVec 1 := 1#1
  let v141_r5 : BitVec 1 := Scalar.xori v140_r5 true_102_r5
  let v142_r5 : BitVec 1 := Scalar.andi v137_r5 v141_r5
  let true_103_r5 : BitVec 1 := 1#1
  let v143_r5 : BitVec 1 := Scalar.andi v142_r5 true_103_r5
  let v144_r5 : BitVec 32 := Scalar.extui v143_r5
  let c0_i32_104_r5 : BitVec 32 := 0#32
  let v145_r5 : BitVec 1 := Scalar.cmpi .ne v144_r5 c0_i32_104_r5
  v145_r5

def k0_off54 (i : grid0.Coords) (arg10_r5 : BitVec 32) : Fin 2 → Nat :=
  let c0_i32_136_r5 : BitVec 32 := 0#32
  let c128_i32_r5 : BitVec 32 := 128#32
  let true_96_r5 : BitVec 1 := 1#1
  let c1_i32_95_r5 : BitVec 32 := 1#32
  let v127_r5 : BitVec 32 := Scalar.addi arg10_r5 c1_i32_95_r5
  let v128_r5 : BitVec 32 := Scalar.select true_96_r5 v127_r5 arg10_r5
  let c0_i32_6 : BitVec 32 := 0#32
  let arg1 : BitVec 32 := BitVec.ofNat 32 (i 1).val
  let c1_i32_5 : BitVec 32 := 1#32
  let v12 : BitVec 32 := Scalar.muli arg1 c1_i32_5
  let v13 : BitVec 32 := Scalar.addi c0_i32_6 v12
  let arg0 : BitVec 32 := BitVec.ofNat 32 (i 0).val
  let c16_i32_7 : BitVec 32 := 16#32
  let v14 : BitVec 32 := Scalar.muli arg0 c16_i32_7
  let v15 : BitVec 32 := Scalar.addi v13 v14
  let c8_i32_8 : BitVec 32 := 8#32
  let v16 : BitVec 1 := Scalar.cmpi .slt v15 c8_i32_8
  let c17_i32_9 : BitVec 32 := 17#32
  let c16_i32_10 : BitVec 32 := 16#32
  let v17 : BitVec 32 := Scalar.select v16 c17_i32_9 c16_i32_10
  let v129_r5 : BitVec 1 := Scalar.cmpi .eq v128_r5 v17
  let c0_i32_97_r5 : BitVec 32 := 0#32
  let v130_r5 : BitVec 32 := Scalar.select v129_r5 c0_i32_97_r5 v128_r5
  let c8_i32_11 : BitVec 32 := 8#32
  let v18 : BitVec 1 := Scalar.cmpi .slt v15 c8_i32_11
  let v19 : BitVec 32 := Scalar.muli v15 v17
  let c16_i32_12 : BitVec 32 := 16#32
  let v20 : BitVec 32 := Scalar.muli v15 c16_i32_12
  let c8_i32_13 : BitVec 32 := 8#32
  let v21 : BitVec 32 := Scalar.addi v20 c8_i32_13
  let v22 : BitVec 32 := Scalar.select v18 v19 v21
  let v131_r5 : BitVec 32 := Scalar.addi v130_r5 v22
  let v204_r5 : BitVec 32 := Scalar.muli c128_i32_r5 v131_r5
  ![0, v204_r5.toNat]
def k0_off55 (arg6_r5 : BitVec 32) : Fin 1 → Nat :=
  let c2_i32_133_r5 : BitVec 32 := 2#32
  let v203_r5 : BitVec 32 := Scalar.remui arg6_r5 c2_i32_133_r5
  ![v203_r5.toNat]
def k0_off56 (arg7_r5 : BitVec 32) : Fin 3 → Nat :=
  let c2_i32_133_r5 : BitVec 32 := 2#32
  let v204_r5 : BitVec 32 := Scalar.remui arg7_r5 c2_i32_133_r5
  let c0_i32_134_r5 : BitVec 32 := 0#32
  let c0_i32_135_r5 : BitVec 32 := 0#32
  ![v204_r5.toNat, 0, 0]
def k0_cond29 (i : grid0.Coords) (k0_t4 : Fin (k0_t4_loop i).trips) (arg10_r5 : BitVec 32) : BitVec 1 :=
  let c0_i32_6 : BitVec 32 := 0#32
  let arg1 : BitVec 32 := BitVec.ofNat 32 (i 1).val
  let c1_i32_5 : BitVec 32 := 1#32
  let v12 : BitVec 32 := Scalar.muli arg1 c1_i32_5
  let v13 : BitVec 32 := Scalar.addi c0_i32_6 v12
  let arg0 : BitVec 32 := BitVec.ofNat 32 (i 0).val
  let c16_i32_7 : BitVec 32 := 16#32
  let v14 : BitVec 32 := Scalar.muli arg0 c16_i32_7
  let v15 : BitVec 32 := Scalar.addi v13 v14
  let c8_i32_11 : BitVec 32 := 8#32
  let v18 : BitVec 1 := Scalar.cmpi .slt v15 c8_i32_11
  let c8_i32_8 : BitVec 32 := 8#32
  let v16 : BitVec 1 := Scalar.cmpi .slt v15 c8_i32_8
  let c17_i32_9 : BitVec 32 := 17#32
  let c16_i32_10 : BitVec 32 := 16#32
  let v17 : BitVec 32 := Scalar.select v16 c17_i32_9 c16_i32_10
  let v19 : BitVec 32 := Scalar.muli v15 v17
  let c16_i32_12 : BitVec 32 := 16#32
  let v20 : BitVec 32 := Scalar.muli v15 c16_i32_12
  let c8_i32_13 : BitVec 32 := 8#32
  let v21 : BitVec 32 := Scalar.addi v20 c8_i32_13
  let v22 : BitVec 32 := Scalar.select v18 v19 v21
  let v120_r5 : BitVec 32 := Scalar.addi arg10_r5 v22
  let true_92_r5 : BitVec 1 := 1#1
  let c1_i32_91_r5 : BitVec 32 := 1#32
  let v121_r5 : BitVec 32 := Scalar.subi arg10_r5 c1_i32_91_r5
  let v122_r5 : BitVec 32 := Scalar.select true_92_r5 v121_r5 arg10_r5
  let c_m1_i32_93_r5 : BitVec 32 := 4294967295#32
  let v123_r5 : BitVec 1 := Scalar.cmpi .eq v122_r5 c_m1_i32_93_r5
  let c1_i32_94_r5 : BitVec 32 := 1#32
  let v124_r5 : BitVec 32 := Scalar.subi v17 c1_i32_94_r5
  let v125_r5 : BitVec 32 := Scalar.select v123_r5 v124_r5 v122_r5
  let v126_r5 : BitVec 32 := Scalar.addi v125_r5 v22
  let v155_r5 : BitVec 1 := Scalar.cmpi .ne v120_r5 v126_r5
  let c0_i32_60_r5 : BitVec 32 := 0#32
  let c1_i32_14 : BitVec 32 := 1#32
  let v23 : BitVec 32 := Scalar.muli c1_i32_14 v17
  let v78_r5 : BitVec 32 := Scalar.subi v23 c0_i32_60_r5
  let c1_i32_65_r5 : BitVec 32 := 1#32
  let v80_r5 : BitVec 32 := Scalar.divsi v78_r5 c1_i32_65_r5
  let v81_r5 : BitVec 32 := Scalar.muli v80_r5 c1_i32_65_r5
  let v82_r5 : BitVec 32 := Scalar.addi c0_i32_60_r5 v81_r5
  let c1_i32_67_r5 : BitVec 32 := 1#32
  let arg5_r5 : BitVec 32 := Scf.iv v82_r5 c1_i32_67_r5 k0_t4
  let c0_i32_89_r5 : BitVec 32 := 0#32
  let v117_r5 : BitVec 1 := Scalar.cmpi .eq arg5_r5 c0_i32_89_r5
  let v156_r5 : BitVec 1 := Scalar.ori v155_r5 v117_r5
  let c0_i32_110_r5 : BitVec 32 := 0#32
  let v157_r5 : BitVec 1 := Scalar.cmpi .sge arg5_r5 c0_i32_110_r5
  let v158_r5 : BitVec 1 := Scalar.andi v156_r5 v157_r5
  let v159_r5 : BitVec 32 := Scalar.extui v158_r5
  let c0_i32_111_r5 : BitVec 32 := 0#32
  let v160_r5 : BitVec 1 := Scalar.cmpi .ne v159_r5 c0_i32_111_r5
  v160_r5

def k0_off57 (i : grid0.Coords) (arg10_r5 : BitVec 32) : Fin 2 → Nat :=
  let c0_i32_136_r5 : BitVec 32 := 0#32
  let c128_i32_r5 : BitVec 32 := 128#32
  let c0_i32_6 : BitVec 32 := 0#32
  let arg1 : BitVec 32 := BitVec.ofNat 32 (i 1).val
  let c1_i32_5 : BitVec 32 := 1#32
  let v12 : BitVec 32 := Scalar.muli arg1 c1_i32_5
  let v13 : BitVec 32 := Scalar.addi c0_i32_6 v12
  let arg0 : BitVec 32 := BitVec.ofNat 32 (i 0).val
  let c16_i32_7 : BitVec 32 := 16#32
  let v14 : BitVec 32 := Scalar.muli arg0 c16_i32_7
  let v15 : BitVec 32 := Scalar.addi v13 v14
  let c8_i32_11 : BitVec 32 := 8#32
  let v18 : BitVec 1 := Scalar.cmpi .slt v15 c8_i32_11
  let c8_i32_8 : BitVec 32 := 8#32
  let v16 : BitVec 1 := Scalar.cmpi .slt v15 c8_i32_8
  let c17_i32_9 : BitVec 32 := 17#32
  let c16_i32_10 : BitVec 32 := 16#32
  let v17 : BitVec 32 := Scalar.select v16 c17_i32_9 c16_i32_10
  let v19 : BitVec 32 := Scalar.muli v15 v17
  let c16_i32_12 : BitVec 32 := 16#32
  let v20 : BitVec 32 := Scalar.muli v15 c16_i32_12
  let c8_i32_13 : BitVec 32 := 8#32
  let v21 : BitVec 32 := Scalar.addi v20 c8_i32_13
  let v22 : BitVec 32 := Scalar.select v18 v19 v21
  let v120_r5 : BitVec 32 := Scalar.addi arg10_r5 v22
  let v203_r5 : BitVec 32 := Scalar.muli c128_i32_r5 v120_r5
  ![0, v203_r5.toNat]
def k0_off58 (arg7_r5 : BitVec 32) : Fin 1 → Nat :=
  let c2_i32_133_r5 : BitVec 32 := 2#32
  let v204_r5 : BitVec 32 := Scalar.remui arg7_r5 c2_i32_133_r5
  ![v204_r5.toNat]
def k0_off59 (arg8_r5 : BitVec 32) : Fin 3 → Nat :=
  let c2_i32_115_r5 : BitVec 32 := 2#32
  let v168_r5 : BitVec 32 := Scalar.remui arg8_r5 c2_i32_115_r5
  let c0_i32_133_r8 : BitVec 32 := 0#32
  let c0_i32_134_r8 : BitVec 32 := 0#32
  ![v168_r5.toNat, 0, 0]

def k0_chk13 (i : grid0.Coords) (k0_t4 : Fin (k0_t4_loop i).trips) (arg8_r5 : BitVec 32) : Prop :=
  (∀ (k0_h19 : k0_cond19 i = 1#1), ∀ a, (k0_off59 arg8_r5) a + S1x128x256.size a ≤ S2x128x256.size a)
theorem k0_off59_inb : ∀ (i : grid0.Coords) (k0_t4 : Fin (k0_t4_loop i).trips) (arg8_r5 : BitVec 32) (k0_hw13 : k0_chk13 i k0_t4 arg8_r5), ∀ (k0_h19 : k0_cond19 i = 1#1), ∀ a, (k0_off59 arg8_r5) a + S1x128x256.size a ≤ S2x128x256.size a := fun i k0_t4 arg8_r5 k0_hw13 k0_h19 => k0_hw13 k0_h19

def k0_off60 (arg7_r5 : BitVec 32) : Fin 3 → Nat :=
  let c2_i32_114_r5 : BitVec 32 := 2#32
  let v167_r5 : BitVec 32 := Scalar.remui arg7_r5 c2_i32_114_r5
  let c0_i32_137_r8 : BitVec 32 := 0#32
  let c0_i32_138_r8 : BitVec 32 := 0#32
  ![v167_r5.toNat, 0, 0]

def k0_chk14 (i : grid0.Coords) (k0_t4 : Fin (k0_t4_loop i).trips) (arg7_r5 : BitVec 32) : Prop :=
  (∀ (k0_h19 : k0_cond19 i = 1#1), ∀ a, (k0_off60 arg7_r5) a + S1x1x128.size a ≤ S2x1x128.size a)
theorem k0_off60_inb : ∀ (i : grid0.Coords) (k0_t4 : Fin (k0_t4_loop i).trips) (arg7_r5 : BitVec 32) (k0_hw14 : k0_chk14 i k0_t4 arg7_r5), ∀ (k0_h19 : k0_cond19 i = 1#1), ∀ a, (k0_off60 arg7_r5) a + S1x1x128.size a ≤ S2x1x128.size a := fun i k0_t4 arg7_r5 k0_hw14 k0_h19 => k0_hw14 k0_h19

def k0_off61 (arg8_r5 : BitVec 32) : Fin 3 → Nat :=
  let c2_i32_133_r5 : BitVec 32 := 2#32
  let v203_r5 : BitVec 32 := Scalar.remui arg8_r5 c2_i32_133_r5
  let c0_i32_134_r5 : BitVec 32 := 0#32
  let c0_i32_135_r5 : BitVec 32 := 0#32
  ![v203_r5.toNat, 0, 0]
def k0_cond32 (i : grid0.Coords) (k0_t4 : Fin (k0_t4_loop i).trips) (arg10_r5 : BitVec 32) : BitVec 1 :=
  let c0_i32_6 : BitVec 32 := 0#32
  let arg1 : BitVec 32 := BitVec.ofNat 32 (i 1).val
  let c1_i32_5 : BitVec 32 := 1#32
  let v12 : BitVec 32 := Scalar.muli arg1 c1_i32_5
  let v13 : BitVec 32 := Scalar.addi c0_i32_6 v12
  let arg0 : BitVec 32 := BitVec.ofNat 32 (i 0).val
  let c16_i32_7 : BitVec 32 := 16#32
  let v14 : BitVec 32 := Scalar.muli arg0 c16_i32_7
  let v15 : BitVec 32 := Scalar.addi v13 v14
  let c8_i32_11 : BitVec 32 := 8#32
  let v18 : BitVec 1 := Scalar.cmpi .slt v15 c8_i32_11
  let c8_i32_8 : BitVec 32 := 8#32
  let v16 : BitVec 1 := Scalar.cmpi .slt v15 c8_i32_8
  let c17_i32_9 : BitVec 32 := 17#32
  let c16_i32_10 : BitVec 32 := 16#32
  let v17 : BitVec 32 := Scalar.select v16 c17_i32_9 c16_i32_10
  let v19 : BitVec 32 := Scalar.muli v15 v17
  let c16_i32_12 : BitVec 32 := 16#32
  let v20 : BitVec 32 := Scalar.muli v15 c16_i32_12
  let c8_i32_13 : BitVec 32 := 8#32
  let v21 : BitVec 32 := Scalar.addi v20 c8_i32_13
  let v22 : BitVec 32 := Scalar.select v18 v19 v21
  let v120_r5 : BitVec 32 := Scalar.addi arg10_r5 v22
  let true_96_r5 : BitVec 1 := 1#1
  let c1_i32_95_r5 : BitVec 32 := 1#32
  let v127_r5 : BitVec 32 := Scalar.addi arg10_r5 c1_i32_95_r5
  let v128_r5 : BitVec 32 := Scalar.select true_96_r5 v127_r5 arg10_r5
  let v129_r5 : BitVec 1 := Scalar.cmpi .eq v128_r5 v17
  let c0_i32_97_r5 : BitVec 32 := 0#32
  let v130_r5 : BitVec 32 := Scalar.select v129_r5 c0_i32_97_r5 v128_r5
  let v131_r5 : BitVec 32 := Scalar.addi v130_r5 v22
  let v174_r5 : BitVec 1 := Scalar.cmpi .ne v120_r5 v131_r5
  let c0_i32_60_r5 : BitVec 32 := 0#32
  let c1_i32_14 : BitVec 32 := 1#32
  let v23 : BitVec 32 := Scalar.muli c1_i32_14 v17
  let v78_r5 : BitVec 32 := Scalar.subi v23 c0_i32_60_r5
  let c1_i32_65_r5 : BitVec 32 := 1#32
  let v80_r5 : BitVec 32 := Scalar.divsi v78_r5 c1_i32_65_r5
  let v81_r5 : BitVec 32 := Scalar.muli v80_r5 c1_i32_65_r5
  let v82_r5 : BitVec 32 := Scalar.addi c0_i32_60_r5 v81_r5
  let c1_i32_67_r5 : BitVec 32 := 1#32
  let arg5_r5 : BitVec 32 := Scf.iv v82_r5 c1_i32_67_r5 k0_t4
  let c1_i32_88_r5 : BitVec 32 := 1#32
  let v116_r5 : BitVec 32 := Scalar.muli c1_i32_88_r5 v17
  let c1_i32_90_r5 : BitVec 32 := 1#32
  let v118_r5 : BitVec 32 := Scalar.subi v116_r5 c1_i32_90_r5
  let v119_r5 : BitVec 1 := Scalar.cmpi .eq arg5_r5 v118_r5
  let v175_r5 : BitVec 1 := Scalar.ori v174_r5 v119_r5
  let v176_r5 : BitVec 32 := Scalar.extui v175_r5
  let c0_i32_119_r5 : BitVec 32 := 0#32
  let v177_r5 : BitVec 1 := Scalar.cmpi .ne v176_r5 c0_i32_119_r5
  v177_r5

def k0_off62 (i : grid0.Coords) (arg10_r5 : BitVec 32) : Fin 2 → Nat :=
  let c128_i32_r5 : BitVec 32 := 128#32
  let c0_i32_6 : BitVec 32 := 0#32
  let arg1 : BitVec 32 := BitVec.ofNat 32 (i 1).val
  let c1_i32_5 : BitVec 32 := 1#32
  let v12 : BitVec 32 := Scalar.muli arg1 c1_i32_5
  let v13 : BitVec 32 := Scalar.addi c0_i32_6 v12
  let arg0 : BitVec 32 := BitVec.ofNat 32 (i 0).val
  let c16_i32_7 : BitVec 32 := 16#32
  let v14 : BitVec 32 := Scalar.muli arg0 c16_i32_7
  let v15 : BitVec 32 := Scalar.addi v13 v14
  let c8_i32_11 : BitVec 32 := 8#32
  let v18 : BitVec 1 := Scalar.cmpi .slt v15 c8_i32_11
  let c8_i32_8 : BitVec 32 := 8#32
  let v16 : BitVec 1 := Scalar.cmpi .slt v15 c8_i32_8
  let c17_i32_9 : BitVec 32 := 17#32
  let c16_i32_10 : BitVec 32 := 16#32
  let v17 : BitVec 32 := Scalar.select v16 c17_i32_9 c16_i32_10
  let v19 : BitVec 32 := Scalar.muli v15 v17
  let c16_i32_12 : BitVec 32 := 16#32
  let v20 : BitVec 32 := Scalar.muli v15 c16_i32_12
  let c8_i32_13 : BitVec 32 := 8#32
  let v21 : BitVec 32 := Scalar.addi v20 c8_i32_13
  let v22 : BitVec 32 := Scalar.select v18 v19 v21
  let v120_r5 : BitVec 32 := Scalar.addi arg10_r5 v22
  let v204_r5 : BitVec 32 := Scalar.muli c128_i32_r5 v120_r5
  let c256_i32_r5 : BitVec 32 := 256#32
  ![v204_r5.toNat, 256]
def k0_off63 (arg8_r5 : BitVec 32) : Fin 1 → Nat :=
  let c2_i32_133_r5 : BitVec 32 := 2#32
  let v203_r5 : BitVec 32 := Scalar.remui arg8_r5 c2_i32_133_r5
  ![v203_r5.toNat]
def k0_off64 (arg9_r5 : BitVec 32) : Fin 3 → Nat :=
  let c2_i32_133_r5 : BitVec 32 := 2#32
  let v203_r5 : BitVec 32 := Scalar.remui arg9_r5 c2_i32_133_r5
  let c0_i32_134_r5 : BitVec 32 := 0#32
  let c0_i32_135_r5 : BitVec 32 := 0#32
  ![v203_r5.toNat, 0, 0]
def k0_cond34 (i : grid0.Coords) (k0_t4 : Fin (k0_t4_loop i).trips) (arg10_r5 : BitVec 32) : BitVec 1 :=
  let c0_i32_6 : BitVec 32 := 0#32
  let arg1 : BitVec 32 := BitVec.ofNat 32 (i 1).val
  let c1_i32_5 : BitVec 32 := 1#32
  let v12 : BitVec 32 := Scalar.muli arg1 c1_i32_5
  let v13 : BitVec 32 := Scalar.addi c0_i32_6 v12
  let arg0 : BitVec 32 := BitVec.ofNat 32 (i 0).val
  let c16_i32_7 : BitVec 32 := 16#32
  let v14 : BitVec 32 := Scalar.muli arg0 c16_i32_7
  let v15 : BitVec 32 := Scalar.addi v13 v14
  let c8_i32_11 : BitVec 32 := 8#32
  let v18 : BitVec 1 := Scalar.cmpi .slt v15 c8_i32_11
  let c8_i32_8 : BitVec 32 := 8#32
  let v16 : BitVec 1 := Scalar.cmpi .slt v15 c8_i32_8
  let c17_i32_9 : BitVec 32 := 17#32
  let c16_i32_10 : BitVec 32 := 16#32
  let v17 : BitVec 32 := Scalar.select v16 c17_i32_9 c16_i32_10
  let v19 : BitVec 32 := Scalar.muli v15 v17
  let c16_i32_12 : BitVec 32 := 16#32
  let v20 : BitVec 32 := Scalar.muli v15 c16_i32_12
  let c8_i32_13 : BitVec 32 := 8#32
  let v21 : BitVec 32 := Scalar.addi v20 c8_i32_13
  let v22 : BitVec 32 := Scalar.select v18 v19 v21
  let v120_r5 : BitVec 32 := Scalar.addi arg10_r5 v22
  let true_92_r5 : BitVec 1 := 1#1
  let c1_i32_91_r5 : BitVec 32 := 1#32
  let v121_r5 : BitVec 32 := Scalar.subi arg10_r5 c1_i32_91_r5
  let v122_r5 : BitVec 32 := Scalar.select true_92_r5 v121_r5 arg10_r5
  let c_m1_i32_93_r5 : BitVec 32 := 4294967295#32
  let v123_r5 : BitVec 1 := Scalar.cmpi .eq v122_r5 c_m1_i32_93_r5
  let c1_i32_94_r5 : BitVec 32 := 1#32
  let v124_r5 : BitVec 32 := Scalar.subi v17 c1_i32_94_r5
  let v125_r5 : BitVec 32 := Scalar.select v123_r5 v124_r5 v122_r5
  let v126_r5 : BitVec 32 := Scalar.addi v125_r5 v22
  let v187_r5 : BitVec 1 := Scalar.cmpi .ne v120_r5 v126_r5
  let c0_i32_60_r5 : BitVec 32 := 0#32
  let c1_i32_14 : BitVec 32 := 1#32
  let v23 : BitVec 32 := Scalar.muli c1_i32_14 v17
  let v78_r5 : BitVec 32 := Scalar.subi v23 c0_i32_60_r5
  let c1_i32_65_r5 : BitVec 32 := 1#32
  let v80_r5 : BitVec 32 := Scalar.divsi v78_r5 c1_i32_65_r5
  let v81_r5 : BitVec 32 := Scalar.muli v80_r5 c1_i32_65_r5
  let v82_r5 : BitVec 32 := Scalar.addi c0_i32_60_r5 v81_r5
  let c1_i32_67_r5 : BitVec 32 := 1#32
  let arg5_r5 : BitVec 32 := Scf.iv v82_r5 c1_i32_67_r5 k0_t4
  let c0_i32_89_r5 : BitVec 32 := 0#32
  let v117_r5 : BitVec 1 := Scalar.cmpi .eq arg5_r5 c0_i32_89_r5
  let true_125_r5 : BitVec 1 := 1#1
  let v188_r5 : BitVec 1 := Scalar.xori v117_r5 true_125_r5
  let v189_r5 : BitVec 1 := Scalar.andi v187_r5 v188_r5
  let v190_r5 : BitVec 32 := Scalar.extui v189_r5
  let c0_i32_126_r5 : BitVec 32 := 0#32
  let v191_r5 : BitVec 1 := Scalar.cmpi .ne v190_r5 c0_i32_126_r5
  v191_r5

def k0_off65 (i : grid0.Coords) (arg10_r5 : BitVec 32) : Fin 2 → Nat :=
  let c128_i32_r5 : BitVec 32 := 128#32
  let true_92_r5 : BitVec 1 := 1#1
  let c1_i32_91_r5 : BitVec 32 := 1#32
  let v121_r5 : BitVec 32 := Scalar.subi arg10_r5 c1_i32_91_r5
  let v122_r5 : BitVec 32 := Scalar.select true_92_r5 v121_r5 arg10_r5
  let c_m1_i32_93_r5 : BitVec 32 := 4294967295#32
  let v123_r5 : BitVec 1 := Scalar.cmpi .eq v122_r5 c_m1_i32_93_r5
  let c0_i32_6 : BitVec 32 := 0#32
  let arg1 : BitVec 32 := BitVec.ofNat 32 (i 1).val
  let c1_i32_5 : BitVec 32 := 1#32
  let v12 : BitVec 32 := Scalar.muli arg1 c1_i32_5
  let v13 : BitVec 32 := Scalar.addi c0_i32_6 v12
  let arg0 : BitVec 32 := BitVec.ofNat 32 (i 0).val
  let c16_i32_7 : BitVec 32 := 16#32
  let v14 : BitVec 32 := Scalar.muli arg0 c16_i32_7
  let v15 : BitVec 32 := Scalar.addi v13 v14
  let c8_i32_8 : BitVec 32 := 8#32
  let v16 : BitVec 1 := Scalar.cmpi .slt v15 c8_i32_8
  let c17_i32_9 : BitVec 32 := 17#32
  let c16_i32_10 : BitVec 32 := 16#32
  let v17 : BitVec 32 := Scalar.select v16 c17_i32_9 c16_i32_10
  let c1_i32_94_r5 : BitVec 32 := 1#32
  let v124_r5 : BitVec 32 := Scalar.subi v17 c1_i32_94_r5
  let v125_r5 : BitVec 32 := Scalar.select v123_r5 v124_r5 v122_r5
  let c8_i32_11 : BitVec 32 := 8#32
  let v18 : BitVec 1 := Scalar.cmpi .slt v15 c8_i32_11
  let v19 : BitVec 32 := Scalar.muli v15 v17
  let c16_i32_12 : BitVec 32 := 16#32
  let v20 : BitVec 32 := Scalar.muli v15 c16_i32_12
  let c8_i32_13 : BitVec 32 := 8#32
  let v21 : BitVec 32 := Scalar.addi v20 c8_i32_13
  let v22 : BitVec 32 := Scalar.select v18 v19 v21
  let v126_r5 : BitVec 32 := Scalar.addi v125_r5 v22
  let v204_r5 : BitVec 32 := Scalar.muli c128_i32_r5 v126_r5
  let c256_i32_r5 : BitVec 32 := 256#32
  ![v204_r5.toNat, 256]
def k0_off66 (arg9_r5 : BitVec 32) : Fin 1 → Nat :=
  let c2_i32_133_r5 : BitVec 32 := 2#32
  let v203_r5 : BitVec 32 := Scalar.remui arg9_r5 c2_i32_133_r5
  ![v203_r5.toNat]

def k0_chk12 (i : grid0.Coords) (k0_t4 : Fin (k0_t4_loop i).trips) (arg6_r5 : BitVec 32) (arg7_r5 : BitVec 32) (arg8_r5 : BitVec 32) (arg9_r5 : BitVec 32) (arg10_r5 : BitVec 32) : Prop :=
  (∀ (k0_h19 : k0_cond19 i = 1#1), ∀ (k0_h28 : k0_cond28 i k0_t4 arg10_r5 = 1#1), ∀ a, (k0_off53 arg6_r5) a + S1x1x128.size a ≤ S2x1x128.size a) ∧
  (∀ (k0_h19 : k0_cond19 i = 1#1), ∀ (k0_h28 : k0_cond28 i k0_t4 arg10_r5 = 1#1), ∀ a, (k0_off54 i arg10_r5) a + S1x128.size a ≤ S1x66560.size a) ∧
  (∀ (k0_h19 : k0_cond19 i = 1#1), ∀ (k0_h28 : k0_cond28 i k0_t4 arg10_r5 = 1#1), ∀ a, (k0_off55 arg6_r5) a + S1.size a ≤ S2.size a) ∧
  (∀ (k0_h19 : k0_cond19 i = 1#1), ∀ (k0_h29 : k0_cond29 i k0_t4 arg10_r5 = 1#1), ∀ a, (k0_off56 arg7_r5) a + S1x1x128.size a ≤ S2x1x128.size a) ∧
  (∀ (k0_h19 : k0_cond19 i = 1#1), ∀ (k0_h29 : k0_cond29 i k0_t4 arg10_r5 = 1#1), ∀ a, (k0_off57 i arg10_r5) a + S1x128.size a ≤ S1x66560.size a) ∧
  (∀ (k0_h19 : k0_cond19 i = 1#1), ∀ (k0_h29 : k0_cond29 i k0_t4 arg10_r5 = 1#1), ∀ a, (k0_off58 arg7_r5) a + S1.size a ≤ S2.size a) ∧
  (∀ (k0_h19 : k0_cond19 i = 1#1), ∀ (k0_h32 : k0_cond32 i k0_t4 arg10_r5 = 1#1), ∀ a, (k0_off61 arg8_r5) a + S1x128x256.size a ≤ S2x128x256.size a) ∧
  (∀ (k0_h19 : k0_cond19 i = 1#1), ∀ (k0_h32 : k0_cond32 i k0_t4 arg10_r5 = 1#1), ∀ a, (k0_off62 i arg10_r5) a + S128x256.size a ≤ S66560x1024.size a) ∧
  (∀ (k0_h19 : k0_cond19 i = 1#1), ∀ (k0_h32 : k0_cond32 i k0_t4 arg10_r5 = 1#1), ∀ a, (k0_off63 arg8_r5) a + S1.size a ≤ S2.size a) ∧
  (∀ (k0_h19 : k0_cond19 i = 1#1), ∀ (k0_h34 : k0_cond34 i k0_t4 arg10_r5 = 1#1), ∀ a, (k0_off64 arg9_r5) a + S1x128x256.size a ≤ S2x128x256.size a) ∧
  (∀ (k0_h19 : k0_cond19 i = 1#1), ∀ (k0_h34 : k0_cond34 i k0_t4 arg10_r5 = 1#1), ∀ a, (k0_off65 i arg10_r5) a + S128x256.size a ≤ S66560x1024.size a) ∧
  (∀ (k0_h19 : k0_cond19 i = 1#1), ∀ (k0_h34 : k0_cond34 i k0_t4 arg10_r5 = 1#1), ∀ a, (k0_off66 arg9_r5) a + S1.size a ≤ S2.size a)
theorem k0_off53_inb : ∀ (i : grid0.Coords) (k0_t4 : Fin (k0_t4_loop i).trips) (arg6_r5 : BitVec 32) (arg7_r5 : BitVec 32) (arg8_r5 : BitVec 32) (arg9_r5 : BitVec 32) (arg10_r5 : BitVec 32) (k0_hw12 : k0_chk12 i k0_t4 arg6_r5 arg7_r5 arg8_r5 arg9_r5 arg10_r5), ∀ (k0_h19 : k0_cond19 i = 1#1), ∀ (k0_h28 : k0_cond28 i k0_t4 arg10_r5 = 1#1), ∀ a, (k0_off53 arg6_r5) a + S1x1x128.size a ≤ S2x1x128.size a := fun i k0_t4 arg6_r5 arg7_r5 arg8_r5 arg9_r5 arg10_r5 k0_hw12 k0_h19 k0_h28 => k0_hw12.1 k0_h19 k0_h28
theorem k0_off54_inb : ∀ (i : grid0.Coords) (k0_t4 : Fin (k0_t4_loop i).trips) (arg6_r5 : BitVec 32) (arg7_r5 : BitVec 32) (arg8_r5 : BitVec 32) (arg9_r5 : BitVec 32) (arg10_r5 : BitVec 32) (k0_hw12 : k0_chk12 i k0_t4 arg6_r5 arg7_r5 arg8_r5 arg9_r5 arg10_r5), ∀ (k0_h19 : k0_cond19 i = 1#1), ∀ (k0_h28 : k0_cond28 i k0_t4 arg10_r5 = 1#1), ∀ a, (k0_off54 i arg10_r5) a + S1x128.size a ≤ S1x66560.size a := fun i k0_t4 arg6_r5 arg7_r5 arg8_r5 arg9_r5 arg10_r5 k0_hw12 k0_h19 k0_h28 => k0_hw12.2.1 k0_h19 k0_h28
theorem k0_off55_inb : ∀ (i : grid0.Coords) (k0_t4 : Fin (k0_t4_loop i).trips) (arg6_r5 : BitVec 32) (arg7_r5 : BitVec 32) (arg8_r5 : BitVec 32) (arg9_r5 : BitVec 32) (arg10_r5 : BitVec 32) (k0_hw12 : k0_chk12 i k0_t4 arg6_r5 arg7_r5 arg8_r5 arg9_r5 arg10_r5), ∀ (k0_h19 : k0_cond19 i = 1#1), ∀ (k0_h28 : k0_cond28 i k0_t4 arg10_r5 = 1#1), ∀ a, (k0_off55 arg6_r5) a + S1.size a ≤ S2.size a := fun i k0_t4 arg6_r5 arg7_r5 arg8_r5 arg9_r5 arg10_r5 k0_hw12 k0_h19 k0_h28 => k0_hw12.2.2.1 k0_h19 k0_h28
theorem k0_off56_inb : ∀ (i : grid0.Coords) (k0_t4 : Fin (k0_t4_loop i).trips) (arg6_r5 : BitVec 32) (arg7_r5 : BitVec 32) (arg8_r5 : BitVec 32) (arg9_r5 : BitVec 32) (arg10_r5 : BitVec 32) (k0_hw12 : k0_chk12 i k0_t4 arg6_r5 arg7_r5 arg8_r5 arg9_r5 arg10_r5), ∀ (k0_h19 : k0_cond19 i = 1#1), ∀ (k0_h29 : k0_cond29 i k0_t4 arg10_r5 = 1#1), ∀ a, (k0_off56 arg7_r5) a + S1x1x128.size a ≤ S2x1x128.size a := fun i k0_t4 arg6_r5 arg7_r5 arg8_r5 arg9_r5 arg10_r5 k0_hw12 k0_h19 k0_h29 => k0_hw12.2.2.2.1 k0_h19 k0_h29
theorem k0_off57_inb : ∀ (i : grid0.Coords) (k0_t4 : Fin (k0_t4_loop i).trips) (arg6_r5 : BitVec 32) (arg7_r5 : BitVec 32) (arg8_r5 : BitVec 32) (arg9_r5 : BitVec 32) (arg10_r5 : BitVec 32) (k0_hw12 : k0_chk12 i k0_t4 arg6_r5 arg7_r5 arg8_r5 arg9_r5 arg10_r5), ∀ (k0_h19 : k0_cond19 i = 1#1), ∀ (k0_h29 : k0_cond29 i k0_t4 arg10_r5 = 1#1), ∀ a, (k0_off57 i arg10_r5) a + S1x128.size a ≤ S1x66560.size a := fun i k0_t4 arg6_r5 arg7_r5 arg8_r5 arg9_r5 arg10_r5 k0_hw12 k0_h19 k0_h29 => k0_hw12.2.2.2.2.1 k0_h19 k0_h29
theorem k0_off58_inb : ∀ (i : grid0.Coords) (k0_t4 : Fin (k0_t4_loop i).trips) (arg6_r5 : BitVec 32) (arg7_r5 : BitVec 32) (arg8_r5 : BitVec 32) (arg9_r5 : BitVec 32) (arg10_r5 : BitVec 32) (k0_hw12 : k0_chk12 i k0_t4 arg6_r5 arg7_r5 arg8_r5 arg9_r5 arg10_r5), ∀ (k0_h19 : k0_cond19 i = 1#1), ∀ (k0_h29 : k0_cond29 i k0_t4 arg10_r5 = 1#1), ∀ a, (k0_off58 arg7_r5) a + S1.size a ≤ S2.size a := fun i k0_t4 arg6_r5 arg7_r5 arg8_r5 arg9_r5 arg10_r5 k0_hw12 k0_h19 k0_h29 => k0_hw12.2.2.2.2.2.1 k0_h19 k0_h29
theorem k0_off61_inb : ∀ (i : grid0.Coords) (k0_t4 : Fin (k0_t4_loop i).trips) (arg6_r5 : BitVec 32) (arg7_r5 : BitVec 32) (arg8_r5 : BitVec 32) (arg9_r5 : BitVec 32) (arg10_r5 : BitVec 32) (k0_hw12 : k0_chk12 i k0_t4 arg6_r5 arg7_r5 arg8_r5 arg9_r5 arg10_r5), ∀ (k0_h19 : k0_cond19 i = 1#1), ∀ (k0_h32 : k0_cond32 i k0_t4 arg10_r5 = 1#1), ∀ a, (k0_off61 arg8_r5) a + S1x128x256.size a ≤ S2x128x256.size a := fun i k0_t4 arg6_r5 arg7_r5 arg8_r5 arg9_r5 arg10_r5 k0_hw12 k0_h19 k0_h32 => k0_hw12.2.2.2.2.2.2.1 k0_h19 k0_h32
theorem k0_off62_inb : ∀ (i : grid0.Coords) (k0_t4 : Fin (k0_t4_loop i).trips) (arg6_r5 : BitVec 32) (arg7_r5 : BitVec 32) (arg8_r5 : BitVec 32) (arg9_r5 : BitVec 32) (arg10_r5 : BitVec 32) (k0_hw12 : k0_chk12 i k0_t4 arg6_r5 arg7_r5 arg8_r5 arg9_r5 arg10_r5), ∀ (k0_h19 : k0_cond19 i = 1#1), ∀ (k0_h32 : k0_cond32 i k0_t4 arg10_r5 = 1#1), ∀ a, (k0_off62 i arg10_r5) a + S128x256.size a ≤ S66560x1024.size a := fun i k0_t4 arg6_r5 arg7_r5 arg8_r5 arg9_r5 arg10_r5 k0_hw12 k0_h19 k0_h32 => k0_hw12.2.2.2.2.2.2.2.1 k0_h19 k0_h32
theorem k0_off63_inb : ∀ (i : grid0.Coords) (k0_t4 : Fin (k0_t4_loop i).trips) (arg6_r5 : BitVec 32) (arg7_r5 : BitVec 32) (arg8_r5 : BitVec 32) (arg9_r5 : BitVec 32) (arg10_r5 : BitVec 32) (k0_hw12 : k0_chk12 i k0_t4 arg6_r5 arg7_r5 arg8_r5 arg9_r5 arg10_r5), ∀ (k0_h19 : k0_cond19 i = 1#1), ∀ (k0_h32 : k0_cond32 i k0_t4 arg10_r5 = 1#1), ∀ a, (k0_off63 arg8_r5) a + S1.size a ≤ S2.size a := fun i k0_t4 arg6_r5 arg7_r5 arg8_r5 arg9_r5 arg10_r5 k0_hw12 k0_h19 k0_h32 => k0_hw12.2.2.2.2.2.2.2.2.1 k0_h19 k0_h32
theorem k0_off64_inb : ∀ (i : grid0.Coords) (k0_t4 : Fin (k0_t4_loop i).trips) (arg6_r5 : BitVec 32) (arg7_r5 : BitVec 32) (arg8_r5 : BitVec 32) (arg9_r5 : BitVec 32) (arg10_r5 : BitVec 32) (k0_hw12 : k0_chk12 i k0_t4 arg6_r5 arg7_r5 arg8_r5 arg9_r5 arg10_r5), ∀ (k0_h19 : k0_cond19 i = 1#1), ∀ (k0_h34 : k0_cond34 i k0_t4 arg10_r5 = 1#1), ∀ a, (k0_off64 arg9_r5) a + S1x128x256.size a ≤ S2x128x256.size a := fun i k0_t4 arg6_r5 arg7_r5 arg8_r5 arg9_r5 arg10_r5 k0_hw12 k0_h19 k0_h34 => k0_hw12.2.2.2.2.2.2.2.2.2.1 k0_h19 k0_h34
theorem k0_off65_inb : ∀ (i : grid0.Coords) (k0_t4 : Fin (k0_t4_loop i).trips) (arg6_r5 : BitVec 32) (arg7_r5 : BitVec 32) (arg8_r5 : BitVec 32) (arg9_r5 : BitVec 32) (arg10_r5 : BitVec 32) (k0_hw12 : k0_chk12 i k0_t4 arg6_r5 arg7_r5 arg8_r5 arg9_r5 arg10_r5), ∀ (k0_h19 : k0_cond19 i = 1#1), ∀ (k0_h34 : k0_cond34 i k0_t4 arg10_r5 = 1#1), ∀ a, (k0_off65 i arg10_r5) a + S128x256.size a ≤ S66560x1024.size a := fun i k0_t4 arg6_r5 arg7_r5 arg8_r5 arg9_r5 arg10_r5 k0_hw12 k0_h19 k0_h34 => k0_hw12.2.2.2.2.2.2.2.2.2.2.1 k0_h19 k0_h34
theorem k0_off66_inb : ∀ (i : grid0.Coords) (k0_t4 : Fin (k0_t4_loop i).trips) (arg6_r5 : BitVec 32) (arg7_r5 : BitVec 32) (arg8_r5 : BitVec 32) (arg9_r5 : BitVec 32) (arg10_r5 : BitVec 32) (k0_hw12 : k0_chk12 i k0_t4 arg6_r5 arg7_r5 arg8_r5 arg9_r5 arg10_r5), ∀ (k0_h19 : k0_cond19 i = 1#1), ∀ (k0_h34 : k0_cond34 i k0_t4 arg10_r5 = 1#1), ∀ a, (k0_off66 arg9_r5) a + S1.size a ≤ S2.size a := fun i k0_t4 arg6_r5 arg7_r5 arg8_r5 arg9_r5 arg10_r5 k0_hw12 k0_h19 k0_h34 => k0_hw12.2.2.2.2.2.2.2.2.2.2.2 k0_h19 k0_h34

def k0_cond36 (i : grid0.Coords) : BitVec 1 :=
  let c1_i32_14 : BitVec 32 := 1#32
  let c0_i32_6 : BitVec 32 := 0#32
  let arg1 : BitVec 32 := BitVec.ofNat 32 (i 1).val
  let c1_i32_5 : BitVec 32 := 1#32
  let v12 : BitVec 32 := Scalar.muli arg1 c1_i32_5
  let v13 : BitVec 32 := Scalar.addi c0_i32_6 v12
  let arg0 : BitVec 32 := BitVec.ofNat 32 (i 0).val
  let c16_i32_7 : BitVec 32 := 16#32
  let v14 : BitVec 32 := Scalar.muli arg0 c16_i32_7
  let v15 : BitVec 32 := Scalar.addi v13 v14
  let c8_i32_8 : BitVec 32 := 8#32
  let v16 : BitVec 1 := Scalar.cmpi .slt v15 c8_i32_8
  let c17_i32_9 : BitVec 32 := 17#32
  let c16_i32_10 : BitVec 32 := 16#32
  let v17 : BitVec 32 := Scalar.select v16 c17_i32_9 c16_i32_10
  let v23 : BitVec 32 := Scalar.muli c1_i32_14 v17
  let c1_i32_72_r5 : BitVec 32 := 1#32
  let v90_r5 : BitVec 32 := Scalar.subi v23 c1_i32_72_r5
  let c1_i32_73_r5 : BitVec 32 := 1#32
  let v91_r5 : BitVec 32 := Scalar.muli c1_i32_73_r5 v17
  let c1_i32_75_r5 : BitVec 32 := 1#32
  let v93_r5 : BitVec 32 := Scalar.subi v91_r5 c1_i32_75_r5
  let v94_r5 : BitVec 1 := Scalar.cmpi .eq v90_r5 v93_r5
  let v114_r5 : BitVec 32 := Scalar.extui v94_r5
  let c0_i32_87_r5 : BitVec 32 := 0#32
  let v115_r5 : BitVec 1 := Scalar.cmpi .ne v114_r5 c0_i32_87_r5
  v115_r5

def k0_off67 (v84_3_r5 : BitVec 32) : Fin 3 → Nat :=
  let c2_i32_r5 : BitVec 32 := 2#32
  let v116_r5 : BitVec 32 := Scalar.remui v84_3_r5 c2_i32_r5
  let c0_i32_88_r5 : BitVec 32 := 0#32
  let c0_i32_89_r5 : BitVec 32 := 0#32
  ![v116_r5.toNat, 0, 0]

def k0_off68 (i : grid0.Coords) (v84_4_r5 : BitVec 32) : Fin 2 → Nat :=
  let c128_i32_r5 : BitVec 32 := 128#32
  let true_69_r5 : BitVec 1 := 1#1
  let c1_i32_68_r5 : BitVec 32 := 1#32
  let v85_r5 : BitVec 32 := Scalar.subi v84_4_r5 c1_i32_68_r5
  let v86_r5 : BitVec 32 := Scalar.select true_69_r5 v85_r5 v84_4_r5
  let c_m1_i32_70_r5 : BitVec 32 := 4294967295#32
  let v87_r5 : BitVec 1 := Scalar.cmpi .eq v86_r5 c_m1_i32_70_r5
  let c0_i32_6 : BitVec 32 := 0#32
  let arg1 : BitVec 32 := BitVec.ofNat 32 (i 1).val
  let c1_i32_5 : BitVec 32 := 1#32
  let v12 : BitVec 32 := Scalar.muli arg1 c1_i32_5
  let v13 : BitVec 32 := Scalar.addi c0_i32_6 v12
  let arg0 : BitVec 32 := BitVec.ofNat 32 (i 0).val
  let c16_i32_7 : BitVec 32 := 16#32
  let v14 : BitVec 32 := Scalar.muli arg0 c16_i32_7
  let v15 : BitVec 32 := Scalar.addi v13 v14
  let c8_i32_8 : BitVec 32 := 8#32
  let v16 : BitVec 1 := Scalar.cmpi .slt v15 c8_i32_8
  let c17_i32_9 : BitVec 32 := 17#32
  let c16_i32_10 : BitVec 32 := 16#32
  let v17 : BitVec 32 := Scalar.select v16 c17_i32_9 c16_i32_10
  let c1_i32_71_r5 : BitVec 32 := 1#32
  let v88_r5 : BitVec 32 := Scalar.subi v17 c1_i32_71_r5
  let v89_r5 : BitVec 32 := Scalar.select v87_r5 v88_r5 v86_r5
  let c8_i32_11 : BitVec 32 := 8#32
  let v18 : BitVec 1 := Scalar.cmpi .slt v15 c8_i32_11
  let v19 : BitVec 32 := Scalar.muli v15 v17
  let c16_i32_12 : BitVec 32 := 16#32
  let v20 : BitVec 32 := Scalar.muli v15 c16_i32_12
  let c8_i32_13 : BitVec 32 := 8#32
  let v21 : BitVec 32 := Scalar.addi v20 c8_i32_13
  let v22 : BitVec 32 := Scalar.select v18 v19 v21
  let v95_r5 : BitVec 32 := Scalar.addi v89_r5 v22
  let v117_r5 : BitVec 32 := Scalar.muli c128_i32_r5 v95_r5
  let c256_i32_r5 : BitVec 32 := 256#32
  ![v117_r5.toNat, 256]

def k0_chk16 (i : grid0.Coords) (v84_4_r5 : BitVec 32) : Prop :=
  (∀ (k0_h19 : k0_cond19 i = 1#1), ∀ (k0_h36 : k0_cond36 i = 1#1), ∀ a, (k0_off68 i v84_4_r5) a + S128x256.size a ≤ S66560x1024.size a)
theorem k0_off68_inb : ∀ (i : grid0.Coords) (v84_4_r5 : BitVec 32) (k0_hw16 : k0_chk16 i v84_4_r5), ∀ (k0_h19 : k0_cond19 i = 1#1), ∀ (k0_h36 : k0_cond36 i = 1#1), ∀ a, (k0_off68 i v84_4_r5) a + S128x256.size a ≤ S66560x1024.size a := fun i v84_4_r5 k0_hw16 k0_h19 k0_h36 => k0_hw16 k0_h19 k0_h36

def k0_off69 (v84_3_r5 : BitVec 32) : Fin 1 → Nat :=
  let c2_i32_r5 : BitVec 32 := 2#32
  let v116_r5 : BitVec 32 := Scalar.remui v84_3_r5 c2_i32_r5
  ![v116_r5.toNat]
def k0_off70 (v84_3_r5 : BitVec 32) : Fin 3 → Nat :=
  let c2_i32_r5 : BitVec 32 := 2#32
  let v116_r5 : BitVec 32 := Scalar.remui v84_3_r5 c2_i32_r5
  let c0_i32_91_r5 : BitVec 32 := 0#32
  let c0_i32_92_r5 : BitVec 32 := 0#32
  ![v116_r5.toNat, 0, 0]

def k0_chk15 (i : grid0.Coords) (v84_3_r5 : BitVec 32) : Prop :=
  (∀ (k0_h19 : k0_cond19 i = 1#1), ∀ (k0_h36 : k0_cond36 i = 1#1), ∀ a, (k0_off67 v84_3_r5) a + S1x128x256.size a ≤ S2x128x256.size a) ∧
  (∀ (k0_h19 : k0_cond19 i = 1#1), ∀ (k0_h36 : k0_cond36 i = 1#1), ∀ a, (k0_off69 v84_3_r5) a + S1.size a ≤ S2.size a) ∧
  (∀ (k0_h19 : k0_cond19 i = 1#1), ∀ (k0_h36 : k0_cond36 i = 1#1), ∀ a, (k0_off70 v84_3_r5) a + S1x128x256.size a ≤ S2x128x256.size a)
theorem k0_off67_inb : ∀ (i : grid0.Coords) (v84_3_r5 : BitVec 32) (k0_hw15 : k0_chk15 i v84_3_r5), ∀ (k0_h19 : k0_cond19 i = 1#1), ∀ (k0_h36 : k0_cond36 i = 1#1), ∀ a, (k0_off67 v84_3_r5) a + S1x128x256.size a ≤ S2x128x256.size a := fun i v84_3_r5 k0_hw15 k0_h19 k0_h36 => k0_hw15.1 k0_h19 k0_h36
theorem k0_off69_inb : ∀ (i : grid0.Coords) (v84_3_r5 : BitVec 32) (k0_hw15 : k0_chk15 i v84_3_r5), ∀ (k0_h19 : k0_cond19 i = 1#1), ∀ (k0_h36 : k0_cond36 i = 1#1), ∀ a, (k0_off69 v84_3_r5) a + S1.size a ≤ S2.size a := fun i v84_3_r5 k0_hw15 k0_h19 k0_h36 => k0_hw15.2.1 k0_h19 k0_h36
theorem k0_off70_inb : ∀ (i : grid0.Coords) (v84_3_r5 : BitVec 32) (k0_hw15 : k0_chk15 i v84_3_r5), ∀ (k0_h19 : k0_cond19 i = 1#1), ∀ (k0_h36 : k0_cond36 i = 1#1), ∀ a, (k0_off70 v84_3_r5) a + S1x128x256.size a ≤ S2x128x256.size a := fun i v84_3_r5 k0_hw15 k0_h19 k0_h36 => k0_hw15.2.2 k0_h19 k0_h36

def k0_cond37 (i : grid0.Coords) : BitVec 1 :=
  let c1_i32_24 : BitVec 32 := 1#32
  let c0_i32_16 : BitVec 32 := 0#32
  let arg1 : BitVec 32 := BitVec.ofNat 32 (i 1).val
  let c1_i32_15 : BitVec 32 := 1#32
  let v24 : BitVec 32 := Scalar.muli arg1 c1_i32_15
  let v25 : BitVec 32 := Scalar.addi c0_i32_16 v24
  let arg0 : BitVec 32 := BitVec.ofNat 32 (i 0).val
  let c16_i32_17 : BitVec 32 := 16#32
  let v26 : BitVec 32 := Scalar.muli arg0 c16_i32_17
  let v27 : BitVec 32 := Scalar.addi v25 v26
  let c8_i32_18 : BitVec 32 := 8#32
  let v28 : BitVec 1 := Scalar.cmpi .slt v27 c8_i32_18
  let c17_i32_19 : BitVec 32 := 17#32
  let c16_i32_20 : BitVec 32 := 16#32
  let v29 : BitVec 32 := Scalar.select v28 c17_i32_19 c16_i32_20
  let v35 : BitVec 32 := Scalar.muli c1_i32_24 v29
  let c0_i32_36_r10 : BitVec 32 := 0#32
  let v50_r10 : BitVec 1 := Scalar.cmpi .sgt v35 c0_i32_36_r10
  let v51_r10 : BitVec 32 := Scalar.extui v50_r10
  let c0_i32_37_r10 : BitVec 32 := 0#32
  let v52_r10 : BitVec 1 := Scalar.cmpi .ne v51_r10 c0_i32_37_r10
  v52_r10

def k0_cond38 (i : grid0.Coords) : BitVec 1 :=
  let true_53_r10 : BitVec 1 := 1#1
  let c1_i32_38_r10 : BitVec 32 := 1#32
  let c0_i32_16 : BitVec 32 := 0#32
  let arg1 : BitVec 32 := BitVec.ofNat 32 (i 1).val
  let c1_i32_15 : BitVec 32 := 1#32
  let v24 : BitVec 32 := Scalar.muli arg1 c1_i32_15
  let v25 : BitVec 32 := Scalar.addi c0_i32_16 v24
  let arg0 : BitVec 32 := BitVec.ofNat 32 (i 0).val
  let c16_i32_17 : BitVec 32 := 16#32
  let v26 : BitVec 32 := Scalar.muli arg0 c16_i32_17
  let v27 : BitVec 32 := Scalar.addi v25 v26
  let c8_i32_18 : BitVec 32 := 8#32
  let v28 : BitVec 1 := Scalar.cmpi .slt v27 c8_i32_18
  let c17_i32_19 : BitVec 32 := 17#32
  let c16_i32_20 : BitVec 32 := 16#32
  let v29 : BitVec 32 := Scalar.select v28 c17_i32_19 c16_i32_20
  let v53_r10 : BitVec 32 := Scalar.muli c1_i32_38_r10 v29
  let c0_i32_52_r10 : BitVec 32 := 0#32
  let v71_r10 : BitVec 1 := Scalar.cmpi .sgt v53_r10 c0_i32_52_r10
  let v72_r10 : BitVec 1 := Scalar.andi true_53_r10 v71_r10
  let true_54_r10 : BitVec 1 := 1#1
  let v73_r10 : BitVec 1 := Scalar.andi v72_r10 true_54_r10
  let v74_r10 : BitVec 32 := Scalar.extui v73_r10
  let c0_i32_56_r10 : BitVec 32 := 0#32
  let v75_r10 : BitVec 1 := Scalar.cmpi .ne v74_r10 c0_i32_56_r10
  v75_r10

def k0_off71 : Fin 3 → Nat :=
  let c0_i32_55_r10 : BitVec 32 := 0#32
  let c2_i32_r10 : BitVec 32 := 2#32
  let v116_r10 : BitVec 32 := Scalar.remui c0_i32_55_r10 c2_i32_r10
  let c0_i32_88_r10 : BitVec 32 := 0#32
  let c0_i32_89_r10 : BitVec 32 := 0#32
  ![v116_r10.toNat, 0, 0]
def k0_off72 (i : grid0.Coords) : Fin 2 → Nat :=
  let c0_i32_90_r10 : BitVec 32 := 0#32
  let c128_i32_r10 : BitVec 32 := 128#32
  let c0_i32_41_r10 : BitVec 32 := 0#32
  let c0_i32_16 : BitVec 32 := 0#32
  let arg1 : BitVec 32 := BitVec.ofNat 32 (i 1).val
  let c1_i32_15 : BitVec 32 := 1#32
  let v24 : BitVec 32 := Scalar.muli arg1 c1_i32_15
  let v25 : BitVec 32 := Scalar.addi c0_i32_16 v24
  let arg0 : BitVec 32 := BitVec.ofNat 32 (i 0).val
  let c16_i32_17 : BitVec 32 := 16#32
  let v26 : BitVec 32 := Scalar.muli arg0 c16_i32_17
  let v27 : BitVec 32 := Scalar.addi v25 v26
  let c8_i32_21 : BitVec 32 := 8#32
  let v30 : BitVec 1 := Scalar.cmpi .slt v27 c8_i32_21
  let c8_i32_18 : BitVec 32 := 8#32
  let v28 : BitVec 1 := Scalar.cmpi .slt v27 c8_i32_18
  let c17_i32_19 : BitVec 32 := 17#32
  let c16_i32_20 : BitVec 32 := 16#32
  let v29 : BitVec 32 := Scalar.select v28 c17_i32_19 c16_i32_20
  let v31 : BitVec 32 := Scalar.muli v27 v29
  let c16_i32_22 : BitVec 32 := 16#32
  let v32 : BitVec 32 := Scalar.muli v27 c16_i32_22
  let c8_i32_23 : BitVec 32 := 8#32
  let v33 : BitVec 32 := Scalar.addi v32 c8_i32_23
  let v34 : BitVec 32 := Scalar.select v30 v31 v33
  let v56_r10 : BitVec 32 := Scalar.addi c0_i32_41_r10 v34
  let v117_r10 : BitVec 32 := Scalar.muli c128_i32_r10 v56_r10
  ![0, v117_r10.toNat]
def k0_off73 : Fin 1 → Nat :=
  let c0_i32_55_r10 : BitVec 32 := 0#32
  let c2_i32_r10 : BitVec 32 := 2#32
  let v116_r10 : BitVec 32 := Scalar.remui c0_i32_55_r10 c2_i32_r10
  ![v116_r10.toNat]
@[reducible] def k0_t5_loop (i : grid0.Coords) : Scf.Loop 32 :=
  let c0_i32_60_r10 : BitVec 32 := 0#32
  let c1_i32_24 : BitVec 32 := 1#32
  let c0_i32_16 : BitVec 32 := 0#32
  let arg1 : BitVec 32 := BitVec.ofNat 32 (i 1).val
  let c1_i32_15 : BitVec 32 := 1#32
  let v24 : BitVec 32 := Scalar.muli arg1 c1_i32_15
  let v25 : BitVec 32 := Scalar.addi c0_i32_16 v24
  let arg0 : BitVec 32 := BitVec.ofNat 32 (i 0).val
  let c16_i32_17 : BitVec 32 := 16#32
  let v26 : BitVec 32 := Scalar.muli arg0 c16_i32_17
  let v27 : BitVec 32 := Scalar.addi v25 v26
  let c8_i32_18 : BitVec 32 := 8#32
  let v28 : BitVec 1 := Scalar.cmpi .slt v27 c8_i32_18
  let c17_i32_19 : BitVec 32 := 17#32
  let c16_i32_20 : BitVec 32 := 16#32
  let v29 : BitVec 32 := Scalar.select v28 c17_i32_19 c16_i32_20
  let v35 : BitVec 32 := Scalar.muli c1_i32_24 v29
  let v78_r10 : BitVec 32 := Scalar.subi v35 c0_i32_60_r10
  let c1_i32_65_r10 : BitVec 32 := 1#32
  let v80_r10 : BitVec 32 := Scalar.divsi v78_r10 c1_i32_65_r10
  let v81_r10 : BitVec 32 := Scalar.muli v80_r10 c1_i32_65_r10
  let v82_r10 : BitVec 32 := Scalar.addi c0_i32_60_r10 v81_r10
  let c1_i32_66_r10 : BitVec 32 := 1#32
  ⟨c0_i32_60_r10, v82_r10, c1_i32_66_r10⟩
def k0_off74 (arg6_r10 : BitVec 32) : Fin 3 → Nat :=
  let c2_i32_133_r10 : BitVec 32 := 2#32
  let v203_r10 : BitVec 32 := Scalar.remui arg6_r10 c2_i32_133_r10
  let c0_i32_134_r10 : BitVec 32 := 0#32
  let c0_i32_135_r10 : BitVec 32 := 0#32
  ![v203_r10.toNat, 0, 0]
def k0_cond39 (i : grid0.Coords) (k0_t5 : Fin (k0_t5_loop i).trips) (arg10_r10 : BitVec 32) : BitVec 1 :=
  let c0_i32_16 : BitVec 32 := 0#32
  let arg1 : BitVec 32 := BitVec.ofNat 32 (i 1).val
  let c1_i32_15 : BitVec 32 := 1#32
  let v24 : BitVec 32 := Scalar.muli arg1 c1_i32_15
  let v25 : BitVec 32 := Scalar.addi c0_i32_16 v24
  let arg0 : BitVec 32 := BitVec.ofNat 32 (i 0).val
  let c16_i32_17 : BitVec 32 := 16#32
  let v26 : BitVec 32 := Scalar.muli arg0 c16_i32_17
  let v27 : BitVec 32 := Scalar.addi v25 v26
  let c8_i32_21 : BitVec 32 := 8#32
  let v30 : BitVec 1 := Scalar.cmpi .slt v27 c8_i32_21
  let c8_i32_18 : BitVec 32 := 8#32
  let v28 : BitVec 1 := Scalar.cmpi .slt v27 c8_i32_18
  let c17_i32_19 : BitVec 32 := 17#32
  let c16_i32_20 : BitVec 32 := 16#32
  let v29 : BitVec 32 := Scalar.select v28 c17_i32_19 c16_i32_20
  let v31 : BitVec 32 := Scalar.muli v27 v29
  let c16_i32_22 : BitVec 32 := 16#32
  let v32 : BitVec 32 := Scalar.muli v27 c16_i32_22
  let c8_i32_23 : BitVec 32 := 8#32
  let v33 : BitVec 32 := Scalar.addi v32 c8_i32_23
  let v34 : BitVec 32 := Scalar.select v30 v31 v33
  let v120_r10 : BitVec 32 := Scalar.addi arg10_r10 v34
  let true_96_r10 : BitVec 1 := 1#1
  let c1_i32_95_r10 : BitVec 32 := 1#32
  let v127_r10 : BitVec 32 := Scalar.addi arg10_r10 c1_i32_95_r10
  let v128_r10 : BitVec 32 := Scalar.select true_96_r10 v127_r10 arg10_r10
  let v129_r10 : BitVec 1 := Scalar.cmpi .eq v128_r10 v29
  let c0_i32_97_r10 : BitVec 32 := 0#32
  let v130_r10 : BitVec 32 := Scalar.select v129_r10 c0_i32_97_r10 v128_r10
  let v131_r10 : BitVec 32 := Scalar.addi v130_r10 v34
  let v137_r10 : BitVec 1 := Scalar.cmpi .ne v120_r10 v131_r10
  let c0_i32_60_r10 : BitVec 32 := 0#32
  let c1_i32_66_r10 : BitVec 32 := 1#32
  let arg5_r10 : BitVec 32 := Scf.iv c0_i32_60_r10 c1_i32_66_r10 k0_t5
  let c1_i32_88_r10 : BitVec 32 := 1#32
  let v116_r10 : BitVec 32 := Scalar.muli c1_i32_88_r10 v29
  let c2_i32_r10 : BitVec 32 := 2#32
  let v138_r10 : BitVec 32 := Scalar.subi v116_r10 c2_i32_r10
  let c1_i32_101_r10 : BitVec 32 := 1#32
  let v139_r10 : BitVec 32 := Scalar.addi v138_r10 c1_i32_101_r10
  let v140_r10 : BitVec 1 := Scalar.cmpi .sge arg5_r10 v139_r10
  let true_102_r10 : BitVec 1 := 1#1
  let v141_r10 : BitVec 1 := Scalar.xori v140_r10 true_102_r10
  let v142_r10 : BitVec 1 := Scalar.andi v137_r10 v141_r10
  let true_103_r10 : BitVec 1 := 1#1
  let v143_r10 : BitVec 1 := Scalar.andi v142_r10 true_103_r10
  let v144_r10 : BitVec 32 := Scalar.extui v143_r10
  let c0_i32_104_r10 : BitVec 32 := 0#32
  let v145_r10 : BitVec 1 := Scalar.cmpi .ne v144_r10 c0_i32_104_r10
  v145_r10

def k0_off75 (i : grid0.Coords) (arg10_r10 : BitVec 32) : Fin 2 → Nat :=
  let c0_i32_136_r10 : BitVec 32 := 0#32
  let c128_i32_r10 : BitVec 32 := 128#32
  let true_96_r10 : BitVec 1 := 1#1
  let c1_i32_95_r10 : BitVec 32 := 1#32
  let v127_r10 : BitVec 32 := Scalar.addi arg10_r10 c1_i32_95_r10
  let v128_r10 : BitVec 32 := Scalar.select true_96_r10 v127_r10 arg10_r10
  let c0_i32_16 : BitVec 32 := 0#32
  let arg1 : BitVec 32 := BitVec.ofNat 32 (i 1).val
  let c1_i32_15 : BitVec 32 := 1#32
  let v24 : BitVec 32 := Scalar.muli arg1 c1_i32_15
  let v25 : BitVec 32 := Scalar.addi c0_i32_16 v24
  let arg0 : BitVec 32 := BitVec.ofNat 32 (i 0).val
  let c16_i32_17 : BitVec 32 := 16#32
  let v26 : BitVec 32 := Scalar.muli arg0 c16_i32_17
  let v27 : BitVec 32 := Scalar.addi v25 v26
  let c8_i32_18 : BitVec 32 := 8#32
  let v28 : BitVec 1 := Scalar.cmpi .slt v27 c8_i32_18
  let c17_i32_19 : BitVec 32 := 17#32
  let c16_i32_20 : BitVec 32 := 16#32
  let v29 : BitVec 32 := Scalar.select v28 c17_i32_19 c16_i32_20
  let v129_r10 : BitVec 1 := Scalar.cmpi .eq v128_r10 v29
  let c0_i32_97_r10 : BitVec 32 := 0#32
  let v130_r10 : BitVec 32 := Scalar.select v129_r10 c0_i32_97_r10 v128_r10
  let c8_i32_21 : BitVec 32 := 8#32
  let v30 : BitVec 1 := Scalar.cmpi .slt v27 c8_i32_21
  let v31 : BitVec 32 := Scalar.muli v27 v29
  let c16_i32_22 : BitVec 32 := 16#32
  let v32 : BitVec 32 := Scalar.muli v27 c16_i32_22
  let c8_i32_23 : BitVec 32 := 8#32
  let v33 : BitVec 32 := Scalar.addi v32 c8_i32_23
  let v34 : BitVec 32 := Scalar.select v30 v31 v33
  let v131_r10 : BitVec 32 := Scalar.addi v130_r10 v34
  let v204_r10 : BitVec 32 := Scalar.muli c128_i32_r10 v131_r10
  ![0, v204_r10.toNat]
def k0_off76 (arg6_r10 : BitVec 32) : Fin 1 → Nat :=
  let c2_i32_133_r10 : BitVec 32 := 2#32
  let v203_r10 : BitVec 32 := Scalar.remui arg6_r10 c2_i32_133_r10
  ![v203_r10.toNat]
def k0_off77 (arg7_r10 : BitVec 32) : Fin 3 → Nat :=
  let c2_i32_133_r10 : BitVec 32 := 2#32
  let v204_r10 : BitVec 32 := Scalar.remui arg7_r10 c2_i32_133_r10
  let c0_i32_134_r10 : BitVec 32 := 0#32
  let c0_i32_135_r10 : BitVec 32 := 0#32
  ![v204_r10.toNat, 0, 0]
def k0_cond40 (i : grid0.Coords) (k0_t5 : Fin (k0_t5_loop i).trips) (arg10_r10 : BitVec 32) : BitVec 1 :=
  let c0_i32_16 : BitVec 32 := 0#32
  let arg1 : BitVec 32 := BitVec.ofNat 32 (i 1).val
  let c1_i32_15 : BitVec 32 := 1#32
  let v24 : BitVec 32 := Scalar.muli arg1 c1_i32_15
  let v25 : BitVec 32 := Scalar.addi c0_i32_16 v24
  let arg0 : BitVec 32 := BitVec.ofNat 32 (i 0).val
  let c16_i32_17 : BitVec 32 := 16#32
  let v26 : BitVec 32 := Scalar.muli arg0 c16_i32_17
  let v27 : BitVec 32 := Scalar.addi v25 v26
  let c8_i32_21 : BitVec 32 := 8#32
  let v30 : BitVec 1 := Scalar.cmpi .slt v27 c8_i32_21
  let c8_i32_18 : BitVec 32 := 8#32
  let v28 : BitVec 1 := Scalar.cmpi .slt v27 c8_i32_18
  let c17_i32_19 : BitVec 32 := 17#32
  let c16_i32_20 : BitVec 32 := 16#32
  let v29 : BitVec 32 := Scalar.select v28 c17_i32_19 c16_i32_20
  let v31 : BitVec 32 := Scalar.muli v27 v29
  let c16_i32_22 : BitVec 32 := 16#32
  let v32 : BitVec 32 := Scalar.muli v27 c16_i32_22
  let c8_i32_23 : BitVec 32 := 8#32
  let v33 : BitVec 32 := Scalar.addi v32 c8_i32_23
  let v34 : BitVec 32 := Scalar.select v30 v31 v33
  let v120_r10 : BitVec 32 := Scalar.addi arg10_r10 v34
  let true_92_r10 : BitVec 1 := 1#1
  let c1_i32_91_r10 : BitVec 32 := 1#32
  let v121_r10 : BitVec 32 := Scalar.subi arg10_r10 c1_i32_91_r10
  let v122_r10 : BitVec 32 := Scalar.select true_92_r10 v121_r10 arg10_r10
  let c_m1_i32_93_r10 : BitVec 32 := 4294967295#32
  let v123_r10 : BitVec 1 := Scalar.cmpi .eq v122_r10 c_m1_i32_93_r10
  let c1_i32_94_r10 : BitVec 32 := 1#32
  let v124_r10 : BitVec 32 := Scalar.subi v29 c1_i32_94_r10
  let v125_r10 : BitVec 32 := Scalar.select v123_r10 v124_r10 v122_r10
  let v126_r10 : BitVec 32 := Scalar.addi v125_r10 v34
  let v155_r10 : BitVec 1 := Scalar.cmpi .ne v120_r10 v126_r10
  let c0_i32_60_r10 : BitVec 32 := 0#32
  let c1_i32_66_r10 : BitVec 32 := 1#32
  let arg5_r10 : BitVec 32 := Scf.iv c0_i32_60_r10 c1_i32_66_r10 k0_t5
  let c0_i32_89_r10 : BitVec 32 := 0#32
  let v117_r10 : BitVec 1 := Scalar.cmpi .eq arg5_r10 c0_i32_89_r10
  let v156_r10 : BitVec 1 := Scalar.ori v155_r10 v117_r10
  let c0_i32_110_r10 : BitVec 32 := 0#32
  let v157_r10 : BitVec 1 := Scalar.cmpi .sge arg5_r10 c0_i32_110_r10
  let v158_r10 : BitVec 1 := Scalar.andi v156_r10 v157_r10
  let v159_r10 : BitVec 32 := Scalar.extui v158_r10
  let c0_i32_111_r10 : BitVec 32 := 0#32
  let v160_r10 : BitVec 1 := Scalar.cmpi .ne v159_r10 c0_i32_111_r10
  v160_r10

def k0_off78 (i : grid0.Coords) (arg10_r10 : BitVec 32) : Fin 2 → Nat :=
  let c0_i32_136_r10 : BitVec 32 := 0#32
  let c128_i32_r10 : BitVec 32 := 128#32
  let c0_i32_16 : BitVec 32 := 0#32
  let arg1 : BitVec 32 := BitVec.ofNat 32 (i 1).val
  let c1_i32_15 : BitVec 32 := 1#32
  let v24 : BitVec 32 := Scalar.muli arg1 c1_i32_15
  let v25 : BitVec 32 := Scalar.addi c0_i32_16 v24
  let arg0 : BitVec 32 := BitVec.ofNat 32 (i 0).val
  let c16_i32_17 : BitVec 32 := 16#32
  let v26 : BitVec 32 := Scalar.muli arg0 c16_i32_17
  let v27 : BitVec 32 := Scalar.addi v25 v26
  let c8_i32_21 : BitVec 32 := 8#32
  let v30 : BitVec 1 := Scalar.cmpi .slt v27 c8_i32_21
  let c8_i32_18 : BitVec 32 := 8#32
  let v28 : BitVec 1 := Scalar.cmpi .slt v27 c8_i32_18
  let c17_i32_19 : BitVec 32 := 17#32
  let c16_i32_20 : BitVec 32 := 16#32
  let v29 : BitVec 32 := Scalar.select v28 c17_i32_19 c16_i32_20
  let v31 : BitVec 32 := Scalar.muli v27 v29
  let c16_i32_22 : BitVec 32 := 16#32
  let v32 : BitVec 32 := Scalar.muli v27 c16_i32_22
  let c8_i32_23 : BitVec 32 := 8#32
  let v33 : BitVec 32 := Scalar.addi v32 c8_i32_23
  let v34 : BitVec 32 := Scalar.select v30 v31 v33
  let v120_r10 : BitVec 32 := Scalar.addi arg10_r10 v34
  let v203_r10 : BitVec 32 := Scalar.muli c128_i32_r10 v120_r10
  ![0, v203_r10.toNat]
def k0_off79 (arg7_r10 : BitVec 32) : Fin 1 → Nat :=
  let c2_i32_133_r10 : BitVec 32 := 2#32
  let v204_r10 : BitVec 32 := Scalar.remui arg7_r10 c2_i32_133_r10
  ![v204_r10.toNat]
def k0_off80 (arg8_r10 : BitVec 32) : Fin 3 → Nat :=
  let c2_i32_115_r10 : BitVec 32 := 2#32
  let v168_r10 : BitVec 32 := Scalar.remui arg8_r10 c2_i32_115_r10
  let c0_i32_133_r11 : BitVec 32 := 0#32
  let c0_i32_134_r11 : BitVec 32 := 0#32
  ![v168_r10.toNat, 0, 0]

def k0_chk18 (i : grid0.Coords) (arg8_r10 : BitVec 32) : Prop :=
  (∀ (k0_h37 : k0_cond37 i = 1#1), ∀ a, (k0_off80 arg8_r10) a + S1x128x256.size a ≤ S2x128x256.size a)
theorem k0_off80_inb : ∀ (i : grid0.Coords) (arg8_r10 : BitVec 32) (k0_hw18 : k0_chk18 i arg8_r10), ∀ (k0_h37 : k0_cond37 i = 1#1), ∀ a, (k0_off80 arg8_r10) a + S1x128x256.size a ≤ S2x128x256.size a := fun i arg8_r10 k0_hw18 k0_h37 => k0_hw18 k0_h37

def k0_off81 (arg7_r10 : BitVec 32) : Fin 3 → Nat :=
  let c2_i32_114_r10 : BitVec 32 := 2#32
  let v167_r10 : BitVec 32 := Scalar.remui arg7_r10 c2_i32_114_r10
  let c0_i32_137_r11 : BitVec 32 := 0#32
  let c0_i32_138_r11 : BitVec 32 := 0#32
  ![v167_r10.toNat, 0, 0]

def k0_chk19 (i : grid0.Coords) (arg7_r10 : BitVec 32) : Prop :=
  (∀ (k0_h37 : k0_cond37 i = 1#1), ∀ a, (k0_off81 arg7_r10) a + S1x1x128.size a ≤ S2x1x128.size a)
theorem k0_off81_inb : ∀ (i : grid0.Coords) (arg7_r10 : BitVec 32) (k0_hw19 : k0_chk19 i arg7_r10), ∀ (k0_h37 : k0_cond37 i = 1#1), ∀ a, (k0_off81 arg7_r10) a + S1x1x128.size a ≤ S2x1x128.size a := fun i arg7_r10 k0_hw19 k0_h37 => k0_hw19 k0_h37

def k0_off82 (arg8_r10 : BitVec 32) : Fin 3 → Nat :=
  let c2_i32_133_r10 : BitVec 32 := 2#32
  let v203_r10 : BitVec 32 := Scalar.remui arg8_r10 c2_i32_133_r10
  let c0_i32_134_r10 : BitVec 32 := 0#32
  let c0_i32_135_r10 : BitVec 32 := 0#32
  ![v203_r10.toNat, 0, 0]
def k0_cond43 (i : grid0.Coords) (k0_t5 : Fin (k0_t5_loop i).trips) (arg10_r10 : BitVec 32) : BitVec 1 :=
  let c0_i32_16 : BitVec 32 := 0#32
  let arg1 : BitVec 32 := BitVec.ofNat 32 (i 1).val
  let c1_i32_15 : BitVec 32 := 1#32
  let v24 : BitVec 32 := Scalar.muli arg1 c1_i32_15
  let v25 : BitVec 32 := Scalar.addi c0_i32_16 v24
  let arg0 : BitVec 32 := BitVec.ofNat 32 (i 0).val
  let c16_i32_17 : BitVec 32 := 16#32
  let v26 : BitVec 32 := Scalar.muli arg0 c16_i32_17
  let v27 : BitVec 32 := Scalar.addi v25 v26
  let c8_i32_21 : BitVec 32 := 8#32
  let v30 : BitVec 1 := Scalar.cmpi .slt v27 c8_i32_21
  let c8_i32_18 : BitVec 32 := 8#32
  let v28 : BitVec 1 := Scalar.cmpi .slt v27 c8_i32_18
  let c17_i32_19 : BitVec 32 := 17#32
  let c16_i32_20 : BitVec 32 := 16#32
  let v29 : BitVec 32 := Scalar.select v28 c17_i32_19 c16_i32_20
  let v31 : BitVec 32 := Scalar.muli v27 v29
  let c16_i32_22 : BitVec 32 := 16#32
  let v32 : BitVec 32 := Scalar.muli v27 c16_i32_22
  let c8_i32_23 : BitVec 32 := 8#32
  let v33 : BitVec 32 := Scalar.addi v32 c8_i32_23
  let v34 : BitVec 32 := Scalar.select v30 v31 v33
  let v120_r10 : BitVec 32 := Scalar.addi arg10_r10 v34
  let true_96_r10 : BitVec 1 := 1#1
  let c1_i32_95_r10 : BitVec 32 := 1#32
  let v127_r10 : BitVec 32 := Scalar.addi arg10_r10 c1_i32_95_r10
  let v128_r10 : BitVec 32 := Scalar.select true_96_r10 v127_r10 arg10_r10
  let v129_r10 : BitVec 1 := Scalar.cmpi .eq v128_r10 v29
  let c0_i32_97_r10 : BitVec 32 := 0#32
  let v130_r10 : BitVec 32 := Scalar.select v129_r10 c0_i32_97_r10 v128_r10
  let v131_r10 : BitVec 32 := Scalar.addi v130_r10 v34
  let v174_r10 : BitVec 1 := Scalar.cmpi .ne v120_r10 v131_r10
  let c0_i32_60_r10 : BitVec 32 := 0#32
  let c1_i32_66_r10 : BitVec 32 := 1#32
  let arg5_r10 : BitVec 32 := Scf.iv c0_i32_60_r10 c1_i32_66_r10 k0_t5
  let c1_i32_88_r10 : BitVec 32 := 1#32
  let v116_r10 : BitVec 32 := Scalar.muli c1_i32_88_r10 v29
  let c1_i32_90_r10 : BitVec 32 := 1#32
  let v118_r10 : BitVec 32 := Scalar.subi v116_r10 c1_i32_90_r10
  let v119_r10 : BitVec 1 := Scalar.cmpi .eq arg5_r10 v118_r10
  let v175_r10 : BitVec 1 := Scalar.ori v174_r10 v119_r10
  let v176_r10 : BitVec 32 := Scalar.extui v175_r10
  let c0_i32_119_r10 : BitVec 32 := 0#32
  let v177_r10 : BitVec 1 := Scalar.cmpi .ne v176_r10 c0_i32_119_r10
  v177_r10

def k0_off83 (i : grid0.Coords) (arg10_r10 : BitVec 32) : Fin 2 → Nat :=
  let c128_i32_r10 : BitVec 32 := 128#32
  let c0_i32_16 : BitVec 32 := 0#32
  let arg1 : BitVec 32 := BitVec.ofNat 32 (i 1).val
  let c1_i32_15 : BitVec 32 := 1#32
  let v24 : BitVec 32 := Scalar.muli arg1 c1_i32_15
  let v25 : BitVec 32 := Scalar.addi c0_i32_16 v24
  let arg0 : BitVec 32 := BitVec.ofNat 32 (i 0).val
  let c16_i32_17 : BitVec 32 := 16#32
  let v26 : BitVec 32 := Scalar.muli arg0 c16_i32_17
  let v27 : BitVec 32 := Scalar.addi v25 v26
  let c8_i32_21 : BitVec 32 := 8#32
  let v30 : BitVec 1 := Scalar.cmpi .slt v27 c8_i32_21
  let c8_i32_18 : BitVec 32 := 8#32
  let v28 : BitVec 1 := Scalar.cmpi .slt v27 c8_i32_18
  let c17_i32_19 : BitVec 32 := 17#32
  let c16_i32_20 : BitVec 32 := 16#32
  let v29 : BitVec 32 := Scalar.select v28 c17_i32_19 c16_i32_20
  let v31 : BitVec 32 := Scalar.muli v27 v29
  let c16_i32_22 : BitVec 32 := 16#32
  let v32 : BitVec 32 := Scalar.muli v27 c16_i32_22
  let c8_i32_23 : BitVec 32 := 8#32
  let v33 : BitVec 32 := Scalar.addi v32 c8_i32_23
  let v34 : BitVec 32 := Scalar.select v30 v31 v33
  let v120_r10 : BitVec 32 := Scalar.addi arg10_r10 v34
  let v204_r10 : BitVec 32 := Scalar.muli c128_i32_r10 v120_r10
  let c512_i32_r10 : BitVec 32 := 512#32
  ![v204_r10.toNat, 512]
def k0_off84 (arg8_r10 : BitVec 32) : Fin 1 → Nat :=
  let c2_i32_133_r10 : BitVec 32 := 2#32
  let v203_r10 : BitVec 32 := Scalar.remui arg8_r10 c2_i32_133_r10
  ![v203_r10.toNat]
def k0_off85 (arg9_r10 : BitVec 32) : Fin 3 → Nat :=
  let c2_i32_133_r10 : BitVec 32 := 2#32
  let v203_r10 : BitVec 32 := Scalar.remui arg9_r10 c2_i32_133_r10
  let c0_i32_134_r10 : BitVec 32 := 0#32
  let c0_i32_135_r10 : BitVec 32 := 0#32
  ![v203_r10.toNat, 0, 0]
def k0_cond45 (i : grid0.Coords) (k0_t5 : Fin (k0_t5_loop i).trips) (arg10_r10 : BitVec 32) : BitVec 1 :=
  let c0_i32_16 : BitVec 32 := 0#32
  let arg1 : BitVec 32 := BitVec.ofNat 32 (i 1).val
  let c1_i32_15 : BitVec 32 := 1#32
  let v24 : BitVec 32 := Scalar.muli arg1 c1_i32_15
  let v25 : BitVec 32 := Scalar.addi c0_i32_16 v24
  let arg0 : BitVec 32 := BitVec.ofNat 32 (i 0).val
  let c16_i32_17 : BitVec 32 := 16#32
  let v26 : BitVec 32 := Scalar.muli arg0 c16_i32_17
  let v27 : BitVec 32 := Scalar.addi v25 v26
  let c8_i32_21 : BitVec 32 := 8#32
  let v30 : BitVec 1 := Scalar.cmpi .slt v27 c8_i32_21
  let c8_i32_18 : BitVec 32 := 8#32
  let v28 : BitVec 1 := Scalar.cmpi .slt v27 c8_i32_18
  let c17_i32_19 : BitVec 32 := 17#32
  let c16_i32_20 : BitVec 32 := 16#32
  let v29 : BitVec 32 := Scalar.select v28 c17_i32_19 c16_i32_20
  let v31 : BitVec 32 := Scalar.muli v27 v29
  let c16_i32_22 : BitVec 32 := 16#32
  let v32 : BitVec 32 := Scalar.muli v27 c16_i32_22
  let c8_i32_23 : BitVec 32 := 8#32
  let v33 : BitVec 32 := Scalar.addi v32 c8_i32_23
  let v34 : BitVec 32 := Scalar.select v30 v31 v33
  let v120_r10 : BitVec 32 := Scalar.addi arg10_r10 v34
  let true_92_r10 : BitVec 1 := 1#1
  let c1_i32_91_r10 : BitVec 32 := 1#32
  let v121_r10 : BitVec 32 := Scalar.subi arg10_r10 c1_i32_91_r10
  let v122_r10 : BitVec 32 := Scalar.select true_92_r10 v121_r10 arg10_r10
  let c_m1_i32_93_r10 : BitVec 32 := 4294967295#32
  let v123_r10 : BitVec 1 := Scalar.cmpi .eq v122_r10 c_m1_i32_93_r10
  let c1_i32_94_r10 : BitVec 32 := 1#32
  let v124_r10 : BitVec 32 := Scalar.subi v29 c1_i32_94_r10
  let v125_r10 : BitVec 32 := Scalar.select v123_r10 v124_r10 v122_r10
  let v126_r10 : BitVec 32 := Scalar.addi v125_r10 v34
  let v187_r10 : BitVec 1 := Scalar.cmpi .ne v120_r10 v126_r10
  let c0_i32_60_r10 : BitVec 32 := 0#32
  let c1_i32_66_r10 : BitVec 32 := 1#32
  let arg5_r10 : BitVec 32 := Scf.iv c0_i32_60_r10 c1_i32_66_r10 k0_t5
  let c0_i32_89_r10 : BitVec 32 := 0#32
  let v117_r10 : BitVec 1 := Scalar.cmpi .eq arg5_r10 c0_i32_89_r10
  let true_125_r10 : BitVec 1 := 1#1
  let v188_r10 : BitVec 1 := Scalar.xori v117_r10 true_125_r10
  let v189_r10 : BitVec 1 := Scalar.andi v187_r10 v188_r10
  let v190_r10 : BitVec 32 := Scalar.extui v189_r10
  let c0_i32_126_r10 : BitVec 32 := 0#32
  let v191_r10 : BitVec 1 := Scalar.cmpi .ne v190_r10 c0_i32_126_r10
  v191_r10

def k0_off86 (i : grid0.Coords) (arg10_r10 : BitVec 32) : Fin 2 → Nat :=
  let c128_i32_r10 : BitVec 32 := 128#32
  let true_92_r10 : BitVec 1 := 1#1
  let c1_i32_91_r10 : BitVec 32 := 1#32
  let v121_r10 : BitVec 32 := Scalar.subi arg10_r10 c1_i32_91_r10
  let v122_r10 : BitVec 32 := Scalar.select true_92_r10 v121_r10 arg10_r10
  let c_m1_i32_93_r10 : BitVec 32 := 4294967295#32
  let v123_r10 : BitVec 1 := Scalar.cmpi .eq v122_r10 c_m1_i32_93_r10
  let c0_i32_16 : BitVec 32 := 0#32
  let arg1 : BitVec 32 := BitVec.ofNat 32 (i 1).val
  let c1_i32_15 : BitVec 32 := 1#32
  let v24 : BitVec 32 := Scalar.muli arg1 c1_i32_15
  let v25 : BitVec 32 := Scalar.addi c0_i32_16 v24
  let arg0 : BitVec 32 := BitVec.ofNat 32 (i 0).val
  let c16_i32_17 : BitVec 32 := 16#32
  let v26 : BitVec 32 := Scalar.muli arg0 c16_i32_17
  let v27 : BitVec 32 := Scalar.addi v25 v26
  let c8_i32_18 : BitVec 32 := 8#32
  let v28 : BitVec 1 := Scalar.cmpi .slt v27 c8_i32_18
  let c17_i32_19 : BitVec 32 := 17#32
  let c16_i32_20 : BitVec 32 := 16#32
  let v29 : BitVec 32 := Scalar.select v28 c17_i32_19 c16_i32_20
  let c1_i32_94_r10 : BitVec 32 := 1#32
  let v124_r10 : BitVec 32 := Scalar.subi v29 c1_i32_94_r10
  let v125_r10 : BitVec 32 := Scalar.select v123_r10 v124_r10 v122_r10
  let c8_i32_21 : BitVec 32 := 8#32
  let v30 : BitVec 1 := Scalar.cmpi .slt v27 c8_i32_21
  let v31 : BitVec 32 := Scalar.muli v27 v29
  let c16_i32_22 : BitVec 32 := 16#32
  let v32 : BitVec 32 := Scalar.muli v27 c16_i32_22
  let c8_i32_23 : BitVec 32 := 8#32
  let v33 : BitVec 32 := Scalar.addi v32 c8_i32_23
  let v34 : BitVec 32 := Scalar.select v30 v31 v33
  let v126_r10 : BitVec 32 := Scalar.addi v125_r10 v34
  let v204_r10 : BitVec 32 := Scalar.muli c128_i32_r10 v126_r10
  let c512_i32_r10 : BitVec 32 := 512#32
  ![v204_r10.toNat, 512]
def k0_off87 (arg9_r10 : BitVec 32) : Fin 1 → Nat :=
  let c2_i32_133_r10 : BitVec 32 := 2#32
  let v203_r10 : BitVec 32 := Scalar.remui arg9_r10 c2_i32_133_r10
  ![v203_r10.toNat]

def k0_chk17 (i : grid0.Coords) (k0_t5 : Fin (k0_t5_loop i).trips) (arg6_r10 : BitVec 32) (arg7_r10 : BitVec 32) (arg8_r10 : BitVec 32) (arg9_r10 : BitVec 32) (arg10_r10 : BitVec 32) : Prop :=
  (∀ (k0_h37 : k0_cond37 i = 1#1), ∀ (k0_h39 : k0_cond39 i k0_t5 arg10_r10 = 1#1), ∀ a, (k0_off74 arg6_r10) a + S1x1x128.size a ≤ S2x1x128.size a) ∧
  (∀ (k0_h37 : k0_cond37 i = 1#1), ∀ (k0_h39 : k0_cond39 i k0_t5 arg10_r10 = 1#1), ∀ a, (k0_off75 i arg10_r10) a + S1x128.size a ≤ S1x66560.size a) ∧
  (∀ (k0_h37 : k0_cond37 i = 1#1), ∀ (k0_h39 : k0_cond39 i k0_t5 arg10_r10 = 1#1), ∀ a, (k0_off76 arg6_r10) a + S1.size a ≤ S2.size a) ∧
  (∀ (k0_h37 : k0_cond37 i = 1#1), ∀ (k0_h40 : k0_cond40 i k0_t5 arg10_r10 = 1#1), ∀ a, (k0_off77 arg7_r10) a + S1x1x128.size a ≤ S2x1x128.size a) ∧
  (∀ (k0_h37 : k0_cond37 i = 1#1), ∀ (k0_h40 : k0_cond40 i k0_t5 arg10_r10 = 1#1), ∀ a, (k0_off78 i arg10_r10) a + S1x128.size a ≤ S1x66560.size a) ∧
  (∀ (k0_h37 : k0_cond37 i = 1#1), ∀ (k0_h40 : k0_cond40 i k0_t5 arg10_r10 = 1#1), ∀ a, (k0_off79 arg7_r10) a + S1.size a ≤ S2.size a) ∧
  (∀ (k0_h37 : k0_cond37 i = 1#1), ∀ (k0_h43 : k0_cond43 i k0_t5 arg10_r10 = 1#1), ∀ a, (k0_off82 arg8_r10) a + S1x128x256.size a ≤ S2x128x256.size a) ∧
  (∀ (k0_h37 : k0_cond37 i = 1#1), ∀ (k0_h43 : k0_cond43 i k0_t5 arg10_r10 = 1#1), ∀ a, (k0_off83 i arg10_r10) a + S128x256.size a ≤ S66560x1024.size a) ∧
  (∀ (k0_h37 : k0_cond37 i = 1#1), ∀ (k0_h43 : k0_cond43 i k0_t5 arg10_r10 = 1#1), ∀ a, (k0_off84 arg8_r10) a + S1.size a ≤ S2.size a) ∧
  (∀ (k0_h37 : k0_cond37 i = 1#1), ∀ (k0_h45 : k0_cond45 i k0_t5 arg10_r10 = 1#1), ∀ a, (k0_off85 arg9_r10) a + S1x128x256.size a ≤ S2x128x256.size a) ∧
  (∀ (k0_h37 : k0_cond37 i = 1#1), ∀ (k0_h45 : k0_cond45 i k0_t5 arg10_r10 = 1#1), ∀ a, (k0_off86 i arg10_r10) a + S128x256.size a ≤ S66560x1024.size a) ∧
  (∀ (k0_h37 : k0_cond37 i = 1#1), ∀ (k0_h45 : k0_cond45 i k0_t5 arg10_r10 = 1#1), ∀ a, (k0_off87 arg9_r10) a + S1.size a ≤ S2.size a)
theorem k0_off74_inb : ∀ (i : grid0.Coords) (k0_t5 : Fin (k0_t5_loop i).trips) (arg6_r10 : BitVec 32) (arg7_r10 : BitVec 32) (arg8_r10 : BitVec 32) (arg9_r10 : BitVec 32) (arg10_r10 : BitVec 32) (k0_hw17 : k0_chk17 i k0_t5 arg6_r10 arg7_r10 arg8_r10 arg9_r10 arg10_r10), ∀ (k0_h37 : k0_cond37 i = 1#1), ∀ (k0_h39 : k0_cond39 i k0_t5 arg10_r10 = 1#1), ∀ a, (k0_off74 arg6_r10) a + S1x1x128.size a ≤ S2x1x128.size a := fun i k0_t5 arg6_r10 arg7_r10 arg8_r10 arg9_r10 arg10_r10 k0_hw17 k0_h37 k0_h39 => k0_hw17.1 k0_h37 k0_h39
theorem k0_off75_inb : ∀ (i : grid0.Coords) (k0_t5 : Fin (k0_t5_loop i).trips) (arg6_r10 : BitVec 32) (arg7_r10 : BitVec 32) (arg8_r10 : BitVec 32) (arg9_r10 : BitVec 32) (arg10_r10 : BitVec 32) (k0_hw17 : k0_chk17 i k0_t5 arg6_r10 arg7_r10 arg8_r10 arg9_r10 arg10_r10), ∀ (k0_h37 : k0_cond37 i = 1#1), ∀ (k0_h39 : k0_cond39 i k0_t5 arg10_r10 = 1#1), ∀ a, (k0_off75 i arg10_r10) a + S1x128.size a ≤ S1x66560.size a := fun i k0_t5 arg6_r10 arg7_r10 arg8_r10 arg9_r10 arg10_r10 k0_hw17 k0_h37 k0_h39 => k0_hw17.2.1 k0_h37 k0_h39
theorem k0_off76_inb : ∀ (i : grid0.Coords) (k0_t5 : Fin (k0_t5_loop i).trips) (arg6_r10 : BitVec 32) (arg7_r10 : BitVec 32) (arg8_r10 : BitVec 32) (arg9_r10 : BitVec 32) (arg10_r10 : BitVec 32) (k0_hw17 : k0_chk17 i k0_t5 arg6_r10 arg7_r10 arg8_r10 arg9_r10 arg10_r10), ∀ (k0_h37 : k0_cond37 i = 1#1), ∀ (k0_h39 : k0_cond39 i k0_t5 arg10_r10 = 1#1), ∀ a, (k0_off76 arg6_r10) a + S1.size a ≤ S2.size a := fun i k0_t5 arg6_r10 arg7_r10 arg8_r10 arg9_r10 arg10_r10 k0_hw17 k0_h37 k0_h39 => k0_hw17.2.2.1 k0_h37 k0_h39
theorem k0_off77_inb : ∀ (i : grid0.Coords) (k0_t5 : Fin (k0_t5_loop i).trips) (arg6_r10 : BitVec 32) (arg7_r10 : BitVec 32) (arg8_r10 : BitVec 32) (arg9_r10 : BitVec 32) (arg10_r10 : BitVec 32) (k0_hw17 : k0_chk17 i k0_t5 arg6_r10 arg7_r10 arg8_r10 arg9_r10 arg10_r10), ∀ (k0_h37 : k0_cond37 i = 1#1), ∀ (k0_h40 : k0_cond40 i k0_t5 arg10_r10 = 1#1), ∀ a, (k0_off77 arg7_r10) a + S1x1x128.size a ≤ S2x1x128.size a := fun i k0_t5 arg6_r10 arg7_r10 arg8_r10 arg9_r10 arg10_r10 k0_hw17 k0_h37 k0_h40 => k0_hw17.2.2.2.1 k0_h37 k0_h40
theorem k0_off78_inb : ∀ (i : grid0.Coords) (k0_t5 : Fin (k0_t5_loop i).trips) (arg6_r10 : BitVec 32) (arg7_r10 : BitVec 32) (arg8_r10 : BitVec 32) (arg9_r10 : BitVec 32) (arg10_r10 : BitVec 32) (k0_hw17 : k0_chk17 i k0_t5 arg6_r10 arg7_r10 arg8_r10 arg9_r10 arg10_r10), ∀ (k0_h37 : k0_cond37 i = 1#1), ∀ (k0_h40 : k0_cond40 i k0_t5 arg10_r10 = 1#1), ∀ a, (k0_off78 i arg10_r10) a + S1x128.size a ≤ S1x66560.size a := fun i k0_t5 arg6_r10 arg7_r10 arg8_r10 arg9_r10 arg10_r10 k0_hw17 k0_h37 k0_h40 => k0_hw17.2.2.2.2.1 k0_h37 k0_h40
theorem k0_off79_inb : ∀ (i : grid0.Coords) (k0_t5 : Fin (k0_t5_loop i).trips) (arg6_r10 : BitVec 32) (arg7_r10 : BitVec 32) (arg8_r10 : BitVec 32) (arg9_r10 : BitVec 32) (arg10_r10 : BitVec 32) (k0_hw17 : k0_chk17 i k0_t5 arg6_r10 arg7_r10 arg8_r10 arg9_r10 arg10_r10), ∀ (k0_h37 : k0_cond37 i = 1#1), ∀ (k0_h40 : k0_cond40 i k0_t5 arg10_r10 = 1#1), ∀ a, (k0_off79 arg7_r10) a + S1.size a ≤ S2.size a := fun i k0_t5 arg6_r10 arg7_r10 arg8_r10 arg9_r10 arg10_r10 k0_hw17 k0_h37 k0_h40 => k0_hw17.2.2.2.2.2.1 k0_h37 k0_h40
theorem k0_off82_inb : ∀ (i : grid0.Coords) (k0_t5 : Fin (k0_t5_loop i).trips) (arg6_r10 : BitVec 32) (arg7_r10 : BitVec 32) (arg8_r10 : BitVec 32) (arg9_r10 : BitVec 32) (arg10_r10 : BitVec 32) (k0_hw17 : k0_chk17 i k0_t5 arg6_r10 arg7_r10 arg8_r10 arg9_r10 arg10_r10), ∀ (k0_h37 : k0_cond37 i = 1#1), ∀ (k0_h43 : k0_cond43 i k0_t5 arg10_r10 = 1#1), ∀ a, (k0_off82 arg8_r10) a + S1x128x256.size a ≤ S2x128x256.size a := fun i k0_t5 arg6_r10 arg7_r10 arg8_r10 arg9_r10 arg10_r10 k0_hw17 k0_h37 k0_h43 => k0_hw17.2.2.2.2.2.2.1 k0_h37 k0_h43
theorem k0_off83_inb : ∀ (i : grid0.Coords) (k0_t5 : Fin (k0_t5_loop i).trips) (arg6_r10 : BitVec 32) (arg7_r10 : BitVec 32) (arg8_r10 : BitVec 32) (arg9_r10 : BitVec 32) (arg10_r10 : BitVec 32) (k0_hw17 : k0_chk17 i k0_t5 arg6_r10 arg7_r10 arg8_r10 arg9_r10 arg10_r10), ∀ (k0_h37 : k0_cond37 i = 1#1), ∀ (k0_h43 : k0_cond43 i k0_t5 arg10_r10 = 1#1), ∀ a, (k0_off83 i arg10_r10) a + S128x256.size a ≤ S66560x1024.size a := fun i k0_t5 arg6_r10 arg7_r10 arg8_r10 arg9_r10 arg10_r10 k0_hw17 k0_h37 k0_h43 => k0_hw17.2.2.2.2.2.2.2.1 k0_h37 k0_h43
theorem k0_off84_inb : ∀ (i : grid0.Coords) (k0_t5 : Fin (k0_t5_loop i).trips) (arg6_r10 : BitVec 32) (arg7_r10 : BitVec 32) (arg8_r10 : BitVec 32) (arg9_r10 : BitVec 32) (arg10_r10 : BitVec 32) (k0_hw17 : k0_chk17 i k0_t5 arg6_r10 arg7_r10 arg8_r10 arg9_r10 arg10_r10), ∀ (k0_h37 : k0_cond37 i = 1#1), ∀ (k0_h43 : k0_cond43 i k0_t5 arg10_r10 = 1#1), ∀ a, (k0_off84 arg8_r10) a + S1.size a ≤ S2.size a := fun i k0_t5 arg6_r10 arg7_r10 arg8_r10 arg9_r10 arg10_r10 k0_hw17 k0_h37 k0_h43 => k0_hw17.2.2.2.2.2.2.2.2.1 k0_h37 k0_h43
theorem k0_off85_inb : ∀ (i : grid0.Coords) (k0_t5 : Fin (k0_t5_loop i).trips) (arg6_r10 : BitVec 32) (arg7_r10 : BitVec 32) (arg8_r10 : BitVec 32) (arg9_r10 : BitVec 32) (arg10_r10 : BitVec 32) (k0_hw17 : k0_chk17 i k0_t5 arg6_r10 arg7_r10 arg8_r10 arg9_r10 arg10_r10), ∀ (k0_h37 : k0_cond37 i = 1#1), ∀ (k0_h45 : k0_cond45 i k0_t5 arg10_r10 = 1#1), ∀ a, (k0_off85 arg9_r10) a + S1x128x256.size a ≤ S2x128x256.size a := fun i k0_t5 arg6_r10 arg7_r10 arg8_r10 arg9_r10 arg10_r10 k0_hw17 k0_h37 k0_h45 => k0_hw17.2.2.2.2.2.2.2.2.2.1 k0_h37 k0_h45
theorem k0_off86_inb : ∀ (i : grid0.Coords) (k0_t5 : Fin (k0_t5_loop i).trips) (arg6_r10 : BitVec 32) (arg7_r10 : BitVec 32) (arg8_r10 : BitVec 32) (arg9_r10 : BitVec 32) (arg10_r10 : BitVec 32) (k0_hw17 : k0_chk17 i k0_t5 arg6_r10 arg7_r10 arg8_r10 arg9_r10 arg10_r10), ∀ (k0_h37 : k0_cond37 i = 1#1), ∀ (k0_h45 : k0_cond45 i k0_t5 arg10_r10 = 1#1), ∀ a, (k0_off86 i arg10_r10) a + S128x256.size a ≤ S66560x1024.size a := fun i k0_t5 arg6_r10 arg7_r10 arg8_r10 arg9_r10 arg10_r10 k0_hw17 k0_h37 k0_h45 => k0_hw17.2.2.2.2.2.2.2.2.2.2.1 k0_h37 k0_h45
theorem k0_off87_inb : ∀ (i : grid0.Coords) (k0_t5 : Fin (k0_t5_loop i).trips) (arg6_r10 : BitVec 32) (arg7_r10 : BitVec 32) (arg8_r10 : BitVec 32) (arg9_r10 : BitVec 32) (arg10_r10 : BitVec 32) (k0_hw17 : k0_chk17 i k0_t5 arg6_r10 arg7_r10 arg8_r10 arg9_r10 arg10_r10), ∀ (k0_h37 : k0_cond37 i = 1#1), ∀ (k0_h45 : k0_cond45 i k0_t5 arg10_r10 = 1#1), ∀ a, (k0_off87 arg9_r10) a + S1.size a ≤ S2.size a := fun i k0_t5 arg6_r10 arg7_r10 arg8_r10 arg9_r10 arg10_r10 k0_hw17 k0_h37 k0_h45 => k0_hw17.2.2.2.2.2.2.2.2.2.2.2 k0_h37 k0_h45

@[reducible] def k0_t6_loop (i : grid0.Coords) : Scf.Loop 32 :=
  let c0_i32_60_r10 : BitVec 32 := 0#32
  let c1_i32_24 : BitVec 32 := 1#32
  let c0_i32_16 : BitVec 32 := 0#32
  let arg1 : BitVec 32 := BitVec.ofNat 32 (i 1).val
  let c1_i32_15 : BitVec 32 := 1#32
  let v24 : BitVec 32 := Scalar.muli arg1 c1_i32_15
  let v25 : BitVec 32 := Scalar.addi c0_i32_16 v24
  let arg0 : BitVec 32 := BitVec.ofNat 32 (i 0).val
  let c16_i32_17 : BitVec 32 := 16#32
  let v26 : BitVec 32 := Scalar.muli arg0 c16_i32_17
  let v27 : BitVec 32 := Scalar.addi v25 v26
  let c8_i32_18 : BitVec 32 := 8#32
  let v28 : BitVec 1 := Scalar.cmpi .slt v27 c8_i32_18
  let c17_i32_19 : BitVec 32 := 17#32
  let c16_i32_20 : BitVec 32 := 16#32
  let v29 : BitVec 32 := Scalar.select v28 c17_i32_19 c16_i32_20
  let v35 : BitVec 32 := Scalar.muli c1_i32_24 v29
  let v78_r10 : BitVec 32 := Scalar.subi v35 c0_i32_60_r10
  let c1_i32_65_r10 : BitVec 32 := 1#32
  let v80_r10 : BitVec 32 := Scalar.divsi v78_r10 c1_i32_65_r10
  let v81_r10 : BitVec 32 := Scalar.muli v80_r10 c1_i32_65_r10
  let v82_r10 : BitVec 32 := Scalar.addi c0_i32_60_r10 v81_r10
  let v79_r10 : BitVec 32 := Scalar.addi c0_i32_60_r10 v78_r10
  let c1_i32_67_r10 : BitVec 32 := 1#32
  ⟨v82_r10, v79_r10, c1_i32_67_r10⟩
def k0_off88 (arg6_r10 : BitVec 32) : Fin 3 → Nat :=
  let c2_i32_133_r10 : BitVec 32 := 2#32
  let v203_r10 : BitVec 32 := Scalar.remui arg6_r10 c2_i32_133_r10
  let c0_i32_134_r10 : BitVec 32 := 0#32
  let c0_i32_135_r10 : BitVec 32 := 0#32
  ![v203_r10.toNat, 0, 0]
def k0_cond46 (i : grid0.Coords) (k0_t6 : Fin (k0_t6_loop i).trips) (arg10_r10 : BitVec 32) : BitVec 1 :=
  let c0_i32_16 : BitVec 32 := 0#32
  let arg1 : BitVec 32 := BitVec.ofNat 32 (i 1).val
  let c1_i32_15 : BitVec 32 := 1#32
  let v24 : BitVec 32 := Scalar.muli arg1 c1_i32_15
  let v25 : BitVec 32 := Scalar.addi c0_i32_16 v24
  let arg0 : BitVec 32 := BitVec.ofNat 32 (i 0).val
  let c16_i32_17 : BitVec 32 := 16#32
  let v26 : BitVec 32 := Scalar.muli arg0 c16_i32_17
  let v27 : BitVec 32 := Scalar.addi v25 v26
  let c8_i32_21 : BitVec 32 := 8#32
  let v30 : BitVec 1 := Scalar.cmpi .slt v27 c8_i32_21
  let c8_i32_18 : BitVec 32 := 8#32
  let v28 : BitVec 1 := Scalar.cmpi .slt v27 c8_i32_18
  let c17_i32_19 : BitVec 32 := 17#32
  let c16_i32_20 : BitVec 32 := 16#32
  let v29 : BitVec 32 := Scalar.select v28 c17_i32_19 c16_i32_20
  let v31 : BitVec 32 := Scalar.muli v27 v29
  let c16_i32_22 : BitVec 32 := 16#32
  let v32 : BitVec 32 := Scalar.muli v27 c16_i32_22
  let c8_i32_23 : BitVec 32 := 8#32
  let v33 : BitVec 32 := Scalar.addi v32 c8_i32_23
  let v34 : BitVec 32 := Scalar.select v30 v31 v33
  let v120_r10 : BitVec 32 := Scalar.addi arg10_r10 v34
  let true_96_r10 : BitVec 1 := 1#1
  let c1_i32_95_r10 : BitVec 32 := 1#32
  let v127_r10 : BitVec 32 := Scalar.addi arg10_r10 c1_i32_95_r10
  let v128_r10 : BitVec 32 := Scalar.select true_96_r10 v127_r10 arg10_r10
  let v129_r10 : BitVec 1 := Scalar.cmpi .eq v128_r10 v29
  let c0_i32_97_r10 : BitVec 32 := 0#32
  let v130_r10 : BitVec 32 := Scalar.select v129_r10 c0_i32_97_r10 v128_r10
  let v131_r10 : BitVec 32 := Scalar.addi v130_r10 v34
  let v137_r10 : BitVec 1 := Scalar.cmpi .ne v120_r10 v131_r10
  let c0_i32_60_r10 : BitVec 32 := 0#32
  let c1_i32_24 : BitVec 32 := 1#32
  let v35 : BitVec 32 := Scalar.muli c1_i32_24 v29
  let v78_r10 : BitVec 32 := Scalar.subi v35 c0_i32_60_r10
  let c1_i32_65_r10 : BitVec 32 := 1#32
  let v80_r10 : BitVec 32 := Scalar.divsi v78_r10 c1_i32_65_r10
  let v81_r10 : BitVec 32 := Scalar.muli v80_r10 c1_i32_65_r10
  let v82_r10 : BitVec 32 := Scalar.addi c0_i32_60_r10 v81_r10
  let c1_i32_67_r10 : BitVec 32 := 1#32
  let arg5_r10 : BitVec 32 := Scf.iv v82_r10 c1_i32_67_r10 k0_t6
  let c1_i32_88_r10 : BitVec 32 := 1#32
  let v116_r10 : BitVec 32 := Scalar.muli c1_i32_88_r10 v29
  let c2_i32_r10 : BitVec 32 := 2#32
  let v138_r10 : BitVec 32 := Scalar.subi v116_r10 c2_i32_r10
  let c1_i32_101_r10 : BitVec 32 := 1#32
  let v139_r10 : BitVec 32 := Scalar.addi v138_r10 c1_i32_101_r10
  let v140_r10 : BitVec 1 := Scalar.cmpi .sge arg5_r10 v139_r10
  let true_102_r10 : BitVec 1 := 1#1
  let v141_r10 : BitVec 1 := Scalar.xori v140_r10 true_102_r10
  let v142_r10 : BitVec 1 := Scalar.andi v137_r10 v141_r10
  let true_103_r10 : BitVec 1 := 1#1
  let v143_r10 : BitVec 1 := Scalar.andi v142_r10 true_103_r10
  let v144_r10 : BitVec 32 := Scalar.extui v143_r10
  let c0_i32_104_r10 : BitVec 32 := 0#32
  let v145_r10 : BitVec 1 := Scalar.cmpi .ne v144_r10 c0_i32_104_r10
  v145_r10

def k0_off89 (i : grid0.Coords) (arg10_r10 : BitVec 32) : Fin 2 → Nat :=
  let c0_i32_136_r10 : BitVec 32 := 0#32
  let c128_i32_r10 : BitVec 32 := 128#32
  let true_96_r10 : BitVec 1 := 1#1
  let c1_i32_95_r10 : BitVec 32 := 1#32
  let v127_r10 : BitVec 32 := Scalar.addi arg10_r10 c1_i32_95_r10
  let v128_r10 : BitVec 32 := Scalar.select true_96_r10 v127_r10 arg10_r10
  let c0_i32_16 : BitVec 32 := 0#32
  let arg1 : BitVec 32 := BitVec.ofNat 32 (i 1).val
  let c1_i32_15 : BitVec 32 := 1#32
  let v24 : BitVec 32 := Scalar.muli arg1 c1_i32_15
  let v25 : BitVec 32 := Scalar.addi c0_i32_16 v24
  let arg0 : BitVec 32 := BitVec.ofNat 32 (i 0).val
  let c16_i32_17 : BitVec 32 := 16#32
  let v26 : BitVec 32 := Scalar.muli arg0 c16_i32_17
  let v27 : BitVec 32 := Scalar.addi v25 v26
  let c8_i32_18 : BitVec 32 := 8#32
  let v28 : BitVec 1 := Scalar.cmpi .slt v27 c8_i32_18
  let c17_i32_19 : BitVec 32 := 17#32
  let c16_i32_20 : BitVec 32 := 16#32
  let v29 : BitVec 32 := Scalar.select v28 c17_i32_19 c16_i32_20
  let v129_r10 : BitVec 1 := Scalar.cmpi .eq v128_r10 v29
  let c0_i32_97_r10 : BitVec 32 := 0#32
  let v130_r10 : BitVec 32 := Scalar.select v129_r10 c0_i32_97_r10 v128_r10
  let c8_i32_21 : BitVec 32 := 8#32
  let v30 : BitVec 1 := Scalar.cmpi .slt v27 c8_i32_21
  let v31 : BitVec 32 := Scalar.muli v27 v29
  let c16_i32_22 : BitVec 32 := 16#32
  let v32 : BitVec 32 := Scalar.muli v27 c16_i32_22
  let c8_i32_23 : BitVec 32 := 8#32
  let v33 : BitVec 32 := Scalar.addi v32 c8_i32_23
  let v34 : BitVec 32 := Scalar.select v30 v31 v33
  let v131_r10 : BitVec 32 := Scalar.addi v130_r10 v34
  let v204_r10 : BitVec 32 := Scalar.muli c128_i32_r10 v131_r10
  ![0, v204_r10.toNat]
def k0_off90 (arg6_r10 : BitVec 32) : Fin 1 → Nat :=
  let c2_i32_133_r10 : BitVec 32 := 2#32
  let v203_r10 : BitVec 32 := Scalar.remui arg6_r10 c2_i32_133_r10
  ![v203_r10.toNat]
def k0_off91 (arg7_r10 : BitVec 32) : Fin 3 → Nat :=
  let c2_i32_133_r10 : BitVec 32 := 2#32
  let v204_r10 : BitVec 32 := Scalar.remui arg7_r10 c2_i32_133_r10
  let c0_i32_134_r10 : BitVec 32 := 0#32
  let c0_i32_135_r10 : BitVec 32 := 0#32
  ![v204_r10.toNat, 0, 0]
def k0_cond47 (i : grid0.Coords) (k0_t6 : Fin (k0_t6_loop i).trips) (arg10_r10 : BitVec 32) : BitVec 1 :=
  let c0_i32_16 : BitVec 32 := 0#32
  let arg1 : BitVec 32 := BitVec.ofNat 32 (i 1).val
  let c1_i32_15 : BitVec 32 := 1#32
  let v24 : BitVec 32 := Scalar.muli arg1 c1_i32_15
  let v25 : BitVec 32 := Scalar.addi c0_i32_16 v24
  let arg0 : BitVec 32 := BitVec.ofNat 32 (i 0).val
  let c16_i32_17 : BitVec 32 := 16#32
  let v26 : BitVec 32 := Scalar.muli arg0 c16_i32_17
  let v27 : BitVec 32 := Scalar.addi v25 v26
  let c8_i32_21 : BitVec 32 := 8#32
  let v30 : BitVec 1 := Scalar.cmpi .slt v27 c8_i32_21
  let c8_i32_18 : BitVec 32 := 8#32
  let v28 : BitVec 1 := Scalar.cmpi .slt v27 c8_i32_18
  let c17_i32_19 : BitVec 32 := 17#32
  let c16_i32_20 : BitVec 32 := 16#32
  let v29 : BitVec 32 := Scalar.select v28 c17_i32_19 c16_i32_20
  let v31 : BitVec 32 := Scalar.muli v27 v29
  let c16_i32_22 : BitVec 32 := 16#32
  let v32 : BitVec 32 := Scalar.muli v27 c16_i32_22
  let c8_i32_23 : BitVec 32 := 8#32
  let v33 : BitVec 32 := Scalar.addi v32 c8_i32_23
  let v34 : BitVec 32 := Scalar.select v30 v31 v33
  let v120_r10 : BitVec 32 := Scalar.addi arg10_r10 v34
  let true_92_r10 : BitVec 1 := 1#1
  let c1_i32_91_r10 : BitVec 32 := 1#32
  let v121_r10 : BitVec 32 := Scalar.subi arg10_r10 c1_i32_91_r10
  let v122_r10 : BitVec 32 := Scalar.select true_92_r10 v121_r10 arg10_r10
  let c_m1_i32_93_r10 : BitVec 32 := 4294967295#32
  let v123_r10 : BitVec 1 := Scalar.cmpi .eq v122_r10 c_m1_i32_93_r10
  let c1_i32_94_r10 : BitVec 32 := 1#32
  let v124_r10 : BitVec 32 := Scalar.subi v29 c1_i32_94_r10
  let v125_r10 : BitVec 32 := Scalar.select v123_r10 v124_r10 v122_r10
  let v126_r10 : BitVec 32 := Scalar.addi v125_r10 v34
  let v155_r10 : BitVec 1 := Scalar.cmpi .ne v120_r10 v126_r10
  let c0_i32_60_r10 : BitVec 32 := 0#32
  let c1_i32_24 : BitVec 32 := 1#32
  let v35 : BitVec 32 := Scalar.muli c1_i32_24 v29
  let v78_r10 : BitVec 32 := Scalar.subi v35 c0_i32_60_r10
  let c1_i32_65_r10 : BitVec 32 := 1#32
  let v80_r10 : BitVec 32 := Scalar.divsi v78_r10 c1_i32_65_r10
  let v81_r10 : BitVec 32 := Scalar.muli v80_r10 c1_i32_65_r10
  let v82_r10 : BitVec 32 := Scalar.addi c0_i32_60_r10 v81_r10
  let c1_i32_67_r10 : BitVec 32 := 1#32
  let arg5_r10 : BitVec 32 := Scf.iv v82_r10 c1_i32_67_r10 k0_t6
  let c0_i32_89_r10 : BitVec 32 := 0#32
  let v117_r10 : BitVec 1 := Scalar.cmpi .eq arg5_r10 c0_i32_89_r10
  let v156_r10 : BitVec 1 := Scalar.ori v155_r10 v117_r10
  let c0_i32_110_r10 : BitVec 32 := 0#32
  let v157_r10 : BitVec 1 := Scalar.cmpi .sge arg5_r10 c0_i32_110_r10
  let v158_r10 : BitVec 1 := Scalar.andi v156_r10 v157_r10
  let v159_r10 : BitVec 32 := Scalar.extui v158_r10
  let c0_i32_111_r10 : BitVec 32 := 0#32
  let v160_r10 : BitVec 1 := Scalar.cmpi .ne v159_r10 c0_i32_111_r10
  v160_r10

def k0_off92 (i : grid0.Coords) (arg10_r10 : BitVec 32) : Fin 2 → Nat :=
  let c0_i32_136_r10 : BitVec 32 := 0#32
  let c128_i32_r10 : BitVec 32 := 128#32
  let c0_i32_16 : BitVec 32 := 0#32
  let arg1 : BitVec 32 := BitVec.ofNat 32 (i 1).val
  let c1_i32_15 : BitVec 32 := 1#32
  let v24 : BitVec 32 := Scalar.muli arg1 c1_i32_15
  let v25 : BitVec 32 := Scalar.addi c0_i32_16 v24
  let arg0 : BitVec 32 := BitVec.ofNat 32 (i 0).val
  let c16_i32_17 : BitVec 32 := 16#32
  let v26 : BitVec 32 := Scalar.muli arg0 c16_i32_17
  let v27 : BitVec 32 := Scalar.addi v25 v26
  let c8_i32_21 : BitVec 32 := 8#32
  let v30 : BitVec 1 := Scalar.cmpi .slt v27 c8_i32_21
  let c8_i32_18 : BitVec 32 := 8#32
  let v28 : BitVec 1 := Scalar.cmpi .slt v27 c8_i32_18
  let c17_i32_19 : BitVec 32 := 17#32
  let c16_i32_20 : BitVec 32 := 16#32
  let v29 : BitVec 32 := Scalar.select v28 c17_i32_19 c16_i32_20
  let v31 : BitVec 32 := Scalar.muli v27 v29
  let c16_i32_22 : BitVec 32 := 16#32
  let v32 : BitVec 32 := Scalar.muli v27 c16_i32_22
  let c8_i32_23 : BitVec 32 := 8#32
  let v33 : BitVec 32 := Scalar.addi v32 c8_i32_23
  let v34 : BitVec 32 := Scalar.select v30 v31 v33
  let v120_r10 : BitVec 32 := Scalar.addi arg10_r10 v34
  let v203_r10 : BitVec 32 := Scalar.muli c128_i32_r10 v120_r10
  ![0, v203_r10.toNat]
def k0_off93 (arg7_r10 : BitVec 32) : Fin 1 → Nat :=
  let c2_i32_133_r10 : BitVec 32 := 2#32
  let v204_r10 : BitVec 32 := Scalar.remui arg7_r10 c2_i32_133_r10
  ![v204_r10.toNat]
def k0_off94 (arg8_r10 : BitVec 32) : Fin 3 → Nat :=
  let c2_i32_115_r10 : BitVec 32 := 2#32
  let v168_r10 : BitVec 32 := Scalar.remui arg8_r10 c2_i32_115_r10
  let c0_i32_133_r13 : BitVec 32 := 0#32
  let c0_i32_134_r13 : BitVec 32 := 0#32
  ![v168_r10.toNat, 0, 0]

def k0_chk21 (i : grid0.Coords) (k0_t6 : Fin (k0_t6_loop i).trips) (arg8_r10 : BitVec 32) : Prop :=
  (∀ (k0_h37 : k0_cond37 i = 1#1), ∀ a, (k0_off94 arg8_r10) a + S1x128x256.size a ≤ S2x128x256.size a)
theorem k0_off94_inb : ∀ (i : grid0.Coords) (k0_t6 : Fin (k0_t6_loop i).trips) (arg8_r10 : BitVec 32) (k0_hw21 : k0_chk21 i k0_t6 arg8_r10), ∀ (k0_h37 : k0_cond37 i = 1#1), ∀ a, (k0_off94 arg8_r10) a + S1x128x256.size a ≤ S2x128x256.size a := fun i k0_t6 arg8_r10 k0_hw21 k0_h37 => k0_hw21 k0_h37

def k0_off95 (arg7_r10 : BitVec 32) : Fin 3 → Nat :=
  let c2_i32_114_r10 : BitVec 32 := 2#32
  let v167_r10 : BitVec 32 := Scalar.remui arg7_r10 c2_i32_114_r10
  let c0_i32_137_r13 : BitVec 32 := 0#32
  let c0_i32_138_r13 : BitVec 32 := 0#32
  ![v167_r10.toNat, 0, 0]

def k0_chk22 (i : grid0.Coords) (k0_t6 : Fin (k0_t6_loop i).trips) (arg7_r10 : BitVec 32) : Prop :=
  (∀ (k0_h37 : k0_cond37 i = 1#1), ∀ a, (k0_off95 arg7_r10) a + S1x1x128.size a ≤ S2x1x128.size a)
theorem k0_off95_inb : ∀ (i : grid0.Coords) (k0_t6 : Fin (k0_t6_loop i).trips) (arg7_r10 : BitVec 32) (k0_hw22 : k0_chk22 i k0_t6 arg7_r10), ∀ (k0_h37 : k0_cond37 i = 1#1), ∀ a, (k0_off95 arg7_r10) a + S1x1x128.size a ≤ S2x1x128.size a := fun i k0_t6 arg7_r10 k0_hw22 k0_h37 => k0_hw22 k0_h37

def k0_off96 (arg8_r10 : BitVec 32) : Fin 3 → Nat :=
  let c2_i32_133_r10 : BitVec 32 := 2#32
  let v203_r10 : BitVec 32 := Scalar.remui arg8_r10 c2_i32_133_r10
  let c0_i32_134_r10 : BitVec 32 := 0#32
  let c0_i32_135_r10 : BitVec 32 := 0#32
  ![v203_r10.toNat, 0, 0]
def k0_cond50 (i : grid0.Coords) (k0_t6 : Fin (k0_t6_loop i).trips) (arg10_r10 : BitVec 32) : BitVec 1 :=
  let c0_i32_16 : BitVec 32 := 0#32
  let arg1 : BitVec 32 := BitVec.ofNat 32 (i 1).val
  let c1_i32_15 : BitVec 32 := 1#32
  let v24 : BitVec 32 := Scalar.muli arg1 c1_i32_15
  let v25 : BitVec 32 := Scalar.addi c0_i32_16 v24
  let arg0 : BitVec 32 := BitVec.ofNat 32 (i 0).val
  let c16_i32_17 : BitVec 32 := 16#32
  let v26 : BitVec 32 := Scalar.muli arg0 c16_i32_17
  let v27 : BitVec 32 := Scalar.addi v25 v26
  let c8_i32_21 : BitVec 32 := 8#32
  let v30 : BitVec 1 := Scalar.cmpi .slt v27 c8_i32_21
  let c8_i32_18 : BitVec 32 := 8#32
  let v28 : BitVec 1 := Scalar.cmpi .slt v27 c8_i32_18
  let c17_i32_19 : BitVec 32 := 17#32
  let c16_i32_20 : BitVec 32 := 16#32
  let v29 : BitVec 32 := Scalar.select v28 c17_i32_19 c16_i32_20
  let v31 : BitVec 32 := Scalar.muli v27 v29
  let c16_i32_22 : BitVec 32 := 16#32
  let v32 : BitVec 32 := Scalar.muli v27 c16_i32_22
  let c8_i32_23 : BitVec 32 := 8#32
  let v33 : BitVec 32 := Scalar.addi v32 c8_i32_23
  let v34 : BitVec 32 := Scalar.select v30 v31 v33
  let v120_r10 : BitVec 32 := Scalar.addi arg10_r10 v34
  let true_96_r10 : BitVec 1 := 1#1
  let c1_i32_95_r10 : BitVec 32 := 1#32
  let v127_r10 : BitVec 32 := Scalar.addi arg10_r10 c1_i32_95_r10
  let v128_r10 : BitVec 32 := Scalar.select true_96_r10 v127_r10 arg10_r10
  let v129_r10 : BitVec 1 := Scalar.cmpi .eq v128_r10 v29
  let c0_i32_97_r10 : BitVec 32 := 0#32
  let v130_r10 : BitVec 32 := Scalar.select v129_r10 c0_i32_97_r10 v128_r10
  let v131_r10 : BitVec 32 := Scalar.addi v130_r10 v34
  let v174_r10 : BitVec 1 := Scalar.cmpi .ne v120_r10 v131_r10
  let c0_i32_60_r10 : BitVec 32 := 0#32
  let c1_i32_24 : BitVec 32 := 1#32
  let v35 : BitVec 32 := Scalar.muli c1_i32_24 v29
  let v78_r10 : BitVec 32 := Scalar.subi v35 c0_i32_60_r10
  let c1_i32_65_r10 : BitVec 32 := 1#32
  let v80_r10 : BitVec 32 := Scalar.divsi v78_r10 c1_i32_65_r10
  let v81_r10 : BitVec 32 := Scalar.muli v80_r10 c1_i32_65_r10
  let v82_r10 : BitVec 32 := Scalar.addi c0_i32_60_r10 v81_r10
  let c1_i32_67_r10 : BitVec 32 := 1#32
  let arg5_r10 : BitVec 32 := Scf.iv v82_r10 c1_i32_67_r10 k0_t6
  let c1_i32_88_r10 : BitVec 32 := 1#32
  let v116_r10 : BitVec 32 := Scalar.muli c1_i32_88_r10 v29
  let c1_i32_90_r10 : BitVec 32 := 1#32
  let v118_r10 : BitVec 32 := Scalar.subi v116_r10 c1_i32_90_r10
  let v119_r10 : BitVec 1 := Scalar.cmpi .eq arg5_r10 v118_r10
  let v175_r10 : BitVec 1 := Scalar.ori v174_r10 v119_r10
  let v176_r10 : BitVec 32 := Scalar.extui v175_r10
  let c0_i32_119_r10 : BitVec 32 := 0#32
  let v177_r10 : BitVec 1 := Scalar.cmpi .ne v176_r10 c0_i32_119_r10
  v177_r10

def k0_off97 (i : grid0.Coords) (arg10_r10 : BitVec 32) : Fin 2 → Nat :=
  let c128_i32_r10 : BitVec 32 := 128#32
  let c0_i32_16 : BitVec 32 := 0#32
  let arg1 : BitVec 32 := BitVec.ofNat 32 (i 1).val
  let c1_i32_15 : BitVec 32 := 1#32
  let v24 : BitVec 32 := Scalar.muli arg1 c1_i32_15
  let v25 : BitVec 32 := Scalar.addi c0_i32_16 v24
  let arg0 : BitVec 32 := BitVec.ofNat 32 (i 0).val
  let c16_i32_17 : BitVec 32 := 16#32
  let v26 : BitVec 32 := Scalar.muli arg0 c16_i32_17
  let v27 : BitVec 32 := Scalar.addi v25 v26
  let c8_i32_21 : BitVec 32 := 8#32
  let v30 : BitVec 1 := Scalar.cmpi .slt v27 c8_i32_21
  let c8_i32_18 : BitVec 32 := 8#32
  let v28 : BitVec 1 := Scalar.cmpi .slt v27 c8_i32_18
  let c17_i32_19 : BitVec 32 := 17#32
  let c16_i32_20 : BitVec 32 := 16#32
  let v29 : BitVec 32 := Scalar.select v28 c17_i32_19 c16_i32_20
  let v31 : BitVec 32 := Scalar.muli v27 v29
  let c16_i32_22 : BitVec 32 := 16#32
  let v32 : BitVec 32 := Scalar.muli v27 c16_i32_22
  let c8_i32_23 : BitVec 32 := 8#32
  let v33 : BitVec 32 := Scalar.addi v32 c8_i32_23
  let v34 : BitVec 32 := Scalar.select v30 v31 v33
  let v120_r10 : BitVec 32 := Scalar.addi arg10_r10 v34
  let v204_r10 : BitVec 32 := Scalar.muli c128_i32_r10 v120_r10
  let c512_i32_r10 : BitVec 32 := 512#32
  ![v204_r10.toNat, 512]
def k0_off98 (arg8_r10 : BitVec 32) : Fin 1 → Nat :=
  let c2_i32_133_r10 : BitVec 32 := 2#32
  let v203_r10 : BitVec 32 := Scalar.remui arg8_r10 c2_i32_133_r10
  ![v203_r10.toNat]
def k0_off99 (arg9_r10 : BitVec 32) : Fin 3 → Nat :=
  let c2_i32_133_r10 : BitVec 32 := 2#32
  let v203_r10 : BitVec 32 := Scalar.remui arg9_r10 c2_i32_133_r10
  let c0_i32_134_r10 : BitVec 32 := 0#32
  let c0_i32_135_r10 : BitVec 32 := 0#32
  ![v203_r10.toNat, 0, 0]
def k0_cond52 (i : grid0.Coords) (k0_t6 : Fin (k0_t6_loop i).trips) (arg10_r10 : BitVec 32) : BitVec 1 :=
  let c0_i32_16 : BitVec 32 := 0#32
  let arg1 : BitVec 32 := BitVec.ofNat 32 (i 1).val
  let c1_i32_15 : BitVec 32 := 1#32
  let v24 : BitVec 32 := Scalar.muli arg1 c1_i32_15
  let v25 : BitVec 32 := Scalar.addi c0_i32_16 v24
  let arg0 : BitVec 32 := BitVec.ofNat 32 (i 0).val
  let c16_i32_17 : BitVec 32 := 16#32
  let v26 : BitVec 32 := Scalar.muli arg0 c16_i32_17
  let v27 : BitVec 32 := Scalar.addi v25 v26
  let c8_i32_21 : BitVec 32 := 8#32
  let v30 : BitVec 1 := Scalar.cmpi .slt v27 c8_i32_21
  let c8_i32_18 : BitVec 32 := 8#32
  let v28 : BitVec 1 := Scalar.cmpi .slt v27 c8_i32_18
  let c17_i32_19 : BitVec 32 := 17#32
  let c16_i32_20 : BitVec 32 := 16#32
  let v29 : BitVec 32 := Scalar.select v28 c17_i32_19 c16_i32_20
  let v31 : BitVec 32 := Scalar.muli v27 v29
  let c16_i32_22 : BitVec 32 := 16#32
  let v32 : BitVec 32 := Scalar.muli v27 c16_i32_22
  let c8_i32_23 : BitVec 32 := 8#32
  let v33 : BitVec 32 := Scalar.addi v32 c8_i32_23
  let v34 : BitVec 32 := Scalar.select v30 v31 v33
  let v120_r10 : BitVec 32 := Scalar.addi arg10_r10 v34
  let true_92_r10 : BitVec 1 := 1#1
  let c1_i32_91_r10 : BitVec 32 := 1#32
  let v121_r10 : BitVec 32 := Scalar.subi arg10_r10 c1_i32_91_r10
  let v122_r10 : BitVec 32 := Scalar.select true_92_r10 v121_r10 arg10_r10
  let c_m1_i32_93_r10 : BitVec 32 := 4294967295#32
  let v123_r10 : BitVec 1 := Scalar.cmpi .eq v122_r10 c_m1_i32_93_r10
  let c1_i32_94_r10 : BitVec 32 := 1#32
  let v124_r10 : BitVec 32 := Scalar.subi v29 c1_i32_94_r10
  let v125_r10 : BitVec 32 := Scalar.select v123_r10 v124_r10 v122_r10
  let v126_r10 : BitVec 32 := Scalar.addi v125_r10 v34
  let v187_r10 : BitVec 1 := Scalar.cmpi .ne v120_r10 v126_r10
  let c0_i32_60_r10 : BitVec 32 := 0#32
  let c1_i32_24 : BitVec 32 := 1#32
  let v35 : BitVec 32 := Scalar.muli c1_i32_24 v29
  let v78_r10 : BitVec 32 := Scalar.subi v35 c0_i32_60_r10
  let c1_i32_65_r10 : BitVec 32 := 1#32
  let v80_r10 : BitVec 32 := Scalar.divsi v78_r10 c1_i32_65_r10
  let v81_r10 : BitVec 32 := Scalar.muli v80_r10 c1_i32_65_r10
  let v82_r10 : BitVec 32 := Scalar.addi c0_i32_60_r10 v81_r10
  let c1_i32_67_r10 : BitVec 32 := 1#32
  let arg5_r10 : BitVec 32 := Scf.iv v82_r10 c1_i32_67_r10 k0_t6
  let c0_i32_89_r10 : BitVec 32 := 0#32
  let v117_r10 : BitVec 1 := Scalar.cmpi .eq arg5_r10 c0_i32_89_r10
  let true_125_r10 : BitVec 1 := 1#1
  let v188_r10 : BitVec 1 := Scalar.xori v117_r10 true_125_r10
  let v189_r10 : BitVec 1 := Scalar.andi v187_r10 v188_r10
  let v190_r10 : BitVec 32 := Scalar.extui v189_r10
  let c0_i32_126_r10 : BitVec 32 := 0#32
  let v191_r10 : BitVec 1 := Scalar.cmpi .ne v190_r10 c0_i32_126_r10
  v191_r10

def k0_off100 (i : grid0.Coords) (arg10_r10 : BitVec 32) : Fin 2 → Nat :=
  let c128_i32_r10 : BitVec 32 := 128#32
  let true_92_r10 : BitVec 1 := 1#1
  let c1_i32_91_r10 : BitVec 32 := 1#32
  let v121_r10 : BitVec 32 := Scalar.subi arg10_r10 c1_i32_91_r10
  let v122_r10 : BitVec 32 := Scalar.select true_92_r10 v121_r10 arg10_r10
  let c_m1_i32_93_r10 : BitVec 32 := 4294967295#32
  let v123_r10 : BitVec 1 := Scalar.cmpi .eq v122_r10 c_m1_i32_93_r10
  let c0_i32_16 : BitVec 32 := 0#32
  let arg1 : BitVec 32 := BitVec.ofNat 32 (i 1).val
  let c1_i32_15 : BitVec 32 := 1#32
  let v24 : BitVec 32 := Scalar.muli arg1 c1_i32_15
  let v25 : BitVec 32 := Scalar.addi c0_i32_16 v24
  let arg0 : BitVec 32 := BitVec.ofNat 32 (i 0).val
  let c16_i32_17 : BitVec 32 := 16#32
  let v26 : BitVec 32 := Scalar.muli arg0 c16_i32_17
  let v27 : BitVec 32 := Scalar.addi v25 v26
  let c8_i32_18 : BitVec 32 := 8#32
  let v28 : BitVec 1 := Scalar.cmpi .slt v27 c8_i32_18
  let c17_i32_19 : BitVec 32 := 17#32
  let c16_i32_20 : BitVec 32 := 16#32
  let v29 : BitVec 32 := Scalar.select v28 c17_i32_19 c16_i32_20
  let c1_i32_94_r10 : BitVec 32 := 1#32
  let v124_r10 : BitVec 32 := Scalar.subi v29 c1_i32_94_r10
  let v125_r10 : BitVec 32 := Scalar.select v123_r10 v124_r10 v122_r10
  let c8_i32_21 : BitVec 32 := 8#32
  let v30 : BitVec 1 := Scalar.cmpi .slt v27 c8_i32_21
  let v31 : BitVec 32 := Scalar.muli v27 v29
  let c16_i32_22 : BitVec 32 := 16#32
  let v32 : BitVec 32 := Scalar.muli v27 c16_i32_22
  let c8_i32_23 : BitVec 32 := 8#32
  let v33 : BitVec 32 := Scalar.addi v32 c8_i32_23
  let v34 : BitVec 32 := Scalar.select v30 v31 v33
  let v126_r10 : BitVec 32 := Scalar.addi v125_r10 v34
  let v204_r10 : BitVec 32 := Scalar.muli c128_i32_r10 v126_r10
  let c512_i32_r10 : BitVec 32 := 512#32
  ![v204_r10.toNat, 512]
def k0_off101 (arg9_r10 : BitVec 32) : Fin 1 → Nat :=
  let c2_i32_133_r10 : BitVec 32 := 2#32
  let v203_r10 : BitVec 32 := Scalar.remui arg9_r10 c2_i32_133_r10
  ![v203_r10.toNat]

def k0_chk20 (i : grid0.Coords) (k0_t6 : Fin (k0_t6_loop i).trips) (arg6_r10 : BitVec 32) (arg7_r10 : BitVec 32) (arg8_r10 : BitVec 32) (arg9_r10 : BitVec 32) (arg10_r10 : BitVec 32) : Prop :=
  (∀ (k0_h37 : k0_cond37 i = 1#1), ∀ (k0_h46 : k0_cond46 i k0_t6 arg10_r10 = 1#1), ∀ a, (k0_off88 arg6_r10) a + S1x1x128.size a ≤ S2x1x128.size a) ∧
  (∀ (k0_h37 : k0_cond37 i = 1#1), ∀ (k0_h46 : k0_cond46 i k0_t6 arg10_r10 = 1#1), ∀ a, (k0_off89 i arg10_r10) a + S1x128.size a ≤ S1x66560.size a) ∧
  (∀ (k0_h37 : k0_cond37 i = 1#1), ∀ (k0_h46 : k0_cond46 i k0_t6 arg10_r10 = 1#1), ∀ a, (k0_off90 arg6_r10) a + S1.size a ≤ S2.size a) ∧
  (∀ (k0_h37 : k0_cond37 i = 1#1), ∀ (k0_h47 : k0_cond47 i k0_t6 arg10_r10 = 1#1), ∀ a, (k0_off91 arg7_r10) a + S1x1x128.size a ≤ S2x1x128.size a) ∧
  (∀ (k0_h37 : k0_cond37 i = 1#1), ∀ (k0_h47 : k0_cond47 i k0_t6 arg10_r10 = 1#1), ∀ a, (k0_off92 i arg10_r10) a + S1x128.size a ≤ S1x66560.size a) ∧
  (∀ (k0_h37 : k0_cond37 i = 1#1), ∀ (k0_h47 : k0_cond47 i k0_t6 arg10_r10 = 1#1), ∀ a, (k0_off93 arg7_r10) a + S1.size a ≤ S2.size a) ∧
  (∀ (k0_h37 : k0_cond37 i = 1#1), ∀ (k0_h50 : k0_cond50 i k0_t6 arg10_r10 = 1#1), ∀ a, (k0_off96 arg8_r10) a + S1x128x256.size a ≤ S2x128x256.size a) ∧
  (∀ (k0_h37 : k0_cond37 i = 1#1), ∀ (k0_h50 : k0_cond50 i k0_t6 arg10_r10 = 1#1), ∀ a, (k0_off97 i arg10_r10) a + S128x256.size a ≤ S66560x1024.size a) ∧
  (∀ (k0_h37 : k0_cond37 i = 1#1), ∀ (k0_h50 : k0_cond50 i k0_t6 arg10_r10 = 1#1), ∀ a, (k0_off98 arg8_r10) a + S1.size a ≤ S2.size a) ∧
  (∀ (k0_h37 : k0_cond37 i = 1#1), ∀ (k0_h52 : k0_cond52 i k0_t6 arg10_r10 = 1#1), ∀ a, (k0_off99 arg9_r10) a + S1x128x256.size a ≤ S2x128x256.size a) ∧
  (∀ (k0_h37 : k0_cond37 i = 1#1), ∀ (k0_h52 : k0_cond52 i k0_t6 arg10_r10 = 1#1), ∀ a, (k0_off100 i arg10_r10) a + S128x256.size a ≤ S66560x1024.size a) ∧
  (∀ (k0_h37 : k0_cond37 i = 1#1), ∀ (k0_h52 : k0_cond52 i k0_t6 arg10_r10 = 1#1), ∀ a, (k0_off101 arg9_r10) a + S1.size a ≤ S2.size a)
theorem k0_off88_inb : ∀ (i : grid0.Coords) (k0_t6 : Fin (k0_t6_loop i).trips) (arg6_r10 : BitVec 32) (arg7_r10 : BitVec 32) (arg8_r10 : BitVec 32) (arg9_r10 : BitVec 32) (arg10_r10 : BitVec 32) (k0_hw20 : k0_chk20 i k0_t6 arg6_r10 arg7_r10 arg8_r10 arg9_r10 arg10_r10), ∀ (k0_h37 : k0_cond37 i = 1#1), ∀ (k0_h46 : k0_cond46 i k0_t6 arg10_r10 = 1#1), ∀ a, (k0_off88 arg6_r10) a + S1x1x128.size a ≤ S2x1x128.size a := fun i k0_t6 arg6_r10 arg7_r10 arg8_r10 arg9_r10 arg10_r10 k0_hw20 k0_h37 k0_h46 => k0_hw20.1 k0_h37 k0_h46
theorem k0_off89_inb : ∀ (i : grid0.Coords) (k0_t6 : Fin (k0_t6_loop i).trips) (arg6_r10 : BitVec 32) (arg7_r10 : BitVec 32) (arg8_r10 : BitVec 32) (arg9_r10 : BitVec 32) (arg10_r10 : BitVec 32) (k0_hw20 : k0_chk20 i k0_t6 arg6_r10 arg7_r10 arg8_r10 arg9_r10 arg10_r10), ∀ (k0_h37 : k0_cond37 i = 1#1), ∀ (k0_h46 : k0_cond46 i k0_t6 arg10_r10 = 1#1), ∀ a, (k0_off89 i arg10_r10) a + S1x128.size a ≤ S1x66560.size a := fun i k0_t6 arg6_r10 arg7_r10 arg8_r10 arg9_r10 arg10_r10 k0_hw20 k0_h37 k0_h46 => k0_hw20.2.1 k0_h37 k0_h46
theorem k0_off90_inb : ∀ (i : grid0.Coords) (k0_t6 : Fin (k0_t6_loop i).trips) (arg6_r10 : BitVec 32) (arg7_r10 : BitVec 32) (arg8_r10 : BitVec 32) (arg9_r10 : BitVec 32) (arg10_r10 : BitVec 32) (k0_hw20 : k0_chk20 i k0_t6 arg6_r10 arg7_r10 arg8_r10 arg9_r10 arg10_r10), ∀ (k0_h37 : k0_cond37 i = 1#1), ∀ (k0_h46 : k0_cond46 i k0_t6 arg10_r10 = 1#1), ∀ a, (k0_off90 arg6_r10) a + S1.size a ≤ S2.size a := fun i k0_t6 arg6_r10 arg7_r10 arg8_r10 arg9_r10 arg10_r10 k0_hw20 k0_h37 k0_h46 => k0_hw20.2.2.1 k0_h37 k0_h46
theorem k0_off91_inb : ∀ (i : grid0.Coords) (k0_t6 : Fin (k0_t6_loop i).trips) (arg6_r10 : BitVec 32) (arg7_r10 : BitVec 32) (arg8_r10 : BitVec 32) (arg9_r10 : BitVec 32) (arg10_r10 : BitVec 32) (k0_hw20 : k0_chk20 i k0_t6 arg6_r10 arg7_r10 arg8_r10 arg9_r10 arg10_r10), ∀ (k0_h37 : k0_cond37 i = 1#1), ∀ (k0_h47 : k0_cond47 i k0_t6 arg10_r10 = 1#1), ∀ a, (k0_off91 arg7_r10) a + S1x1x128.size a ≤ S2x1x128.size a := fun i k0_t6 arg6_r10 arg7_r10 arg8_r10 arg9_r10 arg10_r10 k0_hw20 k0_h37 k0_h47 => k0_hw20.2.2.2.1 k0_h37 k0_h47
theorem k0_off92_inb : ∀ (i : grid0.Coords) (k0_t6 : Fin (k0_t6_loop i).trips) (arg6_r10 : BitVec 32) (arg7_r10 : BitVec 32) (arg8_r10 : BitVec 32) (arg9_r10 : BitVec 32) (arg10_r10 : BitVec 32) (k0_hw20 : k0_chk20 i k0_t6 arg6_r10 arg7_r10 arg8_r10 arg9_r10 arg10_r10), ∀ (k0_h37 : k0_cond37 i = 1#1), ∀ (k0_h47 : k0_cond47 i k0_t6 arg10_r10 = 1#1), ∀ a, (k0_off92 i arg10_r10) a + S1x128.size a ≤ S1x66560.size a := fun i k0_t6 arg6_r10 arg7_r10 arg8_r10 arg9_r10 arg10_r10 k0_hw20 k0_h37 k0_h47 => k0_hw20.2.2.2.2.1 k0_h37 k0_h47
theorem k0_off93_inb : ∀ (i : grid0.Coords) (k0_t6 : Fin (k0_t6_loop i).trips) (arg6_r10 : BitVec 32) (arg7_r10 : BitVec 32) (arg8_r10 : BitVec 32) (arg9_r10 : BitVec 32) (arg10_r10 : BitVec 32) (k0_hw20 : k0_chk20 i k0_t6 arg6_r10 arg7_r10 arg8_r10 arg9_r10 arg10_r10), ∀ (k0_h37 : k0_cond37 i = 1#1), ∀ (k0_h47 : k0_cond47 i k0_t6 arg10_r10 = 1#1), ∀ a, (k0_off93 arg7_r10) a + S1.size a ≤ S2.size a := fun i k0_t6 arg6_r10 arg7_r10 arg8_r10 arg9_r10 arg10_r10 k0_hw20 k0_h37 k0_h47 => k0_hw20.2.2.2.2.2.1 k0_h37 k0_h47
theorem k0_off96_inb : ∀ (i : grid0.Coords) (k0_t6 : Fin (k0_t6_loop i).trips) (arg6_r10 : BitVec 32) (arg7_r10 : BitVec 32) (arg8_r10 : BitVec 32) (arg9_r10 : BitVec 32) (arg10_r10 : BitVec 32) (k0_hw20 : k0_chk20 i k0_t6 arg6_r10 arg7_r10 arg8_r10 arg9_r10 arg10_r10), ∀ (k0_h37 : k0_cond37 i = 1#1), ∀ (k0_h50 : k0_cond50 i k0_t6 arg10_r10 = 1#1), ∀ a, (k0_off96 arg8_r10) a + S1x128x256.size a ≤ S2x128x256.size a := fun i k0_t6 arg6_r10 arg7_r10 arg8_r10 arg9_r10 arg10_r10 k0_hw20 k0_h37 k0_h50 => k0_hw20.2.2.2.2.2.2.1 k0_h37 k0_h50
theorem k0_off97_inb : ∀ (i : grid0.Coords) (k0_t6 : Fin (k0_t6_loop i).trips) (arg6_r10 : BitVec 32) (arg7_r10 : BitVec 32) (arg8_r10 : BitVec 32) (arg9_r10 : BitVec 32) (arg10_r10 : BitVec 32) (k0_hw20 : k0_chk20 i k0_t6 arg6_r10 arg7_r10 arg8_r10 arg9_r10 arg10_r10), ∀ (k0_h37 : k0_cond37 i = 1#1), ∀ (k0_h50 : k0_cond50 i k0_t6 arg10_r10 = 1#1), ∀ a, (k0_off97 i arg10_r10) a + S128x256.size a ≤ S66560x1024.size a := fun i k0_t6 arg6_r10 arg7_r10 arg8_r10 arg9_r10 arg10_r10 k0_hw20 k0_h37 k0_h50 => k0_hw20.2.2.2.2.2.2.2.1 k0_h37 k0_h50
theorem k0_off98_inb : ∀ (i : grid0.Coords) (k0_t6 : Fin (k0_t6_loop i).trips) (arg6_r10 : BitVec 32) (arg7_r10 : BitVec 32) (arg8_r10 : BitVec 32) (arg9_r10 : BitVec 32) (arg10_r10 : BitVec 32) (k0_hw20 : k0_chk20 i k0_t6 arg6_r10 arg7_r10 arg8_r10 arg9_r10 arg10_r10), ∀ (k0_h37 : k0_cond37 i = 1#1), ∀ (k0_h50 : k0_cond50 i k0_t6 arg10_r10 = 1#1), ∀ a, (k0_off98 arg8_r10) a + S1.size a ≤ S2.size a := fun i k0_t6 arg6_r10 arg7_r10 arg8_r10 arg9_r10 arg10_r10 k0_hw20 k0_h37 k0_h50 => k0_hw20.2.2.2.2.2.2.2.2.1 k0_h37 k0_h50
theorem k0_off99_inb : ∀ (i : grid0.Coords) (k0_t6 : Fin (k0_t6_loop i).trips) (arg6_r10 : BitVec 32) (arg7_r10 : BitVec 32) (arg8_r10 : BitVec 32) (arg9_r10 : BitVec 32) (arg10_r10 : BitVec 32) (k0_hw20 : k0_chk20 i k0_t6 arg6_r10 arg7_r10 arg8_r10 arg9_r10 arg10_r10), ∀ (k0_h37 : k0_cond37 i = 1#1), ∀ (k0_h52 : k0_cond52 i k0_t6 arg10_r10 = 1#1), ∀ a, (k0_off99 arg9_r10) a + S1x128x256.size a ≤ S2x128x256.size a := fun i k0_t6 arg6_r10 arg7_r10 arg8_r10 arg9_r10 arg10_r10 k0_hw20 k0_h37 k0_h52 => k0_hw20.2.2.2.2.2.2.2.2.2.1 k0_h37 k0_h52
theorem k0_off100_inb : ∀ (i : grid0.Coords) (k0_t6 : Fin (k0_t6_loop i).trips) (arg6_r10 : BitVec 32) (arg7_r10 : BitVec 32) (arg8_r10 : BitVec 32) (arg9_r10 : BitVec 32) (arg10_r10 : BitVec 32) (k0_hw20 : k0_chk20 i k0_t6 arg6_r10 arg7_r10 arg8_r10 arg9_r10 arg10_r10), ∀ (k0_h37 : k0_cond37 i = 1#1), ∀ (k0_h52 : k0_cond52 i k0_t6 arg10_r10 = 1#1), ∀ a, (k0_off100 i arg10_r10) a + S128x256.size a ≤ S66560x1024.size a := fun i k0_t6 arg6_r10 arg7_r10 arg8_r10 arg9_r10 arg10_r10 k0_hw20 k0_h37 k0_h52 => k0_hw20.2.2.2.2.2.2.2.2.2.2.1 k0_h37 k0_h52
theorem k0_off101_inb : ∀ (i : grid0.Coords) (k0_t6 : Fin (k0_t6_loop i).trips) (arg6_r10 : BitVec 32) (arg7_r10 : BitVec 32) (arg8_r10 : BitVec 32) (arg9_r10 : BitVec 32) (arg10_r10 : BitVec 32) (k0_hw20 : k0_chk20 i k0_t6 arg6_r10 arg7_r10 arg8_r10 arg9_r10 arg10_r10), ∀ (k0_h37 : k0_cond37 i = 1#1), ∀ (k0_h52 : k0_cond52 i k0_t6 arg10_r10 = 1#1), ∀ a, (k0_off101 arg9_r10) a + S1.size a ≤ S2.size a := fun i k0_t6 arg6_r10 arg7_r10 arg8_r10 arg9_r10 arg10_r10 k0_hw20 k0_h37 k0_h52 => k0_hw20.2.2.2.2.2.2.2.2.2.2.2 k0_h37 k0_h52

def k0_cond54 (i : grid0.Coords) : BitVec 1 :=
  let c1_i32_24 : BitVec 32 := 1#32
  let c0_i32_16 : BitVec 32 := 0#32
  let arg1 : BitVec 32 := BitVec.ofNat 32 (i 1).val
  let c1_i32_15 : BitVec 32 := 1#32
  let v24 : BitVec 32 := Scalar.muli arg1 c1_i32_15
  let v25 : BitVec 32 := Scalar.addi c0_i32_16 v24
  let arg0 : BitVec 32 := BitVec.ofNat 32 (i 0).val
  let c16_i32_17 : BitVec 32 := 16#32
  let v26 : BitVec 32 := Scalar.muli arg0 c16_i32_17
  let v27 : BitVec 32 := Scalar.addi v25 v26
  let c8_i32_18 : BitVec 32 := 8#32
  let v28 : BitVec 1 := Scalar.cmpi .slt v27 c8_i32_18
  let c17_i32_19 : BitVec 32 := 17#32
  let c16_i32_20 : BitVec 32 := 16#32
  let v29 : BitVec 32 := Scalar.select v28 c17_i32_19 c16_i32_20
  let v35 : BitVec 32 := Scalar.muli c1_i32_24 v29
  let c1_i32_72_r10 : BitVec 32 := 1#32
  let v90_r10 : BitVec 32 := Scalar.subi v35 c1_i32_72_r10
  let c1_i32_73_r10 : BitVec 32 := 1#32
  let v91_r10 : BitVec 32 := Scalar.muli c1_i32_73_r10 v29
  let c1_i32_75_r10 : BitVec 32 := 1#32
  let v93_r10 : BitVec 32 := Scalar.subi v91_r10 c1_i32_75_r10
  let v94_r10 : BitVec 1 := Scalar.cmpi .eq v90_r10 v93_r10
  let v114_r10 : BitVec 32 := Scalar.extui v94_r10
  let c0_i32_87_r10 : BitVec 32 := 0#32
  let v115_r10 : BitVec 1 := Scalar.cmpi .ne v114_r10 c0_i32_87_r10
  v115_r10

def k0_off102 (v84_3_r10 : BitVec 32) : Fin 3 → Nat :=
  let c2_i32_r10 : BitVec 32 := 2#32
  let v116_r10 : BitVec 32 := Scalar.remui v84_3_r10 c2_i32_r10
  let c0_i32_88_r10 : BitVec 32 := 0#32
  let c0_i32_89_r10 : BitVec 32 := 0#32
  ![v116_r10.toNat, 0, 0]

def k0_off103 (i : grid0.Coords) (v84_4_r10 : BitVec 32) : Fin 2 → Nat :=
  let c128_i32_r10 : BitVec 32 := 128#32
  let true_69_r10 : BitVec 1 := 1#1
  let c1_i32_68_r10 : BitVec 32 := 1#32
  let v85_r10 : BitVec 32 := Scalar.subi v84_4_r10 c1_i32_68_r10
  let v86_r10 : BitVec 32 := Scalar.select true_69_r10 v85_r10 v84_4_r10
  let c_m1_i32_70_r10 : BitVec 32 := 4294967295#32
  let v87_r10 : BitVec 1 := Scalar.cmpi .eq v86_r10 c_m1_i32_70_r10
  let c0_i32_16 : BitVec 32 := 0#32
  let arg1 : BitVec 32 := BitVec.ofNat 32 (i 1).val
  let c1_i32_15 : BitVec 32 := 1#32
  let v24 : BitVec 32 := Scalar.muli arg1 c1_i32_15
  let v25 : BitVec 32 := Scalar.addi c0_i32_16 v24
  let arg0 : BitVec 32 := BitVec.ofNat 32 (i 0).val
  let c16_i32_17 : BitVec 32 := 16#32
  let v26 : BitVec 32 := Scalar.muli arg0 c16_i32_17
  let v27 : BitVec 32 := Scalar.addi v25 v26
  let c8_i32_18 : BitVec 32 := 8#32
  let v28 : BitVec 1 := Scalar.cmpi .slt v27 c8_i32_18
  let c17_i32_19 : BitVec 32 := 17#32
  let c16_i32_20 : BitVec 32 := 16#32
  let v29 : BitVec 32 := Scalar.select v28 c17_i32_19 c16_i32_20
  let c1_i32_71_r10 : BitVec 32 := 1#32
  let v88_r10 : BitVec 32 := Scalar.subi v29 c1_i32_71_r10
  let v89_r10 : BitVec 32 := Scalar.select v87_r10 v88_r10 v86_r10
  let c8_i32_21 : BitVec 32 := 8#32
  let v30 : BitVec 1 := Scalar.cmpi .slt v27 c8_i32_21
  let v31 : BitVec 32 := Scalar.muli v27 v29
  let c16_i32_22 : BitVec 32 := 16#32
  let v32 : BitVec 32 := Scalar.muli v27 c16_i32_22
  let c8_i32_23 : BitVec 32 := 8#32
  let v33 : BitVec 32 := Scalar.addi v32 c8_i32_23
  let v34 : BitVec 32 := Scalar.select v30 v31 v33
  let v95_r10 : BitVec 32 := Scalar.addi v89_r10 v34
  let v117_r10 : BitVec 32 := Scalar.muli c128_i32_r10 v95_r10
  let c512_i32_r10 : BitVec 32 := 512#32
  ![v117_r10.toNat, 512]

def k0_chk24 (i : grid0.Coords) (v84_4_r10 : BitVec 32) : Prop :=
  (∀ (k0_h37 : k0_cond37 i = 1#1), ∀ (k0_h54 : k0_cond54 i = 1#1), ∀ a, (k0_off103 i v84_4_r10) a + S128x256.size a ≤ S66560x1024.size a)
theorem k0_off103_inb : ∀ (i : grid0.Coords) (v84_4_r10 : BitVec 32) (k0_hw24 : k0_chk24 i v84_4_r10), ∀ (k0_h37 : k0_cond37 i = 1#1), ∀ (k0_h54 : k0_cond54 i = 1#1), ∀ a, (k0_off103 i v84_4_r10) a + S128x256.size a ≤ S66560x1024.size a := fun i v84_4_r10 k0_hw24 k0_h37 k0_h54 => k0_hw24 k0_h37 k0_h54

def k0_off104 (v84_3_r10 : BitVec 32) : Fin 1 → Nat :=
  let c2_i32_r10 : BitVec 32 := 2#32
  let v116_r10 : BitVec 32 := Scalar.remui v84_3_r10 c2_i32_r10
  ![v116_r10.toNat]
def k0_off105 (v84_3_r10 : BitVec 32) : Fin 3 → Nat :=
  let c2_i32_r10 : BitVec 32 := 2#32
  let v116_r10 : BitVec 32 := Scalar.remui v84_3_r10 c2_i32_r10
  let c0_i32_91_r10 : BitVec 32 := 0#32
  let c0_i32_92_r10 : BitVec 32 := 0#32
  ![v116_r10.toNat, 0, 0]

def k0_chk23 (i : grid0.Coords) (v84_3_r10 : BitVec 32) : Prop :=
  (∀ (k0_h37 : k0_cond37 i = 1#1), ∀ (k0_h54 : k0_cond54 i = 1#1), ∀ a, (k0_off102 v84_3_r10) a + S1x128x256.size a ≤ S2x128x256.size a) ∧
  (∀ (k0_h37 : k0_cond37 i = 1#1), ∀ (k0_h54 : k0_cond54 i = 1#1), ∀ a, (k0_off104 v84_3_r10) a + S1.size a ≤ S2.size a) ∧
  (∀ (k0_h37 : k0_cond37 i = 1#1), ∀ (k0_h54 : k0_cond54 i = 1#1), ∀ a, (k0_off105 v84_3_r10) a + S1x128x256.size a ≤ S2x128x256.size a)
theorem k0_off102_inb : ∀ (i : grid0.Coords) (v84_3_r10 : BitVec 32) (k0_hw23 : k0_chk23 i v84_3_r10), ∀ (k0_h37 : k0_cond37 i = 1#1), ∀ (k0_h54 : k0_cond54 i = 1#1), ∀ a, (k0_off102 v84_3_r10) a + S1x128x256.size a ≤ S2x128x256.size a := fun i v84_3_r10 k0_hw23 k0_h37 k0_h54 => k0_hw23.1 k0_h37 k0_h54
theorem k0_off104_inb : ∀ (i : grid0.Coords) (v84_3_r10 : BitVec 32) (k0_hw23 : k0_chk23 i v84_3_r10), ∀ (k0_h37 : k0_cond37 i = 1#1), ∀ (k0_h54 : k0_cond54 i = 1#1), ∀ a, (k0_off104 v84_3_r10) a + S1.size a ≤ S2.size a := fun i v84_3_r10 k0_hw23 k0_h37 k0_h54 => k0_hw23.2.1 k0_h37 k0_h54
theorem k0_off105_inb : ∀ (i : grid0.Coords) (v84_3_r10 : BitVec 32) (k0_hw23 : k0_chk23 i v84_3_r10), ∀ (k0_h37 : k0_cond37 i = 1#1), ∀ (k0_h54 : k0_cond54 i = 1#1), ∀ a, (k0_off105 v84_3_r10) a + S1x128x256.size a ≤ S2x128x256.size a := fun i v84_3_r10 k0_hw23 k0_h37 k0_h54 => k0_hw23.2.2 k0_h37 k0_h54

def k0_cond55 (i : grid0.Coords) : BitVec 1 :=
  let c1_i32_34 : BitVec 32 := 1#32
  let c0_i32_26 : BitVec 32 := 0#32
  let arg1 : BitVec 32 := BitVec.ofNat 32 (i 1).val
  let c1_i32_25 : BitVec 32 := 1#32
  let v36 : BitVec 32 := Scalar.muli arg1 c1_i32_25
  let v37 : BitVec 32 := Scalar.addi c0_i32_26 v36
  let arg0 : BitVec 32 := BitVec.ofNat 32 (i 0).val
  let c16_i32_27 : BitVec 32 := 16#32
  let v38 : BitVec 32 := Scalar.muli arg0 c16_i32_27
  let v39 : BitVec 32 := Scalar.addi v37 v38
  let c8_i32_28 : BitVec 32 := 8#32
  let v40 : BitVec 1 := Scalar.cmpi .slt v39 c8_i32_28
  let c17_i32_29 : BitVec 32 := 17#32
  let c16_i32_30 : BitVec 32 := 16#32
  let v41 : BitVec 32 := Scalar.select v40 c17_i32_29 c16_i32_30
  let v47 : BitVec 32 := Scalar.muli c1_i32_34 v41
  let c0_i32_36_r15 : BitVec 32 := 0#32
  let v50_r15 : BitVec 1 := Scalar.cmpi .sgt v47 c0_i32_36_r15
  let v51_r15 : BitVec 32 := Scalar.extui v50_r15
  let c0_i32_37_r15 : BitVec 32 := 0#32
  let v52_r15 : BitVec 1 := Scalar.cmpi .ne v51_r15 c0_i32_37_r15
  v52_r15

def k0_cond56 (i : grid0.Coords) : BitVec 1 :=
  let true_53_r15 : BitVec 1 := 1#1
  let c1_i32_38_r15 : BitVec 32 := 1#32
  let c0_i32_26 : BitVec 32 := 0#32
  let arg1 : BitVec 32 := BitVec.ofNat 32 (i 1).val
  let c1_i32_25 : BitVec 32 := 1#32
  let v36 : BitVec 32 := Scalar.muli arg1 c1_i32_25
  let v37 : BitVec 32 := Scalar.addi c0_i32_26 v36
  let arg0 : BitVec 32 := BitVec.ofNat 32 (i 0).val
  let c16_i32_27 : BitVec 32 := 16#32
  let v38 : BitVec 32 := Scalar.muli arg0 c16_i32_27
  let v39 : BitVec 32 := Scalar.addi v37 v38
  let c8_i32_28 : BitVec 32 := 8#32
  let v40 : BitVec 1 := Scalar.cmpi .slt v39 c8_i32_28
  let c17_i32_29 : BitVec 32 := 17#32
  let c16_i32_30 : BitVec 32 := 16#32
  let v41 : BitVec 32 := Scalar.select v40 c17_i32_29 c16_i32_30
  let v53_r15 : BitVec 32 := Scalar.muli c1_i32_38_r15 v41
  let c0_i32_52_r15 : BitVec 32 := 0#32
  let v71_r15 : BitVec 1 := Scalar.cmpi .sgt v53_r15 c0_i32_52_r15
  let v72_r15 : BitVec 1 := Scalar.andi true_53_r15 v71_r15
  let true_54_r15 : BitVec 1 := 1#1
  let v73_r15 : BitVec 1 := Scalar.andi v72_r15 true_54_r15
  let v74_r15 : BitVec 32 := Scalar.extui v73_r15
  let c0_i32_56_r15 : BitVec 32 := 0#32
  let v75_r15 : BitVec 1 := Scalar.cmpi .ne v74_r15 c0_i32_56_r15
  v75_r15

def k0_off106 : Fin 3 → Nat :=
  let c0_i32_55_r15 : BitVec 32 := 0#32
  let c2_i32_r15 : BitVec 32 := 2#32
  let v116_r15 : BitVec 32 := Scalar.remui c0_i32_55_r15 c2_i32_r15
  let c0_i32_88_r15 : BitVec 32 := 0#32
  let c0_i32_89_r15 : BitVec 32 := 0#32
  ![v116_r15.toNat, 0, 0]
def k0_off107 (i : grid0.Coords) : Fin 2 → Nat :=
  let c0_i32_90_r15 : BitVec 32 := 0#32
  let c128_i32_r15 : BitVec 32 := 128#32
  let c0_i32_41_r15 : BitVec 32 := 0#32
  let c0_i32_26 : BitVec 32 := 0#32
  let arg1 : BitVec 32 := BitVec.ofNat 32 (i 1).val
  let c1_i32_25 : BitVec 32 := 1#32
  let v36 : BitVec 32 := Scalar.muli arg1 c1_i32_25
  let v37 : BitVec 32 := Scalar.addi c0_i32_26 v36
  let arg0 : BitVec 32 := BitVec.ofNat 32 (i 0).val
  let c16_i32_27 : BitVec 32 := 16#32
  let v38 : BitVec 32 := Scalar.muli arg0 c16_i32_27
  let v39 : BitVec 32 := Scalar.addi v37 v38
  let c8_i32_31 : BitVec 32 := 8#32
  let v42 : BitVec 1 := Scalar.cmpi .slt v39 c8_i32_31
  let c8_i32_28 : BitVec 32 := 8#32
  let v40 : BitVec 1 := Scalar.cmpi .slt v39 c8_i32_28
  let c17_i32_29 : BitVec 32 := 17#32
  let c16_i32_30 : BitVec 32 := 16#32
  let v41 : BitVec 32 := Scalar.select v40 c17_i32_29 c16_i32_30
  let v43 : BitVec 32 := Scalar.muli v39 v41
  let c16_i32_32 : BitVec 32 := 16#32
  let v44 : BitVec 32 := Scalar.muli v39 c16_i32_32
  let c8_i32_33 : BitVec 32 := 8#32
  let v45 : BitVec 32 := Scalar.addi v44 c8_i32_33
  let v46 : BitVec 32 := Scalar.select v42 v43 v45
  let v56_r15 : BitVec 32 := Scalar.addi c0_i32_41_r15 v46
  let v117_r15 : BitVec 32 := Scalar.muli c128_i32_r15 v56_r15
  ![0, v117_r15.toNat]
def k0_off108 : Fin 1 → Nat :=
  let c0_i32_55_r15 : BitVec 32 := 0#32
  let c2_i32_r15 : BitVec 32 := 2#32
  let v116_r15 : BitVec 32 := Scalar.remui c0_i32_55_r15 c2_i32_r15
  ![v116_r15.toNat]
@[reducible] def k0_t7_loop (i : grid0.Coords) : Scf.Loop 32 :=
  let c0_i32_60_r15 : BitVec 32 := 0#32
  let c1_i32_34 : BitVec 32 := 1#32
  let c0_i32_26 : BitVec 32 := 0#32
  let arg1 : BitVec 32 := BitVec.ofNat 32 (i 1).val
  let c1_i32_25 : BitVec 32 := 1#32
  let v36 : BitVec 32 := Scalar.muli arg1 c1_i32_25
  let v37 : BitVec 32 := Scalar.addi c0_i32_26 v36
  let arg0 : BitVec 32 := BitVec.ofNat 32 (i 0).val
  let c16_i32_27 : BitVec 32 := 16#32
  let v38 : BitVec 32 := Scalar.muli arg0 c16_i32_27
  let v39 : BitVec 32 := Scalar.addi v37 v38
  let c8_i32_28 : BitVec 32 := 8#32
  let v40 : BitVec 1 := Scalar.cmpi .slt v39 c8_i32_28
  let c17_i32_29 : BitVec 32 := 17#32
  let c16_i32_30 : BitVec 32 := 16#32
  let v41 : BitVec 32 := Scalar.select v40 c17_i32_29 c16_i32_30
  let v47 : BitVec 32 := Scalar.muli c1_i32_34 v41
  let v78_r15 : BitVec 32 := Scalar.subi v47 c0_i32_60_r15
  let c1_i32_65_r15 : BitVec 32 := 1#32
  let v80_r15 : BitVec 32 := Scalar.divsi v78_r15 c1_i32_65_r15
  let v81_r15 : BitVec 32 := Scalar.muli v80_r15 c1_i32_65_r15
  let v82_r15 : BitVec 32 := Scalar.addi c0_i32_60_r15 v81_r15
  let c1_i32_66_r15 : BitVec 32 := 1#32
  ⟨c0_i32_60_r15, v82_r15, c1_i32_66_r15⟩
def k0_off109 (arg6_r15 : BitVec 32) : Fin 3 → Nat :=
  let c2_i32_133_r15 : BitVec 32 := 2#32
  let v203_r15 : BitVec 32 := Scalar.remui arg6_r15 c2_i32_133_r15
  let c0_i32_134_r15 : BitVec 32 := 0#32
  let c0_i32_135_r15 : BitVec 32 := 0#32
  ![v203_r15.toNat, 0, 0]
def k0_cond57 (i : grid0.Coords) (k0_t7 : Fin (k0_t7_loop i).trips) (arg10_r15 : BitVec 32) : BitVec 1 :=
  let c0_i32_26 : BitVec 32 := 0#32
  let arg1 : BitVec 32 := BitVec.ofNat 32 (i 1).val
  let c1_i32_25 : BitVec 32 := 1#32
  let v36 : BitVec 32 := Scalar.muli arg1 c1_i32_25
  let v37 : BitVec 32 := Scalar.addi c0_i32_26 v36
  let arg0 : BitVec 32 := BitVec.ofNat 32 (i 0).val
  let c16_i32_27 : BitVec 32 := 16#32
  let v38 : BitVec 32 := Scalar.muli arg0 c16_i32_27
  let v39 : BitVec 32 := Scalar.addi v37 v38
  let c8_i32_31 : BitVec 32 := 8#32
  let v42 : BitVec 1 := Scalar.cmpi .slt v39 c8_i32_31
  let c8_i32_28 : BitVec 32 := 8#32
  let v40 : BitVec 1 := Scalar.cmpi .slt v39 c8_i32_28
  let c17_i32_29 : BitVec 32 := 17#32
  let c16_i32_30 : BitVec 32 := 16#32
  let v41 : BitVec 32 := Scalar.select v40 c17_i32_29 c16_i32_30
  let v43 : BitVec 32 := Scalar.muli v39 v41
  let c16_i32_32 : BitVec 32 := 16#32
  let v44 : BitVec 32 := Scalar.muli v39 c16_i32_32
  let c8_i32_33 : BitVec 32 := 8#32
  let v45 : BitVec 32 := Scalar.addi v44 c8_i32_33
  let v46 : BitVec 32 := Scalar.select v42 v43 v45
  let v120_r15 : BitVec 32 := Scalar.addi arg10_r15 v46
  let true_96_r15 : BitVec 1 := 1#1
  let c1_i32_95_r15 : BitVec 32 := 1#32
  let v127_r15 : BitVec 32 := Scalar.addi arg10_r15 c1_i32_95_r15
  let v128_r15 : BitVec 32 := Scalar.select true_96_r15 v127_r15 arg10_r15
  let v129_r15 : BitVec 1 := Scalar.cmpi .eq v128_r15 v41
  let c0_i32_97_r15 : BitVec 32 := 0#32
  let v130_r15 : BitVec 32 := Scalar.select v129_r15 c0_i32_97_r15 v128_r15
  let v131_r15 : BitVec 32 := Scalar.addi v130_r15 v46
  let v137_r15 : BitVec 1 := Scalar.cmpi .ne v120_r15 v131_r15
  let c0_i32_60_r15 : BitVec 32 := 0#32
  let c1_i32_66_r15 : BitVec 32 := 1#32
  let arg5_r15 : BitVec 32 := Scf.iv c0_i32_60_r15 c1_i32_66_r15 k0_t7
  let c1_i32_88_r15 : BitVec 32 := 1#32
  let v116_r15 : BitVec 32 := Scalar.muli c1_i32_88_r15 v41
  let c2_i32_r15 : BitVec 32 := 2#32
  let v138_r15 : BitVec 32 := Scalar.subi v116_r15 c2_i32_r15
  let c1_i32_101_r15 : BitVec 32 := 1#32
  let v139_r15 : BitVec 32 := Scalar.addi v138_r15 c1_i32_101_r15
  let v140_r15 : BitVec 1 := Scalar.cmpi .sge arg5_r15 v139_r15
  let true_102_r15 : BitVec 1 := 1#1
  let v141_r15 : BitVec 1 := Scalar.xori v140_r15 true_102_r15
  let v142_r15 : BitVec 1 := Scalar.andi v137_r15 v141_r15
  let true_103_r15 : BitVec 1 := 1#1
  let v143_r15 : BitVec 1 := Scalar.andi v142_r15 true_103_r15
  let v144_r15 : BitVec 32 := Scalar.extui v143_r15
  let c0_i32_104_r15 : BitVec 32 := 0#32
  let v145_r15 : BitVec 1 := Scalar.cmpi .ne v144_r15 c0_i32_104_r15
  v145_r15

def k0_off110 (i : grid0.Coords) (arg10_r15 : BitVec 32) : Fin 2 → Nat :=
  let c0_i32_136_r15 : BitVec 32 := 0#32
  let c128_i32_r15 : BitVec 32 := 128#32
  let true_96_r15 : BitVec 1 := 1#1
  let c1_i32_95_r15 : BitVec 32 := 1#32
  let v127_r15 : BitVec 32 := Scalar.addi arg10_r15 c1_i32_95_r15
  let v128_r15 : BitVec 32 := Scalar.select true_96_r15 v127_r15 arg10_r15
  let c0_i32_26 : BitVec 32 := 0#32
  let arg1 : BitVec 32 := BitVec.ofNat 32 (i 1).val
  let c1_i32_25 : BitVec 32 := 1#32
  let v36 : BitVec 32 := Scalar.muli arg1 c1_i32_25
  let v37 : BitVec 32 := Scalar.addi c0_i32_26 v36
  let arg0 : BitVec 32 := BitVec.ofNat 32 (i 0).val
  let c16_i32_27 : BitVec 32 := 16#32
  let v38 : BitVec 32 := Scalar.muli arg0 c16_i32_27
  let v39 : BitVec 32 := Scalar.addi v37 v38
  let c8_i32_28 : BitVec 32 := 8#32
  let v40 : BitVec 1 := Scalar.cmpi .slt v39 c8_i32_28
  let c17_i32_29 : BitVec 32 := 17#32
  let c16_i32_30 : BitVec 32 := 16#32
  let v41 : BitVec 32 := Scalar.select v40 c17_i32_29 c16_i32_30
  let v129_r15 : BitVec 1 := Scalar.cmpi .eq v128_r15 v41
  let c0_i32_97_r15 : BitVec 32 := 0#32
  let v130_r15 : BitVec 32 := Scalar.select v129_r15 c0_i32_97_r15 v128_r15
  let c8_i32_31 : BitVec 32 := 8#32
  let v42 : BitVec 1 := Scalar.cmpi .slt v39 c8_i32_31
  let v43 : BitVec 32 := Scalar.muli v39 v41
  let c16_i32_32 : BitVec 32 := 16#32
  let v44 : BitVec 32 := Scalar.muli v39 c16_i32_32
  let c8_i32_33 : BitVec 32 := 8#32
  let v45 : BitVec 32 := Scalar.addi v44 c8_i32_33
  let v46 : BitVec 32 := Scalar.select v42 v43 v45
  let v131_r15 : BitVec 32 := Scalar.addi v130_r15 v46
  let v204_r15 : BitVec 32 := Scalar.muli c128_i32_r15 v131_r15
  ![0, v204_r15.toNat]
def k0_off111 (arg6_r15 : BitVec 32) : Fin 1 → Nat :=
  let c2_i32_133_r15 : BitVec 32 := 2#32
  let v203_r15 : BitVec 32 := Scalar.remui arg6_r15 c2_i32_133_r15
  ![v203_r15.toNat]
def k0_off112 (arg7_r15 : BitVec 32) : Fin 3 → Nat :=
  let c2_i32_133_r15 : BitVec 32 := 2#32
  let v204_r15 : BitVec 32 := Scalar.remui arg7_r15 c2_i32_133_r15
  let c0_i32_134_r15 : BitVec 32 := 0#32
  let c0_i32_135_r15 : BitVec 32 := 0#32
  ![v204_r15.toNat, 0, 0]
def k0_cond58 (i : grid0.Coords) (k0_t7 : Fin (k0_t7_loop i).trips) (arg10_r15 : BitVec 32) : BitVec 1 :=
  let c0_i32_26 : BitVec 32 := 0#32
  let arg1 : BitVec 32 := BitVec.ofNat 32 (i 1).val
  let c1_i32_25 : BitVec 32 := 1#32
  let v36 : BitVec 32 := Scalar.muli arg1 c1_i32_25
  let v37 : BitVec 32 := Scalar.addi c0_i32_26 v36
  let arg0 : BitVec 32 := BitVec.ofNat 32 (i 0).val
  let c16_i32_27 : BitVec 32 := 16#32
  let v38 : BitVec 32 := Scalar.muli arg0 c16_i32_27
  let v39 : BitVec 32 := Scalar.addi v37 v38
  let c8_i32_31 : BitVec 32 := 8#32
  let v42 : BitVec 1 := Scalar.cmpi .slt v39 c8_i32_31
  let c8_i32_28 : BitVec 32 := 8#32
  let v40 : BitVec 1 := Scalar.cmpi .slt v39 c8_i32_28
  let c17_i32_29 : BitVec 32 := 17#32
  let c16_i32_30 : BitVec 32 := 16#32
  let v41 : BitVec 32 := Scalar.select v40 c17_i32_29 c16_i32_30
  let v43 : BitVec 32 := Scalar.muli v39 v41
  let c16_i32_32 : BitVec 32 := 16#32
  let v44 : BitVec 32 := Scalar.muli v39 c16_i32_32
  let c8_i32_33 : BitVec 32 := 8#32
  let v45 : BitVec 32 := Scalar.addi v44 c8_i32_33
  let v46 : BitVec 32 := Scalar.select v42 v43 v45
  let v120_r15 : BitVec 32 := Scalar.addi arg10_r15 v46
  let true_92_r15 : BitVec 1 := 1#1
  let c1_i32_91_r15 : BitVec 32 := 1#32
  let v121_r15 : BitVec 32 := Scalar.subi arg10_r15 c1_i32_91_r15
  let v122_r15 : BitVec 32 := Scalar.select true_92_r15 v121_r15 arg10_r15
  let c_m1_i32_93_r15 : BitVec 32 := 4294967295#32
  let v123_r15 : BitVec 1 := Scalar.cmpi .eq v122_r15 c_m1_i32_93_r15
  let c1_i32_94_r15 : BitVec 32 := 1#32
  let v124_r15 : BitVec 32 := Scalar.subi v41 c1_i32_94_r15
  let v125_r15 : BitVec 32 := Scalar.select v123_r15 v124_r15 v122_r15
  let v126_r15 : BitVec 32 := Scalar.addi v125_r15 v46
  let v155_r15 : BitVec 1 := Scalar.cmpi .ne v120_r15 v126_r15
  let c0_i32_60_r15 : BitVec 32 := 0#32
  let c1_i32_66_r15 : BitVec 32 := 1#32
  let arg5_r15 : BitVec 32 := Scf.iv c0_i32_60_r15 c1_i32_66_r15 k0_t7
  let c0_i32_89_r15 : BitVec 32 := 0#32
  let v117_r15 : BitVec 1 := Scalar.cmpi .eq arg5_r15 c0_i32_89_r15
  let v156_r15 : BitVec 1 := Scalar.ori v155_r15 v117_r15
  let c0_i32_110_r15 : BitVec 32 := 0#32
  let v157_r15 : BitVec 1 := Scalar.cmpi .sge arg5_r15 c0_i32_110_r15
  let v158_r15 : BitVec 1 := Scalar.andi v156_r15 v157_r15
  let v159_r15 : BitVec 32 := Scalar.extui v158_r15
  let c0_i32_111_r15 : BitVec 32 := 0#32
  let v160_r15 : BitVec 1 := Scalar.cmpi .ne v159_r15 c0_i32_111_r15
  v160_r15

def k0_off113 (i : grid0.Coords) (arg10_r15 : BitVec 32) : Fin 2 → Nat :=
  let c0_i32_136_r15 : BitVec 32 := 0#32
  let c128_i32_r15 : BitVec 32 := 128#32
  let c0_i32_26 : BitVec 32 := 0#32
  let arg1 : BitVec 32 := BitVec.ofNat 32 (i 1).val
  let c1_i32_25 : BitVec 32 := 1#32
  let v36 : BitVec 32 := Scalar.muli arg1 c1_i32_25
  let v37 : BitVec 32 := Scalar.addi c0_i32_26 v36
  let arg0 : BitVec 32 := BitVec.ofNat 32 (i 0).val
  let c16_i32_27 : BitVec 32 := 16#32
  let v38 : BitVec 32 := Scalar.muli arg0 c16_i32_27
  let v39 : BitVec 32 := Scalar.addi v37 v38
  let c8_i32_31 : BitVec 32 := 8#32
  let v42 : BitVec 1 := Scalar.cmpi .slt v39 c8_i32_31
  let c8_i32_28 : BitVec 32 := 8#32
  let v40 : BitVec 1 := Scalar.cmpi .slt v39 c8_i32_28
  let c17_i32_29 : BitVec 32 := 17#32
  let c16_i32_30 : BitVec 32 := 16#32
  let v41 : BitVec 32 := Scalar.select v40 c17_i32_29 c16_i32_30
  let v43 : BitVec 32 := Scalar.muli v39 v41
  let c16_i32_32 : BitVec 32 := 16#32
  let v44 : BitVec 32 := Scalar.muli v39 c16_i32_32
  let c8_i32_33 : BitVec 32 := 8#32
  let v45 : BitVec 32 := Scalar.addi v44 c8_i32_33
  let v46 : BitVec 32 := Scalar.select v42 v43 v45
  let v120_r15 : BitVec 32 := Scalar.addi arg10_r15 v46
  let v203_r15 : BitVec 32 := Scalar.muli c128_i32_r15 v120_r15
  ![0, v203_r15.toNat]
def k0_off114 (arg7_r15 : BitVec 32) : Fin 1 → Nat :=
  let c2_i32_133_r15 : BitVec 32 := 2#32
  let v204_r15 : BitVec 32 := Scalar.remui arg7_r15 c2_i32_133_r15
  ![v204_r15.toNat]
def k0_off115 (arg8_r15 : BitVec 32) : Fin 3 → Nat :=
  let c2_i32_115_r15 : BitVec 32 := 2#32
  let v168_r15 : BitVec 32 := Scalar.remui arg8_r15 c2_i32_115_r15
  let c0_i32_133_r16 : BitVec 32 := 0#32
  let c0_i32_134_r16 : BitVec 32 := 0#32
  ![v168_r15.toNat, 0, 0]

def k0_chk26 (i : grid0.Coords) (arg8_r15 : BitVec 32) : Prop :=
  (∀ (k0_h55 : k0_cond55 i = 1#1), ∀ a, (k0_off115 arg8_r15) a + S1x128x256.size a ≤ S2x128x256.size a)
theorem k0_off115_inb : ∀ (i : grid0.Coords) (arg8_r15 : BitVec 32) (k0_hw26 : k0_chk26 i arg8_r15), ∀ (k0_h55 : k0_cond55 i = 1#1), ∀ a, (k0_off115 arg8_r15) a + S1x128x256.size a ≤ S2x128x256.size a := fun i arg8_r15 k0_hw26 k0_h55 => k0_hw26 k0_h55

def k0_off116 (arg7_r15 : BitVec 32) : Fin 3 → Nat :=
  let c2_i32_114_r15 : BitVec 32 := 2#32
  let v167_r15 : BitVec 32 := Scalar.remui arg7_r15 c2_i32_114_r15
  let c0_i32_137_r16 : BitVec 32 := 0#32
  let c0_i32_138_r16 : BitVec 32 := 0#32
  ![v167_r15.toNat, 0, 0]

def k0_chk27 (i : grid0.Coords) (arg7_r15 : BitVec 32) : Prop :=
  (∀ (k0_h55 : k0_cond55 i = 1#1), ∀ a, (k0_off116 arg7_r15) a + S1x1x128.size a ≤ S2x1x128.size a)
theorem k0_off116_inb : ∀ (i : grid0.Coords) (arg7_r15 : BitVec 32) (k0_hw27 : k0_chk27 i arg7_r15), ∀ (k0_h55 : k0_cond55 i = 1#1), ∀ a, (k0_off116 arg7_r15) a + S1x1x128.size a ≤ S2x1x128.size a := fun i arg7_r15 k0_hw27 k0_h55 => k0_hw27 k0_h55

def k0_off117 (arg8_r15 : BitVec 32) : Fin 3 → Nat :=
  let c2_i32_133_r15 : BitVec 32 := 2#32
  let v203_r15 : BitVec 32 := Scalar.remui arg8_r15 c2_i32_133_r15
  let c0_i32_134_r15 : BitVec 32 := 0#32
  let c0_i32_135_r15 : BitVec 32 := 0#32
  ![v203_r15.toNat, 0, 0]
def k0_cond61 (i : grid0.Coords) (k0_t7 : Fin (k0_t7_loop i).trips) (arg10_r15 : BitVec 32) : BitVec 1 :=
  let c0_i32_26 : BitVec 32 := 0#32
  let arg1 : BitVec 32 := BitVec.ofNat 32 (i 1).val
  let c1_i32_25 : BitVec 32 := 1#32
  let v36 : BitVec 32 := Scalar.muli arg1 c1_i32_25
  let v37 : BitVec 32 := Scalar.addi c0_i32_26 v36
  let arg0 : BitVec 32 := BitVec.ofNat 32 (i 0).val
  let c16_i32_27 : BitVec 32 := 16#32
  let v38 : BitVec 32 := Scalar.muli arg0 c16_i32_27
  let v39 : BitVec 32 := Scalar.addi v37 v38
  let c8_i32_31 : BitVec 32 := 8#32
  let v42 : BitVec 1 := Scalar.cmpi .slt v39 c8_i32_31
  let c8_i32_28 : BitVec 32 := 8#32
  let v40 : BitVec 1 := Scalar.cmpi .slt v39 c8_i32_28
  let c17_i32_29 : BitVec 32 := 17#32
  let c16_i32_30 : BitVec 32 := 16#32
  let v41 : BitVec 32 := Scalar.select v40 c17_i32_29 c16_i32_30
  let v43 : BitVec 32 := Scalar.muli v39 v41
  let c16_i32_32 : BitVec 32 := 16#32
  let v44 : BitVec 32 := Scalar.muli v39 c16_i32_32
  let c8_i32_33 : BitVec 32 := 8#32
  let v45 : BitVec 32 := Scalar.addi v44 c8_i32_33
  let v46 : BitVec 32 := Scalar.select v42 v43 v45
  let v120_r15 : BitVec 32 := Scalar.addi arg10_r15 v46
  let true_96_r15 : BitVec 1 := 1#1
  let c1_i32_95_r15 : BitVec 32 := 1#32
  let v127_r15 : BitVec 32 := Scalar.addi arg10_r15 c1_i32_95_r15
  let v128_r15 : BitVec 32 := Scalar.select true_96_r15 v127_r15 arg10_r15
  let v129_r15 : BitVec 1 := Scalar.cmpi .eq v128_r15 v41
  let c0_i32_97_r15 : BitVec 32 := 0#32
  let v130_r15 : BitVec 32 := Scalar.select v129_r15 c0_i32_97_r15 v128_r15
  let v131_r15 : BitVec 32 := Scalar.addi v130_r15 v46
  let v174_r15 : BitVec 1 := Scalar.cmpi .ne v120_r15 v131_r15
  let c0_i32_60_r15 : BitVec 32 := 0#32
  let c1_i32_66_r15 : BitVec 32 := 1#32
  let arg5_r15 : BitVec 32 := Scf.iv c0_i32_60_r15 c1_i32_66_r15 k0_t7
  let c1_i32_88_r15 : BitVec 32 := 1#32
  let v116_r15 : BitVec 32 := Scalar.muli c1_i32_88_r15 v41
  let c1_i32_90_r15 : BitVec 32 := 1#32
  let v118_r15 : BitVec 32 := Scalar.subi v116_r15 c1_i32_90_r15
  let v119_r15 : BitVec 1 := Scalar.cmpi .eq arg5_r15 v118_r15
  let v175_r15 : BitVec 1 := Scalar.ori v174_r15 v119_r15
  let v176_r15 : BitVec 32 := Scalar.extui v175_r15
  let c0_i32_119_r15 : BitVec 32 := 0#32
  let v177_r15 : BitVec 1 := Scalar.cmpi .ne v176_r15 c0_i32_119_r15
  v177_r15

def k0_off118 (i : grid0.Coords) (arg10_r15 : BitVec 32) : Fin 2 → Nat :=
  let c128_i32_r15 : BitVec 32 := 128#32
  let c0_i32_26 : BitVec 32 := 0#32
  let arg1 : BitVec 32 := BitVec.ofNat 32 (i 1).val
  let c1_i32_25 : BitVec 32 := 1#32
  let v36 : BitVec 32 := Scalar.muli arg1 c1_i32_25
  let v37 : BitVec 32 := Scalar.addi c0_i32_26 v36
  let arg0 : BitVec 32 := BitVec.ofNat 32 (i 0).val
  let c16_i32_27 : BitVec 32 := 16#32
  let v38 : BitVec 32 := Scalar.muli arg0 c16_i32_27
  let v39 : BitVec 32 := Scalar.addi v37 v38
  let c8_i32_31 : BitVec 32 := 8#32
  let v42 : BitVec 1 := Scalar.cmpi .slt v39 c8_i32_31
  let c8_i32_28 : BitVec 32 := 8#32
  let v40 : BitVec 1 := Scalar.cmpi .slt v39 c8_i32_28
  let c17_i32_29 : BitVec 32 := 17#32
  let c16_i32_30 : BitVec 32 := 16#32
  let v41 : BitVec 32 := Scalar.select v40 c17_i32_29 c16_i32_30
  let v43 : BitVec 32 := Scalar.muli v39 v41
  let c16_i32_32 : BitVec 32 := 16#32
  let v44 : BitVec 32 := Scalar.muli v39 c16_i32_32
  let c8_i32_33 : BitVec 32 := 8#32
  let v45 : BitVec 32 := Scalar.addi v44 c8_i32_33
  let v46 : BitVec 32 := Scalar.select v42 v43 v45
  let v120_r15 : BitVec 32 := Scalar.addi arg10_r15 v46
  let v204_r15 : BitVec 32 := Scalar.muli c128_i32_r15 v120_r15
  let c768_i32_r15 : BitVec 32 := 768#32
  ![v204_r15.toNat, 768]
def k0_off119 (arg8_r15 : BitVec 32) : Fin 1 → Nat :=
  let c2_i32_133_r15 : BitVec 32 := 2#32
  let v203_r15 : BitVec 32 := Scalar.remui arg8_r15 c2_i32_133_r15
  ![v203_r15.toNat]
def k0_off120 (arg9_r15 : BitVec 32) : Fin 3 → Nat :=
  let c2_i32_133_r15 : BitVec 32 := 2#32
  let v203_r15 : BitVec 32 := Scalar.remui arg9_r15 c2_i32_133_r15
  let c0_i32_134_r15 : BitVec 32 := 0#32
  let c0_i32_135_r15 : BitVec 32 := 0#32
  ![v203_r15.toNat, 0, 0]
def k0_cond63 (i : grid0.Coords) (k0_t7 : Fin (k0_t7_loop i).trips) (arg10_r15 : BitVec 32) : BitVec 1 :=
  let c0_i32_26 : BitVec 32 := 0#32
  let arg1 : BitVec 32 := BitVec.ofNat 32 (i 1).val
  let c1_i32_25 : BitVec 32 := 1#32
  let v36 : BitVec 32 := Scalar.muli arg1 c1_i32_25
  let v37 : BitVec 32 := Scalar.addi c0_i32_26 v36
  let arg0 : BitVec 32 := BitVec.ofNat 32 (i 0).val
  let c16_i32_27 : BitVec 32 := 16#32
  let v38 : BitVec 32 := Scalar.muli arg0 c16_i32_27
  let v39 : BitVec 32 := Scalar.addi v37 v38
  let c8_i32_31 : BitVec 32 := 8#32
  let v42 : BitVec 1 := Scalar.cmpi .slt v39 c8_i32_31
  let c8_i32_28 : BitVec 32 := 8#32
  let v40 : BitVec 1 := Scalar.cmpi .slt v39 c8_i32_28
  let c17_i32_29 : BitVec 32 := 17#32
  let c16_i32_30 : BitVec 32 := 16#32
  let v41 : BitVec 32 := Scalar.select v40 c17_i32_29 c16_i32_30
  let v43 : BitVec 32 := Scalar.muli v39 v41
  let c16_i32_32 : BitVec 32 := 16#32
  let v44 : BitVec 32 := Scalar.muli v39 c16_i32_32
  let c8_i32_33 : BitVec 32 := 8#32
  let v45 : BitVec 32 := Scalar.addi v44 c8_i32_33
  let v46 : BitVec 32 := Scalar.select v42 v43 v45
  let v120_r15 : BitVec 32 := Scalar.addi arg10_r15 v46
  let true_92_r15 : BitVec 1 := 1#1
  let c1_i32_91_r15 : BitVec 32 := 1#32
  let v121_r15 : BitVec 32 := Scalar.subi arg10_r15 c1_i32_91_r15
  let v122_r15 : BitVec 32 := Scalar.select true_92_r15 v121_r15 arg10_r15
  let c_m1_i32_93_r15 : BitVec 32 := 4294967295#32
  let v123_r15 : BitVec 1 := Scalar.cmpi .eq v122_r15 c_m1_i32_93_r15
  let c1_i32_94_r15 : BitVec 32 := 1#32
  let v124_r15 : BitVec 32 := Scalar.subi v41 c1_i32_94_r15
  let v125_r15 : BitVec 32 := Scalar.select v123_r15 v124_r15 v122_r15
  let v126_r15 : BitVec 32 := Scalar.addi v125_r15 v46
  let v187_r15 : BitVec 1 := Scalar.cmpi .ne v120_r15 v126_r15
  let c0_i32_60_r15 : BitVec 32 := 0#32
  let c1_i32_66_r15 : BitVec 32 := 1#32
  let arg5_r15 : BitVec 32 := Scf.iv c0_i32_60_r15 c1_i32_66_r15 k0_t7
  let c0_i32_89_r15 : BitVec 32 := 0#32
  let v117_r15 : BitVec 1 := Scalar.cmpi .eq arg5_r15 c0_i32_89_r15
  let true_125_r15 : BitVec 1 := 1#1
  let v188_r15 : BitVec 1 := Scalar.xori v117_r15 true_125_r15
  let v189_r15 : BitVec 1 := Scalar.andi v187_r15 v188_r15
  let v190_r15 : BitVec 32 := Scalar.extui v189_r15
  let c0_i32_126_r15 : BitVec 32 := 0#32
  let v191_r15 : BitVec 1 := Scalar.cmpi .ne v190_r15 c0_i32_126_r15
  v191_r15

def k0_off121 (i : grid0.Coords) (arg10_r15 : BitVec 32) : Fin 2 → Nat :=
  let c128_i32_r15 : BitVec 32 := 128#32
  let true_92_r15 : BitVec 1 := 1#1
  let c1_i32_91_r15 : BitVec 32 := 1#32
  let v121_r15 : BitVec 32 := Scalar.subi arg10_r15 c1_i32_91_r15
  let v122_r15 : BitVec 32 := Scalar.select true_92_r15 v121_r15 arg10_r15
  let c_m1_i32_93_r15 : BitVec 32 := 4294967295#32
  let v123_r15 : BitVec 1 := Scalar.cmpi .eq v122_r15 c_m1_i32_93_r15
  let c0_i32_26 : BitVec 32 := 0#32
  let arg1 : BitVec 32 := BitVec.ofNat 32 (i 1).val
  let c1_i32_25 : BitVec 32 := 1#32
  let v36 : BitVec 32 := Scalar.muli arg1 c1_i32_25
  let v37 : BitVec 32 := Scalar.addi c0_i32_26 v36
  let arg0 : BitVec 32 := BitVec.ofNat 32 (i 0).val
  let c16_i32_27 : BitVec 32 := 16#32
  let v38 : BitVec 32 := Scalar.muli arg0 c16_i32_27
  let v39 : BitVec 32 := Scalar.addi v37 v38
  let c8_i32_28 : BitVec 32 := 8#32
  let v40 : BitVec 1 := Scalar.cmpi .slt v39 c8_i32_28
  let c17_i32_29 : BitVec 32 := 17#32
  let c16_i32_30 : BitVec 32 := 16#32
  let v41 : BitVec 32 := Scalar.select v40 c17_i32_29 c16_i32_30
  let c1_i32_94_r15 : BitVec 32 := 1#32
  let v124_r15 : BitVec 32 := Scalar.subi v41 c1_i32_94_r15
  let v125_r15 : BitVec 32 := Scalar.select v123_r15 v124_r15 v122_r15
  let c8_i32_31 : BitVec 32 := 8#32
  let v42 : BitVec 1 := Scalar.cmpi .slt v39 c8_i32_31
  let v43 : BitVec 32 := Scalar.muli v39 v41
  let c16_i32_32 : BitVec 32 := 16#32
  let v44 : BitVec 32 := Scalar.muli v39 c16_i32_32
  let c8_i32_33 : BitVec 32 := 8#32
  let v45 : BitVec 32 := Scalar.addi v44 c8_i32_33
  let v46 : BitVec 32 := Scalar.select v42 v43 v45
  let v126_r15 : BitVec 32 := Scalar.addi v125_r15 v46
  let v204_r15 : BitVec 32 := Scalar.muli c128_i32_r15 v126_r15
  let c768_i32_r15 : BitVec 32 := 768#32
  ![v204_r15.toNat, 768]
def k0_off122 (arg9_r15 : BitVec 32) : Fin 1 → Nat :=
  let c2_i32_133_r15 : BitVec 32 := 2#32
  let v203_r15 : BitVec 32 := Scalar.remui arg9_r15 c2_i32_133_r15
  ![v203_r15.toNat]

def k0_chk25 (i : grid0.Coords) (k0_t7 : Fin (k0_t7_loop i).trips) (arg6_r15 : BitVec 32) (arg7_r15 : BitVec 32) (arg8_r15 : BitVec 32) (arg9_r15 : BitVec 32) (arg10_r15 : BitVec 32) : Prop :=
  (∀ (k0_h55 : k0_cond55 i = 1#1), ∀ (k0_h57 : k0_cond57 i k0_t7 arg10_r15 = 1#1), ∀ a, (k0_off109 arg6_r15) a + S1x1x128.size a ≤ S2x1x128.size a) ∧
  (∀ (k0_h55 : k0_cond55 i = 1#1), ∀ (k0_h57 : k0_cond57 i k0_t7 arg10_r15 = 1#1), ∀ a, (k0_off110 i arg10_r15) a + S1x128.size a ≤ S1x66560.size a) ∧
  (∀ (k0_h55 : k0_cond55 i = 1#1), ∀ (k0_h57 : k0_cond57 i k0_t7 arg10_r15 = 1#1), ∀ a, (k0_off111 arg6_r15) a + S1.size a ≤ S2.size a) ∧
  (∀ (k0_h55 : k0_cond55 i = 1#1), ∀ (k0_h58 : k0_cond58 i k0_t7 arg10_r15 = 1#1), ∀ a, (k0_off112 arg7_r15) a + S1x1x128.size a ≤ S2x1x128.size a) ∧
  (∀ (k0_h55 : k0_cond55 i = 1#1), ∀ (k0_h58 : k0_cond58 i k0_t7 arg10_r15 = 1#1), ∀ a, (k0_off113 i arg10_r15) a + S1x128.size a ≤ S1x66560.size a) ∧
  (∀ (k0_h55 : k0_cond55 i = 1#1), ∀ (k0_h58 : k0_cond58 i k0_t7 arg10_r15 = 1#1), ∀ a, (k0_off114 arg7_r15) a + S1.size a ≤ S2.size a) ∧
  (∀ (k0_h55 : k0_cond55 i = 1#1), ∀ (k0_h61 : k0_cond61 i k0_t7 arg10_r15 = 1#1), ∀ a, (k0_off117 arg8_r15) a + S1x128x256.size a ≤ S2x128x256.size a) ∧
  (∀ (k0_h55 : k0_cond55 i = 1#1), ∀ (k0_h61 : k0_cond61 i k0_t7 arg10_r15 = 1#1), ∀ a, (k0_off118 i arg10_r15) a + S128x256.size a ≤ S66560x1024.size a) ∧
  (∀ (k0_h55 : k0_cond55 i = 1#1), ∀ (k0_h61 : k0_cond61 i k0_t7 arg10_r15 = 1#1), ∀ a, (k0_off119 arg8_r15) a + S1.size a ≤ S2.size a) ∧
  (∀ (k0_h55 : k0_cond55 i = 1#1), ∀ (k0_h63 : k0_cond63 i k0_t7 arg10_r15 = 1#1), ∀ a, (k0_off120 arg9_r15) a + S1x128x256.size a ≤ S2x128x256.size a) ∧
  (∀ (k0_h55 : k0_cond55 i = 1#1), ∀ (k0_h63 : k0_cond63 i k0_t7 arg10_r15 = 1#1), ∀ a, (k0_off121 i arg10_r15) a + S128x256.size a ≤ S66560x1024.size a) ∧
  (∀ (k0_h55 : k0_cond55 i = 1#1), ∀ (k0_h63 : k0_cond63 i k0_t7 arg10_r15 = 1#1), ∀ a, (k0_off122 arg9_r15) a + S1.size a ≤ S2.size a)
theorem k0_off109_inb : ∀ (i : grid0.Coords) (k0_t7 : Fin (k0_t7_loop i).trips) (arg6_r15 : BitVec 32) (arg7_r15 : BitVec 32) (arg8_r15 : BitVec 32) (arg9_r15 : BitVec 32) (arg10_r15 : BitVec 32) (k0_hw25 : k0_chk25 i k0_t7 arg6_r15 arg7_r15 arg8_r15 arg9_r15 arg10_r15), ∀ (k0_h55 : k0_cond55 i = 1#1), ∀ (k0_h57 : k0_cond57 i k0_t7 arg10_r15 = 1#1), ∀ a, (k0_off109 arg6_r15) a + S1x1x128.size a ≤ S2x1x128.size a := fun i k0_t7 arg6_r15 arg7_r15 arg8_r15 arg9_r15 arg10_r15 k0_hw25 k0_h55 k0_h57 => k0_hw25.1 k0_h55 k0_h57
theorem k0_off110_inb : ∀ (i : grid0.Coords) (k0_t7 : Fin (k0_t7_loop i).trips) (arg6_r15 : BitVec 32) (arg7_r15 : BitVec 32) (arg8_r15 : BitVec 32) (arg9_r15 : BitVec 32) (arg10_r15 : BitVec 32) (k0_hw25 : k0_chk25 i k0_t7 arg6_r15 arg7_r15 arg8_r15 arg9_r15 arg10_r15), ∀ (k0_h55 : k0_cond55 i = 1#1), ∀ (k0_h57 : k0_cond57 i k0_t7 arg10_r15 = 1#1), ∀ a, (k0_off110 i arg10_r15) a + S1x128.size a ≤ S1x66560.size a := fun i k0_t7 arg6_r15 arg7_r15 arg8_r15 arg9_r15 arg10_r15 k0_hw25 k0_h55 k0_h57 => k0_hw25.2.1 k0_h55 k0_h57
theorem k0_off111_inb : ∀ (i : grid0.Coords) (k0_t7 : Fin (k0_t7_loop i).trips) (arg6_r15 : BitVec 32) (arg7_r15 : BitVec 32) (arg8_r15 : BitVec 32) (arg9_r15 : BitVec 32) (arg10_r15 : BitVec 32) (k0_hw25 : k0_chk25 i k0_t7 arg6_r15 arg7_r15 arg8_r15 arg9_r15 arg10_r15), ∀ (k0_h55 : k0_cond55 i = 1#1), ∀ (k0_h57 : k0_cond57 i k0_t7 arg10_r15 = 1#1), ∀ a, (k0_off111 arg6_r15) a + S1.size a ≤ S2.size a := fun i k0_t7 arg6_r15 arg7_r15 arg8_r15 arg9_r15 arg10_r15 k0_hw25 k0_h55 k0_h57 => k0_hw25.2.2.1 k0_h55 k0_h57
theorem k0_off112_inb : ∀ (i : grid0.Coords) (k0_t7 : Fin (k0_t7_loop i).trips) (arg6_r15 : BitVec 32) (arg7_r15 : BitVec 32) (arg8_r15 : BitVec 32) (arg9_r15 : BitVec 32) (arg10_r15 : BitVec 32) (k0_hw25 : k0_chk25 i k0_t7 arg6_r15 arg7_r15 arg8_r15 arg9_r15 arg10_r15), ∀ (k0_h55 : k0_cond55 i = 1#1), ∀ (k0_h58 : k0_cond58 i k0_t7 arg10_r15 = 1#1), ∀ a, (k0_off112 arg7_r15) a + S1x1x128.size a ≤ S2x1x128.size a := fun i k0_t7 arg6_r15 arg7_r15 arg8_r15 arg9_r15 arg10_r15 k0_hw25 k0_h55 k0_h58 => k0_hw25.2.2.2.1 k0_h55 k0_h58
theorem k0_off113_inb : ∀ (i : grid0.Coords) (k0_t7 : Fin (k0_t7_loop i).trips) (arg6_r15 : BitVec 32) (arg7_r15 : BitVec 32) (arg8_r15 : BitVec 32) (arg9_r15 : BitVec 32) (arg10_r15 : BitVec 32) (k0_hw25 : k0_chk25 i k0_t7 arg6_r15 arg7_r15 arg8_r15 arg9_r15 arg10_r15), ∀ (k0_h55 : k0_cond55 i = 1#1), ∀ (k0_h58 : k0_cond58 i k0_t7 arg10_r15 = 1#1), ∀ a, (k0_off113 i arg10_r15) a + S1x128.size a ≤ S1x66560.size a := fun i k0_t7 arg6_r15 arg7_r15 arg8_r15 arg9_r15 arg10_r15 k0_hw25 k0_h55 k0_h58 => k0_hw25.2.2.2.2.1 k0_h55 k0_h58
theorem k0_off114_inb : ∀ (i : grid0.Coords) (k0_t7 : Fin (k0_t7_loop i).trips) (arg6_r15 : BitVec 32) (arg7_r15 : BitVec 32) (arg8_r15 : BitVec 32) (arg9_r15 : BitVec 32) (arg10_r15 : BitVec 32) (k0_hw25 : k0_chk25 i k0_t7 arg6_r15 arg7_r15 arg8_r15 arg9_r15 arg10_r15), ∀ (k0_h55 : k0_cond55 i = 1#1), ∀ (k0_h58 : k0_cond58 i k0_t7 arg10_r15 = 1#1), ∀ a, (k0_off114 arg7_r15) a + S1.size a ≤ S2.size a := fun i k0_t7 arg6_r15 arg7_r15 arg8_r15 arg9_r15 arg10_r15 k0_hw25 k0_h55 k0_h58 => k0_hw25.2.2.2.2.2.1 k0_h55 k0_h58
theorem k0_off117_inb : ∀ (i : grid0.Coords) (k0_t7 : Fin (k0_t7_loop i).trips) (arg6_r15 : BitVec 32) (arg7_r15 : BitVec 32) (arg8_r15 : BitVec 32) (arg9_r15 : BitVec 32) (arg10_r15 : BitVec 32) (k0_hw25 : k0_chk25 i k0_t7 arg6_r15 arg7_r15 arg8_r15 arg9_r15 arg10_r15), ∀ (k0_h55 : k0_cond55 i = 1#1), ∀ (k0_h61 : k0_cond61 i k0_t7 arg10_r15 = 1#1), ∀ a, (k0_off117 arg8_r15) a + S1x128x256.size a ≤ S2x128x256.size a := fun i k0_t7 arg6_r15 arg7_r15 arg8_r15 arg9_r15 arg10_r15 k0_hw25 k0_h55 k0_h61 => k0_hw25.2.2.2.2.2.2.1 k0_h55 k0_h61
theorem k0_off118_inb : ∀ (i : grid0.Coords) (k0_t7 : Fin (k0_t7_loop i).trips) (arg6_r15 : BitVec 32) (arg7_r15 : BitVec 32) (arg8_r15 : BitVec 32) (arg9_r15 : BitVec 32) (arg10_r15 : BitVec 32) (k0_hw25 : k0_chk25 i k0_t7 arg6_r15 arg7_r15 arg8_r15 arg9_r15 arg10_r15), ∀ (k0_h55 : k0_cond55 i = 1#1), ∀ (k0_h61 : k0_cond61 i k0_t7 arg10_r15 = 1#1), ∀ a, (k0_off118 i arg10_r15) a + S128x256.size a ≤ S66560x1024.size a := fun i k0_t7 arg6_r15 arg7_r15 arg8_r15 arg9_r15 arg10_r15 k0_hw25 k0_h55 k0_h61 => k0_hw25.2.2.2.2.2.2.2.1 k0_h55 k0_h61
theorem k0_off119_inb : ∀ (i : grid0.Coords) (k0_t7 : Fin (k0_t7_loop i).trips) (arg6_r15 : BitVec 32) (arg7_r15 : BitVec 32) (arg8_r15 : BitVec 32) (arg9_r15 : BitVec 32) (arg10_r15 : BitVec 32) (k0_hw25 : k0_chk25 i k0_t7 arg6_r15 arg7_r15 arg8_r15 arg9_r15 arg10_r15), ∀ (k0_h55 : k0_cond55 i = 1#1), ∀ (k0_h61 : k0_cond61 i k0_t7 arg10_r15 = 1#1), ∀ a, (k0_off119 arg8_r15) a + S1.size a ≤ S2.size a := fun i k0_t7 arg6_r15 arg7_r15 arg8_r15 arg9_r15 arg10_r15 k0_hw25 k0_h55 k0_h61 => k0_hw25.2.2.2.2.2.2.2.2.1 k0_h55 k0_h61
theorem k0_off120_inb : ∀ (i : grid0.Coords) (k0_t7 : Fin (k0_t7_loop i).trips) (arg6_r15 : BitVec 32) (arg7_r15 : BitVec 32) (arg8_r15 : BitVec 32) (arg9_r15 : BitVec 32) (arg10_r15 : BitVec 32) (k0_hw25 : k0_chk25 i k0_t7 arg6_r15 arg7_r15 arg8_r15 arg9_r15 arg10_r15), ∀ (k0_h55 : k0_cond55 i = 1#1), ∀ (k0_h63 : k0_cond63 i k0_t7 arg10_r15 = 1#1), ∀ a, (k0_off120 arg9_r15) a + S1x128x256.size a ≤ S2x128x256.size a := fun i k0_t7 arg6_r15 arg7_r15 arg8_r15 arg9_r15 arg10_r15 k0_hw25 k0_h55 k0_h63 => k0_hw25.2.2.2.2.2.2.2.2.2.1 k0_h55 k0_h63
theorem k0_off121_inb : ∀ (i : grid0.Coords) (k0_t7 : Fin (k0_t7_loop i).trips) (arg6_r15 : BitVec 32) (arg7_r15 : BitVec 32) (arg8_r15 : BitVec 32) (arg9_r15 : BitVec 32) (arg10_r15 : BitVec 32) (k0_hw25 : k0_chk25 i k0_t7 arg6_r15 arg7_r15 arg8_r15 arg9_r15 arg10_r15), ∀ (k0_h55 : k0_cond55 i = 1#1), ∀ (k0_h63 : k0_cond63 i k0_t7 arg10_r15 = 1#1), ∀ a, (k0_off121 i arg10_r15) a + S128x256.size a ≤ S66560x1024.size a := fun i k0_t7 arg6_r15 arg7_r15 arg8_r15 arg9_r15 arg10_r15 k0_hw25 k0_h55 k0_h63 => k0_hw25.2.2.2.2.2.2.2.2.2.2.1 k0_h55 k0_h63
theorem k0_off122_inb : ∀ (i : grid0.Coords) (k0_t7 : Fin (k0_t7_loop i).trips) (arg6_r15 : BitVec 32) (arg7_r15 : BitVec 32) (arg8_r15 : BitVec 32) (arg9_r15 : BitVec 32) (arg10_r15 : BitVec 32) (k0_hw25 : k0_chk25 i k0_t7 arg6_r15 arg7_r15 arg8_r15 arg9_r15 arg10_r15), ∀ (k0_h55 : k0_cond55 i = 1#1), ∀ (k0_h63 : k0_cond63 i k0_t7 arg10_r15 = 1#1), ∀ a, (k0_off122 arg9_r15) a + S1.size a ≤ S2.size a := fun i k0_t7 arg6_r15 arg7_r15 arg8_r15 arg9_r15 arg10_r15 k0_hw25 k0_h55 k0_h63 => k0_hw25.2.2.2.2.2.2.2.2.2.2.2 k0_h55 k0_h63

@[reducible] def k0_t8_loop (i : grid0.Coords) : Scf.Loop 32 :=
  let c0_i32_60_r15 : BitVec 32 := 0#32
  let c1_i32_34 : BitVec 32 := 1#32
  let c0_i32_26 : BitVec 32 := 0#32
  let arg1 : BitVec 32 := BitVec.ofNat 32 (i 1).val
  let c1_i32_25 : BitVec 32 := 1#32
  let v36 : BitVec 32 := Scalar.muli arg1 c1_i32_25
  let v37 : BitVec 32 := Scalar.addi c0_i32_26 v36
  let arg0 : BitVec 32 := BitVec.ofNat 32 (i 0).val
  let c16_i32_27 : BitVec 32 := 16#32
  let v38 : BitVec 32 := Scalar.muli arg0 c16_i32_27
  let v39 : BitVec 32 := Scalar.addi v37 v38
  let c8_i32_28 : BitVec 32 := 8#32
  let v40 : BitVec 1 := Scalar.cmpi .slt v39 c8_i32_28
  let c17_i32_29 : BitVec 32 := 17#32
  let c16_i32_30 : BitVec 32 := 16#32
  let v41 : BitVec 32 := Scalar.select v40 c17_i32_29 c16_i32_30
  let v47 : BitVec 32 := Scalar.muli c1_i32_34 v41
  let v78_r15 : BitVec 32 := Scalar.subi v47 c0_i32_60_r15
  let c1_i32_65_r15 : BitVec 32 := 1#32
  let v80_r15 : BitVec 32 := Scalar.divsi v78_r15 c1_i32_65_r15
  let v81_r15 : BitVec 32 := Scalar.muli v80_r15 c1_i32_65_r15
  let v82_r15 : BitVec 32 := Scalar.addi c0_i32_60_r15 v81_r15
  let v79_r15 : BitVec 32 := Scalar.addi c0_i32_60_r15 v78_r15
  let c1_i32_67_r15 : BitVec 32 := 1#32
  ⟨v82_r15, v79_r15, c1_i32_67_r15⟩
def k0_off123 (arg6_r15 : BitVec 32) : Fin 3 → Nat :=
  let c2_i32_133_r15 : BitVec 32 := 2#32
  let v203_r15 : BitVec 32 := Scalar.remui arg6_r15 c2_i32_133_r15
  let c0_i32_134_r15 : BitVec 32 := 0#32
  let c0_i32_135_r15 : BitVec 32 := 0#32
  ![v203_r15.toNat, 0, 0]
def k0_cond64 (i : grid0.Coords) (k0_t8 : Fin (k0_t8_loop i).trips) (arg10_r15 : BitVec 32) : BitVec 1 :=
  let c0_i32_26 : BitVec 32 := 0#32
  let arg1 : BitVec 32 := BitVec.ofNat 32 (i 1).val
  let c1_i32_25 : BitVec 32 := 1#32
  let v36 : BitVec 32 := Scalar.muli arg1 c1_i32_25
  let v37 : BitVec 32 := Scalar.addi c0_i32_26 v36
  let arg0 : BitVec 32 := BitVec.ofNat 32 (i 0).val
  let c16_i32_27 : BitVec 32 := 16#32
  let v38 : BitVec 32 := Scalar.muli arg0 c16_i32_27
  let v39 : BitVec 32 := Scalar.addi v37 v38
  let c8_i32_31 : BitVec 32 := 8#32
  let v42 : BitVec 1 := Scalar.cmpi .slt v39 c8_i32_31
  let c8_i32_28 : BitVec 32 := 8#32
  let v40 : BitVec 1 := Scalar.cmpi .slt v39 c8_i32_28
  let c17_i32_29 : BitVec 32 := 17#32
  let c16_i32_30 : BitVec 32 := 16#32
  let v41 : BitVec 32 := Scalar.select v40 c17_i32_29 c16_i32_30
  let v43 : BitVec 32 := Scalar.muli v39 v41
  let c16_i32_32 : BitVec 32 := 16#32
  let v44 : BitVec 32 := Scalar.muli v39 c16_i32_32
  let c8_i32_33 : BitVec 32 := 8#32
  let v45 : BitVec 32 := Scalar.addi v44 c8_i32_33
  let v46 : BitVec 32 := Scalar.select v42 v43 v45
  let v120_r15 : BitVec 32 := Scalar.addi arg10_r15 v46
  let true_96_r15 : BitVec 1 := 1#1
  let c1_i32_95_r15 : BitVec 32 := 1#32
  let v127_r15 : BitVec 32 := Scalar.addi arg10_r15 c1_i32_95_r15
  let v128_r15 : BitVec 32 := Scalar.select true_96_r15 v127_r15 arg10_r15
  let v129_r15 : BitVec 1 := Scalar.cmpi .eq v128_r15 v41
  let c0_i32_97_r15 : BitVec 32 := 0#32
  let v130_r15 : BitVec 32 := Scalar.select v129_r15 c0_i32_97_r15 v128_r15
  let v131_r15 : BitVec 32 := Scalar.addi v130_r15 v46
  let v137_r15 : BitVec 1 := Scalar.cmpi .ne v120_r15 v131_r15
  let c0_i32_60_r15 : BitVec 32 := 0#32
  let c1_i32_34 : BitVec 32 := 1#32
  let v47 : BitVec 32 := Scalar.muli c1_i32_34 v41
  let v78_r15 : BitVec 32 := Scalar.subi v47 c0_i32_60_r15
  let c1_i32_65_r15 : BitVec 32 := 1#32
  let v80_r15 : BitVec 32 := Scalar.divsi v78_r15 c1_i32_65_r15
  let v81_r15 : BitVec 32 := Scalar.muli v80_r15 c1_i32_65_r15
  let v82_r15 : BitVec 32 := Scalar.addi c0_i32_60_r15 v81_r15
  let c1_i32_67_r15 : BitVec 32 := 1#32
  let arg5_r15 : BitVec 32 := Scf.iv v82_r15 c1_i32_67_r15 k0_t8
  let c1_i32_88_r15 : BitVec 32 := 1#32
  let v116_r15 : BitVec 32 := Scalar.muli c1_i32_88_r15 v41
  let c2_i32_r15 : BitVec 32 := 2#32
  let v138_r15 : BitVec 32 := Scalar.subi v116_r15 c2_i32_r15
  let c1_i32_101_r15 : BitVec 32 := 1#32
  let v139_r15 : BitVec 32 := Scalar.addi v138_r15 c1_i32_101_r15
  let v140_r15 : BitVec 1 := Scalar.cmpi .sge arg5_r15 v139_r15
  let true_102_r15 : BitVec 1 := 1#1
  let v141_r15 : BitVec 1 := Scalar.xori v140_r15 true_102_r15
  let v142_r15 : BitVec 1 := Scalar.andi v137_r15 v141_r15
  let true_103_r15 : BitVec 1 := 1#1
  let v143_r15 : BitVec 1 := Scalar.andi v142_r15 true_103_r15
  let v144_r15 : BitVec 32 := Scalar.extui v143_r15
  let c0_i32_104_r15 : BitVec 32 := 0#32
  let v145_r15 : BitVec 1 := Scalar.cmpi .ne v144_r15 c0_i32_104_r15
  v145_r15

def k0_off124 (i : grid0.Coords) (arg10_r15 : BitVec 32) : Fin 2 → Nat :=
  let c0_i32_136_r15 : BitVec 32 := 0#32
  let c128_i32_r15 : BitVec 32 := 128#32
  let true_96_r15 : BitVec 1 := 1#1
  let c1_i32_95_r15 : BitVec 32 := 1#32
  let v127_r15 : BitVec 32 := Scalar.addi arg10_r15 c1_i32_95_r15
  let v128_r15 : BitVec 32 := Scalar.select true_96_r15 v127_r15 arg10_r15
  let c0_i32_26 : BitVec 32 := 0#32
  let arg1 : BitVec 32 := BitVec.ofNat 32 (i 1).val
  let c1_i32_25 : BitVec 32 := 1#32
  let v36 : BitVec 32 := Scalar.muli arg1 c1_i32_25
  let v37 : BitVec 32 := Scalar.addi c0_i32_26 v36
  let arg0 : BitVec 32 := BitVec.ofNat 32 (i 0).val
  let c16_i32_27 : BitVec 32 := 16#32
  let v38 : BitVec 32 := Scalar.muli arg0 c16_i32_27
  let v39 : BitVec 32 := Scalar.addi v37 v38
  let c8_i32_28 : BitVec 32 := 8#32
  let v40 : BitVec 1 := Scalar.cmpi .slt v39 c8_i32_28
  let c17_i32_29 : BitVec 32 := 17#32
  let c16_i32_30 : BitVec 32 := 16#32
  let v41 : BitVec 32 := Scalar.select v40 c17_i32_29 c16_i32_30
  let v129_r15 : BitVec 1 := Scalar.cmpi .eq v128_r15 v41
  let c0_i32_97_r15 : BitVec 32 := 0#32
  let v130_r15 : BitVec 32 := Scalar.select v129_r15 c0_i32_97_r15 v128_r15
  let c8_i32_31 : BitVec 32 := 8#32
  let v42 : BitVec 1 := Scalar.cmpi .slt v39 c8_i32_31
  let v43 : BitVec 32 := Scalar.muli v39 v41
  let c16_i32_32 : BitVec 32 := 16#32
  let v44 : BitVec 32 := Scalar.muli v39 c16_i32_32
  let c8_i32_33 : BitVec 32 := 8#32
  let v45 : BitVec 32 := Scalar.addi v44 c8_i32_33
  let v46 : BitVec 32 := Scalar.select v42 v43 v45
  let v131_r15 : BitVec 32 := Scalar.addi v130_r15 v46
  let v204_r15 : BitVec 32 := Scalar.muli c128_i32_r15 v131_r15
  ![0, v204_r15.toNat]
def k0_off125 (arg6_r15 : BitVec 32) : Fin 1 → Nat :=
  let c2_i32_133_r15 : BitVec 32 := 2#32
  let v203_r15 : BitVec 32 := Scalar.remui arg6_r15 c2_i32_133_r15
  ![v203_r15.toNat]
def k0_off126 (arg7_r15 : BitVec 32) : Fin 3 → Nat :=
  let c2_i32_133_r15 : BitVec 32 := 2#32
  let v204_r15 : BitVec 32 := Scalar.remui arg7_r15 c2_i32_133_r15
  let c0_i32_134_r15 : BitVec 32 := 0#32
  let c0_i32_135_r15 : BitVec 32 := 0#32
  ![v204_r15.toNat, 0, 0]
def k0_cond65 (i : grid0.Coords) (k0_t8 : Fin (k0_t8_loop i).trips) (arg10_r15 : BitVec 32) : BitVec 1 :=
  let c0_i32_26 : BitVec 32 := 0#32
  let arg1 : BitVec 32 := BitVec.ofNat 32 (i 1).val
  let c1_i32_25 : BitVec 32 := 1#32
  let v36 : BitVec 32 := Scalar.muli arg1 c1_i32_25
  let v37 : BitVec 32 := Scalar.addi c0_i32_26 v36
  let arg0 : BitVec 32 := BitVec.ofNat 32 (i 0).val
  let c16_i32_27 : BitVec 32 := 16#32
  let v38 : BitVec 32 := Scalar.muli arg0 c16_i32_27
  let v39 : BitVec 32 := Scalar.addi v37 v38
  let c8_i32_31 : BitVec 32 := 8#32
  let v42 : BitVec 1 := Scalar.cmpi .slt v39 c8_i32_31
  let c8_i32_28 : BitVec 32 := 8#32
  let v40 : BitVec 1 := Scalar.cmpi .slt v39 c8_i32_28
  let c17_i32_29 : BitVec 32 := 17#32
  let c16_i32_30 : BitVec 32 := 16#32
  let v41 : BitVec 32 := Scalar.select v40 c17_i32_29 c16_i32_30
  let v43 : BitVec 32 := Scalar.muli v39 v41
  let c16_i32_32 : BitVec 32 := 16#32
  let v44 : BitVec 32 := Scalar.muli v39 c16_i32_32
  let c8_i32_33 : BitVec 32 := 8#32
  let v45 : BitVec 32 := Scalar.addi v44 c8_i32_33
  let v46 : BitVec 32 := Scalar.select v42 v43 v45
  let v120_r15 : BitVec 32 := Scalar.addi arg10_r15 v46
  let true_92_r15 : BitVec 1 := 1#1
  let c1_i32_91_r15 : BitVec 32 := 1#32
  let v121_r15 : BitVec 32 := Scalar.subi arg10_r15 c1_i32_91_r15
  let v122_r15 : BitVec 32 := Scalar.select true_92_r15 v121_r15 arg10_r15
  let c_m1_i32_93_r15 : BitVec 32 := 4294967295#32
  let v123_r15 : BitVec 1 := Scalar.cmpi .eq v122_r15 c_m1_i32_93_r15
  let c1_i32_94_r15 : BitVec 32 := 1#32
  let v124_r15 : BitVec 32 := Scalar.subi v41 c1_i32_94_r15
  let v125_r15 : BitVec 32 := Scalar.select v123_r15 v124_r15 v122_r15
  let v126_r15 : BitVec 32 := Scalar.addi v125_r15 v46
  let v155_r15 : BitVec 1 := Scalar.cmpi .ne v120_r15 v126_r15
  let c0_i32_60_r15 : BitVec 32 := 0#32
  let c1_i32_34 : BitVec 32 := 1#32
  let v47 : BitVec 32 := Scalar.muli c1_i32_34 v41
  let v78_r15 : BitVec 32 := Scalar.subi v47 c0_i32_60_r15
  let c1_i32_65_r15 : BitVec 32 := 1#32
  let v80_r15 : BitVec 32 := Scalar.divsi v78_r15 c1_i32_65_r15
  let v81_r15 : BitVec 32 := Scalar.muli v80_r15 c1_i32_65_r15
  let v82_r15 : BitVec 32 := Scalar.addi c0_i32_60_r15 v81_r15
  let c1_i32_67_r15 : BitVec 32 := 1#32
  let arg5_r15 : BitVec 32 := Scf.iv v82_r15 c1_i32_67_r15 k0_t8
  let c0_i32_89_r15 : BitVec 32 := 0#32
  let v117_r15 : BitVec 1 := Scalar.cmpi .eq arg5_r15 c0_i32_89_r15
  let v156_r15 : BitVec 1 := Scalar.ori v155_r15 v117_r15
  let c0_i32_110_r15 : BitVec 32 := 0#32
  let v157_r15 : BitVec 1 := Scalar.cmpi .sge arg5_r15 c0_i32_110_r15
  let v158_r15 : BitVec 1 := Scalar.andi v156_r15 v157_r15
  let v159_r15 : BitVec 32 := Scalar.extui v158_r15
  let c0_i32_111_r15 : BitVec 32 := 0#32
  let v160_r15 : BitVec 1 := Scalar.cmpi .ne v159_r15 c0_i32_111_r15
  v160_r15

def k0_off127 (i : grid0.Coords) (arg10_r15 : BitVec 32) : Fin 2 → Nat :=
  let c0_i32_136_r15 : BitVec 32 := 0#32
  let c128_i32_r15 : BitVec 32 := 128#32
  let c0_i32_26 : BitVec 32 := 0#32
  let arg1 : BitVec 32 := BitVec.ofNat 32 (i 1).val
  let c1_i32_25 : BitVec 32 := 1#32
  let v36 : BitVec 32 := Scalar.muli arg1 c1_i32_25
  let v37 : BitVec 32 := Scalar.addi c0_i32_26 v36
  let arg0 : BitVec 32 := BitVec.ofNat 32 (i 0).val
  let c16_i32_27 : BitVec 32 := 16#32
  let v38 : BitVec 32 := Scalar.muli arg0 c16_i32_27
  let v39 : BitVec 32 := Scalar.addi v37 v38
  let c8_i32_31 : BitVec 32 := 8#32
  let v42 : BitVec 1 := Scalar.cmpi .slt v39 c8_i32_31
  let c8_i32_28 : BitVec 32 := 8#32
  let v40 : BitVec 1 := Scalar.cmpi .slt v39 c8_i32_28
  let c17_i32_29 : BitVec 32 := 17#32
  let c16_i32_30 : BitVec 32 := 16#32
  let v41 : BitVec 32 := Scalar.select v40 c17_i32_29 c16_i32_30
  let v43 : BitVec 32 := Scalar.muli v39 v41
  let c16_i32_32 : BitVec 32 := 16#32
  let v44 : BitVec 32 := Scalar.muli v39 c16_i32_32
  let c8_i32_33 : BitVec 32 := 8#32
  let v45 : BitVec 32 := Scalar.addi v44 c8_i32_33
  let v46 : BitVec 32 := Scalar.select v42 v43 v45
  let v120_r15 : BitVec 32 := Scalar.addi arg10_r15 v46
  let v203_r15 : BitVec 32 := Scalar.muli c128_i32_r15 v120_r15
  ![0, v203_r15.toNat]
def k0_off128 (arg7_r15 : BitVec 32) : Fin 1 → Nat :=
  let c2_i32_133_r15 : BitVec 32 := 2#32
  let v204_r15 : BitVec 32 := Scalar.remui arg7_r15 c2_i32_133_r15
  ![v204_r15.toNat]
def k0_off129 (arg8_r15 : BitVec 32) : Fin 3 → Nat :=
  let c2_i32_115_r15 : BitVec 32 := 2#32
  let v168_r15 : BitVec 32 := Scalar.remui arg8_r15 c2_i32_115_r15
  let c0_i32_133_r18 : BitVec 32 := 0#32
  let c0_i32_134_r18 : BitVec 32 := 0#32
  ![v168_r15.toNat, 0, 0]

def k0_chk29 (i : grid0.Coords) (k0_t8 : Fin (k0_t8_loop i).trips) (arg8_r15 : BitVec 32) : Prop :=
  (∀ (k0_h55 : k0_cond55 i = 1#1), ∀ a, (k0_off129 arg8_r15) a + S1x128x256.size a ≤ S2x128x256.size a)
theorem k0_off129_inb : ∀ (i : grid0.Coords) (k0_t8 : Fin (k0_t8_loop i).trips) (arg8_r15 : BitVec 32) (k0_hw29 : k0_chk29 i k0_t8 arg8_r15), ∀ (k0_h55 : k0_cond55 i = 1#1), ∀ a, (k0_off129 arg8_r15) a + S1x128x256.size a ≤ S2x128x256.size a := fun i k0_t8 arg8_r15 k0_hw29 k0_h55 => k0_hw29 k0_h55

def k0_off130 (arg7_r15 : BitVec 32) : Fin 3 → Nat :=
  let c2_i32_114_r15 : BitVec 32 := 2#32
  let v167_r15 : BitVec 32 := Scalar.remui arg7_r15 c2_i32_114_r15
  let c0_i32_137_r18 : BitVec 32 := 0#32
  let c0_i32_138_r18 : BitVec 32 := 0#32
  ![v167_r15.toNat, 0, 0]

def k0_chk30 (i : grid0.Coords) (k0_t8 : Fin (k0_t8_loop i).trips) (arg7_r15 : BitVec 32) : Prop :=
  (∀ (k0_h55 : k0_cond55 i = 1#1), ∀ a, (k0_off130 arg7_r15) a + S1x1x128.size a ≤ S2x1x128.size a)
theorem k0_off130_inb : ∀ (i : grid0.Coords) (k0_t8 : Fin (k0_t8_loop i).trips) (arg7_r15 : BitVec 32) (k0_hw30 : k0_chk30 i k0_t8 arg7_r15), ∀ (k0_h55 : k0_cond55 i = 1#1), ∀ a, (k0_off130 arg7_r15) a + S1x1x128.size a ≤ S2x1x128.size a := fun i k0_t8 arg7_r15 k0_hw30 k0_h55 => k0_hw30 k0_h55

def k0_off131 (arg8_r15 : BitVec 32) : Fin 3 → Nat :=
  let c2_i32_133_r15 : BitVec 32 := 2#32
  let v203_r15 : BitVec 32 := Scalar.remui arg8_r15 c2_i32_133_r15
  let c0_i32_134_r15 : BitVec 32 := 0#32
  let c0_i32_135_r15 : BitVec 32 := 0#32
  ![v203_r15.toNat, 0, 0]
def k0_cond68 (i : grid0.Coords) (k0_t8 : Fin (k0_t8_loop i).trips) (arg10_r15 : BitVec 32) : BitVec 1 :=
  let c0_i32_26 : BitVec 32 := 0#32
  let arg1 : BitVec 32 := BitVec.ofNat 32 (i 1).val
  let c1_i32_25 : BitVec 32 := 1#32
  let v36 : BitVec 32 := Scalar.muli arg1 c1_i32_25
  let v37 : BitVec 32 := Scalar.addi c0_i32_26 v36
  let arg0 : BitVec 32 := BitVec.ofNat 32 (i 0).val
  let c16_i32_27 : BitVec 32 := 16#32
  let v38 : BitVec 32 := Scalar.muli arg0 c16_i32_27
  let v39 : BitVec 32 := Scalar.addi v37 v38
  let c8_i32_31 : BitVec 32 := 8#32
  let v42 : BitVec 1 := Scalar.cmpi .slt v39 c8_i32_31
  let c8_i32_28 : BitVec 32 := 8#32
  let v40 : BitVec 1 := Scalar.cmpi .slt v39 c8_i32_28
  let c17_i32_29 : BitVec 32 := 17#32
  let c16_i32_30 : BitVec 32 := 16#32
  let v41 : BitVec 32 := Scalar.select v40 c17_i32_29 c16_i32_30
  let v43 : BitVec 32 := Scalar.muli v39 v41
  let c16_i32_32 : BitVec 32 := 16#32
  let v44 : BitVec 32 := Scalar.muli v39 c16_i32_32
  let c8_i32_33 : BitVec 32 := 8#32
  let v45 : BitVec 32 := Scalar.addi v44 c8_i32_33
  let v46 : BitVec 32 := Scalar.select v42 v43 v45
  let v120_r15 : BitVec 32 := Scalar.addi arg10_r15 v46
  let true_96_r15 : BitVec 1 := 1#1
  let c1_i32_95_r15 : BitVec 32 := 1#32
  let v127_r15 : BitVec 32 := Scalar.addi arg10_r15 c1_i32_95_r15
  let v128_r15 : BitVec 32 := Scalar.select true_96_r15 v127_r15 arg10_r15
  let v129_r15 : BitVec 1 := Scalar.cmpi .eq v128_r15 v41
  let c0_i32_97_r15 : BitVec 32 := 0#32
  let v130_r15 : BitVec 32 := Scalar.select v129_r15 c0_i32_97_r15 v128_r15
  let v131_r15 : BitVec 32 := Scalar.addi v130_r15 v46
  let v174_r15 : BitVec 1 := Scalar.cmpi .ne v120_r15 v131_r15
  let c0_i32_60_r15 : BitVec 32 := 0#32
  let c1_i32_34 : BitVec 32 := 1#32
  let v47 : BitVec 32 := Scalar.muli c1_i32_34 v41
  let v78_r15 : BitVec 32 := Scalar.subi v47 c0_i32_60_r15
  let c1_i32_65_r15 : BitVec 32 := 1#32
  let v80_r15 : BitVec 32 := Scalar.divsi v78_r15 c1_i32_65_r15
  let v81_r15 : BitVec 32 := Scalar.muli v80_r15 c1_i32_65_r15
  let v82_r15 : BitVec 32 := Scalar.addi c0_i32_60_r15 v81_r15
  let c1_i32_67_r15 : BitVec 32 := 1#32
  let arg5_r15 : BitVec 32 := Scf.iv v82_r15 c1_i32_67_r15 k0_t8
  let c1_i32_88_r15 : BitVec 32 := 1#32
  let v116_r15 : BitVec 32 := Scalar.muli c1_i32_88_r15 v41
  let c1_i32_90_r15 : BitVec 32 := 1#32
  let v118_r15 : BitVec 32 := Scalar.subi v116_r15 c1_i32_90_r15
  let v119_r15 : BitVec 1 := Scalar.cmpi .eq arg5_r15 v118_r15
  let v175_r15 : BitVec 1 := Scalar.ori v174_r15 v119_r15
  let v176_r15 : BitVec 32 := Scalar.extui v175_r15
  let c0_i32_119_r15 : BitVec 32 := 0#32
  let v177_r15 : BitVec 1 := Scalar.cmpi .ne v176_r15 c0_i32_119_r15
  v177_r15

def k0_off132 (i : grid0.Coords) (arg10_r15 : BitVec 32) : Fin 2 → Nat :=
  let c128_i32_r15 : BitVec 32 := 128#32
  let c0_i32_26 : BitVec 32 := 0#32
  let arg1 : BitVec 32 := BitVec.ofNat 32 (i 1).val
  let c1_i32_25 : BitVec 32 := 1#32
  let v36 : BitVec 32 := Scalar.muli arg1 c1_i32_25
  let v37 : BitVec 32 := Scalar.addi c0_i32_26 v36
  let arg0 : BitVec 32 := BitVec.ofNat 32 (i 0).val
  let c16_i32_27 : BitVec 32 := 16#32
  let v38 : BitVec 32 := Scalar.muli arg0 c16_i32_27
  let v39 : BitVec 32 := Scalar.addi v37 v38
  let c8_i32_31 : BitVec 32 := 8#32
  let v42 : BitVec 1 := Scalar.cmpi .slt v39 c8_i32_31
  let c8_i32_28 : BitVec 32 := 8#32
  let v40 : BitVec 1 := Scalar.cmpi .slt v39 c8_i32_28
  let c17_i32_29 : BitVec 32 := 17#32
  let c16_i32_30 : BitVec 32 := 16#32
  let v41 : BitVec 32 := Scalar.select v40 c17_i32_29 c16_i32_30
  let v43 : BitVec 32 := Scalar.muli v39 v41
  let c16_i32_32 : BitVec 32 := 16#32
  let v44 : BitVec 32 := Scalar.muli v39 c16_i32_32
  let c8_i32_33 : BitVec 32 := 8#32
  let v45 : BitVec 32 := Scalar.addi v44 c8_i32_33
  let v46 : BitVec 32 := Scalar.select v42 v43 v45
  let v120_r15 : BitVec 32 := Scalar.addi arg10_r15 v46
  let v204_r15 : BitVec 32 := Scalar.muli c128_i32_r15 v120_r15
  let c768_i32_r15 : BitVec 32 := 768#32
  ![v204_r15.toNat, 768]
def k0_off133 (arg8_r15 : BitVec 32) : Fin 1 → Nat :=
  let c2_i32_133_r15 : BitVec 32 := 2#32
  let v203_r15 : BitVec 32 := Scalar.remui arg8_r15 c2_i32_133_r15
  ![v203_r15.toNat]
def k0_off134 (arg9_r15 : BitVec 32) : Fin 3 → Nat :=
  let c2_i32_133_r15 : BitVec 32 := 2#32
  let v203_r15 : BitVec 32 := Scalar.remui arg9_r15 c2_i32_133_r15
  let c0_i32_134_r15 : BitVec 32 := 0#32
  let c0_i32_135_r15 : BitVec 32 := 0#32
  ![v203_r15.toNat, 0, 0]
def k0_cond70 (i : grid0.Coords) (k0_t8 : Fin (k0_t8_loop i).trips) (arg10_r15 : BitVec 32) : BitVec 1 :=
  let c0_i32_26 : BitVec 32 := 0#32
  let arg1 : BitVec 32 := BitVec.ofNat 32 (i 1).val
  let c1_i32_25 : BitVec 32 := 1#32
  let v36 : BitVec 32 := Scalar.muli arg1 c1_i32_25
  let v37 : BitVec 32 := Scalar.addi c0_i32_26 v36
  let arg0 : BitVec 32 := BitVec.ofNat 32 (i 0).val
  let c16_i32_27 : BitVec 32 := 16#32
  let v38 : BitVec 32 := Scalar.muli arg0 c16_i32_27
  let v39 : BitVec 32 := Scalar.addi v37 v38
  let c8_i32_31 : BitVec 32 := 8#32
  let v42 : BitVec 1 := Scalar.cmpi .slt v39 c8_i32_31
  let c8_i32_28 : BitVec 32 := 8#32
  let v40 : BitVec 1 := Scalar.cmpi .slt v39 c8_i32_28
  let c17_i32_29 : BitVec 32 := 17#32
  let c16_i32_30 : BitVec 32 := 16#32
  let v41 : BitVec 32 := Scalar.select v40 c17_i32_29 c16_i32_30
  let v43 : BitVec 32 := Scalar.muli v39 v41
  let c16_i32_32 : BitVec 32 := 16#32
  let v44 : BitVec 32 := Scalar.muli v39 c16_i32_32
  let c8_i32_33 : BitVec 32 := 8#32
  let v45 : BitVec 32 := Scalar.addi v44 c8_i32_33
  let v46 : BitVec 32 := Scalar.select v42 v43 v45
  let v120_r15 : BitVec 32 := Scalar.addi arg10_r15 v46
  let true_92_r15 : BitVec 1 := 1#1
  let c1_i32_91_r15 : BitVec 32 := 1#32
  let v121_r15 : BitVec 32 := Scalar.subi arg10_r15 c1_i32_91_r15
  let v122_r15 : BitVec 32 := Scalar.select true_92_r15 v121_r15 arg10_r15
  let c_m1_i32_93_r15 : BitVec 32 := 4294967295#32
  let v123_r15 : BitVec 1 := Scalar.cmpi .eq v122_r15 c_m1_i32_93_r15
  let c1_i32_94_r15 : BitVec 32 := 1#32
  let v124_r15 : BitVec 32 := Scalar.subi v41 c1_i32_94_r15
  let v125_r15 : BitVec 32 := Scalar.select v123_r15 v124_r15 v122_r15
  let v126_r15 : BitVec 32 := Scalar.addi v125_r15 v46
  let v187_r15 : BitVec 1 := Scalar.cmpi .ne v120_r15 v126_r15
  let c0_i32_60_r15 : BitVec 32 := 0#32
  let c1_i32_34 : BitVec 32 := 1#32
  let v47 : BitVec 32 := Scalar.muli c1_i32_34 v41
  let v78_r15 : BitVec 32 := Scalar.subi v47 c0_i32_60_r15
  let c1_i32_65_r15 : BitVec 32 := 1#32
  let v80_r15 : BitVec 32 := Scalar.divsi v78_r15 c1_i32_65_r15
  let v81_r15 : BitVec 32 := Scalar.muli v80_r15 c1_i32_65_r15
  let v82_r15 : BitVec 32 := Scalar.addi c0_i32_60_r15 v81_r15
  let c1_i32_67_r15 : BitVec 32 := 1#32
  let arg5_r15 : BitVec 32 := Scf.iv v82_r15 c1_i32_67_r15 k0_t8
  let c0_i32_89_r15 : BitVec 32 := 0#32
  let v117_r15 : BitVec 1 := Scalar.cmpi .eq arg5_r15 c0_i32_89_r15
  let true_125_r15 : BitVec 1 := 1#1
  let v188_r15 : BitVec 1 := Scalar.xori v117_r15 true_125_r15
  let v189_r15 : BitVec 1 := Scalar.andi v187_r15 v188_r15
  let v190_r15 : BitVec 32 := Scalar.extui v189_r15
  let c0_i32_126_r15 : BitVec 32 := 0#32
  let v191_r15 : BitVec 1 := Scalar.cmpi .ne v190_r15 c0_i32_126_r15
  v191_r15

def k0_off135 (i : grid0.Coords) (arg10_r15 : BitVec 32) : Fin 2 → Nat :=
  let c128_i32_r15 : BitVec 32 := 128#32
  let true_92_r15 : BitVec 1 := 1#1
  let c1_i32_91_r15 : BitVec 32 := 1#32
  let v121_r15 : BitVec 32 := Scalar.subi arg10_r15 c1_i32_91_r15
  let v122_r15 : BitVec 32 := Scalar.select true_92_r15 v121_r15 arg10_r15
  let c_m1_i32_93_r15 : BitVec 32 := 4294967295#32
  let v123_r15 : BitVec 1 := Scalar.cmpi .eq v122_r15 c_m1_i32_93_r15
  let c0_i32_26 : BitVec 32 := 0#32
  let arg1 : BitVec 32 := BitVec.ofNat 32 (i 1).val
  let c1_i32_25 : BitVec 32 := 1#32
  let v36 : BitVec 32 := Scalar.muli arg1 c1_i32_25
  let v37 : BitVec 32 := Scalar.addi c0_i32_26 v36
  let arg0 : BitVec 32 := BitVec.ofNat 32 (i 0).val
  let c16_i32_27 : BitVec 32 := 16#32
  let v38 : BitVec 32 := Scalar.muli arg0 c16_i32_27
  let v39 : BitVec 32 := Scalar.addi v37 v38
  let c8_i32_28 : BitVec 32 := 8#32
  let v40 : BitVec 1 := Scalar.cmpi .slt v39 c8_i32_28
  let c17_i32_29 : BitVec 32 := 17#32
  let c16_i32_30 : BitVec 32 := 16#32
  let v41 : BitVec 32 := Scalar.select v40 c17_i32_29 c16_i32_30
  let c1_i32_94_r15 : BitVec 32 := 1#32
  let v124_r15 : BitVec 32 := Scalar.subi v41 c1_i32_94_r15
  let v125_r15 : BitVec 32 := Scalar.select v123_r15 v124_r15 v122_r15
  let c8_i32_31 : BitVec 32 := 8#32
  let v42 : BitVec 1 := Scalar.cmpi .slt v39 c8_i32_31
  let v43 : BitVec 32 := Scalar.muli v39 v41
  let c16_i32_32 : BitVec 32 := 16#32
  let v44 : BitVec 32 := Scalar.muli v39 c16_i32_32
  let c8_i32_33 : BitVec 32 := 8#32
  let v45 : BitVec 32 := Scalar.addi v44 c8_i32_33
  let v46 : BitVec 32 := Scalar.select v42 v43 v45
  let v126_r15 : BitVec 32 := Scalar.addi v125_r15 v46
  let v204_r15 : BitVec 32 := Scalar.muli c128_i32_r15 v126_r15
  let c768_i32_r15 : BitVec 32 := 768#32
  ![v204_r15.toNat, 768]
def k0_off136 (arg9_r15 : BitVec 32) : Fin 1 → Nat :=
  let c2_i32_133_r15 : BitVec 32 := 2#32
  let v203_r15 : BitVec 32 := Scalar.remui arg9_r15 c2_i32_133_r15
  ![v203_r15.toNat]

def k0_chk28 (i : grid0.Coords) (k0_t8 : Fin (k0_t8_loop i).trips) (arg6_r15 : BitVec 32) (arg7_r15 : BitVec 32) (arg8_r15 : BitVec 32) (arg9_r15 : BitVec 32) (arg10_r15 : BitVec 32) : Prop :=
  (∀ (k0_h55 : k0_cond55 i = 1#1), ∀ (k0_h64 : k0_cond64 i k0_t8 arg10_r15 = 1#1), ∀ a, (k0_off123 arg6_r15) a + S1x1x128.size a ≤ S2x1x128.size a) ∧
  (∀ (k0_h55 : k0_cond55 i = 1#1), ∀ (k0_h64 : k0_cond64 i k0_t8 arg10_r15 = 1#1), ∀ a, (k0_off124 i arg10_r15) a + S1x128.size a ≤ S1x66560.size a) ∧
  (∀ (k0_h55 : k0_cond55 i = 1#1), ∀ (k0_h64 : k0_cond64 i k0_t8 arg10_r15 = 1#1), ∀ a, (k0_off125 arg6_r15) a + S1.size a ≤ S2.size a) ∧
  (∀ (k0_h55 : k0_cond55 i = 1#1), ∀ (k0_h65 : k0_cond65 i k0_t8 arg10_r15 = 1#1), ∀ a, (k0_off126 arg7_r15) a + S1x1x128.size a ≤ S2x1x128.size a) ∧
  (∀ (k0_h55 : k0_cond55 i = 1#1), ∀ (k0_h65 : k0_cond65 i k0_t8 arg10_r15 = 1#1), ∀ a, (k0_off127 i arg10_r15) a + S1x128.size a ≤ S1x66560.size a) ∧
  (∀ (k0_h55 : k0_cond55 i = 1#1), ∀ (k0_h65 : k0_cond65 i k0_t8 arg10_r15 = 1#1), ∀ a, (k0_off128 arg7_r15) a + S1.size a ≤ S2.size a) ∧
  (∀ (k0_h55 : k0_cond55 i = 1#1), ∀ (k0_h68 : k0_cond68 i k0_t8 arg10_r15 = 1#1), ∀ a, (k0_off131 arg8_r15) a + S1x128x256.size a ≤ S2x128x256.size a) ∧
  (∀ (k0_h55 : k0_cond55 i = 1#1), ∀ (k0_h68 : k0_cond68 i k0_t8 arg10_r15 = 1#1), ∀ a, (k0_off132 i arg10_r15) a + S128x256.size a ≤ S66560x1024.size a) ∧
  (∀ (k0_h55 : k0_cond55 i = 1#1), ∀ (k0_h68 : k0_cond68 i k0_t8 arg10_r15 = 1#1), ∀ a, (k0_off133 arg8_r15) a + S1.size a ≤ S2.size a) ∧
  (∀ (k0_h55 : k0_cond55 i = 1#1), ∀ (k0_h70 : k0_cond70 i k0_t8 arg10_r15 = 1#1), ∀ a, (k0_off134 arg9_r15) a + S1x128x256.size a ≤ S2x128x256.size a) ∧
  (∀ (k0_h55 : k0_cond55 i = 1#1), ∀ (k0_h70 : k0_cond70 i k0_t8 arg10_r15 = 1#1), ∀ a, (k0_off135 i arg10_r15) a + S128x256.size a ≤ S66560x1024.size a) ∧
  (∀ (k0_h55 : k0_cond55 i = 1#1), ∀ (k0_h70 : k0_cond70 i k0_t8 arg10_r15 = 1#1), ∀ a, (k0_off136 arg9_r15) a + S1.size a ≤ S2.size a)
theorem k0_off123_inb : ∀ (i : grid0.Coords) (k0_t8 : Fin (k0_t8_loop i).trips) (arg6_r15 : BitVec 32) (arg7_r15 : BitVec 32) (arg8_r15 : BitVec 32) (arg9_r15 : BitVec 32) (arg10_r15 : BitVec 32) (k0_hw28 : k0_chk28 i k0_t8 arg6_r15 arg7_r15 arg8_r15 arg9_r15 arg10_r15), ∀ (k0_h55 : k0_cond55 i = 1#1), ∀ (k0_h64 : k0_cond64 i k0_t8 arg10_r15 = 1#1), ∀ a, (k0_off123 arg6_r15) a + S1x1x128.size a ≤ S2x1x128.size a := fun i k0_t8 arg6_r15 arg7_r15 arg8_r15 arg9_r15 arg10_r15 k0_hw28 k0_h55 k0_h64 => k0_hw28.1 k0_h55 k0_h64
theorem k0_off124_inb : ∀ (i : grid0.Coords) (k0_t8 : Fin (k0_t8_loop i).trips) (arg6_r15 : BitVec 32) (arg7_r15 : BitVec 32) (arg8_r15 : BitVec 32) (arg9_r15 : BitVec 32) (arg10_r15 : BitVec 32) (k0_hw28 : k0_chk28 i k0_t8 arg6_r15 arg7_r15 arg8_r15 arg9_r15 arg10_r15), ∀ (k0_h55 : k0_cond55 i = 1#1), ∀ (k0_h64 : k0_cond64 i k0_t8 arg10_r15 = 1#1), ∀ a, (k0_off124 i arg10_r15) a + S1x128.size a ≤ S1x66560.size a := fun i k0_t8 arg6_r15 arg7_r15 arg8_r15 arg9_r15 arg10_r15 k0_hw28 k0_h55 k0_h64 => k0_hw28.2.1 k0_h55 k0_h64
theorem k0_off125_inb : ∀ (i : grid0.Coords) (k0_t8 : Fin (k0_t8_loop i).trips) (arg6_r15 : BitVec 32) (arg7_r15 : BitVec 32) (arg8_r15 : BitVec 32) (arg9_r15 : BitVec 32) (arg10_r15 : BitVec 32) (k0_hw28 : k0_chk28 i k0_t8 arg6_r15 arg7_r15 arg8_r15 arg9_r15 arg10_r15), ∀ (k0_h55 : k0_cond55 i = 1#1), ∀ (k0_h64 : k0_cond64 i k0_t8 arg10_r15 = 1#1), ∀ a, (k0_off125 arg6_r15) a + S1.size a ≤ S2.size a := fun i k0_t8 arg6_r15 arg7_r15 arg8_r15 arg9_r15 arg10_r15 k0_hw28 k0_h55 k0_h64 => k0_hw28.2.2.1 k0_h55 k0_h64
theorem k0_off126_inb : ∀ (i : grid0.Coords) (k0_t8 : Fin (k0_t8_loop i).trips) (arg6_r15 : BitVec 32) (arg7_r15 : BitVec 32) (arg8_r15 : BitVec 32) (arg9_r15 : BitVec 32) (arg10_r15 : BitVec 32) (k0_hw28 : k0_chk28 i k0_t8 arg6_r15 arg7_r15 arg8_r15 arg9_r15 arg10_r15), ∀ (k0_h55 : k0_cond55 i = 1#1), ∀ (k0_h65 : k0_cond65 i k0_t8 arg10_r15 = 1#1), ∀ a, (k0_off126 arg7_r15) a + S1x1x128.size a ≤ S2x1x128.size a := fun i k0_t8 arg6_r15 arg7_r15 arg8_r15 arg9_r15 arg10_r15 k0_hw28 k0_h55 k0_h65 => k0_hw28.2.2.2.1 k0_h55 k0_h65
theorem k0_off127_inb : ∀ (i : grid0.Coords) (k0_t8 : Fin (k0_t8_loop i).trips) (arg6_r15 : BitVec 32) (arg7_r15 : BitVec 32) (arg8_r15 : BitVec 32) (arg9_r15 : BitVec 32) (arg10_r15 : BitVec 32) (k0_hw28 : k0_chk28 i k0_t8 arg6_r15 arg7_r15 arg8_r15 arg9_r15 arg10_r15), ∀ (k0_h55 : k0_cond55 i = 1#1), ∀ (k0_h65 : k0_cond65 i k0_t8 arg10_r15 = 1#1), ∀ a, (k0_off127 i arg10_r15) a + S1x128.size a ≤ S1x66560.size a := fun i k0_t8 arg6_r15 arg7_r15 arg8_r15 arg9_r15 arg10_r15 k0_hw28 k0_h55 k0_h65 => k0_hw28.2.2.2.2.1 k0_h55 k0_h65
theorem k0_off128_inb : ∀ (i : grid0.Coords) (k0_t8 : Fin (k0_t8_loop i).trips) (arg6_r15 : BitVec 32) (arg7_r15 : BitVec 32) (arg8_r15 : BitVec 32) (arg9_r15 : BitVec 32) (arg10_r15 : BitVec 32) (k0_hw28 : k0_chk28 i k0_t8 arg6_r15 arg7_r15 arg8_r15 arg9_r15 arg10_r15), ∀ (k0_h55 : k0_cond55 i = 1#1), ∀ (k0_h65 : k0_cond65 i k0_t8 arg10_r15 = 1#1), ∀ a, (k0_off128 arg7_r15) a + S1.size a ≤ S2.size a := fun i k0_t8 arg6_r15 arg7_r15 arg8_r15 arg9_r15 arg10_r15 k0_hw28 k0_h55 k0_h65 => k0_hw28.2.2.2.2.2.1 k0_h55 k0_h65
theorem k0_off131_inb : ∀ (i : grid0.Coords) (k0_t8 : Fin (k0_t8_loop i).trips) (arg6_r15 : BitVec 32) (arg7_r15 : BitVec 32) (arg8_r15 : BitVec 32) (arg9_r15 : BitVec 32) (arg10_r15 : BitVec 32) (k0_hw28 : k0_chk28 i k0_t8 arg6_r15 arg7_r15 arg8_r15 arg9_r15 arg10_r15), ∀ (k0_h55 : k0_cond55 i = 1#1), ∀ (k0_h68 : k0_cond68 i k0_t8 arg10_r15 = 1#1), ∀ a, (k0_off131 arg8_r15) a + S1x128x256.size a ≤ S2x128x256.size a := fun i k0_t8 arg6_r15 arg7_r15 arg8_r15 arg9_r15 arg10_r15 k0_hw28 k0_h55 k0_h68 => k0_hw28.2.2.2.2.2.2.1 k0_h55 k0_h68
theorem k0_off132_inb : ∀ (i : grid0.Coords) (k0_t8 : Fin (k0_t8_loop i).trips) (arg6_r15 : BitVec 32) (arg7_r15 : BitVec 32) (arg8_r15 : BitVec 32) (arg9_r15 : BitVec 32) (arg10_r15 : BitVec 32) (k0_hw28 : k0_chk28 i k0_t8 arg6_r15 arg7_r15 arg8_r15 arg9_r15 arg10_r15), ∀ (k0_h55 : k0_cond55 i = 1#1), ∀ (k0_h68 : k0_cond68 i k0_t8 arg10_r15 = 1#1), ∀ a, (k0_off132 i arg10_r15) a + S128x256.size a ≤ S66560x1024.size a := fun i k0_t8 arg6_r15 arg7_r15 arg8_r15 arg9_r15 arg10_r15 k0_hw28 k0_h55 k0_h68 => k0_hw28.2.2.2.2.2.2.2.1 k0_h55 k0_h68
theorem k0_off133_inb : ∀ (i : grid0.Coords) (k0_t8 : Fin (k0_t8_loop i).trips) (arg6_r15 : BitVec 32) (arg7_r15 : BitVec 32) (arg8_r15 : BitVec 32) (arg9_r15 : BitVec 32) (arg10_r15 : BitVec 32) (k0_hw28 : k0_chk28 i k0_t8 arg6_r15 arg7_r15 arg8_r15 arg9_r15 arg10_r15), ∀ (k0_h55 : k0_cond55 i = 1#1), ∀ (k0_h68 : k0_cond68 i k0_t8 arg10_r15 = 1#1), ∀ a, (k0_off133 arg8_r15) a + S1.size a ≤ S2.size a := fun i k0_t8 arg6_r15 arg7_r15 arg8_r15 arg9_r15 arg10_r15 k0_hw28 k0_h55 k0_h68 => k0_hw28.2.2.2.2.2.2.2.2.1 k0_h55 k0_h68
theorem k0_off134_inb : ∀ (i : grid0.Coords) (k0_t8 : Fin (k0_t8_loop i).trips) (arg6_r15 : BitVec 32) (arg7_r15 : BitVec 32) (arg8_r15 : BitVec 32) (arg9_r15 : BitVec 32) (arg10_r15 : BitVec 32) (k0_hw28 : k0_chk28 i k0_t8 arg6_r15 arg7_r15 arg8_r15 arg9_r15 arg10_r15), ∀ (k0_h55 : k0_cond55 i = 1#1), ∀ (k0_h70 : k0_cond70 i k0_t8 arg10_r15 = 1#1), ∀ a, (k0_off134 arg9_r15) a + S1x128x256.size a ≤ S2x128x256.size a := fun i k0_t8 arg6_r15 arg7_r15 arg8_r15 arg9_r15 arg10_r15 k0_hw28 k0_h55 k0_h70 => k0_hw28.2.2.2.2.2.2.2.2.2.1 k0_h55 k0_h70
theorem k0_off135_inb : ∀ (i : grid0.Coords) (k0_t8 : Fin (k0_t8_loop i).trips) (arg6_r15 : BitVec 32) (arg7_r15 : BitVec 32) (arg8_r15 : BitVec 32) (arg9_r15 : BitVec 32) (arg10_r15 : BitVec 32) (k0_hw28 : k0_chk28 i k0_t8 arg6_r15 arg7_r15 arg8_r15 arg9_r15 arg10_r15), ∀ (k0_h55 : k0_cond55 i = 1#1), ∀ (k0_h70 : k0_cond70 i k0_t8 arg10_r15 = 1#1), ∀ a, (k0_off135 i arg10_r15) a + S128x256.size a ≤ S66560x1024.size a := fun i k0_t8 arg6_r15 arg7_r15 arg8_r15 arg9_r15 arg10_r15 k0_hw28 k0_h55 k0_h70 => k0_hw28.2.2.2.2.2.2.2.2.2.2.1 k0_h55 k0_h70
theorem k0_off136_inb : ∀ (i : grid0.Coords) (k0_t8 : Fin (k0_t8_loop i).trips) (arg6_r15 : BitVec 32) (arg7_r15 : BitVec 32) (arg8_r15 : BitVec 32) (arg9_r15 : BitVec 32) (arg10_r15 : BitVec 32) (k0_hw28 : k0_chk28 i k0_t8 arg6_r15 arg7_r15 arg8_r15 arg9_r15 arg10_r15), ∀ (k0_h55 : k0_cond55 i = 1#1), ∀ (k0_h70 : k0_cond70 i k0_t8 arg10_r15 = 1#1), ∀ a, (k0_off136 arg9_r15) a + S1.size a ≤ S2.size a := fun i k0_t8 arg6_r15 arg7_r15 arg8_r15 arg9_r15 arg10_r15 k0_hw28 k0_h55 k0_h70 => k0_hw28.2.2.2.2.2.2.2.2.2.2.2 k0_h55 k0_h70

def k0_cond72 (i : grid0.Coords) : BitVec 1 :=
  let c1_i32_34 : BitVec 32 := 1#32
  let c0_i32_26 : BitVec 32 := 0#32
  let arg1 : BitVec 32 := BitVec.ofNat 32 (i 1).val
  let c1_i32_25 : BitVec 32 := 1#32
  let v36 : BitVec 32 := Scalar.muli arg1 c1_i32_25
  let v37 : BitVec 32 := Scalar.addi c0_i32_26 v36
  let arg0 : BitVec 32 := BitVec.ofNat 32 (i 0).val
  let c16_i32_27 : BitVec 32 := 16#32
  let v38 : BitVec 32 := Scalar.muli arg0 c16_i32_27
  let v39 : BitVec 32 := Scalar.addi v37 v38
  let c8_i32_28 : BitVec 32 := 8#32
  let v40 : BitVec 1 := Scalar.cmpi .slt v39 c8_i32_28
  let c17_i32_29 : BitVec 32 := 17#32
  let c16_i32_30 : BitVec 32 := 16#32
  let v41 : BitVec 32 := Scalar.select v40 c17_i32_29 c16_i32_30
  let v47 : BitVec 32 := Scalar.muli c1_i32_34 v41
  let c1_i32_72_r15 : BitVec 32 := 1#32
  let v90_r15 : BitVec 32 := Scalar.subi v47 c1_i32_72_r15
  let c1_i32_73_r15 : BitVec 32 := 1#32
  let v91_r15 : BitVec 32 := Scalar.muli c1_i32_73_r15 v41
  let c1_i32_75_r15 : BitVec 32 := 1#32
  let v93_r15 : BitVec 32 := Scalar.subi v91_r15 c1_i32_75_r15
  let v94_r15 : BitVec 1 := Scalar.cmpi .eq v90_r15 v93_r15
  let v114_r15 : BitVec 32 := Scalar.extui v94_r15
  let c0_i32_87_r15 : BitVec 32 := 0#32
  let v115_r15 : BitVec 1 := Scalar.cmpi .ne v114_r15 c0_i32_87_r15
  v115_r15

def k0_off137 (v84_3_r15 : BitVec 32) : Fin 3 → Nat :=
  let c2_i32_r15 : BitVec 32 := 2#32
  let v116_r15 : BitVec 32 := Scalar.remui v84_3_r15 c2_i32_r15
  let c0_i32_88_r15 : BitVec 32 := 0#32
  let c0_i32_89_r15 : BitVec 32 := 0#32
  ![v116_r15.toNat, 0, 0]

def k0_off138 (i : grid0.Coords) (v84_4_r15 : BitVec 32) : Fin 2 → Nat :=
  let c128_i32_r15 : BitVec 32 := 128#32
  let true_69_r15 : BitVec 1 := 1#1
  let c1_i32_68_r15 : BitVec 32 := 1#32
  let v85_r15 : BitVec 32 := Scalar.subi v84_4_r15 c1_i32_68_r15
  let v86_r15 : BitVec 32 := Scalar.select true_69_r15 v85_r15 v84_4_r15
  let c_m1_i32_70_r15 : BitVec 32 := 4294967295#32
  let v87_r15 : BitVec 1 := Scalar.cmpi .eq v86_r15 c_m1_i32_70_r15
  let c0_i32_26 : BitVec 32 := 0#32
  let arg1 : BitVec 32 := BitVec.ofNat 32 (i 1).val
  let c1_i32_25 : BitVec 32 := 1#32
  let v36 : BitVec 32 := Scalar.muli arg1 c1_i32_25
  let v37 : BitVec 32 := Scalar.addi c0_i32_26 v36
  let arg0 : BitVec 32 := BitVec.ofNat 32 (i 0).val
  let c16_i32_27 : BitVec 32 := 16#32
  let v38 : BitVec 32 := Scalar.muli arg0 c16_i32_27
  let v39 : BitVec 32 := Scalar.addi v37 v38
  let c8_i32_28 : BitVec 32 := 8#32
  let v40 : BitVec 1 := Scalar.cmpi .slt v39 c8_i32_28
  let c17_i32_29 : BitVec 32 := 17#32
  let c16_i32_30 : BitVec 32 := 16#32
  let v41 : BitVec 32 := Scalar.select v40 c17_i32_29 c16_i32_30
  let c1_i32_71_r15 : BitVec 32 := 1#32
  let v88_r15 : BitVec 32 := Scalar.subi v41 c1_i32_71_r15
  let v89_r15 : BitVec 32 := Scalar.select v87_r15 v88_r15 v86_r15
  let c8_i32_31 : BitVec 32 := 8#32
  let v42 : BitVec 1 := Scalar.cmpi .slt v39 c8_i32_31
  let v43 : BitVec 32 := Scalar.muli v39 v41
  let c16_i32_32 : BitVec 32 := 16#32
  let v44 : BitVec 32 := Scalar.muli v39 c16_i32_32
  let c8_i32_33 : BitVec 32 := 8#32
  let v45 : BitVec 32 := Scalar.addi v44 c8_i32_33
  let v46 : BitVec 32 := Scalar.select v42 v43 v45
  let v95_r15 : BitVec 32 := Scalar.addi v89_r15 v46
  let v117_r15 : BitVec 32 := Scalar.muli c128_i32_r15 v95_r15
  let c768_i32_r15 : BitVec 32 := 768#32
  ![v117_r15.toNat, 768]

def k0_chk32 (i : grid0.Coords) (v84_4_r15 : BitVec 32) : Prop :=
  (∀ (k0_h55 : k0_cond55 i = 1#1), ∀ (k0_h72 : k0_cond72 i = 1#1), ∀ a, (k0_off138 i v84_4_r15) a + S128x256.size a ≤ S66560x1024.size a)
theorem k0_off138_inb : ∀ (i : grid0.Coords) (v84_4_r15 : BitVec 32) (k0_hw32 : k0_chk32 i v84_4_r15), ∀ (k0_h55 : k0_cond55 i = 1#1), ∀ (k0_h72 : k0_cond72 i = 1#1), ∀ a, (k0_off138 i v84_4_r15) a + S128x256.size a ≤ S66560x1024.size a := fun i v84_4_r15 k0_hw32 k0_h55 k0_h72 => k0_hw32 k0_h55 k0_h72

def k0_off139 (v84_3_r15 : BitVec 32) : Fin 1 → Nat :=
  let c2_i32_r15 : BitVec 32 := 2#32
  let v116_r15 : BitVec 32 := Scalar.remui v84_3_r15 c2_i32_r15
  ![v116_r15.toNat]
def k0_off140 (v84_3_r15 : BitVec 32) : Fin 3 → Nat :=
  let c2_i32_r15 : BitVec 32 := 2#32
  let v116_r15 : BitVec 32 := Scalar.remui v84_3_r15 c2_i32_r15
  let c0_i32_91_r15 : BitVec 32 := 0#32
  let c0_i32_92_r15 : BitVec 32 := 0#32
  ![v116_r15.toNat, 0, 0]

def k0_chk31 (i : grid0.Coords) (v84_3_r15 : BitVec 32) : Prop :=
  (∀ (k0_h55 : k0_cond55 i = 1#1), ∀ (k0_h72 : k0_cond72 i = 1#1), ∀ a, (k0_off137 v84_3_r15) a + S1x128x256.size a ≤ S2x128x256.size a) ∧
  (∀ (k0_h55 : k0_cond55 i = 1#1), ∀ (k0_h72 : k0_cond72 i = 1#1), ∀ a, (k0_off139 v84_3_r15) a + S1.size a ≤ S2.size a) ∧
  (∀ (k0_h55 : k0_cond55 i = 1#1), ∀ (k0_h72 : k0_cond72 i = 1#1), ∀ a, (k0_off140 v84_3_r15) a + S1x128x256.size a ≤ S2x128x256.size a)
theorem k0_off137_inb : ∀ (i : grid0.Coords) (v84_3_r15 : BitVec 32) (k0_hw31 : k0_chk31 i v84_3_r15), ∀ (k0_h55 : k0_cond55 i = 1#1), ∀ (k0_h72 : k0_cond72 i = 1#1), ∀ a, (k0_off137 v84_3_r15) a + S1x128x256.size a ≤ S2x128x256.size a := fun i v84_3_r15 k0_hw31 k0_h55 k0_h72 => k0_hw31.1 k0_h55 k0_h72
theorem k0_off139_inb : ∀ (i : grid0.Coords) (v84_3_r15 : BitVec 32) (k0_hw31 : k0_chk31 i v84_3_r15), ∀ (k0_h55 : k0_cond55 i = 1#1), ∀ (k0_h72 : k0_cond72 i = 1#1), ∀ a, (k0_off139 v84_3_r15) a + S1.size a ≤ S2.size a := fun i v84_3_r15 k0_hw31 k0_h55 k0_h72 => k0_hw31.2.1 k0_h55 k0_h72
theorem k0_off140_inb : ∀ (i : grid0.Coords) (v84_3_r15 : BitVec 32) (k0_hw31 : k0_chk31 i v84_3_r15), ∀ (k0_h55 : k0_cond55 i = 1#1), ∀ (k0_h72 : k0_cond72 i = 1#1), ∀ a, (k0_off140 v84_3_r15) a + S1x128x256.size a ≤ S2x128x256.size a := fun i v84_3_r15 k0_hw31 k0_h55 k0_h72 => k0_hw31.2.2 k0_h55 k0_h72

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S70656x1024 : Shape := ⟨2, ![70656, 1024]⟩
abbrev S2x33280 : Shape := ⟨2, ![2, 33280]⟩
abbrev S66560 : Shape := ⟨1, ![66560]⟩
abbrev S66560x1 : Shape := ⟨2, ![66560, 1]⟩
abbrev S66560x1024 : Shape := ⟨2, ![66560, 1024]⟩

abbrev nBuf : Space → Nat
  | .hbm => 5
  | .vmem => 0
  | .smem => 0
  | _ => 0

abbrev bufTy : (tb : Table) → Fin (tcTables nBuf tb) → BufTy
  | .hbm, ⟨0, _⟩ => ⟨S70656x1024, .f32⟩
  | .hbm, ⟨1, _⟩ => ⟨S2x33280, .i32⟩
  | .hbm, ⟨2, _⟩ => ⟨S66560, .i32⟩
  | .hbm, ⟨3, _⟩ => ⟨S66560x1, .i32⟩
  | .hbm, ⟨4, _⟩ => ⟨S66560x1024, .f32⟩
  | _, _ => ⟨S70656x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel2.lean ====
abbrev S70656x1024 : Shape := ⟨2, ![70656, 1024]⟩
abbrev S138 : Shape := ⟨1, ![138]⟩
abbrev S1 : Shape := ⟨1, ![1]⟩
abbrev S8x1024x3584 : Shape := ⟨3, ![8, 1024, 3584]⟩
abbrev S8x3584x1024 : Shape := ⟨3, ![8, 3584, 1024]⟩
abbrev S512x1024 : Shape := ⟨2, ![512, 1024]⟩
abbrev S1x1024x3584 : Shape := ⟨3, ![1, 1024, 3584]⟩
abbrev S1x3584x1024 : Shape := ⟨3, ![1, 3584, 1024]⟩
abbrev S1x1024x512 : Shape := ⟨3, ![1, 1024, 512]⟩
abbrev S1024x512 : Shape := ⟨2, ![1024, 512]⟩
abbrev S512x512 : Shape := ⟨2, ![512, 512]⟩
abbrev S1x512x1024 : Shape := ⟨3, ![1, 512, 1024]⟩

abbrev nBuf : Space → Nat
  | .hbm => 5
  | .vmem => 7
  | .smem => 2
  | _ => 0

abbrev bufTy : (tb : Table) → Fin (tcTables nBuf tb) → BufTy
  | .hbm, ⟨0, _⟩ => ⟨S70656x1024, .f32⟩
  | .hbm, ⟨1, _⟩ => ⟨S8x1024x3584, .f32⟩
  | .hbm, ⟨2, _⟩ => ⟨S8x1024x3584, .f32⟩
  | .hbm, ⟨3, _⟩ => ⟨S8x3584x1024, .f32⟩
  | .hbm, ⟨4, _⟩ => ⟨S70656x1024, .f32⟩
  | .local _ .vmem, ⟨0, _⟩ => ⟨S512x1024, .f32⟩
  | .local _ .vmem, ⟨1, _⟩ => ⟨S512x1024, .f32⟩
  | .local _ .vmem, ⟨2, _⟩ => ⟨S1x1024x3584, .f32⟩
  | .local _ .vmem, ⟨3, _⟩ => ⟨S1x1024x3584, .f32⟩
  | .local _ .vmem, ⟨4, _⟩ => ⟨S1x3584x1024, .f32⟩
  | .local _ .vmem, ⟨5, _⟩ => ⟨S512x1024, .f32⟩
  | .local _ .vmem, ⟨6, _⟩ => ⟨S512x1024, .f32⟩
  | .local _ .smem, ⟨0, _⟩ => ⟨S138, .i32⟩
  | .local _ .smem, ⟨1, _⟩ => ⟨S1, .i32⟩
  | _, _ => ⟨S70656x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![138], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S138.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S138) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S138.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S138) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S138.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S138) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x3584 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024x3584 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x3584x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S70656x1024 : Shape := ⟨2, ![70656, 1024]⟩
abbrev S138 : Shape := ⟨1, ![138]⟩
abbrev S1 : Shape := ⟨1, ![1]⟩
abbrev S8x1024x3584 : Shape := ⟨3, ![8, 1024, 3584]⟩
abbrev S8x3584x1024 : Shape := ⟨3, ![8, 3584, 1024]⟩
abbrev S138x512x1024 : Shape := ⟨3, ![138, 512, 1024]⟩
abbrev S138x1 : Shape := ⟨2, ![138, 1]⟩
abbrev S138x1024x3584 : Shape := ⟨3, ![138, 1024, 3584]⟩
abbrev S138x512x3584 : Shape := ⟨3, ![138, 512, 3584]⟩
abbrev S_ : Shape := ⟨0, ![]⟩
abbrev S138x3584x1024 : Shape := ⟨3, ![138, 3584, 1024]⟩

abbrev nBuf : Space → Nat
  | .hbm => 27
  | .vmem => 0
  | .smem => 0
  | _ => 0

abbrev bufTy : (tb : Table) → Fin (tcTables nBuf tb) → BufTy
  | .hbm, ⟨0, _⟩ => ⟨S70656x1024, .f32⟩
  | .hbm, ⟨1, _⟩ => ⟨S138, .i32⟩
  | .hbm, ⟨2, _⟩ => ⟨S1, .i32⟩
  | .hbm, ⟨3, _⟩ => ⟨S8x1024x3584, .f32⟩
  | .hbm, ⟨4, _⟩ => ⟨S8x1024x3584, .f32⟩
  | .hbm, ⟨5, _⟩ => ⟨S8x3584x1024, .f32⟩
  | .hbm, ⟨6, _⟩ => ⟨S138x512x1024, .f32⟩
  | .hbm, ⟨7, _⟩ => ⟨S138x1, .i32⟩
  | .hbm, ⟨8, _⟩ => ⟨S138x1024x3584, .f32⟩
  | .hbm, ⟨9, _⟩ => ⟨S138x512x3584, .f32⟩
  | .hbm, ⟨10, _⟩ => ⟨S138x1, .i32⟩
  | .hbm, ⟨11, _⟩ => ⟨S138x1024x3584, .f32⟩
  | .hbm, ⟨12, _⟩ => ⟨S138x512x3584, .f32⟩
  | .hbm, ⟨13, _⟩ => ⟨S138x512x3584, .f32⟩
  | .hbm, ⟨14, _⟩ => ⟨S138x512x3584, .f32⟩
  | .hbm, ⟨15, _⟩ => ⟨S_, .f32⟩
  | .hbm, ⟨16, _⟩ => ⟨S138x512x3584, .f32⟩
  | .hbm, ⟨17, _⟩ => ⟨S138x512x3584, .f32⟩
  | .hbm, ⟨18, _⟩ => ⟨S_, .f32⟩
  | .hbm, ⟨19, _⟩ => ⟨S138x512x3584, .f32⟩
  | .hbm, ⟨20, _⟩ => ⟨S138x512x3584, .f32⟩
  | .hbm, ⟨21, _⟩ => ⟨S138x512x3584, .f32⟩
  | .hbm, ⟨22, _⟩ => ⟨S138x512x3584, .f32⟩
  | .hbm, ⟨23, _⟩ => ⟨S138x1, .i32⟩
  | .hbm, ⟨24, _⟩ => ⟨S138x3584x1024, .f32⟩
  | .hbm, ⟨25, _⟩ => ⟨S138x512x1024, .f32⟩
  | .hbm, ⟨26, _⟩ => ⟨S70656x1024, .f32⟩
  | _, _ => ⟨S70656x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_call2_v0 : Ref sig .tc := ⟨.hbm, 13, rfl⟩
abbrev main_call2_v1 : Ref sig .tc := ⟨.hbm, 14, rfl⟩
abbrev main_call2_cst : Ref sig .tc := ⟨.hbm, 15, rfl⟩
abbrev main_call2_v2 : Ref sig .tc := ⟨.hbm, 16, rfl⟩
abbrev main_call2_v3 : Ref sig .tc := ⟨.hbm, 17, rfl⟩
abbrev main_call2_cst_0 : Ref sig .tc := ⟨.hbm, 18, rfl⟩
abbrev main_call2_v4 : Ref sig .tc := ⟨.hbm, 19, rfl⟩
abbrev main_call2_v5 : Ref sig .tc := ⟨.hbm, 20, rfl⟩
abbrev main_v5 : Ref sig .tc := ⟨.hbm, 21, rfl⟩
abbrev main_v6 : Ref sig .tc := ⟨.hbm, 22, rfl⟩
abbrev main_call3_v0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩

abbrev nD : Nat := 1
abbrev τ : Topo := Topo.v7x

variable {F : FTy → Type} [FloatOps F]
-- ==== Kernel3.lean ====
abbrev S32768x1024 : Shape := ⟨2, ![32768, 1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 10
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1x1024, .f32⟩
  | .hbm, ⟨5, _⟩ => ⟨S1x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S32768x1024 : Shape := ⟨2, ![32768, 1024]⟩
abbrev S1024x2816 : Shape := ⟨2, ![1024, 2816]⟩
abbrev S2816x1024 : Shape := ⟨2, ![2816, 1024]⟩
abbrev S1x1024 : Shape := ⟨2, ![1, 1024]⟩
abbrev S_ : Shape := ⟨0, ![]⟩
abbrev S32768x2816 : Shape := ⟨2, ![32768, 2816]⟩
abbrev S32768 : Shape := ⟨1, ![32768]⟩
abbrev S32768x1 : Shape := ⟨2, ![32768, 1]⟩

abbrev nBuf : Space → Nat
  | .hbm => 50
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S32768x1024, .f32⟩
  | .hbm, ⟨8, _⟩ => ⟨S32768x1024, .f32⟩
  | .hbm, ⟨9, _⟩ => ⟨S32768x2816, .f32⟩
  | .hbm, ⟨10, _⟩ => ⟨S32768x2816, .f32⟩
  | .hbm, ⟨11, _⟩ => ⟨S32768x2816, .f32⟩
  | .hbm, ⟨12, _⟩ => ⟨S_, .f32⟩
  | .hbm, ⟨13, _⟩ => ⟨S32768x2816, .f32⟩
  | .hbm, ⟨14, _⟩ => ⟨S32768x2816, .f32⟩
  | .hbm, ⟨15, _⟩ => ⟨S_, .f32⟩
  | .hbm, ⟨16, _⟩ => ⟨S32768x2816, .f32⟩
  | .hbm, ⟨17, _⟩ => ⟨S32768x2816, .f32⟩
  | .hbm, ⟨18, _⟩ => ⟨S32768x2816, .f32⟩
  | .hbm, ⟨19, _⟩ => ⟨S32768x2816, .f32⟩
  | .hbm, ⟨20, _⟩ => ⟨S32768x2816, .f32⟩
  | .hbm, ⟨21, _⟩ => ⟨S32768x1024, .f32⟩
  | .hbm, ⟨22, _⟩ => ⟨S32768x1024, .f32⟩
  | .hbm, ⟨23, _⟩ => ⟨S_, .f32⟩
  | .hbm, ⟨24, _⟩ => ⟨S32768, .f32⟩
  | .hbm, ⟨25, _⟩ => ⟨S32768x1, .f32⟩
  | .hbm, ⟨26, _⟩ => ⟨S_, .f32⟩
  | .hbm, ⟨27, _⟩ => ⟨S32768x1, .f32⟩
  | .hbm, ⟨28, _⟩ => ⟨S32768x1, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S_, .f32⟩
  | .hbm, ⟨33, _⟩ => ⟨S32768, .f32⟩
  | .hbm, ⟨34, _⟩ => ⟨S32768x1, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S32768x1024, .f32⟩
  | .hbm, ⟨39, _⟩ => ⟨S32768x1024, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S32768x1, .f32⟩
  | .hbm, ⟨44, _⟩ => ⟨S32768x1024, .f32⟩
  | .hbm, ⟨45, _⟩ => ⟨S32768x1024, .f32⟩
  | .hbm, ⟨46, _⟩ => ⟨S32768x1024, .f32⟩
  | .hbm, ⟨47, _⟩ => ⟨S32768x1024, .f32⟩
  | .hbm, ⟨48, _⟩ => ⟨S32768x1024, .f32⟩
  | .hbm, ⟨49, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩

abbrev nD : Nat := 1
abbrev τ : Topo := Topo.v7x

variable {F : FTy → Type} [FloatOps F]
-- ==== Kernel4.lean ====
abbrev S32768x1024 : Shape := ⟨2, ![32768, 1024]⟩
abbrev S1024x2560 : Shape := ⟨2, ![1024, 2560]⟩
abbrev S1x512 : Shape := ⟨2, ![1, 512]⟩
abbrev S32768x512 : Shape := ⟨2, ![32768, 512]⟩
abbrev S512x1024 : Shape := ⟨2, ![512, 1024]⟩
abbrev S512x512 : Shape := ⟨2, ![512, 512]⟩
abbrev S1024x512 : Shape := ⟨2, ![1024, 512]⟩
abbrev S512 : Shape := ⟨1, ![512]⟩
abbrev S512x1 : Shape := ⟨2, ![512, 1]⟩

abbrev nBuf : Space → Nat
  | .hbm => 12
  | .vmem => 19
  | .smem => 0
  | _ => 0

abbrev bufTy : (tb : Table) → Fin (tcTables nBuf tb) → BufTy
  | .hbm, ⟨0, _⟩ => ⟨S32768x1024, .f32⟩
  | .hbm, ⟨1, _⟩ => ⟨S1024x2560, .f32⟩
  | .hbm, ⟨2, _⟩ => ⟨S1x512, .f32⟩
  | .hbm, ⟨3, _⟩ => ⟨S1x512, .f32⟩
  | .hbm, ⟨4, _⟩ => ⟨S1024x2560, .bf16⟩
  | .hbm, ⟨5, _⟩ => ⟨S32768x512, .bf16⟩
  | .hbm, ⟨6, _⟩ => ⟨S32768x512, .f32⟩
  | .hbm, ⟨7, _⟩ => ⟨S32768x512, .f32⟩
  | .hbm, ⟨8, _⟩ => ⟨S32768x512, .bf16⟩
  | .hbm, ⟨9, _⟩ => ⟨S32768x512, .bf16⟩
  | .hbm, ⟨10, _⟩ => ⟨S32768x512, .bf16⟩
  | .hbm, ⟨11, _⟩ => ⟨S32768x512, .bf16⟩
  | .local _ .vmem, ⟨0, _⟩ => ⟨S512x1024, .f32⟩
  | .local _ .vmem, ⟨1, _⟩ => ⟨S512x1024, .f32⟩
  | .local _ .vmem, ⟨2, _⟩ => ⟨S1024x2560, .bf16⟩
  | .local _ .vmem, ⟨3, _⟩ => ⟨S1x512, .f32⟩
  | .local _ .vmem, ⟨4, _⟩ => ⟨S1x512, .f32⟩
  | .local _ .vmem, ⟨5, _⟩ => ⟨S512x512, .bf16⟩
  | .local _ .vmem, ⟨6, _⟩ => ⟨S512x512, .bf16⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev main_v1_5 : Ref sig .tc := ⟨.hbm, 10, rfl⟩
abbrev main_v1_6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S32768x1024 : Shape := ⟨2, ![32768, 1024]⟩
abbrev S1024x2560 : Shape := ⟨2, ![1024, 2560]⟩
abbrev S1x512 : Shape := ⟨2, ![1, 512]⟩
abbrev S32768x2560 : Shape := ⟨2, ![32768, 2560]⟩
abbrev S32768x512 : Shape := ⟨2, ![32768, 512]⟩
abbrev S_ : Shape := ⟨0, ![]⟩
abbrev S32768 : Shape := ⟨1, ![32768]⟩
abbrev S32768x1 : Shape := ⟨2, ![32768, 1]⟩

abbrev nBuf : Space → Nat
  | .hbm => 79
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x2560, .f32⟩
  | .hbm, ⟨2, _⟩ => ⟨S1x512, .f32⟩
  | .hbm, ⟨3, _⟩ => ⟨S1x512, .f32⟩
  | .hbm, ⟨4, _⟩ => ⟨S32768x2560, .f32⟩
  | .hbm, ⟨5, _⟩ => ⟨S32768x512, .f32⟩
  | .hbm, ⟨6, _⟩ => ⟨S_, .f32⟩
  | .hbm, ⟨7, _⟩ => ⟨S32768x512, .f32⟩
  | .hbm, ⟨8, _⟩ => ⟨S32768x512, .f32⟩
  | .hbm, ⟨9, _⟩ => ⟨S32768x512, .f32⟩
  | .hbm, ⟨10, _⟩ => ⟨S32768x512, .f32⟩
  | .hbm, ⟨11, _⟩ => ⟨S32768x512, .f32⟩
  | .hbm, ⟨12, _⟩ => ⟨S32768x512, .f32⟩
  | .hbm, ⟨13, _⟩ => ⟨S32768x512, .f32⟩
  | .hbm, ⟨14, _⟩ => ⟨S_, .f32⟩
  | .hbm, ⟨15, _⟩ => ⟨S32768x512, .f32⟩
  | .hbm, ⟨16, _⟩ => ⟨S32768x512, .f32⟩
  | .hbm, ⟨17, _⟩ => ⟨S32768x512, .f32⟩
  | .hbm, ⟨18, _⟩ => ⟨S_, .f32⟩
  | .hbm, ⟨19, _⟩ => ⟨S32768x512, .f32⟩
  | .hbm, ⟨20, _⟩ => ⟨S32768x512, .f32⟩
  | .hbm, ⟨21, _⟩ => ⟨S32768x512, .f32⟩
  | .hbm, ⟨22, _⟩ => ⟨S_, .f32⟩
  | .hbm, ⟨23, _⟩ => ⟨S32768x512, .f32⟩
  | .hbm, ⟨24, _⟩ => ⟨S32768x512, .f32⟩
  | .hbm, ⟨25, _⟩ => ⟨S_, .f32⟩
  | .hbm, ⟨26, _⟩ => ⟨S32768x512, .f32⟩
  | .hbm, ⟨27, _⟩ => ⟨S32768x512, .f32⟩
  | .hbm, ⟨28, _⟩ => ⟨S32768x512, .f32⟩
  | .hbm, ⟨29, _⟩ => ⟨S32768x512, .f32⟩
  | .hbm, ⟨30, _⟩ => ⟨S32768x512, .f32⟩
  | .hbm, ⟨31, _⟩ => ⟨S32768x512, .f32⟩
  | .hbm, ⟨32, _⟩ => ⟨S_, .f32⟩
  | .hbm, ⟨33, _⟩ => ⟨S32768x512, .f32⟩
  | .hbm, ⟨34, _⟩ => ⟨S32768x512, .f32⟩
  | .hbm, ⟨35, _⟩ => ⟨S32768x512, .f32⟩
  | .hbm, ⟨36, _⟩ => ⟨S_, .f32⟩
  | .hbm, ⟨37, _⟩ => ⟨S32768x512, .f32⟩
  | .hbm, ⟨38, _⟩ => ⟨S32768x512, .f32⟩
  | .hbm, ⟨39, _⟩ => ⟨S32768x512, .f32⟩
  | .hbm, ⟨40, _⟩ => ⟨S_, .f32⟩
  | .hbm, ⟨41, _⟩ => ⟨S32768x512, .f32⟩
  | .hbm, ⟨42, _⟩ => ⟨S32768x512, .f32⟩
  | .hbm, ⟨43, _⟩ => ⟨S_, .f32⟩
  | .hbm, ⟨44, _⟩ => ⟨S32768x512, .f32⟩
  | .hbm, ⟨45, _⟩ => ⟨S32768x512, .f32⟩
  | .hbm, ⟨46, _⟩ => ⟨S32768x512, .f32⟩
  | .hbm, ⟨47, _⟩ => ⟨S_, .f32⟩
  | .hbm, ⟨48, _⟩ => ⟨S32768, .f32⟩
  | .hbm, ⟨49, _⟩ => ⟨S32768x1, .f32⟩
  | .hbm, ⟨50, _⟩ => ⟨S_, .f32⟩
  | .hbm, ⟨51, _⟩ => ⟨S32768x1, .f32⟩
  | .hbm, ⟨52, _⟩ => ⟨S32768x1, .f32⟩
  | .hbm, ⟨53, _⟩ => ⟨S32768x512, .f32⟩
  | .hbm, ⟨54, _⟩ => ⟨S32768x512, .f32⟩
  | .hbm, ⟨55, _⟩ => ⟨S32768x512, .f32⟩
  | .hbm, ⟨56, _⟩ => ⟨S_, .f32⟩
  | .hbm, ⟨57, _⟩ => ⟨S32768, .f32⟩
  | .hbm, ⟨58, _⟩ => ⟨S32768x1, .f32⟩
  | .hbm, ⟨59, _⟩ => ⟨S_, .f32⟩
  | .hbm, ⟨60, _⟩ => ⟨S32768x1, .f32⟩
  | .hbm, ⟨61, _⟩ => ⟨S32768x1, .f32⟩
  | .hbm, ⟨62, _⟩ => ⟨S32768x512, .f32⟩
  | .hbm, ⟨63, _⟩ => ⟨S32768x512, .f32⟩
  | .hbm, ⟨64, _⟩ => ⟨S_, .f32⟩
  | .hbm, ⟨65, _⟩ => ⟨S32768x1, .f32⟩
  | .hbm, ⟨66, _⟩ => ⟨S32768x1, .f32⟩
  | .hbm, ⟨67, _⟩ => ⟨S32768x1, .f32⟩
  | .hbm, ⟨68, _⟩ => ⟨S32768x512, .f32⟩
  | .hbm, ⟨69, _⟩ => ⟨S32768x512, .f32⟩
  | .hbm, ⟨70, _⟩ => ⟨S32768x512, .f32⟩
  | .hbm, ⟨71, _⟩ => ⟨S32768x512, .f32⟩
  | .hbm, ⟨72, _⟩ => ⟨S32768x512, .f32⟩
  | .hbm, ⟨73, _⟩ => ⟨S32768x512, .f32⟩
  | .hbm, ⟨74, _⟩ => ⟨S32768x512, .bf16⟩
  | .hbm, ⟨75, _⟩ => ⟨S32768x512, .bf16⟩
  | .hbm, ⟨76, _⟩ => ⟨S32768x512, .bf16⟩
  | .hbm, ⟨77, _⟩ => ⟨S32768x512, .bf16⟩
  | .hbm, ⟨78, _⟩ => ⟨S32768x512, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_10 : Ref sig .tc := ⟨.hbm, 56, rfl⟩
abbrev main_v41 : Ref sig .tc := ⟨.hbm, 57, rfl⟩
abbrev main_v42 : Ref sig .tc := ⟨.hbm, 58, rfl⟩
abbrev main_cst_11 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_12 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩

abbrev nD : Nat := 1
abbrev τ : Topo := Topo.v7x

variable {F : FTy → Type} [FloatOps F]
-- ==== Proof.ExpertBody.lean ====
/-
  One grid point of the experts' kernel: on a tile in use (`k0_cond1` true of the point and the number of tiles in use) the
  body loads the tile's 512 rows and its expert's three weight blocks and stores their SwiGLU; on the others it loads the
  number alone.
-/
module

public import proofs.«01_k».proof.Proof.Gen.Kernel2Ideal
public import proofs.«01_k».proof.Proof.Gen.Kernel2Ideal.Skeleton
public import proofs.«01_k».proof.Proof.Gen.Kernel2Ideal.Launch
public import Idealize.ShloMosaic.Lib.Pipeline.Kit
public import Idealize.ShloMosaic.Lib.Pipeline.FrameBody
public import Idealize.ShloMosaic.Lib.Writes
public import Idealize.ShloMosaic.Lib.Pipeline.Value
public import Idealize.ShloMosaic.Lib.Ring
public import Idealize.ShloMosaic.Lib.Exec
public import Idealize.ShloMosaic.Lib.Tactic

@[expose] public section

set_option maxRecDepth 16384

noncomputable section

namespace Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources: no ghost state of our own beside the staging cells' rounds. -/
local notation "𝕄" => MT nD τ sig Unit (Elt F) ℕ (UR sig nD τ) ℕ

/-- The two tables, whole, as the body is handed them: each tile's expert, and the number of tiles in use. -/
abbrev expertTab : Memref sig .tc .smem S138 .i32 := Memref.whole main_arg1
abbrev usedTab : Memref sig .tc .smem S1 .i32 := Memref.whole main_arg2

/-- The number of tiles in use, as the body reads it off its table. -/
abbrev usedWord (T : S1.Idx → Elt F .i32) : BitVec 32 :=
  View.readAt (Elt F) usedTab.view (Rect.unit (s := S1) ![0] S1.size inb_S1_S1_0).toLoadRect T (Shape.Idx.first (numel1_S1.symm ▸ Nat.one_pos))

set_option backward.proofsInPublic true in
set_option maxHeartbeats 8000000 in
/-- A tile in use: the one store the body makes, of the whole block, and the triple that says so. -/
def usedRun (c : Dev nD) (i : grid0.Coords) (a3 : Memref sig .tc .vmem S512x1024 .f32) (h3 : a3.IsWhole)
    (a4 : Memref sig .tc .vmem S1x1024x3584 .f32) (h4 : a4.IsWhole) (a5 : Memref sig .tc .vmem S1x1024x3584 .f32) (h5 : a5.IsWhole)
    (a6 : Memref sig .tc .vmem S1x3584x1024 .f32) (h6 : a6.IsWhole) (a7 : Memref sig .tc .vmem S512x1024 .f32) (h7 : a7.IsWhole)
    (T0 : S138.Idx → Elt F .i32) (T1 : S1.Idx → Elt F .i32)
    (x : S512x1024.Idx → Elt F .f32) (wg wu : S1x1024x3584.Idx → Elt F .f32) (wd : S1x3584x1024.Idx → Elt F .f32)
    (hu : k0_cond1 i (usedWord (F := F) T1) = 1#1) :
    { ps : List (View.Piece (Elt F) S512x1024 .f32) //
      ∀ (K : PUnit → sProp 𝕄),
        iprop((a3.view.loc (c : Thread nD τ) ↦[a3.view.set]{fullShare} a3.view.rep x)
          ∗ (a4.view.loc (c : Thread nD τ) ↦[a4.view.set]{fullShare} a4.view.rep wg)
          ∗ (a5.view.loc (c : Thread nD τ) ↦[a5.view.set]{fullShare} a5.view.rep wu)
          ∗ (a6.view.loc (c : Thread nD τ) ↦[a6.view.set]{fullShare} a6.view.rep wd)
          ∗ (expertTab.view.loc (c : Thread nD τ) ↦{fullShare.right} T0)
          ∗ (usedTab.view.loc (c : Thread nD τ) ↦{fullShare.right} T1)
          ∗ (∃ y, owns (c : Thread nD τ) a7 fullShare y)
          ∗ (iprop((a3.view.loc (c : Thread nD τ) ↦[a3.view.set]{fullShare} a3.view.rep x)
              ∗ (a4.view.loc (c : Thread nD τ) ↦[a4.view.set]{fullShare} a4.view.rep wg)
              ∗ (a5.view.loc (c : Thread nD τ) ↦[a5.view.set]{fullShare} a5.view.rep wu)
              ∗ (a6.view.loc (c : Thread nD τ) ↦[a6.view.set]{fullShare} a6.view.rep wd)
              ∗ (expertTab.view.loc (c : Thread nD τ) ↦{fullShare.right} T0)
              ∗ (usedTab.view.loc (c : Thread nD τ) ↦{fullShare.right} T1)
              ∗ (∃ f, a7.view.loc (c : Thread nD τ) ↦[a7.view.set]{fullShare} a7.view.writes (Elt F) f ps)) -∗ K ⟨⟩))
          ⊢ wp frame (wpE (defs₀ (F := F)) Variants.none c none) Set.univ
              (cc0_ffn_grouped i expertTab (Memref.isWhole_whole _) usedTab (Memref.isWhole_whole _) a3 h3 a4 h4 a5 h5 a6 h6 a7 h7) K } :=
  ⟨_, fun K => by
    unfold owns
    rw [cc0_ffn_grouped_eq_skeleton]; unfold cc0_ffn_grouped_skel
    iintro ⟨Hx, Hg, Hu, Hd, He, Hn, ⟨%y, %f, -, Ho⟩, Hk⟩
    have hwe : expertTab.IsWhole := Memref.isWhole_whole _
    have hwn : usedTab.IsWhole := Memref.isWhole_whole _
    sl_exec! (disch := (guard_target = k0_cond1 _ _ = _; exact hu))
    sl_step
    iapply Hk
    isplitl [Hx]; · iexact Hx
    isplitl [Hg]; · iexact Hg
    isplitl [Hu]; · iexact Hu
    isplitl [Hd]; · iexact Hd
    isplitl [He]; · iexact He
    isplitl [Hn]; · iexact Hn
    iexists _; iexact Ho⟩

set_option maxHeartbeats 8000000 in
/-- A tile not in use: the body reads the number of tiles in use and touches no buffer. -/
theorem idleRun (c : Dev nD) (i : grid0.Coords) (a3 : Memref sig .tc .vmem S512x1024 .f32) (h3 : a3.IsWhole)
    (a4 : Memref sig .tc .vmem S1x1024x3584 .f32) (h4 : a4.IsWhole) (a5 : Memref sig .tc .vmem S1x1024x3584 .f32) (h5 : a5.IsWhole)
    (a6 : Memref sig .tc .vmem S1x3584x1024 .f32) (h6 : a6.IsWhole) (a7 : Memref sig .tc .vmem S512x1024 .f32) (h7 : a7.IsWhole)
    (T1 : S1.Idx → Elt F .i32) (hu : ¬k0_cond1 i (usedWord (F := F) T1) = 1#1) (K : PUnit → sProp 𝕄) :
    iprop((usedTab.view.loc (c : Thread nD τ) ↦{fullShare.right} T1)
        ∗ ((usedTab.view.loc (c : Thread nD τ) ↦{fullShare.right} T1) -∗ K ⟨⟩))
      ⊢ wp frame (wpE (defs₀ (F := F)) Variants.none c none) Set.univ
          (cc0_ffn_grouped i expertTab (Memref.isWhole_whole _) usedTab (Memref.isWhole_whole _) a3 h3 a4 h4 a5 h5 a6 h6 a7 h7) K := by
  rw [cc0_ffn_grouped_eq_skeleton]; unfold cc0_ffn_grouped_skel
  iintro ⟨Hn, Hk⟩
  have hwn : usedTab.IsWhole := Memref.isWhole_whole _
  sl_exec! (disch := (guard_target = ¬k0_cond1 _ _ = _; exact hu))
  sl_step
  iapply Hk
  iexact Hn

end Experts

end
-- ==== Proof.ExpertTile.lean ====
/-
  What the experts' kernel stores on a tile in use, as one function of the staged blocks.
-/
module

public import proofs.«01_k».proof.Proof.ExpertBody
public import Idealize.ShloMosaic.Lib.Pipeline.Value

@[expose] public section

set_option maxRecDepth 16384

noncomputable section

namespace Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The 512 columns from `n` of a staged gate or up block. -/
abbrev cols (w : S1x1024x3584.Idx → Elt F .f32) (n : ℕ) (h : ∀ a, (![0, 0, n] : Fin 3 → ℕ) a + S1x1024x512.size a ≤ S1x1024x3584.size a) :
    Vec F S1x1024x512 .f32 := View.ld (Val := Elt F) w (Rect.unit (s := S1x1024x3584) ![0, 0, n] S1x1024x512.size h)

/-- The 512 rows from `n` of a staged down block. -/
abbrev rows (w : S1x3584x1024.Idx → Elt F .f32) (n : ℕ) (h : ∀ a, (![0, n, 0] : Fin 3 → ℕ) a + S1x512x1024.size a ≤ S1x3584x1024.size a) :
    Vec F S1x512x1024 .f32 := View.ld (Val := Elt F) w (Rect.unit (s := S1x3584x1024) ![0, n, 0] S1x512x1024.size h)

/-- What a tile in use is given: the SwiGLU of its rows `x` by the staged weights, in seven chunks of 512 of the hidden columns. -/
def tileOut (x : S512x1024.Idx → Elt F .f32) (wg wu : S1x1024x3584.Idx → Elt F .f32) (wd : S1x3584x1024.Idx → Elt F .f32) :
    FVec F S512x1024 .f32 :=
  k0_pay1 (k0_pay2 x)
    (k0_pay6 (k0_pay2 x)
      (k0_pay5 (k0_pay2 x)
        (k0_pay3 x (cols wg 0 inb_S1x1024x3584_S1x1024x512_0_0_0) (cols wu 0 inb_S1x1024x3584_S1x1024x512_0_0_0) (rows wd 0 inb_S1x3584x1024_S1x512x1024_0_0_0))
        (k0_pay4 x (cols wg 512 inb_S1x1024x3584_S1x1024x512_0_0_512) (cols wu 512 inb_S1x1024x3584_S1x1024x512_0_0_512) (rows wd 512 inb_S1x3584x1024_S1x512x1024_0_512_0))
        (cols wg 1024 inb_S1x1024x3584_S1x1024x512_0_0_1024) (cols wu 1024 inb_S1x1024x3584_S1x1024x512_0_0_1024) (rows wd 1024 inb_S1x3584x1024_S1x512x1024_0_1024_0)
        (cols wg 1536 inb_S1x1024x3584_S1x1024x512_0_0_1536) (cols wu 1536 inb_S1x1024x3584_S1x1024x512_0_0_1536) (rows wd 1536 inb_S1x3584x1024_S1x512x1024_0_1536_0))
      (cols wg 2048 inb_S1x1024x3584_S1x1024x512_0_0_2048) (cols wu 2048 inb_S1x1024x3584_S1x1024x512_0_0_2048) (rows wd 2048 inb_S1x3584x1024_S1x512x1024_0_2048_0)
      (cols wg 2560 inb_S1x1024x3584_S1x1024x512_0_0_2560) (cols wu 2560 inb_S1x1024x3584_S1x1024x512_0_0_2560) (rows wd 2560 inb_S1x3584x1024_S1x512x1024_0_2560_0))
    (cols wg 3072 inb_S1x1024x3584_S1x1024x512_0_0_3072) (cols wu 3072 inb_S1x1024x3584_S1x1024x512_0_0_3072) (rows wd 3072 inb_S1x3584x1024_S1x512x1024_0_3072_0)

/-- A load off a buffer that holds `x` reads `x` over the rectangle. -/
theorem readAt_rep_ld {S : Shape} {sp : Space} (v : View sig .tc sp S .f32) (x : S.Idx → Elt F .f32) (r : Rect S) :
    v.readAt (Elt F) r.toLoadRect (v.rep x) = View.ld (Val := Elt F) x r := by
  rw [View.readAt_eq_ld, View.read_rep]

set_option maxHeartbeats 400000 in
/-- The body's one store on a tile in use is of `tileOut`, over the whole block. -/
theorem usedRun_pieces (c : Dev nD) (i : grid0.Coords) (a3 : Memref sig .tc .vmem S512x1024 .f32) (h3 : a3.IsWhole)
    (a4 : Memref sig .tc .vmem S1x1024x3584 .f32) (h4 : a4.IsWhole) (a5 : Memref sig .tc .vmem S1x1024x3584 .f32) (h5 : a5.IsWhole)
    (a6 : Memref sig .tc .vmem S1x3584x1024 .f32) (h6 : a6.IsWhole) (a7 : Memref sig .tc .vmem S512x1024 .f32) (h7 : a7.IsWhole)
    (T0 : S138.Idx → Elt F .i32) (T1 : S1.Idx → Elt F .i32)
    (x : S512x1024.Idx → Elt F .f32) (wg wu : S1x1024x3584.Idx → Elt F .f32) (wd : S1x3584x1024.Idx → Elt F .f32)
    (hu : k0_cond1 i (usedWord (F := F) T1) = 1#1) :
    (usedRun c i a3 h3 a4 h4 a5 h5 a6 h6 a7 h7 T0 T1 x wg wu wd hu).1
      = [⟨Rect.unit (s := S512x1024) ![0, 0] S512x1024.size inb_S512x1024_S512x1024_0_0, tileOut x wg wu wd⟩] := by
  have hx : a3.view.readAt (Elt F) (Rect.unit (s := S512x1024) ![0, 0] S512x1024.size inb_S512x1024_S512x1024_0_0).toLoadRect (a3.view.rep x) = x := by
    rw [readAt_rep_ld]
    exact View.ld_unit_zero (by funext a; fin_cases a <;> rfl) _ _
  rw [readAt_rep_ld] at hx
  unfold usedRun
  dsimp only
  simp only [usedRun.sl.Ho_1, usedRun.sl.r_1, usedRun.sl.r_2, usedRun.sl.r_3, usedRun.sl.r_4, usedRun.sl.r_5, readAt_rep_ld]
  have hx' : View.ld (Val := Elt F) x (Rect.unit (s := S512x1024) ![0, 0] ![512, 1024] inb_S512x1024_S512x1024_0_0) = x := hx
  rw [hx']
  rfl

/-- A tile in use: its rows, weights and tables kept, `tileOut` written over the result's staging buffer. -/
theorem usedRun_tile (c : Dev nD) (i : grid0.Coords) (a3 : Memref sig .tc .vmem S512x1024 .f32) (h3 : a3.IsWhole)
    (a4 : Memref sig .tc .vmem S1x1024x3584 .f32) (h4 : a4.IsWhole) (a5 : Memref sig .tc .vmem S1x1024x3584 .f32) (h5 : a5.IsWhole)
    (a6 : Memref sig .tc .vmem S1x3584x1024 .f32) (h6 : a6.IsWhole) (a7 : Memref sig .tc .vmem S512x1024 .f32) (h7 : a7.IsWhole)
    (T0 : S138.Idx → Elt F .i32) (T1 : S1.Idx → Elt F .i32)
    (x : S512x1024.Idx → Elt F .f32) (wg wu : S1x1024x3584.Idx → Elt F .f32) (wd : S1x3584x1024.Idx → Elt F .f32)
    (hu : k0_cond1 i (usedWord (F := F) T1) = 1#1)
    (K : PUnit → sProp 𝕄) :
        iprop((a3.view.loc (c : Thread nD τ) ↦[a3.view.set]{fullShare} a3.view.rep x)
          ∗ (a4.view.loc (c : Thread nD τ) ↦[a4.view.set]{fullShare} a4.view.rep wg)
          ∗ (a5.view.loc (c : Thread nD τ) ↦[a5.view.set]{fullShare} a5.view.rep wu)
          ∗ (a6.view.loc (c : Thread nD τ) ↦[a6.view.set]{fullShare} a6.view.rep wd)
          ∗ (expertTab.view.loc (c : Thread nD τ) ↦{fullShare.right} T0)
          ∗ (usedTab.view.loc (c : Thread nD τ) ↦{fullShare.right} T1)
          ∗ (∃ y, owns (c : Thread nD τ) a7 fullShare y)
          ∗ (iprop((a3.view.loc (c : Thread nD τ) ↦[a3.view.set]{fullShare} a3.view.rep x)
              ∗ (a4.view.loc (c : Thread nD τ) ↦[a4.view.set]{fullShare} a4.view.rep wg)
              ∗ (a5.view.loc (c : Thread nD τ) ↦[a5.view.set]{fullShare} a5.view.rep wu)
              ∗ (a6.view.loc (c : Thread nD τ) ↦[a6.view.set]{fullShare} a6.view.rep wd)
              ∗ (expertTab.view.loc (c : Thread nD τ) ↦{fullShare.right} T0)
              ∗ (usedTab.view.loc (c : Thread nD τ) ↦{fullShare.right} T1)
              ∗ (∃ f, a7.view.loc (c : Thread nD τ) ↦[a7.view.set]{fullShare} a7.view.writes (Elt F) f [⟨Rect.unit (s := S512x1024) ![0, 0] S512x1024.size inb_S512x1024_S512x1024_0_0, tileOut x wg wu wd⟩])) -∗ K ⟨⟩))
          ⊢ wp frame (wpE (defs₀ (F := F)) Variants.none c none) Set.univ
              (cc0_ffn_grouped i expertTab (Memref.isWhole_whole _) usedTab (Memref.isWhole_whole _) a3 h3 a4 h4 a5 h5 a6 h6 a7 h7) K := by
  have h := (usedRun c i a3 h3 a4 h4 a5 h5 a6 h6 a7 h7 T0 T1 x wg wu wd hu).2 K
  rwa [usedRun_pieces] at h

end Experts

end
-- ==== Proof.ExpertValue.lean ====
/-
  What a tile in use is given, at extended reals, element by element: one SwiGLU sum over the 3584 hidden columns.
-/
module

public import proofs.«01_k».proof.Proof.ExpertTile
public import Idealize.ShloMosaic.PureOps.Ideal.Laws
public import Idealize.ShloMosaic.Lib.MatmulPlain
public import Idealize.ShloMosaic.Lib.ValueLayout

@[expose] public section

set_option maxRecDepth 16384

noncomputable section

namespace Experts

open Cert.Kernel2Ideal Cert.Kernel2Ideal.Gen
open Idealize.ShloMosaic
open Idealize.ShloMosaic.ValueIdx
open scoped BigOperators

/-- A row times a column. -/
def rowCol {n : ℕ} (X : Fin n → EReal) (W : Fin n → EReal) : EReal := ∑ k, X k * W k

/-- The activation of one hidden column: the gate times its logistic, times the up projection. -/
def act (g u : EReal) : EReal := g * Ideal.logistic g * u

/-- SwiGLU of a row: the activations of the hidden columns, weighted by the down projection's column. -/
def swiglu {d n : ℕ} (X : Fin d → EReal) (G U : Fin d → Fin n → EReal) (D : Fin n → EReal) : EReal :=
  ∑ f, act (rowCol X fun k => G k f) (rowCol X fun k => U k f) * D f

section chunks

variable {F : FTy → Type} [FloatOps F]

/-- The contribution of 512 hidden columns to a tile. -/
def chunk (x : FVec F S512x1024 .bf16) (g u : Vec F S1x1024x512 .f32) (d : Vec F S1x512x1024 .f32) : FVec F S512x1024 .f32 :=
  let hg : FVec F S512x512 .f32 := matmul dot_S512x1024_S1024x512_S512x512_1_0_0_1_n_n none x
    (truncf .bf16 (shapeCast S1024x512 g shapeCasts_S1x1024x512_S1024x512) bitsLt_bf16_f32) (constant S512x512 .f32 0x00000000#32)
  let hu : FVec F S512x512 .f32 := matmul dot_S512x1024_S1024x512_S512x512_1_0_0_1_n_n none x
    (truncf .bf16 (shapeCast S1024x512 u shapeCasts_S1x1024x512_S1024x512) bitsLt_bf16_f32) (constant S512x512 .f32 0x00000000#32)
  matmul dot_S512x512_S512x1024_S512x1024_1_0_0_1_n_n none (truncf .bf16 (mulf (mulf hg (logistic hg)) hu) bitsLt_bf16_f32)
    (truncf .bf16 (shapeCast S512x1024 d shapeCasts_S1x512x1024_S512x1024) bitsLt_bf16_f32) (constant S512x1024 .f32 0x00000000#32)

/-- The body's arithmetic is the seven chunks, added from the first on. -/
theorem pay1_chunk (x : FVec F S512x1024 .bf16) (acc : FVec F S512x1024 .f32) (g u : Vec F S1x1024x512 .f32) (d : Vec F S1x512x1024 .f32) :
    k0_pay1 x acc g u d = addf acc (chunk x g u d) := rfl
theorem pay3_chunk (x : Vec F S512x1024 .f32) (g u : Vec F S1x1024x512 .f32) (d : Vec F S1x512x1024 .f32) :
    k0_pay3 x g u d = chunk (k0_pay2 x) g u d := rfl
theorem pay4_chunk (x : Vec F S512x1024 .f32) (g u : Vec F S1x1024x512 .f32) (d : Vec F S1x512x1024 .f32) :
    k0_pay4 x g u d = chunk (k0_pay2 x) g u d := rfl
theorem pay5_chunk (x : FVec F S512x1024 .bf16) (a b : FVec F S512x1024 .f32) (g u g' u' : Vec F S1x1024x512 .f32) (d d' : Vec F S1x512x1024 .f32) :
    k0_pay5 x a b g u d g' u' d' = addf (addf (addf a b) (chunk x g u d)) (chunk x g' u' d') := rfl
theorem pay6_chunk (x : FVec F S512x1024 .bf16) (a : FVec F S512x1024 .f32) (g u g' u' : Vec F S1x1024x512 .f32) (d d' : Vec F S1x512x1024 .f32) :
    k0_pay6 x a g u d g' u' d' = addf (addf a (chunk x g u d)) (chunk x g' u' d') := rfl

end chunks

theorem dotHidden : dot_S512x1024_S1024x512_S512x512_1_0_0_1_n_n = DotDims.plain 512 1024 512 := rfl
theorem dotOut : dot_S512x512_S512x1024_S512x1024_1_0_0_1_n_n = DotDims.plain 512 512 1024 := rfl

/-- A projection of the tile's rows onto 512 hidden columns, at an index. -/
theorem hidden_apply (x : FVec Ideal S512x1024 .bf16) (g : Vec Ideal S1x1024x512 .f32) (r f : Fin 512) :
    (matmul dot_S512x1024_S1024x512_S512x512_1_0_0_1_n_n none x
      (truncf .bf16 (shapeCast S1024x512 g shapeCasts_S1x1024x512_S1024x512) bitsLt_bf16_f32) (constant S512x512 .f32 0x00000000#32) : FVec Ideal S512x512 .f32) (ix2 r f)
      = rowCol (fun k : Fin 1024 => x (ix2 r k)) (fun k => g (ix3 (0 : Fin 1) k f)) := by
  rw [dotHidden]
  refine (Ideal.matmul_plain_apply (M := 512) (K := 1024) (N := 512) none _ _ _ r f).trans ?_
  show Ideal.ofBits .f32 0x00000000#32 + _ = _
  rw [Ideal.ofBits_zero_f32, zero_add]
  exact Finset.sum_congr rfl fun k _ => congrArg (x (ix2 r k) * ·) (shapeCast_1ab_ab_apply g shapeCasts_S1x1024x512_S1024x512 k f)

/-- A chunk at an index: the SwiGLU sum over its 512 hidden columns. -/
theorem chunk_apply (x : FVec Ideal S512x1024 .bf16) (g u : Vec Ideal S1x1024x512 .f32) (d : Vec Ideal S1x512x1024 .f32) (r : Fin 512) (c : Fin 1024) :
    chunk x g u d (ix2 r c) = swiglu (fun k : Fin 1024 => x (ix2 r k)) (fun k (f : Fin 512) => g (ix3 (0 : Fin 1) k f)) (fun k f => u (ix3 (0 : Fin 1) k f))
      (fun f => d (ix3 (0 : Fin 1) f c)) := by
  unfold chunk
  rw [dotOut]
  refine (Ideal.matmul_plain_apply (M := 512) (K := 512) (N := 1024) none _ _ _ r c).trans ?_
  show Ideal.ofBits .f32 0x00000000#32 + _ = _
  rw [Ideal.ofBits_zero_f32, zero_add]
  refine Finset.sum_congr rfl fun f _ => ?_
  rw [← hidden_apply x g r f, ← hidden_apply x u r f]
  exact congrArg (act _ _ * ·) (shapeCast_1ab_ab_apply d shapeCasts_S1x512x1024_S512x1024 f c)

/-- The 512 columns from `n`, at an index. -/
theorem cols_apply (w : S1x1024x3584.Idx → EReal) (n : ℕ) (h : ∀ a, (![0, 0, n] : Fin 3 → ℕ) a + S1x1024x512.size a ≤ S1x1024x3584.size a)
    (k : Fin 1024) (f : Fin 512) (hn : n + f.val < 3584) :
    cols (F := Ideal) w n h (ix3 (0 : Fin 1) k f) = w (ix3 (0 : Fin 1) k ⟨n + f.val, hn⟩) := by
  refine congrArg w (funext fun b => Fin.ext ?_)
  fin_cases b
  · rfl
  · show 0 + 1 * k.val = k.val; omega
  · show n + 1 * f.val = n + f.val; omega

/-- The 512 rows from `n`, at an index. -/
theorem rows_apply (w : S1x3584x1024.Idx → EReal) (n : ℕ) (h : ∀ a, (![0, n, 0] : Fin 3 → ℕ) a + S1x512x1024.size a ≤ S1x3584x1024.size a)
    (f : Fin 512) (c : Fin 1024) (hn : n + f.val < 3584) :
    rows (F := Ideal) w n h (ix3 (0 : Fin 1) f c) = w (ix3 (0 : Fin 1) ⟨n + f.val, hn⟩ c) := by
  refine congrArg w (funext fun b => Fin.ext ?_)
  fin_cases b
  · rfl
  · show n + 1 * f.val = n + f.val; omega
  · show 0 + 1 * c.val = c.val; omega

/-- The chunk of the 512 hidden columns from `n`, at an index. -/
theorem chunk_at (x : S512x1024.Idx → EReal) (wg wu : S1x1024x3584.Idx → EReal) (wd : S1x3584x1024.Idx → EReal) (n : ℕ)
    (hc : ∀ a, (![0, 0, n] : Fin 3 → ℕ) a + S1x1024x512.size a ≤ S1x1024x3584.size a)
    (hr : ∀ a, (![0, n, 0] : Fin 3 → ℕ) a + S1x512x1024.size a ≤ S1x3584x1024.size a) (hn : n + 512 ≤ 3584) (r : Fin 512) (c : Fin 1024) :
    chunk (F := Ideal) (k0_pay2 (F := Ideal) x) (cols (F := Ideal) wg n hc) (cols (F := Ideal) wu n hc) (rows (F := Ideal) wd n hr) (ix2 r c)
      = ∑ f : Fin 512, act (rowCol (fun k : Fin 1024 => x (ix2 r k)) fun k => wg (ix3 (0 : Fin 1) k ⟨n + f.val, by omega⟩))
          (rowCol (fun k : Fin 1024 => x (ix2 r k)) fun k => wu (ix3 (0 : Fin 1) k ⟨n + f.val, by omega⟩)) * wd (ix3 (0 : Fin 1) ⟨n + f.val, by omega⟩ c) := by
  rw [chunk_apply]
  refine Finset.sum_congr rfl fun f _ => ?_
  have hf : n + f.val < 3584 := by omega
  simp only [fun k => cols_apply wg n hc k f hf, fun k => cols_apply wu n hc k f hf, rows_apply wd n hr f c hf]
  rfl

/-- A sum over the 3584 hidden columns is the sum of the seven chunks', in order. -/
theorem sum_chunks (T : Fin 3584 → EReal) :
    ∑ f, T f = ((((((∑ f : Fin 512, T ⟨0 + f.val, by omega⟩) + ∑ f : Fin 512, T ⟨512 + f.val, by omega⟩) + ∑ f : Fin 512, T ⟨1024 + f.val, by omega⟩)
      + ∑ f : Fin 512, T ⟨1536 + f.val, by omega⟩) + ∑ f : Fin 512, T ⟨2048 + f.val, by omega⟩) + ∑ f : Fin 512, T ⟨2560 + f.val, by omega⟩)
      + ∑ f : Fin 512, T ⟨3072 + f.val, by omega⟩ := by
  have e := (Equiv.sum_comp (finProdFinEquiv (m := 7) (n := 512)) (fun f : Fin (7 * 512) => T f)).symm
  rw [Fintype.sum_prod_type, Fin.sum_univ_seven] at e
  refine e.trans ?_
  have s (j : Fin 7) (n : ℕ) (hn : n = 512 * j.val) : (∑ f : Fin 512, T (finProdFinEquiv (j, f))) = ∑ f : Fin 512, T ⟨n + f.val, by omega⟩ :=
    Finset.sum_congr rfl fun f _ => congrArg T (Fin.ext (by show f.val + 512 * j.val = n + f.val; omega))
  rw [s 0 0 rfl, s 1 512 rfl, s 2 1024 rfl, s 3 1536 rfl, s 4 2048 rfl, s 5 2560 rfl, s 6 3072 rfl]

/-- What a tile in use is given, at an index. -/
theorem tileOut_apply (x : S512x1024.Idx → EReal) (wg wu : S1x1024x3584.Idx → EReal) (wd : S1x3584x1024.Idx → EReal) (r : Fin 512) (c : Fin 1024) :
    tileOut (F := Ideal) x wg wu wd (ix2 r c) = swiglu (fun k : Fin 1024 => x (ix2 r k)) (fun k (f : Fin 3584) => wg (ix3 (0 : Fin 1) k f))
      (fun k f => wu (ix3 (0 : Fin 1) k f)) (fun f => wd (ix3 (0 : Fin 1) f c)) := by
  unfold tileOut
  rw [pay1_chunk, pay6_chunk, pay5_chunk, pay3_chunk, pay4_chunk]
  unfold swiglu
  rw [sum_chunks]
  have a (p q : FVec Ideal S512x1024 .f32) (j : S512x1024.Idx) : addf p q j = p j + q j := rfl
  rw [a, a, a, a, a, a]
  rw [chunk_at x wg wu wd 0 _ _ (by omega), chunk_at x wg wu wd 512 _ _ (by omega), chunk_at x wg wu wd 1024 _ _ (by omega), chunk_at x wg wu wd 1536 _ _ (by omega),
    chunk_at x wg wu wd 2048 _ _ (by omega), chunk_at x wg wu wd 2560 _ _ (by omega), chunk_at x wg wu wd 3072 _ _ (by omega)]

end Experts

end
-- ==== Proof.DenseValue.lean ====
/-
  What a tile of the dense feed-forward is given, at extended reals, element by element: the scaled residual and one SwiGLU sum over
  the 2816 hidden columns, then the layer norm of the row.
-/
module

public import proofs.«01_k».proof.Proof.ExpertValue
public import proofs.«01_k».proof.Proof.Gen.Kernel3Ideal.Frame
public import Idealize.ShloMosaic.Lib.ValueLayoutCasts

@[expose] public section

set_option maxRecDepth 16384

noncomputable section

namespace Dense

open Cert.Kernel3Ideal Cert.Kernel3Ideal.Gen
open Idealize.ShloMosaic
open Idealize.ShloMosaic.ValueIdx
open Experts (rowCol act swiglu)
open scoped BigOperators

/-- The mean of a row. -/
def mean (y : Fin 1024 → EReal) : EReal := Ideal.div (∑ k, y k) (Ideal.ofBits .f32 0x44800000#32)

/-- The layer norm of a row, at a column. -/
def norm (y : Fin 1024 → EReal) (g b : EReal) (c : Fin 1024) : EReal :=
  (y c - mean y) * Ideal.rsqrt (mean (fun k => (y k - mean y) * (y k - mean y)) + Ideal.ofBits .f32 0x3727C5AC#32) * g + b

/-- A row before its norm: the scaled residual and the SwiGLU of the row. -/
def resid (x : Fin 1024 → EReal) (wg wu : Fin 1024 → Fin 2816 → EReal) (wd : Fin 2816 → Fin 1024 → EReal) (c : Fin 1024) : EReal :=
  Ideal.ofBits .f32 0x3FB504F3#32 * x c + swiglu x wg wu fun f => wd f c

section parts

variable {F : FTy → Type} [FloatOps F]

/-- The contribution of 512 hidden columns to a tile. -/
def chunk (x : FVec F S512x1024 .bf16) (g u : Vec F S1024x512 .bf16) (d : Vec F S512x1024 .bf16) : FVec F S512x1024 .f32 :=
  let hg : FVec F S512x512 .f32 := matmul (φ₁ := .bf16) (φ₂ := .bf16) dot_S512x1024_S1024x512_S512x512_1_0_0_1_n_n none x
    (shapeCast S1024x512 g shapeCasts_S1024x512_S1024x512) (constant S512x512 .f32 0x00000000#32)
  let hu : FVec F S512x512 .f32 := matmul (φ₁ := .bf16) (φ₂ := .bf16) dot_S512x1024_S1024x512_S512x512_1_0_0_1_n_n none x
    (shapeCast S1024x512 u shapeCasts_S1024x512_S1024x512) (constant S512x512 .f32 0x00000000#32)
  matmul (φ₁ := .bf16) (φ₂ := .bf16) dot_S512x512_S512x1024_S512x1024_1_0_0_1_n_n none (truncf .bf16 (mulf (mulf hg (logistic hg)) hu) bitsLt_bf16_f32)
    (shapeCast S512x1024 d shapeCasts_S512x1024_S512x1024) (constant S512x1024 .f32 0x00000000#32)

/-- The contribution of the last 256 hidden columns. -/
def tail (x : FVec F S512x1024 .bf16) (g u : Vec F S1024x256 .bf16) (d : Vec F S256x1024 .bf16) : FVec F S512x1024 .f32 :=
  let hg : FVec F S512x256 .f32 := matmul (φ₁ := .bf16) (φ₂ := .bf16) dot_S512x1024_S1024x256_S512x256_1_0_0_1_n_n none x
    (shapeCast S1024x256 g shapeCasts_S1024x256_S1024x256) (constant S512x256 .f32 0x00000000#32)
  let hu : FVec F S512x256 .f32 := matmul (φ₁ := .bf16) (φ₂ := .bf16) dot_S512x1024_S1024x256_S512x256_1_0_0_1_n_n none x
    (shapeCast S1024x256 u shapeCasts_S1024x256_S1024x256) (constant S512x256 .f32 0x00000000#32)
  matmul (φ₁ := .bf16) (φ₂ := .bf16) dot_S512x256_S256x1024_S512x1024_1_0_0_1_n_n none (truncf .bf16 (mulf (mulf hg (logistic hg)) hu) bitsLt_bf16_f32)
    (shapeCast S256x1024 d shapeCasts_S256x1024_S256x1024) (constant S512x1024 .f32 0x00000000#32)

/-- The column of the rows' means. -/
def meanCol (y : FVec F S512x1024 .f32) : FVec F S512x1 .f32 :=
  divf (shapeCast S512x1 (multiReduction .add [1] S512 y 0x00000000#32 reduces_S512x1024_S512 (.inl rfl) rfl) shapeCasts_S512_S512x1)
    (broadcast S512x1 (Scalar.ofBits .f32 0x44800000#32 : F .f32))

/-- The rows less their means. -/
def centred (y : FVec F S512x1024 .f32) : FVec F S512x1024 .f32 := subf y (broadcastTo S512x1024 (meanCol y) broadcasts_S512x1_S512x1024)

/-- The layer norm of a tile's rows. -/
def normTile (y : FVec F S512x1024 .f32) (g b : Vec F S1x1024 .f32) : FVec F S512x1024 .f32 :=
  addf (φ := .f32) (mulf (φ := .f32) (mulf (centred y) (broadcastTo S512x1024
      (rsqrt (addf (meanCol (mulf (centred y) (centred y))) (broadcast S512x1 (Scalar.ofBits .f32 0x3727C5AC#32 : F .f32)))) broadcasts_S512x1_S512x1024))
    (broadcastTo S512x1024 g broadcasts_S1x1024_S512x1024)) (broadcastTo S512x1024 b broadcasts_S1x1024_S512x1024)

theorem pay2_chunk (x : Vec F S512x1024 .f32) (g u g' u' : Vec F S1024x512 .bf16) (d d' : Vec F S512x1024 .bf16) :
    k0_pay2 x g u d g' u' d' = addf (chunk (k0_pay1 x) g u d) (chunk (k0_pay1 x) g' u' d') := rfl
theorem pay5_chunk (x : Vec F S512x1024 .f32) (a : FVec F S512x1024 .f32) (g u g' u' g'' u'' : Vec F S1024x512 .bf16) (d d' d'' : Vec F S512x1024 .bf16) :
    k0_pay5 (k0_pay1 x) a (k0_pay3 x g) (k0_pay4 u) d g' u' d' g'' u'' d''
      = addf (addf (addf a (chunk (k0_pay1 x) g u d)) (chunk (k0_pay1 x) g' u' d')) (chunk (k0_pay1 x) g'' u'' d'') := rfl
theorem pay6_tail (x : Vec F S512x1024 .f32) (v1 : FVec F S512x1024 .bf16) (a : FVec F S512x1024 .f32) (g u : Vec F S1024x256 .bf16) (d : Vec F S256x1024 .bf16)
    (s b : Vec F S1x1024 .f32) :
    k0_pay6 x v1 a g u d s b
      = normTile (addf (mulf (broadcast S512x1024 (Scalar.ofBits .f32 0x3FB504F3#32 : F .f32)) x) (addf a (tail v1 g u d))) s b := rfl

end parts

theorem dotHidden : dot_S512x1024_S1024x512_S512x512_1_0_0_1_n_n = DotDims.plain 512 1024 512 := rfl
theorem dotOut : dot_S512x512_S512x1024_S512x1024_1_0_0_1_n_n = DotDims.plain 512 512 1024 := rfl
theorem dotHidden' : dot_S512x1024_S1024x256_S512x256_1_0_0_1_n_n = DotDims.plain 512 1024 256 := rfl
theorem dotOut' : dot_S512x256_S256x1024_S512x1024_1_0_0_1_n_n = DotDims.plain 512 256 1024 := rfl

theorem hidden_apply (x : FVec Ideal S512x1024 .bf16) (g : Vec Ideal S1024x512 .bf16) (r f : Fin 512) :
    (matmul (φ₁ := .bf16) (φ₂ := .bf16) dot_S512x1024_S1024x512_S512x512_1_0_0_1_n_n none x (shapeCast S1024x512 g shapeCasts_S1024x512_S1024x512)
      (constant S512x512 .f32 0x00000000#32) : FVec Ideal S512x512 .f32) (ix2 r f)
      = rowCol (fun k : Fin 1024 => x (ix2 r k)) (fun k => g (ix2 k f)) := by
  rw [dotHidden, shapeCast_self]
  refine (Ideal.matmul_plain_apply (M := 512) (K := 1024) (N := 512) none _ _ _ r f).trans ?_
  show Ideal.ofBits .f32 0x00000000#32 + _ = _
  rw [Ideal.ofBits_zero_f32, zero_add]
  rfl

theorem hidden_apply' (x : FVec Ideal S512x1024 .bf16) (g : Vec Ideal S1024x256 .bf16) (r : Fin 512) (f : Fin 256) :
    (matmul (φ₁ := .bf16) (φ₂ := .bf16) dot_S512x1024_S1024x256_S512x256_1_0_0_1_n_n none x (shapeCast S1024x256 g shapeCasts_S1024x256_S1024x256)
      (constant S512x256 .f32 0x00000000#32) : FVec Ideal S512x256 .f32) (ix2 r f)
      = rowCol (fun k : Fin 1024 => x (ix2 r k)) (fun k => g (ix2 k f)) := by
  rw [dotHidden', shapeCast_self]
  refine (Ideal.matmul_plain_apply (M := 512) (K := 1024) (N := 256) none _ _ _ r f).trans ?_
  show Ideal.ofBits .f32 0x00000000#32 + _ = _
  rw [Ideal.ofBits_zero_f32, zero_add]
  rfl

/-- A chunk at an index: the SwiGLU sum over its 512 hidden columns. -/
theorem chunk_apply (x : FVec Ideal S512x1024 .bf16) (g u : Vec Ideal S1024x512 .bf16) (d : Vec Ideal S512x1024 .bf16) (r : Fin 512) (c : Fin 1024) :
    chunk x g u d (ix2 r c) = swiglu (fun k : Fin 1024 => x (ix2 r k)) (fun k (f : Fin 512) => g (ix2 k f)) (fun k f => u (ix2 k f))
      (fun f => d (ix2 f c)) := by
  unfold chunk
  rw [dotOut, shapeCast_self d]
  refine (Ideal.matmul_plain_apply (M := 512) (K := 512) (N := 1024) none _ _ _ r c).trans ?_
  show Ideal.ofBits .f32 0x00000000#32 + _ = _
  rw [Ideal.ofBits_zero_f32, zero_add]
  refine Finset.sum_congr rfl fun f _ => ?_
  rw [← hidden_apply x g r f, ← hidden_apply x u r f]
  rfl

theorem tail_apply (x : FVec Ideal S512x1024 .bf16) (g u : Vec Ideal S1024x256 .bf16) (d : Vec Ideal S256x1024 .bf16) (r : Fin 512) (c : Fin 1024) :
    tail x g u d (ix2 r c) = swiglu (fun k : Fin 1024 => x (ix2 r k)) (fun k (f : Fin 256) => g (ix2 k f)) (fun k f => u (ix2 k f))
      (fun f => d (ix2 f c)) := by
  unfold tail
  rw [dotOut', shapeCast_self d]
  refine (Ideal.matmul_plain_apply (M := 512) (K := 256) (N := 1024) none _ _ _ r c).trans ?_
  show Ideal.ofBits .f32 0x00000000#32 + _ = _
  rw [Ideal.ofBits_zero_f32, zero_add]
  refine Finset.sum_congr rfl fun f _ => ?_
  rw [← hidden_apply' x g r f, ← hidden_apply' x u r f]
  rfl

/-- A sum over the 2816 hidden columns is the sum of the six parts', in order. -/
theorem sum_parts (T : Fin 2816 → EReal) :
    ∑ f, T f = (((((∑ f : Fin 512, T ⟨0 + f.val, by omega⟩) + ∑ f : Fin 512, T ⟨512 + f.val, by omega⟩) + ∑ f : Fin 512, T ⟨1024 + f.val, by omega⟩)
      + ∑ f : Fin 512, T ⟨1536 + f.val, by omega⟩) + ∑ f : Fin 512, T ⟨2048 + f.val, by omega⟩) + ∑ f : Fin 256, T ⟨2560 + f.val, by omega⟩ := by
  have e0 : ∑ f, T f = (∑ f : Fin 2560, T ⟨f.val, by omega⟩) + ∑ f : Fin 256, T ⟨2560 + f.val, by omega⟩ := Fin.sum_univ_add (a := 2560) (b := 256) T
  rw [e0]
  refine congrArg (· + _) ?_
  have e := (Equiv.sum_comp (finProdFinEquiv (m := 5) (n := 512)) (fun f : Fin (5 * 512) => T ⟨f.val, by omega⟩)).symm
  rw [Fintype.sum_prod_type, Fin.sum_univ_five] at e
  refine e.trans ?_
  have s (j : Fin 5) (n : ℕ) (hn : n = 512 * j.val) :
      (∑ f : Fin 512, T ⟨(finProdFinEquiv (j, f) : Fin (5 * 512)).val, by omega⟩) = ∑ f : Fin 512, T ⟨n + f.val, by omega⟩ :=
    Finset.sum_congr rfl fun f _ => congrArg T (Fin.ext (by show f.val + 512 * j.val = n + f.val; omega))
  rw [s 0 0 rfl, s 1 512 rfl, s 2 1024 rfl, s 3 1536 rfl, s 4 2048 rfl]

/-- A column spread over the rows' elements, at an index. -/
theorem spread_apply (v : S512x1.Idx → EReal) (r : Fin 512) (c : Fin 1024) :
    broadcastTo S512x1024 v broadcasts_S512x1_S512x1024 (ix2 r c) = v (ix2 r (0 : Fin 1)) :=
  broadcastTo_apply v broadcasts_S512x1_S512x1024 (ix2 r c) (ix2 r (0 : Fin 1)) fun ax => match ax with
    | ⟨0, _⟩ => rfl
    | ⟨1, _⟩ => rfl

theorem meanCol_apply (y : FVec Ideal S512x1024 .f32) (r : Fin 512) : meanCol y (ix2 r (0 : Fin 1)) = mean fun k => y (ix2 r k) := by
  unfold meanCol mean
  refine congrArg (fun s => Ideal.div s (Ideal.ofBits .f32 0x44800000#32)) ?_
  refine (shapeCast_a_a1_apply (a := 512) _ shapeCasts_S512_S512x1 r 0).trans ?_
  refine (Ideal.multiReduction_add_single y _ reduces_S512x1024_S512 _ _ (ix1 r)).trans ?_
  refine Finset.sum_congr rfl fun k _ => congrArg y (funext fun a => Fin.ext ?_)
  match a with
  | ⟨0, _⟩ => rfl
  | ⟨1, _⟩ => rfl

theorem centred_apply (y : FVec Ideal S512x1024 .f32) (r : Fin 512) (c : Fin 1024) :
    centred y (ix2 r c) = y (ix2 r c) - mean fun k => y (ix2 r k) := by
  unfold centred
  show y (ix2 r c) - broadcastTo S512x1024 (meanCol y) broadcasts_S512x1_S512x1024 (ix2 r c) = _
  rw [spread_apply, meanCol_apply]

/-- The layer norm of a tile's rows, at an index. -/
theorem normTile_apply (y : FVec Ideal S512x1024 .f32) (g b : Vec Ideal S1x1024 .f32) (r : Fin 512) (c : Fin 1024) :
    normTile y g b (ix2 r c) = norm (fun k => y (ix2 r k)) (g (ix2 (0 : Fin 1) c)) (b (ix2 (0 : Fin 1) c)) c := by
  unfold normTile norm
  have e (p q : FVec Ideal S512x1024 .f32) (j : S512x1024.Idx) : addf p q j = p j + q j := rfl
  have f (p q : FVec Ideal S512x1024 .f32) (j : S512x1024.Idx) : mulf p q j = p j * q j := rfl
  rw [e, f, f, spread_apply, broadcastTo_1b_ab_apply, broadcastTo_1b_ab_apply, centred_apply]
  have h : (rsqrt (addf (meanCol (mulf (centred y) (centred y))) (broadcast S512x1 (Scalar.ofBits .f32 0x3727C5AC#32 : Ideal .f32))) : FVec Ideal S512x1 .f32) (ix2 r (0 : Fin 1))
      = Ideal.rsqrt (meanCol (mulf (centred y) (centred y)) (ix2 r (0 : Fin 1)) + Ideal.ofBits .f32 0x3727C5AC#32) := rfl
  rw [h, meanCol_apply]
  simp only [f, centred_apply]

end Dense

end
-- ==== Proof.DenseReference.lean ====
/-
  The dense feed-forward's reference, element by element: the scaled residual and SwiGLU of a row, then the row's layer norm.
-/
module

public import proofs.«01_k».proof.Proof.DenseValue
public import proofs.«01_k».proof.Proof.Gen.Reference3Ideal.Read
public import Idealize.ShloMosaic.Lib.IdealHost

@[expose] public section

set_option maxRecDepth 16384

noncomputable section

namespace Dense.Reference

open Cert.Reference3Ideal Cert.Reference3Ideal.Gen Cert.Reference3Ideal.Read
open Idealize.ShloMosaic
open Idealize.ShloMosaic.ValueIdx
open Experts (rowCol act swiglu)
open scoped BigOperators

variable (x0 : S32768x1024.Idx → EReal) (x1 x2 : S1024x2816.Idx → EReal) (x3 : S2816x1024.Idx → EReal) (x4 x5 : S1x1024.Idx → EReal)

/-- A row of the reference before its norm. -/
abbrev rowAt (p : Fin 32768) : Fin 1024 → EReal :=
  resid (fun k => x0 (ix2 p k)) (fun k f => x1 (ix2 k f)) (fun k f => x2 (ix2 k f)) (fun f c => x3 (ix2 f c))

theorem gate_at (p : Fin 32768) (f : Fin 2816) :
    val_main_v2 (F := Ideal) x0 x1 (ix2 p f) = rowCol (fun k : Fin 1024 => x0 (ix2 p k)) fun k => x1 (ix2 k f) := by
  rw [val_main_v2_apply]
  refine Finset.sum_congr rfl fun k _ => ?_
  have el : lidx_main_v2 (ix2 p f) k = ix2 p k := funext fun a => match a with | ⟨0, _⟩ => rfl | ⟨1, _⟩ => rfl
  have er : ridx_main_v2 (ix2 p f) k = ix2 k f := funext fun a => match a with | ⟨0, _⟩ => rfl | ⟨1, _⟩ => rfl
  rw [el, er]

theorem up_at (p : Fin 32768) (f : Fin 2816) :
    val_main_v4 (F := Ideal) x0 x2 (ix2 p f) = rowCol (fun k : Fin 1024 => x0 (ix2 p k)) fun k => x2 (ix2 k f) := by
  rw [val_main_v4_apply]
  refine Finset.sum_congr rfl fun k _ => ?_
  have el : lidx_main_v4 (ix2 p f) k = ix2 p k := funext fun a => match a with | ⟨0, _⟩ => rfl | ⟨1, _⟩ => rfl
  have er : ridx_main_v4 (ix2 p f) k = ix2 k f := funext fun a => match a with | ⟨0, _⟩ => rfl | ⟨1, _⟩ => rfl
  rw [el, er]

theorem act_at (i : S32768x2816.Idx) : val_main_v5 (F := Ideal) x0 x1 x2 i
    = act (val_main_v2 (F := Ideal) x0 x1 i) (val_main_v4 (F := Ideal) x0 x2 i) := by
  rw [val_main_v5_apply, val_main_v3_apply, val_main_call0_v5_apply, val_main_call0_v4_apply, val_main_call0_cst_0_apply,
    val_main_call0_v3_apply, val_main_call0_v2_apply, val_main_call0_cst_apply, val_main_call0_v1_apply, val_main_call0_v0_apply]
  have one : (FloatOps.ofBits .f32 0x3F800000#32 : Ideal .f32) = (1 : EReal) := Ideal.ofBits_one_f32
  rw [one]
  rfl

/-- A row before its norm, at an index. -/
theorem resid_at (p : Fin 32768) (c : Fin 1024) : val_main_v7 (F := Ideal) x0 x1 x2 x3 (ix2 p c) = rowAt x0 x1 x2 x3 p c := by
  rw [val_main_v7_apply, val_main_v1_apply, val_main_v0_apply, val_main_cst_apply, val_main_v6_apply]
  refine congrArg (Ideal.ofBits .f32 0x3FB504F3#32 * x0 (ix2 p c) + ·) ?_
  refine Finset.sum_congr rfl fun f _ => ?_
  have el : lidx_main_v6 (ix2 p c) f = ix2 p f := funext fun a => match a with | ⟨0, _⟩ => rfl | ⟨1, _⟩ => rfl
  have er : ridx_main_v6 (ix2 p c) f = ix2 f c := funext fun a => match a with | ⟨0, _⟩ => rfl | ⟨1, _⟩ => rfl
  rw [el, er, act_at, gate_at, up_at]

/-- The mean of a row. -/
theorem mean_at (p : Fin 32768) : val_main_v11 (F := Ideal) x0 x1 x2 x3 (ix2 p (0 : Fin 1)) = mean (rowAt x0 x1 x2 x3 p) := by
  rw [val_main_v11_apply, val_main_v10_apply, val_main_cst_1_apply, val_main_v9_apply]
  have e : idx_main_v9 (ix2 p (0 : Fin 1)) = ix1 p := funext fun a => match a with | ⟨0, _⟩ => rfl
  rw [e, val_main_v8_apply, val_main_cst_0_apply]
  refine congrArg (fun s => Ideal.div s (Ideal.ofBits .f32 0x44800000#32)) ?_
  refine Eq.trans (b := Ideal.ofBits .f32 0x00000000#32 + _) rfl ?_
  rw [Ideal.ofBits_zero_f32, zero_add]
  refine Finset.sum_congr rfl fun k _ => ?_
  have ei : idx_main_v8 (ix1 p) k = ix2 p k := funext fun a => match a with | ⟨0, _⟩ => rfl | ⟨1, _⟩ => rfl
  rw [ei, resid_at]

theorem centred_at (p : Fin 32768) (c : Fin 1024) :
    val_main_v13 (F := Ideal) x0 x1 x2 x3 (ix2 p c) = rowAt x0 x1 x2 x3 p c - mean (rowAt x0 x1 x2 x3 p) := by
  rw [val_main_v13_apply, val_main_v12_apply, resid_at]
  have e : idx_main_v12 (ix2 p c) = ix2 p (0 : Fin 1) := funext fun a => match a with | ⟨0, _⟩ => rfl | ⟨1, _⟩ => rfl
  rw [e, mean_at]
  rfl

theorem centred_at' (p : Fin 32768) (c : Fin 1024) :
    val_main_v20 (F := Ideal) x0 x1 x2 x3 (ix2 p c) = rowAt x0 x1 x2 x3 p c - mean (rowAt x0 x1 x2 x3 p) := by
  rw [val_main_v20_apply, val_main_v19_apply, resid_at]
  have e : idx_main_v19 (ix2 p c) = ix2 p (0 : Fin 1) := funext fun a => match a with | ⟨0, _⟩ => rfl | ⟨1, _⟩ => rfl
  rw [e, mean_at]
  rfl

/-- The variance of a row. -/
theorem var_at (p : Fin 32768) : val_main_v18 (F := Ideal) x0 x1 x2 x3 (ix2 p (0 : Fin 1))
    = mean fun k => (rowAt x0 x1 x2 x3 p k - mean (rowAt x0 x1 x2 x3 p)) * (rowAt x0 x1 x2 x3 p k - mean (rowAt x0 x1 x2 x3 p)) := by
  rw [val_main_v18_apply, val_main_v17_apply, val_main_cst_3_apply, val_main_v16_apply]
  have e : idx_main_v16 (ix2 p (0 : Fin 1)) = ix1 p := funext fun a => match a with | ⟨0, _⟩ => rfl
  rw [e, val_main_v15_apply, val_main_cst_2_apply]
  refine congrArg (fun s => Ideal.div s (Ideal.ofBits .f32 0x44800000#32)) ?_
  refine Eq.trans (b := Ideal.ofBits .f32 0x00000000#32 + _) rfl ?_
  rw [Ideal.ofBits_zero_f32, zero_add]
  refine Finset.sum_congr rfl fun k _ => ?_
  have ei : idx_main_v15 (ix1 p) k = ix2 p k := funext fun a => match a with | ⟨0, _⟩ => rfl | ⟨1, _⟩ => rfl
  rw [ei, val_main_v14_apply, centred_at]
  rfl

/-- The reference's result, at an index. -/
theorem result_at (p : Fin 32768) (c : Fin 1024) : val_main_v29 (F := Ideal) x0 x1 x2 x3 x4 x5 (ix2 p c)
    = norm (rowAt x0 x1 x2 x3 p) (x4 (ix2 (0 : Fin 1) c)) (x5 (ix2 (0 : Fin 1) c)) c := by
  rw [val_main_v29_apply, val_main_v28_apply, val_main_v27_apply, val_main_v26_apply, val_main_v25_apply, val_main_v24_apply, val_main_v23_apply,
    val_main_v22_apply, val_main_v21_apply, val_main_cst_4_apply, centred_at']
  have e4 : idx_main_v24 (ix2 p c) = ix2 p (0 : Fin 1) := funext fun a => match a with | ⟨0, _⟩ => rfl | ⟨1, _⟩ => rfl
  have e6 : idx_main_v26 (ix2 p c) = ix2 (0 : Fin 1) c := funext fun a => match a with | ⟨0, _⟩ => rfl | ⟨1, _⟩ => rfl
  have e8 : idx_main_v28 (ix2 p c) = ix2 (0 : Fin 1) c := funext fun a => match a with | ⟨0, _⟩ => rfl | ⟨1, _⟩ => rfl
  rw [e4, e6, e8, var_at]
  rfl

end Dense.Reference

end
-- ==== Proof.DenseClaim.lean ====
/-
  The dense feed-forward's kernel: its result array, element by element, is the reference's.
-/
module

public import proofs.«01_k».proof.Proof.DenseReference
public import proofs.«01_k».proof.Proof.Gen.Kernel3Ideal.Value

@[expose] public section

set_option maxRecDepth 16384

noncomputable section

namespace Dense

open Cert.Kernel3Ideal Cert.Kernel3Ideal.Gen
open Idealize.ShloMosaic
open Idealize.ShloMosaic.TcCoe
open Idealize.SL Idealize.SL.Sem
open Idealize.ShloMosaic.ValueIdx
open Experts (rowCol act swiglu)
open scoped BigOperators

/-! ## A tile -/

theorem off_zero : (![0, 0] : Fin 2 → ℕ) = fun _ => 0 := by
  funext a; fin_cases a <;> rfl

/-- The columns from `n`, at an index. -/
theorem cols_apply (w : S1024x2816.Idx → EReal) (n l : ℕ) (h : ∀ a, (![0, n] : Fin 2 → ℕ) a + (![1024, l] : Fin 2 → ℕ) a ≤ S1024x2816.size a)
    (k : Fin 1024) (f : Fin l) (hn : n + f.val < 2816) :
    View.ld (Val := Elt Ideal) (e' := .bf16) w (Rect.unit (s := S1024x2816) ![0, n] ![1024, l] h) (ix2 k f) = w (ix2 k ⟨n + f.val, hn⟩) := by
  refine congrArg w (funext fun b => Fin.ext ?_)
  match b with
  | ⟨0, _⟩ => show 0 + 1 * k.val = k.val; omega
  | ⟨1, _⟩ => show n + 1 * f.val = n + f.val; omega

/-- The rows from `n`, at an index. -/
theorem rows_apply (w : S2816x1024.Idx → EReal) (n l : ℕ) (h : ∀ a, (![n, 0] : Fin 2 → ℕ) a + (![l, 1024] : Fin 2 → ℕ) a ≤ S2816x1024.size a)
    (f : Fin l) (c : Fin 1024) (hn : n + f.val < 2816) :
    View.ld (Val := Elt Ideal) (e' := .bf16) w (Rect.unit (s := S2816x1024) ![n, 0] ![l, 1024] h) (ix2 f c) = w (ix2 ⟨n + f.val, hn⟩ c) := by
  refine congrArg w (funext fun b => Fin.ext ?_)
  match b with
  | ⟨0, _⟩ => show n + 1 * f.val = n + f.val; omega
  | ⟨1, _⟩ => show 0 + 1 * c.val = c.val; omega

/-- The chunk of the 512 hidden columns from `n`, at an index. -/
theorem chunk_at (x : S512x1024.Idx → EReal) (wg wu : S1024x2816.Idx → EReal) (wd : S2816x1024.Idx → EReal) (n : ℕ)
    (hc : ∀ a, (![0, n] : Fin 2 → ℕ) a + (![1024, 512] : Fin 2 → ℕ) a ≤ S1024x2816.size a)
    (hr : ∀ a, (![n, 0] : Fin 2 → ℕ) a + (![512, 1024] : Fin 2 → ℕ) a ≤ S2816x1024.size a) (hn : n + 512 ≤ 2816) (r : Fin 512) (c : Fin 1024) :
    chunk (F := Ideal) (k0_pay1 (F := Ideal) x) (View.ld (Val := Elt Ideal) (e' := .bf16) wg (Rect.unit (s := S1024x2816) ![0, n] ![1024, 512] hc))
        (View.ld (Val := Elt Ideal) (e' := .bf16) wu (Rect.unit (s := S1024x2816) ![0, n] ![1024, 512] hc))
        (View.ld (Val := Elt Ideal) (e' := .bf16) wd (Rect.unit (s := S2816x1024) ![n, 0] ![512, 1024] hr)) (ix2 r c)
      = ∑ f : Fin 512, act (rowCol (fun k : Fin 1024 => x (ix2 r k)) fun k => wg (ix2 k ⟨n + f.val, by omega⟩))
          (rowCol (fun k : Fin 1024 => x (ix2 r k)) fun k => wu (ix2 k ⟨n + f.val, by omega⟩)) * wd (ix2 ⟨n + f.val, by omega⟩ c) := by
  rw [chunk_apply]
  refine Finset.sum_congr rfl fun f _ => ?_
  have hf : n + f.val < 2816 := by omega
  simp only [fun k => cols_apply wg n 512 hc k f hf, fun k => cols_apply wu n 512 hc k f hf, rows_apply wd n 512 hr f c hf]
  rfl

theorem tail_at (x : S512x1024.Idx → EReal) (wg wu : S1024x2816.Idx → EReal) (wd : S2816x1024.Idx → EReal) (n : ℕ)
    (hc : ∀ a, (![0, n] : Fin 2 → ℕ) a + (![1024, 256] : Fin 2 → ℕ) a ≤ S1024x2816.size a)
    (hr : ∀ a, (![n, 0] : Fin 2 → ℕ) a + (![256, 1024] : Fin 2 → ℕ) a ≤ S2816x1024.size a) (hn : n + 256 ≤ 2816) (r : Fin 512) (c : Fin 1024) :
    tail (F := Ideal) (k0_pay1 (F := Ideal) x) (View.ld (Val := Elt Ideal) (e' := .bf16) wg (Rect.unit (s := S1024x2816) ![0, n] ![1024, 256] hc))
        (View.ld (Val := Elt Ideal) (e' := .bf16) wu (Rect.unit (s := S1024x2816) ![0, n] ![1024, 256] hc))
        (View.ld (Val := Elt Ideal) (e' := .bf16) wd (Rect.unit (s := S2816x1024) ![n, 0] ![256, 1024] hr)) (ix2 r c)
      = ∑ f : Fin 256, act (rowCol (fun k : Fin 1024 => x (ix2 r k)) fun k => wg (ix2 k ⟨n + f.val, by omega⟩))
          (rowCol (fun k : Fin 1024 => x (ix2 r k)) fun k => wu (ix2 k ⟨n + f.val, by omega⟩)) * wd (ix2 ⟨n + f.val, by omega⟩ c) := by
  rw [tail_apply]
  refine Finset.sum_congr rfl fun f _ => ?_
  have hf : n + f.val < 2816 := by omega
  simp only [fun k => cols_apply wg n 256 hc k f hf, fun k => cols_apply wu n 256 hc k f hf, rows_apply wd n 256 hr f c hf]
  rfl

/-- What a tile is given, at an index: the layer norm of its row. -/
theorem tile_apply (x : S512x1024.Idx → EReal) (wg wu : S1024x2816.Idx → EReal) (wd : S2816x1024.Idx → EReal) (g b : S1x1024.Idx → EReal)
    (r : Fin 512) (c : Fin 1024) :
    (out0_6 (F := Ideal) x wg wu wd g b : S512x1024.Idx → EReal) (ix2 r c)
      = norm (resid (fun k => x (ix2 r k)) (fun k f => wg (ix2 k f)) (fun k f => wu (ix2 k f)) (fun f c => wd (ix2 f c)))
          (g (ix2 (0 : Fin 1) c)) (b (ix2 (0 : Fin 1) c)) c := by
  unfold out0_6 k0_pay7
  rw [View.canon_unit_zero off_zero]
  have ex : View.ld (Val := Elt Ideal) (e' := .f32) x r0_0 = x := View.ld_unit_zero (S := S512x1024) (Val := Elt Ideal) (e := .f32) off_zero inb_S512x1024_S512x1024_0_0 x
  have eg : View.ld (Val := Elt Ideal) (e' := .f32) g r0_13 = g := View.ld_unit_zero (S := S1x1024) (Val := Elt Ideal) (e := .f32) off_zero inb_S1x1024_S1x1024_0_0 g
  have eb : View.ld (Val := Elt Ideal) (e' := .f32) b r0_13 = b := View.ld_unit_zero (S := S1x1024) (Val := Elt Ideal) (e := .f32) off_zero inb_S1x1024_S1x1024_0_0 b
  rw [ex, eg, eb, pay6_tail, pay5_chunk, pay2_chunk, normTile_apply]
  refine congrArg (fun y => norm y (g (ix2 (0 : Fin 1) c)) (b (ix2 (0 : Fin 1) c)) c) (funext fun k => ?_)
  have e (p q : FVec Ideal S512x1024 .f32) (j : S512x1024.Idx) : addf p q j = p j + q j := rfl
  have f (p q : FVec Ideal S512x1024 .f32) (j : S512x1024.Idx) : mulf p q j = p j * q j := rfl
  unfold resid swiglu
  rw [sum_parts, e, f, e, e, e, e, e]
  rw [chunk_at x wg wu wd 0 _ _ (by omega) r k, chunk_at x wg wu wd 512 _ _ (by omega) r k, chunk_at x wg wu wd 1024 _ _ (by omega) r k,
    chunk_at x wg wu wd 1536 _ _ (by omega) r k, chunk_at x wg wu wd 2048 _ _ (by omega) r k, tail_at x wg wu wd 2560 _ _ (by omega) r k]
  rfl

/-! ## The arrays -/

theorem ofNat_val (t : Fin 64) : (BitVec.ofNat 32 t.val).toNat = t.val := by
  rw [BitVec.toNat_ofNat]; exact Nat.mod_eq_of_lt (by omega)
theorem transform0 (i : grid0.Coords) : cc0_transform_0 i = ![(i 0).val, 0] := by
  unfold cc0_transform_0; dsimp only; rw [ofNat_val (i 0)]; rfl
theorem transform6 (i : grid0.Coords) : cc0_transform_6 i = ![(i 0).val, 0] := by
  unfold cc0_transform_6; dsimp only; rw [ofNat_val (i 0)]; rfl

/-- The grid's points are the tiles. -/
abbrev pt (t : Fin 64) : Fin cfg0.N := ⟨t.val, by show t.val < grid0.N; rw [N_0]; exact t.isLt⟩

theorem coord_pt (t : Fin 64) : ((grid0.coords (pt t)) 0).val = t.val := by
  have h := Pipeline.Grid.coords_val (G := grid0) (pt t) 0 (S := 1) (B := 64) (by decide) rfl
  refine h.trans ?_
  show t.val / 1 % 64 = t.val
  have := t.isLt
  omega

/-- The rows of a tile. -/
abbrev tileRow (t : Fin 64) (r : Fin 512) : Fin 32768 := ⟨512 * t.val + r.val, by omega⟩

variable (m : (ℓ : Loc nD τ sig) → Buf (Elt Ideal) ℓ) (c : Dev nD)

theorem xblk (t : Fin 64) (r : Fin 512) (k : Fin 1024) :
    (iblk m c (0 : Fin 7) (pt t) : S512x1024.Idx → EReal) (ix2 r k) = (m ((c : Thread nD τ).loc main_arg0) : S32768x1024.Idx → EReal) (ix2 (tileRow t r) k) := by
  rw [← V_main_arg0 m c]
  refine congrArg (V m c main_arg0 : S32768x1024.Idx → EReal) (funext fun b => Fin.ext ?_)
  refine (Pipeline.Window.rect_emb_val (cfg0.win (0 : Fin 7)) (pt t) (ix2 r k) b rfl).trans ?_
  show cc0_transform_0 (grid0.coords (pt t)) b * S512x1024.size b + _ = _
  rw [transform0]
  have e := coord_pt t
  match b with
  | ⟨0, _⟩ => show ((grid0.coords (pt t)) 0).val * 512 + r.val = 512 * t.val + r.val; rw [e]; omega
  | ⟨1, _⟩ => show 0 * 1024 + k.val = k.val; omega

theorem V_gate : (V m c main_v0 : S1024x2816.Idx → EReal) = (m ((c : Thread nD τ).loc main_arg1) : S1024x2816.Idx → EReal) := by
  show StableHlo.after hostOps0 _ _ = _
  simp only [hostOps0]
  after_results_simp
  rfl
theorem V_up : (V m c main_v1 : S1024x2816.Idx → EReal) = (m ((c : Thread nD τ).loc main_arg2) : S1024x2816.Idx → EReal) := by
  show StableHlo.after hostOps0 _ _ = _
  simp only [hostOps0]
  after_results_simp
  rfl
theorem V_down : (V m c main_v2 : S2816x1024.Idx → EReal) = (m ((c : Thread nD τ).loc main_arg3) : S2816x1024.Idx → EReal) := by
  show StableHlo.after hostOps0 _ _ = _
  simp only [hostOps0]
  after_results_simp
  rfl

theorem gblk (t : Fin 64) (k : Fin 1024) (f : Fin 2816) :
    (iblk m c (1 : Fin 7) (pt t) : S1024x2816.Idx → EReal) (ix2 k f) = (m ((c : Thread nD τ).loc main_arg1) : S1024x2816.Idx → EReal) (ix2 k f) := by
  rw [← V_gate m c]
  refine congrArg (V m c main_v0 : S1024x2816.Idx → EReal) (funext fun b => Fin.ext ?_)
  refine (Pipeline.Window.rect_emb_val (cfg0.win (1 : Fin 7)) (pt t) (ix2 k f) b rfl).trans ?_
  match b with
  | ⟨0, _⟩ => show 0 * 1024 + k.val = k.val; omega
  | ⟨1, _⟩ => show 0 * 2816 + f.val = f.val; omega
theorem ublk (t : Fin 64) (k : Fin 1024) (f : Fin 2816) :
    (iblk m c (2 : Fin 7) (pt t) : S1024x2816.Idx → EReal) (ix2 k f) = (m ((c : Thread nD τ).loc main_arg2) : S1024x2816.Idx → EReal) (ix2 k f) := by
  rw [← V_up m c]
  refine congrArg (V m c main_v1 : S1024x2816.Idx → EReal) (funext fun b => Fin.ext ?_)
  refine (Pipeline.Window.rect_emb_val (cfg0.win (2 : Fin 7)) (pt t) (ix2 k f) b rfl).trans ?_
  match b with
  | ⟨0, _⟩ => show 0 * 1024 + k.val = k.val; omega
  | ⟨1, _⟩ => show 0 * 2816 + f.val = f.val; omega
theorem dblk (t : Fin 64) (f : Fin 2816) (k : Fin 1024) :
    (iblk m c (3 : Fin 7) (pt t) : S2816x1024.Idx → EReal) (ix2 f k) = (m ((c : Thread nD τ).loc main_arg3) : S2816x1024.Idx → EReal) (ix2 f k) := by
  rw [← V_down m c]
  refine congrArg (V m c main_v2 : S2816x1024.Idx → EReal) (funext fun b => Fin.ext ?_)
  refine (Pipeline.Window.rect_emb_val (cfg0.win (3 : Fin 7)) (pt t) (ix2 f k) b rfl).trans ?_
  match b with
  | ⟨0, _⟩ => show 0 * 2816 + f.val = f.val; omega
  | ⟨1, _⟩ => show 0 * 1024 + k.val = k.val; omega
theorem sblk (t : Fin 64) (k : Fin 1024) :
    (iblk m c (4 : Fin 7) (pt t) : S1x1024.Idx → EReal) (ix2 (0 : Fin 1) k) = (m ((c : Thread nD τ).loc main_arg4) : S1x1024.Idx → EReal) (ix2 (0 : Fin 1) k) := by
  rw [← V_main_arg4 m c]
  refine congrArg (V m c main_arg4 : S1x1024.Idx → EReal) (funext fun b => Fin.ext ?_)
  refine (Pipeline.Window.rect_emb_val (cfg0.win (4 : Fin 7)) (pt t) (ix2 (0 : Fin 1) k) b rfl).trans ?_
  match b with
  | ⟨0, _⟩ => rfl
  | ⟨1, _⟩ => show 0 * 1024 + k.val = k.val; omega
theorem bblk (t : Fin 64) (k : Fin 1024) :
    (iblk m c (5 : Fin 7) (pt t) : S1x1024.Idx → EReal) (ix2 (0 : Fin 1) k) = (m ((c : Thread nD τ).loc main_arg5) : S1x1024.Idx → EReal) (ix2 (0 : Fin 1) k) := by
  rw [← V_main_arg5 m c]
  refine congrArg (V m c main_arg5 : S1x1024.Idx → EReal) (funext fun b => Fin.ext ?_)
  refine (Pipeline.Window.rect_emb_val (cfg0.win (5 : Fin 7)) (pt t) (ix2 (0 : Fin 1) k) b rfl).trans ?_
  match b with
  | ⟨0, _⟩ => rfl
  | ⟨1, _⟩ => show 0 * 1024 + k.val = k.val; omega

/-- A tile's element of the result array. -/
theorem out_emb (t : Fin 64) (r : Fin 512) (k : Fin 1024) : ((cfg0.win (6 : Fin 7)).blk (pt t)).view.emb (ix2 r k) = (ix2 (tileRow t r) k : S32768x1024.Idx) := by
  refine funext fun b => Fin.ext ?_
  refine (Pipeline.Window.rect_emb_val (cfg0.win (6 : Fin 7)) (pt t) (ix2 r k) b rfl).trans ?_
  show cc0_transform_6 (grid0.coords (pt t)) b * S512x1024.size b + _ = _
  rw [transform6]
  have e := coord_pt t
  match b with
  | ⟨0, _⟩ => show ((grid0.coords (pt t)) 0).val * 512 + r.val = 512 * t.val + r.val; rw [e]; omega
  | ⟨1, _⟩ => show 0 * 1024 + k.val = k.val; omega

/-- Every element of the result is a tile's. -/
theorem exists_tile (i : S32768x1024.Idx) : ∃ (t : Fin 64) (r : Fin 512) (k : Fin 1024), ix2 (tileRow t r) k = i := by
  have h0 : (i 0).val < 32768 := (i 0).isLt
  refine ⟨⟨(i 0).val / 512, by omega⟩, ⟨(i 0).val % 512, by omega⟩, i 1, funext fun a => Fin.ext ?_⟩
  match a with
  | ⟨0, _⟩ => show 512 * ((i 0).val / 512) + (i 0).val % 512 = (i 0).val; omega
  | ⟨1, _⟩ => rfl

/-- The reference's result of the kernel's arguments. -/
abbrev goal : S32768x1024.Idx → EReal :=
  Cert.Reference3Ideal.Read.val_main_v29 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))

/-- The result array is the reference's. -/
theorem array_eq : ((dats m 0 c).arrAt 6 cfg0.N : S32768x1024.Idx → EReal) = goal m c := by
  funext i
  obtain ⟨t, r, k, rfl⟩ := exists_tile i
  have h := congrFun (Cert.Kernel3Ideal.Value.blocks6 m c (pt t) (flush0_6 (pt t))) (ix2 r k)
  rw [Cert.Kernel3Ideal.Value.flushed6] at h
  have hl : ((dats m 0 c).arrAt 6 cfg0.N : S32768x1024.Idx → EReal) (ix2 (tileRow t r) k)
      = ((cfg0.win 6).blk (pt t)).view.read (Elt Ideal) ((dats m 0 c).arrAt 6 cfg0.N) (ix2 r k) :=
    congrArg ((dats m 0 c).arrAt 6 cfg0.N : S32768x1024.Idx → EReal) (out_emb t r k).symm
  refine hl.trans (h.trans ?_)
  refine (tile_apply (iblk m c 0 (pt t)) (iblk m c 1 (pt t)) (iblk m c 2 (pt t)) (iblk m c 3 (pt t)) (iblk m c 4 (pt t)) (iblk m c 5 (pt t)) r k).trans ?_
  simp only [xblk, gblk, ublk, dblk, sblk, bblk]
  exact (Reference.result_at _ _ _ _ _ _ (tileRow t r) k).symm

end Dense

end
-- ==== Proof.ProjValue.lean ====
/-
  What a tile of the projections is given, at extended reals, element by element: a row's product with a weight column, its GELU, and
  the layer norm of a row of GELUs.
-/
module

public import proofs.«01_k».proof.Proof.ExpertValue
public import proofs.«01_k».proof.Proof.Gen.Kernel4Ideal.Frame
public import Idealize.ShloMosaic.Lib.ValueLayoutCasts

@[expose] public section

set_option maxRecDepth 16384

noncomputable section

namespace Proj

open Cert.Kernel4Ideal Cert.Kernel4Ideal.Gen
open Idealize.ShloMosaic
open Idealize.ShloMosaic.ValueIdx
open Experts (rowCol)
open scoped BigOperators

/-- The GELU of a number, in its tanh form. -/
def gelu (z : EReal) : EReal :=
  z * (Ideal.ofBits .f32 0x3F000000#32 * (Ideal.ofBits .f32 0x3F800000#32
    + Ideal.tanh (Ideal.ofBits .f32 0x3F4C422A#32 * (z + Ideal.ofBits .f32 0x3D372713#32 * (z * (z * z))))))

/-- The mean of a row. -/
def mean (y : Fin 512 → EReal) : EReal := Ideal.div (∑ k, y k) (Ideal.ofBits .f32 0x44000000#32)

/-- The layer norm of a row, at a column. -/
def norm (y : Fin 512 → EReal) (g b : EReal) (c : Fin 512) : EReal :=
  (y c - mean y) * Ideal.rsqrt (mean (fun k => (y k - mean y) * (y k - mean y)) + Ideal.ofBits .f32 0x3727C5AC#32) * g + b

section parts

variable {F : FTy → Type} [FloatOps F]

/-- A tile's rows by 512 weight columns. -/
def prod (x : FVec F S512x1024 .bf16) (w : Vec F S1024x512 .bf16) : FVec F S512x512 .f32 :=
  matmul (φ₁ := .bf16) (φ₂ := .bf16) dot_S512x1024_S1024x512_S512x512_1_0_0_1_n_n none x
    (shapeCast S1024x512 w shapeCasts_S1024x512_S1024x512) (constant S512x512 .f32 0x00000000#32)

/-- A tile's GELU. -/
def geluTile (z : FVec F S512x512 .f32) : FVec F S512x512 .f32 :=
  mulf z (mulf (broadcast S512x512 (Scalar.ofBits .f32 0x3F000000#32 : F .f32)) (addf (broadcast S512x512 (Scalar.ofBits .f32 0x3F800000#32 : F .f32))
    (tanh (mulf (broadcast S512x512 (Scalar.ofBits .f32 0x3F4C422A#32 : F .f32))
      (addf z (mulf (broadcast S512x512 (Scalar.ofBits .f32 0x3D372713#32 : F .f32)) (mulf z (mulf z z))))))))

/-- The column of the rows' means. -/
def meanCol (y : FVec F S512x512 .f32) : FVec F S512x1 .f32 :=
  divf (shapeCast S512x1 (multiReduction .add [1] S512 y 0x00000000#32 reduces_S512x512_S512 (.inl rfl) rfl) shapeCasts_S512_S512x1)
    (broadcast S512x1 (Scalar.ofBits .f32 0x44000000#32 : F .f32))

/-- The rows less their means. -/
def centred (y : FVec F S512x512 .f32) : FVec F S512x512 .f32 := subf y (broadcastTo S512x512 (meanCol y) broadcasts_S512x1_S512x512)

/-- The layer norm of a tile's rows. -/
def normTile (y : FVec F S512x512 .f32) (g b : Vec F S1x512 .f32) : FVec F S512x512 .f32 :=
  addf (φ := .f32) (mulf (φ := .f32) (mulf (centred y) (broadcastTo S512x512
      (rsqrt (addf (meanCol (mulf (centred y) (centred y))) (broadcast S512x1 (Scalar.ofBits .f32 0x3727C5AC#32 : F .f32)))) broadcasts_S512x1_S512x512))
    (broadcastTo S512x512 g broadcasts_S1x512_S512x512)) (broadcastTo S512x512 b broadcasts_S1x512_S512x512)

theorem pay3_eq (x : Vec F S512x1024 .f32) (w : Vec F S1024x512 .bf16) :
    k0_pay3 x w = truncf .bf16 (mulf (prod (k0_pay2 x) w) (broadcast S512x512 (Scalar.ofBits .f32 0x3E000000#32 : F .f32))) bitsLt_bf16_f32 := rfl
theorem pay4_eq (x : Vec F S512x1024 .f32) (w : Vec F S1024x512 .bf16) : k0_pay4 x w = prod (k0_pay2 x) w := rfl
theorem pay5_eq (x : Vec F S512x1024 .f32) (w : Vec F S1024x512 .bf16) : k0_pay5 x w = truncf .bf16 (prod (k0_pay2 x) w) bitsLt_bf16_f32 := rfl
theorem pay6_eq (x : Vec F S512x1024 .f32) (w : Vec F S1024x512 .bf16) : k0_pay6 x w = prod (k0_pay2 x) w := rfl
theorem pay7_eq (x : Vec F S512x1024 .f32) (w : Vec F S1024x512 .bf16) : k0_pay7 x w = truncf .bf16 (prod (k0_pay2 x) w) bitsLt_bf16_f32 := rfl
theorem pay10_eq (x : Vec F S512x1024 .f32) (w : Vec F S1024x512 .bf16) :
    k0_pay10 (k0_pay8 x w) (k0_pay9 x w) = truncf .bf16 (geluTile (prod (k0_pay2 x) w)) bitsLt_bf16_f32 := rfl
theorem pay1_eq (v : FVec F S512x1024 .bf16) (w : Vec F S1024x512 .bf16) (g b : Vec F S1x512 .f32) :
    k0_pay1 g b (k0_pay11 v w) (k0_pay12 v w) k0_pay13 = truncf .bf16 (normTile (geluTile (prod v w)) g b) bitsLt_bf16_f32 := rfl

end parts

theorem dotProj : dot_S512x1024_S1024x512_S512x512_1_0_0_1_n_n = DotDims.plain 512 1024 512 := rfl

/-- The product at an index. -/
theorem prod_apply (x : FVec Ideal S512x1024 .bf16) (w : Vec Ideal S1024x512 .bf16) (r f : Fin 512) :
    prod x w (ix2 r f) = rowCol (fun k : Fin 1024 => x (ix2 r k)) (fun k => w (ix2 k f)) := by
  unfold prod
  rw [dotProj, shapeCast_self]
  refine (Ideal.matmul_plain_apply (M := 512) (K := 1024) (N := 512) none _ _ _ r f).trans ?_
  show Ideal.ofBits .f32 0x00000000#32 + _ = _
  rw [Ideal.ofBits_zero_f32, zero_add]
  rfl

theorem geluTile_apply (z : FVec Ideal S512x512 .f32) (i : S512x512.Idx) : geluTile z i = gelu (z i) := rfl

/-- A column spread over the rows' elements, at an index. -/
theorem spread_apply (v : S512x1.Idx → EReal) (r : Fin 512) (c : Fin 512) :
    broadcastTo S512x512 v broadcasts_S512x1_S512x512 (ix2 r c) = v (ix2 r (0 : Fin 1)) :=
  broadcastTo_apply v broadcasts_S512x1_S512x512 (ix2 r c) (ix2 r (0 : Fin 1)) fun ax => match ax with
    | ⟨0, _⟩ => rfl
    | ⟨1, _⟩ => rfl

theorem meanCol_apply (y : FVec Ideal S512x512 .f32) (r : Fin 512) : meanCol y (ix2 r (0 : Fin 1)) = mean fun k => y (ix2 r k) := by
  unfold meanCol mean
  refine congrArg (fun s => Ideal.div s (Ideal.ofBits .f32 0x44000000#32)) ?_
  refine (shapeCast_a_a1_apply (a := 512) _ shapeCasts_S512_S512x1 r 0).trans ?_
  refine (Ideal.multiReduction_add_single y _ reduces_S512x512_S512 _ _ (ix1 r)).trans ?_
  refine Finset.sum_congr rfl fun k _ => congrArg y (funext fun a => Fin.ext ?_)
  match a with
  | ⟨0, _⟩ => rfl
  | ⟨1, _⟩ => rfl

theorem centred_apply (y : FVec Ideal S512x512 .f32) (r : Fin 512) (c : Fin 512) :
    centred y (ix2 r c) = y (ix2 r c) - mean fun k => y (ix2 r k) := by
  unfold centred
  show y (ix2 r c) - broadcastTo S512x512 (meanCol y) broadcasts_S512x1_S512x512 (ix2 r c) = _
  rw [spread_apply, meanCol_apply]

/-- The layer norm of a tile's rows, at an index. -/
theorem normTile_apply (y : FVec Ideal S512x512 .f32) (g b : Vec Ideal S1x512 .f32) (r : Fin 512) (c : Fin 512) :
    normTile y g b (ix2 r c) = norm (fun k => y (ix2 r k)) (g (ix2 (0 : Fin 1) c)) (b (ix2 (0 : Fin 1) c)) c := by
  unfold normTile norm
  have e (p q : FVec Ideal S512x512 .f32) (j : S512x512.Idx) : addf p q j = p j + q j := rfl
  have f (p q : FVec Ideal S512x512 .f32) (j : S512x512.Idx) : mulf p q j = p j * q j := rfl
  rw [e, f, f, spread_apply, broadcastTo_1b_ab_apply, broadcastTo_1b_ab_apply, centred_apply]
  have h : (rsqrt (addf (meanCol (mulf (centred y) (centred y))) (broadcast S512x1 (Scalar.ofBits .f32 0x3727C5AC#32 : Ideal .f32))) : FVec Ideal S512x1 .f32) (ix2 r (0 : Fin 1))
      = Ideal.rsqrt (meanCol (mulf (centred y) (centred y)) (ix2 r (0 : Fin 1)) + Ideal.ofBits .f32 0x3727C5AC#32) := rfl
  rw [h, meanCol_apply]
  simp only [f, centred_apply]

end Proj

end
-- ==== Proof.ProjReference.lean ====
/-
  The projections' reference, element by element.
-/
module

public import proofs.«01_k».proof.Proof.ProjValue
public import proofs.«01_k».proof.Proof.Gen.Reference4Ideal.Read
public import Idealize.ShloMosaic.Lib.IdealHost

@[expose] public section

set_option maxRecDepth 16384

noncomputable section

namespace Proj.Reference

open Cert.Reference4Ideal Cert.Reference4Ideal.Gen Cert.Reference4Ideal.Read
open Idealize.ShloMosaic
open Idealize.ShloMosaic.ValueIdx
open Experts (rowCol)
open scoped BigOperators

variable (x0 : S32768x1024.Idx → EReal) (x1 : S1024x2560.Idx → EReal) (x2 x3 : S1x512.Idx → EReal)

/-- The product of a row with the weight column `n + j`. -/
abbrev part (n : ℕ) (hn : n + 512 ≤ 2560) (p : Fin 32768) (j : Fin 512) : EReal :=
  rowCol (fun k : Fin 1024 => x0 (ix2 p k)) fun k => x1 (ix2 k (⟨n + j.val, by omega⟩ : Fin 2560))

theorem dot_at (p : Fin 32768) (f : Fin 2560) :
    val_main_v0 (F := Ideal) x0 x1 (ix2 p f) = rowCol (fun k : Fin 1024 => x0 (ix2 p k)) fun k => x1 (ix2 k f) := by
  rw [val_main_v0_apply]
  refine Finset.sum_congr rfl fun k _ => ?_
  have el : lidx_main_v0 (ix2 p f) k = ix2 p k := funext fun a => match a with | ⟨0, _⟩ => rfl | ⟨1, _⟩ => rfl
  have er : ridx_main_v0 (ix2 p f) k = ix2 k f := funext fun a => match a with | ⟨0, _⟩ => rfl | ⟨1, _⟩ => rfl
  rw [el, er]

/-- The queries before their scale. -/
theorem q0_at (p : Fin 32768) (j : Fin 512) : val_main_v1 (F := Ideal) x0 x1 (ix2 p j) = part x0 x1 0 (by omega) p j := by
  rw [val_main_v1_apply]
  have e : idx_main_v1 (ix2 p j) = ix2 p (⟨0 + j.val, by omega⟩ : Fin 2560) := funext fun a => match a with
    | ⟨0, _⟩ => Fin.ext (by show _ = p.val; first | rfl | (simp [idx_main_v1, ix2]))
    | ⟨1, _⟩ => Fin.ext (by show _ = 0 + j.val; first | rfl | (simp [idx_main_v1, ix2]) | (show j.val = 0 + j.val; omega) | (show j.val + 0 = _; omega))
  rw [e, dot_at]

/-- The keys. -/
theorem k_at (p : Fin 32768) (j : Fin 512) : val_main_v4 (F := Ideal) x0 x1 (ix2 p j) = part x0 x1 512 (by omega) p j := by
  rw [val_main_v4_apply]
  have e : idx_main_v4 (ix2 p j) = ix2 p (⟨512 + j.val, by omega⟩ : Fin 2560) := funext fun a => match a with
    | ⟨0, _⟩ => Fin.ext (by show _ = p.val; first | rfl | (simp [idx_main_v4, ix2]))
    | ⟨1, _⟩ => Fin.ext (by show _ = 512 + j.val; first | rfl | (simp [idx_main_v4, ix2]) | (show j.val = 0 + j.val; omega) | (show j.val + 512 = _; omega))
  rw [e, dot_at]

/-- The values. -/
theorem v_at (p : Fin 32768) (j : Fin 512) : val_main_v5 (F := Ideal) x0 x1 (ix2 p j) = part x0 x1 1024 (by omega) p j := by
  rw [val_main_v5_apply]
  have e : idx_main_v5 (ix2 p j) = ix2 p (⟨1024 + j.val, by omega⟩ : Fin 2560) := funext fun a => match a with
    | ⟨0, _⟩ => Fin.ext (by show _ = p.val; first | rfl | (simp [idx_main_v5, ix2]))
    | ⟨1, _⟩ => Fin.ext (by show _ = 1024 + j.val; first | rfl | (simp [idx_main_v5, ix2]) | (show j.val = 0 + j.val; omega) | (show j.val + 1024 = _; omega))
  rw [e, dot_at]

/-- The first gate half before its GELU. -/
theorem u0_at (p : Fin 32768) (j : Fin 512) : val_main_v6 (F := Ideal) x0 x1 (ix2 p j) = part x0 x1 1536 (by omega) p j := by
  rw [val_main_v6_apply]
  have e : idx_main_v6 (ix2 p j) = ix2 p (⟨1536 + j.val, by omega⟩ : Fin 2560) := funext fun a => match a with
    | ⟨0, _⟩ => Fin.ext (by show _ = p.val; first | rfl | (simp [idx_main_v6, ix2]))
    | ⟨1, _⟩ => Fin.ext (by show _ = 1536 + j.val; first | rfl | (simp [idx_main_v6, ix2]) | (show j.val = 0 + j.val; omega) | (show j.val + 1536 = _; omega))
  rw [e, dot_at]

/-- The second gate half before its GELU. -/
theorem g0_at (p : Fin 32768) (j : Fin 512) : val_main_v20 (F := Ideal) x0 x1 (ix2 p j) = part x0 x1 2048 (by omega) p j := by
  rw [val_main_v20_apply]
  have e : idx_main_v20 (ix2 p j) = ix2 p (⟨2048 + j.val, by omega⟩ : Fin 2560) := funext fun a => match a with
    | ⟨0, _⟩ => Fin.ext (by show _ = p.val; first | rfl | (simp [idx_main_v20, ix2]))
    | ⟨1, _⟩ => Fin.ext (by show _ = 2048 + j.val; first | rfl | (simp [idx_main_v20, ix2]) | (show j.val = 0 + j.val; omega) | (show j.val + 2048 = _; omega))
  rw [e, dot_at]

/-- The scaled queries. -/
theorem q_at (p : Fin 32768) (j : Fin 512) : val_main_v56 (F := Ideal) x0 x1 (ix2 p j)
    = part x0 x1 0 (by omega) p j * Ideal.ofBits .f32 0x3E000000#32 := by
  rw [val_main_v56_apply, val_main_v3_apply, val_main_v2_apply, val_main_cst_apply, q0_at]
  rfl

theorem kb_at (p : Fin 32768) (j : Fin 512) : val_main_v57 (F := Ideal) x0 x1 (ix2 p j) = part x0 x1 512 (by omega) p j := by
  rw [val_main_v57_apply, k_at]
  rfl

theorem vb_at (p : Fin 32768) (j : Fin 512) : val_main_v58 (F := Ideal) x0 x1 (ix2 p j) = part x0 x1 1024 (by omega) p j := by
  rw [val_main_v58_apply, v_at]
  rfl

/-- The two orders of the cube agree. -/
theorem gelu_swap (z : EReal) : z * (Ideal.ofBits .f32 0x3F000000#32 * (Ideal.ofBits .f32 0x3F800000#32
    + Ideal.tanh (Ideal.ofBits .f32 0x3F4C422A#32 * (z + Ideal.ofBits .f32 0x3D372713#32 * (z * z * z))))) = gelu z := by
  unfold gelu
  rw [mul_comm (z * z) z]

/-- The GELU of the first gate half. -/
theorem u_at (p : Fin 32768) (j : Fin 512) : val_main_v59 (F := Ideal) x0 x1 (ix2 p j) = gelu (part x0 x1 1536 (by omega) p j) := by
  rw [val_main_v59_apply, val_main_v19_apply, val_main_v18_apply, val_main_v17_apply, val_main_cst_3_apply, val_main_v16_apply, val_main_v15_apply,
    val_main_cst_2_apply, val_main_v14_apply, val_main_v13_apply, val_main_v12_apply, val_main_cst_1_apply, val_main_v11_apply, val_main_v10_apply,
    val_main_v9_apply, val_main_cst_0_apply, val_main_v8_apply, val_main_v7_apply, u0_at, ← gelu_swap]
  rfl

/-- A row of the second gate half's GELUs. -/
abbrev gateRow (p : Fin 32768) : Fin 512 → EReal := fun j => gelu (part x0 x1 2048 (by omega) p j)

theorem gate_at (p : Fin 32768) (j : Fin 512) : val_main_v33 (F := Ideal) x0 x1 (ix2 p j) = gateRow x0 x1 p j := by
  rw [val_main_v33_apply, val_main_v32_apply, val_main_v31_apply, val_main_cst_7_apply, val_main_v30_apply, val_main_v29_apply,
    val_main_cst_6_apply, val_main_v28_apply, val_main_v27_apply, val_main_v26_apply, val_main_cst_5_apply, val_main_v25_apply, val_main_v24_apply,
    val_main_v23_apply, val_main_cst_4_apply, val_main_v22_apply, val_main_v21_apply, g0_at]
  show _ = gelu (part x0 x1 2048 (by omega) p j)
  rw [← gelu_swap]
  rfl

/-- The mean of a row. -/
theorem mean_at (p : Fin 32768) : val_main_v37 (F := Ideal) x0 x1 (ix2 p (0 : Fin 1)) = mean (gateRow x0 x1 p) := by
  rw [val_main_v37_apply, val_main_v36_apply, val_main_cst_9_apply, val_main_v35_apply]
  have e : idx_main_v35 (ix2 p (0 : Fin 1)) = ix1 p := funext fun a => match a with | ⟨0, _⟩ => rfl
  rw [e, val_main_v34_apply, val_main_cst_8_apply]
  refine congrArg (fun s => Ideal.div s (Ideal.ofBits .f32 0x44000000#32)) ?_
  refine Eq.trans (b := Ideal.ofBits .f32 0x00000000#32 + _) rfl ?_
  rw [Ideal.ofBits_zero_f32, zero_add]
  refine Finset.sum_congr rfl fun k _ => ?_
  have ei : idx_main_v34 (ix1 p) k = ix2 p k := funext fun a => match a with | ⟨0, _⟩ => rfl | ⟨1, _⟩ => rfl
  rw [ei, gate_at]

theorem centred_at (p : Fin 32768) (c : Fin 512) :
    val_main_v39 (F := Ideal) x0 x1 (ix2 p c) = gateRow x0 x1 p c - mean (gateRow x0 x1 p) := by
  rw [val_main_v39_apply, val_main_v38_apply, gate_at]
  have e : idx_main_v38 (ix2 p c) = ix2 p (0 : Fin 1) := funext fun a => match a with | ⟨0, _⟩ => rfl | ⟨1, _⟩ => rfl
  rw [e, mean_at]
  rfl

theorem centred_at' (p : Fin 32768) (c : Fin 512) :
    val_main_v46 (F := Ideal) x0 x1 (ix2 p c) = gateRow x0 x1 p c - mean (gateRow x0 x1 p) := by
  rw [val_main_v46_apply, val_main_v45_apply, gate_at]
  have e : idx_main_v45 (ix2 p c) = ix2 p (0 : Fin 1) := funext fun a => match a with | ⟨0, _⟩ => rfl | ⟨1, _⟩ => rfl
  rw [e, mean_at]
  rfl

/-- The variance of a row. -/
theorem var_at (p : Fin 32768) : val_main_v44 (F := Ideal) x0 x1 (ix2 p (0 : Fin 1))
    = mean fun k => (gateRow x0 x1 p k - mean (gateRow x0 x1 p)) * (gateRow x0 x1 p k - mean (gateRow x0 x1 p)) := by
  rw [val_main_v44_apply, val_main_v43_apply, val_main_cst_11_apply, val_main_v42_apply]
  have e : idx_main_v42 (ix2 p (0 : Fin 1)) = ix1 p := funext fun a => match a with | ⟨0, _⟩ => rfl
  rw [e, val_main_v41_apply, val_main_cst_10_apply]
  refine congrArg (fun s => Ideal.div s (Ideal.ofBits .f32 0x44000000#32)) ?_
  refine Eq.trans (b := Ideal.ofBits .f32 0x00000000#32 + _) rfl ?_
  rw [Ideal.ofBits_zero_f32, zero_add]
  refine Finset.sum_congr rfl fun k _ => ?_
  have ei : idx_main_v41 (ix1 p) k = ix2 p k := funext fun a => match a with | ⟨0, _⟩ => rfl | ⟨1, _⟩ => rfl
  rw [ei, val_main_v40_apply, centred_at]
  rfl

/-- The normed second gate half, at an index. -/
theorem gv_at (p : Fin 32768) (c : Fin 512) : val_main_v60 (F := Ideal) x0 x1 x2 x3 (ix2 p c)
    = norm (gateRow x0 x1 p) (x2 (ix2 (0 : Fin 1) c)) (x3 (ix2 (0 : Fin 1) c)) c := by
  rw [val_main_v60_apply, val_main_v55_apply, val_main_v54_apply, val_main_v53_apply, val_main_v52_apply, val_main_v51_apply, val_main_v50_apply,
    val_main_v49_apply, val_main_v48_apply, val_main_v47_apply, val_main_cst_12_apply, centred_at']
  have e4 : idx_main_v50 (ix2 p c) = ix2 p (0 : Fin 1) := funext fun a => match a with | ⟨0, _⟩ => rfl | ⟨1, _⟩ => rfl
  have e6 : idx_main_v52 (ix2 p c) = ix2 (0 : Fin 1) c := funext fun a => match a with | ⟨0, _⟩ => rfl | ⟨1, _⟩ => rfl
  have e8 : idx_main_v54 (ix2 p c) = ix2 (0 : Fin 1) c := funext fun a => match a with | ⟨0, _⟩ => rfl | ⟨1, _⟩ => rfl
  rw [e4, e6, e8, var_at]
  rfl

end Proj.Reference

end
-- ==== Proof.ProjClaim.lean ====
/-
  The projections' kernel: its seven result arrays, element by element, are the reference's.
-/
module

public import proofs.«01_k».proof.Proof.ProjReference
public import proofs.«01_k».proof.Proof.Gen.Kernel4Ideal.Value

@[expose] public section

set_option maxRecDepth 16384

noncomputable section

namespace Proj

open Cert.Kernel4Ideal Cert.Kernel4Ideal.Gen
open Idealize.ShloMosaic
open Idealize.ShloMosaic.TcCoe
open Idealize.SL Idealize.SL.Sem
open Idealize.ShloMosaic.ValueIdx
open Experts (rowCol)
open scoped BigOperators

/-! ## A tile -/

theorem off_zero : (![0, 0] : Fin 2 → ℕ) = fun _ => 0 := by
  funext a; fin_cases a <;> rfl

/-- The product of a tile's row with the weight column `n + j`. -/
abbrev tpart (x : S512x1024.Idx → EReal) (w : S1024x2560.Idx → EReal) (n : ℕ) (hn : n + 512 ≤ 2560) (r j : Fin 512) : EReal :=
  rowCol (fun k : Fin 1024 => x (ix2 r k)) fun k => w (ix2 k (⟨n + j.val, by omega⟩ : Fin 2560))

/-- The columns from `n`, at an index. -/
theorem cols_apply (w : S1024x2560.Idx → EReal) (n : ℕ) (h : ∀ a, (![0, n] : Fin 2 → ℕ) a + S1024x512.size a ≤ S1024x2560.size a)
    (k : Fin 1024) (f : Fin 512) (hn : n + f.val < 2560) :
    View.ld (Val := Elt Ideal) (e' := .bf16) w (Rect.unit (s := S1024x2560) ![0, n] S1024x512.size h) (ix2 k f) = w (ix2 k ⟨n + f.val, hn⟩) := by
  refine congrArg w (funext fun b => Fin.ext ?_)
  match b with
  | ⟨0, _⟩ => show 0 + 1 * k.val = k.val; omega
  | ⟨1, _⟩ => show n + 1 * f.val = n + f.val; omega

theorem prod_at (x : S512x1024.Idx → EReal) (w : S1024x2560.Idx → EReal) (n : ℕ)
    (h : ∀ a, (![0, n] : Fin 2 → ℕ) a + S1024x512.size a ≤ S1024x2560.size a) (hn : n + 512 ≤ 2560) (r j : Fin 512) :
    prod (F := Ideal) (k0_pay2 (F := Ideal) x) (View.ld (Val := Elt Ideal) (e' := .bf16) w (Rect.unit (s := S1024x2560) ![0, n] S1024x512.size h)) (ix2 r j)
      = tpart x w n hn r j := by
  rw [prod_apply]
  have hf : n + j.val < 2560 := by omega
  simp only [fun k => cols_apply w n h k j hf]
  rfl

theorem q_tile (x : S512x1024.Idx → EReal) (w : S1024x2560.Idx → EReal) (g b : S1x512.Idx → EReal) (r c : Fin 512) :
    (out0_4 (F := Ideal) x w g b : S512x512.Idx → EReal) (ix2 r c)
      = tpart x w 0 (by omega) r c * Ideal.ofBits .f32 0x3E000000#32 := by
  unfold out0_4
  rw [View.canon_unit_zero off_zero]
  have ex : View.ld (Val := Elt Ideal) (e' := .f32) x r0_0 = x := View.ld_unit_zero (S := S512x1024) (Val := Elt Ideal) (e := .f32) off_zero inb_S512x1024_S512x1024_0_0 x
  rw [ex, pay3_eq]
  exact congrArg (· * Ideal.ofBits .f32 0x3E000000#32) (prod_at x w 0 _ (by omega) r c)

theorem k_tile (x : S512x1024.Idx → EReal) (w : S1024x2560.Idx → EReal) (g b : S1x512.Idx → EReal) (r c : Fin 512) :
    (out0_5 (F := Ideal) x w g b : S512x512.Idx → EReal) (ix2 r c)
      = tpart x w 512 (by omega) r c := by
  unfold out0_5
  rw [View.canon_unit_zero off_zero]
  have ex : View.ld (Val := Elt Ideal) (e' := .f32) x r0_0 = x := View.ld_unit_zero (S := S512x1024) (Val := Elt Ideal) (e := .f32) off_zero inb_S512x1024_S512x1024_0_0 x
  rw [ex, pay4_eq]
  exact (prod_at x w 512 _ (by omega) r c)

theorem v_tile (x : S512x1024.Idx → EReal) (w : S1024x2560.Idx → EReal) (g b : S1x512.Idx → EReal) (r c : Fin 512) :
    (out0_6 (F := Ideal) x w g b : S512x512.Idx → EReal) (ix2 r c)
      = tpart x w 1024 (by omega) r c := by
  unfold out0_6
  rw [View.canon_unit_zero off_zero]
  have ex : View.ld (Val := Elt Ideal) (e' := .f32) x r0_0 = x := View.ld_unit_zero (S := S512x1024) (Val := Elt Ideal) (e := .f32) off_zero inb_S512x1024_S512x1024_0_0 x
  rw [ex, pay6_eq]
  exact (prod_at x w 1024 _ (by omega) r c)

theorem kb_tile (x : S512x1024.Idx → EReal) (w : S1024x2560.Idx → EReal) (g b : S1x512.Idx → EReal) (r c : Fin 512) :
    (out0_7 (F := Ideal) x w g b : S512x512.Idx → EReal) (ix2 r c)
      = tpart x w 512 (by omega) r c := by
  unfold out0_7
  rw [View.canon_unit_zero off_zero]
  have ex : View.ld (Val := Elt Ideal) (e' := .f32) x r0_0 = x := View.ld_unit_zero (S := S512x1024) (Val := Elt Ideal) (e := .f32) off_zero inb_S512x1024_S512x1024_0_0 x
  rw [ex, pay5_eq]
  exact (prod_at x w 512 _ (by omega) r c)

theorem vb_tile (x : S512x1024.Idx → EReal) (w : S1024x2560.Idx → EReal) (g b : S1x512.Idx → EReal) (r c : Fin 512) :
    (out0_8 (F := Ideal) x w g b : S512x512.Idx → EReal) (ix2 r c)
      = tpart x w 1024 (by omega) r c := by
  unfold out0_8
  rw [View.canon_unit_zero off_zero]
  have ex : View.ld (Val := Elt Ideal) (e' := .f32) x r0_0 = x := View.ld_unit_zero (S := S512x1024) (Val := Elt Ideal) (e := .f32) off_zero inb_S512x1024_S512x1024_0_0 x
  rw [ex, pay7_eq]
  exact (prod_at x w 1024 _ (by omega) r c)

theorem u_tile (x : S512x1024.Idx → EReal) (w : S1024x2560.Idx → EReal) (g b : S1x512.Idx → EReal) (r c : Fin 512) :
    (out0_9 (F := Ideal) x w g b : S512x512.Idx → EReal) (ix2 r c)
      = gelu (tpart x w 1536 (by omega) r c) := by
  unfold out0_9
  rw [View.canon_unit_zero off_zero]
  have ex : View.ld (Val := Elt Ideal) (e' := .f32) x r0_0 = x := View.ld_unit_zero (S := S512x1024) (Val := Elt Ideal) (e := .f32) off_zero inb_S512x1024_S512x1024_0_0 x
  rw [ex, pay10_eq]
  exact congrArg gelu (prod_at x w 1536 _ (by omega) r c)

theorem gv_tile (x : S512x1024.Idx → EReal) (w : S1024x2560.Idx → EReal) (g b : S1x512.Idx → EReal) (r c : Fin 512) :
    (out0_10 (F := Ideal) x w g b : S512x512.Idx → EReal) (ix2 r c)
      = norm (fun c => gelu (tpart x w 2048 (by omega) r c)) (g (ix2 (0 : Fin 1) c)) (b (ix2 (0 : Fin 1) c)) c := by
  unfold out0_10 k0_pay14
  rw [View.canon_unit_zero off_zero]
  have ex : View.ld (Val := Elt Ideal) (e' := .f32) x r0_0 = x := View.ld_unit_zero (S := S512x1024) (Val := Elt Ideal) (e := .f32) off_zero inb_S512x1024_S512x1024_0_0 x
  have eg : View.ld (Val := Elt Ideal) (e' := .f32) g r0_7 = g := View.ld_unit_zero (S := S1x512) (Val := Elt Ideal) (e := .f32) off_zero inb_S1x512_S1x512_0_0 g
  have eb : View.ld (Val := Elt Ideal) (e' := .f32) b r0_7 = b := View.ld_unit_zero (S := S1x512) (Val := Elt Ideal) (e := .f32) off_zero inb_S1x512_S1x512_0_0 b
  rw [ex, eg, eb, pay1_eq]
  refine Eq.trans (b := normTile (F := Ideal) (geluTile (prod (k0_pay2 (F := Ideal) x) (View.ld (Val := Elt Ideal) (e' := .bf16) w r0_6))) g b (ix2 r c)) rfl ?_
  rw [normTile_apply]
  refine congrArg (fun y => norm y (g (ix2 (0 : Fin 1) c)) (b (ix2 (0 : Fin 1) c)) c) (funext fun j => ?_)
  rw [geluTile_apply]
  exact congrArg gelu (prod_at x w 2048 _ (by omega) r j)

/-! ## The arrays -/

theorem ofNat_val (t : Fin 64) : (BitVec.ofNat 32 t.val).toNat = t.val := by
  rw [BitVec.toNat_ofNat]; exact Nat.mod_eq_of_lt (by omega)
theorem transform0 (i : grid0.Coords) : cc0_transform_0 i = ![(i 0).val, 0] := by
  unfold cc0_transform_0; dsimp only; rw [ofNat_val (i 0)]; rfl

/-- The grid's points are the tiles. -/
abbrev pt (t : Fin 64) : Fin cfg0.N := ⟨t.val, by show t.val < grid0.N; rw [N_0]; exact t.isLt⟩

theorem coord_pt (t : Fin 64) : ((grid0.coords (pt t)) 0).val = t.val := by
  have h := Pipeline.Grid.coords_val (G := grid0) (pt t) 0 (S := 1) (B := 64) (by decide) rfl
  refine h.trans ?_
  show t.val / 1 % 64 = t.val
  have := t.isLt
  omega

/-- The rows of a tile. -/
abbrev tileRow (t : Fin 64) (r : Fin 512) : Fin 32768 := ⟨512 * t.val + r.val, by omega⟩

/-- Every element of a result is a tile's. -/
theorem exists_tile (i : S32768x512.Idx) : ∃ (t : Fin 64) (r k : Fin 512), ix2 (tileRow t r) k = i := by
  have h0 : (i 0).val < 32768 := (i 0).isLt
  refine ⟨⟨(i 0).val / 512, by omega⟩, ⟨(i 0).val % 512, by omega⟩, i 1, funext fun a => Fin.ext ?_⟩
  match a with
  | ⟨0, _⟩ => show 512 * ((i 0).val / 512) + (i 0).val % 512 = (i 0).val; omega
  | ⟨1, _⟩ => rfl

variable (m : (ℓ : Loc nD τ sig) → Buf (Elt Ideal) ℓ) (c : Dev nD)

theorem xblk (t : Fin 64) (r : Fin 512) (k : Fin 1024) :
    (iblk m c (0 : Fin 11) (pt t) : S512x1024.Idx → EReal) (ix2 r k) = (m ((c : Thread nD τ).loc main_arg0) : S32768x1024.Idx → EReal) (ix2 (tileRow t r) k) := by
  rw [← V_main_arg0 m c]
  refine congrArg (V m c main_arg0 : S32768x1024.Idx → EReal) (funext fun b => Fin.ext ?_)
  refine (Pipeline.Window.rect_emb_val (cfg0.win (0 : Fin 11)) (pt t) (ix2 r k) b rfl).trans ?_
  show cc0_transform_0 (grid0.coords (pt t)) b * S512x1024.size b + _ = _
  rw [transform0]
  have e := coord_pt t
  match b with
  | ⟨0, _⟩ => show ((grid0.coords (pt t)) 0).val * 512 + r.val = 512 * t.val + r.val; rw [e]; omega
  | ⟨1, _⟩ => show 0 * 1024 + k.val = k.val; omega

theorem V_w : (V m c main_v0 : S1024x2560.Idx → EReal) = (m ((c : Thread nD τ).loc main_arg1) : S1024x2560.Idx → EReal) := by
  show StableHlo.after hostOps0 _ _ = _
  simp only [hostOps0]
  after_results_simp
  rfl

theorem wblk (t : Fin 64) (k : Fin 1024) (f : Fin 2560) :
    (iblk m c (1 : Fin 11) (pt t) : S1024x2560.Idx → EReal) (ix2 k f) = (m ((c : Thread nD τ).loc main_arg1) : S1024x2560.Idx → EReal) (ix2 k f) := by
  rw [← V_w m c]
  refine congrArg (V m c main_v0 : S1024x2560.Idx → EReal) (funext fun b => Fin.ext ?_)
  refine (Pipeline.Window.rect_emb_val (cfg0.win (1 : Fin 11)) (pt t) (ix2 k f) b rfl).trans ?_
  match b with
  | ⟨0, _⟩ => show 0 * 1024 + k.val = k.val; omega
  | ⟨1, _⟩ => show 0 * 2560 + f.val = f.val; omega
theorem gblk (t : Fin 64) (k : Fin 512) :
    (iblk m c (2 : Fin 11) (pt t) : S1x512.Idx → EReal) (ix2 (0 : Fin 1) k) = (m ((c : Thread nD τ).loc main_arg2) : S1x512.Idx → EReal) (ix2 (0 : Fin 1) k) := by
  rw [← V_main_arg2 m c]
  refine congrArg (V m c main_arg2 : S1x512.Idx → EReal) (funext fun b => Fin.ext ?_)
  refine (Pipeline.Window.rect_emb_val (cfg0.win (2 : Fin 11)) (pt t) (ix2 (0 : Fin 1) k) b rfl).trans ?_
  match b with
  | ⟨0, _⟩ => rfl
  | ⟨1, _⟩ => show 0 * 512 + k.val = k.val; omega
theorem bblk (t : Fin 64) (k : Fin 512) :
    (iblk m c (3 : Fin 11) (pt t) : S1x512.Idx → EReal) (ix2 (0 : Fin 1) k) = (m ((c : Thread nD τ).loc main_arg3) : S1x512.Idx → EReal) (ix2 (0 : Fin 1) k) := by
  rw [← V_main_arg3 m c]
  refine congrArg (V m c main_arg3 : S1x512.Idx → EReal) (funext fun b => Fin.ext ?_)
  refine (Pipeline.Window.rect_emb_val (cfg0.win (3 : Fin 11)) (pt t) (ix2 (0 : Fin 1) k) b rfl).trans ?_
  match b with
  | ⟨0, _⟩ => rfl
  | ⟨1, _⟩ => show 0 * 512 + k.val = k.val; omega

theorem transform4 (i : grid0.Coords) : cc0_transform_4 i = ![(i 0).val, 0] := by
  unfold cc0_transform_4; dsimp only; rw [ofNat_val (i 0)]; rfl

theorem q_emb (t : Fin 64) (r k : Fin 512) : ((cfg0.win (4 : Fin 11)).blk (pt t)).view.emb (ix2 r k) = (ix2 (tileRow t r) k : S32768x512.Idx) := by
  refine funext fun b => Fin.ext ?_
  refine (Pipeline.Window.rect_emb_val (cfg0.win (4 : Fin 11)) (pt t) (ix2 r k) b rfl).trans ?_
  show cc0_transform_4 (grid0.coords (pt t)) b * S512x512.size b + _ = _
  rw [transform4]
  have e := coord_pt t
  match b with
  | ⟨0, _⟩ => show ((grid0.coords (pt t)) 0).val * 512 + r.val = 512 * t.val + r.val; rw [e]; omega
  | ⟨1, _⟩ => show 0 * 512 + k.val = k.val; omega

/-- The reference's result of the kernel's arguments. -/
abbrev qGoal : S32768x512.Idx → EReal :=
  Cert.Reference4Ideal.Read.val_main_v56 (F := Ideal) (m ((c : Thread nD τ).loc main_arg0)) (m ((c : Thread nD τ).loc main_arg1))

theorem q_array : ((dats m 0 c).arrAt 4 cfg0.N : S32768x512.Idx → EReal) = qGoal m c := by
  funext i
  obtain ⟨t, r, k, rfl⟩ := exists_tile i
  have h := congrFun (Cert.Kernel4Ideal.Value.blocks4 m c (pt t) (flush0_4 (pt t))) (ix2 r k)
  rw [Cert.Kernel4Ideal.Value.flushed4] at h
  have hl : ((dats m 0 c).arrAt 4 cfg0.N : S32768x512.Idx → EReal) (ix2 (tileRow t r) k)
      = ((cfg0.win 4).blk (pt t)).view.read (Elt Ideal) ((dats m 0 c).arrAt 4 cfg0.N) (ix2 r k) :=
    congrArg ((dats m 0 c).arrAt 4 cfg0.N : S32768x512.Idx → EReal) (q_emb t r k).symm
  refine hl.trans (h.trans ?_)
  refine (q_tile (iblk m c 0 (pt t)) (iblk m c 1 (pt t)) (iblk m c 2 (pt t)) (iblk m c 3 (pt t)) r k).trans ?_
  simp only [tpart, xblk, wblk]
  exact (Reference.q_at _ _ (tileRow t r) k).symm

theorem transform5 (i : grid0.Coords) : cc0_transform_5 i = ![(i 0).val, 0] := by
  unfold cc0_transform_5; dsimp only; rw [ofNat_val (i 0)]; rfl

theorem k_emb (t : Fin 64) (r k : Fin 512) : ((cfg0.win (5 : Fin 11)).blk (pt t)).view.emb (ix2 r k) = (ix2 (tileRow t r) k : S32768x512.Idx) := by
  refine funext fun b => Fin.ext ?_
  refine (Pipeline.Window.rect_emb_val (cfg0.win (5 : Fin 11)) (pt t) (ix2 r k) b rfl).trans ?_
  show cc0_transform_5 (grid0.coords (pt t)) b * S512x512.size b + _ = _
  rw [transform5]
  have e := coord_pt t
  match b with
  | ⟨0, _⟩ => show ((grid0.coords (pt t)) 0).val * 512 + r.val = 512 * t.val + r.val; rw [e]; omega
  | ⟨1, _⟩ => show 0 * 512 + k.val = k.val; omega

/-- The reference's result of the kernel's arguments. -/
abbrev kGoal : S32768x512.Idx → EReal :=
  Cert.Reference4Ideal.Read.val_main_v4 (F := Ideal) (m ((c : Thread nD τ).loc main_arg0)) (m ((c : Thread nD τ).loc main_arg1))

theorem k_array : ((dats m 0 c).arrAt 5 cfg0.N : S32768x512.Idx → EReal) = kGoal m c := by
  funext i
  obtain ⟨t, r, k, rfl⟩ := exists_tile i
  have h := congrFun (Cert.Kernel4Ideal.Value.blocks5 m c (pt t) (flush0_5 (pt t))) (ix2 r k)
  rw [Cert.Kernel4Ideal.Value.flushed5] at h
  have hl : ((dats m 0 c).arrAt 5 cfg0.N : S32768x512.Idx → EReal) (ix2 (tileRow t r) k)
      = ((cfg0.win 5).blk (pt t)).view.read (Elt Ideal) ((dats m 0 c).arrAt 5 cfg0.N) (ix2 r k) :=
    congrArg ((dats m 0 c).arrAt 5 cfg0.N : S32768x512.Idx → EReal) (k_emb t r k).symm
  refine hl.trans (h.trans ?_)
  refine (k_tile (iblk m c 0 (pt t)) (iblk m c 1 (pt t)) (iblk m c 2 (pt t)) (iblk m c 3 (pt t)) r k).trans ?_
  simp only [tpart, xblk, wblk]
  exact (Reference.k_at _ _ (tileRow t r) k).symm

theorem transform6 (i : grid0.Coords) : cc0_transform_6 i = ![(i 0).val, 0] := by
  unfold cc0_transform_6; dsimp only; rw [ofNat_val (i 0)]; rfl

theorem v_emb (t : Fin 64) (r k : Fin 512) : ((cfg0.win (6 : Fin 11)).blk (pt t)).view.emb (ix2 r k) = (ix2 (tileRow t r) k : S32768x512.Idx) := by
  refine funext fun b => Fin.ext ?_
  refine (Pipeline.Window.rect_emb_val (cfg0.win (6 : Fin 11)) (pt t) (ix2 r k) b rfl).trans ?_
  show cc0_transform_6 (grid0.coords (pt t)) b * S512x512.size b + _ = _
  rw [transform6]
  have e := coord_pt t
  match b with
  | ⟨0, _⟩ => show ((grid0.coords (pt t)) 0).val * 512 + r.val = 512 * t.val + r.val; rw [e]; omega
  | ⟨1, _⟩ => show 0 * 512 + k.val = k.val; omega

/-- The reference's result of the kernel's arguments. -/
abbrev vGoal : S32768x512.Idx → EReal :=
  Cert.Reference4Ideal.Read.val_main_v5 (F := Ideal) (m ((c : Thread nD τ).loc main_arg0)) (m ((c : Thread nD τ).loc main_arg1))

theorem v_array : ((dats m 0 c).arrAt 6 cfg0.N : S32768x512.Idx → EReal) = vGoal m c := by
  funext i
  obtain ⟨t, r, k, rfl⟩ := exists_tile i
  have h := congrFun (Cert.Kernel4Ideal.Value.blocks6 m c (pt t) (flush0_6 (pt t))) (ix2 r k)
  rw [Cert.Kernel4Ideal.Value.flushed6] at h
  have hl : ((dats m 0 c).arrAt 6 cfg0.N : S32768x512.Idx → EReal) (ix2 (tileRow t r) k)
      = ((cfg0.win 6).blk (pt t)).view.read (Elt Ideal) ((dats m 0 c).arrAt 6 cfg0.N) (ix2 r k) :=
    congrArg ((dats m 0 c).arrAt 6 cfg0.N : S32768x512.Idx → EReal) (v_emb t r k).symm
  refine hl.trans (h.trans ?_)
  refine (v_tile (iblk m c 0 (pt t)) (iblk m c 1 (pt t)) (iblk m c 2 (pt t)) (iblk m c 3 (pt t)) r k).trans ?_
  simp only [tpart, xblk, wblk]
  exact (Reference.v_at _ _ (tileRow t r) k).symm

theorem transform7 (i : grid0.Coords) : cc0_transform_7 i = ![(i 0).val, 0] := by
  unfold cc0_transform_7; dsimp only; rw [ofNat_val (i 0)]; rfl

theorem kb_emb (t : Fin 64) (r k : Fin 512) : ((cfg0.win (7 : Fin 11)).blk (pt t)).view.emb (ix2 r k) = (ix2 (tileRow t r) k : S32768x512.Idx) := by
  refine funext fun b => Fin.ext ?_
  refine (Pipeline.Window.rect_emb_val (cfg0.win (7 : Fin 11)) (pt t) (ix2 r k) b rfl).trans ?_
  show cc0_transform_7 (grid0.coords (pt t)) b * S512x512.size b + _ = _
  rw [transform7]
  have e := coord_pt t
  match b with
  | ⟨0, _⟩ => show ((grid0.coords (pt t)) 0).val * 512 + r.val = 512 * t.val + r.val; rw [e]; omega
  | ⟨1, _⟩ => show 0 * 512 + k.val = k.val; omega

/-- The reference's result of the kernel's arguments. -/
abbrev kbGoal : S32768x512.Idx → EReal :=
  Cert.Reference4Ideal.Read.val_main_v57 (F := Ideal) (m ((c : Thread nD τ).loc main_arg0)) (m ((c : Thread nD τ).loc main_arg1))

theorem kb_array : ((dats m 0 c).arrAt 7 cfg0.N : S32768x512.Idx → EReal) = kbGoal m c := by
  funext i
  obtain ⟨t, r, k, rfl⟩ := exists_tile i
  have h := congrFun (Cert.Kernel4Ideal.Value.blocks7 m c (pt t) (flush0_7 (pt t))) (ix2 r k)
  rw [Cert.Kernel4Ideal.Value.flushed7] at h
  have hl : ((dats m 0 c).arrAt 7 cfg0.N : S32768x512.Idx → EReal) (ix2 (tileRow t r) k)
      = ((cfg0.win 7).blk (pt t)).view.read (Elt Ideal) ((dats m 0 c).arrAt 7 cfg0.N) (ix2 r k) :=
    congrArg ((dats m 0 c).arrAt 7 cfg0.N : S32768x512.Idx → EReal) (kb_emb t r k).symm
  refine hl.trans (h.trans ?_)
  refine (kb_tile (iblk m c 0 (pt t)) (iblk m c 1 (pt t)) (iblk m c 2 (pt t)) (iblk m c 3 (pt t)) r k).trans ?_
  simp only [tpart, xblk, wblk]
  exact (Reference.kb_at _ _ (tileRow t r) k).symm

theorem transform8 (i : grid0.Coords) : cc0_transform_8 i = ![(i 0).val, 0] := by
  unfold cc0_transform_8; dsimp only; rw [ofNat_val (i 0)]; rfl

theorem vb_emb (t : Fin 64) (r k : Fin 512) : ((cfg0.win (8 : Fin 11)).blk (pt t)).view.emb (ix2 r k) = (ix2 (tileRow t r) k : S32768x512.Idx) := by
  refine funext fun b => Fin.ext ?_
  refine (Pipeline.Window.rect_emb_val (cfg0.win (8 : Fin 11)) (pt t) (ix2 r k) b rfl).trans ?_
  show cc0_transform_8 (grid0.coords (pt t)) b * S512x512.size b + _ = _
  rw [transform8]
  have e := coord_pt t
  match b with
  | ⟨0, _⟩ => show ((grid0.coords (pt t)) 0).val * 512 + r.val = 512 * t.val + r.val; rw [e]; omega
  | ⟨1, _⟩ => show 0 * 512 + k.val = k.val; omega

/-- The reference's result of the kernel's arguments. -/
abbrev vbGoal : S32768x512.Idx → EReal :=
  Cert.Reference4Ideal.Read.val_main_v58 (F := Ideal) (m ((c : Thread nD τ).loc main_arg0)) (m ((c : Thread nD τ).loc main_arg1))

theorem vb_array : ((dats m 0 c).arrAt 8 cfg0.N : S32768x512.Idx → EReal) = vbGoal m c := by
  funext i
  obtain ⟨t, r, k, rfl⟩ := exists_tile i
  have h := congrFun (Cert.Kernel4Ideal.Value.blocks8 m c (pt t) (flush0_8 (pt t))) (ix2 r k)
  rw [Cert.Kernel4Ideal.Value.flushed8] at h
  have hl : ((dats m 0 c).arrAt 8 cfg0.N : S32768x512.Idx → EReal) (ix2 (tileRow t r) k)
      = ((cfg0.win 8).blk (pt t)).view.read (Elt Ideal) ((dats m 0 c).arrAt 8 cfg0.N) (ix2 r k) :=
    congrArg ((dats m 0 c).arrAt 8 cfg0.N : S32768x512.Idx → EReal) (vb_emb t r k).symm
  refine hl.trans (h.trans ?_)
  refine (vb_tile (iblk m c 0 (pt t)) (iblk m c 1 (pt t)) (iblk m c 2 (pt t)) (iblk m c 3 (pt t)) r k).trans ?_
  simp only [tpart, xblk, wblk]
  exact (Reference.vb_at _ _ (tileRow t r) k).symm

theorem transform9 (i : grid0.Coords) : cc0_transform_9 i = ![(i 0).val, 0] := by
  unfold cc0_transform_9; dsimp only; rw [ofNat_val (i 0)]; rfl

theorem u_emb (t : Fin 64) (r k : Fin 512) : ((cfg0.win (9 : Fin 11)).blk (pt t)).view.emb (ix2 r k) = (ix2 (tileRow t r) k : S32768x512.Idx) := by
  refine funext fun b => Fin.ext ?_
  refine (Pipeline.Window.rect_emb_val (cfg0.win (9 : Fin 11)) (pt t) (ix2 r k) b rfl).trans ?_
  show cc0_transform_9 (grid0.coords (pt t)) b * S512x512.size b + _ = _
  rw [transform9]
  have e := coord_pt t
  match b with
  | ⟨0, _⟩ => show ((grid0.coords (pt t)) 0).val * 512 + r.val = 512 * t.val + r.val; rw [e]; omega
  | ⟨1, _⟩ => show 0 * 512 + k.val = k.val; omega

/-- The reference's result of the kernel's arguments. -/
abbrev uGoal : S32768x512.Idx → EReal :=
  Cert.Reference4Ideal.Read.val_main_v59 (F := Ideal) (m ((c : Thread nD τ).loc main_arg0)) (m ((c : Thread nD τ).loc main_arg1))

theorem u_array : ((dats m 0 c).arrAt 9 cfg0.N : S32768x512.Idx → EReal) = uGoal m c := by
  funext i
  obtain ⟨t, r, k, rfl⟩ := exists_tile i
  have h := congrFun (Cert.Kernel4Ideal.Value.blocks9 m c (pt t) (flush0_9 (pt t))) (ix2 r k)
  rw [Cert.Kernel4Ideal.Value.flushed9] at h
  have hl : ((dats m 0 c).arrAt 9 cfg0.N : S32768x512.Idx → EReal) (ix2 (tileRow t r) k)
      = ((cfg0.win 9).blk (pt t)).view.read (Elt Ideal) ((dats m 0 c).arrAt 9 cfg0.N) (ix2 r k) :=
    congrArg ((dats m 0 c).arrAt 9 cfg0.N : S32768x512.Idx → EReal) (u_emb t r k).symm
  refine hl.trans (h.trans ?_)
  refine (u_tile (iblk m c 0 (pt t)) (iblk m c 1 (pt t)) (iblk m c 2 (pt t)) (iblk m c 3 (pt t)) r k).trans ?_
  simp only [tpart, xblk, wblk]
  exact (Reference.u_at _ _ (tileRow t r) k).symm

theorem transform10 (i : grid0.Coords) : cc0_transform_10 i = ![(i 0).val, 0] := by
  unfold cc0_transform_10; dsimp only; rw [ofNat_val (i 0)]; rfl

theorem gv_emb (t : Fin 64) (r k : Fin 512) : ((cfg0.win (10 : Fin 11)).blk (pt t)).view.emb (ix2 r k) = (ix2 (tileRow t r) k : S32768x512.Idx) := by
  refine funext fun b => Fin.ext ?_
  refine (Pipeline.Window.rect_emb_val (cfg0.win (10 : Fin 11)) (pt t) (ix2 r k) b rfl).trans ?_
  show cc0_transform_10 (grid0.coords (pt t)) b * S512x512.size b + _ = _
  rw [transform10]
  have e := coord_pt t
  match b with
  | ⟨0, _⟩ => show ((grid0.coords (pt t)) 0).val * 512 + r.val = 512 * t.val + r.val; rw [e]; omega
  | ⟨1, _⟩ => show 0 * 512 + k.val = k.val; omega

/-- The reference's result of the kernel's arguments. -/
abbrev gvGoal : S32768x512.Idx → EReal :=
  Cert.Reference4Ideal.Read.val_main_v60 (F := Ideal) (m ((c : Thread nD τ).loc main_arg0)) (m ((c : Thread nD τ).loc main_arg1)) (m ((c : Thread nD τ).loc main_arg2)) (m ((c : Thread nD τ).loc main_arg3))

theorem gv_array : ((dats m 0 c).arrAt 10 cfg0.N : S32768x512.Idx → EReal) = gvGoal m c := by
  funext i
  obtain ⟨t, r, k, rfl⟩ := exists_tile i
  have h := congrFun (Cert.Kernel4Ideal.Value.blocks10 m c (pt t) (flush0_10 (pt t))) (ix2 r k)
  rw [Cert.Kernel4Ideal.Value.flushed10] at h
  have hl : ((dats m 0 c).arrAt 10 cfg0.N : S32768x512.Idx → EReal) (ix2 (tileRow t r) k)
      = ((cfg0.win 10).blk (pt t)).view.read (Elt Ideal) ((dats m 0 c).arrAt 10 cfg0.N) (ix2 r k) :=
    congrArg ((dats m 0 c).arrAt 10 cfg0.N : S32768x512.Idx → EReal) (gv_emb t r k).symm
  refine hl.trans (h.trans ?_)
  refine (gv_tile (iblk m c 0 (pt t)) (iblk m c 1 (pt t)) (iblk m c 2 (pt t)) (iblk m c 3 (pt t)) r k).trans ?_
  simp only [tpart, xblk, wblk, gblk, bblk]
  exact (Reference.gv_at _ _ _ _ (tileRow t r) k).symm

end Proj

end
-- ==== Proof.Lane.lean ====
/-
  One column block's pass of the row gather, written once.

  The tile program of the row gather makes the same pipelined pass four times, once per block of 256 columns, and is
  printed as four copies that differ in their buffers, in their semaphores and in one column number. Here the pass is
  written once over those: the first index fetch (`first`), a trip of the pipeline (`trip`), the loops and the last
  wait (`rest`). Each of the four printed copies is this pass, by unfolding (LaneEq.lean), so that what is
  proved of the pass is proved of all four.
-/
module

public import proofs.«01_k».proof.Proof.Gen.KernelIdeal
public import proofs.«01_k».proof.Proof.Gen.KernelIdeal.Skeleton

@[expose] public section

set_option synthInstance.maxSize 4096

noncomputable section

namespace Cert.Proof.Gather

open Cert.KernelIdeal Cert.KernelIdeal.Gen
open Idealize.ShloMosaic Idealize.SL.Sem

variable {F : FTy → Type} [FloatOps F]

/-- Where the write-out of a trip begins in the result: the printed row, and column block `col`. -/
def oOff (col : Nat) (i : grid0.Coords) (a10 : BitVec 32) : Fin 2 → Nat := ![k0_off13 i a10 0, 256 * col]
/-- Where the write-out that a trip awaits begins. -/
def oOff' (col : Nat) (i : grid0.Coords) (a10 : BitVec 32) : Fin 2 → Nat := ![k0_off16 i a10 0, 256 * col]
/-- Where the last write-out begins. -/
def oOffZ (col : Nat) (i : grid0.Coords) (a10 : BitVec 32) : Fin 2 → Nat := ![k0_off33 i a10 0, 256 * col]

/-- What a trip assumes of its five carried words: every slice that it takes lies in its buffer. -/
def chkT (col : Nat) (i : grid0.Coords) (t : Fin (k0_t1_loop i).trips) (a6 a7 a8 a9 a10 : BitVec 32) : Prop :=
  (∀ (h1 : k0_cond1 i = 1#1), ∀ (h3 : k0_cond3 i t a10 = 1#1), ∀ a, (k0_off4 a6) a + S1x1x128.size a ≤ S2x1x128.size a) ∧
  (∀ (h1 : k0_cond1 i = 1#1), ∀ (h3 : k0_cond3 i t a10 = 1#1), ∀ a, (k0_off5 i a10) a + S1x128.size a ≤ S1x66560.size a) ∧
  (∀ (h1 : k0_cond1 i = 1#1), ∀ (h3 : k0_cond3 i t a10 = 1#1), ∀ a, (k0_off6 a6) a + S1.size a ≤ S2.size a) ∧
  (∀ (h1 : k0_cond1 i = 1#1), ∀ (h4 : k0_cond4 i t a10 = 1#1), ∀ a, (k0_off7 a7) a + S1x1x128.size a ≤ S2x1x128.size a) ∧
  (∀ (h1 : k0_cond1 i = 1#1), ∀ (h4 : k0_cond4 i t a10 = 1#1), ∀ a, (k0_off8 i a10) a + S1x128.size a ≤ S1x66560.size a) ∧
  (∀ (h1 : k0_cond1 i = 1#1), ∀ (h4 : k0_cond4 i t a10 = 1#1), ∀ a, (k0_off9 a7) a + S1.size a ≤ S2.size a) ∧
  (∀ (h1 : k0_cond1 i = 1#1), ∀ (h7 : k0_cond7 i t a10 = 1#1), ∀ a, (k0_off12 a8) a + S1x128x256.size a ≤ S2x128x256.size a) ∧
  (∀ (h1 : k0_cond1 i = 1#1), ∀ (h7 : k0_cond7 i t a10 = 1#1), ∀ a, (oOff col i a10) a + S128x256.size a ≤ S66560x1024.size a) ∧
  (∀ (h1 : k0_cond1 i = 1#1), ∀ (h7 : k0_cond7 i t a10 = 1#1), ∀ a, (k0_off14 a8) a + S1.size a ≤ S2.size a) ∧
  (∀ (h1 : k0_cond1 i = 1#1), ∀ (h9 : k0_cond9 i t a10 = 1#1), ∀ a, (k0_off15 a9) a + S1x128x256.size a ≤ S2x128x256.size a) ∧
  (∀ (h1 : k0_cond1 i = 1#1), ∀ (h9 : k0_cond9 i t a10 = 1#1), ∀ a, (oOff' col i a10) a + S128x256.size a ≤ S66560x1024.size a) ∧
  (∀ (h1 : k0_cond1 i = 1#1), ∀ (h9 : k0_cond9 i t a10 = 1#1), ∀ a, (k0_off17 a9) a + S1.size a ≤ S2.size a)
set_option synthInstance.maxSize 1000000 in set_option synthInstance.maxHeartbeats 0 in
instance chkT.dec : ∀ (col : Nat) (i : grid0.Coords) (t : Fin (k0_t1_loop i).trips) (a6 a7 a8 a9 a10 : BitVec 32), Decidable (chkT col i t a6 a7 a8 a9 a10) :=
  fun col i t a6 a7 a8 a9 a10 => decidable_of_iff' _ (Iff.of_eq (chkT.eq_1 col i t a6 a7 a8 a9 a10))

/-- What the last wait assumes of the last grid index. -/
def chkZ (col : Nat) (i : grid0.Coords) (a10 : BitVec 32) : Prop :=
  (∀ (h1 : k0_cond1 i = 1#1), ∀ (h18 : k0_cond18 i = 1#1), ∀ a, (oOffZ col i a10) a + S128x256.size a ≤ S66560x1024.size a)
instance chkZ.dec : ∀ (col : Nat) (i : grid0.Coords) (a10 : BitVec 32), Decidable (chkZ col i a10) :=
  fun col i a10 => decidable_of_iff' _ (Iff.of_eq (chkZ.eq_1 col i a10))

/-- The first of a block's two 128-column streams, and the second, lie in a row of the table. -/
theorem yInb (col : Nat) (hcol : col < 4) : ∀ a, (![0, 256 * col] : Fin 2 → Nat) a + S70656x128.size a ≤ S70656x1024.size a := by
  intro a; match a with
  | 0 => exact le_of_eq rfl
  | 1 => show 256 * col + 128 ≤ 1024; omega
theorem yInb' (col : Nat) (hcol : col < 4) : ∀ a, (![0, 256 * col + 128] : Fin 2 → Nat) a + S70656x128.size a ≤ S70656x1024.size a := by
  intro a; match a with
  | 0 => exact le_of_eq rfl
  | 1 => show 256 * col + 128 + 128 ≤ 1024; omega

section

variable (col : Nat) (hcol : col < 4) (i : grid0.Coords)
  (y : Memref sig .scVector .hbm S70656x1024 .f32) (p : Memref sig .scVector .hbm S1x66560 .i32) (o : Memref sig .scVector .hbm S66560x1024 .f32)
  (ix : Memref sig .scVector .vmem S2x1x128 .i32) (sI : DmaSems sig S2) (ob : Memref sig .scVector .vmem S2x128x256 .f32) (sO : DmaSems sig S2)
  (gA gB : DmaSems sig S_) (v5 v10 v11 : BitVec 32) (h1 : k0_cond1 i = 1#1)

set_option cleanup.letToHave false in set_option maxHeartbeats 40000000 in
/-- A trip's first part: the next block's index fetch. -/
def tripA (c0 c1 : BitVec 32) (t : Fin (k0_t1_loop i).trips) (a6 a7 a8 a9 a10 : BitVec 32) :
    Prog (TpuEff nD τ sig (Elt F) Λ₀ (.scVector ((i 0).castLE hcore0) ((i 1).castLE hsub0)))
      (Σ' (w3 : k0_chk3 i a7) (w2 : k0_chk2 i a8) (w1 : chkT col i t a6 a7 a8 a9 a10) (a5 : BitVec 32) (v116 : BitVec 32) (v117 : BitVec 1)
        (v119 : BitVec 1) (v120 : BitVec 32) (v126 : BitVec 32) (v131 : BitVec 32) (v148 : BitVec 32) (v149 : BitVec 1), BitVec 32) := do
  have w3 : k0_chk3 i a7 := (← Prog.lift (TpuEff.assume (k0_chk3 i a7) (k0_chk3.dec i a7))).down
  have w2 : k0_chk2 i a8 := (← Prog.lift (TpuEff.assume (k0_chk2 i a8) (k0_chk2.dec i a8))).down
  have w1 : chkT col i t a6 a7 a8 a9 a10 := (← Prog.lift (TpuEff.assume (chkT col i t a6 a7 a8 a9 a10) (chkT.dec col i t a6 a7 a8 a9 a10))).down
  let a5 : BitVec 32 := Scf.iv c0 c1 t
  let v116 : BitVec 32 := Scalar.muli 1#32 v5
  let v117 : BitVec 1 := Scalar.cmpi .eq a5 0#32
  let v118 : BitVec 32 := Scalar.subi v116 1#32
  let v119 : BitVec 1 := Scalar.cmpi .eq a5 v118
  let v120 : BitVec 32 := Scalar.addi a10 v10
  let v121 : BitVec 32 := Scalar.subi a10 1#32
  let v122 : BitVec 32 := Scalar.select 1#1 v121 a10
  let v123 : BitVec 1 := Scalar.cmpi .eq v122 4294967295#32
  let v124 : BitVec 32 := Scalar.subi v5 1#32
  let v125 : BitVec 32 := Scalar.select v123 v124 v122
  let v126 : BitVec 32 := Scalar.addi v125 v10
  let v127 : BitVec 32 := Scalar.addi a10 1#32
  let v128 : BitVec 32 := Scalar.select 1#1 v127 a10
  let v129 : BitVec 1 := Scalar.cmpi .eq v128 v5
  let v130 : BitVec 32 := Scalar.select v129 0#32 v128
  let v131 : BitVec 32 := Scalar.addi v130 v10
  let v137 : BitVec 1 := Scalar.cmpi .ne v120 v131
  let v138 : BitVec 32 := Scalar.subi v116 2#32
  let v139 : BitVec 32 := Scalar.addi v138 1#32
  let v140 : BitVec 1 := Scalar.cmpi .sge a5 v139
  let v141 : BitVec 1 := Scalar.xori v140 1#1
  let v142 : BitVec 1 := Scalar.andi v137 v141
  if h3 : k0_cond3 i t a10 = 1#1 then do
    Prog.lift (.enqueueDma (p.slice (Rect.unit (s := S1x66560) (k0_off5 i a10) S1x128.size (w1.2.1 h1 h3)) (fun _ => rfl))
      (.here ((ix.slice (Rect.unit (s := S2x1x128) (k0_off4 a6) S1x1x128.size (w1.1 h1 h3)) (fun _ => rfl)).squeeze S1x128 squeezes_S1x1x128_S1x128))
      (.dma ((sI.slice (Rect.unit (s := S2) (k0_off6 a6) S1.size (w1.2.2.1 h1 h3))).squeeze S_ squeezes_S1_S_).sem)
      (View.wordExact_bits rfl) ((View.wordExact_bits rfl).reshape _ _) ⟨Or.inl rfl, trivial⟩)
    pure ⟨⟩
  else do
    pure ⟨⟩
  let v146 : BitVec 1 := Scalar.andi v142 1#1
  let v147 : BitVec 32 := Scalar.addi a6 1#32
  let v148 : BitVec 32 := Scalar.select v146 v147 a6
  let v149 : BitVec 1 := Scalar.cmpi .ne v120 v131
  pure ⟨w3, w2, w1, a5, v116, v117, v119, v120, v126, v131, v148, v149, 2#32⟩

/-- Index slot `a7 mod 2`, as a list of 128 row numbers. -/
abbrev listOf (a7 : BitVec 32) (w3 : ∀ a, (k0_off11 a7) a + S1x1x128.size a ≤ S2x1x128.size a) : Memref sig .scVector .vmem S128 .i32 :=
  ((((ix.slice (Rect.unit (s := S2x1x128) (k0_off11 a7) S1x1x128.size w3) (fun _ => rfl)).squeeze S1x128 squeezes_S1x1x128_S1x128).slice
    (Rect.unit (s := S1x128) ![0, 0] S1x128.size inb_S1x128_S1x128_0_0) (fun _ => rfl)).squeeze S128 squeezes_S1x128_S128)
/-- Output slot `a8 mod 2`. -/
abbrev slotOf (a8 : BitVec 32) (w2 : ∀ a, (k0_off10 a8) a + S1x128x256.size a ≤ S2x128x256.size a) : Memref sig .scVector .vmem S128x256 .f32 :=
  (ob.slice (Rect.unit (s := S2x128x256) (k0_off10 a8) S1x128x256.size w2) (fun _ => rfl)).squeeze S128x256 squeezes_S1x128x256_S128x256
/-- The left and the right half of an output slot's columns. -/
abbrev halfA (s : Memref sig .scVector .vmem S128x256 .f32) : Memref sig .scVector .vmem S128x128 .f32 :=
  s.slice (Rect.unit (s := S128x256) ![0, 0] S128x128.size inb_S128x256_S128x128_0_0) (fun _ => rfl)
abbrev halfB (s : Memref sig .scVector .vmem S128x256 .f32) : Memref sig .scVector .vmem S128x128 .f32 :=
  s.slice (Rect.unit (s := S128x256) ![0, 128] S128x128.size inb_S128x256_S128x128_0_128) (fun _ => rfl)
/-- The 128 table columns from column `k`. -/
abbrev yCols (k : Nat) (hk : ∀ a, (![0, k] : Fin 2 → Nat) a + S70656x128.size a ≤ S70656x1024.size a) : Memref sig .scVector .hbm S70656x128 .f32 :=
  y.slice (Rect.unit (s := S70656x1024) ![0, k] S70656x128.size hk) (fun _ => rfl)

set_option cleanup.letToHave false in set_option maxHeartbeats 40000000 in
/-- A trip's second part: the wait for its indices, and the first stream's start. -/
def tripB (t : Fin (k0_t1_loop i).trips) (a6 a7 a8 a9 a10 : BitVec 32) (w3 : k0_chk3 i a7) (w2 : k0_chk2 i a8) (w1 : chkT col i t a6 a7 a8 a9 a10)
    (a5 v116 : BitVec 32) (v117 : BitVec 1) (v120 v126 : BitVec 32) (v149 : BitVec 1) (c2 : BitVec 32) :
    Prog (TpuEff nD τ sig (Elt F) Λ₀ (.scVector ((i 0).castLE hcore0) ((i 1).castLE hsub0))) PUnit := do
  if h4 : k0_cond4 i t a10 = 1#1 then do
    Prog.lift (.waitDma2 ((sI.slice (Rect.unit (s := S2) (k0_off9 a7) S1.size (w1.2.2.2.2.2.1 h1 h4))).squeeze S_ squeezes_S1_S_).sem
      (p.slice (Rect.unit (s := S1x66560) (k0_off8 i a10) S1x128.size (w1.2.2.2.2.1 h1 h4)) (fun _ => rfl))
      ((ix.slice (Rect.unit (s := S2x1x128) (k0_off7 a7) S1x1x128.size (w1.2.2.2.1 h1 h4)) (fun _ => rfl)).squeeze S1x128 squeezes_S1x1x128_S1x128)
      (View.wordExact_bits rfl) ((View.wordExact_bits rfl).reshape _ _))
    pure ⟨⟩
  else do
    pure ⟨⟩
  let v161 : BitVec 1 := Scalar.cmpi .ne v120 v126
  let v162 : BitVec 1 := Scalar.ori v161 v117
  let v163 : BitVec 1 := Scalar.cmpi .sge a5 0#32
  let v164 : BitVec 1 := Scalar.andi v162 v163
  let v165 : BitVec 32 := Scalar.extui v164
  let v166 : BitVec 1 := Scalar.cmpi .ne v165 0#32
  if v166 = 1#1 then do
    pure ⟨⟩
  else do
    pure ⟨⟩
  SparseCore.enqueueIndirectGather rfl (yCols y (256 * col) (yInb col hcol)) (halfA (slotOf ob a8 (w2 h1))) gathers_S70656x128_S128x128
    (listOf ix a7 (w3 h1)) rfl gA.sem (View.wordExact_bits rfl) rfl (Or.inl rfl)
  pure ⟨⟩

set_option cleanup.letToHave false in set_option maxHeartbeats 40000000 in
/-- A trip's third part: the first stream's wait, the second stream and its wait, and the write-out's start. -/
def tripC (t : Fin (k0_t1_loop i).trips) (a6 a7 a8 a9 a10 : BitVec 32) (w3 : k0_chk3 i a7) (w2 : k0_chk2 i a8) (w1 : chkT col i t a6 a7 a8 a9 a10)
    (v119 : BitVec 1) (v120 v131 : BitVec 32) :
    Prog (TpuEff nD τ sig (Elt F) Λ₀ (.scVector ((i 0).castLE hcore0) ((i 1).castLE hsub0))) (Σ' (v178 : BitVec 1), BitVec 32) := do
  SparseCore.waitIndirectGather gA.sem (yCols y (256 * col) (yInb col hcol)) (halfA (slotOf ob a8 (w2 h1))) (View.wordExact_bits rfl) (View.wordExact_bits rfl)
  SparseCore.enqueueIndirectGather rfl (yCols y (256 * col + 128) (yInb' col hcol)) (halfB (slotOf ob a8 (w2 h1))) gathers_S70656x128_S128x128
    (listOf ix a7 (w3 h1)) rfl gB.sem (View.wordExact_bits rfl) rfl (Or.inl rfl)
  SparseCore.waitIndirectGather gB.sem (yCols y (256 * col + 128) (yInb' col hcol)) (halfB (slotOf ob a8 (w2 h1))) (View.wordExact_bits rfl) (View.wordExact_bits rfl)
  let v169 : BitVec 1 := Scalar.cmpi .ne v120 v131
  let v170 : BitVec 1 := Scalar.ori v169 v119
  let v171 : BitVec 32 := Scalar.extui v170
  let v172 : BitVec 1 := Scalar.cmpi .ne v171 0#32
  if v172 = 1#1 then do
    pure ⟨⟩
  else do
    pure ⟨⟩
  let v174 : BitVec 1 := Scalar.cmpi .ne v120 v131
  let v175 : BitVec 1 := Scalar.ori v174 v119
  if h7 : k0_cond7 i t a10 = 1#1 then do
    Prog.lift (.enqueueDma
      ((ob.slice (Rect.unit (s := S2x128x256) (k0_off12 a8) S1x128x256.size (w1.2.2.2.2.2.2.1 h1 h7)) (fun _ => rfl)).squeeze S128x256 squeezes_S1x128x256_S128x256)
      (.here (o.slice (Rect.unit (s := S66560x1024) (oOff col i a10) S128x256.size (w1.2.2.2.2.2.2.2.1 h1 h7)) (fun _ => rfl)))
      (.dma ((sO.slice (Rect.unit (s := S2) (k0_off14 a8) S1.size (w1.2.2.2.2.2.2.2.2.1 h1 h7))).squeeze S_ squeezes_S1_S_).sem)
      ((View.wordExact_bits rfl).reshape _ _) (View.wordExact_bits rfl) ⟨Or.inl rfl, trivial⟩)
    pure ⟨⟩
  else do
    pure ⟨⟩
  let v178 : BitVec 1 := Scalar.andi v175 1#1
  pure ⟨v178, 1#32⟩

set_option cleanup.letToHave false in set_option maxHeartbeats 40000000 in
/-- A trip of the pipeline, from its five carried words to the next trip's. -/
def trip : Fin (k0_t1_loop i).trips → BitVec 32 × BitVec 32 × BitVec 32 × BitVec 32 × BitVec 32 →
    Prog (TpuEff nD τ sig (Elt F) Λ₀ (.scVector ((i 0).castLE hcore0) ((i 1).castLE hsub0))) (BitVec 32 × BitVec 32 × BitVec 32 × BitVec 32 × BitVec 32) :=
  fun t (a6, a7, a8, a9, a10) => do
    let ⟨w3, w2, w1, a5, v116, v117, v119, v120, v126, v131, v148, v149, c2⟩ ← tripA (F := F) col i p ix sI v5 v10 h1 0#32 1#32 t a6 a7 a8 a9 a10
    tripB (F := F) col hcol i y p ix sI ob gA h1 t a6 a7 a8 a9 a10 w3 w2 w1 a5 v116 v117 v120 v126 v149 c2
    let ⟨v178, c1⟩ ← tripC (F := F) col hcol i y o ix ob sO gA gB h1 t a6 a7 a8 a9 a10 w3 w2 w1 v119 v120 v131
    let v179 : BitVec 32 := Scalar.addi a8 c1
    let v180 : BitVec 32 := Scalar.select v178 v179 a8
    let v181 : BitVec 1 := Scalar.cmpi .ne v120 v126
    let v182 : BitVec 1 := Scalar.xori v117 1#1
    let v183 : BitVec 1 := Scalar.andi v181 v182
    let v184 : BitVec 32 := Scalar.extui v183
    let v185 : BitVec 1 := Scalar.cmpi .ne v184 0#32
    if v185 = 1#1 then do
      pure ⟨⟩
    else do
      pure ⟨⟩
    let v187 : BitVec 1 := Scalar.cmpi .ne v120 v126
    let v188 : BitVec 1 := Scalar.xori v117 1#1
    let v189 : BitVec 1 := Scalar.andi v187 v188
    if h9 : k0_cond9 i t a10 = 1#1 then do
      Prog.lift (.waitDma2 ((sO.slice (Rect.unit (s := S2) (k0_off17 a9) S1.size (w1.2.2.2.2.2.2.2.2.2.2.2 h1 h9))).squeeze S_ squeezes_S1_S_).sem
        ((ob.slice (Rect.unit (s := S2x128x256) (k0_off15 a9) S1x128x256.size (w1.2.2.2.2.2.2.2.2.2.1 h1 h9)) (fun _ => rfl)).squeeze S128x256 squeezes_S1x128x256_S128x256)
        (o.slice (Rect.unit (s := S66560x1024) (oOff' col i a10) S128x256.size (w1.2.2.2.2.2.2.2.2.2.2.1 h1 h9)) (fun _ => rfl))
        ((View.wordExact_bits rfl).reshape _ _) (View.wordExact_bits rfl))
      pure ⟨⟩
    else do
      pure ⟨⟩
    let v192 : BitVec 1 := Scalar.andi v189 1#1
    let v193 : BitVec 32 := Scalar.addi a9 1#32
    let v194 : BitVec 32 := Scalar.select v192 v193 a9
    let v195 : BitVec 1 := Scalar.cmpi .ne v120 v131
    let v196 : BitVec 1 := Scalar.ori v195 v119
    let v197 : BitVec 32 := Scalar.addi a7 1#32
    let v198 : BitVec 32 := Scalar.select v196 v197 a7
    let v199 : BitVec 32 := Scalar.addi a10 1#32
    let v200 : BitVec 32 := Scalar.select 1#1 v199 a10
    let v201 : BitVec 1 := Scalar.cmpi .eq v200 v5
    let v202 : BitVec 32 := Scalar.select v201 0#32 v200
    pure (v148, v198, v180, v194, v202)

set_option cleanup.letToHave false in set_option maxHeartbeats 40000000 in
/-- The pass up to its loops: the fetch of the first block's indices. -/
def first : Prog (TpuEff nD τ sig (Elt F) Λ₀ (.scVector ((i 0).castLE hcore0) ((i 1).castLE hsub0)))
    (Σ' (v77 : BitVec 32) (z0 : BitVec 32) (z1 : BitVec 32) (z2 : BitVec 32) (z3 : BitVec 32) (z4 : BitVec 32), BitVec 32) := do
  let v53 : BitVec 32 := Scalar.muli 1#32 v5
  let v71 : BitVec 1 := Scalar.cmpi .sgt v53 0#32
  let v72 : BitVec 1 := Scalar.andi 1#1 v71
  if h2 : k0_cond2 i = 1#1 then do
    Prog.lift (.enqueueDma (p.slice (Rect.unit (s := S1x66560) (k0_off2 i) S1x128.size (k0_off2_inb i h1 h2)) (fun _ => rfl))
      (.here ((ix.slice (Rect.unit (s := S2x1x128) k0_off1 S1x1x128.size (k0_off1_inb i h1 h2)) (fun _ => rfl)).squeeze S1x128 squeezes_S1x1x128_S1x128))
      (.dma ((sI.slice (Rect.unit (s := S2) k0_off3 S1.size (k0_off3_inb i h1 h2))).squeeze S_ squeezes_S1_S_).sem)
      (View.wordExact_bits rfl) ((View.wordExact_bits rfl).reshape _ _) ⟨Or.inl rfl, trivial⟩)
    pure ⟨⟩
  else do
    pure ⟨⟩
  let v76 : BitVec 32 := Scalar.addi 0#32 1#32
  let v77 : BitVec 32 := Scalar.select v72 v76 0#32
  let v78 : BitVec 32 := Scalar.subi v11 0#32
  let v80 : BitVec 32 := Scalar.divsi v78 1#32
  let v81 : BitVec 32 := Scalar.muli v80 1#32
  pure ⟨v77, 0#32, 0#32, 0#32, 0#32, 0#32, v81⟩

set_option cleanup.letToHave false in set_option maxHeartbeats 40000000 in
/-- The pass from its loops on: the pipeline's trips, a remainder loop (which makes no trip: its body `rem` is any), and
    the wait for the last write-out. -/
def rest (rem : Fin (k0_t2_loop i).trips → BitVec 32 × BitVec 32 × BitVec 32 × BitVec 32 × BitVec 32 →
      Prog (TpuEff nD τ sig (Elt F) Λ₀ (.scVector ((i 0).castLE hcore0) ((i 1).castLE hsub0))) (BitVec 32 × BitVec 32 × BitVec 32 × BitVec 32 × BitVec 32))
    (v77 z1 z2 z3 z4 : BitVec 32) :
    Prog (TpuEff nD τ sig (Elt F) Λ₀ (.scVector ((i 0).castLE hcore0) ((i 1).castLE hsub0))) PUnit := do
  let (b0, b1, b2, b3, b4) ← Scf.Loop.for (k0_t1_loop i) (k0_t1_ok i h1) (v77, z1, z2, z3, z4) (trip (F := F) col hcol i y p o ix sI ob sO gA gB v5 v10 h1)
  let (d0, d1, d2, d3, d4) ← Scf.Loop.for (k0_t2_loop i) (k0_t2_ok i h1) (b0, b1, b2, b3, b4) rem
  have w8 : chkZ col i d4 := (← Prog.lift (TpuEff.assume (chkZ col i d4) (chkZ.dec col i d4))).down
  have w7 : k0_chk7 i d3 := (← Prog.lift (TpuEff.assume (k0_chk7 i d3) (k0_chk7.dec i d3))).down
  let v90 : BitVec 32 := Scalar.subi v11 1#32
  let v91 : BitVec 32 := Scalar.muli 1#32 v5
  let v93 : BitVec 32 := Scalar.subi v91 1#32
  let v94 : BitVec 1 := Scalar.cmpi .eq v90 v93
  let v112 : BitVec 32 := Scalar.extui v94
  let v113 : BitVec 1 := Scalar.cmpi .ne v112 0#32
  if h17 : v113 = 1#1 then do
    pure ⟨⟩
  else do
    pure ⟨⟩
  if h18 : k0_cond18 i = 1#1 then do
    Prog.lift (.waitDma2 ((sO.slice (Rect.unit (s := S2) (k0_off34 d3) S1.size (w7.2.1 h1 h18))).squeeze S_ squeezes_S1_S_).sem
      ((ob.slice (Rect.unit (s := S2x128x256) (k0_off35 d3) S1x128x256.size (w7.2.2 h1 h18)) (fun _ => rfl)).squeeze S128x256 squeezes_S1x128x256_S128x256)
      (o.slice (Rect.unit (s := S66560x1024) (oOffZ col i d4) S128x256.size (w8 h1 h18)) (fun _ => rfl))
      ((View.wordExact_bits rfl).reshape _ _) (View.wordExact_bits rfl))
    pure ⟨⟩
  else do
    pure ⟨⟩
  pure ⟨⟩

end

end Cert.Proof.Gather
-- ==== Proof.LaneEq.lean ====
/-
  The four printed copies of the pass are the pass (`lane`), each at its column block, by unfolding.
-/
module

public import proofs.«01_k».proof.Proof.Lane

@[expose] public section

set_option synthInstance.maxSize 4096

noncomputable section

namespace Cert.Proof.Gather

open Cert.KernelIdeal Cert.KernelIdeal.Gen
open Idealize.ShloMosaic Idealize.SL.Sem

variable {F : FTy → Type} [FloatOps F]

variable (i : grid0.Coords) (arg2 : Memref sig .scVector .hbm S70656x1024 .f32) (harg2 : arg2.IsWhole) (arg3 : Memref sig .scVector .hbm S1x66560 .i32) (harg3 : arg3.IsWhole)
  (arg4 : Memref sig .scVector .hbm S66560x1024 .f32) (harg4 : arg4.IsWhole)
  (ix0 : Memref sig .scVector .vmem S2x1x128 .i32) (hix0 : ix0.IsWhole) (sI0 : DmaSems sig S2) (ob0 : Memref sig .scVector .vmem S2x128x256 .f32) (hob0 : ob0.IsWhole) (sO0 : DmaSems sig S2) (g0a g0b g0c g0d : DmaSems sig S_)
  (ix1 : Memref sig .scVector .vmem S2x1x128 .i32) (hix1 : ix1.IsWhole) (sI1 : DmaSems sig S2) (ob1 : Memref sig .scVector .vmem S2x128x256 .f32) (hob1 : ob1.IsWhole) (sO1 : DmaSems sig S2) (g1a g1b g1c g1d : DmaSems sig S_)
  (ix2 : Memref sig .scVector .vmem S2x1x128 .i32) (hix2 : ix2.IsWhole) (sI2 : DmaSems sig S2) (ob2 : Memref sig .scVector .vmem S2x128x256 .f32) (hob2 : ob2.IsWhole) (sO2 : DmaSems sig S2) (g2a g2b g2c g2d : DmaSems sig S_)
  (ix3 : Memref sig .scVector .vmem S2x1x128 .i32) (hix3 : ix3.IsWhole) (sI3 : DmaSems sig S2) (ob3 : Memref sig .scVector .vmem S2x128x256 .f32) (hob3 : ob3.IsWhole) (sO3 : DmaSems sig S2) (g3a g3b g3c g3d : DmaSems sig S_)

set_option maxRecDepth 65536
set_option maxHeartbeats 4000000

theorem first0_eq (v5 v10 v11 : BitVec 32) (h : k0_cond1 i = 1#1) :
    k0_part7 (F := F) i arg2 harg2 arg3 harg3 arg4 harg4 ix0 hix0 sI0 ob0 hob0 sO0 g0a g0b g0c g0d ix1 hix1 sI1 ob1 hob1 sO1 g1a g1b g1c g1d ix2 hix2 sI2 ob2 hob2 sO2 g2a g2b g2c g2d ix3 hix3 sI3 ob3 hob3 sO3 g3a g3b g3c g3d v5 v10 v11 h = first (F := F) i arg3 ix0 sI0 v5 v11 h := rfl

theorem tripA0_eq (v5 v10 : BitVec 32) (h : k0_cond1 i = 1#1) (c0 c1 : BitVec 32) (t : Fin (k0_t1_loop i).trips) (a6 a7 a8 a9 a10 : BitVec 32) :
    k0_part1 (F := F) i arg2 harg2 arg3 harg3 arg4 harg4 ix0 hix0 sI0 ob0 hob0 sO0 g0a g0b g0c g0d ix1 hix1 sI1 ob1 hob1 sO1 g1a g1b g1c g1d ix2 hix2 sI2 ob2 hob2 sO2 g2a g2b g2c g2d ix3 hix3 sI3 ob3 hob3 sO3 g3a g3b g3c g3d v5 v10 h c0 c1 t a6 a7 a8 a9 a10 = tripA (F := F) 0 i arg3 ix0 sI0 v5 v10 h c0 c1 t a6 a7 a8 a9 a10 := rfl

theorem tripB0_eq (h : k0_cond1 i = 1#1) (t : Fin (k0_t1_loop i).trips) (a6 a7 a8 a9 a10 : BitVec 32) (w3 : k0_chk3 i a7) (w2 : k0_chk2 i a8) (w1 : chkT 0 i t a6 a7 a8 a9 a10)
    (a5 v116 : BitVec 32) (v117 : BitVec 1) (v120 v126 : BitVec 32) (v149 : BitVec 1) (c2 : BitVec 32) :
    k0_part2 (F := F) i arg2 harg2 arg3 harg3 arg4 harg4 ix0 hix0 sI0 ob0 hob0 sO0 g0a g0b g0c g0d ix1 hix1 sI1 ob1 hob1 sO1 g1a g1b g1c g1d ix2 hix2 sI2 ob2 hob2 sO2 g2a g2b g2c g2d ix3 hix3 sI3 ob3 hob3 sO3 g3a g3b g3c g3d h t a6 a7 a8 a9 a10 w3 w2 w1 a5 v116 v117 v120 v126 v149 c2
      = tripB (F := F) 0 (by decide) i arg2 arg3 ix0 sI0 ob0 g0a h t a6 a7 a8 a9 a10 w3 w2 w1 a5 v116 v117 v120 v126 v149 c2 := rfl

theorem tripC0_eq (h : k0_cond1 i = 1#1) (t : Fin (k0_t1_loop i).trips) (a6 a7 a8 a9 a10 : BitVec 32) (w3 : k0_chk3 i a7) (w2 : k0_chk2 i a8) (w1 : chkT 0 i t a6 a7 a8 a9 a10)
    (v119 : BitVec 1) (v120 v131 : BitVec 32) :
    k0_part3 (F := F) i arg2 harg2 arg3 harg3 arg4 harg4 ix0 hix0 sI0 ob0 hob0 sO0 g0a g0b g0c g0d ix1 hix1 sI1 ob1 hob1 sO1 g1a g1b g1c g1d ix2 hix2 sI2 ob2 hob2 sO2 g2a g2b g2c g2d ix3 hix3 sI3 ob3 hob3 sO3 g3a g3b g3c g3d h t a6 a7 a8 a9 a10 w3 w2 w1 v119 v120 v131
      = tripC (F := F) 0 (by decide) i arg2 arg4 ix0 ob0 sO0 g0a g0b h t a6 a7 a8 a9 a10 w3 w2 w1 v119 v120 v131 := rfl

theorem first1_eq (v5 v10 v11 : BitVec 32) (h : k0_cond19 i = 1#1) :
    k0_part15 (F := F) i arg2 harg2 arg3 harg3 arg4 harg4 ix0 hix0 sI0 ob0 hob0 sO0 g0a g0b g0c g0d ix1 hix1 sI1 ob1 hob1 sO1 g1a g1b g1c g1d ix2 hix2 sI2 ob2 hob2 sO2 g2a g2b g2c g2d ix3 hix3 sI3 ob3 hob3 sO3 g3a g3b g3c g3d v5 v10 v11 h = first (F := F) i arg3 ix1 sI1 v5 v11 h := rfl

theorem tripA1_eq (v5 v10 : BitVec 32) (h : k0_cond19 i = 1#1) (c0 c1 : BitVec 32) (t : Fin (k0_t3_loop i).trips) (a6 a7 a8 a9 a10 : BitVec 32) :
    k0_part9 (F := F) i arg2 harg2 arg3 harg3 arg4 harg4 ix0 hix0 sI0 ob0 hob0 sO0 g0a g0b g0c g0d ix1 hix1 sI1 ob1 hob1 sO1 g1a g1b g1c g1d ix2 hix2 sI2 ob2 hob2 sO2 g2a g2b g2c g2d ix3 hix3 sI3 ob3 hob3 sO3 g3a g3b g3c g3d v5 v10 h c0 c1 t a6 a7 a8 a9 a10 = tripA (F := F) 1 i arg3 ix1 sI1 v5 v10 h c0 c1 t a6 a7 a8 a9 a10 := rfl

theorem tripB1_eq (h : k0_cond19 i = 1#1) (t : Fin (k0_t3_loop i).trips) (a6 a7 a8 a9 a10 : BitVec 32) (w3 : k0_chk3 i a7) (w2 : k0_chk2 i a8) (w1 : chkT 1 i t a6 a7 a8 a9 a10)
    (a5 v116 : BitVec 32) (v117 : BitVec 1) (v120 v126 : BitVec 32) (v149 : BitVec 1) (c2 : BitVec 32) :
    k0_part10 (F := F) i arg2 harg2 arg3 harg3 arg4 harg4 ix0 hix0 sI0 ob0 hob0 sO0 g0a g0b g0c g0d ix1 hix1 sI1 ob1 hob1 sO1 g1a g1b g1c g1d ix2 hix2 sI2 ob2 hob2 sO2 g2a g2b g2c g2d ix3 hix3 sI3 ob3 hob3 sO3 g3a g3b g3c g3d h t a6 a7 a8 a9 a10 w3 w2 w1 a5 v116 v117 v120 v126 v149 c2
      = tripB (F := F) 1 (by decide) i arg2 arg3 ix1 sI1 ob1 g1a h t a6 a7 a8 a9 a10 w3 w2 w1 a5 v116 v117 v120 v126 v149 c2 := rfl

theorem tripC1_eq (h : k0_cond19 i = 1#1) (t : Fin (k0_t3_loop i).trips) (a6 a7 a8 a9 a10 : BitVec 32) (w3 : k0_chk3 i a7) (w2 : k0_chk2 i a8) (w1 : chkT 1 i t a6 a7 a8 a9 a10)
    (v119 : BitVec 1) (v120 v131 : BitVec 32) :
    k0_part11 (F := F) i arg2 harg2 arg3 harg3 arg4 harg4 ix0 hix0 sI0 ob0 hob0 sO0 g0a g0b g0c g0d ix1 hix1 sI1 ob1 hob1 sO1 g1a g1b g1c g1d ix2 hix2 sI2 ob2 hob2 sO2 g2a g2b g2c g2d ix3 hix3 sI3 ob3 hob3 sO3 g3a g3b g3c g3d h t a6 a7 a8 a9 a10 w3 w2 w1 v119 v120 v131
      = tripC (F := F) 1 (by decide) i arg2 arg4 ix1 ob1 sO1 g1a g1b h t a6 a7 a8 a9 a10 w3 w2 w1 v119 v120 v131 := rfl

theorem first2_eq (v5 v10 v11 : BitVec 32) (h : k0_cond37 i = 1#1) :
    k0_part23 (F := F) i arg2 harg2 arg3 harg3 arg4 harg4 ix0 hix0 sI0 ob0 hob0 sO0 g0a g0b g0c g0d ix1 hix1 sI1 ob1 hob1 sO1 g1a g1b g1c g1d ix2 hix2 sI2 ob2 hob2 sO2 g2a g2b g2c g2d ix3 hix3 sI3 ob3 hob3 sO3 g3a g3b g3c g3d v5 v10 v11 h = first (F := F) i arg3 ix2 sI2 v5 v11 h := rfl

theorem tripA2_eq (v5 v10 : BitVec 32) (h : k0_cond37 i = 1#1) (c0 c1 : BitVec 32) (t : Fin (k0_t5_loop i).trips) (a6 a7 a8 a9 a10 : BitVec 32) :
    k0_part17 (F := F) i arg2 harg2 arg3 harg3 arg4 harg4 ix0 hix0 sI0 ob0 hob0 sO0 g0a g0b g0c g0d ix1 hix1 sI1 ob1 hob1 sO1 g1a g1b g1c g1d ix2 hix2 sI2 ob2 hob2 sO2 g2a g2b g2c g2d ix3 hix3 sI3 ob3 hob3 sO3 g3a g3b g3c g3d v5 v10 h c0 c1 t a6 a7 a8 a9 a10 = tripA (F := F) 2 i arg3 ix2 sI2 v5 v10 h c0 c1 t a6 a7 a8 a9 a10 := rfl

theorem tripB2_eq (h : k0_cond37 i = 1#1) (t : Fin (k0_t5_loop i).trips) (a6 a7 a8 a9 a10 : BitVec 32) (w3 : k0_chk3 i a7) (w2 : k0_chk2 i a8) (w1 : chkT 2 i t a6 a7 a8 a9 a10)
    (a5 v116 : BitVec 32) (v117 : BitVec 1) (v120 v126 : BitVec 32) (v149 : BitVec 1) (c2 : BitVec 32) :
    k0_part18 (F := F) i arg2 harg2 arg3 harg3 arg4 harg4 ix0 hix0 sI0 ob0 hob0 sO0 g0a g0b g0c g0d ix1 hix1 sI1 ob1 hob1 sO1 g1a g1b g1c g1d ix2 hix2 sI2 ob2 hob2 sO2 g2a g2b g2c g2d ix3 hix3 sI3 ob3 hob3 sO3 g3a g3b g3c g3d h t a6 a7 a8 a9 a10 w3 w2 w1 a5 v116 v117 v120 v126 v149 c2
      = tripB (F := F) 2 (by decide) i arg2 arg3 ix2 sI2 ob2 g2a h t a6 a7 a8 a9 a10 w3 w2 w1 a5 v116 v117 v120 v126 v149 c2 := rfl

theorem tripC2_eq (h : k0_cond37 i = 1#1) (t : Fin (k0_t5_loop i).trips) (a6 a7 a8 a9 a10 : BitVec 32) (w3 : k0_chk3 i a7) (w2 : k0_chk2 i a8) (w1 : chkT 2 i t a6 a7 a8 a9 a10)
    (v119 : BitVec 1) (v120 v131 : BitVec 32) :
    k0_part19 (F := F) i arg2 harg2 arg3 harg3 arg4 harg4 ix0 hix0 sI0 ob0 hob0 sO0 g0a g0b g0c g0d ix1 hix1 sI1 ob1 hob1 sO1 g1a g1b g1c g1d ix2 hix2 sI2 ob2 hob2 sO2 g2a g2b g2c g2d ix3 hix3 sI3 ob3 hob3 sO3 g3a g3b g3c g3d h t a6 a7 a8 a9 a10 w3 w2 w1 v119 v120 v131
      = tripC (F := F) 2 (by decide) i arg2 arg4 ix2 ob2 sO2 g2a g2b h t a6 a7 a8 a9 a10 w3 w2 w1 v119 v120 v131 := rfl

theorem first3_eq (v5 v10 v11 : BitVec 32) (h : k0_cond55 i = 1#1) :
    k0_part31 (F := F) i arg2 harg2 arg3 harg3 arg4 harg4 ix0 hix0 sI0 ob0 hob0 sO0 g0a g0b g0c g0d ix1 hix1 sI1 ob1 hob1 sO1 g1a g1b g1c g1d ix2 hix2 sI2 ob2 hob2 sO2 g2a g2b g2c g2d ix3 hix3 sI3 ob3 hob3 sO3 g3a g3b g3c g3d v5 v10 v11 h = first (F := F) i arg3 ix3 sI3 v5 v11 h := rfl

theorem tripA3_eq (v5 v10 : BitVec 32) (h : k0_cond55 i = 1#1) (c0 c1 : BitVec 32) (t : Fin (k0_t7_loop i).trips) (a6 a7 a8 a9 a10 : BitVec 32) :
    k0_part25 (F := F) i arg2 harg2 arg3 harg3 arg4 harg4 ix0 hix0 sI0 ob0 hob0 sO0 g0a g0b g0c g0d ix1 hix1 sI1 ob1 hob1 sO1 g1a g1b g1c g1d ix2 hix2 sI2 ob2 hob2 sO2 g2a g2b g2c g2d ix3 hix3 sI3 ob3 hob3 sO3 g3a g3b g3c g3d v5 v10 h c0 c1 t a6 a7 a8 a9 a10 = tripA (F := F) 3 i arg3 ix3 sI3 v5 v10 h c0 c1 t a6 a7 a8 a9 a10 := rfl

theorem tripB3_eq (h : k0_cond55 i = 1#1) (t : Fin (k0_t7_loop i).trips) (a6 a7 a8 a9 a10 : BitVec 32) (w3 : k0_chk3 i a7) (w2 : k0_chk2 i a8) (w1 : chkT 3 i t a6 a7 a8 a9 a10)
    (a5 v116 : BitVec 32) (v117 : BitVec 1) (v120 v126 : BitVec 32) (v149 : BitVec 1) (c2 : BitVec 32) :
    k0_part26 (F := F) i arg2 harg2 arg3 harg3 arg4 harg4 ix0 hix0 sI0 ob0 hob0 sO0 g0a g0b g0c g0d ix1 hix1 sI1 ob1 hob1 sO1 g1a g1b g1c g1d ix2 hix2 sI2 ob2 hob2 sO2 g2a g2b g2c g2d ix3 hix3 sI3 ob3 hob3 sO3 g3a g3b g3c g3d h t a6 a7 a8 a9 a10 w3 w2 w1 a5 v116 v117 v120 v126 v149 c2
      = tripB (F := F) 3 (by decide) i arg2 arg3 ix3 sI3 ob3 g3a h t a6 a7 a8 a9 a10 w3 w2 w1 a5 v116 v117 v120 v126 v149 c2 := rfl

theorem tripC3_eq (h : k0_cond55 i = 1#1) (t : Fin (k0_t7_loop i).trips) (a6 a7 a8 a9 a10 : BitVec 32) (w3 : k0_chk3 i a7) (w2 : k0_chk2 i a8) (w1 : chkT 3 i t a6 a7 a8 a9 a10)
    (v119 : BitVec 1) (v120 v131 : BitVec 32) :
    k0_part27 (F := F) i arg2 harg2 arg3 harg3 arg4 harg4 ix0 hix0 sI0 ob0 hob0 sO0 g0a g0b g0c g0d ix1 hix1 sI1 ob1 hob1 sO1 g1a g1b g1c g1d ix2 hix2 sI2 ob2 hob2 sO2 g2a g2b g2c g2d ix3 hix3 sI3 ob3 hob3 sO3 g3a g3b g3c g3d h t a6 a7 a8 a9 a10 w3 w2 w1 v119 v120 v131
      = tripC (F := F) 3 (by decide) i arg2 arg4 ix3 ob3 sO3 g3a g3b h t a6 a7 a8 a9 a10 w3 w2 w1 v119 v120 v131 := rfl

theorem trip0_eq (v5 v10 v11 : BitVec 32) (h : k0_cond1 i = 1#1) (v77 z0 z1 z2 z3 z4 v81 : BitVec 32) :
    k0_t1_body (F := F) i arg2 harg2 arg3 harg3 arg4 harg4 ix0 hix0 sI0 ob0 hob0 sO0 g0a g0b g0c g0d ix1 hix1 sI1 ob1 hob1 sO1 g1a g1b g1c g1d ix2 hix2 sI2 ob2 hob2 sO2 g2a g2b g2c g2d ix3 hix3 sI3 ob3 hob3 sO3 g3a g3b g3c g3d v5 v10 v11 h v77 0#32 z1 z2 z3 z4 v81 = trip (F := F) 0 (by decide) i arg2 arg3 arg4 ix0 sI0 ob0 sO0 g0a g0b v5 v10 h := rfl

theorem rest0_eq (v5 v10 v11 : BitVec 32) (h : k0_cond1 i = 1#1) (v77 z1 z2 z3 z4 v81 : BitVec 32) :
    k0_part8 (F := F) i arg2 harg2 arg3 harg3 arg4 harg4 ix0 hix0 sI0 ob0 hob0 sO0 g0a g0b g0c g0d ix1 hix1 sI1 ob1 hob1 sO1 g1a g1b g1c g1d ix2 hix2 sI2 ob2 hob2 sO2 g2a g2b g2c g2d ix3 hix3 sI3 ob3 hob3 sO3 g3a g3b g3c g3d v5 v10 v11 h v77 0#32 z1 z2 z3 z4 v81
      = rest (F := F) 0 (by decide) i arg2 arg3 arg4 ix0 sI0 ob0 sO0 g0a g0b v5 v10 v11 h
          (k0_t2_body (F := F) i arg2 harg2 arg3 harg3 arg4 harg4 ix0 hix0 sI0 ob0 hob0 sO0 g0a g0b g0c g0d ix1 hix1 sI1 ob1 hob1 sO1 g1a g1b g1c g1d ix2 hix2 sI2 ob2 hob2 sO2 g2a g2b g2c g2d ix3 hix3 sI3 ob3 hob3 sO3 g3a g3b g3c g3d v5 v10 v11 h v77 0#32 z1 z2 z3 z4 v81 (Scalar.addi 0#32 v81)) v77 z1 z2 z3 z4 := by
  rw [k0_part8_eq_skeleton]; unfold k0_part8_skel; simp only [trip0_eq]; rfl

theorem trip1_eq (v5 v10 v11 : BitVec 32) (h : k0_cond19 i = 1#1) (v77 z0 z1 z2 z3 z4 v81 : BitVec 32) :
    k0_t3_body (F := F) i arg2 harg2 arg3 harg3 arg4 harg4 ix0 hix0 sI0 ob0 hob0 sO0 g0a g0b g0c g0d ix1 hix1 sI1 ob1 hob1 sO1 g1a g1b g1c g1d ix2 hix2 sI2 ob2 hob2 sO2 g2a g2b g2c g2d ix3 hix3 sI3 ob3 hob3 sO3 g3a g3b g3c g3d v5 v10 v11 h v77 0#32 z1 z2 z3 z4 v81 = trip (F := F) 1 (by decide) i arg2 arg3 arg4 ix1 sI1 ob1 sO1 g1a g1b v5 v10 h := rfl

theorem rest1_eq (v5 v10 v11 : BitVec 32) (h : k0_cond19 i = 1#1) (v77 z1 z2 z3 z4 v81 : BitVec 32) :
    k0_part16 (F := F) i arg2 harg2 arg3 harg3 arg4 harg4 ix0 hix0 sI0 ob0 hob0 sO0 g0a g0b g0c g0d ix1 hix1 sI1 ob1 hob1 sO1 g1a g1b g1c g1d ix2 hix2 sI2 ob2 hob2 sO2 g2a g2b g2c g2d ix3 hix3 sI3 ob3 hob3 sO3 g3a g3b g3c g3d v5 v10 v11 h v77 0#32 z1 z2 z3 z4 v81
      = rest (F := F) 1 (by decide) i arg2 arg3 arg4 ix1 sI1 ob1 sO1 g1a g1b v5 v10 v11 h
          (k0_t4_body (F := F) i arg2 harg2 arg3 harg3 arg4 harg4 ix0 hix0 sI0 ob0 hob0 sO0 g0a g0b g0c g0d ix1 hix1 sI1 ob1 hob1 sO1 g1a g1b g1c g1d ix2 hix2 sI2 ob2 hob2 sO2 g2a g2b g2c g2d ix3 hix3 sI3 ob3 hob3 sO3 g3a g3b g3c g3d v5 v10 v11 h v77 0#32 z1 z2 z3 z4 v81 (Scalar.addi 0#32 v81)) v77 z1 z2 z3 z4 := by
  rw [k0_part16_eq_skeleton]; unfold k0_part16_skel; simp only [trip1_eq]; rfl

theorem trip2_eq (v5 v10 v11 : BitVec 32) (h : k0_cond37 i = 1#1) (v77 z0 z1 z2 z3 z4 v81 : BitVec 32) :
    k0_t5_body (F := F) i arg2 harg2 arg3 harg3 arg4 harg4 ix0 hix0 sI0 ob0 hob0 sO0 g0a g0b g0c g0d ix1 hix1 sI1 ob1 hob1 sO1 g1a g1b g1c g1d ix2 hix2 sI2 ob2 hob2 sO2 g2a g2b g2c g2d ix3 hix3 sI3 ob3 hob3 sO3 g3a g3b g3c g3d v5 v10 v11 h v77 0#32 z1 z2 z3 z4 v81 = trip (F := F) 2 (by decide) i arg2 arg3 arg4 ix2 sI2 ob2 sO2 g2a g2b v5 v10 h := rfl

theorem rest2_eq (v5 v10 v11 : BitVec 32) (h : k0_cond37 i = 1#1) (v77 z1 z2 z3 z4 v81 : BitVec 32) :
    k0_part24 (F := F) i arg2 harg2 arg3 harg3 arg4 harg4 ix0 hix0 sI0 ob0 hob0 sO0 g0a g0b g0c g0d ix1 hix1 sI1 ob1 hob1 sO1 g1a g1b g1c g1d ix2 hix2 sI2 ob2 hob2 sO2 g2a g2b g2c g2d ix3 hix3 sI3 ob3 hob3 sO3 g3a g3b g3c g3d v5 v10 v11 h v77 0#32 z1 z2 z3 z4 v81
      = rest (F := F) 2 (by decide) i arg2 arg3 arg4 ix2 sI2 ob2 sO2 g2a g2b v5 v10 v11 h
          (k0_t6_body (F := F) i arg2 harg2 arg3 harg3 arg4 harg4 ix0 hix0 sI0 ob0 hob0 sO0 g0a g0b g0c g0d ix1 hix1 sI1 ob1 hob1 sO1 g1a g1b g1c g1d ix2 hix2 sI2 ob2 hob2 sO2 g2a g2b g2c g2d ix3 hix3 sI3 ob3 hob3 sO3 g3a g3b g3c g3d v5 v10 v11 h v77 0#32 z1 z2 z3 z4 v81 (Scalar.addi 0#32 v81)) v77 z1 z2 z3 z4 := by
  rw [k0_part24_eq_skeleton]; unfold k0_part24_skel; simp only [trip2_eq]; rfl

theorem trip3_eq (v5 v10 v11 : BitVec 32) (h : k0_cond55 i = 1#1) (v77 z0 z1 z2 z3 z4 v81 : BitVec 32) :
    k0_t7_body (F := F) i arg2 harg2 arg3 harg3 arg4 harg4 ix0 hix0 sI0 ob0 hob0 sO0 g0a g0b g0c g0d ix1 hix1 sI1 ob1 hob1 sO1 g1a g1b g1c g1d ix2 hix2 sI2 ob2 hob2 sO2 g2a g2b g2c g2d ix3 hix3 sI3 ob3 hob3 sO3 g3a g3b g3c g3d v5 v10 v11 h v77 0#32 z1 z2 z3 z4 v81 = trip (F := F) 3 (by decide) i arg2 arg3 arg4 ix3 sI3 ob3 sO3 g3a g3b v5 v10 h := rfl

theorem rest3_eq (v5 v10 v11 : BitVec 32) (h : k0_cond55 i = 1#1) (v77 z1 z2 z3 z4 v81 : BitVec 32) :
    k0_part32 (F := F) i arg2 harg2 arg3 harg3 arg4 harg4 ix0 hix0 sI0 ob0 hob0 sO0 g0a g0b g0c g0d ix1 hix1 sI1 ob1 hob1 sO1 g1a g1b g1c g1d ix2 hix2 sI2 ob2 hob2 sO2 g2a g2b g2c g2d ix3 hix3 sI3 ob3 hob3 sO3 g3a g3b g3c g3d v5 v10 v11 h v77 0#32 z1 z2 z3 z4 v81
      = rest (F := F) 3 (by decide) i arg2 arg3 arg4 ix3 sI3 ob3 sO3 g3a g3b v5 v10 v11 h
          (k0_t8_body (F := F) i arg2 harg2 arg3 harg3 arg4 harg4 ix0 hix0 sI0 ob0 hob0 sO0 g0a g0b g0c g0d ix1 hix1 sI1 ob1 hob1 sO1 g1a g1b g1c g1d ix2 hix2 sI2 ob2 hob2 sO2 g2a g2b g2c g2d ix3 hix3 sI3 ob3 hob3 sO3 g3a g3b g3c g3d v5 v10 v11 h v77 0#32 z1 z2 z3 z4 v81 (Scalar.addi 0#32 v81)) v77 z1 z2 z3 z4 := by
  rw [k0_part32_eq_skeleton]; unfold k0_part32_skel; simp only [trip3_eq]; rfl

end Cert.Proof.Gather
-- ==== Proof.Words.lean ====
/-
  The words of a pass.

  Tile (c, s) is worker w = 16 c + s of 32; of the 520 blocks of 128 rows it takes 17 from block 17 w on if w < 8, and 16
  from block 16 w + 8 on otherwise (`nB`, `bB`). Before trip t the five carried words are the index slot to fill next,
  the index slot and the output slot to use, the output slot to await, and the grid index (`A6` … `A10`). For these the
  printed conditions and offsets are the plain numbers below; there being 32 tiles and at most 17 trips of each, all of
  it is computed.
-/
module

public import proofs.«01_k».proof.Proof.Lane

@[expose] public section

namespace Cert.Proof.Gather

open Cert.KernelIdeal Cert.KernelIdeal.Gen
open Idealize.ShloMosaic Idealize.SL.Sem

/-- The grid point of core `c`, subcore `s`. -/
def co (c : Fin 2) (s : Fin 16) : grid0.Coords :=
  fun | 0 => c | 1 => s | ⟨_ + 2, h⟩ => absurd h (Nat.not_lt.2 (Nat.le_add_left _ _))

theorem co_eta (i : grid0.Coords) : co (i 0) (i 1) = i := by
  funext a; match a with
  | 0 => rfl
  | 1 => rfl

/-- How many blocks the tile takes. -/
def nB (i : grid0.Coords) : Nat := if 16 * (i 0).val + (i 1).val < 8 then 17 else 16
/-- The tile's first block. -/
def bB (i : grid0.Coords) : Nat := if 16 * (i 0).val + (i 1).val < 8 then 17 * (16 * (i 0).val + (i 1).val) else 16 * (16 * (i 0).val + (i 1).val) + 8

theorem nB_pos (i : grid0.Coords) : 0 < nB i := by unfold nB; split <;> omega
theorem nB_le (i : grid0.Coords) : nB i ≤ 17 := by unfold nB; split <;> omega
theorem bB_add (i : grid0.Coords) : bB i + nB i ≤ 520 := by
  have h0 : (i 0).val < 2 := (i 0).isLt
  have h1 : (i 1).val < 16 := (i 1).isLt
  unfold bB nB; split <;> omega

/-- The five carried words before trip `t`. -/
def A6 (i : grid0.Coords) (t : Nat) : BitVec 32 := BitVec.ofNat 32 (min (t + 1) (nB i))
def A7 (t : Nat) : BitVec 32 := BitVec.ofNat 32 t
def A9 (t : Nat) : BitVec 32 := BitVec.ofNat 32 (t - 1)
def A10 (i : grid0.Coords) (t : Nat) : BitVec 32 := BitVec.ofNat 32 (if t < nB i then t else 0)

/-- The words a trip hands to the next one, as the pass computes them. -/
def next (v5 v10 : BitVec 32) (t : Nat) (a6 a7 a8 a9 a10 : BitVec 32) : BitVec 32 × BitVec 32 × BitVec 32 × BitVec 32 × BitVec 32 :=
  let a5 : BitVec 32 := Scf.iv 0#32 1#32 t
  let v116 : BitVec 32 := Scalar.muli 1#32 v5
  let v117 : BitVec 1 := Scalar.cmpi .eq a5 0#32
  let v119 : BitVec 1 := Scalar.cmpi .eq a5 (Scalar.subi v116 1#32)
  let v120 : BitVec 32 := Scalar.addi a10 v10
  let v122 : BitVec 32 := Scalar.select 1#1 (Scalar.subi a10 1#32) a10
  let v126 : BitVec 32 := Scalar.addi (Scalar.select (Scalar.cmpi .eq v122 4294967295#32) (Scalar.subi v5 1#32) v122) v10
  let v128 : BitVec 32 := Scalar.select 1#1 (Scalar.addi a10 1#32) a10
  let v131 : BitVec 32 := Scalar.addi (Scalar.select (Scalar.cmpi .eq v128 v5) 0#32 v128) v10
  let v137 : BitVec 1 := Scalar.cmpi .ne v120 v131
  let v140 : BitVec 1 := Scalar.cmpi .sge a5 (Scalar.addi (Scalar.subi v116 2#32) 1#32)
  let v142 : BitVec 1 := Scalar.andi v137 (Scalar.xori v140 1#1)
  let v148 : BitVec 32 := Scalar.select (Scalar.andi v142 1#1) (Scalar.addi a6 1#32) a6
  let v175 : BitVec 1 := Scalar.ori (Scalar.cmpi .ne v120 v131) v119
  let v180 : BitVec 32 := Scalar.select (Scalar.andi v175 1#1) (Scalar.addi a8 1#32) a8
  let v189 : BitVec 1 := Scalar.andi (Scalar.cmpi .ne v120 v126) (Scalar.xori v117 1#1)
  let v194 : BitVec 32 := Scalar.select (Scalar.andi v189 1#1) (Scalar.addi a9 1#32) a9
  let v198 : BitVec 32 := Scalar.select (Scalar.ori (Scalar.cmpi .ne v120 v131) v119) (Scalar.addi a7 1#32) a7
  let v200 : BitVec 32 := Scalar.select 1#1 (Scalar.addi a10 1#32) a10
  let v202 : BitVec 32 := Scalar.select (Scalar.cmpi .eq v200 v5) 0#32 v200
  (v148, v198, v180, v194, v202)

/-- The tile's number of blocks and its first block, as words. -/
def wN (i : grid0.Coords) : BitVec 32 := BitVec.ofNat 32 (nB i)
def wB (i : grid0.Coords) : BitVec 32 := BitVec.ofNat 32 (bB i)

/-- What is computed of a tile. -/
def TileW (i : grid0.Coords) : Prop :=
  (k0_t1_loop i).trips = nB i ∧ (k0_t2_loop i).trips = 0 ∧ k0_cond1 i = 1#1 ∧ k0_cond2 i = 1#1 ∧ k0_cond18 i = 1#1
    ∧ k0_off2 i 0 = 0 ∧ k0_off2 i 1 = 128 * bB i
    ∧ k0_off33 i 0#32 0 = 128 * (bB i + nB i - 1)
    ∧ Scalar.select (Scalar.andi 1#1 (Scalar.cmpi .sgt (Scalar.muli 1#32 (wN i)) 0#32)) (Scalar.addi 0#32 1#32) 0#32 = 1#32
instance (i : grid0.Coords) : Decidable (TileW i) := by unfold TileW; infer_instance

/-- What is computed of a trip. -/
def TripW (i : grid0.Coords) (t : Fin (k0_t1_loop i).trips) : Prop :=
  k0_cond3 i t (A10 i t) = (if t.val + 1 < nB i then 1#1 else 0#1) ∧ k0_cond4 i t (A10 i t) = 1#1 ∧ k0_cond7 i t (A10 i t) = 1#1
    ∧ k0_cond9 i t (A10 i t) = (if 0 < t.val then 1#1 else 0#1)
    ∧ (t.val + 1 < nB i → k0_off5 i (A10 i t) 0 = 0 ∧ k0_off5 i (A10 i t) 1 = 128 * (bB i + (t.val + 1)))
    ∧ k0_off8 i (A10 i t) 0 = 0 ∧ k0_off8 i (A10 i t) 1 = 128 * (bB i + t.val)
    ∧ k0_off13 i (A10 i t) 0 = 128 * (bB i + t.val)
    ∧ (0 < t.val → k0_off16 i (A10 i t) 0 = 128 * (bB i + (t.val - 1)))
    ∧ next (wN i) (wB i) t (A6 i t) (A7 t) (A7 t) (A9 t) (A10 i t) = (A6 i (t + 1), A7 (t + 1), A7 (t + 1), A9 (t + 1), A10 i (t + 1))
instance (i : grid0.Coords) (t : Fin (k0_t1_loop i).trips) : Decidable (TripW i t) := by unfold TripW; infer_instance

set_option maxRecDepth 65536 in
theorem tileW_all : ∀ (c : Fin 2) (s : Fin 16), TileW (co c s) := by decide +kernel
theorem tileW (i : grid0.Coords) : TileW i := co_eta i ▸ tileW_all (i 0) (i 1)

set_option maxRecDepth 65536 in
theorem tripW_all : ∀ (c : Fin 2) (s : Fin 16) (t : Fin (k0_t1_loop (co c s)).trips), TripW (co c s) t := by decide +kernel
theorem tripW (i : grid0.Coords) : ∀ t : Fin (k0_t1_loop i).trips, TripW i t := co_eta i ▸ tripW_all (i 0) (i 1)

/-! ## The slots' offsets -/

theorem off4_eq : ∀ k : Fin 18, k0_off4 (A7 k) 0 = k.val % 2 := by decide +kernel
theorem off6_eq : ∀ k : Fin 18, k0_off6 (A7 k) 0 = k.val % 2 := by decide +kernel
theorem off7_eq : ∀ k : Fin 18, k0_off7 (A7 k) 0 = k.val % 2 := by decide +kernel
theorem off9_eq : ∀ k : Fin 18, k0_off9 (A7 k) 0 = k.val % 2 := by decide +kernel
theorem off10_eq : ∀ k : Fin 18, k0_off10 (A7 k) 0 = k.val % 2 := by decide +kernel
theorem off11_eq : ∀ k : Fin 18, k0_off11 (A7 k) 0 = k.val % 2 := by decide +kernel
theorem off12_eq : ∀ k : Fin 18, k0_off12 (A7 k) 0 = k.val % 2 := by decide +kernel
theorem off14_eq : ∀ k : Fin 18, k0_off14 (A7 k) 0 = k.val % 2 := by decide +kernel
theorem off15_eq : ∀ k : Fin 18, k0_off15 (A7 k) 0 = k.val % 2 := by decide +kernel
theorem off17_eq : ∀ k : Fin 18, k0_off17 (A7 k) 0 = k.val % 2 := by decide +kernel
theorem off34_eq : ∀ k : Fin 18, k0_off34 (A7 k) 0 = k.val % 2 := by decide +kernel
theorem off35_eq : ∀ k : Fin 18, k0_off35 (A7 k) 0 = k.val % 2 := by decide +kernel

end Cert.Proof.Gather
-- ==== Proof.Geo.lean ====
/-
  The pass's transfers, each as one step.

  A tile's pass moves three things: a block's 128 row numbers from the list into an index slot (`wp_fetch`), the 128 rows
  they name, half a slot's columns at a time, into an output slot (`wp_gather`), and the slot out to its block of the
  result (`wp_out`). Each is stated at any printed offsets that are the plain ones, with what it hands over when its wait
  comes back. `goal` is the result: row `r` is the table's row number `pos r`.
-/
module

public import proofs.«01_k».proof.Proof.LaneEq
public import proofs.«01_k».proof.Proof.Words
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.VecWindow
public import Idealize.ShloMosaic.Lib.Tactic

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

abbrev 𝒱₀ : Variants := Variants.none
abbrev UH : Type := URounds (GSem nD τ sig) ℕ
abbrev UU : Type := UH × Counters

local notation "𝕄" => MT nD τ sig (HIx 1) (Elt F) ℕ UU ℕ

/-- The table, the list and the result, as a tile names them. -/
abbrev yW : Memref sig .scVector .hbm S70656x1024 .f32 := Memref.whole main_arg0_scv
abbrev pW : Memref sig .scVector .hbm S1x66560 .i32 := Memref.whole main_v1_scv
abbrev oW : Memref sig .scVector .hbm S66560x1024 .f32 := Memref.whole main_v2_scv

abbrev yLoc (d : Dev nD) : Loc nD τ sig := (SparseCore.T d).loc main_arg0
abbrev pLoc (d : Dev nD) : Loc nD τ sig := (SparseCore.T d).loc main_v1
abbrev oLoc (d : Dev nD) : Loc nD τ sig := (SparseCore.T d).loc main_v2

/-- The tile at grid point `i`. -/
abbrev tV (d : Dev nD) (i : grid0.Coords) : Thread nD τ := V d ((i 0).castLE hcore0) ((i 1).castLE hsub0)

/-! ## The result -/

/-- The index of the table at row `a`, column `b`. -/
def yAt (a : Fin 70656) (b : Fin 1024) : S70656x1024.Idx := fun | 0 => a | 1 => b
/-- The index of the list at `r`. -/
def pAt (r : Fin 66560) : S1x66560.Idx := fun | 0 => (0 : Fin 1) | 1 => r
/-- The index of the result at row `a`, column `b`. -/
def oAt (a : Fin 66560) (b : Fin 1024) : S66560x1024.Idx := fun | 0 => a | 1 => b

/-- Row `r` of the result is the table's row number `p r`. -/
def goal (fy : S70656x1024.Idx → F .f32) (fp : S1x66560.Idx → BitVec 32) : S66560x1024.Idx → F .f32 :=
  fun x => fy (yAt ⟨min (fp (pAt (x 0))).toNat 70655, by omega⟩ (x 1))

/-! ## Slots and blocks -/

theorem inbI (k : Fin 2) : ∀ a, (![k.val, 0, 0] : Fin 3 → Nat) a + S1x1x128.size a ≤ S2x1x128.size a := by
  intro a; match a with
  | 0 => show k.val + 1 ≤ 2; omega
  | 1 => exact le_of_eq rfl
  | 2 => exact le_of_eq rfl
theorem inbO (k : Fin 2) : ∀ a, (![k.val, 0, 0] : Fin 3 → Nat) a + S1x128x256.size a ≤ S2x128x256.size a := by
  intro a; match a with
  | 0 => show k.val + 1 ≤ 2; omega
  | 1 => exact le_of_eq rfl
  | 2 => exact le_of_eq rfl
theorem inbS (k : Fin 2) : ∀ a, (![k.val] : Fin 1 → Nat) a + S1.size a ≤ S2.size a := by
  intro a; match a with
  | 0 => show k.val + 1 ≤ 2; omega
theorem inbP (j : Fin 520) : ∀ a, (![0, 128 * j.val] : Fin 2 → Nat) a + S1x128.size a ≤ S1x66560.size a := by
  intro a; match a with
  | 0 => exact le_of_eq rfl
  | 1 => show 128 * j.val + 128 ≤ 66560; omega
theorem inbR (col : Nat) (hcol : col < 4) (j : Fin 520) : ∀ a, (![128 * j.val, 256 * col] : Fin 2 → Nat) a + S128x256.size a ≤ S66560x1024.size a := by
  intro a; match a with
  | 0 => show 128 * j.val + 128 ≤ 66560; omega
  | 1 => show 256 * col + 256 ≤ 1024; omega

/-- Index slot `k`, output slot `k`, block `j` of the list, block `j` of the result's column block, semaphore `k`. -/
abbrev iSl (ix : Memref sig .scVector .vmem S2x1x128 .i32) (k : Fin 2) : Memref sig .scVector .vmem S1x128 .i32 :=
  (ix.slice (Rect.unit (s := S2x1x128) ![k.val, 0, 0] S1x1x128.size (inbI k)) (fun _ => rfl)).squeeze S1x128 squeezes_S1x1x128_S1x128
abbrev oSl (ob : Memref sig .scVector .vmem S2x128x256 .f32) (k : Fin 2) : Memref sig .scVector .vmem S128x256 .f32 :=
  (ob.slice (Rect.unit (s := S2x128x256) ![k.val, 0, 0] S1x128x256.size (inbO k)) (fun _ => rfl)).squeeze S128x256 squeezes_S1x128x256_S128x256
abbrev pBl (j : Fin 520) : Memref sig .scVector .hbm S1x128 .i32 :=
  pW.slice (Rect.unit (s := S1x66560) ![0, 128 * j.val] S1x128.size (inbP j)) (fun _ => rfl)
abbrev oBl (col : Nat) (hcol : col < 4) (j : Fin 520) : Memref sig .scVector .hbm S128x256 .f32 :=
  oW.slice (Rect.unit (s := S66560x1024) ![128 * j.val, 256 * col] S128x256.size (inbR col hcol j)) (fun _ => rfl)
abbrev sem1 (s : DmaSems sig S2) (k : Fin 2) : DmaSem sig :=
  ((s.slice (Rect.unit (s := S2) ![k.val] S1.size (inbS k))).squeeze S_ squeezes_S1_S_).sem

/-- Rows `128 lo` to `128 hi` of column block `col` of the result. -/
def oSet (col lo hi : Nat) : Finset S66560x1024.Idx :=
  Finset.univ.filter fun x => 128 * lo ≤ (x 0).val ∧ (x 0).val < 128 * hi ∧ 256 * col ≤ (x 1).val ∧ (x 1).val < 256 * col + 256

theorem mem_oSet {col lo hi : Nat} {x : S66560x1024.Idx} :
    x ∈ oSet col lo hi ↔ 128 * lo ≤ (x 0).val ∧ (x 0).val < 128 * hi ∧ 256 * col ≤ (x 1).val ∧ (x 1).val < 256 * col + 256 := by
  unfold oSet; rw [Finset.mem_filter]; exact and_iff_right (Finset.mem_univ x)

theorem oSet_empty (col lo : Nat) : oSet col lo lo = ∅ := by
  ext x; rw [mem_oSet]; simp only [Finset.notMem_empty, iff_false]; omega

theorem oSet_union (col : Nat) {lo mid hi : Nat} (h : lo ≤ mid) (h' : mid ≤ hi) : oSet col lo mid ∪ oSet col mid hi = oSet col lo hi := by
  ext x; rw [Finset.mem_union, mem_oSet, mem_oSet, mem_oSet]; omega

theorem oSet_disj (col : Nat) {lo mid hi : Nat} : Disjoint (oSet col lo mid) (oSet col mid hi) :=
  Finset.disjoint_left.mpr fun x hx hx' => by rw [mem_oSet] at hx hx'; omega

theorem set_oBl (col : Nat) (hcol : col < 4) (j : Fin 520) : (oBl col hcol j).view.set = oSet col j.val (j.val + 1) := by
  show ((View.whole main_v2_scv).slice _).set = _
  rw [View.set_slice_whole]
  ext x
  rw [mem_oSet]
  refine Rect.mem_set_unit.trans ?_
  constructor
  · intro h
    have h0 := h 0; have h1 := h 1
    have e0 : 128 * j.val ≤ (x 0).val ∧ (x 0).val < 128 * j.val + 128 := h0
    have e1 : 256 * col ≤ (x 1).val ∧ (x 1).val < 256 * col + 256 := h1
    omega
  · intro h a
    match a with
    | 0 => show 128 * j.val ≤ (x 0).val ∧ (x 0).val < 128 * j.val + 128; omega
    | 1 => show 256 * col ≤ (x 1).val ∧ (x 1).val < 256 * col + 256; omega

/-- An element of block `j` of the list, and of the result. -/
theorem emb_pBl (j : Fin 520) (x : S1x128.Idx) : (pBl j).view.emb x = pAt ⟨128 * j.val + (x 1).val, by have : (x 1).val < 128 := (x 1).isLt; omega⟩ := by
  funext a; match a with
  | 0 => exact Fin.ext (show 0 + 1 * (x 0).val = 0 by have : (x 0).val < 1 := (x 0).isLt; omega)
  | 1 => exact Fin.ext (show 128 * j.val + 1 * (x 1).val = 128 * j.val + (x 1).val by omega)
theorem emb_oBl (col : Nat) (hcol : col < 4) (j : Fin 520) (x : S128x256.Idx) : (oBl col hcol j).view.emb x
    = oAt ⟨128 * j.val + (x 0).val, by have : (x 0).val < 128 := (x 0).isLt; omega⟩ ⟨256 * col + (x 1).val, by have : (x 1).val < 256 := (x 1).isLt; omega⟩ := by
  funext a; match a with
  | 0 => exact Fin.ext (show 128 * j.val + 1 * (x 0).val = 128 * j.val + (x 0).val by omega)
  | 1 => exact Fin.ext (show 256 * col + 1 * (x 1).val = 256 * col + (x 1).val by omega)

/-! ## A flight carries more -/

variable (d : Dev nD) (i : grid0.Coords)

omit [FloatOps F] in
/-- What a transfer hands over can be held together with more. -/
theorem Flight_frame {c : Thread nD τ} {sm : SemLoc sig} {ι : HIx 1} {N : ℕ} {D R : sProp 𝕄} :
    iprop(Transfers.Flight (countersEmb : UEmb Counters 𝕄) c sm ι N D ∗ R) ⊢ Transfers.Flight (countersEmb : UEmb Counters 𝕄) c sm ι N iprop(D ∗ R) := by
  unfold Transfers.Flight
  iintro ⟨⟨⟨%R', HR', %h1, %h2⟩, Hc⟩, HR⟩
  isplitr [Hc]
  · iexists iprop(R' ∗ R)
    isplitl [HR' HR]; · isplitl [HR'] <;> iassumption
    isplitr
    · ipureintro
      intro K
      refine BIBase.Entails.trans ?_ (h1 K)
      iintro ⟨⟨HR', HR⟩, HK⟩
      isplitl [HR']; · iexact HR'
      iintro ⟨Hs, HD⟩
      iapply HK
      isplitl [Hs]; · iexact Hs
      isplitl [HD] <;> iassumption
    · ipureintro
      intro K
      refine BIBase.Entails.trans ?_ (h2 K)
      iintro ⟨⟨HR', HR⟩, HK⟩
      isplitl [HR']; · iexact HR'
      iintro HR'
      iapply HK
      isplitl [HR'] <;> iassumption
  · iexact Hc

omit [FloatOps F] in
theorem Flight_frame' {c : Thread nD τ} {sm : SemLoc sig} {ι : HIx 1} {N : ℕ} {D R : sProp 𝕄} :
    Transfers.Flight (countersEmb : UEmb Counters 𝕄) c sm ι N D ⊢ iprop(R -∗ Transfers.Flight (countersEmb : UEmb Counters 𝕄) c sm ι N iprop(D ∗ R)) := by
  iintro Hf HR
  iapply (Flight_frame (F := F))
  isplitl [Hf] <;> iassumption

end Cert.Proof.Gather
-- ==== Proof.Ops.lean ====
/-
  The pass's four kinds of operation: an index fetch, a half slot's gather, a write-out, and their waits.
-/
module

public import proofs.«01_k».proof.Proof.Geo

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## What is read -/

section Reads

variable (ix : Memref sig .scVector .vmem S2x1x128 .i32)

/-- Index slot `k`, as a list of 128 row numbers. -/
abbrev lst (k : Fin 2) : Memref sig .scVector .vmem S128 .i32 :=
  ((iSl ix k).slice (Rect.unit (s := S1x128) ![0, 0] S1x128.size inb_S1x128_S1x128_0_0) (fun _ => rfl)).squeeze S128 squeezes_S1x128_S128

theorem set_lst (k : Fin 2) : (lst ix k).view.set = (iSl ix k).view.set := by
  have h : (Rect.unit (s := S1x128) ![0, 0] S1x128.size inb_S1x128_S1x128_0_0).set = (Finset.univ : Finset S1x128.Idx) := by
    ext x; rw [Rect.mem_set_unit]
    refine iff_of_true (fun a => ?_) (Finset.mem_univ x)
    match a with
    | 0 => exact ⟨Nat.zero_le _, by simpa using (x 0).isLt⟩
    | 1 => exact ⟨Nat.zero_le _, by simpa using (x 1).isLt⟩
  show (((iSl ix k).view.slice _).reshape S128 _).set = _
  rw [View.set_reshape, View.set_slice, h]
  rfl

/-- The list's entry `x` is the slot's at `(0, x)`. -/
theorem read_lst (k : Fin 2) (f : (iSl ix k).view.ty.Contents (Elt F)) (x : S128.Idx) :
    (lst ix k).view.read (Elt F) f x = (iSl ix k).view.read (Elt F) f (Fin.cons ⟨0, Nat.one_pos⟩ x) := by
  have h : (lst ix k).view.emb x = (iSl ix k).view.emb (Fin.cons ⟨0, Nat.one_pos⟩ x) := by
    show (iSl ix k).view.emb ((Rect.unit (s := S1x128) ![0, 0] S1x128.size inb_S1x128_S1x128_0_0).emb (Shape.reshapeEquiv _ x)) = _
    rw [show (Rect.unit (s := S1x128) ![0, 0] S1x128.size inb_S1x128_S1x128_0_0).emb (Shape.reshapeEquiv squeezes_S1x128_S128.numel_eq x)
      = Shape.reshapeEquiv squeezes_S1x128_S128.numel_eq x from Rect.emb_unit_full _ _]
    rw [show (Shape.reshapeEquiv squeezes_S1x128_S128.numel_eq x : S1x128.Idx) = Fin.cons ⟨0, Nat.one_pos⟩ x from Shape.reshapeEquiv_cons_one _ x]
  rw [View.read_apply, View.read_apply, h]

/-- A fetched slot's list is its block of the list. -/
theorem read_lst_pos (k : Fin 2) (j : Fin 520) (f : (iSl ix k).view.ty.Contents (Elt F)) (fp : S1x66560.Idx → BitVec 32)
    (h : (iSl ix k).view.read (Elt F) f = (pBl j).view.read (Elt F) fp) (x : S128.Idx) :
    (lst ix k).view.read (Elt F) f x = fp (pAt ⟨128 * j.val + (x 0).val, by have : (x 0).val < 128 := (x 0).isLt; omega⟩) := by
  rw [read_lst, h, show ∀ z, (pBl j).view.read (Elt F) fp z = fp ((pBl j).view.emb z) from fun z => View.read_apply _ _, emb_pBl]
  rfl

end Reads

/-- The result's rows of block `j`, columns `kc` on: what a half slot is to hold. -/
def payOf (fy : S70656x1024.Idx → F .f32) (fp : S1x66560.Idx → BitVec 32) (j : Fin 520) (kc : Nat) (hk : kc + 128 ≤ 1024) : S128x128.Idx → F .f32 :=
  fun x => goal fy fp (oAt ⟨128 * j.val + (x 0).val, by have : (x 0).val < 128 := (x 0).isLt; omega⟩ ⟨kc + (x 1).val, by have : (x 1).val < 128 := (x 1).isLt; omega⟩)

/-- The rows a stream reads, at a fetched list, are the result's. -/
theorem payload_eq (ix : Memref sig .scVector .vmem S2x1x128 .i32) (k : Fin 2) (j : Fin 520) (f : (iSl ix k).view.ty.Contents (Elt F))
    (fy : S70656x1024.Idx → F .f32) (fp : S1x66560.Idx → BitVec 32)
    (h : (iSl ix k).view.read (Elt F) f = (pBl j).view.read (Elt F) fp) (kc : Nat) (hkc : kc + 128 ≤ 1024)
    (hk : ∀ a, (![0, kc] : Fin 2 → Nat) a + S70656x128.size a ≤ S70656x1024.size a)
    (hin : ∀ x, ((lst ix k).view.read (Elt F) f x).toNat < S70656x128.size (gathers_S70656x128_S128x128).axis) :
    SparseCore.gatherPayload (F := F) (e := .f32) gathers_S70656x128_S128x128 ((yCols yW kc hk).view.read (Elt F) fy)
      (SparseCore.rows ((lst ix k).view.read (Elt F) f) rfl hin) = payOf fy fp j kc hkc := by
  funext x
  unfold SparseCore.gatherPayload payOf goal
  rw [show ∀ z, (yCols yW kc hk).view.read (Elt F) fy z = fy ((yCols yW kc hk).view.emb z) from fun z => View.read_apply _ _]
  congr 1
  have hr : ∀ n : Fin 128, ((lst ix k).view.read (Elt F) f (S128.rowMajor.symm n)).toNat
      = (fp (pAt ⟨128 * j.val + n.val, by omega⟩)).toNat := by
    intro n
    rw [read_lst_pos ix k j f fp h]
    have e : ((S128.rowMajor.symm n) 0).val = n.val := by
      have := Shape.rowMajor_val_one (S128.rowMajor.symm n)
      exact this.symm.trans (congrArg Fin.val (S128.rowMajor.apply_symm_apply n))
    congr 3; exact Fin.ext (by show 128 * j.val + _ = 128 * j.val + _; rw [e])
  funext a; match a with
  | 0 =>
    refine Fin.ext ?_
    have e0 := Shape.Gathers.idx_axis gathers_S70656x128_S128x128 (SparseCore.rows ((lst ix k).view.read (Elt F) f) rfl hin) x
    have e1 : ((gathers_S70656x128_S128x128.idx (SparseCore.rows ((lst ix k).view.read (Elt F) f) rfl hin) x) 0).val
        = (fp (pAt ⟨128 * j.val + (x 0).val, by have : (x 0).val < 128 := (x 0).isLt; omega⟩)).toNat := (congrArg Fin.val e0).trans (hr (x 0))
    have hlt : (fp (pAt ⟨128 * j.val + (x 0).val, by have : (x 0).val < 128 := (x 0).isLt; omega⟩)).toNat < 70656 := by
      rw [← e1]; exact ((gathers_S70656x128_S128x128.idx (SparseCore.rows ((lst ix k).view.read (Elt F) f) rfl hin) x) 0).isLt
    show 0 + 1 * ((gathers_S70656x128_S128x128.idx _ x) 0).val = min _ 70655
    rw [e1]
    show _ = min (fp (pAt ⟨128 * j.val + (x 0).val, _⟩)).toNat 70655
    omega
  | 1 =>
    refine Fin.ext ?_
    have e1 := Shape.Gathers.idx_of_ne gathers_S70656x128_S128x128 (SparseCore.rows ((lst ix k).view.read (Elt F) f) rfl hin) x 1 (by decide)
    show kc + 1 * ((gathers_S70656x128_S128x128.idx _ x) 1).val = kc + (x 1).val
    rw [e1]
    show kc + 1 * (x 1).val = kc + (x 1).val
    omega

section SlotRead

variable (ob : Memref sig .scVector .vmem S2x128x256 .f32) (k : Fin 2)

/-- A slot whose two halves are written reads as the two. -/
theorem read_halves (f : (oSl ob k).view.ty.Contents (Elt F)) (fy : S70656x1024.Idx → F .f32) (fp : S1x66560.Idx → BitVec 32) (j : Fin 520)
    (col : Nat) (hcol : col < 4) :
    (oSl ob k).view.read (Elt F) ((halfB (oSl ob k)).view.write (Elt F) ((halfA (oSl ob k)).view.write (Elt F) f
        (payOf fy fp j (256 * col) (by omega)) Finset.univ) (payOf fy fp j (256 * col + 128) (by omega)) Finset.univ)
      = fun x => goal fy fp ((oBl col hcol j).view.emb x) := by
  funext x
  rw [emb_oBl]
  have hx0 : (x 0).val < 128 := (x 0).isLt
  have hx1 : (x 1).val < 256 := (x 1).isLt
  by_cases hx : (x 1).val < 128
  · have hn : x ∉ (Finset.univ : Finset S128x128.Idx).map (Rect.unit (s := S128x256) ![0, 128] S128x128.size inb_S128x256_S128x128_0_128).emb := by
      intro hm
      obtain ⟨z, -, hz⟩ := Finset.mem_map.mp hm
      have : (x 1).val = 128 + 1 * (z 1).val := by rw [← hz]; rfl
      omega
    refine (View.read_slice_write_of_not_mem _ _ _ _ hn).trans ?_
    have he : x = (Rect.unit (s := S128x256) ![0, 0] S128x128.size inb_S128x256_S128x128_0_0).emb
        (fun | 0 => (⟨(x 0).val, hx0⟩ : Fin 128) | 1 => (⟨(x 1).val, hx⟩ : Fin 128)) := by
      funext a; match a with
      | 0 => exact Fin.ext (show (x 0).val = 0 + 1 * (x 0).val by omega)
      | 1 => exact Fin.ext (show (x 1).val = 0 + 1 * (x 1).val by omega)
    rw [he]
    refine (View.read_slice_write_emb _ _ _ (Finset.mem_univ _)).trans ?_
    unfold payOf
    congr 2 <;> refine Fin.ext ?_
    · show 128 * j.val + (x 0).val = 128 * j.val + (0 + 1 * (x 0).val); omega
    · show 256 * col + (x 1).val = 256 * col + (0 + 1 * (x 1).val); omega
  · have he : x = (Rect.unit (s := S128x256) ![0, 128] S128x128.size inb_S128x256_S128x128_0_128).emb
        (fun | 0 => (⟨(x 0).val, hx0⟩ : Fin 128) | 1 => (⟨(x 1).val - 128, by omega⟩ : Fin 128)) := by
      funext a; match a with
      | 0 => exact Fin.ext (show (x 0).val = 0 + 1 * (x 0).val by omega)
      | 1 => exact Fin.ext (show (x 1).val = 128 + 1 * ((x 1).val - 128) by omega)
    rw [he]
    refine (View.read_slice_write_emb _ _ _ (Finset.mem_univ _)).trans ?_
    unfold payOf
    congr 2 <;> refine Fin.ext ?_
    · show 128 * j.val + (x 0).val = 128 * j.val + (0 + 1 * (x 0).val); omega
    · show 256 * col + 128 + ((x 1).val - 128) = 256 * col + (128 + 1 * ((x 1).val - 128)); omega

end SlotRead

/-! ## The operations -/

section Ops

variable (d : Dev nD) (i : grid0.Coords) (ix : Memref sig .scVector .vmem S2x1x128 .i32) (ob : Memref sig .scVector .vmem S2x128x256 .f32)
  (fy : Buf (Elt F) (yLoc d)) (fp : Buf (Elt F) (pLoc d)) (fo : Buf (Elt F) (oLoc d))

/-- An index slot at some contents; at block `j` of the list; an output slot at some contents. -/
abbrev idxFree (k : Fin 2) : sProp 𝕄 := iprop(∃ f, (iSl ix k).view.loc (tV d i) ↦[(iSl ix k).view.set]{fullShare} f)
abbrev idxHas (k : Fin 2) (j : Fin 520) : sProp 𝕄 :=
  iprop(∃ f, ⌜(iSl ix k).view.read (Elt F) f = (pBl j).view.read (Elt F) fp⌝ ∗ (iSl ix k).view.loc (tV d i) ↦[(iSl ix k).view.set]{fullShare} f)
abbrev obFree (k : Fin 2) : sProp 𝕄 := iprop(∃ f, (oSl ob k).view.loc (tV d i) ↦[(oSl ob k).view.set]{fullShare} f)

/-- What a fetch, a write-out and a stream add to their semaphores. -/
abbrev crI : Nat := sig.dmaCredit .scVector (Kind.scVector.table .vmem) ix.view.buf S1x128 .i32
abbrev crO : Nat := sig.dmaCredit .scVector (Kind.scVector.table .hbm) oW.view.buf S128x256 .f32
abbrev crG : Nat := sig.dmaCredit .scVector (Kind.scVector.table .vmem) ob.view.buf S128x128 .f32

/-- The fetch of block `j`'s row numbers into slot `k`, in flight. -/
abbrev FlI (s : DmaSems sig S2) (k : Fin 2) (j : Fin 520) (q : PosShare TreeShare) : sProp 𝕄 :=
  Transfers.Flight (countersEmb : UEmb Counters 𝕄) (tV d i) (.dma (sem1 s k)) (default : HIx 1) (crI ix)
    iprop(idxHas d i ix fp k j ∗ pLoc d ↦{q} fp)
/-- The write-out of slot `k` to block `j` of column block `col`, in flight. -/
abbrev FlO (col : Nat) (hcol : col < 4) (s : DmaSems sig S2) (k : Fin 2) (j : Fin 520) : sProp 𝕄 :=
  Transfers.Flight (countersEmb : UEmb Counters 𝕄) (tV d i) (.dma (sem1 s k)) (default : HIx 1) crO
    iprop((oLoc d ↦[oSet col j.val (j.val + 1)]{fullShare} goal fy fp) ∗ obFree (F := F) d i ob k)

variable {α : Type} {Q : α → sProp (MT nD τ sig (HIx 1) (Elt F) ℕ UU ℕ)} {kk : PUnit → Prog (TpuEff nD τ sig (Elt F) Λ₀ (tV d i).2) α}

theorem wp_fetch (sI : DmaSems sig S2) (k : Fin 2) (j : Fin 520) {q : PosShare TreeShare} {o5 : Fin 2 → Nat} {o4 : Fin 3 → Nat} {o6 : Fin 1 → Nat}
    (h5 : o5 = ![0, 128 * j.val]) (h4 : o4 = ![k.val, 0, 0]) (h6 : o6 = ![k.val]) {i5 : ∀ a, o5 a + S1x128.size a ≤ S1x66560.size a}
    {i4 : ∀ a, o4 a + S1x1x128.size a ≤ S2x1x128.size a} {i6 : ∀ a, o6 a + S1.size a ≤ S2.size a} {hsrc hdst hsem} :
    iprop(idxFree (F := F) d i ix k ∗ (pLoc d ↦{q} fp) ∗ semVal (tV d i, .dma (sem1 sI k)) 0)
      ⊢ iprop((FlI d i ix fp sI k j q -∗ wp frame (wpE (defs₀ (F := F)) 𝒱₀ (tV d i) none) Set.univ (kk ⟨⟩) Q)
        -∗ wp frame (wpE (defs₀ (F := F)) 𝒱₀ (tV d i) none) Set.univ
          (.op (.enqueueDma (pW.slice (Rect.unit (s := S1x66560) o5 S1x128.size i5) (fun _ => rfl))
            (.here ((ix.slice (Rect.unit (s := S2x1x128) o4 S1x1x128.size i4) (fun _ => rfl)).squeeze S1x128 squeezes_S1x1x128_S1x128))
            (.dma ((sI.slice (Rect.unit (s := S2) o6 S1.size i6)).squeeze S_ squeezes_S1_S_).sem) hsrc hdst hsem) kk) Q) := by
  subst h5 h4 h6
  iintro ⟨⟨%f, Hi⟩, Hp, Hs⟩ Hk
  ihave Hpp := (pointsTo_split_subset (q := q) (f := fp) (S := Finset.univ) (Finset.subset_univ (pBl j).view.set)).1 $$ Hp
  icases Hpp with ⟨Hp, Hpr⟩
  iapply (Transfers.wp_dmaLocal countersEmb 𝒱₀ (tV d i) none (src := pBl j) (dst := iSl ix k) (default : HIx 1) (crI ix) rfl
    (View.dmaCredit_pos (iSl ix k).view (by decide)) (Finset.Subset.refl _)) $$ [Hi Hp Hs]
  · isplitl [Hp]; · iexact Hp
    isplitl [Hi]; · iexact Hi
    iexact Hs
  iintro Hfl
  iapply Hk
  ihave Hfl := (Flight_frame' (F := F)) $$ Hfl Hpr
  iapply (Transfers.Flight_mono countersEmb (tV d i) ?_) $$ Hfl
  iintro ⟨⟨Hi, Hp⟩, Hpr⟩
  isplitl [Hi]
  · iexists _; isplitr
    swap; · iexact Hi
    ipureintro
    exact View.read_write_univ _ _
  · iapply (pointsTo_split_subset (q := q) (f := fp) (S := Finset.univ) (Finset.subset_univ (pBl j).view.set)).2
    isplitl [Hp] <;> iassumption

theorem wp_out (col : Nat) (hcol : col < 4) (sO : DmaSems sig S2) (k : Fin 2) (j : Fin 520) {o12 : Fin 3 → Nat} {o13 : Fin 2 → Nat} {o14 : Fin 1 → Nat}
    (h12 : o12 = ![k.val, 0, 0]) (h13 : o13 = ![128 * j.val, 256 * col]) (h14 : o14 = ![k.val]) {i12 : ∀ a, o12 a + S1x128x256.size a ≤ S2x128x256.size a}
    {i13 : ∀ a, o13 a + S128x256.size a ≤ S66560x1024.size a} {i14 : ∀ a, o14 a + S1.size a ≤ S2.size a} {hsrc hdst hsem} :
    iprop((∃ f, ⌜(oSl ob k).view.read (Elt F) f = fun x => goal fy fp ((oBl col hcol j).view.emb x)⌝ ∗ (oSl ob k).view.loc (tV d i) ↦[(oSl ob k).view.set]{fullShare} f)
        ∗ (oLoc d ↦[oSet col j.val (j.val + 1)]{fullShare} fo) ∗ semVal (tV d i, .dma (sem1 sO k)) 0)
      ⊢ iprop((FlO d i ob fy fp col hcol sO k j -∗ wp frame (wpE (defs₀ (F := F)) 𝒱₀ (tV d i) none) Set.univ (kk ⟨⟩) Q)
        -∗ wp frame (wpE (defs₀ (F := F)) 𝒱₀ (tV d i) none) Set.univ
          (.op (.enqueueDma ((ob.slice (Rect.unit (s := S2x128x256) o12 S1x128x256.size i12) (fun _ => rfl)).squeeze S128x256 squeezes_S1x128x256_S128x256)
            (.here (oW.slice (Rect.unit (s := S66560x1024) o13 S128x256.size i13) (fun _ => rfl)))
            (.dma ((sO.slice (Rect.unit (s := S2) o14 S1.size i14)).squeeze S_ squeezes_S1_S_).sem) hsrc hdst hsem) kk) Q) := by
  subst h12 h13 h14
  iintro ⟨⟨%f, %hf, Hb⟩, Ho, Hs⟩ Hk
  iapply (Transfers.wp_dmaLocal countersEmb 𝒱₀ (tV d i) none (src := oSl ob k) (dst := oBl col hcol j) (Sd := oSet col j.val (j.val + 1)) (default : HIx 1)
    crO rfl (View.dmaCredit_pos (oBl col hcol j).view (by decide)) (by rw [set_oBl])) $$ [Hb Ho Hs]
  · isplitl [Hb]; · iexact Hb
    isplitl [Ho]; · iexact Ho
    iexact Hs
  iintro Hfl
  iapply Hk
  iapply (Transfers.Flight_mono countersEmb (tV d i) ?_) $$ Hfl
  iintro ⟨Ho, Hb⟩
  isplitl [Ho]
  · refine Entails.of_eq (pointsTo_congr ?_)
    intro z hz
    rw [← set_oBl col hcol j] at hz
    obtain ⟨x, -, rfl⟩ := Finset.mem_map.mp hz
    refine (View.write_emb_of_mem _ _ (Finset.mem_univ x)).trans ?_
    show (oSl ob k).view.read (Elt F) f x = _
    rw [hf]
  · iexists _; iexact Hb

/-- The wait for a fetch or for a write-out. -/
theorem wp_await {sp' : Space} {s s' : Shape} {e e' : EltTy} {sp : Space} (sm : DmaSems sig S2) (k : Fin 2) {o : Fin 1 → Nat} (h : o = ![k.val]) {io : ∀ a, o a + S1.size a ≤ S2.size a}
    {srcw : Memref sig (tV d i).2.kind sp' s' e'} {dstw : Memref sig (tV d i).2.kind sp s e} {hsrc : srcw.view.WordExact} {hdst : dstw.view.WordExact} {N : ℕ} (hN : dstw.view.dmaCredit = N)
    {D : sProp 𝕄} {O : CellTallies nD τ sig (HIx 1)} {W : Waits sig (HIx 1)} :
    iprop(Transfers.Flight (countersEmb : UEmb Counters 𝕄) (tV d i) (.dma (sem1 sm k)) (default : HIx 1) N D ∗ Transfers.MayWaits (tV d i) (default : HIx 1) O
        ∗ ∃ W', ⌜∀ p ∈ W', p ∈ W ∨ p.2 = none⌝ ∗ owes (tV d i) O W')
      ⊢ iprop((iprop(D ∗ semVal (tV d i, .dma (sem1 sm k)) 0 ∗ ∃ W', ⌜∀ p ∈ W', p ∈ W ∨ p.2 = none⌝ ∗ owes (tV d i) O W')
          -∗ wp frame (wpE (defs₀ (F := F)) 𝒱₀ (tV d i) none) Set.univ (kk ⟨⟩) Q)
        -∗ wp frame (wpE (defs₀ (F := F)) 𝒱₀ (tV d i) none) Set.univ
          (.op (.waitDma2 ((sm.slice (Rect.unit (s := S2) o S1.size io)).squeeze S_ squeezes_S1_S_).sem srcw dstw hsrc hdst) kk) Q) := by
  subst h
  iintro ⟨Hfl, Hmw, ⟨%W', %hW', HO⟩⟩ Hk
  iapply (Transfers.wp_waitLocalO countersEmb 𝒱₀ (tV d i) none (default : HIx 1) hN) $$ [Hfl HO Hmw]
  · isplitl [Hfl]; · iexact Hfl
    isplitl [HO]; · iexact HO
    iapply (Transfers.MayWaits.elim _) $$ Hmw
  iintro ⟨HD, Hs, HO⟩
  iapply Hk
  isplitl [HD]; · iexact HD
  isplitl [Hs]; · iexact Hs
  iexists _; isplitr
  swap; · iexact HO
  ipureintro; intro p hp
  rcases Finset.mem_insert.mp hp with hp | hp; · exact .inr (hp ▸ rfl)
  exact hW' p hp

/-- A half slot's gather, in flight: the half's columns from column `h` of slot `k`, of the table's columns from `kc`. -/
abbrev FlG (g : DmaSems sig S_) (k : Fin 2) (j : Fin 520) (q : PosShare TreeShare) (N : ℕ) (f' : Buf (Elt F) ((oSl ob k).view.loc (tV d i))) : sProp 𝕄 :=
  Transfers.Flight (countersEmb : UEmb Counters 𝕄) (tV d i) (.dma g.sem) (default : HIx 1) N
    iprop(((oSl ob k).view.loc (tV d i) ↦[(oSl ob k).view.set]{fullShare} f') ∗ (yLoc d ↦{q} fy) ∗ idxHas d i ix fp k j)

theorem wp_gather (hp : ∀ z, (fp z : BitVec 32).toNat < 70656) (g : DmaSems sig S_) (k : Fin 2) (j : Fin 520) {q : PosShare TreeShare} (h : Nat)
    (ih : ∀ a, (![0, h] : Fin 2 → Nat) a + S128x128.size a ≤ S128x256.size a) (kc : Nat) (hkc : kc + 128 ≤ 1024)
    (hk : ∀ a, (![0, kc] : Fin 2 → Nat) a + S70656x128.size a ≤ S70656x1024.size a)
    (f : Buf (Elt F) ((oSl ob k).view.loc (tV d i))) {o10 o11 : Fin 3 → Nat} (h10 : o10 = ![k.val, 0, 0]) (h11 : o11 = ![k.val, 0, 0])
    {i10 : ∀ a, o10 a + S1x128x256.size a ≤ S2x128x256.size a} {i11 : ∀ a, o11 a + S1x1x128.size a ≤ S2x1x128.size a} {hsrc he hsp hn hr} :
    iprop(((oSl ob k).view.loc (tV d i) ↦[(oSl ob k).view.set]{fullShare} f) ∗ (yLoc d ↦{q} fy) ∗ idxHas d i ix fp k j ∗ semVal (tV d i, .dma g.sem) 0)
      ⊢ iprop((FlG d i ix ob fy fp g k j q (crG ob)
            (((oSl ob k).slice (Rect.unit (s := S128x256) ![0, h] S128x128.size ih) (fun _ => rfl)).view.write (Elt F) f (payOf fy fp j kc hkc) Finset.univ)
          -∗ wp frame (wpE (defs₀ (F := F)) 𝒱₀ (tV d i) none) Set.univ (kk ⟨⟩) Q)
        -∗ wp frame (wpE (defs₀ (F := F)) 𝒱₀ (tV d i) none) Set.univ
          (SparseCore.enqueueIndirectGather rfl (yCols yW kc hk)
            (((ob.slice (Rect.unit (s := S2x128x256) o10 S1x128x256.size i10) (fun _ => rfl)).squeeze S128x256 squeezes_S1x128x256_S128x256).slice
              (Rect.unit (s := S128x256) ![0, h] S128x128.size ih) (fun _ => rfl)) gathers_S70656x128_S128x128
            (((((ix.slice (Rect.unit (s := S2x1x128) o11 S1x1x128.size i11) (fun _ => rfl)).squeeze S1x128 squeezes_S1x1x128_S1x128).slice
              (Rect.unit (s := S1x128) ![0, 0] S1x128.size inb_S1x128_S1x128_0_0) (fun _ => rfl)).squeeze S128 squeezes_S1x128_S128))
            hn g.sem hsrc he hsp hr >>= kk) Q) := by
  subst h10 h11
  iintro ⟨Hb, Hy, ⟨%fi, %hfi, Hi⟩, Hs⟩ Hk
  have hin : ∀ x, ((lst ix k).view.read (Elt F) fi x).toNat < S70656x128.size (gathers_S70656x128_S128x128).axis := by
    intro x; rw [read_lst_pos ix k j fi fp hfi]; exact hp _
  have hss := View.set_slice_subset (oSl ob k).view (Rect.unit (s := S128x256) ![0, h] S128x128.size ih)
  ihave Hbb := (pointsTo_split_subset (q := fullShare) (f := f) hss).1 $$ Hb
  icases Hbb with ⟨Hb, Hbr⟩
  ihave Hyy := (pointsTo_split_subset (q := q) (f := fy) (S := Finset.univ) (Finset.subset_univ (yCols yW kc hk).view.set)).1 $$ Hy
  icases Hyy with ⟨Hy, Hyr⟩
  iapply (SparseCore.wp_indirectGatherLocal countersEmb 𝒱₀ (tV d i) none (hg := gathers_S70656x128_S128x128) (default : HIx 1)
      (crG ob)
      (SparseCore.sum_rowCredit_eq_dmaCredit _ _ fun _ => rfl) (by decide) hin) $$ [Hb Hy Hi Hs]
  · isplitl [Hy]; · iexact Hy
    isplitl [Hb]; · iexact Hb
    isplitl [Hi]; · iapply (Entails.of_eq (congrArg (fun S => ((iSl ix k).view.loc (tV d i) ↦[S]{fullShare} fi : sProp 𝕄)) (set_lst ix k).symm)); iexact Hi
    iexact Hs
  iintro Hfl
  iapply Hk
  ihave Hfl := (Flight_frame' (F := F)) $$ Hfl Hbr
  ihave Hfl := (Flight_frame' (F := F)) $$ Hfl Hyr
  iapply (Transfers.Flight_mono countersEmb (tV d i) ?_) $$ Hfl
  iintro ⟨⟨⟨Hb, Hy, Hi⟩, Hbr⟩, Hyr⟩
  isplitl [Hb Hbr]
  · iapply (pointsTo_split_subset (q := fullShare) hss).2
    isplitl [Hb]
    · rw [payload_eq ix k j fi fy fp hfi kc hkc hk hin]; iexact Hb
    · iapply (Entails.of_eq (pointsTo_congr ?_)) $$ Hbr
      intro z hz
      exact (View.write_of_not_mem _ _ _ (Finset.mem_sdiff.mp hz).2).symm
  isplitl [Hy Hyr]
  · iapply (pointsTo_split_subset (q := q) (f := fy) (S := Finset.univ) (Finset.subset_univ (yCols yW kc hk).view.set)).2
    isplitl [Hy] <;> iassumption
  iexists fi; isplitr
  · ipureintro; exact hfi
  · iapply (Entails.of_eq (congrArg (fun S => ((iSl ix k).view.loc (tV d i) ↦[S]{fullShare} fi : sProp 𝕄)) (set_lst ix k))); iexact Hi

/-- A half slot's wait. -/
theorem wp_awaitG {s s' : Shape} {e e' : EltTy} {sp sp' : Space} (g : DmaSems sig S_)
    {srcw : Memref sig (tV d i).2.kind sp' s' e'} {dstw : Memref sig (tV d i).2.kind sp s e} {hsrc : srcw.view.WordExact} {hdst : dstw.view.WordExact} {N : ℕ} (hN : dstw.view.dmaCredit = N)
    {D : sProp 𝕄} {O : CellTallies nD τ sig (HIx 1)} {W : Waits sig (HIx 1)} :
    iprop(Transfers.Flight (countersEmb : UEmb Counters 𝕄) (tV d i) (.dma g.sem) (default : HIx 1) N D ∗ Transfers.MayWaits (tV d i) (default : HIx 1) O
        ∗ ∃ W', ⌜∀ p ∈ W', p ∈ W ∨ p.2 = none⌝ ∗ owes (tV d i) O W')
      ⊢ iprop((iprop(D ∗ semVal (tV d i, .dma g.sem) 0 ∗ ∃ W', ⌜∀ p ∈ W', p ∈ W ∨ p.2 = none⌝ ∗ owes (tV d i) O W')
          -∗ wp frame (wpE (defs₀ (F := F)) 𝒱₀ (tV d i) none) Set.univ (kk ⟨⟩) Q)
        -∗ wp frame (wpE (defs₀ (F := F)) 𝒱₀ (tV d i) none) Set.univ (.op (.waitDma2 g.sem srcw dstw hsrc hdst) kk) Q) := by
  iintro ⟨Hfl, Hmw, ⟨%W', %hW', HO⟩⟩ Hk
  iapply (Transfers.wp_waitLocalO countersEmb 𝒱₀ (tV d i) none (default : HIx 1) hN) $$ [Hfl HO Hmw]
  · isplitl [Hfl]; · iexact Hfl
    isplitl [HO]; · iexact HO
    iapply (Transfers.MayWaits.elim _) $$ Hmw
  iintro ⟨HD, Hs, HO⟩
  iapply Hk
  isplitl [HD]; · iexact HD
  isplitl [Hs]; · iexact Hs
  iexists _; isplitr
  swap; · iexact HO
  ipureintro; intro p hp
  rcases Finset.mem_insert.mp hp with hp | hp; · exact .inr (hp ▸ rfl)
  exact hW' p hp

end Ops

end Cert.Proof.Gather
-- ==== Proof.Checks.lean ====
/-
  The pass's own checks hold at its carried words: every slice it takes lies in its buffer. Computed, tile by tile and
  trip by trip.
-/
module

public import proofs.«01_k».proof.Proof.Words

@[expose] public section

namespace Cert.Proof.Gather

open Cert.KernelIdeal Cert.KernelIdeal.Gen
open Idealize.ShloMosaic Idealize.SL.Sem

set_option maxRecDepth 65536 in
theorem chkT_all : ∀ (col : Fin 4) (c : Fin 2) (s : Fin 16) (t : Fin (k0_t1_loop (co c s)).trips),
    chkT col.val (co c s) t (A6 (co c s) t) (A7 t) (A7 t) (A9 t) (A10 (co c s) t) := by decide +kernel
theorem chkT_ok (col : Nat) (hcol : col < 4) (i : grid0.Coords) : ∀ t : Fin (k0_t1_loop i).trips, chkT col i t (A6 i t) (A7 t) (A7 t) (A9 t) (A10 i t) :=
  co_eta i ▸ chkT_all ⟨col, hcol⟩ (i 0) (i 1)
set_option maxRecDepth 65536 in
theorem chk23_all : ∀ (c : Fin 2) (s : Fin 16) (t : Fin 18), k0_chk3 (co c s) (A7 t) ∧ k0_chk2 (co c s) (A7 t) ∧ k0_chk7 (co c s) (A7 t) := by decide +kernel
theorem chk23_ok (i : grid0.Coords) : ∀ t : Fin 18, k0_chk3 i (A7 t) ∧ k0_chk2 i (A7 t) ∧ k0_chk7 i (A7 t) := co_eta i ▸ chk23_all (i 0) (i 1)
set_option maxRecDepth 65536 in
theorem chkZ_all : ∀ (col : Fin 4) (c : Fin 2) (s : Fin 16), chkZ col.val (co c s) 0#32 := by decide +kernel
theorem chkZ_ok (col : Nat) (hcol : col < 4) (i : grid0.Coords) : chkZ col i 0#32 := co_eta i ▸ chkZ_all ⟨col, hcol⟩ (i 0) (i 1)

end Cert.Proof.Gather
-- ==== Proof.Slots.lean ====
/-
  The slot offsets of a trip as vectors: the slot is the trip's parity, the other offsets are zero.
-/
module

public import proofs.«01_k».proof.Proof.Checks

@[expose] public section

namespace Cert.Proof.Gather

open Cert.KernelIdeal Cert.KernelIdeal.Gen
open Idealize.ShloMosaic

/-- The slot that trip `t` uses. -/
def par (t : Nat) : Fin 2 := ⟨t % 2, Nat.mod_lt _ Nat.two_pos⟩
theorem par_val (t : Nat) : (par t).val = t % 2 := rfl
theorem par_add_two (t : Nat) : par (t + 1 + 1) = par t := Fin.ext (by rw [par_val, par_val]; omega)
theorem par_pred (t : Nat) (h : 0 < t) : par (t - 1) = par (t + 1) := Fin.ext (by rw [par_val, par_val]; omega)

/-- A vector is given by its entries. -/
theorem vec3 {o : Fin 3 → Nat} {n : Nat} (h : o 0 = n) (h1 : o 1 = 0) (h2 : o 2 = 0) : o = ![n, 0, 0] := by
  funext a; match a with
  | 0 => exact h
  | 1 => exact h1
  | 2 => exact h2
theorem vec2 {o : Fin 2 → Nat} {n k : Nat} (h : o 0 = n) (h1 : o 1 = k) : o = ![n, k] := by
  funext a; match a with
  | 0 => exact h
  | 1 => exact h1
theorem vec1 {o : Fin 1 → Nat} {n : Nat} (h : o 0 = n) : o = ![n] := by
  funext a; match a with
  | 0 => exact h

theorem zero4 (a : BitVec 32) : k0_off4 a 1 = 0 ∧ k0_off4 a 2 = 0 := ⟨rfl, rfl⟩
theorem slot4 (t : Nat) (h : t < 18) : k0_off4 (A7 t) = ![(par t).val, 0, 0] := by
  rw [par_val]; have := off4_eq ⟨t, h⟩; exact vec3 this (zero4 _).1 (zero4 _).2
theorem slot6 (t : Nat) (h : t < 18) : k0_off6 (A7 t) = ![(par t).val] := by
  rw [par_val]; have := off6_eq ⟨t, h⟩; exact vec1 this
theorem zero7 (a : BitVec 32) : k0_off7 a 1 = 0 ∧ k0_off7 a 2 = 0 := ⟨rfl, rfl⟩
theorem slot7 (t : Nat) (h : t < 18) : k0_off7 (A7 t) = ![(par t).val, 0, 0] := by
  rw [par_val]; have := off7_eq ⟨t, h⟩; exact vec3 this (zero7 _).1 (zero7 _).2
theorem slot9 (t : Nat) (h : t < 18) : k0_off9 (A7 t) = ![(par t).val] := by
  rw [par_val]; have := off9_eq ⟨t, h⟩; exact vec1 this
theorem zero10 (a : BitVec 32) : k0_off10 a 1 = 0 ∧ k0_off10 a 2 = 0 := ⟨rfl, rfl⟩
theorem slot10 (t : Nat) (h : t < 18) : k0_off10 (A7 t) = ![(par t).val, 0, 0] := by
  rw [par_val]; have := off10_eq ⟨t, h⟩; exact vec3 this (zero10 _).1 (zero10 _).2
theorem zero11 (a : BitVec 32) : k0_off11 a 1 = 0 ∧ k0_off11 a 2 = 0 := ⟨rfl, rfl⟩
theorem slot11 (t : Nat) (h : t < 18) : k0_off11 (A7 t) = ![(par t).val, 0, 0] := by
  rw [par_val]; have := off11_eq ⟨t, h⟩; exact vec3 this (zero11 _).1 (zero11 _).2
theorem zero12 (a : BitVec 32) : k0_off12 a 1 = 0 ∧ k0_off12 a 2 = 0 := ⟨rfl, rfl⟩
theorem slot12 (t : Nat) (h : t < 18) : k0_off12 (A7 t) = ![(par t).val, 0, 0] := by
  rw [par_val]; have := off12_eq ⟨t, h⟩; exact vec3 this (zero12 _).1 (zero12 _).2
theorem slot14 (t : Nat) (h : t < 18) : k0_off14 (A7 t) = ![(par t).val] := by
  rw [par_val]; have := off14_eq ⟨t, h⟩; exact vec1 this
theorem zero15 (a : BitVec 32) : k0_off15 a 1 = 0 ∧ k0_off15 a 2 = 0 := ⟨rfl, rfl⟩
theorem slot15 (t : Nat) (h : t < 18) : k0_off15 (A7 t) = ![(par t).val, 0, 0] := by
  rw [par_val]; have := off15_eq ⟨t, h⟩; exact vec3 this (zero15 _).1 (zero15 _).2
theorem slot17 (t : Nat) (h : t < 18) : k0_off17 (A7 t) = ![(par t).val] := by
  rw [par_val]; have := off17_eq ⟨t, h⟩; exact vec1 this
theorem slot34 (t : Nat) (h : t < 18) : k0_off34 (A7 t) = ![(par t).val] := by
  rw [par_val]; have := off34_eq ⟨t, h⟩; exact vec1 this
theorem zero35 (a : BitVec 32) : k0_off35 a 1 = 0 ∧ k0_off35 a 2 = 0 := ⟨rfl, rfl⟩
theorem slot35 (t : Nat) (h : t < 18) : k0_off35 (A7 t) = ![(par t).val, 0, 0] := by
  rw [par_val]; have := off35_eq ⟨t, h⟩; exact vec3 this (zero35 _).1 (zero35 _).2

theorem oOff_eq (col : Nat) (i : grid0.Coords) (a : BitVec 32) {n : Nat} (h : k0_off13 i a 0 = n) : oOff col i a = ![n, 256 * col] := by
  unfold oOff; rw [h]
theorem oOffZ_eq (col : Nat) (i : grid0.Coords) (a : BitVec 32) {n : Nat} (h : k0_off33 i a 0 = n) : oOffZ col i a = ![n, 256 * col] := by
  unfold oOffZ; rw [h]

end Cert.Proof.Gather
-- ==== Proof.Region.lean ====
/-
  One column block's pass of a tile.

  Before trip t: block t's row numbers are on their way into index slot t mod 2, the other index slot is idle; block
  t - 1 is on its way out of output slot (t - 1) mod 2, the other output slot is idle; the blocks before t - 1 of the
  result hold their rows, those from t on what they held (`Inv`). A trip keeps this (`wp_trip`), so that the pass leaves
  the tile's rows of its column block at the gathered rows (`wp_lane`).
-/
module

public import proofs.«01_k».proof.Proof.Ops
public import proofs.«01_k».proof.Proof.Slots

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The block of trip `t`. -/
def blk (i : grid0.Coords) (t : Nat) : Fin 520 := ⟨min (bB i + t) 519, by omega⟩
theorem blk_val (i : grid0.Coords) {t : Nat} (h : t < nB i) : (blk i t).val = bB i + t := by
  have := bB_add i; show min (bB i + t) 519 = _; omega

section Pass

variable (col : Nat) (hcol : col < 4) (d : Dev nD) (i : grid0.Coords)
  (ix : Memref sig .scVector .vmem S2x1x128 .i32) (sI : DmaSems sig S2) (ob : Memref sig .scVector .vmem S2x128x256 .f32) (sO : DmaSems sig S2) (gA gB : DmaSems sig S_)
  (fy : Buf (Elt F) (yLoc d)) (fp : Buf (Elt F) (pLoc d)) (fo : Buf (Elt F) (oLoc d))
  (q : PosShare TreeShare) (pq : Fin 2 → PosShare TreeShare) (O : CellTallies nD τ sig (HIx 1)) (W : Waits sig (HIx 1))

/-- Index slot `k` idle, with its share of the list; output slot `k` idle. -/
def idxIdle (k : Fin 2) : sProp 𝕄 := iprop(idxFree (F := F) d i ix k ∗ (pLoc d ↦{pq k} fp) ∗ semVal (tV d i, .dma (sem1 sI k)) 0)
def outIdle (k : Fin 2) : sProp 𝕄 := iprop(obFree (F := F) d i ob k ∗ semVal (tV d i, .dma (sem1 sO k)) 0)

/-- Index slot `t mod 2` and output slot `(t - 1) mod 2` before trip `t`. -/
def idxSt (t : Nat) : sProp 𝕄 := if t < nB i then FlI d i ix fp sI (par t) (blk i t) (pq (par t)) else idxIdle d i ix sI fp pq (par t)
def outSt (t : Nat) : sProp 𝕄 := if 0 < t then FlO d i ob fy fp col hcol sO (par (t - 1)) (blk i (t - 1)) else outIdle (F := F) d i ob sO (par (t + 1))

theorem idxSt_lt {t : Nat} (h : t < nB i) : idxSt d i ix sI fp pq t = FlI d i ix fp sI (par t) (blk i t) (pq (par t)) := if_pos h
theorem idxSt_end : idxSt d i ix sI fp pq (nB i) = idxIdle d i ix sI fp pq (par (nB i)) := if_neg (Nat.lt_irrefl _)
theorem outSt_pos {t : Nat} (h : 0 < t) : outSt col hcol d i ob sO fy fp t = FlO d i ob fy fp col hcol sO (par (t - 1)) (blk i (t - 1)) := if_pos h
theorem outSt_zero : outSt col hcol d i ob sO fy fp 0 = outIdle (F := F) d i ob sO 1 := if_neg (Nat.lt_irrefl 0)

/-- The tile's record of its waits. -/
abbrev owesW : sProp 𝕄 := iprop(∃ W', ⌜∀ p ∈ W', p ∈ W ∨ p.2 = none⌝ ∗ owes (tV d i) O W')

/-- What holds before trip `t`. -/
def Inv (t : Nat) (acc : BitVec 32 × BitVec 32 × BitVec 32 × BitVec 32 × BitVec 32) : sProp 𝕄 :=
  iprop(⌜acc = (A6 i t, A7 t, A7 t, A9 t, A10 i t)⌝ ∗ Transfers.MayWaits (tV d i) (default : HIx 1) O
    ∗ idxSt d i ix sI fp pq t ∗ idxIdle d i ix sI fp pq (par (t + 1)) ∗ outSt col hcol d i ob sO fy fp t ∗ outIdle (F := F) d i ob sO (par t)
    ∗ (yLoc d ↦{q} fy) ∗ semVal (tV d i, .dma gA.sem) 0 ∗ semVal (tV d i, .dma gB.sem) 0
    ∗ (oLoc d ↦[oSet col (bB i) (bB i + (t - 1))]{fullShare} goal fy fp) ∗ (oLoc d ↦[oSet col (bB i + t) (bB i + nB i)]{fullShare} fo)
    ∗ owesW d i O W)

variable (h1 : k0_cond1 i = 1#1)

theorem bit_ne : ¬((0#1 : BitVec 1) = 1#1) := by decide

set_option maxHeartbeats 8000000 in
/-- The first part of trip `t`: the next block's fetch, if there is one. -/
theorem wp_tripA (t : Fin (k0_t1_loop i).trips) (w3 : k0_chk3 i (A7 t)) (w2 : k0_chk2 i (A7 t)) (w1 : chkT col i t (A6 i t) (A7 t) (A7 t) (A9 t) (A10 i t))
    {Q : (Σ' (w3 : k0_chk3 i (A7 t)) (w2 : k0_chk2 i (A7 t)) (w1 : chkT col i t (A6 i t) (A7 t) (A7 t) (A9 t) (A10 i t)) (a5 : BitVec 32) (v116 : BitVec 32) (v117 : BitVec 1)
        (v119 : BitVec 1) (v120 : BitVec 32) (v126 : BitVec 32) (v131 : BitVec 32) (v148 : BitVec 32) (v149 : BitVec 1), BitVec 32)
      → sProp (MT nD τ sig (HIx 1) (Elt F) ℕ UU ℕ)} :
    idxIdle d i ix sI fp pq (par (t.val + 1))
      ⊢ iprop((idxSt d i ix sI fp pq (t.val + 1) -∗
          let a5 : BitVec 32 := Scf.iv 0#32 1#32 t
          let v116 : BitVec 32 := Scalar.muli 1#32 (wN i)
          let v120 : BitVec 32 := Scalar.addi (A10 i t) (wB i)
          let v122 : BitVec 32 := Scalar.select 1#1 (Scalar.subi (A10 i t) 1#32) (A10 i t)
          let v128 : BitVec 32 := Scalar.select 1#1 (Scalar.addi (A10 i t) 1#32) (A10 i t)
          let v131 : BitVec 32 := Scalar.addi (Scalar.select (Scalar.cmpi .eq v128 (wN i)) 0#32 v128) (wB i)
          let v142 : BitVec 1 := Scalar.andi (Scalar.cmpi .ne v120 v131) (Scalar.xori (Scalar.cmpi .sge a5 (Scalar.addi (Scalar.subi v116 2#32) 1#32)) 1#1)
          Q ⟨w3, w2, w1, a5, v116, Scalar.cmpi .eq a5 0#32, Scalar.cmpi .eq a5 (Scalar.subi v116 1#32), v120,
            Scalar.addi (Scalar.select (Scalar.cmpi .eq v122 4294967295#32) (Scalar.subi (wN i) 1#32) v122) (wB i), v131,
            Scalar.select (Scalar.andi v142 1#1) (Scalar.addi (A6 i t) 1#32) (A6 i t), Scalar.cmpi .ne v120 v131, 2#32⟩)
        -∗ wp frame (wpE (defs₀ (F := F)) 𝒱₀ (tV d i) none) Set.univ
          (tripA (F := F) col i pW ix sI (wN i) (wB i) h1 0#32 1#32 t (A6 i t) (A7 t) (A7 t) (A9 t) (A10 i t)) Q) := by
  have htn : t.val < nB i := (tileW i).1 ▸ t.isLt
  have hn := nB_le i
  obtain ⟨hc3, -, -, -, ho5, -⟩ := tripW i t
  iintro HI Hk
  unfold tripA
  by_cases ht : t.val + 1 < nB i
  · rw [if_pos ht] at hc3
    obtain ⟨h50, h51⟩ := ho5 ht
    have hA6 : A6 i t = A7 (t.val + 1) := by unfold A6 A7; rw [Nat.min_eq_left (by omega)]
    simp only [Prog.bind_lift, Prog.bind_op, Prog.bind_ret, Prog.pure_eq_ret, dif_pos hc3]
    iapply (wp_assume 𝒱₀ (tV d i) none (h := w3))
    iapply (wp_assume 𝒱₀ (tV d i) none (h := w2))
    iapply (wp_assume 𝒱₀ (tV d i) none (h := w1))
    unfold idxIdle
    iapply (wp_fetch d i ix fp sI (par (t.val + 1)) (blk i (t.val + 1)) (vec2 h50 (by rw [blk_val i ht]; exact h51))
      (by rw [hA6]; exact slot4 _ (by omega)) (by rw [hA6]; exact slot6 _ (by omega))) $$ HI
    iintro Hfl
    rw [wp_ret]
    imodintro
    iapply Hk
    unfold idxSt
    rw [if_pos ht]
    iexact Hfl
  · rw [if_neg ht] at hc3
    simp only [Prog.bind_lift, Prog.bind_op, Prog.bind_ret, Prog.pure_eq_ret, dif_neg (show ¬(k0_cond3 i t (A10 i t) = 1#1) from hc3 ▸ bit_ne)]
    iapply (wp_assume 𝒱₀ (tV d i) none (h := w3))
    iapply (wp_assume 𝒱₀ (tV d i) none (h := w2))
    iapply (wp_assume 𝒱₀ (tV d i) none (h := w1))
    rw [wp_ret]
    imodintro
    iapply Hk
    unfold idxSt
    rw [if_neg ht]
    iexact HI

/-- Output slot `k` holding the rows of block `j`, and half of it. -/
def outHas (k : Fin 2) (j : Fin 520) : sProp 𝕄 :=
  iprop(∃ f, ⌜(oSl ob k).view.read (Elt F) f = fun x => goal fy fp ((oBl col hcol j).view.emb x)⌝ ∗ (oSl ob k).view.loc (tV d i) ↦[(oSl ob k).view.set]{fullShare} f)

set_option maxHeartbeats 8000000 in
/-- The second part of trip `t`: the wait for its block's row numbers, and the first stream's start. -/
theorem wp_tripB (hp : ∀ z, (fp z : BitVec 32).toNat < 70656) (t : Fin (k0_t1_loop i).trips) (w3 : k0_chk3 i (A7 t)) (w2 : k0_chk2 i (A7 t))
    (w1 : chkT col i t (A6 i t) (A7 t) (A7 t) (A9 t) (A10 i t)) (a5 v116 : BitVec 32) (v117 : BitVec 1) (v120 v126 : BitVec 32) (v149 : BitVec 1) (c2 : BitVec 32)
    (f : Buf (Elt F) ((oSl ob (par t)).view.loc (tV d i)))
    {Q : PUnit → sProp (MT nD τ sig (HIx 1) (Elt F) ℕ UU ℕ)} :
    iprop(Transfers.MayWaits (tV d i) (default : HIx 1) O ∗ FlI d i ix fp sI (par t) (blk i t) (pq (par t))
        ∗ ((oSl ob (par t)).view.loc (tV d i) ↦[(oSl ob (par t)).view.set]{fullShare} f) ∗ (yLoc d ↦{q} fy) ∗ semVal (tV d i, .dma gA.sem) 0 ∗ owesW d i O W)
      ⊢ iprop((iprop(FlG d i ix ob fy fp gA (par t) (blk i t) q (crG ob)
              (((oSl ob (par t)).slice (Rect.unit (s := S128x256) ![0, 0] S128x128.size inb_S128x256_S128x128_0_0) (fun _ => rfl)).view.write (Elt F) f (payOf fy fp (blk i t) (256 * col) (by omega)) Finset.univ)
            ∗ (pLoc d ↦{pq (par t)} fp) ∗ semVal (tV d i, .dma (sem1 sI (par t))) 0 ∗ owesW d i O W) -∗ Q ⟨⟩)
        -∗ wp frame (wpE (defs₀ (F := F)) 𝒱₀ (tV d i) none) Set.univ
          (tripB (F := F) col hcol i yW pW ix sI ob gA h1 t (A6 i t) (A7 t) (A7 t) (A9 t) (A10 i t) w3 w2 w1 a5 v116 v117 v120 v126 v149 c2) Q) := by
  have htn : t.val < nB i := (tileW i).1 ▸ t.isLt
  have hn := nB_le i
  obtain ⟨-, hc4, -⟩ := tripW i t
  have h9 : k0_off9 (A7 t.val) = ![(par t.val).val] := slot9 _ (by omega)
  have h10 : k0_off10 (A7 t.val) = ![(par t.val).val, 0, 0] := slot10 _ (by omega)
  have h11 : k0_off11 (A7 t.val) = ![(par t.val).val, 0, 0] := slot11 _ (by omega)
  iintro ⟨#Hmw, HI, Hob, Hy, HgA, HW⟩ Hk
  unfold tripB
  simp only [Prog.bind_lift, Prog.bind_op, Prog.bind_ret, Prog.pure_eq_ret, dif_pos hc4, ite_self]
  iapply (wp_await d i sI (par t.val) h9 rfl) $$ [HI HW]
  · isplitl [HI]; · iexact HI
    isplitr; · iexact Hmw
    iexact HW
  iintro ⟨⟨Hi, Hp⟩, HsI, HW⟩
  iapply (wp_gather d i ix ob fy fp hp gA (par t.val) (blk i t.val) 0 _ (256 * col) (by omega) _ f
    h10 h11) $$ [Hi Hob Hy HgA]
  · isplitl [Hob]; · iexact Hob
    isplitl [Hy]; · iexact Hy
    isplitl [Hi]; · iexact Hi
    iexact HgA
  iintro Hfl
  rw [wp_ret]
  imodintro
  iapply Hk
  isplitl [Hfl]; · iexact Hfl
  isplitl [Hp]; · iexact Hp
  isplitl [HsI]; · iexact HsI
  iexact HW

set_option maxHeartbeats 8000000 in
/-- The third part of trip `t`: the first stream's wait, the second stream and its wait, and the write-out's start. -/
theorem wp_tripC (hp : ∀ z, (fp z : BitVec 32).toNat < 70656) (t : Fin (k0_t1_loop i).trips) (w3 : k0_chk3 i (A7 t)) (w2 : k0_chk2 i (A7 t))
    (w1 : chkT col i t (A6 i t) (A7 t) (A7 t) (A9 t) (A10 i t)) (v119 : BitVec 1) (v120 v131 : BitVec 32)
    (f : Buf (Elt F) ((oSl ob (par t)).view.loc (tV d i)))
    {Q : (Σ' (v178 : BitVec 1), BitVec 32) → sProp (MT nD τ sig (HIx 1) (Elt F) ℕ UU ℕ)} :
    iprop(Transfers.MayWaits (tV d i) (default : HIx 1) O
        ∗ FlG d i ix ob fy fp gA (par t) (blk i t) q (crG ob)
              (((oSl ob (par t)).slice (Rect.unit (s := S128x256) ![0, 0] S128x128.size inb_S128x256_S128x128_0_0) (fun _ => rfl)).view.write (Elt F) f (payOf fy fp (blk i t) (256 * col) (by omega)) Finset.univ)
        ∗ semVal (tV d i, .dma gB.sem) 0 ∗ semVal (tV d i, .dma (sem1 sO (par t))) 0
        ∗ (oLoc d ↦[oSet col (bB i + t) (bB i + nB i)]{fullShare} fo) ∗ owesW d i O W)
      ⊢ iprop((iprop(FlO d i ob fy fp col hcol sO (par t) (blk i t) ∗ idxFree (F := F) d i ix (par t) ∗ (yLoc d ↦{q} fy)
            ∗ semVal (tV d i, .dma gA.sem) 0 ∗ semVal (tV d i, .dma gB.sem) 0
            ∗ (oLoc d ↦[oSet col (bB i + (t + 1)) (bB i + nB i)]{fullShare} fo) ∗ owesW d i O W)
          -∗ Q ⟨Scalar.andi (Scalar.ori (Scalar.cmpi .ne v120 v131) v119) 1#1, 1#32⟩)
        -∗ wp frame (wpE (defs₀ (F := F)) 𝒱₀ (tV d i) none) Set.univ
          (tripC (F := F) col hcol i yW oW ix ob sO gA gB h1 t (A6 i t) (A7 t) (A7 t) (A9 t) (A10 i t) w3 w2 w1 v119 v120 v131) Q) := by
  have htn : t.val < nB i := (tileW i).1 ▸ t.isLt
  have hn := nB_le i
  obtain ⟨-, -, hc7, -, -, -, -, ho13, -⟩ := tripW i t
  have hb : (blk i t.val).val = bB i + t.val := blk_val i htn
  have h10 : k0_off10 (A7 t.val) = ![(par t.val).val, 0, 0] := slot10 _ (by omega)
  have h11 : k0_off11 (A7 t.val) = ![(par t.val).val, 0, 0] := slot11 _ (by omega)
  have h12 : k0_off12 (A7 t.val) = ![(par t.val).val, 0, 0] := slot12 _ (by omega)
  have h13 : oOff col i (A10 i t.val) = ![128 * (blk i t.val).val, 256 * col] := oOff_eq col i _ (by rw [hb]; exact ho13)
  have h14 : k0_off14 (A7 t.val) = ![(par t.val).val] := slot14 _ (by omega)
  iintro ⟨#Hmw, HA, HgB, HsO, Hto, HW⟩ Hk
  unfold tripC
  simp only [Prog.bind_lift, Prog.bind_op, Prog.bind_ret, Prog.pure_eq_ret, dif_pos hc7, ite_self, SparseCore.waitIndirectGather]
  iapply (wp_awaitG d i gA rfl) $$ [HA HW]
  · isplitl [HA]; · iexact HA
    isplitr; · iexact Hmw
    iexact HW
  iintro ⟨⟨Hob, Hy, Hi⟩, HgA, HW⟩
  iapply (wp_gather d i ix ob fy fp hp gB (par t.val) (blk i t.val) 128 _ (256 * col + 128) (by omega) _ _
    h10 h11) $$ [Hi Hob Hy HgB]
  · isplitl [Hob]; · iexact Hob
    isplitl [Hy]; · iexact Hy
    isplitl [Hi]; · iexact Hi
    iexact HgB
  iintro HB
  iapply (wp_awaitG d i gB rfl) $$ [HB HW]
  · isplitl [HB]; · iexact HB
    isplitr; · iexact Hmw
    iexact HW
  iintro ⟨⟨Hob, Hy, ⟨%fi, -, Hi⟩⟩, HgB, HW⟩
  rw [← oSet_union col (show bB i + t.val ≤ bB i + (t.val + 1) by omega) (show bB i + (t.val + 1) ≤ bB i + nB i by omega)]
  ihave Hto := (pointsTo_union (oSet_disj col)).1 $$ Hto
  icases Hto with ⟨Ho, Hto⟩
  iapply (wp_out d i ob fy fp fo col hcol sO (par t.val) (blk i t.val) h12
    h13 h14) $$ [Hob Ho HsO]
  · isplitl [Hob]
    · iexists _
      isplitr
      swap; · iexact Hob
      ipureintro
      exact read_halves (F := F) ob (par t.val) f fy fp (blk i t.val) col hcol
    isplitl [Ho]
    · rw [hb]; iexact Ho
    iexact HsO
  iintro Hfl
  rw [wp_ret]
  imodintro
  iapply Hk
  isplitl [Hfl]; · iexact Hfl
  isplitl [Hi]; · iexists _; iexact Hi
  isplitl [Hy]; · iexact Hy
  isplitl [HgA]; · iexact HgA
  isplitl [HgB]; · iexact HgB
  isplitl [Hto]; · iexact Hto
  iexact HW

/-- The delivered block joins those before it. -/
theorem done_join (b : Nat) (t : Nat) (ht : 0 < t) :
    iprop((oLoc d ↦[oSet col b (b + (t - 1))]{fullShare} goal fy fp) ∗ (oLoc d ↦[oSet col (b + (t - 1)) (b + (t - 1) + 1)]{fullShare} goal fy fp))
      ⊢ (iprop(oLoc d ↦[oSet col b (b + t)]{fullShare} goal fy fp) : sProp 𝕄) := by
  have h := (pointsTo_union (Val := Elt F) (Ix := HIx 1) (Name := ℕ) (U := UU) (Lvl := ℕ) (ℓ := oLoc d) (q := fullShare) (f := goal fy fp) (oSet_disj col (lo := b) (mid := b + (t - 1)) (hi := b + (t - 1) + 1))).2
  have e : oSet col b (b + (t - 1) + 1) = oSet col b (b + t) := congrArg _ (show b + (t - 1) + 1 = b + t by omega)
  rw [oSet_union col (by omega) (by omega), e] at h
  exact h

set_option maxHeartbeats 8000000 in
/-- A trip of the pass. -/
theorem wp_trip (hp : ∀ z, (fp z : BitVec 32).toNat < 70656) (t : Fin (k0_t1_loop i).trips) (acc : BitVec 32 × BitVec 32 × BitVec 32 × BitVec 32 × BitVec 32) :
    Inv col hcol d i ix sI ob sO gA gB fy fp fo q pq O W t.val acc
      ⊢ wp frame (wpE (defs₀ (F := F)) 𝒱₀ (tV d i) none) Set.univ
          (trip (F := F) col hcol i yW pW oW ix sI ob sO gA gB (wN i) (wB i) h1 t acc)
          (Inv col hcol d i ix sI ob sO gA gB fy fp fo q pq O W (t.val + 1)) := by
  have htn : t.val < nB i := (tileW i).1 ▸ t.isLt
  have hn := nB_le i
  obtain ⟨-, -, -, hc9, -, -, -, -, ho16, hnext⟩ := tripW i t
  have hT := chkT_ok col hcol i t
  obtain ⟨hk3, hk2, -⟩ := chk23_ok i ⟨t.val, by omega⟩
  unfold Inv
  iintro ⟨%hacc, #Hmw, HI, HI', HO, HO', Hy, HgA, HgB, Hdone, Htodo, HW⟩
  subst hacc
  unfold trip
  dsimp only
  rw [wp_bind]
  iapply (wp_tripA col d i ix sI fp pq h1 t hk3 hk2 hT) $$ HI'
  iintro HI'
  dsimp only
  rw [wp_bind]
  simp only [idxSt_lt d i ix sI fp pq htn]
  unfold outIdle
  icases HO' with ⟨⟨%f, Hob⟩, HsO⟩
  iapply (wp_tripB col hcol d i ix sI ob gA fy fp q pq O W h1 hp t hk3 hk2 hT _ _ _ _ _ _ _ f) $$ [HI Hob Hy HgA HW]
  · isplitr; · iexact Hmw
    isplitl [HI]; · iexact HI
    isplitl [Hob]; · iexact Hob
    isplitl [Hy]; · iexact Hy
    isplitl [HgA]; · iexact HgA
    iexact HW
  iintro ⟨HA, Hp, HsI, HW⟩
  rw [wp_bind]
  iapply (wp_tripC col hcol d i ix ob sO gA gB fy fp fo q O W h1 hp t hk3 hk2 hT _ _ _ f) $$ [HA HgB HsO Htodo HW]
  · isplitr; · iexact Hmw
    isplitl [HA]; · iexact HA
    isplitl [HgB]; · iexact HgB
    isplitl [HsO]; · iexact HsO
    isplitl [Htodo]; · iexact Htodo
    iexact HW
  iintro ⟨HO', Hi, Hy, HgA, HgB, Htodo, HW⟩
  dsimp only
  simp only [Prog.bind_lift, Prog.bind_op, Prog.bind_ret, Prog.pure_eq_ret, ite_self]
  rw [outSt_pos col hcol d i ob sO fy fp (Nat.succ_pos t.val), par_add_two, Nat.add_sub_cancel]
  by_cases h0 : 0 < t.val
  · rw [if_pos h0] at hc9
    simp only [outSt_pos col hcol d i ob sO fy fp h0]
    rw [dif_pos hc9]
    have h17 : k0_off17 (A9 t.val) = ![(par (t.val - 1)).val] := slot17 _ (by omega)
    iapply (wp_await d i sO (par (t.val - 1)) h17 rfl) $$ [HO HW]
    · isplitl [HO]; · iexact HO
      isplitr; · iexact Hmw
      iexact HW
    iintro ⟨⟨Ho, Hb⟩, Hs, HW⟩
    rw [wp_ret]
    imodintro
    isplitr; · ipureintro; exact hnext
    isplitr; · iexact Hmw
    isplitl [HI']; · iexact HI'
    isplitl [Hi Hp HsI]
    · unfold idxIdle
      isplitl [Hi]; · iexact Hi
      isplitl [Hp]; · iexact Hp
      iexact HsI
    isplitl [HO']; · iexact HO'
    isplitl [Hb Hs]
    · rw [← par_pred _ h0]
      isplitl [Hb]; · iexact Hb
      iexact Hs
    isplitl [Hy]; · iexact Hy
    isplitl [HgA]; · iexact HgA
    isplitl [HgB]; · iexact HgB
    isplitl [Hdone Ho]
    · iapply (done_join col d fy fp (bB i) t.val h0)
      isplitl [Hdone]; · iexact Hdone
      rw [blk_val i (show t.val - 1 < nB i by omega)]
      iexact Ho
    isplitl [Htodo]; · iexact Htodo
    iexact HW
  · rw [if_neg h0] at hc9
    rw [dif_neg (show ¬(k0_cond9 i t (A10 i t) = 1#1) from hc9 ▸ bit_ne)]
    have ht0 : t.val = 0 := by omega
    rw [wp_ret]
    imodintro
    isplitr; · ipureintro; exact hnext
    isplitr; · iexact Hmw
    isplitl [HI']; · iexact HI'
    isplitl [Hi Hp HsI]
    · unfold idxIdle
      isplitl [Hi]; · iexact Hi
      isplitl [Hp]; · iexact Hp
      iexact HsI
    isplitl [HO']; · iexact HO'
    isplitl [HO]
    · simp only [ht0, outSt_zero col hcol d i ob sO fy fp]
      unfold outIdle
      iexact HO
    isplitl [Hy]; · iexact Hy
    isplitl [HgA]; · iexact HgA
    isplitl [HgB]; · iexact HgB
    isplitl [Hdone]
    · rw [ht0]; iexact Hdone
    isplitl [Htodo]; · iexact Htodo
    iexact HW

set_option maxHeartbeats 8000000 in
/-- The pass up to its loops starts the first block's fetch. -/
theorem wp_first (v11 : BitVec 32)
    {Q : (Σ' (v77 : BitVec 32) (z0 : BitVec 32) (z1 : BitVec 32) (z2 : BitVec 32) (z3 : BitVec 32) (z4 : BitVec 32), BitVec 32) → sProp (MT nD τ sig (HIx 1) (Elt F) ℕ UU ℕ)} :
    idxIdle d i ix sI fp pq 0
      ⊢ iprop((FlI d i ix fp sI 0 (blk i 0) (pq 0) -∗ Q ⟨1#32, 0#32, 0#32, 0#32, 0#32, 0#32, Scalar.muli (Scalar.divsi (Scalar.subi v11 0#32) 1#32) 1#32⟩)
        -∗ wp frame (wpE (defs₀ (F := F)) 𝒱₀ (tV d i) none) Set.univ (first (F := F) i pW ix sI (wN i) v11 h1) Q) := by
  obtain ⟨-, -, -, hc2, -, h20, h21, -, hv⟩ := tileW i
  have hb : (blk i 0).val = bB i := blk_val i (nB_pos i)
  have h2 : k0_off2 i = ![0, 128 * (blk i 0).val] := vec2 h20 (by rw [hb]; exact h21)
  have ho1 : k0_off1 = ![(0 : Fin 2).val, 0, 0] := by decide
  have ho3 : k0_off3 = ![(0 : Fin 2).val] := by decide
  iintro HI Hk
  unfold first idxIdle
  simp only [Prog.bind_lift, Prog.bind_op, Prog.bind_ret, Prog.pure_eq_ret, dif_pos hc2]
  iapply (wp_fetch d i ix fp sI 0 (blk i 0) h2 ho1 ho3) $$ HI
  iintro Hfl
  rw [wp_ret]
  imodintro
  rw [hv]
  iapply Hk
  iexact Hfl

/-- The two slots, in either order. -/
theorem slots (P : Fin 2 → sProp (MT nD τ sig (HIx 1) (Elt F) ℕ UU ℕ)) (t : Nat) : iprop(P (par t) ∗ P (par (t + 1))) ⊢ iprop(P 0 ∗ P 1) := by
  rcases Nat.mod_two_eq_zero_or_one t with h | h
  · have e0 : par t = 0 := Fin.ext h
    have e1 : par (t + 1) = 1 := Fin.ext (by rw [par_val]; show _ = 1; omega)
    rw [e0, e1]
  · have e0 : par t = 1 := Fin.ext h
    have e1 : par (t + 1) = 0 := Fin.ext (by rw [par_val]; show _ = 0; omega)
    rw [e0, e1]
    iintro ⟨H1, H0⟩
    isplitl [H0]; · iexact H0
    iexact H1

set_option maxHeartbeats 8000000 in
/-- The pass from its loops on. -/
theorem wp_rest (hp : ∀ z, (fp z : BitVec 32).toNat < 70656) (v11 : BitVec 32)
    (rem : Fin (k0_t2_loop i).trips → BitVec 32 × BitVec 32 × BitVec 32 × BitVec 32 × BitVec 32 →
      Prog (TpuEff nD τ sig (Elt F) Λ₀ (.scVector ((i 0).castLE hcore0) ((i 1).castLE hsub0))) (BitVec 32 × BitVec 32 × BitVec 32 × BitVec 32 × BitVec 32))
    {Q : PUnit → sProp (MT nD τ sig (HIx 1) (Elt F) ℕ UU ℕ)} :
    Inv col hcol d i ix sI ob sO gA gB fy fp fo q pq O W 0 (1#32, 0#32, 0#32, 0#32, 0#32)
      ⊢ iprop((iprop((idxIdle d i ix sI fp pq 0 ∗ idxIdle d i ix sI fp pq 1) ∗ (outIdle (F := F) d i ob sO 0 ∗ outIdle (F := F) d i ob sO 1)
            ∗ (yLoc d ↦{q} fy) ∗ semVal (tV d i, .dma gA.sem) 0 ∗ semVal (tV d i, .dma gB.sem) 0
            ∗ (oLoc d ↦[oSet col (bB i) (bB i + nB i)]{fullShare} goal fy fp) ∗ owesW d i O W) -∗ Q ⟨⟩)
        -∗ wp frame (wpE (defs₀ (F := F)) 𝒱₀ (tV d i) none) Set.univ
          (rest (F := F) col hcol i yW pW oW ix sI ob sO gA gB (wN i) (wB i) v11 h1 rem 1#32 0#32 0#32 0#32 0#32) Q) := by
  obtain ⟨htr, htr2, -, -, hc18, -, -, -, -⟩ := tileW i
  have hn := nB_le i
  have hn0 := nB_pos i
  iintro HInv Hk
  unfold rest
  rw [wp_bind]
  iapply (Scf.wp_for _ _ _ (k0_t1_loop i).lb (k0_t1_loop i).ub (k0_t1_loop i).st (k0_t1_ok i h1) _ _
    (Inv col hcol d i ix sI ob sO gA gB fy fp fo q pq O W) (fun t acc => wp_trip col hcol d i ix sI ob sO gA gB fy fp fo q pq O W h1 hp t acc))
  isplitl [HInv]; · iexact HInv
  iintro %acc HInv
  have htr' : Scf.trips (k0_t1_loop i).lb (k0_t1_loop i).ub (k0_t1_loop i).st = nB i := htr
  rw [htr']
  unfold Inv
  icases HInv with ⟨%hacc, #Hmw, HI, HI', HO, HO', Hy, HgA, HgB, Hdone, -, HW⟩
  subst hacc
  dsimp only
  rw [wp_bind]
  iapply (Scf.wp_for _ _ _ (k0_t2_loop i).lb (k0_t2_loop i).ub (k0_t2_loop i).st (k0_t2_ok i h1) _ _
    (fun k acc => iprop(⌜acc = (A6 i (nB i), A7 (nB i), A7 (nB i), A9 (nB i), A10 i (nB i))⌝))
    (fun t acc => absurd t.isLt (fun h => Nat.not_lt_zero _ (htr2 ▸ h : t.val < 0))))
  isplitr; · ipureintro; rfl
  iintro %acc %hacc
  subst hacc
  dsimp only
  have hA10 : A10 i (nB i) = 0#32 := by unfold A10; rw [if_neg (Nat.lt_irrefl _)]
  have hZ : chkZ col i (A10 i (nB i)) := hA10 ▸ chkZ_ok col hcol i
  obtain ⟨-, -, hk7⟩ := chk23_ok i ⟨nB i - 1, by omega⟩
  simp only [Prog.bind_lift, Prog.bind_op, Prog.bind_ret, Prog.pure_eq_ret, ite_self, dite_eq_ite, dif_pos hc18]
  iapply (wp_assume 𝒱₀ (tV d i) none (h := hZ))
  iapply (wp_assume 𝒱₀ (tV d i) none (h := hk7))
  simp only [idxSt_end d i ix sI fp pq, outSt_pos col hcol d i ob sO fy fp hn0]
  have h34 : k0_off34 (A9 (nB i)) = ![(par (nB i - 1)).val] := slot34 _ (by omega)
  iapply (wp_await d i sO (par (nB i - 1)) h34 rfl) $$ [HO HW]
  · isplitl [HO]; · iexact HO
    isplitr; · iexact Hmw
    iexact HW
  iintro ⟨⟨Ho, Hb⟩, Hs, HW⟩
  rw [wp_ret]
  imodintro
  iapply Hk
  isplitl [HI HI']
  · iapply (slots (idxIdle d i ix sI fp pq) (nB i))
    isplitl [HI]; · iexact HI
    iexact HI'
  isplitl [HO' Hb Hs]
  · iapply (slots (outIdle (F := F) d i ob sO) (nB i))
    isplitl [HO']; · iexact HO'
    unfold outIdle
    rw [← par_pred _ hn0]
    isplitl [Hb]; · iexact Hb
    iexact Hs
  isplitl [Hy]; · iexact Hy
  isplitl [HgA]; · iexact HgA
  isplitl [HgB]; · iexact HgB
  isplitl [Hdone Ho]
  · iapply (done_join col d fy fp (bB i) (nB i) hn0)
    isplitl [Hdone]; · iexact Hdone
    rw [blk_val i (show nB i - 1 < nB i by omega)]
    iexact Ho
  iexact HW

/-- What a pass takes beside its rows of the result, and gives back. -/
def Lane : sProp 𝕄 :=
  iprop((idxIdle d i ix sI fp pq 0 ∗ idxIdle d i ix sI fp pq 1) ∗ (outIdle (F := F) d i ob sO 0 ∗ outIdle (F := F) d i ob sO 1)
    ∗ (yLoc d ↦{q} fy) ∗ semVal (tV d i, .dma gA.sem) 0 ∗ semVal (tV d i, .dma gB.sem) 0)

set_option maxHeartbeats 8000000 in
/-- A pass leaves the tile's rows of its column block at the gathered rows. -/
theorem wp_lane (hp : ∀ z, (fp z : BitVec 32).toNat < 70656) (v11 : BitVec 32)
    {β : Type} (kk : (Σ' (v77 : BitVec 32) (z0 : BitVec 32) (z1 : BitVec 32) (z2 : BitVec 32) (z3 : BitVec 32) (z4 : BitVec 32), BitVec 32)
      → Prog (TpuEff nD τ sig (Elt F) Λ₀ (.scVector ((i 0).castLE hcore0) ((i 1).castLE hsub0))) β) (kr : PUnit → Prog (TpuEff nD τ sig (Elt F) Λ₀ (.scVector ((i 0).castLE hcore0) ((i 1).castLE hsub0))) β)
    (hkk : ∃ rem, kk ⟨1#32, 0#32, 0#32, 0#32, 0#32, 0#32, Scalar.muli (Scalar.divsi (Scalar.subi v11 0#32) 1#32) 1#32⟩
      = rest (F := F) col hcol i yW pW oW ix sI ob sO gA gB (wN i) (wB i) v11 h1 rem 1#32 0#32 0#32 0#32 0#32 >>= kr)
    {Q : β → sProp (MT nD τ sig (HIx 1) (Elt F) ℕ UU ℕ)} :
    iprop(Transfers.MayWaits (tV d i) (default : HIx 1) O ∗ Lane d i ix sI ob sO gA gB fy fp q pq
        ∗ (oLoc d ↦[oSet col (bB i) (bB i + nB i)]{fullShare} fo) ∗ owesW d i O W)
      ⊢ iprop((iprop(Lane d i ix sI ob sO gA gB fy fp q pq ∗ (oLoc d ↦[oSet col (bB i) (bB i + nB i)]{fullShare} goal fy fp) ∗ owesW d i O W)
          -∗ wp frame (wpE (defs₀ (F := F)) 𝒱₀ (tV d i) none) Set.univ (kr ⟨⟩) Q)
        -∗ wp frame (wpE (defs₀ (F := F)) 𝒱₀ (tV d i) none) Set.univ (first (F := F) i pW ix sI (wN i) v11 h1 >>= kk) Q) := by
  obtain ⟨rem, hkk⟩ := hkk
  unfold Lane
  iintro ⟨#Hmw, ⟨⟨HI0, HI1⟩, ⟨HO0, HO1⟩, Hy, HgA, HgB⟩, Hto, HW⟩ Hk
  rw [wp_bind]
  iapply (wp_first d i ix sI fp pq h1 v11) $$ HI0
  iintro HI0
  rw [hkk, wp_bind]
  iapply (wp_rest col hcol d i ix sI ob sO gA gB fy fp fo q pq O W h1 hp v11 rem) $$ [HI0 HI1 HO0 HO1 Hy HgA HgB Hto HW]
  · unfold Inv
    rw [idxSt_lt d i ix sI fp pq (nB_pos i), outSt_zero col hcol d i ob sO fy fp]
    isplitr
    · ipureintro
      have h6 : A6 i 0 = 1#32 := by unfold A6; rw [Nat.min_eq_left (nB_pos i)]
      have h10 : A10 i 0 = 0#32 := by unfold A10; rw [if_pos (nB_pos i)]
      rw [h6, h10]; rfl
    isplitr; · iexact Hmw
    isplitl [HI0]; · iexact HI0
    isplitl [HI1]; · iexact HI1
    isplitl [HO1]; · iexact HO1
    isplitl [HO0]; · iexact HO0
    isplitl [Hy]; · iexact Hy
    isplitl [HgA]; · iexact HgA
    isplitl [HgB]; · iexact HgB
    isplitr
    · rw [show bB i + (0 - 1) = bB i from rfl, oSet_empty, pointsTo_empty]
      iempintro
    isplitl [Hto]; · iexact Hto
    iexact HW
  iintro ⟨HI, HO, Hy, HgA, HgB, Ho, HW⟩
  iapply Hk
  isplitl [HI HO Hy HgA HgB]
  · isplitl [HI]; · iexact HI
    isplitl [HO]; · iexact HO
    isplitl [Hy]; · iexact Hy
    isplitl [HgA]; · iexact HgA
    iexact HgB
  isplitl [Ho]; · iexact Ho
  iexact HW

end Pass

end Cert.Proof.Gather
-- ==== Proof.Tile.lean ====
/-
  A tile's task: four passes, one for each column block of 256.

  What a pass owns beside the shares of the table and of the list is its two buffers and six semaphores (`Own`). The
  four passes run one after the other, each on the shares the last one gave back (`wp_tile`).
-/
module

public import proofs.«01_k».proof.Proof.Region

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The words a tile computes for itself -/

/-- A tile's number. -/
abbrev wW (i : grid0.Coords) : BitVec 32 :=
  Scalar.addi (Scalar.addi 0#32 (Scalar.muli (BitVec.ofNat 32 (i 1).val) 1#32)) (Scalar.muli (BitVec.ofNat 32 (i 0).val) 16#32)

theorem words_all : ∀ (c : Fin 2) (s : Fin 16), Scalar.select (Scalar.cmpi .slt (wW (co c s)) 8#32) 17#32 16#32 = wN (co c s)
    ∧ Scalar.select (Scalar.cmpi .slt (wW (co c s)) 8#32) (Scalar.muli (wW (co c s)) (wN (co c s))) (Scalar.addi (Scalar.muli (wW (co c s)) 16#32) 8#32) = wB (co c s) := by
  decide +kernel
/-- The number of blocks and the first block, as the tile computes them. -/
theorem words (i : grid0.Coords) : Scalar.select (Scalar.cmpi .slt (wW i) 8#32) 17#32 16#32 = wN i
    ∧ Scalar.select (Scalar.cmpi .slt (wW i) 8#32) (Scalar.muli (wW i) (wN i)) (Scalar.addi (Scalar.muli (wW i) 16#32) 8#32) = wB i :=
  co_eta i ▸ words_all (i 0) (i 1)

section Tile

variable (d : Dev nD) (i : grid0.Coords) (fy : Buf (Elt F) (yLoc d)) (fp : Buf (Elt F) (pLoc d)) (fo : Buf (Elt F) (oLoc d))
  (q : PosShare TreeShare) (pq : Fin 2 → PosShare TreeShare) (O : CellTallies nD τ sig (HIx 1)) (W : Waits sig (HIx 1))

/-- What pass `k` owns: the slots of its two buffers and its semaphores at zero. -/
def Own (ix : Memref sig .scVector .vmem S2x1x128 .i32) (sI : DmaSems sig S2) (ob : Memref sig .scVector .vmem S2x128x256 .f32) (sO : DmaSems sig S2) (gA gB : DmaSems sig S_) : sProp 𝕄 :=
  iprop((idxFree (F := F) d i ix 0 ∗ idxFree (F := F) d i ix 1) ∗ (obFree (F := F) d i ob 0 ∗ obFree (F := F) d i ob 1)
    ∗ semVal (tV d i, .dma (sem1 sI 0)) 0 ∗ semVal (tV d i, .dma (sem1 sI 1)) 0 ∗ semVal (tV d i, .dma (sem1 sO 0)) 0 ∗ semVal (tV d i, .dma (sem1 sO 1)) 0
    ∗ semVal (tV d i, .dma gA.sem) 0 ∗ semVal (tV d i, .dma gB.sem) 0)

/-- The shares of the table and of the list a pass borrows. -/
def Shares : sProp 𝕄 := iprop((yLoc d ↦{q} fy) ∗ (pLoc d ↦{pq 0} fp) ∗ (pLoc d ↦{pq 1} fp))

/-- A pass's pieces are its own and what it borrows. -/
theorem lane_own (ix : Memref sig .scVector .vmem S2x1x128 .i32) (sI : DmaSems sig S2) (ob : Memref sig .scVector .vmem S2x128x256 .f32) (sO : DmaSems sig S2) (gA gB : DmaSems sig S_) :
    Lane d i ix sI ob sO gA gB fy fp q pq ⊣⊢ iprop(Own (F := F) d i ix sI ob sO gA gB ∗ Shares d fy fp q pq) := by
  unfold Lane Own Shares idxIdle outIdle
  constructor
  · iintro ⟨⟨⟨Hi0, Hp0, Hs0⟩, ⟨Hi1, Hp1, Hs1⟩⟩, ⟨⟨Ho0, Ht0⟩, ⟨Ho1, Ht1⟩⟩, Hy, HgA, HgB⟩
    isplitl [Hi0 Hs0 Hi1 Hs1 Ho0 Ht0 Ho1 Ht1 HgA HgB]
    · isplitl [Hi0 Hi1]
      · isplitl [Hi0]; · iexact Hi0
        iexact Hi1
      isplitl [Ho0 Ho1]
      · isplitl [Ho0]; · iexact Ho0
        iexact Ho1
      isplitl [Hs0]; · iexact Hs0
      isplitl [Hs1]; · iexact Hs1
      isplitl [Ht0]; · iexact Ht0
      isplitl [Ht1]; · iexact Ht1
      isplitl [HgA]; · iexact HgA
      iexact HgB
    isplitl [Hy]; · iexact Hy
    isplitl [Hp0]; · iexact Hp0
    iexact Hp1
  · iintro ⟨⟨⟨Hi0, Hi1⟩, ⟨Ho0, Ho1⟩, Hs0, Hs1, Ht0, Ht1, HgA, HgB⟩, Hy, Hp0, Hp1⟩
    isplitl [Hi0 Hs0 Hi1 Hs1 Hp0 Hp1]
    · isplitl [Hi0 Hs0 Hp0]
      · isplitl [Hi0]; · iexact Hi0
        isplitl [Hp0]; · iexact Hp0
        iexact Hs0
      isplitl [Hi1]; · iexact Hi1
      isplitl [Hp1]; · iexact Hp1
      iexact Hs1
    isplitl [Ho0 Ht0 Ho1 Ht1]
    · isplitl [Ho0 Ht0]
      · isplitl [Ho0]; · iexact Ho0
        iexact Ht0
      isplitl [Ho1]; · iexact Ho1
      iexact Ht1
    isplitl [Hy]; · iexact Hy
    isplitl [HgA]; · iexact HgA
    iexact HgB

/-- The tile's rows of column block `col`, at contents `f`. -/
def Rows (col : Nat) (f : Buf (Elt F) (oLoc d)) : sProp 𝕄 := oLoc d ↦[oSet col (bB i) (bB i + nB i)]{fullShare} f

/-- A pass as the tile's text has it, under its condition, which holds. -/
theorem wp_pass (col : Nat) (hcol : col < 4) (ix : Memref sig .scVector .vmem S2x1x128 .i32) (sI : DmaSems sig S2) (ob : Memref sig .scVector .vmem S2x128x256 .f32) (sO : DmaSems sig S2) (gA gB : DmaSems sig S_)
    (hp : ∀ z, (fp z : BitVec 32).toNat < 70656) (v11 : BitVec 32) (h1 : k0_cond1 i = 1#1)
    {β : Type} (kk : (Σ' (v77 : BitVec 32) (z0 : BitVec 32) (z1 : BitVec 32) (z2 : BitVec 32) (z3 : BitVec 32) (z4 : BitVec 32), BitVec 32)
      → Prog (TpuEff nD τ sig (Elt F) Λ₀ (.scVector ((i 0).castLE hcore0) ((i 1).castLE hsub0))) β) (kr : PUnit → Prog (TpuEff nD τ sig (Elt F) Λ₀ (.scVector ((i 0).castLE hcore0) ((i 1).castLE hsub0))) β)
    (A : Prog (TpuEff nD τ sig (Elt F) Λ₀ (.scVector ((i 0).castLE hcore0) ((i 1).castLE hsub0))) (Σ' (v77 : BitVec 32) (z0 : BitVec 32) (z1 : BitVec 32) (z2 : BitVec 32) (z3 : BitVec 32) (z4 : BitVec 32), BitVec 32))
    (hA : A = first (F := F) i pW ix sI (wN i) v11 h1)
    (hkk : ∃ rem, kk ⟨1#32, 0#32, 0#32, 0#32, 0#32, 0#32, Scalar.muli (Scalar.divsi (Scalar.subi v11 0#32) 1#32) 1#32⟩
      = rest (F := F) col hcol i yW pW oW ix sI ob sO gA gB (wN i) (wB i) v11 h1 rem 1#32 0#32 0#32 0#32 0#32 >>= kr)
    {Q : β → sProp (MT nD τ sig (HIx 1) (Elt F) ℕ UU ℕ)} :
    iprop(Transfers.MayWaits (tV d i) (default : HIx 1) O ∗ Own (F := F) d i ix sI ob sO gA gB ∗ Shares d fy fp q pq ∗ Rows d i col fo ∗ owesW d i O W)
      ⊢ iprop((iprop(Own (F := F) d i ix sI ob sO gA gB ∗ Shares d fy fp q pq ∗ Rows d i col (goal fy fp) ∗ owesW d i O W)
          -∗ wp frame (wpE (defs₀ (F := F)) 𝒱₀ (tV d i) none) Set.univ (kr ⟨⟩) Q)
        -∗ wp frame (wpE (defs₀ (F := F)) 𝒱₀ (tV d i) none) Set.univ (A >>= kk) Q) := by
  subst hA
  unfold Rows
  iintro ⟨#Hmw, HOwn, HSh, Ho, HW⟩ Hk
  ihave HL := (lane_own d i fy fp q pq ix sI ob sO gA gB).2 $$ [HOwn HSh]
  · isplitl [HOwn]; · iexact HOwn
    iexact HSh
  iapply (wp_lane col hcol d i ix sI ob sO gA gB fy fp fo q pq O W h1 hp v11 kk kr hkk) $$ [HL Ho HW]
  · isplitr; · iexact Hmw
    isplitl [HL]; · iexact HL
    isplitl [Ho]; · iexact Ho
    iexact HW
  iintro ⟨HL, Ho, HW⟩
  iapply Hk
  ihave HL' := (lane_own d i fy fp q pq ix sI ob sO gA gB).1 $$ HL
  icases HL' with ⟨HOwn, HSh⟩
  isplitl [HOwn]; · iexact HOwn
  isplitl [HSh]; · iexact HSh
  isplitl [Ho]; · iexact Ho
  iexact HW

/-- The task of the tile at `i`, on the arrays and its own buffers and semaphores. -/
abbrev task : Prog (TpuEff nD τ sig (Elt F) Λ₀ (.scVector ((i 0).castLE hcore0) ((i 1).castLE hsub0))) PUnit :=
  cc0_gather (F := F) i yW (Memref.isWhole_whole _) pW (Memref.isWhole_whole _) oW (Memref.isWhole_whole _)
    (Memref.whole cc0_scoped0) (Memref.isWhole_whole _) cc0_scoped1 (Memref.whole cc0_scoped2) (Memref.isWhole_whole _) cc0_scoped3 cc0_scoped4 cc0_scoped5 cc0_scoped6 cc0_scoped7
    (Memref.whole cc0_scoped8) (Memref.isWhole_whole _) cc0_scoped9 (Memref.whole cc0_scoped10) (Memref.isWhole_whole _) cc0_scoped11 cc0_scoped12 cc0_scoped13 cc0_scoped14 cc0_scoped15
    (Memref.whole cc0_scoped16) (Memref.isWhole_whole _) cc0_scoped17 (Memref.whole cc0_scoped18) (Memref.isWhole_whole _) cc0_scoped19 cc0_scoped20 cc0_scoped21 cc0_scoped22 cc0_scoped23
    (Memref.whole cc0_scoped24) (Memref.isWhole_whole _) cc0_scoped25 (Memref.whole cc0_scoped26) (Memref.isWhole_whole _) cc0_scoped27 cc0_scoped28 cc0_scoped29 cc0_scoped30 cc0_scoped31

/-- What the four passes own. -/
abbrev own0 : sProp 𝕄 := Own (F := F) d i (Memref.whole cc0_scoped0) cc0_scoped1 (Memref.whole cc0_scoped2) cc0_scoped3 cc0_scoped4 cc0_scoped5
abbrev own1 : sProp 𝕄 := Own (F := F) d i (Memref.whole cc0_scoped8) cc0_scoped9 (Memref.whole cc0_scoped10) cc0_scoped11 cc0_scoped12 cc0_scoped13
abbrev own2 : sProp 𝕄 := Own (F := F) d i (Memref.whole cc0_scoped16) cc0_scoped17 (Memref.whole cc0_scoped18) cc0_scoped19 cc0_scoped20 cc0_scoped21
abbrev own3 : sProp 𝕄 := Own (F := F) d i (Memref.whole cc0_scoped24) cc0_scoped25 (Memref.whole cc0_scoped26) cc0_scoped27 cc0_scoped28 cc0_scoped29

set_option maxRecDepth 65536 in
set_option maxHeartbeats 16000000 in
/-- A tile's task leaves its rows of the result at the gathered rows. -/
theorem wp_tile (hp : ∀ z, (fp z : BitVec 32).toNat < 70656) {Q : PUnit → sProp (MT nD τ sig (HIx 1) (Elt F) ℕ UU ℕ)} :
    iprop(Transfers.MayWaits (tV d i) (default : HIx 1) O ∗ (own0 (F := F) d i ∗ own1 (F := F) d i ∗ own2 (F := F) d i ∗ own3 (F := F) d i) ∗ Shares d fy fp q pq
        ∗ (Rows d i 0 fo ∗ Rows d i 1 fo ∗ Rows d i 2 fo ∗ Rows d i 3 fo) ∗ owesW d i O W)
      ⊢ iprop((iprop((own0 (F := F) d i ∗ own1 (F := F) d i ∗ own2 (F := F) d i ∗ own3 (F := F) d i) ∗ Shares d fy fp q pq
          ∗ (Rows d i 0 (goal fy fp) ∗ Rows d i 1 (goal fy fp) ∗ Rows d i 2 (goal fy fp) ∗ Rows d i 3 (goal fy fp)) ∗ owesW d i O W) -∗ Q ⟨⟩)
        -∗ wp frame (wpE (defs₀ (F := F)) 𝒱₀ (tV d i) none) Set.univ (task (F := F) i) Q) := by
  obtain ⟨-, -, h1, -⟩ := tileW i
  obtain ⟨hN, hB⟩ := words i
  iintro ⟨#Hmw, ⟨HA, HB, HC, HD⟩, HSh, ⟨HoA, HoB, HoC, HoD⟩, HW⟩ Hk
  unfold task
  rw [cc0_gather_eq_skeleton]
  unfold cc0_gather_skel
  rw [k0_part33_eq_skeleton]
  unfold k0_part33_skel

  have h0 := h1
  have h2 : k0_cond37 i = 1#1 := h1
  have h3 : k0_cond55 i = 1#1 := h1
  have h1 : k0_cond19 i = 1#1 := h1
  rw [wp_bind]
  simp only [dif_pos h0, dif_pos h1, hN, hB]
  iapply (wp_pass d i fy fp fo q pq O W 0 (by decide) _ _ _ _ _ _ hp _ h0 _ _ _
    (first0_eq (F := F) i yW (Memref.isWhole_whole _) pW (Memref.isWhole_whole _) oW (Memref.isWhole_whole _) _ _ _ _ _ _ _ _ _ _ _ _ _ _ _ _ _ _ _ _ _ _ _ _ _ _ _ _ _ _ _ _ _ _ _ _ _ _ _ _ _ _ _ _)
    ⟨_, congrArg (fun e => e >>= _) (rest0_eq (F := F) i yW (Memref.isWhole_whole _) pW (Memref.isWhole_whole _) oW (Memref.isWhole_whole _) _ _ _ _ _ _ _ _ _ _ _ _ _ _ _ _ _ _ _ _ _ _ _ _ _ _ _ _ _ _ _ _ _ _ _ _ _ _ _ _ _ _ _ h0 _ _ _ _ _ _)⟩) $$ [HA HSh HoA HW]
  · isplitr; · iexact Hmw
    isplitl [HA]; · iexact HA
    isplitl [HSh]; · iexact HSh
    isplitl [HoA]; · iexact HoA
    iexact HW
  iintro ⟨HA, HSh, HoA, HW⟩
  iapply (wp_pass d i fy fp fo q pq O W 1 (by decide) _ _ _ _ _ _ hp _ h1 _ _ _
    (first1_eq (F := F) i yW (Memref.isWhole_whole _) pW (Memref.isWhole_whole _) oW (Memref.isWhole_whole _) _ _ _ _ _ _ _ _ _ _ _ _ _ _ _ _ _ _ _ _ _ _ _ _ _ _ _ _ _ _ _ _ _ _ _ _ _ _ _ _ _ _ _ _)
    ⟨_, congrArg (fun e => e >>= _) (rest1_eq (F := F) i yW (Memref.isWhole_whole _) pW (Memref.isWhole_whole _) oW (Memref.isWhole_whole _) _ _ _ _ _ _ _ _ _ _ _ _ _ _ _ _ _ _ _ _ _ _ _ _ _ _ _ _ _ _ _ _ _ _ _ _ _ _ _ _ _ _ _ h1 _ _ _ _ _ _)⟩) $$ [HB HSh HoB HW]
  · isplitr; · iexact Hmw
    isplitl [HB]; · iexact HB
    isplitl [HSh]; · iexact HSh
    isplitl [HoB]; · iexact HoB
    iexact HW
  iintro ⟨HB, HSh, HoB, HW⟩
  simp only [wp_pure, dif_pos h2, dif_pos h3, hN, hB]
  imodintro
  iapply (wp_pass d i fy fp fo q pq O W 2 (by decide) _ _ _ _ _ _ hp _ h2 _ _ _
    (first2_eq (F := F) i yW (Memref.isWhole_whole _) pW (Memref.isWhole_whole _) oW (Memref.isWhole_whole _) _ _ _ _ _ _ _ _ _ _ _ _ _ _ _ _ _ _ _ _ _ _ _ _ _ _ _ _ _ _ _ _ _ _ _ _ _ _ _ _ _ _ _ _)
    ⟨_, congrArg (fun e => e >>= _) (rest2_eq (F := F) i yW (Memref.isWhole_whole _) pW (Memref.isWhole_whole _) oW (Memref.isWhole_whole _) _ _ _ _ _ _ _ _ _ _ _ _ _ _ _ _ _ _ _ _ _ _ _ _ _ _ _ _ _ _ _ _ _ _ _ _ _ _ _ _ _ _ _ h2 _ _ _ _ _ _)⟩) $$ [HC HSh HoC HW]
  · isplitr; · iexact Hmw
    isplitl [HC]; · iexact HC
    isplitl [HSh]; · iexact HSh
    isplitl [HoC]; · iexact HoC
    iexact HW
  iintro ⟨HC, HSh, HoC, HW⟩
  iapply (wp_pass d i fy fp fo q pq O W 3 (by decide) _ _ _ _ _ _ hp _ h3 _ _ _
    (first3_eq (F := F) i yW (Memref.isWhole_whole _) pW (Memref.isWhole_whole _) oW (Memref.isWhole_whole _) _ _ _ _ _ _ _ _ _ _ _ _ _ _ _ _ _ _ _ _ _ _ _ _ _ _ _ _ _ _ _ _ _ _ _ _ _ _ _ _ _ _ _ _)
    ⟨_, congrArg (fun e => e >>= _) (rest3_eq (F := F) i yW (Memref.isWhole_whole _) pW (Memref.isWhole_whole _) oW (Memref.isWhole_whole _) _ _ _ _ _ _ _ _ _ _ _ _ _ _ _ _ _ _ _ _ _ _ _ _ _ _ _ _ _ _ _ _ _ _ _ _ _ _ _ _ _ _ _ h3 _ _ _ _ _ _)⟩) $$ [HD HSh HoD HW]
  · isplitr; · iexact Hmw
    isplitl [HD]; · iexact HD
    isplitl [HSh]; · iexact HSh
    isplitl [HoD]; · iexact HoD
    iexact HW
  iintro ⟨HD, HSh, HoD, HW⟩
  simp only [wp_pure]
  imodintro
  iapply Hk
  isplitl [HA HB HC HD]
  · isplitl [HA]; · iexact HA
    isplitl [HB]; · iexact HB
    isplitl [HC]; · iexact HC
    iexact HD
  isplitl [HSh]; · iexact HSh
  isplitl [HoA HoB HoC HoD]
  · isplitl [HoA]; · iexact HoA
    isplitl [HoB]; · iexact HoB
    isplitl [HoC]; · iexact HoC
    iexact HoD
  iexact HW

end Tile

end Cert.Proof.Gather
-- ==== Proof.Pieces.lean ====
/-
  A tile's own buffers and semaphores are its passes' pieces and the rest.
-/
module

public import proofs.«01_k».proof.Proof.Tile

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Elements of a finite set taken out of a separating product over it, one by one. -/
theorem bigSep_take {I : Type} [DecidableEq I] (Φ : I → sProp (MT nD τ sig (HIx 1) (Elt F) ℕ UU ℕ)) :
    ∀ (l : List I) (S : Finset I), l.Nodup → (∀ x ∈ l, x ∈ S) → bigSep S Φ = l.foldr (fun x P => iprop(Φ x ∗ P)) (bigSep (S \ l.toFinset) Φ)
  | [], S, _, _ => by rw [List.toFinset_nil, Finset.sdiff_empty]; rfl
  | x :: l, S, hn, hm => by
    have hx := List.nodup_cons.mp hn
    rw [SparseCore.bigSep_erase' (hm x List.mem_cons_self), bigSep_take Φ l (S.erase x) hx.2 fun y hy =>
      Finset.mem_erase.mpr ⟨fun e => hx.1 (e ▸ hy), hm y (List.mem_cons_of_mem _ hy)⟩]
    have e : S.erase x \ l.toFinset = S \ (x :: l).toFinset := by
      ext y; simp only [Finset.mem_sdiff, Finset.mem_erase, List.mem_toFinset, List.mem_cons]; tauto
    rw [e]; rfl

/-- A buffer at some contents is its two parts at some contents. -/
theorem two_parts {ℓ : Loc nD τ sig} {A B : Finset (Idx ℓ)} (hd : Disjoint A B) (hu : A ∪ B = Finset.univ) :
    (iprop(∃ f, ℓ ↦{fullShare} f) : sProp 𝕄) ⊣⊢ iprop((∃ f, ℓ ↦[A]{fullShare} f) ∗ ∃ f, ℓ ↦[B]{fullShare} f) := by
  rw [← hu]
  constructor
  · iintro ⟨%f, H⟩
    ihave H' := (pointsTo_union (Val := Elt F) (Ix := HIx 1) (Name := ℕ) (U := UU) (Lvl := ℕ) (ℓ := ℓ) (q := fullShare) (f := f) hd).1 $$ H
    icases H' with ⟨H0, H1⟩
    isplitl [H0]
    · iexists _; iexact H0
    iexists _; iexact H1
  · iintro ⟨⟨%f, H0⟩, ⟨%g, H1⟩⟩
    ihave H := (pointsTo_join (Val := Elt F) (Ix := HIx 1) (Name := ℕ) (U := UU) (Lvl := ℕ) (ℓ := ℓ) (q := fullShare) (f := f) (g := g) hd) $$ [H0 H1]
    · isplitl [H0]; · iexact H0
      iexact H1
    iexists _; iexact H

theorem idx_disj : Disjoint (Rect.unit (s := S2x1x128) ![(0 : Fin 2).val, 0, 0] S1x1x128.size (inbI 0)).set (Rect.unit (s := S2x1x128) ![(1 : Fin 2).val, 0, 0] S1x1x128.size (inbI 1)).set :=
  Finset.disjoint_left.mpr fun x h0 h1 => by
    have h0 : (x 0).val < 0 + 1 := (Rect.mem_set_unit.mp h0 0).2
    have h1 : 1 ≤ (x 0).val := (Rect.mem_set_unit.mp h1 0).1
    omega
theorem idx_cover : (Rect.unit (s := S2x1x128) ![(0 : Fin 2).val, 0, 0] S1x1x128.size (inbI 0)).set ∪ (Rect.unit (s := S2x1x128) ![(1 : Fin 2).val, 0, 0] S1x1x128.size (inbI 1)).set = Finset.univ := by
  ext x
  have e0 : (x 0).val < 2 := (x 0).isLt
  have e1 : (x 1).val < 1 := (x 1).isLt
  have e2 : (x 2).val < 128 := (x 2).isLt
  refine ⟨fun _ => Finset.mem_univ x, fun _ => Finset.mem_union.mpr ?_⟩
  rcases Nat.lt_or_ge (x 0).val 1 with h | h
  · refine Or.inl (Rect.mem_set_unit.mpr fun a => ?_)
    match a with
    | 0 => show 0 ≤ (x 0).val ∧ (x 0).val < 0 + 1; omega
    | 1 => show 0 ≤ (x 1).val ∧ (x 1).val < 0 + 1; omega
    | 2 => show 0 ≤ (x 2).val ∧ (x 2).val < 0 + 128; omega
  · refine Or.inr (Rect.mem_set_unit.mpr fun a => ?_)
    match a with
    | 0 => show 1 ≤ (x 0).val ∧ (x 0).val < 1 + 1; omega
    | 1 => show 0 ≤ (x 1).val ∧ (x 1).val < 0 + 1; omega
    | 2 => show 0 ≤ (x 2).val ∧ (x 2).val < 0 + 128; omega
theorem set_iSl (b : Memref sig .scVector .vmem S2x1x128 .i32) (k : Fin 2) :
    (iSl b k).view.set = (Rect.unit (s := S2x1x128) ![k.val, 0, 0] S1x1x128.size (inbI k)).set.map b.view.emb := by
  show ((b.view.slice _).reshape _ _).set = _
  rw [View.set_reshape, View.set_slice]
/-- A buffer of two index slots, at some contents, is its two slots at some contents. -/
theorem idx_slots (d : Dev nD) (i : grid0.Coords) (b : Memref sig .scVector .vmem S2x1x128 .i32) (hb : b.view.set = Finset.univ) :
    iprop(∃ f, b.view.loc (tV d i) ↦{fullShare} f) ⊣⊢ (iprop(idxFree (F := F) d i b 0 ∗ idxFree (F := F) d i b 1) : sProp 𝕄) := by
  refine two_parts (F := F) (ℓ := b.view.loc (tV d i)) ?_ ?_
  · rw [set_iSl, set_iSl]; exact (Finset.disjoint_map _).mpr idx_disj
  · rw [set_iSl, set_iSl, ← Finset.map_union, idx_cover]; exact hb

theorem out_disj : Disjoint (Rect.unit (s := S2x128x256) ![(0 : Fin 2).val, 0, 0] S1x128x256.size (inbO 0)).set (Rect.unit (s := S2x128x256) ![(1 : Fin 2).val, 0, 0] S1x128x256.size (inbO 1)).set :=
  Finset.disjoint_left.mpr fun x h0 h1 => by
    have h0 : (x 0).val < 0 + 1 := (Rect.mem_set_unit.mp h0 0).2
    have h1 : 1 ≤ (x 0).val := (Rect.mem_set_unit.mp h1 0).1
    omega
theorem out_cover : (Rect.unit (s := S2x128x256) ![(0 : Fin 2).val, 0, 0] S1x128x256.size (inbO 0)).set ∪ (Rect.unit (s := S2x128x256) ![(1 : Fin 2).val, 0, 0] S1x128x256.size (inbO 1)).set = Finset.univ := by
  ext x
  have e0 : (x 0).val < 2 := (x 0).isLt
  have e1 : (x 1).val < 128 := (x 1).isLt
  have e2 : (x 2).val < 256 := (x 2).isLt
  refine ⟨fun _ => Finset.mem_univ x, fun _ => Finset.mem_union.mpr ?_⟩
  rcases Nat.lt_or_ge (x 0).val 1 with h | h
  · refine Or.inl (Rect.mem_set_unit.mpr fun a => ?_)
    match a with
    | 0 => show 0 ≤ (x 0).val ∧ (x 0).val < 0 + 1; omega
    | 1 => show 0 ≤ (x 1).val ∧ (x 1).val < 0 + 128; omega
    | 2 => show 0 ≤ (x 2).val ∧ (x 2).val < 0 + 256; omega
  · refine Or.inr (Rect.mem_set_unit.mpr fun a => ?_)
    match a with
    | 0 => show 1 ≤ (x 0).val ∧ (x 0).val < 1 + 1; omega
    | 1 => show 0 ≤ (x 1).val ∧ (x 1).val < 0 + 128; omega
    | 2 => show 0 ≤ (x 2).val ∧ (x 2).val < 0 + 256; omega
theorem set_oSl (b : Memref sig .scVector .vmem S2x128x256 .f32) (k : Fin 2) :
    (oSl b k).view.set = (Rect.unit (s := S2x128x256) ![k.val, 0, 0] S1x128x256.size (inbO k)).set.map b.view.emb := by
  show ((b.view.slice _).reshape _ _).set = _
  rw [View.set_reshape, View.set_slice]
/-- A buffer of two output slots, at some contents, is its two slots at some contents. -/
theorem out_slots (d : Dev nD) (i : grid0.Coords) (b : Memref sig .scVector .vmem S2x128x256 .f32) (hb : b.view.set = Finset.univ) :
    iprop(∃ f, b.view.loc (tV d i) ↦{fullShare} f) ⊣⊢ (iprop(obFree (F := F) d i b 0 ∗ obFree (F := F) d i b 1) : sProp 𝕄) := by
  refine two_parts (F := F) (ℓ := b.view.loc (tV d i)) ?_ ?_
  · rw [set_oSl, set_oSl]; exact (Finset.disjoint_map _).mpr out_disj
  · rw [set_oSl, set_oSl, ← Finset.map_union, out_cover]; exact hb

section Pieces

variable (d : Dev nD) (i : grid0.Coords)

/-- What a pass owns, of its two buffers and six semaphores. -/
theorem own_intro (ix : Memref sig .scVector .vmem S2x1x128 .i32) (sI : DmaSems sig S2) (ob : Memref sig .scVector .vmem S2x128x256 .f32) (sO : DmaSems sig S2) (gA gB : DmaSems sig S_)
    (hix : ix.view.set = Finset.univ) (hob : ob.view.set = Finset.univ) :
    (iprop((∃ f, ix.view.loc (tV d i) ↦{fullShare} f) ∗ (∃ f, ob.view.loc (tV d i) ↦{fullShare} f)
      ∗ semVal (tV d i, .dma (sem1 sI 0)) 0 ∗ semVal (tV d i, .dma (sem1 sI 1)) 0 ∗ semVal (tV d i, .dma (sem1 sO 0)) 0 ∗ semVal (tV d i, .dma (sem1 sO 1)) 0
      ∗ semVal (tV d i, .dma gA.sem) 0 ∗ semVal (tV d i, .dma gB.sem) 0) : sProp 𝕄) ⊣⊢ Own (F := F) d i ix sI ob sO gA gB := by
  unfold Own
  constructor
  · iintro ⟨HI, HO, H⟩
    isplitl [HI]; · iapply (idx_slots (F := F) d i ix hix).1; iexact HI
    isplitl [HO]; · iapply (out_slots (F := F) d i ob hob).1; iexact HO
    iexact H
  · iintro ⟨HI, HO, H⟩
    isplitl [HI]; · iapply (idx_slots (F := F) d i ix hix).2; iexact HI
    isplitl [HO]; · iapply (out_slots (F := F) d i ob hob).2; iexact HO
    iexact H

/-- The buffers and the semaphores the passes use. -/
def bufL : List (Ref sig .scVector) := [cc0_scoped0, cc0_scoped2, cc0_scoped8, cc0_scoped10, cc0_scoped16, cc0_scoped18, cc0_scoped24, cc0_scoped26]
def semL : List (DmaSem sig) :=
  [sem1 cc0_scoped1 0, sem1 cc0_scoped1 1, sem1 cc0_scoped3 0, sem1 cc0_scoped3 1, cc0_scoped4.sem, cc0_scoped5.sem,
   sem1 cc0_scoped9 0, sem1 cc0_scoped9 1, sem1 cc0_scoped11 0, sem1 cc0_scoped11 1, cc0_scoped12.sem, cc0_scoped13.sem,
   sem1 cc0_scoped17 0, sem1 cc0_scoped17 1, sem1 cc0_scoped19 0, sem1 cc0_scoped19 1, cc0_scoped20.sem, cc0_scoped21.sem,
   sem1 cc0_scoped25 0, sem1 cc0_scoped25 1, sem1 cc0_scoped27 0, sem1 cc0_scoped27 1, cc0_scoped28.sem, cc0_scoped29.sem]

theorem bufL_nodup : bufL.Nodup := by decide +kernel
theorem semL_nodup : semL.Nodup := by decide +kernel
theorem semL_scoped : ∀ s ∈ semL, (SemLoc.dma s : SemLoc sig).isScoped .scVector = true := by decide +kernel

def cells : List (GSem nD τ sig) := semL.map fun s => (tV d i, .dma s)
def drefs : List (DevRef τ sig) := bufL.map (tV d i).2.devRef

/-- What of a tile's own no pass uses. -/
def restS : sProp 𝕄 := bigSep (ownCells (tV d i) \ (cells d i).toFinset) fun g => semVal g 0
def restB : sProp 𝕄 := bigSep (ownRefs (tV d i).2 \ (drefs d i).toFinset) fun b => iprop(∃ f, ((d, b) : Loc nD τ sig) ↦{fullShare} f)

/-- A tile's semaphores are the passes' and the rest. -/
theorem sems_take : (ownSems0 (tV d i) : sProp 𝕄)
    = iprop(semVal (tV d i, .dma (sem1 cc0_scoped1 0)) 0 ∗ semVal (tV d i, .dma (sem1 cc0_scoped1 1)) 0 ∗ semVal (tV d i, .dma (sem1 cc0_scoped3 0)) 0 ∗ semVal (tV d i, .dma (sem1 cc0_scoped3 1)) 0 ∗ semVal (tV d i, .dma cc0_scoped4.sem) 0 ∗ semVal (tV d i, .dma cc0_scoped5.sem) 0
        ∗ semVal (tV d i, .dma (sem1 cc0_scoped9 0)) 0 ∗ semVal (tV d i, .dma (sem1 cc0_scoped9 1)) 0 ∗ semVal (tV d i, .dma (sem1 cc0_scoped11 0)) 0 ∗ semVal (tV d i, .dma (sem1 cc0_scoped11 1)) 0 ∗ semVal (tV d i, .dma cc0_scoped12.sem) 0 ∗ semVal (tV d i, .dma cc0_scoped13.sem) 0
        ∗ semVal (tV d i, .dma (sem1 cc0_scoped17 0)) 0 ∗ semVal (tV d i, .dma (sem1 cc0_scoped17 1)) 0 ∗ semVal (tV d i, .dma (sem1 cc0_scoped19 0)) 0 ∗ semVal (tV d i, .dma (sem1 cc0_scoped19 1)) 0 ∗ semVal (tV d i, .dma cc0_scoped20.sem) 0 ∗ semVal (tV d i, .dma cc0_scoped21.sem) 0
        ∗ semVal (tV d i, .dma (sem1 cc0_scoped25 0)) 0 ∗ semVal (tV d i, .dma (sem1 cc0_scoped25 1)) 0 ∗ semVal (tV d i, .dma (sem1 cc0_scoped27 0)) 0 ∗ semVal (tV d i, .dma (sem1 cc0_scoped27 1)) 0 ∗ semVal (tV d i, .dma cc0_scoped28.sem) 0 ∗ semVal (tV d i, .dma cc0_scoped29.sem) 0
        ∗ restS (F := F) d i) := by
  unfold SparseCore.Cfg.ownSems0
  refine (bigSep_take (F := F) (fun g => semVal g 0) (cells d i) _ ?_ ?_).trans ?_
  · exact List.Nodup.map (fun s s' e => SemLoc.dma.inj (Prod.mk.inj e).2) semL_nodup
  · intro g hg
    obtain ⟨s, hs, rfl⟩ := List.mem_map.mp hg
    exact mem_ownCells.mpr ⟨rfl, semL_scoped s hs⟩
  · change _ = iprop(_)
    unfold restS
    generalize (bigSep (ownCells (tV d i) \ (cells d i).toFinset) fun g => (semVal g 0 : sProp 𝕄)) = R
    simp only [cells, semL, List.map_cons, List.map_nil, List.foldr_cons, List.foldr_nil]

/-- A tile's buffers are the passes' and the rest. -/
theorem bufs_take : (ownBufs (tV d i) : sProp 𝕄)
    = iprop((∃ f, (tV d i).loc cc0_scoped0 ↦{fullShare} f) ∗ (∃ f, (tV d i).loc cc0_scoped2 ↦{fullShare} f) ∗ (∃ f, (tV d i).loc cc0_scoped8 ↦{fullShare} f) ∗ (∃ f, (tV d i).loc cc0_scoped10 ↦{fullShare} f) ∗ (∃ f, (tV d i).loc cc0_scoped16 ↦{fullShare} f) ∗ (∃ f, (tV d i).loc cc0_scoped18 ↦{fullShare} f) ∗ (∃ f, (tV d i).loc cc0_scoped24 ↦{fullShare} f) ∗ (∃ f, (tV d i).loc cc0_scoped26 ↦{fullShare} f)
        ∗ restB (F := F) d i) := by
  unfold SparseCore.Cfg.ownBufs
  have ho : ∀ r ∈ bufL, ((tV d i).2.devRef r).owner = .proc (tV d i).2 := by
    unfold bufL
    simp only [List.forall_mem_cons]
    exact ⟨rfl, rfl, rfl, rfl, rfl, rfl, rfl, rfl, fun _ h => nomatch h⟩
  refine (bigSep_take (F := F) (fun b => iprop(∃ f, ((d, b) : Loc nD τ sig) ↦{fullShare} f)) (drefs d i) _ ?_ ?_).trans ?_
  · exact List.Nodup.map (Proc.devRef_injective _) bufL_nodup
  · intro b hb
    obtain ⟨r, hr, rfl⟩ := List.mem_map.mp hb
    exact SparseCore.Cfg.mem_ownRefs_of_owner (ho r hr)
  · rfl

set_option maxHeartbeats 4000000 in
/-- A tile's own buffers and semaphores are its passes' pieces and the rest. -/
theorem tile_pieces : (iprop(ownBufs (tV d i) ∗ ownSems0 (tV d i)) : sProp 𝕄)
    ⊣⊢ iprop((own0 (F := F) d i ∗ own1 (F := F) d i ∗ own2 (F := F) d i ∗ own3 (F := F) d i) ∗ restB (F := F) d i ∗ restS (F := F) d i) := by
  rw [sems_take, bufs_take]
  constructor
  · iintro ⟨⟨HI0, HO0, HI1, HO1, HI2, HO2, HI3, HO3, HB⟩, HS00, HS01, HS02, HS03, HS04, HS05, HS10, HS11, HS12, HS13, HS14, HS15, HS20, HS21, HS22, HS23, HS24, HS25, HS30, HS31, HS32, HS33, HS34, HS35, HS⟩
    isplitr [HB HS]; rotate_left
    · isplitl [HB]; · iexact HB
      iexact HS
    isplitl [HI0 HO0 HS00 HS01 HS02 HS03 HS04 HS05]
    · iapply (own_intro (F := F) d i (Memref.whole cc0_scoped0) cc0_scoped1 (Memref.whole cc0_scoped2) cc0_scoped3 cc0_scoped4 cc0_scoped5 (View.set_whole _) (View.set_whole _)).1
      isplitl [HI0]; · iexact HI0
      isplitl [HO0]; · iexact HO0
      isplitl [HS00]; · iexact HS00
      isplitl [HS01]; · iexact HS01
      isplitl [HS02]; · iexact HS02
      isplitl [HS03]; · iexact HS03
      isplitl [HS04]; · iexact HS04
      iexact HS05
    isplitl [HI1 HO1 HS10 HS11 HS12 HS13 HS14 HS15]
    · iapply (own_intro (F := F) d i (Memref.whole cc0_scoped8) cc0_scoped9 (Memref.whole cc0_scoped10) cc0_scoped11 cc0_scoped12 cc0_scoped13 (View.set_whole _) (View.set_whole _)).1
      isplitl [HI1]; · iexact HI1
      isplitl [HO1]; · iexact HO1
      isplitl [HS10]; · iexact HS10
      isplitl [HS11]; · iexact HS11
      isplitl [HS12]; · iexact HS12
      isplitl [HS13]; · iexact HS13
      isplitl [HS14]; · iexact HS14
      iexact HS15
    isplitl [HI2 HO2 HS20 HS21 HS22 HS23 HS24 HS25]
    · iapply (own_intro (F := F) d i (Memref.whole cc0_scoped16) cc0_scoped17 (Memref.whole cc0_scoped18) cc0_scoped19 cc0_scoped20 cc0_scoped21 (View.set_whole _) (View.set_whole _)).1
      isplitl [HI2]; · iexact HI2
      isplitl [HO2]; · iexact HO2
      isplitl [HS20]; · iexact HS20
      isplitl [HS21]; · iexact HS21
      isplitl [HS22]; · iexact HS22
      isplitl [HS23]; · iexact HS23
      isplitl [HS24]; · iexact HS24
      iexact HS25
    iapply (own_intro (F := F) d i (Memref.whole cc0_scoped24) cc0_scoped25 (Memref.whole cc0_scoped26) cc0_scoped27 cc0_scoped28 cc0_scoped29 (View.set_whole _) (View.set_whole _)).1
    isplitl [HI3]; · iexact HI3
    isplitl [HO3]; · iexact HO3
    isplitl [HS30]; · iexact HS30
    isplitl [HS31]; · iexact HS31
    isplitl [HS32]; · iexact HS32
    isplitl [HS33]; · iexact HS33
    isplitl [HS34]; · iexact HS34
    iexact HS35
  · iintro ⟨⟨H0, H1, H2, H3⟩, HB, HS⟩
    ihave H0 := (own_intro (F := F) d i (Memref.whole cc0_scoped0) cc0_scoped1 (Memref.whole cc0_scoped2) cc0_scoped3 cc0_scoped4 cc0_scoped5 (View.set_whole _) (View.set_whole _)).2 $$ H0
    icases H0 with ⟨HI0, HO0, HS00, HS01, HS02, HS03, HS04, HS05⟩
    ihave H1 := (own_intro (F := F) d i (Memref.whole cc0_scoped8) cc0_scoped9 (Memref.whole cc0_scoped10) cc0_scoped11 cc0_scoped12 cc0_scoped13 (View.set_whole _) (View.set_whole _)).2 $$ H1
    icases H1 with ⟨HI1, HO1, HS10, HS11, HS12, HS13, HS14, HS15⟩
    ihave H2 := (own_intro (F := F) d i (Memref.whole cc0_scoped16) cc0_scoped17 (Memref.whole cc0_scoped18) cc0_scoped19 cc0_scoped20 cc0_scoped21 (View.set_whole _) (View.set_whole _)).2 $$ H2
    icases H2 with ⟨HI2, HO2, HS20, HS21, HS22, HS23, HS24, HS25⟩
    ihave H3 := (own_intro (F := F) d i (Memref.whole cc0_scoped24) cc0_scoped25 (Memref.whole cc0_scoped26) cc0_scoped27 cc0_scoped28 cc0_scoped29 (View.set_whole _) (View.set_whole _)).2 $$ H3
    icases H3 with ⟨HI3, HO3, HS30, HS31, HS32, HS33, HS34, HS35⟩
    isplitl [HI0 HO0 HI1 HO1 HI2 HO2 HI3 HO3 HB]
    · isplitl [HI0]; · iexact HI0
      isplitl [HO0]; · iexact HO0
      isplitl [HI1]; · iexact HI1
      isplitl [HO1]; · iexact HO1
      isplitl [HI2]; · iexact HI2
      isplitl [HO2]; · iexact HO2
      isplitl [HI3]; · iexact HI3
      isplitl [HO3]; · iexact HO3
      iexact HB
    isplitl [HS00]; · iexact HS00
    isplitl [HS01]; · iexact HS01
    isplitl [HS02]; · iexact HS02
    isplitl [HS03]; · iexact HS03
    isplitl [HS04]; · iexact HS04
    isplitl [HS05]; · iexact HS05
    isplitl [HS10]; · iexact HS10
    isplitl [HS11]; · iexact HS11
    isplitl [HS12]; · iexact HS12
    isplitl [HS13]; · iexact HS13
    isplitl [HS14]; · iexact HS14
    isplitl [HS15]; · iexact HS15
    isplitl [HS20]; · iexact HS20
    isplitl [HS21]; · iexact HS21
    isplitl [HS22]; · iexact HS22
    isplitl [HS23]; · iexact HS23
    isplitl [HS24]; · iexact HS24
    isplitl [HS25]; · iexact HS25
    isplitl [HS30]; · iexact HS30
    isplitl [HS31]; · iexact HS31
    isplitl [HS32]; · iexact HS32
    isplitl [HS33]; · iexact HS33
    isplitl [HS34]; · iexact HS34
    isplitl [HS35]; · iexact HS35
    iexact HS

end Pieces

end Cert.Proof.Gather
-- ==== Proof.Launch.lean ====
/-
  The launch.

  The TensorCore reshapes the list of row numbers to one row and starts the two SparseCores; each of the 32 tiles gets
  its share of the table and of the list and its own rows of the result (`Piece`), and hands them back with the rows at
  `goal`. The pieces make up the three arrays (`deal`), so that at the end the table and the list are as they were and
  the result is `goal` of them (`run_main`).
-/
module

public import proofs.«01_k».proof.Proof.Pieces
public import Idealize.ShloMosaic.Lib.ShareLeaves

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)
open Idealize.ShloMosaic.ShareLeaves (leaf pointsTo_leaves)

variable {F : FTy → Type} [FloatOps F]

local notation "𝕄" => MT nD τ sig (HIx 1) (Elt F) ℕ UU ℕ

/-! ## The program as the launch theorem reads it -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := 𝒱₀.lift
abbrev v₀ : 𝒱.V := Sum.inl none
abbrev EH : Emb UH (MT nD τ sig (HIx 1) (Elt F) ℕ UU ℕ) := embL

theorem cores : (K (F := F)).nCore 0 = 2 := rfl
theorem subs : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The tiles' pieces of the three arrays -/

/-- The share of the table and of the list that goes to a tile: a half to each core, a sixteenth of it to each tile. -/
def qT (c : Fin 2) (s : Fin 16) : PosShare TreeShare := leaf 4 (leaf 1 fullShare c) s
/-- A tile's share of the list, halved: its two index slots are filled at once. -/
def qH (c : Fin 2) (s : Fin 16) : Fin 2 → PosShare TreeShare := fun | 0 => (qT c s).left | 1 => (qT c s).right

/-- A tile's rows of the result, all four column blocks. -/
def tRows (c : Fin 2) (s : Fin 16) (k : Fin 4) : Finset S66560x1024.Idx := oSet k.val (bB (co c s)) (bB (co c s) + nB (co c s))

section Deal

variable (d : Dev nD) (fy : Buf (Elt F) (yLoc d)) (fp : Buf (Elt F) (pLoc d)) (f : Buf (Elt F) (oLoc d))

/-- What tile `(c, s)` works on. -/
def Piece (c : Fin 2) (s : Fin 16) : sProp 𝕄 :=
  iprop(Shares d fy fp (qT c s) (qH c s) ∗ (Rows d (co c s) 0 f ∗ Rows d (co c s) 1 f ∗ Rows d (co c s) 2 f ∗ Rows d (co c s) 3 f))

/-- An array held whole is its tiles' shares of it. -/
theorem deal_shares {ℓ : Loc nD τ sig} (g : Buf (Elt F) ℓ) :
    (ℓ ↦{fullShare} g : sProp 𝕄) = bigSep Finset.univ fun c : Fin 2 => bigSep Finset.univ fun s : Fin 16 => ℓ ↦{qT c s} g :=
  (pointsTo_leaves Finset.univ g 1 fullShare).trans (bigSep_congr fun c _ => pointsTo_leaves Finset.univ g 4 (leaf 1 fullShare c))

/-- The tiles' blocks do not meet. -/
theorem blocks_apart : ∀ (c c' : Fin 2) (s s' : Fin 16), (c, s) ≠ (c', s') → bB (co c s) + nB (co c s) ≤ bB (co c' s') ∨ bB (co c' s') + nB (co c' s') ≤ bB (co c s) := by
  decide +kernel
/-- Every block is some tile's. -/
theorem blocks_all : ∀ j : Fin 520, ∃ (c : Fin 2) (s : Fin 16), bB (co c s) ≤ j.val ∧ j.val < bB (co c s) + nB (co c s) := by
  decide +kernel

/-- Rows of different tiles or column blocks do not meet. -/
theorem tRows_disj (a b : (Fin 2 × Fin 16) × Fin 4) (h : a ≠ b) : Disjoint (tRows a.1.1 a.1.2 a.2) (tRows b.1.1 b.1.2 b.2) := by
  refine Finset.disjoint_left.mpr fun x hx hy => h ?_
  unfold tRows at hx hy
  rw [mem_oSet] at hx hy
  have e1 : a.1 = b.1 := by
    by_contra e
    rcases blocks_apart a.1.1 b.1.1 a.1.2 b.1.2 e with h | h <;> omega
  exact Prod.ext e1 (Fin.ext (by omega))

/-- Together they are all of the result. -/
theorem tRows_cover : (Finset.univ : Finset ((Fin 2 × Fin 16) × Fin 4)).biUnion (fun a => tRows a.1.1 a.1.2 a.2) = Finset.univ := by
  refine Finset.eq_univ_iff_forall.mpr fun x => ?_
  have hx0 : (x 0).val < 66560 := (x 0).isLt
  have hx1 : (x 1).val < 1024 := (x 1).isLt
  obtain ⟨c, s, hb⟩ := blocks_all ⟨(x 0).val / 128, by omega⟩
  refine Finset.mem_biUnion.mpr ⟨((c, s), ⟨(x 1).val / 256, by omega⟩), Finset.mem_univ _, ?_⟩
  unfold tRows
  rw [mem_oSet]
  simp only at hb ⊢
  omega

/-- The result held whole is its tiles' rows of it. -/
theorem deal_rows : (oLoc d ↦{fullShare} f : sProp 𝕄)
    = bigSep Finset.univ fun c : Fin 2 => bigSep Finset.univ fun s : Fin 16 => bigSep Finset.univ fun k : Fin 4 => oLoc d ↦[tRows c s k]{fullShare} f := by
  have h := pointsTo_biUnion (Val := Elt F) (Ix := HIx 1) (Name := ℕ) (U := UU) (Lvl := ℕ) (ℓ := oLoc d) (q := fullShare) (f := f)
    (Finset.univ : Finset ((Fin 2 × Fin 16) × Fin 4)) (fun a => tRows a.1.1 a.1.2 a.2) (fun a _ b _ hab => tRows_disj a b hab)
  rw [tRows_cover] at h
  rw [h, bigSep_univ_prod, bigSep_univ_prod]

/-- The three arrays held whole are the tiles' pieces. -/
theorem deal : iprop((yLoc d ↦{fullShare} fy) ∗ (pLoc d ↦{fullShare} fp) ∗ (oLoc d ↦{fullShare} f))
    = (bigSep Finset.univ fun c : Fin 2 => bigSep Finset.univ fun s : Fin 16 => Piece d fy fp f c s : sProp 𝕄) := by
  rw [deal_shares, deal_shares, deal_rows, ← bigSep_sep', ← bigSep_sep']
  refine bigSep_congr fun c _ => ?_
  rw [← bigSep_sep', ← bigSep_sep']
  refine bigSep_congr fun s _ => ?_
  rw [BI.bigSep_univ_eq_bigSepL [0, 1, 2, 3] (by decide) (by decide),
    BI.Entails.antisymm (pointsTo_share (ℓ := pLoc d) (PosShare.mem_left_op_right (qT c s))).1 (pointsTo_share (PosShare.mem_left_op_right (qT c s))).2]
  unfold Piece Shares Rows
  refine BI.Entails.antisymm ?_ ?_
  · show iprop((yLoc d ↦{qT c s} fy) ∗ (((pLoc d ↦{(qT c s).left} fp) ∗ (pLoc d ↦{(qT c s).right} fp)) ∗
      ((oLoc d ↦[tRows c s 0]{fullShare} f) ∗ (oLoc d ↦[tRows c s 1]{fullShare} f) ∗ (oLoc d ↦[tRows c s 2]{fullShare} f) ∗ (oLoc d ↦[tRows c s 3]{fullShare} f)))) ⊢ _
    iintro ⟨Hy, ⟨Hl, Hr⟩, Ho⟩
    isplitr [Ho]
    · isplitl [Hy]; · iexact Hy
      isplitl [Hl]; · iexact Hl
      iexact Hr
    iexact Ho
  · show _ ⊢ iprop((yLoc d ↦{qT c s} fy) ∗ (((pLoc d ↦{(qT c s).left} fp) ∗ (pLoc d ↦{(qT c s).right} fp)) ∗
      ((oLoc d ↦[tRows c s 0]{fullShare} f) ∗ (oLoc d ↦[tRows c s 1]{fullShare} f) ∗ (oLoc d ↦[tRows c s 2]{fullShare} f) ∗ (oLoc d ↦[tRows c s 3]{fullShare} f))))
    iintro ⟨⟨Hy, Hl, Hr⟩, Ho⟩
    isplitl [Hy]; · iexact Hy
    isplitl [Hl Hr]
    · isplitl [Hl]; · iexact Hl
      iexact Hr
    iexact Ho

end Deal

/-! ## The list as the tiles read it -/

section Run

variable (m : (ℓ : Loc nD τ sig) → Buf (Elt F) ℓ) (ρ : Dev nD → PrngReg)

/-- The list of row numbers as given. -/
abbrev aLoc (d : Dev nD) : Loc nD τ sig := (SparseCore.T d).loc main_arg1
/-- The list in one piece. -/
abbrev bLoc (d : Dev nD) : Loc nD τ sig := (SparseCore.T d).loc main_v0

abbrev y' : DevRef τ sig := Proc.devRef .tc (main_arg0 : Ref sig .tc)
abbrev a' : DevRef τ sig := Proc.devRef .tc (main_arg1 : Ref sig .tc)
abbrev b' : DevRef τ sig := Proc.devRef .tc (main_v0 : Ref sig .tc)
abbrev p' : DevRef τ sig := Proc.devRef .tc (main_v1 : Ref sig .tc)
abbrev o' : DevRef τ sig := Proc.devRef .tc (main_v2 : Ref sig .tc)

/-- The two reshapes before the call. -/
abbrev opA : HloOp τ sig (Elt F) := StableHlo.reshape main_arg1 main_v0 (rfl : (.i32 : EltTy) = .i32) shapeCasts_S2x33280_S66560
abbrev opB : HloOp τ sig (Elt F) := StableHlo.reshape main_v0 main_v1 (rfl : (.i32 : EltTy) = .i32) shapeCasts_S66560_S1x66560

/-- The arrays at launch, and after the reshapes. -/
def V0 (d : Dev nD) : Valuation τ sig (Elt F) := fun b => m (d, b)
def V2 (d : Dev nD) : Valuation τ sig (Elt F) := (opB (F := F)).result ((opA (F := F)).result (V0 m d))

/-- The list in one row. -/
def rowNos (d : Dev nD) : Buf (Elt F) (pLoc d) := V2 m d p'

theorem V2_y (d : Dev nD) : V2 m d y' = m (yLoc d) := by
  unfold V2
  rw [(opB (F := F)).result_of_not_mem _ (show y' ∉ ({p'} : Finset (DevRef τ sig)) by decide),
    (opA (F := F)).result_of_not_mem _ (show y' ∉ ({b'} : Finset (DevRef τ sig)) by decide)]
  rfl
theorem V2_a (d : Dev nD) : V2 m d a' = m (aLoc d) := by
  unfold V2
  rw [(opB (F := F)).result_of_not_mem _ (show a' ∉ ({p'} : Finset (DevRef τ sig)) by decide),
    (opA (F := F)).result_of_not_mem _ (show a' ∉ ({b'} : Finset (DevRef τ sig)) by decide)]
  rfl
theorem V2_o (d : Dev nD) : V2 m d o' = m (oLoc d) := by
  unfold V2
  rw [(opB (F := F)).result_of_not_mem _ (show o' ∉ ({p'} : Finset (DevRef τ sig)) by decide),
    (opA (F := F)).result_of_not_mem _ (show o' ∉ ({b'} : Finset (DevRef τ sig)) by decide)]
  rfl

/-- The list in one row is the given one read through the two reshapes. -/
theorem rowNos_eq (d : Dev nD) : rowNos m d = fun i => shapeCast S1x66560 (shapeCast S66560 (m (aLoc d)) shapeCasts_S2x33280_S66560) shapeCasts_S66560_S1x66560 i := by
  unfold rowNos V2
  rw [StableHlo.reshape_result, StableHlo.reshape_result]
  rfl

/-- Every row number given is a row of the table. -/
def PreOK : Prop := ∀ (d : Dev nD) (z : S2x33280.Idx), (m (aLoc d) z : BitVec 32).toNat < 70656

theorem rowNos_lt (h : PreOK m) (d : Dev nD) (z) : (rowNos m d z : BitVec 32).toNat < 70656 := by
  rw [rowNos_eq]; exact h d _

/-! ## What the call hands to each core and tile -/

def P : (K (F := F)).Pay (nD := nD) (Val := Elt F) (Name := ℕ) (U := UU) where
  st := fun q d c => match q with
    | 0 => bigSep Finset.univ fun s : Fin 16 => Piece d (m (yLoc d)) (rowNos m d) (m (oLoc d)) (Fin.cast cores c) s
  dn := fun q d c => match q with
    | 0 => bigSep Finset.univ fun s : Fin 16 => Piece d (m (yLoc d)) (rowNos m d) (goal (m (yLoc d)) (rowNos m d)) (Fin.cast cores c) s
  go := fun q d c s => match q with
    | 0 => Piece d (m (yLoc d)) (rowNos m d) (m (oLoc d)) (Fin.cast cores c) (Fin.cast subs s)
  td := fun q d c s => match q with
    | 0 => Piece d (m (yLoc d)) (rowNos m d) (goal (m (yLoc d)) (rowNos m d)) (Fin.cast cores c) (Fin.cast subs s)
  x := fun _ _ => iprop(emp)

instance piece_storable (d : Dev nD) (fy : Buf (Elt F) (yLoc d)) (fp : Buf (Elt F) (pLoc d)) (f : Buf (Elt F) (oLoc d)) (c : Fin 2) (s : Fin 16) :
    BI.Storable (upEmb : UEmb _ 𝕄) (Piece d fy fp f c s) := by
  unfold Piece Shares Rows; infer_instance

instance P_storable : (P m).IsStorable where
  st q d c := match q with
    | 0 => (inferInstance : BI.Storable (upEmb : UEmb _ 𝕄) (bigSep Finset.univ fun s : Fin 16 => Piece d (m (yLoc d)) (rowNos m d) (m (oLoc d)) (Fin.cast cores c) s))
  dn q d c := match q with
    | 0 => (inferInstance : BI.Storable (upEmb : UEmb _ 𝕄) (bigSep Finset.univ fun s : Fin 16 => Piece d (m (yLoc d)) (rowNos m d) (goal (m (yLoc d)) (rowNos m d)) (Fin.cast cores c) s))
  go q d c s := match q with
    | 0 => piece_storable d (m (yLoc d)) (rowNos m d) (m (oLoc d)) (Fin.cast cores c) (Fin.cast subs s)
  td q d c s := match q with
    | 0 => piece_storable d (m (yLoc d)) (rowNos m d) (goal (m (yLoc d)) (rowNos m d)) (Fin.cast cores c) (Fin.cast subs s)

/-! ## A tile meets its obligation -/

set_option maxHeartbeats 1000000 in
/-- A tile's task, from its piece, its buffers and its semaphores, with the waits it may do. -/
theorem tile_body (d : Dev nD) (c : Fin 2) (s : Fin 16) (hpre : PreOK m) (O : CellTallies nD τ sig (HIx 1)) (W : Waits sig (HIx 1)) (hO : ∀ g, O g none = 0) :
    iprop(levAts (K (F := F)).L (K (F := F)).lev ∗ emp ∗ Piece d (m (yLoc d)) (rowNos m d) (m (oLoc d)) c s
        ∗ scopedBufs (tV d (co c s)) ∗ scopedSems0 (tV d (co c s)) ∗ owes (tV d (co c s)) O W)
      ⊢ wp frame (wpE (defs₀ (F := F)) 𝒱₀ (tV d (co c s)) none) Set.univ (task (F := F) (co c s))
          fun _ => iprop(Piece d (m (yLoc d)) (rowNos m d) (goal (m (yLoc d)) (rowNos m d)) c s
            ∗ scopedBufs (tV d (co c s)) ∗ scopedSems0 (tV d (co c s)) ∗ ∃ W', ⌜∀ p ∈ W', p ∈ W ∨ p.2 = none⌝ ∗ owes (tV d (co c s)) O W') := by
  rw [(K (F := F)).scopedBufs_V facts d _ _, SparseCore.Cfg.scopedSems0_V (Val := Elt F) d _ _]
  unfold Piece
  iintro ⟨#Hlv, -, ⟨HSh, HR⟩, Hbufs, Hsems, HO⟩
  ihave Hmw := (show levAts (K (F := F)).L (K (F := F)).lev ⊢ Transfers.MayWaits (tV d (co c s)) (default : HIx 1) O from
    (K (F := F)).mayWaits_none (thr := tV d (co c s)) hO) $$ Hlv
  ihave Hown := (tile_pieces (F := F) d (co c s)).1 $$ [Hbufs Hsems]
  · isplitl [Hbufs]; · iexact Hbufs
    iexact Hsems
  icases Hown with ⟨Hown, HrB, HrS⟩
  iapply (wp_tile d (co c s) (m (yLoc d)) (rowNos m d) (m (oLoc d)) (qT c s) (qH c s) O W (rowNos_lt m hpre d)) $$ [Hmw Hown HSh HR HO]
  · isplitl [Hmw]; · iexact Hmw
    isplitl [Hown]; · iexact Hown
    isplitl [HSh]; · iexact HSh
    isplitl [HR]; · iexact HR
    unfold owesW
    iexists W; isplitr
    · ipureintro; exact fun p hp => .inl hp
    iexact HO
  iintro ⟨Hown, HSh, HR, HO⟩
  ihave Hown := (tile_pieces (F := F) d (co c s)).2 $$ [Hown HrB HrS]
  · isplitl [Hown]; · iexact Hown
    isplitl [HrB]; · iexact HrB
    iexact HrS
  icases Hown with ⟨Hbufs, Hsems⟩
  isplitl [HSh HR]
  · isplitl [HSh]; · iexact HSh
    iexact HR
  isplitl [Hbufs]; · iexact Hbufs
  isplitl [Hsems]; · iexact Hsems
  unfold owesW
  iexact HO

theorem defs₀_vector (c : Fin τ.nSC) (s : Fin τ.nSub) :
    defs₀ (F := F) (.scVector c s) 0 () = SparseCore.onTile hcore0 hsub0 (fun c s => task (F := F) (co c s)) ⟨⟩ c s := rfl

/-- Waits of the kernel's own are among those the launch allows. -/
theorem waits_post {thr : Thread nD τ} {A B C : sProp (MT nD τ sig (HIx 1) (Elt F) ℕ UU ℕ)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW, HO⟩
  isplitl [HA]; · iexact HA
  isplitl [HB]; · iexact HB
  isplitl [HC]; · iexact HC
  iexists W'; isplitr
  · ipureintro; exact fun p hp => (hW p hp).imp_right Or.inl
  · iexact HO

set_option maxRecDepth 16384 in
set_option maxHeartbeats 2000000 in
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (Fin.cast cores c) (Fin.cast subs i) hpre O W hO).trans (wp_mono frame _ _ fun _ => waits_post)

/-- A core's part is its tiles' pieces, before and after. -/
theorem vecSplit : (K (F := F)).VecSplit' (P m) 0 := by
  intro d c
  show (bigSep Finset.univ fun s : Fin 16 => Piece d (m (yLoc d)) (rowNos m d) (m (oLoc d)) (Fin.cast cores c) s) ⊢ |={Set.univ}=> iprop(
      (bigSep Finset.univ fun i : Fin 16 => Piece d (m (yLoc d)) (rowNos m d) (m (oLoc d)) (Fin.cast cores c) i)
      ∗ ((bigSep Finset.univ fun i : Fin 16 => Piece d (m (yLoc d)) (rowNos m d) (goal (m (yLoc d)) (rowNos m d)) (Fin.cast cores c) i)
          -∗ (bigSep Finset.univ fun i : Fin 16 => Piece d (m (yLoc d)) (rowNos m d) (goal (m (yLoc d)) (rowNos m d)) (Fin.cast cores c) i)))
  iintro H; imodintro
  isplitl [H]; · iexact H
  iintro H; iexact H

end Run

end Cert.Proof.Gather
-- ==== Proof.Run.lean ====
/-
  The program's run.

  On the TensorCore: the two reshapes of the list, over the five arrays held whole, then the call, which takes the table,
  the list and the result to the SparseCores and brings them back with the result at `goal`. From the launch memory every
  execution ends with the result there and the arguments as given (`run_main`).
-/
module

public import proofs.«01_k».proof.Proof.Launch
public import proofs.«01_k».proof.Proof.Gen.Pre_pos_in_rows

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch's own ghost state -/

def u₀ : UU := (initOf (K (F := F)).hsCells (K (F := F)).hsToks, 1)

theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

/-! ## The TensorCore's arrays -/

/-- All its arrays, none of them scoped: the table, the list as given, in one piece and in one row, the result. -/
abbrev arrays : Finset (DevRef τ sig) := {y', a', b', p', o'}

theorem held_arrays (d : Dev nD) (w : Valuation τ sig (Elt F)) :
    (held (T d) arrays w : sProp 𝕄)
      = iprop((yLoc d ↦{fullShare} w y') ∗ (aLoc d ↦{fullShare} w a') ∗ (bLoc d ↦{fullShare} w b')
          ∗ (pLoc d ↦{fullShare} w p') ∗ oLoc d ↦{fullShare} w o') := by
  unfold held arrays
  rw [SparseCore.bigSep_insert' (by decide), SparseCore.bigSep_insert' (by decide), SparseCore.bigSep_insert' (by decide),
    SparseCore.bigSep_insert' (by decide), bigSep_singleton]

theorem unscoped_held (d : Dev nD) : (unscopedBufs d (fun b => m ((SparseCore.T d).loc b)) : sProp 𝕄) = held (T d) arrays (V0 m d) := by
  rw [held_arrays]
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]
  rfl

/-- The arrays after the two reshapes. -/
theorem held_V2 (d : Dev nD) :
    (held (T d) arrays ((opB (F := F)).result ((opA (F := F)).result (V0 m d))) : sProp 𝕄)
      = iprop((yLoc d ↦{fullShare} m (yLoc d)) ∗ (aLoc d ↦{fullShare} m (aLoc d)) ∗ (bLoc d ↦{fullShare} V2 m d b')
          ∗ (pLoc d ↦{fullShare} rowNos m d) ∗ oLoc d ↦{fullShare} m (oLoc d)) := by
  show held (SparseCore.T d) arrays (V2 m d) = _
  rw [held_arrays, V2_y, V2_a, V2_o]
  rfl

theorem hA : (opA (F := F)).bufs ⊆ arrays := show ({a', b'} : Finset (DevRef τ sig)) ⊆ arrays by decide
theorem hB : (opB (F := F)).bufs ⊆ arrays := show ({b', p'} : Finset (DevRef τ sig)) ⊆ arrays by decide

/-- What the call is handed is the three arrays. -/
theorem st_eq (d : Dev nD) : (bigSep Finset.univ fun c : Fin ((K (F := F)).nCore 0) => (P m).st 0 d c)
    = iprop((yLoc d ↦{fullShare} m (yLoc d)) ∗ (pLoc d ↦{fullShare} rowNos m d) ∗ (oLoc d ↦{fullShare} m (oLoc d))) :=
  (deal d (m (yLoc d)) (rowNos m d) (m (oLoc d))).symm
/-- What it gives back is the three, the result at the gathered rows. -/
theorem dn_eq (d : Dev nD) : (bigSep Finset.univ fun c : Fin ((K (F := F)).nCore 0) => (P m).dn 0 d c)
    = iprop((yLoc d ↦{fullShare} m (yLoc d)) ∗ (pLoc d ↦{fullShare} rowNos m d) ∗ (oLoc d ↦{fullShare} goal (m (yLoc d)) (rowNos m d))) :=
  (deal d (m (yLoc d)) (rowNos m d) (goal (m (yLoc d)) (rowNos m d))).symm

/-- What the program leaves. -/
abbrev FIN (d : Dev nD) : sProp 𝕄 :=
  iprop((yLoc d ↦{fullShare} m (yLoc d)) ∗ (aLoc d ↦{fullShare} m (aLoc d)) ∗ oLoc d ↦{fullShare} goal (m (yLoc d)) (rowNos m d))

set_option maxHeartbeats 1000000 in
/-- The TensorCore's program. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opA) (S := arrays) hA (V := V0 m d)) $$ [Hb Hheld]
  · isplitl [Hb] <;> iassumption
  iintro ⟨Hb, Hheld⟩
  rw [wp_ret]; imodintro
  iapply (wp_hlo_within 𝒱 (SparseCore.T d) none Set.univ (op := opB) (S := arrays) hB (V := (opA (F := F)).result (V0 m d))) $$ [Hb Hheld]
  · isplitl [Hb] <;> iassumption
  iintro ⟨Hb, Hheld⟩
  rw [wp_ret]; imodintro
  ihave Hh := (Entails.of_eq (held_V2 (F := F) m d)) $$ Hheld
  icases Hh with ⟨Hy, Ha, Hbb, Hp, Ho⟩
  iapply ((K (F := F)).wp_run (D (F := F)) 𝒱 (EH := EH) (P := P m) κ d 0) $$ [Hst Hy Hp Ho Hb Ha Hbb Hts]
  isplitr; · iexact Hctx
  isplitl [Hst]; · iexact Hst
  isplitl [Hy Hp Ho]
  · rw [st_eq]
    isplitl [Hy]; · iexact Hy
    isplitl [Hp]; · iexact Hp
    iexact Ho
  iintro ⟨Hst, Hdn⟩
  ihave Hdn' := (Entails.of_eq (dn_eq m d)) $$ Hdn
  icases Hdn' with ⟨Hy, -, Ho⟩
  imodintro
  isplitl [Hst]; · iexact Hst
  isplitr [Hb Hts]
  · isplitl [Hy]; · iexact Hy
    isplitl [Ha]; · iexact Ha
    iexact Ho
  isplitl [Hb] <;> iassumption

/-- What the claims read of the final memory. -/
def fq (d : Dev nD) (s' : Phys nD τ sig (Elt F)) : Prop :=
  s'.mem.mem (yLoc d) = m (yLoc d) ∧ s'.mem.mem (aLoc d) = m (aLoc d) ∧ s'.mem.mem (oLoc d) = goal (m (yLoc d)) (rowNos m d)

set_option maxRecDepth 16384 in
theorem hfin (d : Dev nD) (s' : Phys nD τ sig (Elt F)) : iprop(FIN m d ∗ SI s') ⊢ (⌜fq m d s'⌝ : sProp 𝕄) := by
  iintro ⟨⟨Hy, Ha, Ho⟩, HSI⟩
  ihave H := (persistent_entails_right (SI_pointsTo_agree (st := s') (ℓ := yLoc d) (I := Finset.univ) (q := fullShare) (f := m (yLoc d)))) $$ [HSI Hy]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (SI_pointsTo_agree (st := s') (ℓ := oLoc d) (I := Finset.univ) (q := fullShare) (f := goal (m (yLoc d)) (rowNos m d))) $$ [HSI Ho]
  · isplitl [HSI] <;> iassumption
  icases H with %h3
  ipureintro
  exact ⟨funext fun z => h1 z (Finset.mem_univ z), funext fun z => h2 z (Finset.mem_univ z), funext fun z => h3 z (Finset.mem_univ z)⟩

/-! ## The run -/

/-- The final states: arguments as given, the result at the gathered rows, every semaphore at zero. -/
def QC : PUnit × MemSt nD τ sig (Elt F) → Prop := fun r =>
  (∀ c : Dev nD, r.2.mem (yLoc c) = m (yLoc c) ∧ r.2.mem (aLoc c) = m (aLoc c) ∧ r.2.mem (oLoc c) = goal (m (yLoc c)) (rowNos m c)) ∧ r.2.sem = fun _ => 0

/-- Every execution from the launch memory ends, in such a state. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

/-! ## The precondition -/

/-- A word that is, as a signed one, at least 0 and less than 70656 is less than 70656. -/
theorem word_lt (v : BitVec 32) (e : IntOp.andi (IntOp.cmpi .sge v 0#32) (IntOp.cmpi .slt v 70656#32) = 1#1) : v.toNat < 70656 := by
  have h1 (p q : Bool) : IntOp.andi (BitVec.ofBool p) (BitVec.ofBool q) = BitVec.ofBool (p && q) := by cases p <;> cases q <;> decide
  have h2 (p : Bool) : (BitVec.ofBool p = 1#1) ↔ p = true := by cases p <;> decide
  simp only [IntOp.cmpi, h1, h2, Bool.and_eq_true, BitVec.sle_eq_decide, BitVec.slt_eq_decide, decide_eq_true_eq,
    BitVec.toInt_eq_toNat_cond, BitVec.toNat_ofNat, Nat.reducePow, Nat.reduceMod] at e
  omega

/-- The precondition says that every row number is a row of the table. -/
theorem pre_ok (h : ∀ d : Dev nD, Cert.Pre_pos_in_rows.fn (F := F) (m (yLoc d)) (m (aLoc d)) = fun _ => 1#1) : PreOK m := by
  intro d z
  have e := congrFun (h d) z
  simp only [Cert.Pre_pos_in_rows.fn, andi, cmpi, broadcastInDim, constantI] at e
  exact word_lt _ e

end Cert.Proof.Gather
-- ==== Proof.Value.lean ====
/-
  What the tiles gather is what the reference's take reads.
-/
module

public import proofs.«01_k».proof.Proof.Run
public import proofs.«01_k».proof.Proof.Gen.ReferenceIdeal
public import Idealize.ShloMosaic.Lib.Pipeline.Value

@[expose] public section

noncomputable section

namespace Cert.Proof.Gather

open Idealize.ShloMosaic

/-- The reference's dimension numbers: whole rows of the table, one for each row number. -/
abbrev takeD : GatherDims Cert.ReferenceIdeal.S70656x1024 Cert.ReferenceIdeal.S66560x1 Cert.ReferenceIdeal.S66560x1024 :=
  Cert.ReferenceIdeal.gather_S70656x1024_S66560x1_S66560x1024_1_0_n_n_0_1_11024

/-- The row number of row `r`, as the reference holds it. -/
def nAt (r : Fin 66560) : Cert.ReferenceIdeal.S66560x1.Idx := fun | 0 => r | 1 => (0 : Fin 1)

/-- Row `j 0` of the reference's take is the table's row whose number is there, brought into range. -/
theorem take_at {α : Type} (x : Cert.KernelIdeal.S70656x1024.Idx → α) (n : IVec Cert.ReferenceIdeal.S66560x1 32) (j : Cert.KernelIdeal.S66560x1024.Idx) :
    Host.gather takeD x n j = x (yAt ⟨min (n (nAt (j 0))).toInt.toNat 70655, by omega⟩ (j 1)) := by
  unfold Host.gather
  congr 1
  funext a
  refine Fin.ext ?_
  show takeD.start j n a + takeD.batchCoord j a + takeD.offCoord j a = _
  rw [GatherDims.batchCoord_eq_zero _ _ _ List.not_mem_nil, Nat.add_zero]
  match a with
  | 0 =>
    rw [GatherDims.offCoord_eq_zero _ _ _ (fun h => ((GatherDims.mem_sKept _ _).mp h).1 (List.mem_singleton.mpr rfl)), Nat.add_zero]
    unfold GatherDims.start
    rw [dif_pos (show (0 : Fin 2) ∈ takeD.startIndexMap from List.mem_singleton.mpr rfl)]
    have e : takeD.siIdx j ⟨List.idxOf (0 : Fin 2) takeD.startIndexMap, List.idxOf_lt_length_iff.2 (List.mem_singleton.mpr rfl)⟩ = nAt (j 0) := by
      funext b
      refine Fin.ext ?_
      match b with
      | ⟨0, _⟩ => rfl
      | ⟨1, _⟩ => rfl
    rw [e]
    rfl
  | 1 =>
    unfold GatherDims.start
    rw [dif_neg (show (1 : Fin 2) ∉ takeD.startIndexMap by decide), Nat.zero_add]
    rfl

variable {F : FTy → Type} [FloatOps F]

/-- A word below 2^31 is the same number signed and unsigned. -/
theorem toInt_small (v : BitVec 32) (h : v.toNat < 70656) : v.toInt.toNat = v.toNat := by
  rw [BitVec.toInt_eq_toNat_cond]
  split <;> omega

/-- The gathered rows are the reference's take of the table at the list, every row number being in range. -/
theorem goal_eq (m : (ℓ : Loc Cert.KernelIdeal.nD Cert.KernelIdeal.τ Cert.KernelIdeal.sig) → Buf (Elt F) ℓ) (hpre : PreOK m) (d : Dev Cert.KernelIdeal.nD) :
    Host.gather takeD (m (yLoc d)) (broadcastInDim Cert.ReferenceIdeal.S66560x1 ![0] Cert.ReferenceIdeal.Facts₀.bcast_S66560_S66560x1_0
        (shapeCast Cert.ReferenceIdeal.S66560 (m (aLoc d)) Cert.ReferenceIdeal.Facts₀.shapeCasts_S2x33280_S66560))
      = goal (m (yLoc d)) (rowNos m d) := by
  funext j
  rw [take_at]
  unfold goal
  have e : (broadcastInDim Cert.ReferenceIdeal.S66560x1 ![0] Cert.ReferenceIdeal.Facts₀.bcast_S66560_S66560x1_0
      (shapeCast Cert.ReferenceIdeal.S66560 (m (aLoc d)) Cert.ReferenceIdeal.Facts₀.shapeCasts_S2x33280_S66560) : IVec Cert.ReferenceIdeal.S66560x1 32) (nAt (j 0)) = rowNos m d (pAt (j 0)) := by
    rw [rowNos_eq]
    refine ((shapeCast_addUnit_apply ![66560] _ _ _).trans ?_).symm
    refine congrArg _ (funext fun a => ?_)
    match a with
    | 0 => rfl
  refine congrArg (m (yLoc d)) (congrArg (fun r => yAt r (j 1)) (Fin.ext ?_))
  exact congrArg (fun k => min k 70655) ((congrArg (fun v : BitVec 32 => v.toInt.toNat) e).trans (toInt_small _ (rowNos_lt m hpre d _)))

end Cert.Proof.Gather
-- ==== Proof.ExpertLaunch.lean ====
/-
  The experts' kernel, run: at any contents of its tables at which every block lies inside its array, the arguments end
  unchanged and the result holds, under the block of each tile in use, the tile's SwiGLU (`tileOut`). Of a tile not in use
  nothing is said: the body stores nothing there, and what the block is overwritten with is whatever the staging buffer held.
-/
module

public import proofs.«01_k».proof.Proof.ExpertTile
public import Idealize.ShloMosaic.Lib.Pipeline.DatRel
public import Idealize.ShloMosaic.Lib.Pipeline.ArrRel
public import Idealize.ShloMosaic.Lib.Pipeline.Frame
public import Idealize.ShloMosaic.Lib.Pipeline.TableIdle

@[expose] public section

set_option maxRecDepth 16384

noncomputable section

namespace Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel ΦA ΦT)

variable {F : FTy → Type} [FloatOps F]

local notation "𝕄" => MT nD τ sig Unit (Elt F) ℕ (UR sig nD τ) ℕ

variable (a : (pcfg0 (F := F)).Adm)

/-- The pipeline at the tables' contents. -/
abbrev cfgA : Pipeline.Cfg sig Λ₀ := cfg0 (F := F) a

/-- A grid point's coordinates. -/
abbrev crd (t : Fin (cfgA a).N) : (cfgA a).grid.Coords := (cfgA a).grid.coords t

abbrev ms0 (t : Fin (cfgA a).N) : Memref sig .tc .vmem S512x1024 .f32 := spec0_0.stage ((cfgA a).slots t (0 : Fin 5))
abbrev ms1 (t : Fin (cfgA a).N) : Memref sig .tc .vmem S1x1024x3584 .f32 := spec0_1.stage ((cfgA a).slots t (1 : Fin 5))
abbrev ms2 (t : Fin (cfgA a).N) : Memref sig .tc .vmem S1x1024x3584 .f32 := spec0_2.stage ((cfgA a).slots t (2 : Fin 5))
abbrev ms3 (t : Fin (cfgA a).N) : Memref sig .tc .vmem S1x3584x1024 .f32 := spec0_3.stage ((cfgA a).slots t (3 : Fin 5))
abbrev ms4 (t : Fin (cfgA a).N) : Memref sig .tc .vmem S512x1024 .f32 := spec0_4.stage ((cfgA a).slots t (4 : Fin 5))
theorem hs0 (t : Fin (cfgA a).N) : (ms0 a t).IsWhole := hstage0_0 (((cfgA a).slots t (0 : Fin 5)).cast nbuf0_0)
theorem hs1 (t : Fin (cfgA a).N) : (ms1 a t).IsWhole := hstage0_1 (((cfgA a).slots t (1 : Fin 5)).cast nbuf0_1)
theorem hs2 (t : Fin (cfgA a).N) : (ms2 a t).IsWhole := hstage0_2 (((cfgA a).slots t (2 : Fin 5)).cast nbuf0_2)
theorem hs3 (t : Fin (cfgA a).N) : (ms3 a t).IsWhole := hstage0_3 (((cfgA a).slots t (3 : Fin 5)).cast nbuf0_3)
theorem hs4 (t : Fin (cfgA a).N) : (ms4 a t).IsWhole := hstage0_4 (((cfgA a).slots t (4 : Fin 5)).cast nbuf0_4)

variable (m : (ℓ : Loc nD τ sig) → Buf (Elt F) ℓ) (ρ : Dev nD → PrngReg)

/-- A window's block at a point, read off its array as it was launched. -/
def iblk (c : Dev nD) (w : Fin (cfgA a).W) (t : Fin (cfgA a).N) : (((cfgA a).win w).xblock (crd a t)).Idx → Elt F ((cfgA a).win w).elt :=
  (((cfgA a).win w).blk t).view.read (Elt F) (m (((cfgA a).win w).arr.view.loc (c : Thread nD τ)))

/-- A tile's SwiGLU, of the blocks the launch memory holds for it. -/
def tile (c : Dev nD) (t : Fin (cfgA a).N) : FVec F S512x1024 .f32 :=
  tileOut (iblk a m c (0 : Fin 5) t) (iblk a m c (1 : Fin 5) t) (iblk a m c (2 : Fin 5) t) (iblk a m c (3 : Fin 5) t)

/-- The tables, as the launch hands them to the body, one by one. -/
theorem tables_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

/-- The proof data: the inputs keep their blocks, and nothing is carried from point to point. -/
def dat (c : Dev nD) : Dat τ (Elt F) Unit ℕ (UR sig nD τ) ℕ (cfgA a) c where
  A w := m (((cfgA a).win w).arr.view.loc (c : Thread nD τ))
  after w t := match w with
    | ⟨0, _⟩ => iblk a m c (0 : Fin 5) t
    | ⟨1, _⟩ => iblk a m c (1 : Fin 5) t
    | ⟨2, _⟩ => iblk a m c (2 : Fin 5) t
    | ⟨3, _⟩ => iblk a m c (3 : Fin 5) t
    | ⟨4, _⟩ => tile a m c t
  Φ _ := iprop(ΦA (U := UR sig nD τ) (Val := Elt F) spec0 c ∗ ΦT (U := UR sig nD τ) (Val := Elt F) pre0 a.1 c)
  q _ := fullShare
  owed _ := 0

/-- The one window of which the data say no more than a relation: the result's. -/
def loose : Fin 5 → Bool := fun | 0 => false | 1 => false | 2 => false | 3 => false | 4 => true | ⟨_ + 5, h⟩ => absurd h (Nat.not_lt.2 (Nat.le_add_left _ _))

/-- What a point leaves in the result's staging buffer: the tile's SwiGLU, if the tile is in use. -/
def left (c : Dev nD) (w : Fin (cfgA a).W) (t : Fin (cfgA a).N) (X : ((cfgA a).win w).block.Idx → Elt F ((cfgA a).win w).elt) : Prop :=
  match w, X with
  | ⟨0, _⟩, _ => True
  | ⟨1, _⟩, _ => True
  | ⟨2, _⟩, _ => True
  | ⟨3, _⟩, _ => True
  | ⟨4, _⟩, X => k0_cond1 (crd a t) (usedWord (F := F) (a.1 1)) = 1#1 → X = tile a m c t

theorem before0 (c : Dev nD) (t : Fin (cfgA a).N) (d) : (dat a m c).before (0 : Fin 5) t d = iblk a m c (0 : Fin 5) t :=
  ((dat a m c).before_in_eq_fetched (0 : Fin 5) rfl (fun _ => rfl) (fun _ _ _ => rfl) (fun t => by show iblk a m c (0 : Fin 5) t = _; unfold Dat.blockOf iblk; rfl) t d).trans
    (by unfold Dat.fetched Dat.blockOf iblk; rfl)
theorem before1 (c : Dev nD) (t : Fin (cfgA a).N) (d) : (dat a m c).before (1 : Fin 5) t d = iblk a m c (1 : Fin 5) t :=
  ((dat a m c).before_in_eq_fetched (1 : Fin 5) rfl (fun _ => rfl) (fun _ _ _ => rfl) (fun t => by show iblk a m c (1 : Fin 5) t = _; unfold Dat.blockOf iblk; rfl) t d).trans
    (by unfold Dat.fetched Dat.blockOf iblk; rfl)
theorem before2 (c : Dev nD) (t : Fin (cfgA a).N) (d) : (dat a m c).before (2 : Fin 5) t d = iblk a m c (2 : Fin 5) t :=
  ((dat a m c).before_in_eq_fetched (2 : Fin 5) rfl (fun _ => rfl) (fun _ _ _ => rfl) (fun t => by show iblk a m c (2 : Fin 5) t = _; unfold Dat.blockOf iblk; rfl) t d).trans
    (by unfold Dat.fetched Dat.blockOf iblk; rfl)
theorem before3 (c : Dev nD) (t : Fin (cfgA a).N) (d) : (dat a m c).before (3 : Fin 5) t d = iblk a m c (3 : Fin 5) t :=
  ((dat a m c).before_in_eq_fetched (3 : Fin 5) rfl (fun _ => rfl) (fun _ _ _ => rfl) (fun t => by show iblk a m c (3 : Fin 5) t = _; unfold Dat.blockOf iblk; rfl) t d).trans
    (by unfold Dat.fetched Dat.blockOf iblk; rfl)

/-- The body at a point, on the staging buffers the pipeline passes. -/
abbrev bodyAt (t : Fin (cfgA a).N) : Prog (TpuEff nD τ sig (Elt F) Λ₀ .tc) PUnit :=
  cc0_ffn_grouped (crd a t) expertTab (Memref.isWhole_whole _) usedTab (Memref.isWhole_whole _) (ms0 a t) (hs0 a t) (ms1 a t) (hs1 a t)
    (ms2 a t) (hs2 a t) (ms3 a t) (hs3 a t) (ms4 a t) (hs4 a t)

set_option maxHeartbeats 1000000 in
/-- The body at a point: it finds the inputs' blocks and anything at all in the result's staging buffer, keeps the blocks and
    the tables, and leaves there what `left` says. -/
theorem body_sound (c : Dev nD) (t : Fin (cfgA a).N) (Fd : (S512x1024.Idx → Elt F .f32) → Prop) :
    iprop((dat a m c).Φ t.castSucc ∗ (dat a m c).owesAt () t.castSucc
        ∗ (∃ d, owns (c : Thread nD τ) (ms0 a t) fullShare ((dat a m c).before (0 : Fin 5) t d))
        ∗ (∃ d, owns (c : Thread nD τ) (ms1 a t) fullShare ((dat a m c).before (1 : Fin 5) t d))
        ∗ (∃ d, owns (c : Thread nD τ) (ms2 a t) fullShare ((dat a m c).before (2 : Fin 5) t d))
        ∗ (∃ d, owns (c : Thread nD τ) (ms3 a t) fullShare ((dat a m c).before (3 : Fin 5) t d))
        ∗ (∃ Y, ⌜Fd Y⌝ ∗ owns (c : Thread nD τ) (ms4 a t) fullShare Y))
      ⊢ wp frame (wpE (defs₀ (F := F)) Variants.none c none) Set.univ (bodyAt a t) fun _ =>
          iprop((dat a m c).Φ t.succ ∗ (dat a m c).owesAt () t.succ
            ∗ owns (c : Thread nD τ) (ms0 a t) fullShare (iblk a m c (0 : Fin 5) t)
            ∗ owns (c : Thread nD τ) (ms1 a t) fullShare (iblk a m c (1 : Fin 5) t)
            ∗ owns (c : Thread nD τ) (ms2 a t) fullShare (iblk a m c (2 : Fin 5) t)
            ∗ owns (c : Thread nD τ) (ms3 a t) fullShare (iblk a m c (3 : Fin 5) t)
            ∗ (∃ X, ⌜left a m c (4 : Fin 5) t X⌝ ∗ owns (c : Thread nD τ) (ms4 a t) fullShare X)) := by
  simp only [before0, before1, before2, before3]
  rewrite [show (dat a m c).Φ t.succ = iprop(ΦA (U := UR sig nD τ) (Val := Elt F) spec0 c ∗ ΦT (U := UR sig nD τ) (Val := Elt F) pre0 a.1 c) from rfl,
    show (dat a m c).Φ t.castSucc = iprop(ΦA (U := UR sig nD τ) (Val := Elt F) spec0 c ∗ ΦT (U := UR sig nD τ) (Val := Elt F) pre0 a.1 c) from rfl,
    show (dat a m c).owesAt () t.succ = (dat a m c).owesAt () t.castSucc from rfl]
  unfold ΦT
  rw [tables_eq]
  iintro ⟨⟨HA, HT0, HT1⟩, Ho, ⟨%d0, H0⟩, ⟨%d1, H1⟩, ⟨%d2, H2⟩, ⟨%d3, H3⟩, ⟨%Y, -, H4⟩⟩
  by_cases hu : k0_cond1 (crd a t) (usedWord (F := F) (a.1 1)) = 1#1
  · iapply (usedRun_tile c (crd a t) (ms0 a t) (hs0 a t) (ms1 a t) (hs1 a t) (ms2 a t) (hs2 a t) (ms3 a t) (hs3 a t) (ms4 a t) (hs4 a t) (a.1 0) (a.1 1)
      (iblk a m c (0 : Fin 5) t) (iblk a m c (1 : Fin 5) t) (iblk a m c (2 : Fin 5) t) (iblk a m c (3 : Fin 5) t) hu _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    iintro ⟨H0, H1, H2, H3, HT0, HT1, ⟨%e4, H4⟩⟩
    isplitl [HA HT0 HT1]
    · isplitl [HA]; · iexact HA
      isplitl [HT0]; · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    iexists (tile a m c t)
    isplitr
    · ipureintro; exact fun _ => rfl
    unfold owns; iexists _; isplitr; swap
    · iexact H4
    · ipureintro
      have hz : (![0, 0] : Fin 2 → ℕ) = fun _ => 0 := by funext b; fin_cases b <;> rfl
      refine (View.read_writes_eq_canon _ _ _ fun y => ⟨_, List.mem_singleton_self _, ?_⟩).trans (View.canon_unit_zero hz _ _)
      exact View.mem_set_unit_zero (S := S512x1024) hz inb_S512x1024_S512x1024_0_0 y
  · iapply (idleRun c (crd a t) (ms0 a t) (hs0 a t) (ms1 a t) (hs1 a t) (ms2 a t) (hs2 a t) (ms3 a t) (hs3 a t) (ms4 a t) (hs4 a t) (a.1 1) hu _)
    isplitl [HT1]; · iexact HT1
    iintro HT1
    isplitl [HA HT0 HT1]
    · isplitl [HA]; · iexact HA
      isplitl [HT0]; · iexact HT0
      iexact HT1
    isplitl [Ho]; · iexact Ho
    isplitl [H0]; · iexact H0
    isplitl [H1]; · iexact H1
    isplitl [H2]; · iexact H2
    isplitl [H3]; · iexact H3
    iexists Y
    isplitr
    · ipureintro; exact fun h => absurd h hu
    iexact H4

/-- The library's obligation of the body, at every point. -/
theorem body_rel (c : Dev nD) : BodyObligationRel (dat a m c) (defs₀ (F := F)) Variants.none () Set.univ loose (left a m c) := fun t => by
  rw [bigSep_W0, bigSep_W0]
  exact body_sound a m c t _

/-- The relational data of the run. -/
abbrev rdat (c : Dev nD) : RDat τ (Elt F) Unit ℕ (UR sig nD τ) ℕ (cfgA a) c := (dat a m c).toRRel loose (left a m c)

set_option backward.isDefEq.respectTransparency.types false in
set_option maxHeartbeats 1000000 in
/-- The run: every fair execution ends, at zero counters, with each array at contents the data allow and every other buffer
    as it was. -/
theorem run_post (hp : ∀ (c : Dev nD) (j : Fin 2), m ((c : Thread nD τ).loc (pre0.ref j)) = a.1 j) :
    θ_run (defs (F := F)) (onTc (τ := τ) (main (F := F))) (s₀ m ρ)
      (fun r => RDat.FramePost (cfgA a) (rdat a m) (fun c b => m ((c : Thread nD τ).loc b)) r ∧ r.2.sem = fun _ => 0) :=
  RDat.θ_run_frameP_track (pcfgs (F := F)) (fun _ => a) (0 : Fin 1) (launch0 (F := F)) defs₀ Variants.none (rdat a m) m ρ main
    (fun c => (body_rel a m c).toRRel)
    (fun c w => by show (dat a m c).share w = fullShare; unfold Dat.share; split <;> rfl)
    (fun _ _ => rfl)
    (fun c b => m ((c : Thread nD τ).loc b))
    (fun c Q => by
      delta main; simp only [Prog.bind_lift, Prog.pure_eq_ret]
      iintro ⟨Hk, Hb⟩; iapply Hk; iexact Hb)
    (fun _ _ => rfl)
    (fun c k => hp c k)
    (fun c => by
      show _ ⊢ iprop(ΦA (U := UR sig nD τ) (Val := Elt F) spec0 c ∗ ΦT (U := UR sig nD τ) (Val := Elt F) pre0 a.1 c)
      exact Entails.refl _)
    (fun c => by
      show iprop(ΦA (U := UR sig nD τ) (Val := Elt F) spec0 c ∗ ΦT (U := UR sig nD τ) (Val := Elt F) pre0 a.1 c) ⊢ _
      iintro ⟨H, -⟩; iexact H)
    (Q' := fun r => RDat.FramePost (cfgA a) (rdat a m) (fun c b => m ((c : Thread nD τ).loc b)) r ∧ r.2.sem = fun _ => 0)
    (hQ' := fun _ h => h)

end Experts

end
-- ==== Proof.ExpertRun.lean ====
/-
  The experts' kernel, from a memory whose table names an expert for every tile: where each block lies, and what the result
  holds under each tile in use, element by element, in terms of the arguments.
-/
module

public import proofs.«01_k».proof.Proof.ExpertLaunch
public import Idealize.ShloMosaic.Lib.ValueIdxCore
public import Idealize.ShloMosaic.Lib.Pipeline.ValueKit.Geometry

@[expose] public section

set_option maxRecDepth 16384

noncomputable section

namespace Experts

open Cert.Kernel2Ideal Cert.Kernel2Ideal.Gen
open Idealize.ShloMosaic
open Idealize.ShloMosaic.TcCoe
open Idealize.SL Idealize.SL.Sem
open Idealize.ShloMosaic.ValueIdx
open Idealize.ShloMosaic.Pipeline (Dat RDat Cfg Window)

variable {F : FTy → Type} [FloatOps F]

/-- The word by which the table names a tile's expert. -/
abbrev expertWord (pf : pre0.Contents (Elt F)) (t : Fin 138) : BitVec 32 := (pf 0 : S138.Idx → BitVec 32) (ix1 t)

theorem ofNat_val (t : Fin 138) : (BitVec.ofNat 32 t.val).toNat = t.val := by
  rw [BitVec.toNat_ofNat]; exact Nat.mod_eq_of_lt (by omega)

/-- The index maps of the weights read the tile's word. -/
theorem word_at (pf : pre0.Contents (Elt F)) (i : grid0.Coords) :
    pf.at 0 (Rect.unit (s := S138) ![(Scalar.indexCast (BitVec.ofNat 32 (i 0).val)).toNat] S1.size (k0_off1_inb i)) numel1_S1
      = expertWord pf (i 0) := by
  refine congrArg (pf 0 : S138.Idx → BitVec 32) (funext fun b => Fin.ext ?_)
  fin_cases b
  have h := ofNat_val (i 0)
  show (BitVec.ofNat 32 (i 0).val).toNat + 1 * _ = (i 0).val
  rw [h]
  have : ∀ z : Fin 1, z.val = 0 := fun z => by omega
  exact (congrArg (fun n => (i 0).val + 1 * n) (this _)).trans (by omega)

theorem transform1 (pf : pre0.Contents (Elt F)) (i : grid0.Coords) :
    cc0_transform_1 k0_off1_inb numel1_S1 pf i = ![(expertWord pf (i 0)).toNat, 0, 0] := by
  unfold cc0_transform_1; dsimp only; rw [word_at]; rfl
theorem transform2 (pf : pre0.Contents (Elt F)) (i : grid0.Coords) :
    cc0_transform_2 k0_off1_inb numel1_S1 pf i = ![(expertWord pf (i 0)).toNat, 0, 0] := by
  unfold cc0_transform_2; dsimp only; rw [word_at]; rfl
theorem transform3 (pf : pre0.Contents (Elt F)) (i : grid0.Coords) :
    cc0_transform_3 k0_off1_inb numel1_S1 pf i = ![(expertWord pf (i 0)).toNat, 0, 0] := by
  unfold cc0_transform_3; dsimp only; rw [word_at]; rfl
theorem transform0 (i : grid0.Coords) : cc0_transform_0 i = ![(i 0).val, 0] := by
  unfold cc0_transform_0; dsimp only; rw [ofNat_val (i 0)]; rfl
theorem transform4 (i : grid0.Coords) : cc0_transform_4 i = ![(i 0).val, 0] := by
  unfold cc0_transform_4; dsimp only; rw [ofNat_val (i 0)]; rfl

/-- Where every tile names one of the eight experts, every block lies inside its array. -/
theorem ok_of_named (pf : pre0.Contents (Elt F)) (h : ∀ t : Fin 138, (expertWord pf t).toNat < 8) : ok0 pf := by
  refine ⟨fun i => ⟨fun b => ?_, .inl rfl⟩, fun i => ⟨fun b => ?_, .inl rfl⟩, fun i => ⟨fun b => ?_, .inl rfl⟩⟩
  · rw [transform1]; have := h (i 0)
    fin_cases b
    · show ((expertWord pf (i 0)).toNat + 1) * 1 ≤ 8; omega
    · show (0 + 1) * 1024 ≤ 1024; omega
    · show (0 + 1) * 3584 ≤ 3584; omega
  · rw [transform2]; have := h (i 0)
    fin_cases b
    · show ((expertWord pf (i 0)).toNat + 1) * 1 ≤ 8; omega
    · show (0 + 1) * 1024 ≤ 1024; omega
    · show (0 + 1) * 3584 ≤ 3584; omega
  · rw [transform3]; have := h (i 0)
    fin_cases b
    · show ((expertWord pf (i 0)).toNat + 1) * 1 ≤ 8; omega
    · show (0 + 1) * 3584 ≤ 3584; omega
    · show (0 + 1) * 1024 ≤ 1024; omega

variable (a : (pcfg0 (F := F)).Adm)

/-- The grid's points are the tiles. -/
abbrev pt (t : Fin 138) : Fin (cfgA a).N := ⟨t.val, by show t.val < grid0.N; rw [N_0]; exact t.isLt⟩

theorem coord_pt (t : Fin 138) : ((crd a (pt a t)) 0).val = t.val := by
  have h := Pipeline.Grid.coords_val (G := grid0) (pt a t) 0 (S := 1) (B := 138) (by decide) rfl
  refine h.trans ?_
  show t.val / 1 % 138 = t.val
  have := t.isLt
  omega

theorem coord_pt' (t : Fin 138) : (crd a (pt a t)) 0 = t := Fin.ext (coord_pt a t)

variable (m : (ℓ : Loc nD τ sig) → Buf (Elt F) ℓ)

/-- The rows of a tile. -/
abbrev tileRow (t : Fin 138) (r : Fin 512) : Fin 70656 := ⟨512 * t.val + r.val, by omega⟩

theorem xblk (c : Dev nD) (t : Fin 138) (r : Fin 512) (k : Fin 1024) :
    iblk a m c (0 : Fin 5) (pt a t) (ix2 r k) = (m ((c : Thread nD τ).loc main_arg0) : S70656x1024.Idx → _) (ix2 (tileRow t r) k) := by
  refine congrArg (m ((c : Thread nD τ).loc main_arg0) : S70656x1024.Idx → _) (funext fun b => Fin.ext ?_)
  refine (Pipeline.Window.rect_emb_val ((cfgA a).win (0 : Fin 5)) (pt a t) (ix2 r k) b rfl).trans ?_
  show cc0_transform_0 (crd a (pt a t)) b * S512x1024.size b + _ = _
  rw [transform0]
  have e := coord_pt a t
  fin_cases b
  · show ((crd a (pt a t)) 0).val * 512 + r.val = 512 * t.val + r.val
    rw [e]; omega
  · show 0 * 1024 + k.val = k.val
    omega

variable (hE : ∀ t : Fin 138, (expertWord a.1 t).toNat < 8)

/-- A tile's expert. -/
abbrev expert (t : Fin 138) : Fin 8 := ⟨(expertWord a.1 t).toNat, hE t⟩

theorem gblk (c : Dev nD) (t : Fin 138) (u : Fin 1) (k : Fin 1024) (f : Fin 3584) :
    iblk a m c (1 : Fin 5) (pt a t) (ix3 u k f) = (m ((c : Thread nD τ).loc main_arg3) : S8x1024x3584.Idx → _) (ix3 (expert a hE t) k f) := by
  refine congrArg (m ((c : Thread nD τ).loc main_arg3) : S8x1024x3584.Idx → _) (funext fun b => Fin.ext ?_)
  refine (Pipeline.Window.rect_emb_val ((cfgA a).win (1 : Fin 5)) (pt a t) (ix3 u k f) b rfl).trans ?_
  show cc0_transform_1 k0_off1_inb numel1_S1 a.1 (crd a (pt a t)) b * S1x1024x3584.size b + _ = _
  rw [transform1, coord_pt']
  fin_cases b
  · show (expertWord a.1 t).toNat * 1 + u.val = (expertWord a.1 t).toNat
    omega
  · show 0 * 1024 + k.val = k.val
    omega
  · show 0 * 3584 + f.val = f.val
    omega

theorem ublk (c : Dev nD) (t : Fin 138) (u : Fin 1) (k : Fin 1024) (f : Fin 3584) :
    iblk a m c (2 : Fin 5) (pt a t) (ix3 u k f) = (m ((c : Thread nD τ).loc main_arg4) : S8x1024x3584.Idx → _) (ix3 (expert a hE t) k f) := by
  refine congrArg (m ((c : Thread nD τ).loc main_arg4) : S8x1024x3584.Idx → _) (funext fun b => Fin.ext ?_)
  refine (Pipeline.Window.rect_emb_val ((cfgA a).win (2 : Fin 5)) (pt a t) (ix3 u k f) b rfl).trans ?_
  show cc0_transform_2 k0_off1_inb numel1_S1 a.1 (crd a (pt a t)) b * S1x1024x3584.size b + _ = _
  rw [transform2, coord_pt']
  fin_cases b
  · show (expertWord a.1 t).toNat * 1 + u.val = (expertWord a.1 t).toNat
    omega
  · show 0 * 1024 + k.val = k.val
    omega
  · show 0 * 3584 + f.val = f.val
    omega

theorem dblk (c : Dev nD) (t : Fin 138) (u : Fin 1) (f : Fin 3584) (k : Fin 1024) :
    iblk a m c (3 : Fin 5) (pt a t) (ix3 u f k) = (m ((c : Thread nD τ).loc main_arg5) : S8x3584x1024.Idx → _) (ix3 (expert a hE t) f k) := by
  refine congrArg (m ((c : Thread nD τ).loc main_arg5) : S8x3584x1024.Idx → _) (funext fun b => Fin.ext ?_)
  refine (Pipeline.Window.rect_emb_val ((cfgA a).win (3 : Fin 5)) (pt a t) (ix3 u f k) b rfl).trans ?_
  show cc0_transform_3 k0_off1_inb numel1_S1 a.1 (crd a (pt a t)) b * S1x3584x1024.size b + _ = _
  rw [transform3, coord_pt']
  fin_cases b
  · show (expertWord a.1 t).toNat * 1 + u.val = (expertWord a.1 t).toNat
    omega
  · show 0 * 3584 + f.val = f.val
    omega
  · show 0 * 1024 + k.val = k.val
    omega

/-- Where an element of a tile's block of the result lies. -/
theorem out_emb (t : Fin 138) (r : Fin 512) (k : Fin 1024) :
    (((cfgA a).win (4 : Fin 5)).blk (pt a t)).view.emb (ix2 r k) = (ix2 (tileRow t r) k : S70656x1024.Idx) := by
  refine funext fun b => Fin.ext ?_
  refine (Pipeline.Window.rect_emb_val ((cfgA a).win (4 : Fin 5)) (pt a t) (ix2 r k) b rfl).trans ?_
  show cc0_transform_4 (crd a (pt a t)) b * S512x1024.size b + _ = _
  rw [transform4]
  have e := coord_pt a t
  fin_cases b
  · show ((crd a (pt a t)) 0).val * 512 + r.val = 512 * t.val + r.val
    rw [e]; omega
  · show 0 * 1024 + k.val = k.val
    omega

theorem out_flush : ∀ t : Fin (cfgA a).N, ((cfgA a).win (4 : Fin 5)).flush t = true := by
  have h : ∀ t : Fin grid0.N, Pipeline.Window.flushOf grid0 true cc0_transform_4 t = true := by decide +kernel
  exact h

theorem out_disj : ∀ t t' : Fin (cfgA a).N, ((cfgA a).win (4 : Fin 5)).flush t = true → ((cfgA a).win (4 : Fin 5)).flush t' = true → t ≠ t' →
    Disjoint (((cfgA a).win (4 : Fin 5)).blk t).view.set (((cfgA a).win (4 : Fin 5)).blk t').view.set := by
  refine Pipeline.Window.hdisj_of_index_inj _ fun t t' _ _ h => ?_
  have h0 : cc0_transform_4 (crd a t) 0 = cc0_transform_4 (crd a t') 0 := congrFun h 0
  rw [transform4, transform4] at h0
  have e : ((crd a t) 0).val = ((crd a t') 0).val := h0
  have hN : grid0.N = 138 := N_0
  have l : t.val < 138 := hN ▸ t.isLt
  have l' : t'.val < 138 := hN ▸ t'.isLt
  exact Fin.ext ((coord_pt a ⟨t.val, l⟩).symm.trans (e.trans (coord_pt a ⟨t'.val, l'⟩)))

variable (ρ : Dev nD → PrngReg)

/-- The kernel's run: the arguments end unchanged and every counter at zero, and the result holds each used tile's SwiGLU. -/
theorem run_tiles (hp : ∀ (c : Dev nD) (j : Fin 2), m ((c : Thread nD τ).loc (pre0.ref j)) = a.1 j) :
    θ_run (defs (F := F)) (onTc (τ := τ) (main (F := F))) ⟨m, fun _ => 0, ρ⟩ (fun r =>
      (∀ c : Dev nD,
        (∀ (t : Fin 138), k0_cond1 (crd a (pt a t)) (usedWord (F := F) (a.1 1)) = 1#1 → ∀ (y : Fin 512) (k : Fin 1024),
          (r.2.mem ((c : Thread nD τ).loc main_v0) : S70656x1024.Idx → Elt F .f32) (ix2 (tileRow t y) k) = tile a m c (pt a t) (ix2 y k))
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5))
      ∧ r.2.sem = fun _ => 0) := by
  refine (θ_run defs _ _).mono (fun r h => ⟨fun c => ?_, h.2⟩) (run_post a m ρ hp)
  obtain ⟨h1, -⟩ := h
  have hin : ∀ w : Fin 5, ((cfgA a).win w).isOut = false →
      r.2.mem (((cfgA a).spec w).arr.view.loc (c : Thread nD τ)) = m (((cfgA a).win w).arr.view.loc (c : Thread nD τ)) := fun w hw => by
    have h2 := (h1 c).1 w
    rw [(rdat a m c).ArrAt_in w hw] at h2
    exact h2
  refine ⟨fun t hu y k => ?_, hin 0 rfl, (h1 c).2 main_arg1 (show main_arg1 ∈ Pipeline.restRefs sig spec0 by decide), (h1 c).2 main_arg2 (show main_arg2 ∈ Pipeline.restRefs sig spec0 by decide), hin 1 rfl, hin 2 rfl, hin 3 rfl⟩
  obtain ⟨after, hL, hA⟩ := RDat.FramePost.exists_exact h1 c
  have h4 : left a m c (4 : Fin 5) (pt a t) (after (4 : Fin 5) (pt a t)) :=
    (dat a m c).toRRel_leaves (w := (4 : Fin 5)) rfl (hL (4 : Fin 5) (pt a t) (out_flush a _))
  have h5 : after (4 : Fin 5) (pt a t) = tile a m c (pt a t) := h4 hu
  have h6 := ((rdat a m c).withAfter after).arrAt_emb_eq_flushed (4 : Fin 5) (out_disj a) (pt a t) (out_flush a _) (ix2 y k)
  rw [← hA (4 : Fin 5), out_emb] at h6
  refine h6.trans ?_
  exact congrFun h5 (ix2 y k)

end Experts

end
-- ==== Proof.ExpertReference.lean ====
/-
  The experts' reference, element by element: the SwiGLU of a tile's row by the weights of the expert the tile names.
-/
module

public import proofs.«01_k».proof.Proof.ExpertValue
public import proofs.«01_k».proof.Proof.Gen.Reference2Ideal.Read
public import Idealize.ShloMosaic.Lib.IdealHost

@[expose] public section

set_option maxRecDepth 16384

noncomputable section

namespace Experts.Reference

open Cert.Reference2Ideal Cert.Reference2Ideal.Gen Cert.Reference2Ideal.Read
open Idealize.ShloMosaic
open Idealize.ShloMosaic.ValueIdx
open scoped BigOperators

/-- The dimension numbers by which the reference takes the experts' gate and up weights, and their down weights: a whole matrix
    for each tile. -/
abbrev wideD : GatherDims S8x1024x3584 S138x1 S138x1024x3584 := gather_S8x1024x3584_S138x1_S138x1024x3584_12_0_n_n_0_1_110243584
abbrev tallD : GatherDims S8x3584x1024 S138x1 S138x3584x1024 := gather_S8x3584x1024_S138x1_S138x3584x1024_12_0_n_n_0_1_135841024

/-- Tile `t`'s expert as a take reads it: its word, brought into range. -/
abbrev clipped (n : IVec S138x1 32) (t : Fin 138) : Fin 8 := ⟨min (n (ix2 t (0 : Fin 1))).toInt.toNat 7, by omega⟩

theorem wide_at {α : Type} (x : S8x1024x3584.Idx → α) (n : IVec S138x1 32) (t : Fin 138) (k : Fin 1024) (f : Fin 3584) :
    Host.gather wideD x n (ix3 t k f) = x (ix3 (clipped n t) k f) := by
  unfold Host.gather
  congr 1
  funext a
  refine Fin.ext ?_
  show wideD.start (ix3 t k f) n a + wideD.batchCoord (ix3 t k f) a + wideD.offCoord (ix3 t k f) a = _
  rw [GatherDims.batchCoord_eq_zero _ _ _ List.not_mem_nil, Nat.add_zero]
  match a with
  | 0 =>
    rw [GatherDims.offCoord_eq_zero _ _ _ (fun h => ((GatherDims.mem_sKept _ _).mp h).1 (List.mem_singleton.mpr rfl)), Nat.add_zero]
    unfold GatherDims.start
    rw [dif_pos (show (0 : Fin 3) ∈ wideD.startIndexMap from List.mem_singleton.mpr rfl)]
    have e : wideD.siIdx (ix3 t k f) ⟨List.idxOf (0 : Fin 3) wideD.startIndexMap, List.idxOf_lt_length_iff.2 (List.mem_singleton.mpr rfl)⟩ = ix2 t (0 : Fin 1) := by
      funext b
      refine Fin.ext ?_
      match b with
      | ⟨0, _⟩ => rfl
      | ⟨1, _⟩ => rfl
    rw [e]
    rfl
  | 1 =>
    unfold GatherDims.start
    rw [dif_neg (show (1 : Fin 3) ∉ wideD.startIndexMap by decide), Nat.zero_add]
    rfl
  | 2 =>
    unfold GatherDims.start
    rw [dif_neg (show (2 : Fin 3) ∉ wideD.startIndexMap by decide), Nat.zero_add]
    rfl

theorem tall_at {α : Type} (x : S8x3584x1024.Idx → α) (n : IVec S138x1 32) (t : Fin 138) (f : Fin 3584) (k : Fin 1024) :
    Host.gather tallD x n (ix3 t f k) = x (ix3 (clipped n t) f k) := by
  unfold Host.gather
  congr 1
  funext a
  refine Fin.ext ?_
  show tallD.start (ix3 t f k) n a + tallD.batchCoord (ix3 t f k) a + tallD.offCoord (ix3 t f k) a = _
  rw [GatherDims.batchCoord_eq_zero _ _ _ List.not_mem_nil, Nat.add_zero]
  match a with
  | 0 =>
    rw [GatherDims.offCoord_eq_zero _ _ _ (fun h => ((GatherDims.mem_sKept _ _).mp h).1 (List.mem_singleton.mpr rfl)), Nat.add_zero]
    unfold GatherDims.start
    rw [dif_pos (show (0 : Fin 3) ∈ tallD.startIndexMap from List.mem_singleton.mpr rfl)]
    have e : tallD.siIdx (ix3 t f k) ⟨List.idxOf (0 : Fin 3) tallD.startIndexMap, List.idxOf_lt_length_iff.2 (List.mem_singleton.mpr rfl)⟩ = ix2 t (0 : Fin 1) := by
      funext b
      refine Fin.ext ?_
      match b with
      | ⟨0, _⟩ => rfl
      | ⟨1, _⟩ => rfl
    rw [e]
    rfl
  | 1 =>
    unfold GatherDims.start
    rw [dif_neg (show (1 : Fin 3) ∉ tallD.startIndexMap by decide), Nat.zero_add]
    rfl
  | 2 =>
    unfold GatherDims.start
    rw [dif_neg (show (2 : Fin 3) ∉ tallD.startIndexMap by decide), Nat.zero_add]
    rfl

variable (x0 : S70656x1024.Idx → EReal) (x1 : IVec S138 32) (x3 x4 : S8x1024x3584.Idx → EReal) (x5 : S8x3584x1024.Idx → EReal)

/-- The row of the whole array that is row `r` of tile `t`. -/
abbrev rowOf (t : Fin 138) (r : Fin 512) : Fin 70656 := ⟨512 * t.val + r.val, by omega⟩

theorem rows_at (t : Fin 138) (r : Fin 512) (k : Fin 1024) : val_main_v0 (F := Ideal) x0 (ix3 t r k) = x0 (ix2 (rowOf t r) k) := by
  rw [val_main_v0_apply]
  refine congrArg x0 (funext fun a => Fin.ext ?_)
  match a with
  | ⟨0, _⟩ => show ((t.val * 512 + r.val) * 1024 + k.val) / 1024 = 512 * t.val + r.val; omega
  | ⟨1, _⟩ => show ((t.val * 512 + r.val) * 1024 + k.val) % 1024 = k.val; omega

/-- Tile `t`'s word, of a tile that names one of the eight experts, is its expert. -/
theorem clipped_of_named (n : IVec S138x1 32) (t : Fin 138) (hn : n (ix2 t (0 : Fin 1)) = x1 (ix1 t)) (h : (x1 (ix1 t)).toNat < 8) :
    clipped n t = ⟨(x1 (ix1 t)).toNat, h⟩ := by
  refine Fin.ext ?_
  show min (n (ix2 t (0 : Fin 1))).toInt.toNat 7 = (x1 (ix1 t)).toNat
  rw [hn, BitVec.toInt_eq_toNat_cond]
  split <;> omega

variable (t : Fin 138) (h : (x1 (ix1 t)).toNat < 8)

theorem word0 : val_main_call0_v0 (F := Ideal) x1 (ix2 t (0 : Fin 1)) = x1 (ix1 t) := by
  rw [val_main_call0_v0_apply]
  exact congrArg x1 (funext fun a => match a with | ⟨0, _⟩ => rfl)
theorem word1 : val_main_call1_v0 (F := Ideal) x1 (ix2 t (0 : Fin 1)) = x1 (ix1 t) := by
  rw [val_main_call1_v0_apply]
  exact congrArg x1 (funext fun a => match a with | ⟨0, _⟩ => rfl)
theorem word3 : val_main_call3_v0 (F := Ideal) x1 (ix2 t (0 : Fin 1)) = x1 (ix1 t) := by
  rw [val_main_call3_v0_apply]
  exact congrArg x1 (funext fun a => match a with | ⟨0, _⟩ => rfl)

/-- The gate projection. -/
theorem gate_at (r : Fin 512) (f : Fin 3584) : val_main_v2 (F := Ideal) x0 x1 x3 (ix3 t r f)
    = rowCol (fun k : Fin 1024 => x0 (ix2 (rowOf t r) k)) fun k => x3 (ix3 (⟨(x1 (ix1 t)).toNat, h⟩ : Fin 8) k f) := by
  rw [val_main_v2_apply]
  refine Finset.sum_congr rfl fun k _ => ?_
  have el : lidx_main_v2 (ix3 t r f) k = ix3 t r k := funext fun a => match a with | ⟨0, _⟩ => rfl | ⟨1, _⟩ => rfl | ⟨2, _⟩ => rfl
  have er : ridx_main_v2 (ix3 t r f) k = ix3 t k f := funext fun a => match a with | ⟨0, _⟩ => rfl | ⟨1, _⟩ => rfl | ⟨2, _⟩ => rfl
  rw [el, er, rows_at]
  unfold val_main_v1
  rw [wide_at, clipped_of_named x1 _ t (word0 x1 t) h]

/-- The up projection. -/
theorem up_at (r : Fin 512) (f : Fin 3584) : val_main_v4 (F := Ideal) x0 x1 x4 (ix3 t r f)
    = rowCol (fun k : Fin 1024 => x0 (ix2 (rowOf t r) k)) fun k => x4 (ix3 (⟨(x1 (ix1 t)).toNat, h⟩ : Fin 8) k f) := by
  rw [val_main_v4_apply]
  refine Finset.sum_congr rfl fun k _ => ?_
  have el : lidx_main_v4 (ix3 t r f) k = ix3 t r k := funext fun a => match a with | ⟨0, _⟩ => rfl | ⟨1, _⟩ => rfl | ⟨2, _⟩ => rfl
  have er : ridx_main_v4 (ix3 t r f) k = ix3 t k f := funext fun a => match a with | ⟨0, _⟩ => rfl | ⟨1, _⟩ => rfl | ⟨2, _⟩ => rfl
  rw [el, er, rows_at]
  unfold val_main_v3
  rw [wide_at, clipped_of_named x1 _ t (word1 x1 t) h]

/-- The reference's activation is the gate times its logistic times the up projection. -/
theorem act_at (i : S138x512x3584.Idx) : val_main_v6 (F := Ideal) x0 x1 x3 x4 i
    = act (val_main_v2 (F := Ideal) x0 x1 x3 i) (val_main_v4 (F := Ideal) x0 x1 x4 i) := by
  rw [val_main_v6_apply, val_main_v5_apply, val_main_call2_v5_apply, val_main_call2_v4_apply, val_main_call2_cst_0_apply,
    val_main_call2_v3_apply, val_main_call2_v2_apply, val_main_call2_cst_apply, val_main_call2_v1_apply, val_main_call2_v0_apply]
  have one : (FloatOps.ofBits .f32 0x3F800000#32 : Ideal .f32) = (1 : EReal) := Ideal.ofBits_one_f32
  rw [one]
  rfl

/-- The reference's result, at an index. -/
theorem result_at (r : Fin 512) (c : Fin 1024) : val_main_v9 (F := Ideal) x0 x1 x3 x4 x5 (ix2 (rowOf t r) c)
    = swiglu (fun k : Fin 1024 => x0 (ix2 (rowOf t r) k)) (fun k (f : Fin 3584) => x3 (ix3 (⟨(x1 (ix1 t)).toNat, h⟩ : Fin 8) k f))
        (fun k f => x4 (ix3 (⟨(x1 (ix1 t)).toNat, h⟩ : Fin 8) k f)) (fun f => x5 (ix3 (⟨(x1 (ix1 t)).toNat, h⟩ : Fin 8) f c)) := by
  rw [val_main_v9_apply]
  have e : idx_main_v9 (ix2 (rowOf t r) c) = ix3 t r c := by
    refine funext fun a => Fin.ext ?_
    match a with
    | ⟨0, _⟩ => show ((512 * t.val + r.val) * 1024 + c.val) / 524288 = t.val; omega
    | ⟨1, _⟩ => show ((512 * t.val + r.val) * 1024 + c.val) / 1024 % 512 = r.val; omega
    | ⟨2, _⟩ => show ((512 * t.val + r.val) * 1024 + c.val) % 1024 = c.val; omega
  rw [e, val_main_v8_apply]
  refine Finset.sum_congr rfl fun f _ => ?_
  have el : lidx_main_v8 (ix3 t r c) f = ix3 t r f := funext fun a => match a with | ⟨0, _⟩ => rfl | ⟨1, _⟩ => rfl | ⟨2, _⟩ => rfl
  have er : ridx_main_v8 (ix3 t r c) f = ix3 t f c := funext fun a => match a with | ⟨0, _⟩ => rfl | ⟨1, _⟩ => rfl | ⟨2, _⟩ => rfl
  rw [el, er, act_at, gate_at x0 x1 x3 t h, up_at x0 x1 x4 t h]
  unfold val_main_v7
  rw [tall_at, clipped_of_named x1 _ t (word3 x1 t) h]

end Experts.Reference

end
-- ==== Proof.ExpertClaim.lean ====
/-
  The experts' kernel from memories that meet its precondition: what its result holds where the mask is set.
-/
module

public import proofs.«01_k».proof.Proof.ExpertRun
public import proofs.«01_k».proof.Proof.ExpertReference
public import proofs.«01_k».proof.Proof.Gen.Pre_experts_named
public import proofs.«01_k».proof.Proof.Gen.On_rows_used

@[expose] public section

set_option maxRecDepth 16384

noncomputable section

namespace Experts

open Cert.Kernel2Ideal Cert.Kernel2Ideal.Gen
open Idealize.ShloMosaic
open Idealize.ShloMosaic.TcCoe
open Idealize.SL Idealize.SL.Sem
open Idealize.ShloMosaic.ValueIdx
open Idealize.ShloMosaic.Pipeline (Cfg)

variable {F : FTy → Type} [FloatOps F]

variable (m : (ℓ : Loc nD τ sig) → Buf (Elt F) ℓ) (ρ : Dev nD → PrngReg)

/-- The two tables, as the launch memory holds them. -/
abbrev tabs : pre0.Contents (Elt F) := fun j => m (((0 : Dev nD) : Thread nD τ).loc (pre0.ref j))

/-- Every tile names one of the eight experts. -/
def Named : Prop := ∀ t : Fin 138, (expertWord (tabs m) t).toNat < 8

/-- A word that is, as a signed one, at least 0 and less than 8 is less than 8. -/
theorem word_lt (v : BitVec 32) (e : IntOp.andi (IntOp.cmpi .sge v 0#32) (IntOp.cmpi .slt v 8#32) = 1#1) : v.toNat < 8 := by
  have h1 (p q : Bool) : IntOp.andi (BitVec.ofBool p) (BitVec.ofBool q) = BitVec.ofBool (p && q) := by cases p <;> cases q <;> decide
  have h2 (p : Bool) : (BitVec.ofBool p = 1#1) ↔ p = true := by cases p <;> decide
  simp only [IntOp.cmpi, h1, h2, Bool.and_eq_true, BitVec.sle_eq_decide, BitVec.slt_eq_decide, decide_eq_true_eq,
    BitVec.toInt_eq_toNat_cond, BitVec.toNat_ofNat, Nat.reducePow, Nat.reduceMod] at e
  omega

/-- The precondition says so. -/
theorem named_of_pre (h : ∀ c : Dev nD, Cert.Pre_experts_named.fn (F := F) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
      = fun _ => 1#1) : Named m := by
  intro t
  have e := congrFun (h 0) (ix1 t)
  simp only [Cert.Pre_experts_named.fn, andi, cmpi, broadcastInDim, constantI] at e
  exact word_lt _ e

/-- The tables, admitted by the launch. -/
abbrev adm (h : Named m) : (pcfg0 (F := F)).Adm := ⟨tabs m, ok_of_named (tabs m) h⟩

theorem tabs_held (h : Named m) (c : Dev nD) (j : Fin 2) : m ((c : Thread nD τ).loc (pre0.ref j)) = (adm m h).1 j := by
  obtain rfl : c = 0 := Subsingleton.elim _ _
  rfl

/-- The kernel's frame: from such memories every execution ends, the arguments as they were and every counter at zero. -/
theorem frame (h : Named m) :
    θ_run (defs (F := F)) (onTc (τ := τ) (main (F := F))) ⟨m, fun _ => 0, ρ⟩ (fun r => (∀ c : Dev nD,
        r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5)) ∧ r.2.sem = fun _ => 0) :=
  (θ_run defs _ _).mono (fun _ k => ⟨fun c => (k.1 c).2, k.2⟩) (run_tiles (adm m h) m ρ (tabs_held m h))

/-- An array of one word has one index. -/
theorem one_idx (x y : S1.Idx) : x = y := funext fun b => Fin.ext (by
  match b with
  | ⟨0, _⟩ =>
    have hx : (x 0).val < 1 := (x 0).isLt
    have hy : (y 0).val < 1 := (y 0).isLt
    show (x 0).val = (y 0).val
    omega)

/-- The number of tiles in use is the second table's one word. -/
theorem usedWord_eq (T : S1.Idx → Elt F .i32) : usedWord (F := F) T = T (ix1 (0 : Fin 1)) :=
  congrArg T (one_idx _ _)

/-- The kernel computes a tile exactly where its number is, as a signed word, below the number of tiles in use. -/
theorem cond_of_lt (i : grid0.Coords) (v : BitVec 32) (h : IntOp.cmpi .slt (BitVec.ofNat 32 (i 0).val) v = 1#1) : k0_cond1 i v = 1#1 := by
  unfold k0_cond1
  dsimp only [Scalar.cmpi]
  rw [h]
  decide

/-- The mask, set at a row of tile `t`, says that the tile's number is below the number of tiles in use. -/
theorem lt_of_mask (x0 : FVec F S70656x1024 .f32) (x1 : IVec S138 32) (x2 : IVec S1 32) (x3 x4 : FVec F S8x1024x3584 .f32) (x5 : FVec F S8x3584x1024 .f32)
    (t : Fin 138) (r : Fin 512) (k : Fin 1024) (h : Cert.On_rows_used.fn (F := F) x0 x1 x2 x3 x4 x5 (ix2 (tileRow t r) k) = 1#1) :
    IntOp.cmpi .slt (BitVec.ofNat 32 t.val) (x2 (ix1 (0 : Fin 1))) = 1#1 := by
  have e1 : shapeCast Cert.On_rows_used.S70656x1024 (iotaInDim Cert.On_rows_used.S138x512x1024 32 0)
      Cert.On_rows_used.Facts.shapeCasts_S138x512x1024_S70656x1024 (ix2 (tileRow t r) k) = BitVec.ofNat 32 t.val :=
    shapeCast_apply _ _ (ix2 (tileRow t r) k) (ix3 t r k) (by
      rw [Shape.rowMajor_val_three, Shape.rowMajor_val_two]
      show (t.val * 512 + r.val) * 1024 + k.val = (512 * t.val + r.val) * 1024 + k.val
      omega)
  have e2 : broadcastInDim Cert.On_rows_used.S70656x1024 ![] Cert.On_rows_used.Facts.bcast_S_S70656x1024
      (shapeCast Cert.On_rows_used.S_ x2 Cert.On_rows_used.Facts.shapeCasts_S1_S_) (ix2 (tileRow t r) k) = x2 (ix1 (0 : Fin 1)) :=
    congrArg x2 (one_idx _ _)
  rw [← e1, ← e2]
  exact h

/-- An index of the result lies in a row of some tile. -/
theorem exists_tile (i : S70656x1024.Idx) : ∃ (t : Fin 138) (r : Fin 512) (k : Fin 1024), i = ix2 (tileRow t r) k := by
  have h0 : (i 0).val < 70656 := (i 0).isLt
  have h1 : (i 1).val < 1024 := (i 1).isLt
  refine ⟨⟨(i 0).val / 512, by omega⟩, ⟨(i 0).val % 512, by omega⟩, ⟨(i 1).val, h1⟩, funext fun a => Fin.ext ?_⟩
  match a with
  | ⟨0, _⟩ => show (i 0).val = 512 * ((i 0).val / 512) + (i 0).val % 512; omega
  | ⟨1, _⟩ => rfl

end Experts

namespace Experts

open Cert.Kernel2Ideal Cert.Kernel2Ideal.Gen
open Idealize.ShloMosaic
open Idealize.ShloMosaic.TcCoe
open Idealize.SL Idealize.SL.Sem
open Idealize.ShloMosaic.ValueIdx

variable (m : (ℓ : Loc nD τ sig) → Buf (Elt Ideal) ℓ) (ρ : Dev nD → PrngReg)

/-- The reference's result, of the kernel's arguments. -/
abbrev goal (c : Dev nD) : S70656x1024.Idx → EReal :=
  Cert.Reference2Ideal.Read.val_main_v9 (F := Ideal) (m ((c : Thread nD τ).loc main_arg0)) (m ((c : Thread nD τ).loc main_arg1))
    (m ((c : Thread nD τ).loc main_arg3)) (m ((c : Thread nD τ).loc main_arg4)) (m ((c : Thread nD τ).loc main_arg5))

/-- A tile's blocks, at extended reals, give the reference's elements. -/
theorem tile_eq (h : Named m) (c : Dev nD) (t : Fin 138) (r : Fin 512) (k : Fin 1024) :
    tile (adm m h) m c (pt (adm m h) t) (ix2 r k) = goal m c (ix2 (tileRow t r) k) := by
  obtain rfl : c = 0 := Subsingleton.elim _ _
  refine (tileOut_apply _ _ _ _ r k).trans (Eq.trans ?_ (Reference.result_at _ _ _ _ _ t (h t) r k).symm)
  simp only [xblk, gblk (adm m h) m h, ublk (adm m h) m h, dblk (adm m h) m h]

/-- The kernel's run at extended reals: wherever the mask is set the result is the reference's, and the arguments end unchanged. -/
theorem run_value (h : Named m) :
    θ_run (defs (F := Ideal)) (onTc (τ := τ) (main (F := Ideal))) ⟨m, fun _ => 0, ρ⟩ (fun r => ∀ c : Dev nD,
        (∀ i : S70656x1024.Idx, Cert.On_rows_used.fn (F := Ideal) (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5)) i = 1#1 →
          (r.2.mem ((c : Thread nD τ).loc main_v0) : S70656x1024.Idx → EReal) i = goal m c i)
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5)) := by
  refine (θ_run defs _ _).mono (fun r k c => ⟨fun i hi => ?_, (k.1 c).2⟩) (run_tiles (adm m h) m ρ (tabs_held m h))
  obtain ⟨t, y, z, rfl⟩ := exists_tile i
  have hu : k0_cond1 (crd (adm m h) (pt (adm m h) t)) (usedWord (F := Ideal) ((adm m h).1 1)) = 1#1 := by
    refine cond_of_lt _ _ ?_
    refine (congrArg₂ (fun (n : ℕ) (v : BitVec 32) => IntOp.cmpi .slt (BitVec.ofNat 32 n) v) (coord_pt (adm m h) t) (usedWord_eq (F := Ideal) ((adm m h).1 1))).trans ?_
    obtain rfl : c = 0 := Subsingleton.elim _ _
    exact lt_of_mask _ _ _ _ _ _ t y z hi
  exact ((k.1 c).1 t hu y z).trans (tile_eq m h c t y z)

end Experts

end
-- ==== Proof.ExpertPrint.lean ====
/-
  The experts' kernel is printed twice, for its frame at bits and for its value at extended reals: one program.
-/
module

public import proofs.«01_k».proof.Proof.ExpertClaim
public import proofs.«01_k».proof.Proof.Gen.Kernel2
public import proofs.«01_k».proof.Proof.Gen.Kernel2.Skeleton

@[expose] public section

set_option maxRecDepth 65536

noncomputable section

namespace Experts

open Cert.Kernel2Ideal Cert.Kernel2Ideal.Gen
open Idealize.ShloMosaic
open Idealize.ShloMosaic.TcCoe
open Idealize.SL Idealize.SL.Sem

variable {F : FTy → Type} [FloatOps F]

set_option maxHeartbeats 1000000 in
/-- The two prints of the kernel's body are one. -/
theorem body_eq : @Cert.Kernel2.cc0_ffn_grouped F _ _ = @Cert.Kernel2Ideal.cc0_ffn_grouped F _ _ := rfl

set_option maxHeartbeats 1000000 in
/-- So are the body tables … -/
theorem bodies_eq : Cert.Kernel2.defs₀ (F := F) = Cert.Kernel2Ideal.defs₀ (F := F) := by
  unfold Cert.Kernel2.defs₀ Cert.Kernel2Ideal.defs₀
  refine congrArg (Defs.onTc (nD := nD) (τ := τ) (sig := sig) (Λ := Λ₀)) (funext fun l => funext fun a => ?_)
  match l, a with
  | 0, (t, s) =>
    exact congrArg (fun f : type_of% (@Cert.Kernel2Ideal.cc0_ffn_grouped F _ _) => f (grid0.coords t) (Memref.whole main_arg1) (Memref.isWhole_whole _)
      (Memref.whole main_arg2) (Memref.isWhole_whole _) (spec0_0.stage (s 0)) (hstage0_0 ((s 0).cast nbuf0_0)) (spec0_1.stage (s 1)) (hstage0_1 ((s 1).cast nbuf0_1))
      (spec0_2.stage (s 2)) (hstage0_2 ((s 2).cast nbuf0_2)) (spec0_3.stage (s 3)) (hstage0_3 ((s 3).cast nbuf0_3)) (spec0_4.stage (s 4)) (hstage0_4 ((s 4).cast nbuf0_4))) body_eq
  | ⟨_ + 1, h⟩, _ => exact absurd h (Nat.not_lt.2 (Nat.le_add_left _ _))

set_option maxHeartbeats 1000000 in
/-- … and the programs. -/
theorem defs_eq : Cert.Kernel2.defs (F := F) = Cert.Kernel2Ideal.defs (F := F) := congrArg (Pipeline.defs _) bodies_eq

set_option maxHeartbeats 1000000 in
/-- The frame, of the other print. -/
theorem frame_print (m : (ℓ : Loc nD τ sig) → Buf (Elt F) ℓ) (ρ : Dev nD → PrngReg) (h : Named m) :
    θ_run (Cert.Kernel2.defs (F := F)) (onTc (τ := τ) (main (F := F))) ⟨m, fun _ => 0, ρ⟩ (fun r => (∀ c : Dev nD,
        r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5)) ∧ r.2.sem = fun _ => 0) := by
  have e := frame m ρ h
  rw [← defs_eq] at e
  exact e

end Experts

end
-- ==== Proof.lean ====
/-
  The certificate for four kernels. First the indexed row gather: `out[r] = ys[pos[r]]` for 66560 row numbers into a table of 70656 rows of
  1024 floats, on the two SparseCores' 32 tiles.

  One run serves every claim: `Gather.run_main` (proof/Proof/Run.lean), over any float values, ends with the result at
  `goal` of the arguments, the arguments unchanged and every semaphore at zero. `Gather.goal_eq`
  (proof/Proof/Value.lean) reads `goal` as the reference's take. The two frames are that run at the two kinds of float
  value; the value claims are it beside the reference's own run.

  And for the experts: each tile of 512 rows, SwiGLU by the weights of the expert the tile names. `Experts.run_tiles`
  (proof/Proof/ExpertRun.lean), over any float values, is the kernel's run; `Experts.run_value`
  (proof/Proof/ExpertClaim.lean) reads its result at extended reals as the reference's on the rows of the tiles in use.

  And for the dense feed-forward with its residual and layer norm: `Dense.array_eq` (proof/Proof/DenseClaim.lean) reads the
  result of its run at extended reals as the reference's.

  And for the projections: a row by the five groups of weight columns, the queries scaled, the last two groups through a GELU, the last
  through a layer norm too. `Proj.q_array` … `Proj.gv_array` (proof/Proof/ProjClaim.lean) read the seven results of its run at extended
  reals as the reference's.
-/
module

public import proofs.«01_k».proof.Proof.Gen.Kernel2
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel3
public import proofs.«01_k».proof.Proof.Gen.Kernel3.Frame
public import proofs.«01_k».proof.Proof.DenseClaim
public import proofs.«01_k».proof.Proof.ProjClaim
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel2Ideal
public import proofs.«01_k».proof.Proof.Gen.Reference2Ideal
public import proofs.«01_k».proof.Proof.Gen.Pre_experts_named
public import proofs.«01_k».proof.Proof.Gen.On_rows_used
public import proofs.«01_k».proof.Proof.Gen.Kernel2.Skeleton
public import proofs.«01_k».proof.Proof.Gen.Kernel2.Launch
public import proofs.«01_k».proof.Proof.Gen.Kernel2Ideal.Skeleton
public import proofs.«01_k».proof.Proof.Gen.Kernel2Ideal.Launch
public import proofs.«01_k».proof.Proof.Gen.Reference2Ideal.Run
public import proofs.«01_k».proof.Proof.Gen.Reference2Ideal.Read
public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Gen.Pre_pos_in_rows
public import proofs.«01_k».proof.Proof.Value
public import proofs.«01_k».proof.Proof.ExpertPrint
public import Idealize.ShloMosaic.Adequacy
public import Idealize.ShloMosaic.Init

@[expose] public section

noncomputable section

namespace Cert.Proof

open Idealize.ShloMosaic Idealize.SL.Sem Cert.Kernel

set_option maxHeartbeats 20000000 in
set_option maxRecDepth 65536 in
/-- The kernel's frame, read at bits. -/
theorem frame_kernel : Cert.quiescent_Kernel := fun m ρ hpre =>
  (θ_run Cert.KernelIdeal.defs _ _).mono (fun _ h => ⟨fun c => ⟨(h.1 c).1, (h.1 c).2.1⟩, h.2⟩)
    (Gather.run_main (F := Bits) m ρ (Gather.pre_ok m hpre))

/-- The kernel's frame, read at extended reals. -/
theorem frame_kernelIdeal : Cert.quiescent_KernelIdeal := fun m ρ hpre =>
  (θ_run Cert.KernelIdeal.defs _ _).mono (fun _ h => ⟨fun c => ⟨(h.1 c).1, (h.1 c).2.1⟩, h.2⟩)
    (Gather.run_main (F := Ideal) m ρ (Gather.pre_ok m hpre))

/-- The reference's frame, at bits: it has no semaphore. -/
theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- The reference's frame, at extended reals. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same from memories that meet the precondition. -/
theorem frame_referenceIdeal_pre : Cert.quiescent_ReferenceIdeal_pre_pos_in_rows := fun m ρ _ => frame_referenceIdeal m ρ trivial

/-- At extended reals kernel and reference end with the same result. -/
theorem algebraic : Cert.algebraic_KernelIdeal_ReferenceIdeal := by
  intro m ρ m' ρ' hpre hag
  have hp := Gather.pre_ok (F := Ideal) m hpre
  refine ⟨fun c => Gather.goal (F := Ideal) (m (Gather.yLoc c)) (Gather.rowNos m c), ?_, ?_⟩
  · exact (θ_run Cert.KernelIdeal.defs _ _).mono (fun _ h c => ⟨(h.1 c).2.2, (h.1 c).1, (h.1 c).2.1⟩) (Gather.run_main (F := Ideal) m ρ hp)
  refine (θ_run Cert.ReferenceIdeal.defs _ _).mono (fun _ h c => ⟨(h c).1.trans ?_, (h c).2⟩) (Cert.ReferenceIdeal.Value.run (F := Ideal) m' ρ')
  rw [(hag c).1, (hag c).2]
  exact Gather.goal_eq m hp c

set_option maxHeartbeats 20000000 in
set_option maxRecDepth 65536 in
/-- At bits too. -/
theorem bitexact : Cert.bitexact_Kernel_Reference := by
  intro m ρ m' ρ' hpre hag
  have hp := Gather.pre_ok (F := Bits) m hpre
  refine ⟨fun c => Gather.goal (F := Bits) (m (Gather.yLoc c)) (Gather.rowNos m c), ?_, ?_⟩
  · exact (θ_run Cert.KernelIdeal.defs _ _).mono (fun _ h c => ⟨(h.1 c).2.2, (h.1 c).1, (h.1 c).2.1⟩) (Gather.run_main (F := Bits) m ρ hp)
  refine (θ_run Cert.Reference.defs _ _).mono (fun _ h c => ⟨(h c).1.trans ?_, (h c).2⟩) (Cert.Reference.Value.run (F := Bits) m' ρ')
  rw [(hag c).1, (hag c).2]
  exact Gather.goal_eq m hp c

set_option maxHeartbeats 20000000 in
set_option maxRecDepth 65536 in
/-- The experts' kernel's frame, read at bits. -/
theorem frame_kernel2 : Cert.quiescent_Kernel2 := fun m ρ hpre => Experts.frame_print (F := Bits) m ρ (Experts.named_of_pre m hpre)

/-- The experts' kernel's frame, read at extended reals. -/
theorem frame_kernel2Ideal : Cert.quiescent_Kernel2Ideal := fun m ρ hpre => Experts.frame (F := Ideal) m ρ (Experts.named_of_pre m hpre)

/-- The experts' reference's frame. -/
theorem frame_reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The same from memories that meet the precondition. -/
theorem frame_reference2Ideal_pre : Cert.quiescent_Reference2Ideal_pre_experts_named := fun m ρ _ => frame_reference2Ideal m ρ trivial

/-- At extended reals the experts' kernel and its reference agree on the rows of the tiles in use. -/
theorem algebraic2 : Cert.algebraic_Kernel2Ideal_Reference2Ideal_on_rows_used := by
  intro m ρ m' ρ' hpre hag
  refine ⟨fun c => Experts.goal m c, Experts.run_value m ρ (Experts.named_of_pre m hpre), ?_⟩
  refine (θ_run Cert.Reference2Ideal.defs _ _).mono (fun _ h c => ⟨fun i _ => ?_, (h c).2⟩) (Cert.Reference2Ideal.Value.run (F := Ideal) m' ρ')
  refine (congrFun ((h c).1.trans (Cert.Reference2Ideal.Read.val_main_v9_eq _ _ _ _ _)) i).trans ?_
  obtain ⟨h0, h1, -, h3, h4, h5⟩ := hag c
  rw [h0, h1, h3, h4, h5]

/-- The dense feed-forward's kernel at bits ends on every schedule, its arguments unchanged and every semaphore at zero. -/
theorem frame_kernel3 : Cert.quiescent_Kernel3 := fun m ρ _ => Cert.Kernel3.Gen.frame m ρ

/-- So does it at extended reals. -/
theorem frame_kernel3Ideal : Cert.quiescent_Kernel3Ideal := fun m ρ _ => Cert.Kernel3Ideal.Gen.frame m ρ

/-- And so does its reference. -/
theorem frame_reference3Ideal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- At extended reals the dense feed-forward's kernel and reference end with equal results. -/
theorem algebraic3 : Cert.algebraic_Kernel3Ideal_Reference3Ideal := by
  intro m ρ m' ρ' _ hag
  refine ⟨fun c => Dense.goal m c, ?_, ?_⟩
  · exact (θ_run Cert.Kernel3Ideal.defs _ _).mono (fun _ h c => ⟨(h c).1.trans (Dense.array_eq m c), (h c).2⟩)
      (Cert.Kernel3Ideal.Value.run_blocks (F := Ideal) m ρ)
  refine (θ_run Cert.Reference3Ideal.defs _ _).mono (fun _ h c => ⟨(h c).1.trans ?_, (h c).2⟩) (Cert.Reference3Ideal.Value.run (F := Ideal) m' ρ')
  obtain ⟨h0, h1, h2, h3, h4, h5⟩ := hag c
  rw [Cert.Reference3Ideal.Read.val_main_v29_eq, h0, h1, h2, h3, h4, h5]

/-- The projections' kernel at bits ends on every schedule, its arguments unchanged and every semaphore at zero. -/
theorem frame_kernel4 : Cert.quiescent_Kernel4 := fun m ρ _ => Cert.Kernel4.Gen.frame m ρ

/-- So does it at extended reals. -/
theorem frame_kernel4Ideal : Cert.quiescent_Kernel4Ideal := fun m ρ _ => Cert.Kernel4Ideal.Gen.frame m ρ

/-- And so does its reference. -/
theorem frame_reference4Ideal : Cert.quiescent_Reference4Ideal := fun m ρ _ =>
  (θ_run Cert.Reference4Ideal.defs _ _).mono
    (fun r h => ⟨fun c => (h c).2.2.2.2.2.2.2, sem_eq_zero_of_no_sems (by decide) r.2⟩)
    (Cert.Reference4Ideal.Value.run (F := Ideal) m ρ)

/-- At extended reals the projections' kernel and reference end with equal results, all seven. -/
theorem algebraic4 : Cert.algebraic_Kernel4Ideal_Reference4Ideal := by
  intro m ρ m' ρ' _ hag
  refine ⟨fun c => Proj.qGoal m c, fun c => Proj.kGoal m c, fun c => Proj.vGoal m c, fun c => Proj.kbGoal m c, fun c => Proj.vbGoal m c,
    fun c => Proj.uGoal m c, fun c => Proj.gvGoal m c, ?_, ?_⟩
  · refine (θ_run Cert.Kernel4Ideal.defs _ _).mono (fun _ h c => ?_) (Cert.Kernel4Ideal.Value.run_blocks (F := Ideal) m ρ)
    obtain ⟨h0, h1, h2, h3, h4, h5, h6, h7⟩ := h c
    exact ⟨h0.trans (Proj.q_array m c), h1.trans (Proj.k_array m c), h2.trans (Proj.v_array m c), h3.trans (Proj.kb_array m c),
      h4.trans (Proj.vb_array m c), h5.trans (Proj.u_array m c), h6.trans (Proj.gv_array m c), h7⟩
  refine (θ_run Cert.Reference4Ideal.defs _ _).mono (fun _ h c => ?_) (Cert.Reference4Ideal.Value.run (F := Ideal) m' ρ')
  obtain ⟨h0, h1, h2, h3, h4, h5, h6, h7⟩ := h c
  obtain ⟨a0, a1, a2, a3⟩ := hag c
  refine ⟨h0.trans ?_, h1.trans ?_, h2.trans ?_, h3.trans ?_, h4.trans ?_, h5.trans ?_, h6.trans ?_, h7⟩
  · rw [Cert.Reference4Ideal.Read.val_main_v56_eq, a0, a1]
  · rw [Cert.Reference4Ideal.Read.val_main_v4_eq, a0, a1]
  · rw [Cert.Reference4Ideal.Read.val_main_v5_eq, a0, a1]
  · rw [Cert.Reference4Ideal.Read.val_main_v57_eq, a0, a1]
  · rw [Cert.Reference4Ideal.Read.val_main_v58_eq, a0, a1]
  · rw [Cert.Reference4Ideal.Read.val_main_v59_eq, a0, a1]
  · rw [Cert.Reference4Ideal.Read.val_main_v60_eq, a0, a1, a2, a3]

theorem claim : Cert.Claim :=
  ⟨Cert.Kernel.Gen.facts, Cert.KernelIdeal.Gen.facts, Cert.ReferenceIdeal.Gen.facts, Cert.Reference.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Pre_pos_in_rows.Gen.facts, Cert.Pre_experts_named.Gen.facts, Cert.On_rows_used.Gen.facts,
    frame_kernel, frame_kernelIdeal, frame_referenceIdeal, frame_referenceIdeal_pre, frame_reference,
    frame_kernel2, frame_kernel2Ideal, frame_reference2Ideal, frame_reference2Ideal_pre,
    frame_kernel3, frame_kernel3Ideal, frame_reference3Ideal,
    frame_kernel4, frame_kernel4Ideal, frame_reference4Ideal,
    trivial, algebraic, bitexact, trivial, algebraic2, trivial, algebraic3, trivial, algebraic4⟩

end Cert.Proof

end
